-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def Pre_DAct (m : (ℓ : Loc Cert.DAct.nD Cert.DAct.τ Cert.DAct.sig) → Buf (Elt Bits) ℓ) : Prop :=
  True

def Pre_DActIdeal (m : (ℓ : Loc Cert.DActIdeal.nD Cert.DActIdeal.τ Cert.DActIdeal.sig) → Buf (Elt Ideal) ℓ) : Prop :=
  True

def Pre_DActRefIdeal (m : (ℓ : Loc Cert.DActRefIdeal.nD Cert.DActRefIdeal.τ Cert.DActRefIdeal.sig) → Buf (Elt Ideal) ℓ) : Prop :=
  True

def Pre_DwDown (m : (ℓ : Loc Cert.DwDown.nD Cert.DwDown.τ Cert.DwDown.sig) → Buf (Elt Bits) ℓ) : Prop :=
  True

def Pre_DwDownIdeal (m : (ℓ : Loc Cert.DwDownIdeal.nD Cert.DwDownIdeal.τ Cert.DwDownIdeal.sig) → Buf (Elt Ideal) ℓ) : Prop :=
  True

def Pre_DwDownRefIdeal (m : (ℓ : Loc Cert.DwDownRefIdeal.nD Cert.DwDownRefIdeal.τ Cert.DwDownRefIdeal.sig) → Buf (Elt Ideal) ℓ) : Prop :=
  True

def Pre_DUpIn (m : (ℓ : Loc Cert.DUpIn.nD Cert.DUpIn.τ Cert.DUpIn.sig) → Buf (Elt Bits) ℓ) : Prop :=
  True

def Pre_DUpInIdeal (m : (ℓ : Loc Cert.DUpInIdeal.nD Cert.DUpInIdeal.τ Cert.DUpInIdeal.sig) → Buf (Elt Ideal) ℓ) : Prop :=
  True

def Pre_DUpInRefIdeal (m : (ℓ : Loc Cert.DUpInRefIdeal.nD Cert.DUpInRefIdeal.τ Cert.DUpInRefIdeal.sig) → Buf (Elt Ideal) ℓ) : Prop :=
  True

def Pre_DMix (m : (ℓ : Loc Cert.DMix.nD Cert.DMix.τ Cert.DMix.sig) → Buf (Elt Bits) ℓ) : Prop :=
  True

def Pre_DMixIdeal (m : (ℓ : Loc Cert.DMixIdeal.nD Cert.DMixIdeal.τ Cert.DMixIdeal.sig) → Buf (Elt Ideal) ℓ) : Prop :=
  True

def Pre_DMixRefIdeal (m : (ℓ : Loc Cert.DMixRefIdeal.nD Cert.DMixRefIdeal.τ Cert.DMixRefIdeal.sig) → Buf (Elt Ideal) ℓ) : Prop :=
  True

def Pre_DwOut (m : (ℓ : Loc Cert.DwOut.nD Cert.DwOut.τ Cert.DwOut.sig) → Buf (Elt Bits) ℓ) : Prop :=
  True

def Pre_DwOutIdeal (m : (ℓ : Loc Cert.DwOutIdeal.nD Cert.DwOutIdeal.τ Cert.DwOutIdeal.sig) → Buf (Elt Ideal) ℓ) : Prop :=
  True

def Pre_DwOutRefIdeal (m : (ℓ : Loc Cert.DwOutRefIdeal.nD Cert.DwOutRefIdeal.τ Cert.DwOutRefIdeal.sig) → Buf (Elt Ideal) ℓ) : Prop :=
  True

def Pre_Up (m : (ℓ : Loc Cert.Up.nD Cert.Up.τ Cert.Up.sig) → Buf (Elt Bits) ℓ) : Prop :=
  True

def Pre_UpIdeal (m : (ℓ : Loc Cert.UpIdeal.nD Cert.UpIdeal.τ Cert.UpIdeal.sig) → Buf (Elt Ideal) ℓ) : Prop :=
  True

def Pre_UpRefIdeal (m : (ℓ : Loc Cert.UpRefIdeal.nD Cert.UpRefIdeal.τ Cert.UpRefIdeal.sig) → Buf (Elt Ideal) ℓ) : Prop :=
  True

def Pre_Out (m : (ℓ : Loc Cert.Out.nD Cert.Out.τ Cert.Out.sig) → Buf (Elt Bits) ℓ) : Prop :=
  True

def Pre_OutIdeal (m : (ℓ : Loc Cert.OutIdeal.nD Cert.OutIdeal.τ Cert.OutIdeal.sig) → Buf (Elt Ideal) ℓ) : Prop :=
  True

def Pre_OutRefIdeal (m : (ℓ : Loc Cert.OutRefIdeal.nD Cert.OutRefIdeal.τ Cert.OutRefIdeal.sig) → Buf (Elt Ideal) ℓ) : Prop :=
  True

def Pre_InProj (m : (ℓ : Loc Cert.InProj.nD Cert.InProj.τ Cert.InProj.sig) → Buf (Elt Bits) ℓ) : Prop :=
  True

def Pre_InProjIdeal (m : (ℓ : Loc Cert.InProjIdeal.nD Cert.InProjIdeal.τ Cert.InProjIdeal.sig) → Buf (Elt Ideal) ℓ) : Prop :=
  True

def Pre_InProjRefIdeal (m : (ℓ : Loc Cert.InProjRefIdeal.nD Cert.InProjRefIdeal.τ Cert.InProjRefIdeal.sig) → Buf (Elt Ideal) ℓ) : Prop :=
  True

def Pre_DInProj (m : (ℓ : Loc Cert.DInProj.nD Cert.DInProj.τ Cert.DInProj.sig) → Buf (Elt Bits) ℓ) : Prop :=
  True

def Pre_DInProjIdeal (m : (ℓ : Loc Cert.DInProjIdeal.nD Cert.DInProjIdeal.τ Cert.DInProjIdeal.sig) → Buf (Elt Ideal) ℓ) : Prop :=
  True

def Pre_DInProjRefIdeal (m : (ℓ : Loc Cert.DInProjRefIdeal.nD Cert.DInProjRefIdeal.τ Cert.DInProjRefIdeal.sig) → Buf (Elt Ideal) ℓ) : Prop :=
  True

def Pre_Down (m : (ℓ : Loc Cert.Down.nD Cert.Down.τ Cert.Down.sig) → Buf (Elt Bits) ℓ) : Prop :=
  True

def Pre_DownIdeal (m : (ℓ : Loc Cert.DownIdeal.nD Cert.DownIdeal.τ Cert.DownIdeal.sig) → Buf (Elt Ideal) ℓ) : Prop :=
  True

def Pre_DownRefIdeal (m : (ℓ : Loc Cert.DownRefIdeal.nD Cert.DownRefIdeal.τ Cert.DownRefIdeal.sig) → Buf (Elt Ideal) ℓ) : Prop :=
  True

def Pre_DwUpSib (m : (ℓ : Loc Cert.DwUpSib.nD Cert.DwUpSib.τ Cert.DwUpSib.sig) → Buf (Elt Bits) ℓ) : Prop :=
  True

def Pre_DwUpSibIdeal (m : (ℓ : Loc Cert.DwUpSibIdeal.nD Cert.DwUpSibIdeal.τ Cert.DwUpSibIdeal.sig) → Buf (Elt Ideal) ℓ) : Prop :=
  True

def Pre_DwUpSibRefIdeal (m : (ℓ : Loc Cert.DwUpSibRefIdeal.nD Cert.DwUpSibRefIdeal.τ Cert.DwUpSibRefIdeal.sig) → Buf (Elt Ideal) ℓ) : Prop :=
  True

def Pre_DwUpOwn (m : (ℓ : Loc Cert.DwUpOwn.nD Cert.DwUpOwn.τ Cert.DwUpOwn.sig) → Buf (Elt Bits) ℓ) : Prop :=
  True

def Pre_DwUpOwnIdeal (m : (ℓ : Loc Cert.DwUpOwnIdeal.nD Cert.DwUpOwnIdeal.τ Cert.DwUpOwnIdeal.sig) → Buf (Elt Ideal) ℓ) : Prop :=
  True

def Pre_DwUpOwnRefIdeal (m : (ℓ : Loc Cert.DwUpOwnRefIdeal.nD Cert.DwUpOwnRefIdeal.τ Cert.DwUpOwnRefIdeal.sig) → Buf (Elt Ideal) ℓ) : Prop :=
  True

def Pre_DwIn (m : (ℓ : Loc Cert.DwIn.nD Cert.DwIn.τ Cert.DwIn.sig) → Buf (Elt Bits) ℓ) : Prop :=
  True

def Pre_DwInIdeal (m : (ℓ : Loc Cert.DwInIdeal.nD Cert.DwInIdeal.τ Cert.DwInIdeal.sig) → Buf (Elt Ideal) ℓ) : Prop :=
  True

def Pre_DwInRefIdeal (m : (ℓ : Loc Cert.DwInRefIdeal.nD Cert.DwInRefIdeal.τ Cert.DwInRefIdeal.sig) → Buf (Elt Ideal) ℓ) : Prop :=
  True

def Pre_AttnFwd (m : (ℓ : Loc Cert.AttnFwd.nD Cert.AttnFwd.τ Cert.AttnFwd.sig) → Buf (Elt Bits) ℓ) : Prop :=
  True

def Pre_AttnFwdIdeal (m : (ℓ : Loc Cert.AttnFwdIdeal.nD Cert.AttnFwdIdeal.τ Cert.AttnFwdIdeal.sig) → Buf (Elt Ideal) ℓ) : Prop :=
  True

def Pre_AttnFwdRefIdeal (m : (ℓ : Loc Cert.AttnFwdRefIdeal.nD Cert.AttnFwdRefIdeal.τ Cert.AttnFwdRefIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_DAct [hDAct : Cert.DAct.Facts] : Prop :=
  ∀ (m : (ℓ : Loc Cert.DAct.nD Cert.DAct.τ Cert.DAct.sig) → Buf (Elt Bits) ℓ) (g : Dev Cert.DAct.nD → PrngReg), Pre_DAct m →
    θ_run (Cert.DAct.defs (F := Bits)) (onTc (τ := Cert.DAct.τ) (Cert.DAct.main (F := Bits))) ⟨m, fun _ => 0, g⟩ (fun r => (∀ c : Dev Cert.DAct.nD,
      r.2.mem ((c.tc : Thread Cert.DAct.nD Cert.DAct.τ).loc Cert.DAct.main_arg0) = m ((c.tc : Thread Cert.DAct.nD Cert.DAct.τ).loc Cert.DAct.main_arg0)
      ∧ r.2.mem ((c.tc : Thread Cert.DAct.nD Cert.DAct.τ).loc Cert.DAct.main_arg1) = m ((c.tc : Thread Cert.DAct.nD Cert.DAct.τ).loc Cert.DAct.main_arg1))
      ∧ r.2.sem = fun _ => 0)

def quiescent_DActIdeal [hDActIdeal : Cert.DActIdeal.Facts] : Prop :=
  ∀ (m : (ℓ : Loc Cert.DActIdeal.nD Cert.DActIdeal.τ Cert.DActIdeal.sig) → Buf (Elt Ideal) ℓ) (g : Dev Cert.DActIdeal.nD → PrngReg), Pre_DActIdeal m →
    θ_run (Cert.DActIdeal.defs (F := Ideal)) (onTc (τ := Cert.DActIdeal.τ) (Cert.DActIdeal.main (F := Ideal))) ⟨m, fun _ => 0, g⟩ (fun r => (∀ c : Dev Cert.DActIdeal.nD,
      r.2.mem ((c.tc : Thread Cert.DActIdeal.nD Cert.DActIdeal.τ).loc Cert.DActIdeal.main_arg0) = m ((c.tc : Thread Cert.DActIdeal.nD Cert.DActIdeal.τ).loc Cert.DActIdeal.main_arg0)
      ∧ r.2.mem ((c.tc : Thread Cert.DActIdeal.nD Cert.DActIdeal.τ).loc Cert.DActIdeal.main_arg1) = m ((c.tc : Thread Cert.DActIdeal.nD Cert.DActIdeal.τ).loc Cert.DActIdeal.main_arg1))
      ∧ r.2.sem = fun _ => 0)

def quiescent_DActRefIdeal [hDActRefIdeal : Cert.DActRefIdeal.Facts] : Prop :=
  ∀ (m : (ℓ : Loc Cert.DActRefIdeal.nD Cert.DActRefIdeal.τ Cert.DActRefIdeal.sig) → Buf (Elt Ideal) ℓ) (g : Dev Cert.DActRefIdeal.nD → PrngReg), Pre_DActRefIdeal m →
    θ_run (Cert.DActRefIdeal.defs (F := Ideal)) (onTc (τ := Cert.DActRefIdeal.τ) (Cert.DActRefIdeal.main (F := Ideal))) ⟨m, fun _ => 0, g⟩ (fun r => (∀ c : Dev Cert.DActRefIdeal.nD,
      r.2.mem ((c.tc : Thread Cert.DActRefIdeal.nD Cert.DActRefIdeal.τ).loc Cert.DActRefIdeal.main_arg0) = m ((c.tc : Thread Cert.DActRefIdeal.nD Cert.DActRefIdeal.τ).loc Cert.DActRefIdeal.main_arg0)
      ∧ r.2.mem ((c.tc : Thread Cert.DActRefIdeal.nD Cert.DActRefIdeal.τ).loc Cert.DActRefIdeal.main_arg1) = m ((c.tc : Thread Cert.DActRefIdeal.nD Cert.DActRefIdeal.τ).loc Cert.DActRefIdeal.main_arg1))
      ∧ r.2.sem = fun _ => 0)

def quiescent_DwDown [hDwDown : Cert.DwDown.Facts] : Prop :=
  ∀ (m : (ℓ : Loc Cert.DwDown.nD Cert.DwDown.τ Cert.DwDown.sig) → Buf (Elt Bits) ℓ) (g : Dev Cert.DwDown.nD → PrngReg), Pre_DwDown m →
    θ_run (Cert.DwDown.defs (F := Bits)) (onTc (τ := Cert.DwDown.τ) (Cert.DwDown.main (F := Bits))) ⟨m, fun _ => 0, g⟩ (fun r => (∀ c : Dev Cert.DwDown.nD,
      r.2.mem ((c.tc : Thread Cert.DwDown.nD Cert.DwDown.τ).loc Cert.DwDown.main_arg0) = m ((c.tc : Thread Cert.DwDown.nD Cert.DwDown.τ).loc Cert.DwDown.main_arg0)
      ∧ r.2.mem ((c.tc : Thread Cert.DwDown.nD Cert.DwDown.τ).loc Cert.DwDown.main_arg1) = m ((c.tc : Thread Cert.DwDown.nD Cert.DwDown.τ).loc Cert.DwDown.main_arg1))
      ∧ r.2.sem = fun _ => 0)

def quiescent_DwDownIdeal [hDwDownIdeal : Cert.DwDownIdeal.Facts] : Prop :=
  ∀ (m : (ℓ : Loc Cert.DwDownIdeal.nD Cert.DwDownIdeal.τ Cert.DwDownIdeal.sig) → Buf (Elt Ideal) ℓ) (g : Dev Cert.DwDownIdeal.nD → PrngReg), Pre_DwDownIdeal m →
    θ_run (Cert.DwDownIdeal.defs (F := Ideal)) (onTc (τ := Cert.DwDownIdeal.τ) (Cert.DwDownIdeal.main (F := Ideal))) ⟨m, fun _ => 0, g⟩ (fun r => (∀ c : Dev Cert.DwDownIdeal.nD,
      r.2.mem ((c.tc : Thread Cert.DwDownIdeal.nD Cert.DwDownIdeal.τ).loc Cert.DwDownIdeal.main_arg0) = m ((c.tc : Thread Cert.DwDownIdeal.nD Cert.DwDownIdeal.τ).loc Cert.DwDownIdeal.main_arg0)
      ∧ r.2.mem ((c.tc : Thread Cert.DwDownIdeal.nD Cert.DwDownIdeal.τ).loc Cert.DwDownIdeal.main_arg1) = m ((c.tc : Thread Cert.DwDownIdeal.nD Cert.DwDownIdeal.τ).loc Cert.DwDownIdeal.main_arg1))
      ∧ r.2.sem = fun _ => 0)

def quiescent_DwDownRefIdeal [hDwDownRefIdeal : Cert.DwDownRefIdeal.Facts] : Prop :=
  ∀ (m : (ℓ : Loc Cert.DwDownRefIdeal.nD Cert.DwDownRefIdeal.τ Cert.DwDownRefIdeal.sig) → Buf (Elt Ideal) ℓ) (g : Dev Cert.DwDownRefIdeal.nD → PrngReg), Pre_DwDownRefIdeal m →
    θ_run (Cert.DwDownRefIdeal.defs (F := Ideal)) (onTc (τ := Cert.DwDownRefIdeal.τ) (Cert.DwDownRefIdeal.main (F := Ideal))) ⟨m, fun _ => 0, g⟩ (fun r => (∀ c : Dev Cert.DwDownRefIdeal.nD,
      r.2.mem ((c.tc : Thread Cert.DwDownRefIdeal.nD Cert.DwDownRefIdeal.τ).loc Cert.DwDownRefIdeal.main_arg0) = m ((c.tc : Thread Cert.DwDownRefIdeal.nD Cert.DwDownRefIdeal.τ).loc Cert.DwDownRefIdeal.main_arg0)
      ∧ r.2.mem ((c.tc : Thread Cert.DwDownRefIdeal.nD Cert.DwDownRefIdeal.τ).loc Cert.DwDownRefIdeal.main_arg1) = m ((c.tc : Thread Cert.DwDownRefIdeal.nD Cert.DwDownRefIdeal.τ).loc Cert.DwDownRefIdeal.main_arg1))
      ∧ r.2.sem = fun _ => 0)

def quiescent_DUpIn [hDUpIn : Cert.DUpIn.Facts] : Prop :=
  ∀ (m : (ℓ : Loc Cert.DUpIn.nD Cert.DUpIn.τ Cert.DUpIn.sig) → Buf (Elt Bits) ℓ) (g : Dev Cert.DUpIn.nD → PrngReg), Pre_DUpIn m →
    θ_run (Cert.DUpIn.defs (F := Bits)) (onTc (τ := Cert.DUpIn.τ) (Cert.DUpIn.main (F := Bits))) ⟨m, fun _ => 0, g⟩ (fun r => (∀ c : Dev Cert.DUpIn.nD,
      r.2.mem ((c.tc : Thread Cert.DUpIn.nD Cert.DUpIn.τ).loc Cert.DUpIn.main_arg0) = m ((c.tc : Thread Cert.DUpIn.nD Cert.DUpIn.τ).loc Cert.DUpIn.main_arg0)
      ∧ r.2.mem ((c.tc : Thread Cert.DUpIn.nD Cert.DUpIn.τ).loc Cert.DUpIn.main_arg1) = m ((c.tc : Thread Cert.DUpIn.nD Cert.DUpIn.τ).loc Cert.DUpIn.main_arg1))
      ∧ r.2.sem = fun _ => 0)

def quiescent_DUpInIdeal [hDUpInIdeal : Cert.DUpInIdeal.Facts] : Prop :=
  ∀ (m : (ℓ : Loc Cert.DUpInIdeal.nD Cert.DUpInIdeal.τ Cert.DUpInIdeal.sig) → Buf (Elt Ideal) ℓ) (g : Dev Cert.DUpInIdeal.nD → PrngReg), Pre_DUpInIdeal m →
    θ_run (Cert.DUpInIdeal.defs (F := Ideal)) (onTc (τ := Cert.DUpInIdeal.τ) (Cert.DUpInIdeal.main (F := Ideal))) ⟨m, fun _ => 0, g⟩ (fun r => (∀ c : Dev Cert.DUpInIdeal.nD,
      r.2.mem ((c.tc : Thread Cert.DUpInIdeal.nD Cert.DUpInIdeal.τ).loc Cert.DUpInIdeal.main_arg0) = m ((c.tc : Thread Cert.DUpInIdeal.nD Cert.DUpInIdeal.τ).loc Cert.DUpInIdeal.main_arg0)
      ∧ r.2.mem ((c.tc : Thread Cert.DUpInIdeal.nD Cert.DUpInIdeal.τ).loc Cert.DUpInIdeal.main_arg1) = m ((c.tc : Thread Cert.DUpInIdeal.nD Cert.DUpInIdeal.τ).loc Cert.DUpInIdeal.main_arg1))
      ∧ r.2.sem = fun _ => 0)

def quiescent_DUpInRefIdeal [hDUpInRefIdeal : Cert.DUpInRefIdeal.Facts] : Prop :=
  ∀ (m : (ℓ : Loc Cert.DUpInRefIdeal.nD Cert.DUpInRefIdeal.τ Cert.DUpInRefIdeal.sig) → Buf (Elt Ideal) ℓ) (g : Dev Cert.DUpInRefIdeal.nD → PrngReg), Pre_DUpInRefIdeal m →
    θ_run (Cert.DUpInRefIdeal.defs (F := Ideal)) (onTc (τ := Cert.DUpInRefIdeal.τ) (Cert.DUpInRefIdeal.main (F := Ideal))) ⟨m, fun _ => 0, g⟩ (fun r => (∀ c : Dev Cert.DUpInRefIdeal.nD,
      r.2.mem ((c.tc : Thread Cert.DUpInRefIdeal.nD Cert.DUpInRefIdeal.τ).loc Cert.DUpInRefIdeal.main_arg0) = m ((c.tc : Thread Cert.DUpInRefIdeal.nD Cert.DUpInRefIdeal.τ).loc Cert.DUpInRefIdeal.main_arg0)
      ∧ r.2.mem ((c.tc : Thread Cert.DUpInRefIdeal.nD Cert.DUpInRefIdeal.τ).loc Cert.DUpInRefIdeal.main_arg1) = m ((c.tc : Thread Cert.DUpInRefIdeal.nD Cert.DUpInRefIdeal.τ).loc Cert.DUpInRefIdeal.main_arg1))
      ∧ r.2.sem = fun _ => 0)

def quiescent_DMix [hDMix : Cert.DMix.Facts] : Prop :=
  ∀ (m : (ℓ : Loc Cert.DMix.nD Cert.DMix.τ Cert.DMix.sig) → Buf (Elt Bits) ℓ) (g : Dev Cert.DMix.nD → PrngReg), Pre_DMix m →
    θ_run (Cert.DMix.defs (F := Bits)) (onTc (τ := Cert.DMix.τ) (Cert.DMix.main (F := Bits))) ⟨m, fun _ => 0, g⟩ (fun r => (∀ c : Dev Cert.DMix.nD,
      r.2.mem ((c.tc : Thread Cert.DMix.nD Cert.DMix.τ).loc Cert.DMix.main_arg0) = m ((c.tc : Thread Cert.DMix.nD Cert.DMix.τ).loc Cert.DMix.main_arg0)
      ∧ r.2.mem ((c.tc : Thread Cert.DMix.nD Cert.DMix.τ).loc Cert.DMix.main_arg1) = m ((c.tc : Thread Cert.DMix.nD Cert.DMix.τ).loc Cert.DMix.main_arg1))
      ∧ r.2.sem = fun _ => 0)

def quiescent_DMixIdeal [hDMixIdeal : Cert.DMixIdeal.Facts] : Prop :=
  ∀ (m : (ℓ : Loc Cert.DMixIdeal.nD Cert.DMixIdeal.τ Cert.DMixIdeal.sig) → Buf (Elt Ideal) ℓ) (g : Dev Cert.DMixIdeal.nD → PrngReg), Pre_DMixIdeal m →
    θ_run (Cert.DMixIdeal.defs (F := Ideal)) (onTc (τ := Cert.DMixIdeal.τ) (Cert.DMixIdeal.main (F := Ideal))) ⟨m, fun _ => 0, g⟩ (fun r => (∀ c : Dev Cert.DMixIdeal.nD,
      r.2.mem ((c.tc : Thread Cert.DMixIdeal.nD Cert.DMixIdeal.τ).loc Cert.DMixIdeal.main_arg0) = m ((c.tc : Thread Cert.DMixIdeal.nD Cert.DMixIdeal.τ).loc Cert.DMixIdeal.main_arg0)
      ∧ r.2.mem ((c.tc : Thread Cert.DMixIdeal.nD Cert.DMixIdeal.τ).loc Cert.DMixIdeal.main_arg1) = m ((c.tc : Thread Cert.DMixIdeal.nD Cert.DMixIdeal.τ).loc Cert.DMixIdeal.main_arg1))
      ∧ r.2.sem = fun _ => 0)

def quiescent_DMixRefIdeal [hDMixRefIdeal : Cert.DMixRefIdeal.Facts] : Prop :=
  ∀ (m : (ℓ : Loc Cert.DMixRefIdeal.nD Cert.DMixRefIdeal.τ Cert.DMixRefIdeal.sig) → Buf (Elt Ideal) ℓ) (g : Dev Cert.DMixRefIdeal.nD → PrngReg), Pre_DMixRefIdeal m →
    θ_run (Cert.DMixRefIdeal.defs (F := Ideal)) (onTc (τ := Cert.DMixRefIdeal.τ) (Cert.DMixRefIdeal.main (F := Ideal))) ⟨m, fun _ => 0, g⟩ (fun r => (∀ c : Dev Cert.DMixRefIdeal.nD,
      r.2.mem ((c.tc : Thread Cert.DMixRefIdeal.nD Cert.DMixRefIdeal.τ).loc Cert.DMixRefIdeal.main_arg0) = m ((c.tc : Thread Cert.DMixRefIdeal.nD Cert.DMixRefIdeal.τ).loc Cert.DMixRefIdeal.main_arg0)
      ∧ r.2.mem ((c.tc : Thread Cert.DMixRefIdeal.nD Cert.DMixRefIdeal.τ).loc Cert.DMixRefIdeal.main_arg1) = m ((c.tc : Thread Cert.DMixRefIdeal.nD Cert.DMixRefIdeal.τ).loc Cert.DMixRefIdeal.main_arg1))
      ∧ r.2.sem = fun _ => 0)

def quiescent_DwOut [hDwOut : Cert.DwOut.Facts] : Prop :=
  ∀ (m : (ℓ : Loc Cert.DwOut.nD Cert.DwOut.τ Cert.DwOut.sig) → Buf (Elt Bits) ℓ) (g : Dev Cert.DwOut.nD → PrngReg), Pre_DwOut m →
    θ_run (Cert.DwOut.defs (F := Bits)) (onTc (τ := Cert.DwOut.τ) (Cert.DwOut.main (F := Bits))) ⟨m, fun _ => 0, g⟩ (fun r => (∀ c : Dev Cert.DwOut.nD,
      r.2.mem ((c.tc : Thread Cert.DwOut.nD Cert.DwOut.τ).loc Cert.DwOut.main_arg0) = m ((c.tc : Thread Cert.DwOut.nD Cert.DwOut.τ).loc Cert.DwOut.main_arg0)
      ∧ r.2.mem ((c.tc : Thread Cert.DwOut.nD Cert.DwOut.τ).loc Cert.DwOut.main_arg1) = m ((c.tc : Thread Cert.DwOut.nD Cert.DwOut.τ).loc Cert.DwOut.main_arg1)
      ∧ r.2.mem ((c.tc : Thread Cert.DwOut.nD Cert.DwOut.τ).loc Cert.DwOut.main_arg2) = m ((c.tc : Thread Cert.DwOut.nD Cert.DwOut.τ).loc Cert.DwOut.main_arg2))
      ∧ r.2.sem = fun _ => 0)

def quiescent_DwOutIdeal [hDwOutIdeal : Cert.DwOutIdeal.Facts] : Prop :=
  ∀ (m : (ℓ : Loc Cert.DwOutIdeal.nD Cert.DwOutIdeal.τ Cert.DwOutIdeal.sig) → Buf (Elt Ideal) ℓ) (g : Dev Cert.DwOutIdeal.nD → PrngReg), Pre_DwOutIdeal m →
    θ_run (Cert.DwOutIdeal.defs (F := Ideal)) (onTc (τ := Cert.DwOutIdeal.τ) (Cert.DwOutIdeal.main (F := Ideal))) ⟨m, fun _ => 0, g⟩ (fun r => (∀ c : Dev Cert.DwOutIdeal.nD,
      r.2.mem ((c.tc : Thread Cert.DwOutIdeal.nD Cert.DwOutIdeal.τ).loc Cert.DwOutIdeal.main_arg0) = m ((c.tc : Thread Cert.DwOutIdeal.nD Cert.DwOutIdeal.τ).loc Cert.DwOutIdeal.main_arg0)
      ∧ r.2.mem ((c.tc : Thread Cert.DwOutIdeal.nD Cert.DwOutIdeal.τ).loc Cert.DwOutIdeal.main_arg1) = m ((c.tc : Thread Cert.DwOutIdeal.nD Cert.DwOutIdeal.τ).loc Cert.DwOutIdeal.main_arg1)
      ∧ r.2.mem ((c.tc : Thread Cert.DwOutIdeal.nD Cert.DwOutIdeal.τ).loc Cert.DwOutIdeal.main_arg2) = m ((c.tc : Thread Cert.DwOutIdeal.nD Cert.DwOutIdeal.τ).loc Cert.DwOutIdeal.main_arg2))
      ∧ r.2.sem = fun _ => 0)

def quiescent_DwOutRefIdeal [hDwOutRefIdeal : Cert.DwOutRefIdeal.Facts] : Prop :=
  ∀ (m : (ℓ : Loc Cert.DwOutRefIdeal.nD Cert.DwOutRefIdeal.τ Cert.DwOutRefIdeal.sig) → Buf (Elt Ideal) ℓ) (g : Dev Cert.DwOutRefIdeal.nD → PrngReg), Pre_DwOutRefIdeal m →
    θ_run (Cert.DwOutRefIdeal.defs (F := Ideal)) (onTc (τ := Cert.DwOutRefIdeal.τ) (Cert.DwOutRefIdeal.main (F := Ideal))) ⟨m, fun _ => 0, g⟩ (fun r => (∀ c : Dev Cert.DwOutRefIdeal.nD,
      r.2.mem ((c.tc : Thread Cert.DwOutRefIdeal.nD Cert.DwOutRefIdeal.τ).loc Cert.DwOutRefIdeal.main_arg0) = m ((c.tc : Thread Cert.DwOutRefIdeal.nD Cert.DwOutRefIdeal.τ).loc Cert.DwOutRefIdeal.main_arg0)
      ∧ r.2.mem ((c.tc : Thread Cert.DwOutRefIdeal.nD Cert.DwOutRefIdeal.τ).loc Cert.DwOutRefIdeal.main_arg1) = m ((c.tc : Thread Cert.DwOutRefIdeal.nD Cert.DwOutRefIdeal.τ).loc Cert.DwOutRefIdeal.main_arg1)
      ∧ r.2.mem ((c.tc : Thread Cert.DwOutRefIdeal.nD Cert.DwOutRefIdeal.τ).loc Cert.DwOutRefIdeal.main_arg2) = m ((c.tc : Thread Cert.DwOutRefIdeal.nD Cert.DwOutRefIdeal.τ).loc Cert.DwOutRefIdeal.main_arg2))
      ∧ r.2.sem = fun _ => 0)

def quiescent_Up [hUp : Cert.Up.Facts] : Prop :=
  ∀ (m : (ℓ : Loc Cert.Up.nD Cert.Up.τ Cert.Up.sig) → Buf (Elt Bits) ℓ) (g : Dev Cert.Up.nD → PrngReg), Pre_Up m →
    θ_run (Cert.Up.defs (F := Bits)) (onTc (τ := Cert.Up.τ) (Cert.Up.main (F := Bits))) ⟨m, fun _ => 0, g⟩ (fun r => (∀ c : Dev Cert.Up.nD,
      r.2.mem ((c.tc : Thread Cert.Up.nD Cert.Up.τ).loc Cert.Up.main_arg0) = m ((c.tc : Thread Cert.Up.nD Cert.Up.τ).loc Cert.Up.main_arg0)
      ∧ r.2.mem ((c.tc : Thread Cert.Up.nD Cert.Up.τ).loc Cert.Up.main_arg1) = m ((c.tc : Thread Cert.Up.nD Cert.Up.τ).loc Cert.Up.main_arg1))
      ∧ r.2.sem = fun _ => 0)

def quiescent_UpIdeal [hUpIdeal : Cert.UpIdeal.Facts] : Prop :=
  ∀ (m : (ℓ : Loc Cert.UpIdeal.nD Cert.UpIdeal.τ Cert.UpIdeal.sig) → Buf (Elt Ideal) ℓ) (g : Dev Cert.UpIdeal.nD → PrngReg), Pre_UpIdeal m →
    θ_run (Cert.UpIdeal.defs (F := Ideal)) (onTc (τ := Cert.UpIdeal.τ) (Cert.UpIdeal.main (F := Ideal))) ⟨m, fun _ => 0, g⟩ (fun r => (∀ c : Dev Cert.UpIdeal.nD,
      r.2.mem ((c.tc : Thread Cert.UpIdeal.nD Cert.UpIdeal.τ).loc Cert.UpIdeal.main_arg0) = m ((c.tc : Thread Cert.UpIdeal.nD Cert.UpIdeal.τ).loc Cert.UpIdeal.main_arg0)
      ∧ r.2.mem ((c.tc : Thread Cert.UpIdeal.nD Cert.UpIdeal.τ).loc Cert.UpIdeal.main_arg1) = m ((c.tc : Thread Cert.UpIdeal.nD Cert.UpIdeal.τ).loc Cert.UpIdeal.main_arg1))
      ∧ r.2.sem = fun _ => 0)

def quiescent_UpRefIdeal [hUpRefIdeal : Cert.UpRefIdeal.Facts] : Prop :=
  ∀ (m : (ℓ : Loc Cert.UpRefIdeal.nD Cert.UpRefIdeal.τ Cert.UpRefIdeal.sig) → Buf (Elt Ideal) ℓ) (g : Dev Cert.UpRefIdeal.nD → PrngReg), Pre_UpRefIdeal m →
    θ_run (Cert.UpRefIdeal.defs (F := Ideal)) (onTc (τ := Cert.UpRefIdeal.τ) (Cert.UpRefIdeal.main (F := Ideal))) ⟨m, fun _ => 0, g⟩ (fun r => (∀ c : Dev Cert.UpRefIdeal.nD,
      r.2.mem ((c.tc : Thread Cert.UpRefIdeal.nD Cert.UpRefIdeal.τ).loc Cert.UpRefIdeal.main_arg0) = m ((c.tc : Thread Cert.UpRefIdeal.nD Cert.UpRefIdeal.τ).loc Cert.UpRefIdeal.main_arg0)
      ∧ r.2.mem ((c.tc : Thread Cert.UpRefIdeal.nD Cert.UpRefIdeal.τ).loc Cert.UpRefIdeal.main_arg1) = m ((c.tc : Thread Cert.UpRefIdeal.nD Cert.UpRefIdeal.τ).loc Cert.UpRefIdeal.main_arg1))
      ∧ r.2.sem = fun _ => 0)

def quiescent_Out [hOut : Cert.Out.Facts] : Prop :=
  ∀ (m : (ℓ : Loc Cert.Out.nD Cert.Out.τ Cert.Out.sig) → Buf (Elt Bits) ℓ) (g : Dev Cert.Out.nD → PrngReg), Pre_Out m →
    θ_run (Cert.Out.defs (F := Bits)) (onTc (τ := Cert.Out.τ) (Cert.Out.main (F := Bits))) ⟨m, fun _ => 0, g⟩ (fun r => (∀ c : Dev Cert.Out.nD,
      r.2.mem ((c.tc : Thread Cert.Out.nD Cert.Out.τ).loc Cert.Out.main_arg0) = m ((c.tc : Thread Cert.Out.nD Cert.Out.τ).loc Cert.Out.main_arg0)
      ∧ r.2.mem ((c.tc : Thread Cert.Out.nD Cert.Out.τ).loc Cert.Out.main_arg1) = m ((c.tc : Thread Cert.Out.nD Cert.Out.τ).loc Cert.Out.main_arg1)
      ∧ r.2.mem ((c.tc : Thread Cert.Out.nD Cert.Out.τ).loc Cert.Out.main_arg2) = m ((c.tc : Thread Cert.Out.nD Cert.Out.τ).loc Cert.Out.main_arg2)
      ∧ r.2.mem ((c.tc : Thread Cert.Out.nD Cert.Out.τ).loc Cert.Out.main_arg3) = m ((c.tc : Thread Cert.Out.nD Cert.Out.τ).loc Cert.Out.main_arg3))
      ∧ r.2.sem = fun _ => 0)

def quiescent_OutIdeal [hOutIdeal : Cert.OutIdeal.Facts] : Prop :=
  ∀ (m : (ℓ : Loc Cert.OutIdeal.nD Cert.OutIdeal.τ Cert.OutIdeal.sig) → Buf (Elt Ideal) ℓ) (g : Dev Cert.OutIdeal.nD → PrngReg), Pre_OutIdeal m →
    θ_run (Cert.OutIdeal.defs (F := Ideal)) (onTc (τ := Cert.OutIdeal.τ) (Cert.OutIdeal.main (F := Ideal))) ⟨m, fun _ => 0, g⟩ (fun r => (∀ c : Dev Cert.OutIdeal.nD,
      r.2.mem ((c.tc : Thread Cert.OutIdeal.nD Cert.OutIdeal.τ).loc Cert.OutIdeal.main_arg0) = m ((c.tc : Thread Cert.OutIdeal.nD Cert.OutIdeal.τ).loc Cert.OutIdeal.main_arg0)
      ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
      ∧ r.2.mem ((c.tc : Thread Cert.OutIdeal.nD Cert.OutIdeal.τ).loc Cert.OutIdeal.main_arg2) = m ((c.tc : Thread Cert.OutIdeal.nD Cert.OutIdeal.τ).loc Cert.OutIdeal.main_arg2)
      ∧ r.2.mem ((c.tc : Thread Cert.OutIdeal.nD Cert.OutIdeal.τ).loc Cert.OutIdeal.main_arg3) = m ((c.tc : Thread Cert.OutIdeal.nD Cert.OutIdeal.τ).loc Cert.OutIdeal.main_arg3))
      ∧ r.2.sem = fun _ => 0)

def quiescent_OutRefIdeal [hOutRefIdeal : Cert.OutRefIdeal.Facts] : Prop :=
  ∀ (m : (ℓ : Loc Cert.OutRefIdeal.nD Cert.OutRefIdeal.τ Cert.OutRefIdeal.sig) → Buf (Elt Ideal) ℓ) (g : Dev Cert.OutRefIdeal.nD → PrngReg), Pre_OutRefIdeal m →
    θ_run (Cert.OutRefIdeal.defs (F := Ideal)) (onTc (τ := Cert.OutRefIdeal.τ) (Cert.OutRefIdeal.main (F := Ideal))) ⟨m, fun _ => 0, g⟩ (fun r => (∀ c : Dev Cert.OutRefIdeal.nD,
      r.2.mem ((c.tc : Thread Cert.OutRefIdeal.nD Cert.OutRefIdeal.τ).loc Cert.OutRefIdeal.main_arg0) = m ((c.tc : Thread Cert.OutRefIdeal.nD Cert.OutRefIdeal.τ).loc Cert.OutRefIdeal.main_arg0)
      ∧ r.2.mem ((c.tc : Thread Cert.OutRefIdeal.nD Cert.OutRefIdeal.τ).loc Cert.OutRefIdeal.main_arg1) = m ((c.tc : Thread Cert.OutRefIdeal.nD Cert.OutRefIdeal.τ).loc Cert.OutRefIdeal.main_arg1)
      ∧ r.2.mem ((c.tc : Thread Cert.OutRefIdeal.nD Cert.OutRefIdeal.τ).loc Cert.OutRefIdeal.main_arg2) = m ((c.tc : Thread Cert.OutRefIdeal.nD Cert.OutRefIdeal.τ).loc Cert.OutRefIdeal.main_arg2)
      ∧ r.2.mem ((c.tc : Thread Cert.OutRefIdeal.nD Cert.OutRefIdeal.τ).loc Cert.OutRefIdeal.main_arg3) = m ((c.tc : Thread Cert.OutRefIdeal.nD Cert.OutRefIdeal.τ).loc Cert.OutRefIdeal.main_arg3))
      ∧ r.2.sem = fun _ => 0)

def quiescent_InProj [hInProj : Cert.InProj.Facts] : Prop :=
  ∀ (m : (ℓ : Loc Cert.InProj.nD Cert.InProj.τ Cert.InProj.sig) → Buf (Elt Bits) ℓ) (g : Dev Cert.InProj.nD → PrngReg), Pre_InProj m →
    θ_run (Cert.InProj.defs (F := Bits)) (onTc (τ := Cert.InProj.τ) (Cert.InProj.main (F := Bits))) ⟨m, fun _ => 0, g⟩ (fun r => (∀ c : Dev Cert.InProj.nD,
      r.2.mem ((c.tc : Thread Cert.InProj.nD Cert.InProj.τ).loc Cert.InProj.main_arg0) = m ((c.tc : Thread Cert.InProj.nD Cert.InProj.τ).loc Cert.InProj.main_arg0)
      ∧ r.2.mem ((c.tc : Thread Cert.InProj.nD Cert.InProj.τ).loc Cert.InProj.main_arg1) = m ((c.tc : Thread Cert.InProj.nD Cert.InProj.τ).loc Cert.InProj.main_arg1))
      ∧ r.2.sem = fun _ => 0)

def quiescent_InProjIdeal [hInProjIdeal : Cert.InProjIdeal.Facts] : Prop :=
  ∀ (m : (ℓ : Loc Cert.InProjIdeal.nD Cert.InProjIdeal.τ Cert.InProjIdeal.sig) → Buf (Elt Ideal) ℓ) (g : Dev Cert.InProjIdeal.nD → PrngReg), Pre_InProjIdeal m →
    θ_run (Cert.InProjIdeal.defs (F := Ideal)) (onTc (τ := Cert.InProjIdeal.τ) (Cert.InProjIdeal.main (F := Ideal))) ⟨m, fun _ => 0, g⟩ (fun r => (∀ c : Dev Cert.InProjIdeal.nD,
      r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
      ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1))
      ∧ r.2.sem = fun _ => 0)

def quiescent_InProjRefIdeal [hInProjRefIdeal : Cert.InProjRefIdeal.Facts] : Prop :=
  ∀ (m : (ℓ : Loc Cert.InProjRefIdeal.nD Cert.InProjRefIdeal.τ Cert.InProjRefIdeal.sig) → Buf (Elt Ideal) ℓ) (g : Dev Cert.InProjRefIdeal.nD → PrngReg), Pre_InProjRefIdeal m →
    θ_run (Cert.InProjRefIdeal.defs (F := Ideal)) (onTc (τ := Cert.InProjRefIdeal.τ) (Cert.InProjRefIdeal.main (F := Ideal))) ⟨m, fun _ => 0, g⟩ (fun r => (∀ c : Dev Cert.InProjRefIdeal.nD,
      r.2.mem ((c.tc : Thread Cert.InProjRefIdeal.nD Cert.InProjRefIdeal.τ).loc Cert.InProjRefIdeal.main_arg0) = m ((c.tc : Thread Cert.InProjRefIdeal.nD Cert.InProjRefIdeal.τ).loc Cert.InProjRefIdeal.main_arg0)
      ∧ r.2.mem ((c.tc : Thread Cert.InProjRefIdeal.nD Cert.InProjRefIdeal.τ).loc Cert.InProjRefIdeal.main_arg1) = m ((c.tc : Thread Cert.InProjRefIdeal.nD Cert.InProjRefIdeal.τ).loc Cert.InProjRefIdeal.main_arg1))
      ∧ r.2.sem = fun _ => 0)

def quiescent_DInProj [hDInProj : Cert.DInProj.Facts] : Prop :=
  ∀ (m : (ℓ : Loc Cert.DInProj.nD Cert.DInProj.τ Cert.DInProj.sig) → Buf (Elt Bits) ℓ) (g : Dev Cert.DInProj.nD → PrngReg), Pre_DInProj m →
    θ_run (Cert.DInProj.defs (F := Bits)) (onTc (τ := Cert.DInProj.τ) (Cert.DInProj.main (F := Bits))) ⟨m, fun _ => 0, g⟩ (fun r => (∀ c : Dev Cert.DInProj.nD,
      r.2.mem ((c.tc : Thread Cert.DInProj.nD Cert.DInProj.τ).loc Cert.DInProj.main_arg0) = m ((c.tc : Thread Cert.DInProj.nD Cert.DInProj.τ).loc Cert.DInProj.main_arg0)
      ∧ r.2.mem ((c.tc : Thread Cert.DInProj.nD Cert.DInProj.τ).loc Cert.DInProj.main_arg1) = m ((c.tc : Thread Cert.DInProj.nD Cert.DInProj.τ).loc Cert.DInProj.main_arg1))
      ∧ r.2.sem = fun _ => 0)

def quiescent_DInProjIdeal [hDInProjIdeal : Cert.DInProjIdeal.Facts] : Prop :=
  ∀ (m : (ℓ : Loc Cert.DInProjIdeal.nD Cert.DInProjIdeal.τ Cert.DInProjIdeal.sig) → Buf (Elt Ideal) ℓ) (g : Dev Cert.DInProjIdeal.nD → PrngReg), Pre_DInProjIdeal m →
    θ_run (Cert.DInProjIdeal.defs (F := Ideal)) (onTc (τ := Cert.DInProjIdeal.τ) (Cert.DInProjIdeal.main (F := Ideal))) ⟨m, fun _ => 0, g⟩ (fun r => (∀ c : Dev Cert.DInProjIdeal.nD,
      r.2.mem ((c.tc : Thread Cert.DInProjIdeal.nD Cert.DInProjIdeal.τ).loc Cert.DInProjIdeal.main_arg0) = m ((c.tc : Thread Cert.DInProjIdeal.nD Cert.DInProjIdeal.τ).loc Cert.DInProjIdeal.main_arg0)
      ∧ r.2.mem ((c.tc : Thread Cert.DInProjIdeal.nD Cert.DInProjIdeal.τ).loc Cert.DInProjIdeal.main_arg1) = m ((c.tc : Thread Cert.DInProjIdeal.nD Cert.DInProjIdeal.τ).loc Cert.DInProjIdeal.main_arg1))
      ∧ r.2.sem = fun _ => 0)

def quiescent_DInProjRefIdeal [hDInProjRefIdeal : Cert.DInProjRefIdeal.Facts] : Prop :=
  ∀ (m : (ℓ : Loc Cert.DInProjRefIdeal.nD Cert.DInProjRefIdeal.τ Cert.DInProjRefIdeal.sig) → Buf (Elt Ideal) ℓ) (g : Dev Cert.DInProjRefIdeal.nD → PrngReg), Pre_DInProjRefIdeal m →
    θ_run (Cert.DInProjRefIdeal.defs (F := Ideal)) (onTc (τ := Cert.DInProjRefIdeal.τ) (Cert.DInProjRefIdeal.main (F := Ideal))) ⟨m, fun _ => 0, g⟩ (fun r => (∀ c : Dev Cert.DInProjRefIdeal.nD,
      r.2.mem ((c.tc : Thread Cert.DInProjRefIdeal.nD Cert.DInProjRefIdeal.τ).loc Cert.DInProjRefIdeal.main_arg0) = m ((c.tc : Thread Cert.DInProjRefIdeal.nD Cert.DInProjRefIdeal.τ).loc Cert.DInProjRefIdeal.main_arg0)
      ∧ r.2.mem ((c.tc : Thread Cert.DInProjRefIdeal.nD Cert.DInProjRefIdeal.τ).loc Cert.DInProjRefIdeal.main_arg1) = m ((c.tc : Thread Cert.DInProjRefIdeal.nD Cert.DInProjRefIdeal.τ).loc Cert.DInProjRefIdeal.main_arg1))
      ∧ r.2.sem = fun _ => 0)

def quiescent_Down [hDown : Cert.Down.Facts] : Prop :=
  ∀ (m : (ℓ : Loc Cert.Down.nD Cert.Down.τ Cert.Down.sig) → Buf (Elt Bits) ℓ) (g : Dev Cert.Down.nD → PrngReg), Pre_Down m →
    θ_run (Cert.Down.defs (F := Bits)) (onTc (τ := Cert.Down.τ) (Cert.Down.main (F := Bits))) ⟨m, fun _ => 0, g⟩ (fun r => (∀ c : Dev Cert.Down.nD,
      r.2.mem ((c.tc : Thread Cert.Down.nD Cert.Down.τ).loc Cert.Down.main_arg0) = m ((c.tc : Thread Cert.Down.nD Cert.Down.τ).loc Cert.Down.main_arg0)
      ∧ r.2.mem ((c.tc : Thread Cert.Down.nD Cert.Down.τ).loc Cert.Down.main_arg1) = m ((c.tc : Thread Cert.Down.nD Cert.Down.τ).loc Cert.Down.main_arg1)
      ∧ r.2.mem ((c.tc : Thread Cert.Down.nD Cert.Down.τ).loc Cert.Down.main_arg2) = m ((c.tc : Thread Cert.Down.nD Cert.Down.τ).loc Cert.Down.main_arg2)
      ∧ r.2.mem ((c.tc : Thread Cert.Down.nD Cert.Down.τ).loc Cert.Down.main_arg3) = m ((c.tc : Thread Cert.Down.nD Cert.Down.τ).loc Cert.Down.main_arg3))
      ∧ r.2.sem = fun _ => 0)

def quiescent_DownIdeal [hDownIdeal : Cert.DownIdeal.Facts] : Prop :=
  ∀ (m : (ℓ : Loc Cert.DownIdeal.nD Cert.DownIdeal.τ Cert.DownIdeal.sig) → Buf (Elt Ideal) ℓ) (g : Dev Cert.DownIdeal.nD → PrngReg), Pre_DownIdeal m →
    θ_run (Cert.DownIdeal.defs (F := Ideal)) (onTc (τ := Cert.DownIdeal.τ) (Cert.DownIdeal.main (F := Ideal))) ⟨m, fun _ => 0, g⟩ (fun r => (∀ c : Dev Cert.DownIdeal.nD,
      r.2.mem ((c.tc : Thread Cert.DownIdeal.nD Cert.DownIdeal.τ).loc Cert.DownIdeal.main_arg0) = m ((c.tc : Thread Cert.DownIdeal.nD Cert.DownIdeal.τ).loc Cert.DownIdeal.main_arg0)
      ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
      ∧ r.2.mem ((c.tc : Thread Cert.DownIdeal.nD Cert.DownIdeal.τ).loc Cert.DownIdeal.main_arg2) = m ((c.tc : Thread Cert.DownIdeal.nD Cert.DownIdeal.τ).loc Cert.DownIdeal.main_arg2)
      ∧ r.2.mem ((c.tc : Thread Cert.DownIdeal.nD Cert.DownIdeal.τ).loc Cert.DownIdeal.main_arg3) = m ((c.tc : Thread Cert.DownIdeal.nD Cert.DownIdeal.τ).loc Cert.DownIdeal.main_arg3))
      ∧ r.2.sem = fun _ => 0)

def quiescent_DownRefIdeal [hDownRefIdeal : Cert.DownRefIdeal.Facts] : Prop :=
  ∀ (m : (ℓ : Loc Cert.DownRefIdeal.nD Cert.DownRefIdeal.τ Cert.DownRefIdeal.sig) → Buf (Elt Ideal) ℓ) (g : Dev Cert.DownRefIdeal.nD → PrngReg), Pre_DownRefIdeal m →
    θ_run (Cert.DownRefIdeal.defs (F := Ideal)) (onTc (τ := Cert.DownRefIdeal.τ) (Cert.DownRefIdeal.main (F := Ideal))) ⟨m, fun _ => 0, g⟩ (fun r => (∀ c : Dev Cert.DownRefIdeal.nD,
      r.2.mem ((c.tc : Thread Cert.DownRefIdeal.nD Cert.DownRefIdeal.τ).loc Cert.DownRefIdeal.main_arg0) = m ((c.tc : Thread Cert.DownRefIdeal.nD Cert.DownRefIdeal.τ).loc Cert.DownRefIdeal.main_arg0)
      ∧ r.2.mem ((c.tc : Thread Cert.DownRefIdeal.nD Cert.DownRefIdeal.τ).loc Cert.DownRefIdeal.main_arg1) = m ((c.tc : Thread Cert.DownRefIdeal.nD Cert.DownRefIdeal.τ).loc Cert.DownRefIdeal.main_arg1)
      ∧ r.2.mem ((c.tc : Thread Cert.DownRefIdeal.nD Cert.DownRefIdeal.τ).loc Cert.DownRefIdeal.main_arg2) = m ((c.tc : Thread Cert.DownRefIdeal.nD Cert.DownRefIdeal.τ).loc Cert.DownRefIdeal.main_arg2)
      ∧ r.2.mem ((c.tc : Thread Cert.DownRefIdeal.nD Cert.DownRefIdeal.τ).loc Cert.DownRefIdeal.main_arg3) = m ((c.tc : Thread Cert.DownRefIdeal.nD Cert.DownRefIdeal.τ).loc Cert.DownRefIdeal.main_arg3))
      ∧ r.2.sem = fun _ => 0)

def quiescent_DwUpSib [hDwUpSib : Cert.DwUpSib.Facts] : Prop :=
  ∀ (m : (ℓ : Loc Cert.DwUpSib.nD Cert.DwUpSib.τ Cert.DwUpSib.sig) → Buf (Elt Bits) ℓ) (g : Dev Cert.DwUpSib.nD → PrngReg), Pre_DwUpSib m →
    θ_run (Cert.DwUpSib.defs (F := Bits)) (onTc (τ := Cert.DwUpSib.τ) (Cert.DwUpSib.main (F := Bits))) ⟨m, fun _ => 0, g⟩ (fun r => (∀ c : Dev Cert.DwUpSib.nD,
      r.2.mem ((c.tc : Thread Cert.DwUpSib.nD Cert.DwUpSib.τ).loc Cert.DwUpSib.main_arg0) = m ((c.tc : Thread Cert.DwUpSib.nD Cert.DwUpSib.τ).loc Cert.DwUpSib.main_arg0)
      ∧ r.2.mem ((c.tc : Thread Cert.DwUpSib.nD Cert.DwUpSib.τ).loc Cert.DwUpSib.main_arg1) = m ((c.tc : Thread Cert.DwUpSib.nD Cert.DwUpSib.τ).loc Cert.DwUpSib.main_arg1))
      ∧ r.2.sem = fun _ => 0)

def quiescent_DwUpSibIdeal [hDwUpSibIdeal : Cert.DwUpSibIdeal.Facts] : Prop :=
  ∀ (m : (ℓ : Loc Cert.DwUpSibIdeal.nD Cert.DwUpSibIdeal.τ Cert.DwUpSibIdeal.sig) → Buf (Elt Ideal) ℓ) (g : Dev Cert.DwUpSibIdeal.nD → PrngReg), Pre_DwUpSibIdeal m →
    θ_run (Cert.DwUpSibIdeal.defs (F := Ideal)) (onTc (τ := Cert.DwUpSibIdeal.τ) (Cert.DwUpSibIdeal.main (F := Ideal))) ⟨m, fun _ => 0, g⟩ (fun r => (∀ c : Dev Cert.DwUpSibIdeal.nD,
      r.2.mem ((c.tc : Thread Cert.DwUpSibIdeal.nD Cert.DwUpSibIdeal.τ).loc Cert.DwUpSibIdeal.main_arg0) = m ((c.tc : Thread Cert.DwUpSibIdeal.nD Cert.DwUpSibIdeal.τ).loc Cert.DwUpSibIdeal.main_arg0)
      ∧ r.2.mem ((c.tc : Thread Cert.DwUpSibIdeal.nD Cert.DwUpSibIdeal.τ).loc Cert.DwUpSibIdeal.main_arg1) = m ((c.tc : Thread Cert.DwUpSibIdeal.nD Cert.DwUpSibIdeal.τ).loc Cert.DwUpSibIdeal.main_arg1))
      ∧ r.2.sem = fun _ => 0)

def quiescent_DwUpSibRefIdeal [hDwUpSibRefIdeal : Cert.DwUpSibRefIdeal.Facts] : Prop :=
  ∀ (m : (ℓ : Loc Cert.DwUpSibRefIdeal.nD Cert.DwUpSibRefIdeal.τ Cert.DwUpSibRefIdeal.sig) → Buf (Elt Ideal) ℓ) (g : Dev Cert.DwUpSibRefIdeal.nD → PrngReg), Pre_DwUpSibRefIdeal m →
    θ_run (Cert.DwUpSibRefIdeal.defs (F := Ideal)) (onTc (τ := Cert.DwUpSibRefIdeal.τ) (Cert.DwUpSibRefIdeal.main (F := Ideal))) ⟨m, fun _ => 0, g⟩ (fun r => (∀ c : Dev Cert.DwUpSibRefIdeal.nD,
      r.2.mem ((c.tc : Thread Cert.DwUpSibRefIdeal.nD Cert.DwUpSibRefIdeal.τ).loc Cert.DwUpSibRefIdeal.main_arg0) = m ((c.tc : Thread Cert.DwUpSibRefIdeal.nD Cert.DwUpSibRefIdeal.τ).loc Cert.DwUpSibRefIdeal.main_arg0)
      ∧ r.2.mem ((c.tc : Thread Cert.DwUpSibRefIdeal.nD Cert.DwUpSibRefIdeal.τ).loc Cert.DwUpSibRefIdeal.main_arg1) = m ((c.tc : Thread Cert.DwUpSibRefIdeal.nD Cert.DwUpSibRefIdeal.τ).loc Cert.DwUpSibRefIdeal.main_arg1))
      ∧ r.2.sem = fun _ => 0)

def quiescent_DwUpOwn [hDwUpOwn : Cert.DwUpOwn.Facts] : Prop :=
  ∀ (m : (ℓ : Loc Cert.DwUpOwn.nD Cert.DwUpOwn.τ Cert.DwUpOwn.sig) → Buf (Elt Bits) ℓ) (g : Dev Cert.DwUpOwn.nD → PrngReg), Pre_DwUpOwn m →
    θ_run (Cert.DwUpOwn.defs (F := Bits)) (onTc (τ := Cert.DwUpOwn.τ) (Cert.DwUpOwn.main (F := Bits))) ⟨m, fun _ => 0, g⟩ (fun r => (∀ c : Dev Cert.DwUpOwn.nD,
      r.2.mem ((c.tc : Thread Cert.DwUpOwn.nD Cert.DwUpOwn.τ).loc Cert.DwUpOwn.main_arg0) = m ((c.tc : Thread Cert.DwUpOwn.nD Cert.DwUpOwn.τ).loc Cert.DwUpOwn.main_arg0)
      ∧ r.2.mem ((c.tc : Thread Cert.DwUpOwn.nD Cert.DwUpOwn.τ).loc Cert.DwUpOwn.main_arg1) = m ((c.tc : Thread Cert.DwUpOwn.nD Cert.DwUpOwn.τ).loc Cert.DwUpOwn.main_arg1)
      ∧ r.2.mem ((c.tc : Thread Cert.DwUpOwn.nD Cert.DwUpOwn.τ).loc Cert.DwUpOwn.main_arg2) = m ((c.tc : Thread Cert.DwUpOwn.nD Cert.DwUpOwn.τ).loc Cert.DwUpOwn.main_arg2))
      ∧ r.2.sem = fun _ => 0)

def quiescent_DwUpOwnIdeal [hDwUpOwnIdeal : Cert.DwUpOwnIdeal.Facts] : Prop :=
  ∀ (m : (ℓ : Loc Cert.DwUpOwnIdeal.nD Cert.DwUpOwnIdeal.τ Cert.DwUpOwnIdeal.sig) → Buf (Elt Ideal) ℓ) (g : Dev Cert.DwUpOwnIdeal.nD → PrngReg), Pre_DwUpOwnIdeal m →
    θ_run (Cert.DwUpOwnIdeal.defs (F := Ideal)) (onTc (τ := Cert.DwUpOwnIdeal.τ) (Cert.DwUpOwnIdeal.main (F := Ideal))) ⟨m, fun _ => 0, g⟩ (fun r => (∀ c : Dev Cert.DwUpOwnIdeal.nD,
      r.2.mem ((c.tc : Thread Cert.DwUpOwnIdeal.nD Cert.DwUpOwnIdeal.τ).loc Cert.DwUpOwnIdeal.main_arg0) = m ((c.tc : Thread Cert.DwUpOwnIdeal.nD Cert.DwUpOwnIdeal.τ).loc Cert.DwUpOwnIdeal.main_arg0)
      ∧ r.2.mem ((c.tc : Thread Cert.DwUpOwnIdeal.nD Cert.DwUpOwnIdeal.τ).loc Cert.DwUpOwnIdeal.main_arg1) = m ((c.tc : Thread Cert.DwUpOwnIdeal.nD Cert.DwUpOwnIdeal.τ).loc Cert.DwUpOwnIdeal.main_arg1)
      ∧ r.2.mem ((c.tc : Thread Cert.DwUpOwnIdeal.nD Cert.DwUpOwnIdeal.τ).loc Cert.DwUpOwnIdeal.main_arg2) = m ((c.tc : Thread Cert.DwUpOwnIdeal.nD Cert.DwUpOwnIdeal.τ).loc Cert.DwUpOwnIdeal.main_arg2))
      ∧ r.2.sem = fun _ => 0)

def quiescent_DwUpOwnRefIdeal [hDwUpOwnRefIdeal : Cert.DwUpOwnRefIdeal.Facts] : Prop :=
  ∀ (m : (ℓ : Loc Cert.DwUpOwnRefIdeal.nD Cert.DwUpOwnRefIdeal.τ Cert.DwUpOwnRefIdeal.sig) → Buf (Elt Ideal) ℓ) (g : Dev Cert.DwUpOwnRefIdeal.nD → PrngReg), Pre_DwUpOwnRefIdeal m →
    θ_run (Cert.DwUpOwnRefIdeal.defs (F := Ideal)) (onTc (τ := Cert.DwUpOwnRefIdeal.τ) (Cert.DwUpOwnRefIdeal.main (F := Ideal))) ⟨m, fun _ => 0, g⟩ (fun r => (∀ c : Dev Cert.DwUpOwnRefIdeal.nD,
      r.2.mem ((c.tc : Thread Cert.DwUpOwnRefIdeal.nD Cert.DwUpOwnRefIdeal.τ).loc Cert.DwUpOwnRefIdeal.main_arg0) = m ((c.tc : Thread Cert.DwUpOwnRefIdeal.nD Cert.DwUpOwnRefIdeal.τ).loc Cert.DwUpOwnRefIdeal.main_arg0)
      ∧ r.2.mem ((c.tc : Thread Cert.DwUpOwnRefIdeal.nD Cert.DwUpOwnRefIdeal.τ).loc Cert.DwUpOwnRefIdeal.main_arg1) = m ((c.tc : Thread Cert.DwUpOwnRefIdeal.nD Cert.DwUpOwnRefIdeal.τ).loc Cert.DwUpOwnRefIdeal.main_arg1)
      ∧ r.2.mem ((c.tc : Thread Cert.DwUpOwnRefIdeal.nD Cert.DwUpOwnRefIdeal.τ).loc Cert.DwUpOwnRefIdeal.main_arg2) = m ((c.tc : Thread Cert.DwUpOwnRefIdeal.nD Cert.DwUpOwnRefIdeal.τ).loc Cert.DwUpOwnRefIdeal.main_arg2))
      ∧ r.2.sem = fun _ => 0)

def quiescent_DwIn [hDwIn : Cert.DwIn.Facts] : Prop :=
  ∀ (m : (ℓ : Loc Cert.DwIn.nD Cert.DwIn.τ Cert.DwIn.sig) → Buf (Elt Bits) ℓ) (g : Dev Cert.DwIn.nD → PrngReg), Pre_DwIn m →
    θ_run (Cert.DwIn.defs (F := Bits)) (onTc (τ := Cert.DwIn.τ) (Cert.DwIn.main (F := Bits))) ⟨m, fun _ => 0, g⟩ (fun r => (∀ c : Dev Cert.DwIn.nD,
      r.2.mem ((c.tc : Thread Cert.DwIn.nD Cert.DwIn.τ).loc Cert.DwIn.main_arg0) = m ((c.tc : Thread Cert.DwIn.nD Cert.DwIn.τ).loc Cert.DwIn.main_arg0)
      ∧ r.2.mem ((c.tc : Thread Cert.DwIn.nD Cert.DwIn.τ).loc Cert.DwIn.main_arg1) = m ((c.tc : Thread Cert.DwIn.nD Cert.DwIn.τ).loc Cert.DwIn.main_arg1))
      ∧ r.2.sem = fun _ => 0)

def quiescent_DwInIdeal [hDwInIdeal : Cert.DwInIdeal.Facts] : Prop :=
  ∀ (m : (ℓ : Loc Cert.DwInIdeal.nD Cert.DwInIdeal.τ Cert.DwInIdeal.sig) → Buf (Elt Ideal) ℓ) (g : Dev Cert.DwInIdeal.nD → PrngReg), Pre_DwInIdeal m →
    θ_run (Cert.DwInIdeal.defs (F := Ideal)) (onTc (τ := Cert.DwInIdeal.τ) (Cert.DwInIdeal.main (F := Ideal))) ⟨m, fun _ => 0, g⟩ (fun r => (∀ c : Dev Cert.DwInIdeal.nD,
      r.2.mem ((c.tc : Thread Cert.DwInIdeal.nD Cert.DwInIdeal.τ).loc Cert.DwInIdeal.main_arg0) = m ((c.tc : Thread Cert.DwInIdeal.nD Cert.DwInIdeal.τ).loc Cert.DwInIdeal.main_arg0)
      ∧ r.2.mem ((c.tc : Thread Cert.DwInIdeal.nD Cert.DwInIdeal.τ).loc Cert.DwInIdeal.main_arg1) = m ((c.tc : Thread Cert.DwInIdeal.nD Cert.DwInIdeal.τ).loc Cert.DwInIdeal.main_arg1))
      ∧ r.2.sem = fun _ => 0)

def quiescent_DwInRefIdeal [hDwInRefIdeal : Cert.DwInRefIdeal.Facts] : Prop :=
  ∀ (m : (ℓ : Loc Cert.DwInRefIdeal.nD Cert.DwInRefIdeal.τ Cert.DwInRefIdeal.sig) → Buf (Elt Ideal) ℓ) (g : Dev Cert.DwInRefIdeal.nD → PrngReg), Pre_DwInRefIdeal m →
    θ_run (Cert.DwInRefIdeal.defs (F := Ideal)) (onTc (τ := Cert.DwInRefIdeal.τ) (Cert.DwInRefIdeal.main (F := Ideal))) ⟨m, fun _ => 0, g⟩ (fun r => (∀ c : Dev Cert.DwInRefIdeal.nD,
      r.2.mem ((c.tc : Thread Cert.DwInRefIdeal.nD Cert.DwInRefIdeal.τ).loc Cert.DwInRefIdeal.main_arg0) = m ((c.tc : Thread Cert.DwInRefIdeal.nD Cert.DwInRefIdeal.τ).loc Cert.DwInRefIdeal.main_arg0)
      ∧ r.2.mem ((c.tc : Thread Cert.DwInRefIdeal.nD Cert.DwInRefIdeal.τ).loc Cert.DwInRefIdeal.main_arg1) = m ((c.tc : Thread Cert.DwInRefIdeal.nD Cert.DwInRefIdeal.τ).loc Cert.DwInRefIdeal.main_arg1))
      ∧ r.2.sem = fun _ => 0)

def quiescent_AttnFwd [hAttnFwd : Cert.AttnFwd.Facts] : Prop :=
  ∀ (m : (ℓ : Loc Cert.AttnFwd.nD Cert.AttnFwd.τ Cert.AttnFwd.sig) → Buf (Elt Bits) ℓ) (g : Dev Cert.AttnFwd.nD → PrngReg), Pre_AttnFwd m →
    θ_run (Cert.AttnFwd.defs (F := Bits)) (onTc (τ := Cert.AttnFwd.τ) (Cert.AttnFwd.main (F := Bits))) ⟨m, fun _ => 0, g⟩ (fun r => (∀ c : Dev Cert.AttnFwd.nD,
      r.2.mem ((c.tc : Thread Cert.AttnFwd.nD Cert.AttnFwd.τ).loc Cert.AttnFwd.main_arg0) = m ((c.tc : Thread Cert.AttnFwd.nD Cert.AttnFwd.τ).loc Cert.AttnFwd.main_arg0)
      ∧ r.2.mem ((c.tc : Thread Cert.AttnFwd.nD Cert.AttnFwd.τ).loc Cert.AttnFwd.main_arg1) = m ((c.tc : Thread Cert.AttnFwd.nD Cert.AttnFwd.τ).loc Cert.AttnFwd.main_arg1)
      ∧ r.2.mem ((c.tc : Thread Cert.AttnFwd.nD Cert.AttnFwd.τ).loc Cert.AttnFwd.main_arg2) = m ((c.tc : Thread Cert.AttnFwd.nD Cert.AttnFwd.τ).loc Cert.AttnFwd.main_arg2)
      ∧ r.2.mem ((c.tc : Thread Cert.AttnFwd.nD Cert.AttnFwd.τ).loc Cert.AttnFwd.main_arg3) = m ((c.tc : Thread Cert.AttnFwd.nD Cert.AttnFwd.τ).loc Cert.AttnFwd.main_arg3))
      ∧ r.2.sem = fun _ => 0)

def quiescent_AttnFwdIdeal [hAttnFwdIdeal : Cert.AttnFwdIdeal.Facts] : Prop :=
  ∀ (m : (ℓ : Loc Cert.AttnFwdIdeal.nD Cert.AttnFwdIdeal.τ Cert.AttnFwdIdeal.sig) → Buf (Elt Ideal) ℓ) (g : Dev Cert.AttnFwdIdeal.nD → PrngReg), Pre_AttnFwdIdeal m →
    θ_run (Cert.AttnFwdIdeal.defs (F := Ideal)) (onTc (τ := Cert.AttnFwdIdeal.τ) (Cert.AttnFwdIdeal.main (F := Ideal))) ⟨m, fun _ => 0, g⟩ (fun r => (∀ c : Dev Cert.AttnFwdIdeal.nD,
      r.2.mem ((c.tc : Thread Cert.AttnFwdIdeal.nD Cert.AttnFwdIdeal.τ).loc Cert.AttnFwdIdeal.main_arg0) = m ((c.tc : Thread Cert.AttnFwdIdeal.nD Cert.AttnFwdIdeal.τ).loc Cert.AttnFwdIdeal.main_arg0)
      ∧ r.2.mem ((c.tc : Thread Cert.AttnFwdIdeal.nD Cert.AttnFwdIdeal.τ).loc Cert.AttnFwdIdeal.main_arg1) = m ((c.tc : Thread Cert.AttnFwdIdeal.nD Cert.AttnFwdIdeal.τ).loc Cert.AttnFwdIdeal.main_arg1)
      ∧ r.2.mem ((c.tc : Thread Cert.AttnFwdIdeal.nD Cert.AttnFwdIdeal.τ).loc Cert.AttnFwdIdeal.main_arg2) = m ((c.tc : Thread Cert.AttnFwdIdeal.nD Cert.AttnFwdIdeal.τ).loc Cert.AttnFwdIdeal.main_arg2)
      ∧ r.2.mem ((c.tc : Thread Cert.AttnFwdIdeal.nD Cert.AttnFwdIdeal.τ).loc Cert.AttnFwdIdeal.main_arg3) = m ((c.tc : Thread Cert.AttnFwdIdeal.nD Cert.AttnFwdIdeal.τ).loc Cert.AttnFwdIdeal.main_arg3))
      ∧ r.2.sem = fun _ => 0)

def quiescent_AttnFwdRefIdeal [hAttnFwdRefIdeal : Cert.AttnFwdRefIdeal.Facts] : Prop :=
  ∀ (m : (ℓ : Loc Cert.AttnFwdRefIdeal.nD Cert.AttnFwdRefIdeal.τ Cert.AttnFwdRefIdeal.sig) → Buf (Elt Ideal) ℓ) (g : Dev Cert.AttnFwdRefIdeal.nD → PrngReg), Pre_AttnFwdRefIdeal m →
    θ_run (Cert.AttnFwdRefIdeal.defs (F := Ideal)) (onTc (τ := Cert.AttnFwdRefIdeal.τ) (Cert.AttnFwdRefIdeal.main (F := Ideal))) ⟨m, fun _ => 0, g⟩ (fun r => (∀ c : Dev Cert.AttnFwdRefIdeal.nD,
      r.2.mem ((c.tc : Thread Cert.AttnFwdRefIdeal.nD Cert.AttnFwdRefIdeal.τ).loc Cert.AttnFwdRefIdeal.main_arg0) = m ((c.tc : Thread Cert.AttnFwdRefIdeal.nD Cert.AttnFwdRefIdeal.τ).loc Cert.AttnFwdRefIdeal.main_arg0)
      ∧ r.2.mem ((c.tc : Thread Cert.AttnFwdRefIdeal.nD Cert.AttnFwdRefIdeal.τ).loc Cert.AttnFwdRefIdeal.main_arg1) = m ((c.tc : Thread Cert.AttnFwdRefIdeal.nD Cert.AttnFwdRefIdeal.τ).loc Cert.AttnFwdRefIdeal.main_arg1)
      ∧ r.2.mem ((c.tc : Thread Cert.AttnFwdRefIdeal.nD Cert.AttnFwdRefIdeal.τ).loc Cert.AttnFwdRefIdeal.main_arg2) = m ((c.tc : Thread Cert.AttnFwdRefIdeal.nD Cert.AttnFwdRefIdeal.τ).loc Cert.AttnFwdRefIdeal.main_arg2)
      ∧ r.2.mem ((c.tc : Thread Cert.AttnFwdRefIdeal.nD Cert.AttnFwdRefIdeal.τ).loc Cert.AttnFwdRefIdeal.main_arg3) = m ((c.tc : Thread Cert.AttnFwdRefIdeal.nD Cert.AttnFwdRefIdeal.τ).loc Cert.AttnFwdRefIdeal.main_arg3))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v23_0)) (v1 : (c : Dev Cert.KernelIdeal.nD) → Buf (Elt Ideal) ((c.tc : Thread Cert.KernelIdeal.nD Cert.KernelIdeal.τ).loc Cert.KernelIdeal.main_v23_1)) (v2 : (c : Dev Cert.KernelIdeal.nD) → Buf (Elt Ideal) ((c.tc : Thread Cert.KernelIdeal.nD Cert.KernelIdeal.τ).loc Cert.KernelIdeal.main_v23_2)) (v3 : (c : Dev Cert.KernelIdeal.nD) → Buf (Elt Ideal) ((c.tc : Thread Cert.KernelIdeal.nD Cert.KernelIdeal.τ).loc Cert.KernelIdeal.main_v23_3)) (v4 : (c : Dev Cert.KernelIdeal.nD) → Buf (Elt Ideal) ((c.tc : Thread Cert.KernelIdeal.nD Cert.KernelIdeal.τ).loc Cert.KernelIdeal.main_v23_4)) (v5 : (c : Dev Cert.KernelIdeal.nD) → Buf (Elt Ideal) ((c.tc : Thread Cert.KernelIdeal.nD Cert.KernelIdeal.τ).loc Cert.KernelIdeal.main_v23_5)) (v6 : (c : Dev Cert.KernelIdeal.nD) → Buf (Elt Ideal) ((c.tc : Thread Cert.KernelIdeal.nD Cert.KernelIdeal.τ).loc Cert.KernelIdeal.main_v23_6)) (v7 : (c : Dev Cert.KernelIdeal.nD) → Buf (Elt Ideal) ((c.tc : Thread Cert.KernelIdeal.nD Cert.KernelIdeal.τ).loc Cert.KernelIdeal.main_v23_7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v23_0) = v0 c
          ∧ r.2.mem ((c.tc : Thread Cert.KernelIdeal.nD Cert.KernelIdeal.τ).loc Cert.KernelIdeal.main_v23_1) = v1 c
          ∧ r.2.mem ((c.tc : Thread Cert.KernelIdeal.nD Cert.KernelIdeal.τ).loc Cert.KernelIdeal.main_v23_2) = v2 c
          ∧ r.2.mem ((c.tc : Thread Cert.KernelIdeal.nD Cert.KernelIdeal.τ).loc Cert.KernelIdeal.main_v23_3) = v3 c
          ∧ r.2.mem ((c.tc : Thread Cert.KernelIdeal.nD Cert.KernelIdeal.τ).loc Cert.KernelIdeal.main_v23_4) = v4 c
          ∧ r.2.mem ((c.tc : Thread Cert.KernelIdeal.nD Cert.KernelIdeal.τ).loc Cert.KernelIdeal.main_v23_5) = v5 c
          ∧ r.2.mem ((c.tc : Thread Cert.KernelIdeal.nD Cert.KernelIdeal.τ).loc Cert.KernelIdeal.main_v23_6) = v6 c
          ∧ r.2.mem ((c.tc : Thread Cert.KernelIdeal.nD Cert.KernelIdeal.τ).loc Cert.KernelIdeal.main_v23_7) = v7 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v168) = v0 c
          ∧ r.2.mem ((c.tc : Thread Cert.ReferenceIdeal.nD Cert.ReferenceIdeal.τ).loc Cert.ReferenceIdeal.main_v154) = v1 c
          ∧ r.2.mem ((c.tc : Thread Cert.ReferenceIdeal.nD Cert.ReferenceIdeal.τ).loc Cert.ReferenceIdeal.main_v156) = v2 c
          ∧ r.2.mem ((c.tc : Thread Cert.ReferenceIdeal.nD Cert.ReferenceIdeal.τ).loc Cert.ReferenceIdeal.main_v158) = v3 c
          ∧ r.2.mem ((c.tc : Thread Cert.ReferenceIdeal.nD Cert.ReferenceIdeal.τ).loc Cert.ReferenceIdeal.main_v160) = v4 c
          ∧ r.2.mem ((c.tc : Thread Cert.ReferenceIdeal.nD Cert.ReferenceIdeal.τ).loc Cert.ReferenceIdeal.main_v162) = v5 c
          ∧ r.2.mem ((c.tc : Thread Cert.ReferenceIdeal.nD Cert.ReferenceIdeal.τ).loc Cert.ReferenceIdeal.main_v164) = v6 c
          ∧ r.2.mem ((c.tc : Thread Cert.ReferenceIdeal.nD Cert.ReferenceIdeal.τ).loc Cert.ReferenceIdeal.main_v169) = v7 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_DAct_DActIdeal : Prop :=
  True

def algebraic_DActIdeal_DActRefIdeal [hDActIdeal : Cert.DActIdeal.Facts] [hDActRefIdeal : Cert.DActRefIdeal.Facts] : Prop :=
  ∀ (m : (ℓ : Loc Cert.DActIdeal.nD Cert.DActIdeal.τ Cert.DActIdeal.sig) → Buf (Elt Ideal) ℓ) (g : Dev Cert.DActIdeal.nD → PrngReg)
    (m' : (ℓ : Loc Cert.DActRefIdeal.nD Cert.DActRefIdeal.τ Cert.DActRefIdeal.sig) → Buf (Elt Ideal) ℓ) (g' : Dev Cert.DActRefIdeal.nD → PrngReg), Pre_DActIdeal m →
    (∀ c : Dev Cert.DActIdeal.nD,
      m' ((c.tc : Thread Cert.DActRefIdeal.nD Cert.DActRefIdeal.τ).loc Cert.DActRefIdeal.main_arg0) = m ((c.tc : Thread Cert.DActIdeal.nD Cert.DActIdeal.τ).loc Cert.DActIdeal.main_arg0)
      ∧ m' ((c.tc : Thread Cert.DActRefIdeal.nD Cert.DActRefIdeal.τ).loc Cert.DActRefIdeal.main_arg1) = m ((c.tc : Thread Cert.DActIdeal.nD Cert.DActIdeal.τ).loc Cert.DActIdeal.main_arg1)) →
    ∃ (v0 : (c : Dev Cert.DActIdeal.nD) → Buf (Elt Ideal) ((c.tc : Thread Cert.DActIdeal.nD Cert.DActIdeal.τ).loc Cert.DActIdeal.main_v0)),
      θ_run (Cert.DActIdeal.defs (F := Ideal)) (onTc (τ := Cert.DActIdeal.τ) (Cert.DActIdeal.main (F := Ideal))) ⟨m, fun _ => 0, g⟩ (fun r => ∀ c : Dev Cert.DActIdeal.nD,
          r.2.mem ((c.tc : Thread Cert.DActIdeal.nD Cert.DActIdeal.τ).loc Cert.DActIdeal.main_v0) = v0 c
          ∧ r.2.mem ((c.tc : Thread Cert.DActIdeal.nD Cert.DActIdeal.τ).loc Cert.DActIdeal.main_arg0) = m ((c.tc : Thread Cert.DActIdeal.nD Cert.DActIdeal.τ).loc Cert.DActIdeal.main_arg0)
          ∧ r.2.mem ((c.tc : Thread Cert.DActIdeal.nD Cert.DActIdeal.τ).loc Cert.DActIdeal.main_arg1) = m ((c.tc : Thread Cert.DActIdeal.nD Cert.DActIdeal.τ).loc Cert.DActIdeal.main_arg1))
      ∧ θ_run (Cert.DActRefIdeal.defs (F := Ideal)) (onTc (τ := Cert.DActRefIdeal.τ) (Cert.DActRefIdeal.main (F := Ideal))) ⟨m', fun _ => 0, g'⟩ (fun r => ∀ c : Dev Cert.DActRefIdeal.nD,
          r.2.mem ((c.tc : Thread Cert.DActRefIdeal.nD Cert.DActRefIdeal.τ).loc Cert.DActRefIdeal.main_v5) = v0 c
          ∧ r.2.mem ((c.tc : Thread Cert.DActRefIdeal.nD Cert.DActRefIdeal.τ).loc Cert.DActRefIdeal.main_arg0) = m' ((c.tc : Thread Cert.DActRefIdeal.nD Cert.DActRefIdeal.τ).loc Cert.DActRefIdeal.main_arg0)
          ∧ r.2.mem ((c.tc : Thread Cert.DActRefIdeal.nD Cert.DActRefIdeal.τ).loc Cert.DActRefIdeal.main_arg1) = m' ((c.tc : Thread Cert.DActRefIdeal.nD Cert.DActRefIdeal.τ).loc Cert.DActRefIdeal.main_arg1))

def preserves_DwDown_DwDownIdeal : Prop :=
  True

def algebraic_DwDownIdeal_DwDownRefIdeal [hDwDownIdeal : Cert.DwDownIdeal.Facts] [hDwDownRefIdeal : Cert.DwDownRefIdeal.Facts] : Prop :=
  ∀ (m : (ℓ : Loc Cert.DwDownIdeal.nD Cert.DwDownIdeal.τ Cert.DwDownIdeal.sig) → Buf (Elt Ideal) ℓ) (g : Dev Cert.DwDownIdeal.nD → PrngReg)
    (m' : (ℓ : Loc Cert.DwDownRefIdeal.nD Cert.DwDownRefIdeal.τ Cert.DwDownRefIdeal.sig) → Buf (Elt Ideal) ℓ) (g' : Dev Cert.DwDownRefIdeal.nD → PrngReg), Pre_DwDownIdeal m →
    (∀ c : Dev Cert.DwDownIdeal.nD,
      m' ((c.tc : Thread Cert.DwDownRefIdeal.nD Cert.DwDownRefIdeal.τ).loc Cert.DwDownRefIdeal.main_arg0) = m ((c.tc : Thread Cert.DwDownIdeal.nD Cert.DwDownIdeal.τ).loc Cert.DwDownIdeal.main_arg0)
      ∧ m' ((c.tc : Thread Cert.DwDownRefIdeal.nD Cert.DwDownRefIdeal.τ).loc Cert.DwDownRefIdeal.main_arg1) = m ((c.tc : Thread Cert.DwDownIdeal.nD Cert.DwDownIdeal.τ).loc Cert.DwDownIdeal.main_arg1)) →
    ∃ (v0 : (c : Dev Cert.DwDownIdeal.nD) → Buf (Elt Ideal) ((c.tc : Thread Cert.DwDownIdeal.nD Cert.DwDownIdeal.τ).loc Cert.DwDownIdeal.main_v0)),
      θ_run (Cert.DwDownIdeal.defs (F := Ideal)) (onTc (τ := Cert.DwDownIdeal.τ) (Cert.DwDownIdeal.main (F := Ideal))) ⟨m, fun _ => 0, g⟩ (fun r => ∀ c : Dev Cert.DwDownIdeal.nD,
          r.2.mem ((c.tc : Thread Cert.DwDownIdeal.nD Cert.DwDownIdeal.τ).loc Cert.DwDownIdeal.main_v0) = v0 c
          ∧ r.2.mem ((c.tc : Thread Cert.DwDownIdeal.nD Cert.DwDownIdeal.τ).loc Cert.DwDownIdeal.main_arg0) = m ((c.tc : Thread Cert.DwDownIdeal.nD Cert.DwDownIdeal.τ).loc Cert.DwDownIdeal.main_arg0)
          ∧ r.2.mem ((c.tc : Thread Cert.DwDownIdeal.nD Cert.DwDownIdeal.τ).loc Cert.DwDownIdeal.main_arg1) = m ((c.tc : Thread Cert.DwDownIdeal.nD Cert.DwDownIdeal.τ).loc Cert.DwDownIdeal.main_arg1))
      ∧ θ_run (Cert.DwDownRefIdeal.defs (F := Ideal)) (onTc (τ := Cert.DwDownRefIdeal.τ) (Cert.DwDownRefIdeal.main (F := Ideal))) ⟨m', fun _ => 0, g'⟩ (fun r => ∀ c : Dev Cert.DwDownRefIdeal.nD,
          r.2.mem ((c.tc : Thread Cert.DwDownRefIdeal.nD Cert.DwDownRefIdeal.τ).loc Cert.DwDownRefIdeal.main_v5) = v0 c
          ∧ r.2.mem ((c.tc : Thread Cert.DwDownRefIdeal.nD Cert.DwDownRefIdeal.τ).loc Cert.DwDownRefIdeal.main_arg0) = m' ((c.tc : Thread Cert.DwDownRefIdeal.nD Cert.DwDownRefIdeal.τ).loc Cert.DwDownRefIdeal.main_arg0)
          ∧ r.2.mem ((c.tc : Thread Cert.DwDownRefIdeal.nD Cert.DwDownRefIdeal.τ).loc Cert.DwDownRefIdeal.main_arg1) = m' ((c.tc : Thread Cert.DwDownRefIdeal.nD Cert.DwDownRefIdeal.τ).loc Cert.DwDownRefIdeal.main_arg1))

def preserves_DUpIn_DUpInIdeal : Prop :=
  True

def algebraic_DUpInIdeal_DUpInRefIdeal [hDUpInIdeal : Cert.DUpInIdeal.Facts] [hDUpInRefIdeal : Cert.DUpInRefIdeal.Facts] : Prop :=
  ∀ (m : (ℓ : Loc Cert.DUpInIdeal.nD Cert.DUpInIdeal.τ Cert.DUpInIdeal.sig) → Buf (Elt Ideal) ℓ) (g : Dev Cert.DUpInIdeal.nD → PrngReg)
    (m' : (ℓ : Loc Cert.DUpInRefIdeal.nD Cert.DUpInRefIdeal.τ Cert.DUpInRefIdeal.sig) → Buf (Elt Ideal) ℓ) (g' : Dev Cert.DUpInRefIdeal.nD → PrngReg), Pre_DUpInIdeal m →
    (∀ c : Dev Cert.DUpInIdeal.nD,
      m' ((c.tc : Thread Cert.DUpInRefIdeal.nD Cert.DUpInRefIdeal.τ).loc Cert.DUpInRefIdeal.main_arg0) = m ((c.tc : Thread Cert.DUpInIdeal.nD Cert.DUpInIdeal.τ).loc Cert.DUpInIdeal.main_arg0)
      ∧ m' ((c.tc : Thread Cert.DUpInRefIdeal.nD Cert.DUpInRefIdeal.τ).loc Cert.DUpInRefIdeal.main_arg1) = m ((c.tc : Thread Cert.DUpInIdeal.nD Cert.DUpInIdeal.τ).loc Cert.DUpInIdeal.main_arg1)) →
    ∃ (v0 : (c : Dev Cert.DUpInIdeal.nD) → Buf (Elt Ideal) ((c.tc : Thread Cert.DUpInIdeal.nD Cert.DUpInIdeal.τ).loc Cert.DUpInIdeal.main_v0)),
      θ_run (Cert.DUpInIdeal.defs (F := Ideal)) (onTc (τ := Cert.DUpInIdeal.τ) (Cert.DUpInIdeal.main (F := Ideal))) ⟨m, fun _ => 0, g⟩ (fun r => ∀ c : Dev Cert.DUpInIdeal.nD,
          r.2.mem ((c.tc : Thread Cert.DUpInIdeal.nD Cert.DUpInIdeal.τ).loc Cert.DUpInIdeal.main_v0) = v0 c
          ∧ r.2.mem ((c.tc : Thread Cert.DUpInIdeal.nD Cert.DUpInIdeal.τ).loc Cert.DUpInIdeal.main_arg0) = m ((c.tc : Thread Cert.DUpInIdeal.nD Cert.DUpInIdeal.τ).loc Cert.DUpInIdeal.main_arg0)
          ∧ r.2.mem ((c.tc : Thread Cert.DUpInIdeal.nD Cert.DUpInIdeal.τ).loc Cert.DUpInIdeal.main_arg1) = m ((c.tc : Thread Cert.DUpInIdeal.nD Cert.DUpInIdeal.τ).loc Cert.DUpInIdeal.main_arg1))
      ∧ θ_run (Cert.DUpInRefIdeal.defs (F := Ideal)) (onTc (τ := Cert.DUpInRefIdeal.τ) (Cert.DUpInRefIdeal.main (F := Ideal))) ⟨m', fun _ => 0, g'⟩ (fun r => ∀ c : Dev Cert.DUpInRefIdeal.nD,
          r.2.mem ((c.tc : Thread Cert.DUpInRefIdeal.nD Cert.DUpInRefIdeal.τ).loc Cert.DUpInRefIdeal.main_v8) = v0 c
          ∧ r.2.mem ((c.tc : Thread Cert.DUpInRefIdeal.nD Cert.DUpInRefIdeal.τ).loc Cert.DUpInRefIdeal.main_arg0) = m' ((c.tc : Thread Cert.DUpInRefIdeal.nD Cert.DUpInRefIdeal.τ).loc Cert.DUpInRefIdeal.main_arg0)
          ∧ r.2.mem ((c.tc : Thread Cert.DUpInRefIdeal.nD Cert.DUpInRefIdeal.τ).loc Cert.DUpInRefIdeal.main_arg1) = m' ((c.tc : Thread Cert.DUpInRefIdeal.nD Cert.DUpInRefIdeal.τ).loc Cert.DUpInRefIdeal.main_arg1))

def preserves_DMix_DMixIdeal : Prop :=
  True

def algebraic_DMixIdeal_DMixRefIdeal [hDMixIdeal : Cert.DMixIdeal.Facts] [hDMixRefIdeal : Cert.DMixRefIdeal.Facts] : Prop :=
  ∀ (m : (ℓ : Loc Cert.DMixIdeal.nD Cert.DMixIdeal.τ Cert.DMixIdeal.sig) → Buf (Elt Ideal) ℓ) (g : Dev Cert.DMixIdeal.nD → PrngReg)
    (m' : (ℓ : Loc Cert.DMixRefIdeal.nD Cert.DMixRefIdeal.τ Cert.DMixRefIdeal.sig) → Buf (Elt Ideal) ℓ) (g' : Dev Cert.DMixRefIdeal.nD → PrngReg), Pre_DMixIdeal m →
    (∀ c : Dev Cert.DMixIdeal.nD,
      m' ((c.tc : Thread Cert.DMixRefIdeal.nD Cert.DMixRefIdeal.τ).loc Cert.DMixRefIdeal.main_arg0) = m ((c.tc : Thread Cert.DMixIdeal.nD Cert.DMixIdeal.τ).loc Cert.DMixIdeal.main_arg0)
      ∧ m' ((c.tc : Thread Cert.DMixRefIdeal.nD Cert.DMixRefIdeal.τ).loc Cert.DMixRefIdeal.main_arg1) = m ((c.tc : Thread Cert.DMixIdeal.nD Cert.DMixIdeal.τ).loc Cert.DMixIdeal.main_arg1)) →
    ∃ (v0 : (c : Dev Cert.DMixIdeal.nD) → Buf (Elt Ideal) ((c.tc : Thread Cert.DMixIdeal.nD Cert.DMixIdeal.τ).loc Cert.DMixIdeal.main_v0)),
      θ_run (Cert.DMixIdeal.defs (F := Ideal)) (onTc (τ := Cert.DMixIdeal.τ) (Cert.DMixIdeal.main (F := Ideal))) ⟨m, fun _ => 0, g⟩ (fun r => ∀ c : Dev Cert.DMixIdeal.nD,
          r.2.mem ((c.tc : Thread Cert.DMixIdeal.nD Cert.DMixIdeal.τ).loc Cert.DMixIdeal.main_v0) = v0 c
          ∧ r.2.mem ((c.tc : Thread Cert.DMixIdeal.nD Cert.DMixIdeal.τ).loc Cert.DMixIdeal.main_arg0) = m ((c.tc : Thread Cert.DMixIdeal.nD Cert.DMixIdeal.τ).loc Cert.DMixIdeal.main_arg0)
          ∧ r.2.mem ((c.tc : Thread Cert.DMixIdeal.nD Cert.DMixIdeal.τ).loc Cert.DMixIdeal.main_arg1) = m ((c.tc : Thread Cert.DMixIdeal.nD Cert.DMixIdeal.τ).loc Cert.DMixIdeal.main_arg1))
      ∧ θ_run (Cert.DMixRefIdeal.defs (F := Ideal)) (onTc (τ := Cert.DMixRefIdeal.τ) (Cert.DMixRefIdeal.main (F := Ideal))) ⟨m', fun _ => 0, g'⟩ (fun r => ∀ c : Dev Cert.DMixRefIdeal.nD,
          r.2.mem ((c.tc : Thread Cert.DMixRefIdeal.nD Cert.DMixRefIdeal.τ).loc Cert.DMixRefIdeal.main_v4) = v0 c
          ∧ r.2.mem ((c.tc : Thread Cert.DMixRefIdeal.nD Cert.DMixRefIdeal.τ).loc Cert.DMixRefIdeal.main_arg0) = m' ((c.tc : Thread Cert.DMixRefIdeal.nD Cert.DMixRefIdeal.τ).loc Cert.DMixRefIdeal.main_arg0)
          ∧ r.2.mem ((c.tc : Thread Cert.DMixRefIdeal.nD Cert.DMixRefIdeal.τ).loc Cert.DMixRefIdeal.main_arg1) = m' ((c.tc : Thread Cert.DMixRefIdeal.nD Cert.DMixRefIdeal.τ).loc Cert.DMixRefIdeal.main_arg1))

def preserves_DwOut_DwOutIdeal : Prop :=
  True

def algebraic_DwOutIdeal_DwOutRefIdeal [hDwOutIdeal : Cert.DwOutIdeal.Facts] [hDwOutRefIdeal : Cert.DwOutRefIdeal.Facts] : Prop :=
  ∀ (m : (ℓ : Loc Cert.DwOutIdeal.nD Cert.DwOutIdeal.τ Cert.DwOutIdeal.sig) → Buf (Elt Ideal) ℓ) (g : Dev Cert.DwOutIdeal.nD → PrngReg)
    (m' : (ℓ : Loc Cert.DwOutRefIdeal.nD Cert.DwOutRefIdeal.τ Cert.DwOutRefIdeal.sig) → Buf (Elt Ideal) ℓ) (g' : Dev Cert.DwOutRefIdeal.nD → PrngReg), Pre_DwOutIdeal m →
    (∀ c : Dev Cert.DwOutIdeal.nD,
      m' ((c.tc : Thread Cert.DwOutRefIdeal.nD Cert.DwOutRefIdeal.τ).loc Cert.DwOutRefIdeal.main_arg0) = m ((c.tc : Thread Cert.DwOutIdeal.nD Cert.DwOutIdeal.τ).loc Cert.DwOutIdeal.main_arg0)
      ∧ m' ((c.tc : Thread Cert.DwOutRefIdeal.nD Cert.DwOutRefIdeal.τ).loc Cert.DwOutRefIdeal.main_arg1) = m ((c.tc : Thread Cert.DwOutIdeal.nD Cert.DwOutIdeal.τ).loc Cert.DwOutIdeal.main_arg1)
      ∧ m' ((c.tc : Thread Cert.DwOutRefIdeal.nD Cert.DwOutRefIdeal.τ).loc Cert.DwOutRefIdeal.main_arg2) = m ((c.tc : Thread Cert.DwOutIdeal.nD Cert.DwOutIdeal.τ).loc Cert.DwOutIdeal.main_arg2)) →
    ∃ (v0 : (c : Dev Cert.DwOutIdeal.nD) → Buf (Elt Ideal) ((c.tc : Thread Cert.DwOutIdeal.nD Cert.DwOutIdeal.τ).loc Cert.DwOutIdeal.main_v0)),
      θ_run (Cert.DwOutIdeal.defs (F := Ideal)) (onTc (τ := Cert.DwOutIdeal.τ) (Cert.DwOutIdeal.main (F := Ideal))) ⟨m, fun _ => 0, g⟩ (fun r => ∀ c : Dev Cert.DwOutIdeal.nD,
          r.2.mem ((c.tc : Thread Cert.DwOutIdeal.nD Cert.DwOutIdeal.τ).loc Cert.DwOutIdeal.main_v0) = v0 c
          ∧ r.2.mem ((c.tc : Thread Cert.DwOutIdeal.nD Cert.DwOutIdeal.τ).loc Cert.DwOutIdeal.main_arg0) = m ((c.tc : Thread Cert.DwOutIdeal.nD Cert.DwOutIdeal.τ).loc Cert.DwOutIdeal.main_arg0)
          ∧ r.2.mem ((c.tc : Thread Cert.DwOutIdeal.nD Cert.DwOutIdeal.τ).loc Cert.DwOutIdeal.main_arg1) = m ((c.tc : Thread Cert.DwOutIdeal.nD Cert.DwOutIdeal.τ).loc Cert.DwOutIdeal.main_arg1)
          ∧ r.2.mem ((c.tc : Thread Cert.DwOutIdeal.nD Cert.DwOutIdeal.τ).loc Cert.DwOutIdeal.main_arg2) = m ((c.tc : Thread Cert.DwOutIdeal.nD Cert.DwOutIdeal.τ).loc Cert.DwOutIdeal.main_arg2))
      ∧ θ_run (Cert.DwOutRefIdeal.defs (F := Ideal)) (onTc (τ := Cert.DwOutRefIdeal.τ) (Cert.DwOutRefIdeal.main (F := Ideal))) ⟨m', fun _ => 0, g'⟩ (fun r => ∀ c : Dev Cert.DwOutRefIdeal.nD,
          r.2.mem ((c.tc : Thread Cert.DwOutRefIdeal.nD Cert.DwOutRefIdeal.τ).loc Cert.DwOutRefIdeal.main_v6) = v0 c
          ∧ r.2.mem ((c.tc : Thread Cert.DwOutRefIdeal.nD Cert.DwOutRefIdeal.τ).loc Cert.DwOutRefIdeal.main_arg0) = m' ((c.tc : Thread Cert.DwOutRefIdeal.nD Cert.DwOutRefIdeal.τ).loc Cert.DwOutRefIdeal.main_arg0)
          ∧ r.2.mem ((c.tc : Thread Cert.DwOutRefIdeal.nD Cert.DwOutRefIdeal.τ).loc Cert.DwOutRefIdeal.main_arg1) = m' ((c.tc : Thread Cert.DwOutRefIdeal.nD Cert.DwOutRefIdeal.τ).loc Cert.DwOutRefIdeal.main_arg1)
          ∧ r.2.mem ((c.tc : Thread Cert.DwOutRefIdeal.nD Cert.DwOutRefIdeal.τ).loc Cert.DwOutRefIdeal.main_arg2) = m' ((c.tc : Thread Cert.DwOutRefIdeal.nD Cert.DwOutRefIdeal.τ).loc Cert.DwOutRefIdeal.main_arg2))

def preserves_Up_UpIdeal : Prop :=
  True

def algebraic_UpIdeal_UpRefIdeal [hUpIdeal : Cert.UpIdeal.Facts] [hUpRefIdeal : Cert.UpRefIdeal.Facts] : Prop :=
  ∀ (m : (ℓ : Loc Cert.UpIdeal.nD Cert.UpIdeal.τ Cert.UpIdeal.sig) → Buf (Elt Ideal) ℓ) (g : Dev Cert.UpIdeal.nD → PrngReg)
    (m' : (ℓ : Loc Cert.UpRefIdeal.nD Cert.UpRefIdeal.τ Cert.UpRefIdeal.sig) → Buf (Elt Ideal) ℓ) (g' : Dev Cert.UpRefIdeal.nD → PrngReg), Pre_UpIdeal m →
    (∀ c : Dev Cert.UpIdeal.nD,
      m' ((c.tc : Thread Cert.UpRefIdeal.nD Cert.UpRefIdeal.τ).loc Cert.UpRefIdeal.main_arg0) = m ((c.tc : Thread Cert.UpIdeal.nD Cert.UpIdeal.τ).loc Cert.UpIdeal.main_arg0)
      ∧ m' ((c.tc : Thread Cert.UpRefIdeal.nD Cert.UpRefIdeal.τ).loc Cert.UpRefIdeal.main_arg1) = m ((c.tc : Thread Cert.UpIdeal.nD Cert.UpIdeal.τ).loc Cert.UpIdeal.main_arg1)) →
    ∃ (v0 : (c : Dev Cert.UpIdeal.nD) → Buf (Elt Ideal) ((c.tc : Thread Cert.UpIdeal.nD Cert.UpIdeal.τ).loc Cert.UpIdeal.main_v0)),
      θ_run (Cert.UpIdeal.defs (F := Ideal)) (onTc (τ := Cert.UpIdeal.τ) (Cert.UpIdeal.main (F := Ideal))) ⟨m, fun _ => 0, g⟩ (fun r => ∀ c : Dev Cert.UpIdeal.nD,
          r.2.mem ((c.tc : Thread Cert.UpIdeal.nD Cert.UpIdeal.τ).loc Cert.UpIdeal.main_v0) = v0 c
          ∧ r.2.mem ((c.tc : Thread Cert.UpIdeal.nD Cert.UpIdeal.τ).loc Cert.UpIdeal.main_arg0) = m ((c.tc : Thread Cert.UpIdeal.nD Cert.UpIdeal.τ).loc Cert.UpIdeal.main_arg0)
          ∧ r.2.mem ((c.tc : Thread Cert.UpIdeal.nD Cert.UpIdeal.τ).loc Cert.UpIdeal.main_arg1) = m ((c.tc : Thread Cert.UpIdeal.nD Cert.UpIdeal.τ).loc Cert.UpIdeal.main_arg1))
      ∧ θ_run (Cert.UpRefIdeal.defs (F := Ideal)) (onTc (τ := Cert.UpRefIdeal.τ) (Cert.UpRefIdeal.main (F := Ideal))) ⟨m', fun _ => 0, g'⟩ (fun r => ∀ c : Dev Cert.UpRefIdeal.nD,
          r.2.mem ((c.tc : Thread Cert.UpRefIdeal.nD Cert.UpRefIdeal.τ).loc Cert.UpRefIdeal.main_v9) = v0 c
          ∧ r.2.mem ((c.tc : Thread Cert.UpRefIdeal.nD Cert.UpRefIdeal.τ).loc Cert.UpRefIdeal.main_arg0) = m' ((c.tc : Thread Cert.UpRefIdeal.nD Cert.UpRefIdeal.τ).loc Cert.UpRefIdeal.main_arg0)
          ∧ r.2.mem ((c.tc : Thread Cert.UpRefIdeal.nD Cert.UpRefIdeal.τ).loc Cert.UpRefIdeal.main_arg1) = m' ((c.tc : Thread Cert.UpRefIdeal.nD Cert.UpRefIdeal.τ).loc Cert.UpRefIdeal.main_arg1))

def preserves_Out_OutIdeal : Prop :=
  True

def algebraic_OutIdeal_OutRefIdeal [hOutIdeal : Cert.OutIdeal.Facts] [hOutRefIdeal : Cert.OutRefIdeal.Facts] : Prop :=
  ∀ (m : (ℓ : Loc Cert.OutIdeal.nD Cert.OutIdeal.τ Cert.OutIdeal.sig) → Buf (Elt Ideal) ℓ) (g : Dev Cert.OutIdeal.nD → PrngReg)
    (m' : (ℓ : Loc Cert.OutRefIdeal.nD Cert.OutRefIdeal.τ Cert.OutRefIdeal.sig) → Buf (Elt Ideal) ℓ) (g' : Dev Cert.OutRefIdeal.nD → PrngReg), Pre_OutIdeal m →
    (∀ c : Dev Cert.OutIdeal.nD,
      m' ((c.tc : Thread Cert.OutRefIdeal.nD Cert.OutRefIdeal.τ).loc Cert.OutRefIdeal.main_arg0) = m ((c.tc : Thread Cert.OutIdeal.nD Cert.OutIdeal.τ).loc Cert.OutIdeal.main_arg0)
      ∧ m' ((c.tc : Thread Cert.OutRefIdeal.nD Cert.OutRefIdeal.τ).loc Cert.OutRefIdeal.main_arg1) = m ((c.tc : Thread Cert.OutIdeal.nD Cert.OutIdeal.τ).loc Cert.OutIdeal.main_arg1)
      ∧ m' ((c.tc : Thread Cert.OutRefIdeal.nD Cert.OutRefIdeal.τ).loc Cert.OutRefIdeal.main_arg2) = m ((c.tc : Thread Cert.OutIdeal.nD Cert.OutIdeal.τ).loc Cert.OutIdeal.main_arg2)
      ∧ m' ((c.tc : Thread Cert.OutRefIdeal.nD Cert.OutRefIdeal.τ).loc Cert.OutRefIdeal.main_arg3) = m ((c.tc : Thread Cert.OutIdeal.nD Cert.OutIdeal.τ).loc Cert.OutIdeal.main_arg3)) →
    ∃ (v0 : (c : Dev Cert.OutIdeal.nD) → Buf (Elt Ideal) ((c.tc : Thread Cert.OutIdeal.nD Cert.OutIdeal.τ).loc Cert.OutIdeal.main_v0)),
      θ_run (Cert.OutIdeal.defs (F := Ideal)) (onTc (τ := Cert.OutIdeal.τ) (Cert.OutIdeal.main (F := Ideal))) ⟨m, fun _ => 0, g⟩ (fun r => ∀ c : Dev Cert.OutIdeal.nD,
          r.2.mem ((c.tc : Thread Cert.OutIdeal.nD Cert.OutIdeal.τ).loc Cert.OutIdeal.main_v0) = v0 c
          ∧ r.2.mem ((c.tc : Thread Cert.OutIdeal.nD Cert.OutIdeal.τ).loc Cert.OutIdeal.main_arg0) = m ((c.tc : Thread Cert.OutIdeal.nD Cert.OutIdeal.τ).loc Cert.OutIdeal.main_arg0)
          ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
          ∧ r.2.mem ((c.tc : Thread Cert.OutIdeal.nD Cert.OutIdeal.τ).loc Cert.OutIdeal.main_arg2) = m ((c.tc : Thread Cert.OutIdeal.nD Cert.OutIdeal.τ).loc Cert.OutIdeal.main_arg2)
          ∧ r.2.mem ((c.tc : Thread Cert.OutIdeal.nD Cert.OutIdeal.τ).loc Cert.OutIdeal.main_arg3) = m ((c.tc : Thread Cert.OutIdeal.nD Cert.OutIdeal.τ).loc Cert.OutIdeal.main_arg3))
      ∧ θ_run (Cert.OutRefIdeal.defs (F := Ideal)) (onTc (τ := Cert.OutRefIdeal.τ) (Cert.OutRefIdeal.main (F := Ideal))) ⟨m', fun _ => 0, g'⟩ (fun r => ∀ c : Dev Cert.OutRefIdeal.nD,
          r.2.mem ((c.tc : Thread Cert.OutRefIdeal.nD Cert.OutRefIdeal.τ).loc Cert.OutRefIdeal.main_v4) = v0 c
          ∧ r.2.mem ((c.tc : Thread Cert.OutRefIdeal.nD Cert.OutRefIdeal.τ).loc Cert.OutRefIdeal.main_arg0) = m' ((c.tc : Thread Cert.OutRefIdeal.nD Cert.OutRefIdeal.τ).loc Cert.OutRefIdeal.main_arg0)
          ∧ r.2.mem ((c.tc : Thread Cert.OutRefIdeal.nD Cert.OutRefIdeal.τ).loc Cert.OutRefIdeal.main_arg1) = m' ((c.tc : Thread Cert.OutRefIdeal.nD Cert.OutRefIdeal.τ).loc Cert.OutRefIdeal.main_arg1)
          ∧ r.2.mem ((c.tc : Thread Cert.OutRefIdeal.nD Cert.OutRefIdeal.τ).loc Cert.OutRefIdeal.main_arg2) = m' ((c.tc : Thread Cert.OutRefIdeal.nD Cert.OutRefIdeal.τ).loc Cert.OutRefIdeal.main_arg2)
          ∧ r.2.mem ((c.tc : Thread Cert.OutRefIdeal.nD Cert.OutRefIdeal.τ).loc Cert.OutRefIdeal.main_arg3) = m' ((c.tc : Thread Cert.OutRefIdeal.nD Cert.OutRefIdeal.τ).loc Cert.OutRefIdeal.main_arg3))

def preserves_InProj_InProjIdeal : Prop :=
  True

def algebraic_InProjIdeal_InProjRefIdeal [hInProjIdeal : Cert.InProjIdeal.Facts] [hInProjRefIdeal : Cert.InProjRefIdeal.Facts] : Prop :=
  ∀ (m : (ℓ : Loc Cert.InProjIdeal.nD Cert.InProjIdeal.τ Cert.InProjIdeal.sig) → Buf (Elt Ideal) ℓ) (g : Dev Cert.InProjIdeal.nD → PrngReg)
    (m' : (ℓ : Loc Cert.InProjRefIdeal.nD Cert.InProjRefIdeal.τ Cert.InProjRefIdeal.sig) → Buf (Elt Ideal) ℓ) (g' : Dev Cert.InProjRefIdeal.nD → PrngReg), Pre_InProjIdeal m →
    (∀ c : Dev Cert.InProjIdeal.nD,
      m' ((c.tc : Thread Cert.InProjRefIdeal.nD Cert.InProjRefIdeal.τ).loc Cert.InProjRefIdeal.main_arg0) = m ((c.tc : Thread Cert.InProjIdeal.nD Cert.InProjIdeal.τ).loc Cert.InProjIdeal.main_arg0)
      ∧ m' ((c.tc : Thread Cert.InProjRefIdeal.nD Cert.InProjRefIdeal.τ).loc Cert.InProjRefIdeal.main_arg1) = m ((c.tc : Thread Cert.InProjIdeal.nD Cert.InProjIdeal.τ).loc Cert.InProjIdeal.main_arg1)) →
    ∃ (v0 : (c : Dev Cert.InProjIdeal.nD) → Buf (Elt Ideal) ((c.tc : Thread Cert.InProjIdeal.nD Cert.InProjIdeal.τ).loc Cert.InProjIdeal.main_v0)),
      θ_run (Cert.InProjIdeal.defs (F := Ideal)) (onTc (τ := Cert.InProjIdeal.τ) (Cert.InProjIdeal.main (F := Ideal))) ⟨m, fun _ => 0, g⟩ (fun r => ∀ c : Dev Cert.InProjIdeal.nD,
          r.2.mem ((c.tc : Thread Cert.InProjIdeal.nD Cert.InProjIdeal.τ).loc Cert.InProjIdeal.main_v0) = v0 c
          ∧ r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
          ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1))
      ∧ θ_run (Cert.InProjRefIdeal.defs (F := Ideal)) (onTc (τ := Cert.InProjRefIdeal.τ) (Cert.InProjRefIdeal.main (F := Ideal))) ⟨m', fun _ => 0, g'⟩ (fun r => ∀ c : Dev Cert.InProjRefIdeal.nD,
          r.2.mem ((c.tc : Thread Cert.InProjRefIdeal.nD Cert.InProjRefIdeal.τ).loc Cert.InProjRefIdeal.main_v4) = v0 c
          ∧ r.2.mem ((c.tc : Thread Cert.InProjRefIdeal.nD Cert.InProjRefIdeal.τ).loc Cert.InProjRefIdeal.main_arg0) = m' ((c.tc : Thread Cert.InProjRefIdeal.nD Cert.InProjRefIdeal.τ).loc Cert.InProjRefIdeal.main_arg0)
          ∧ r.2.mem ((c.tc : Thread Cert.InProjRefIdeal.nD Cert.InProjRefIdeal.τ).loc Cert.InProjRefIdeal.main_arg1) = m' ((c.tc : Thread Cert.InProjRefIdeal.nD Cert.InProjRefIdeal.τ).loc Cert.InProjRefIdeal.main_arg1))

def preserves_DInProj_DInProjIdeal : Prop :=
  True

def algebraic_DInProjIdeal_DInProjRefIdeal [hDInProjIdeal : Cert.DInProjIdeal.Facts] [hDInProjRefIdeal : Cert.DInProjRefIdeal.Facts] : Prop :=
  ∀ (m : (ℓ : Loc Cert.DInProjIdeal.nD Cert.DInProjIdeal.τ Cert.DInProjIdeal.sig) → Buf (Elt Ideal) ℓ) (g : Dev Cert.DInProjIdeal.nD → PrngReg)
    (m' : (ℓ : Loc Cert.DInProjRefIdeal.nD Cert.DInProjRefIdeal.τ Cert.DInProjRefIdeal.sig) → Buf (Elt Ideal) ℓ) (g' : Dev Cert.DInProjRefIdeal.nD → PrngReg), Pre_DInProjIdeal m →
    (∀ c : Dev Cert.DInProjIdeal.nD,
      m' ((c.tc : Thread Cert.DInProjRefIdeal.nD Cert.DInProjRefIdeal.τ).loc Cert.DInProjRefIdeal.main_arg0) = m ((c.tc : Thread Cert.DInProjIdeal.nD Cert.DInProjIdeal.τ).loc Cert.DInProjIdeal.main_arg0)
      ∧ m' ((c.tc : Thread Cert.DInProjRefIdeal.nD Cert.DInProjRefIdeal.τ).loc Cert.DInProjRefIdeal.main_arg1) = m ((c.tc : Thread Cert.DInProjIdeal.nD Cert.DInProjIdeal.τ).loc Cert.DInProjIdeal.main_arg1)) →
    ∃ (v0 : (c : Dev Cert.DInProjIdeal.nD) → Buf (Elt Ideal) ((c.tc : Thread Cert.DInProjIdeal.nD Cert.DInProjIdeal.τ).loc Cert.DInProjIdeal.main_v0)),
      θ_run (Cert.DInProjIdeal.defs (F := Ideal)) (onTc (τ := Cert.DInProjIdeal.τ) (Cert.DInProjIdeal.main (F := Ideal))) ⟨m, fun _ => 0, g⟩ (fun r => ∀ c : Dev Cert.DInProjIdeal.nD,
          r.2.mem ((c.tc : Thread Cert.DInProjIdeal.nD Cert.DInProjIdeal.τ).loc Cert.DInProjIdeal.main_v0) = v0 c
          ∧ r.2.mem ((c.tc : Thread Cert.DInProjIdeal.nD Cert.DInProjIdeal.τ).loc Cert.DInProjIdeal.main_arg0) = m ((c.tc : Thread Cert.DInProjIdeal.nD Cert.DInProjIdeal.τ).loc Cert.DInProjIdeal.main_arg0)
          ∧ r.2.mem ((c.tc : Thread Cert.DInProjIdeal.nD Cert.DInProjIdeal.τ).loc Cert.DInProjIdeal.main_arg1) = m ((c.tc : Thread Cert.DInProjIdeal.nD Cert.DInProjIdeal.τ).loc Cert.DInProjIdeal.main_arg1))
      ∧ θ_run (Cert.DInProjRefIdeal.defs (F := Ideal)) (onTc (τ := Cert.DInProjRefIdeal.τ) (Cert.DInProjRefIdeal.main (F := Ideal))) ⟨m', fun _ => 0, g'⟩ (fun r => ∀ c : Dev Cert.DInProjRefIdeal.nD,
          r.2.mem ((c.tc : Thread Cert.DInProjRefIdeal.nD Cert.DInProjRefIdeal.τ).loc Cert.DInProjRefIdeal.main_v5) = v0 c
          ∧ r.2.mem ((c.tc : Thread Cert.DInProjRefIdeal.nD Cert.DInProjRefIdeal.τ).loc Cert.DInProjRefIdeal.main_arg0) = m' ((c.tc : Thread Cert.DInProjRefIdeal.nD Cert.DInProjRefIdeal.τ).loc Cert.DInProjRefIdeal.main_arg0)
          ∧ r.2.mem ((c.tc : Thread Cert.DInProjRefIdeal.nD Cert.DInProjRefIdeal.τ).loc Cert.DInProjRefIdeal.main_arg1) = m' ((c.tc : Thread Cert.DInProjRefIdeal.nD Cert.DInProjRefIdeal.τ).loc Cert.DInProjRefIdeal.main_arg1))

def preserves_Down_DownIdeal : Prop :=
  True

def algebraic_DownIdeal_DownRefIdeal [hDownIdeal : Cert.DownIdeal.Facts] [hDownRefIdeal : Cert.DownRefIdeal.Facts] : Prop :=
  ∀ (m : (ℓ : Loc Cert.DownIdeal.nD Cert.DownIdeal.τ Cert.DownIdeal.sig) → Buf (Elt Ideal) ℓ) (g : Dev Cert.DownIdeal.nD → PrngReg)
    (m' : (ℓ : Loc Cert.DownRefIdeal.nD Cert.DownRefIdeal.τ Cert.DownRefIdeal.sig) → Buf (Elt Ideal) ℓ) (g' : Dev Cert.DownRefIdeal.nD → PrngReg), Pre_DownIdeal m →
    (∀ c : Dev Cert.DownIdeal.nD,
      m' ((c.tc : Thread Cert.DownRefIdeal.nD Cert.DownRefIdeal.τ).loc Cert.DownRefIdeal.main_arg0) = m ((c.tc : Thread Cert.DownIdeal.nD Cert.DownIdeal.τ).loc Cert.DownIdeal.main_arg0)
      ∧ m' ((c.tc : Thread Cert.DownRefIdeal.nD Cert.DownRefIdeal.τ).loc Cert.DownRefIdeal.main_arg1) = m ((c.tc : Thread Cert.DownIdeal.nD Cert.DownIdeal.τ).loc Cert.DownIdeal.main_arg1)
      ∧ m' ((c.tc : Thread Cert.DownRefIdeal.nD Cert.DownRefIdeal.τ).loc Cert.DownRefIdeal.main_arg2) = m ((c.tc : Thread Cert.DownIdeal.nD Cert.DownIdeal.τ).loc Cert.DownIdeal.main_arg2)
      ∧ m' ((c.tc : Thread Cert.DownRefIdeal.nD Cert.DownRefIdeal.τ).loc Cert.DownRefIdeal.main_arg3) = m ((c.tc : Thread Cert.DownIdeal.nD Cert.DownIdeal.τ).loc Cert.DownIdeal.main_arg3)) →
    ∃ (v0 : (c : Dev Cert.DownIdeal.nD) → Buf (Elt Ideal) ((c.tc : Thread Cert.DownIdeal.nD Cert.DownIdeal.τ).loc Cert.DownIdeal.main_v0_0)) (v1 : (c : Dev Cert.DownIdeal.nD) → Buf (Elt Ideal) ((c.tc : Thread Cert.DownIdeal.nD Cert.DownIdeal.τ).loc Cert.DownIdeal.main_v0_1)) (v2 : (c : Dev Cert.DownIdeal.nD) → Buf (Elt Ideal) ((c.tc : Thread Cert.DownIdeal.nD Cert.DownIdeal.τ).loc Cert.DownIdeal.main_v0_2)),
      θ_run (Cert.DownIdeal.defs (F := Ideal)) (onTc (τ := Cert.DownIdeal.τ) (Cert.DownIdeal.main (F := Ideal))) ⟨m, fun _ => 0, g⟩ (fun r => ∀ c : Dev Cert.DownIdeal.nD,
          r.2.mem ((c.tc : Thread Cert.DownIdeal.nD Cert.DownIdeal.τ).loc Cert.DownIdeal.main_v0_0) = v0 c
          ∧ r.2.mem ((c.tc : Thread Cert.DownIdeal.nD Cert.DownIdeal.τ).loc Cert.DownIdeal.main_v0_1) = v1 c
          ∧ r.2.mem ((c.tc : Thread Cert.DownIdeal.nD Cert.DownIdeal.τ).loc Cert.DownIdeal.main_v0_2) = v2 c
          ∧ r.2.mem ((c.tc : Thread Cert.DownIdeal.nD Cert.DownIdeal.τ).loc Cert.DownIdeal.main_arg0) = m ((c.tc : Thread Cert.DownIdeal.nD Cert.DownIdeal.τ).loc Cert.DownIdeal.main_arg0)
          ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
          ∧ r.2.mem ((c.tc : Thread Cert.DownIdeal.nD Cert.DownIdeal.τ).loc Cert.DownIdeal.main_arg2) = m ((c.tc : Thread Cert.DownIdeal.nD Cert.DownIdeal.τ).loc Cert.DownIdeal.main_arg2)
          ∧ r.2.mem ((c.tc : Thread Cert.DownIdeal.nD Cert.DownIdeal.τ).loc Cert.DownIdeal.main_arg3) = m ((c.tc : Thread Cert.DownIdeal.nD Cert.DownIdeal.τ).loc Cert.DownIdeal.main_arg3))
      ∧ θ_run (Cert.DownRefIdeal.defs (F := Ideal)) (onTc (τ := Cert.DownRefIdeal.τ) (Cert.DownRefIdeal.main (F := Ideal))) ⟨m', fun _ => 0, g'⟩ (fun r => ∀ c : Dev Cert.DownRefIdeal.nD,
          r.2.mem ((c.tc : Thread Cert.DownRefIdeal.nD Cert.DownRefIdeal.τ).loc Cert.DownRefIdeal.main_v19) = v0 c
          ∧ r.2.mem ((c.tc : Thread Cert.DownRefIdeal.nD Cert.DownRefIdeal.τ).loc Cert.DownRefIdeal.main_v18) = v1 c
          ∧ r.2.mem ((c.tc : Thread Cert.DownRefIdeal.nD Cert.DownRefIdeal.τ).loc Cert.DownRefIdeal.main_v20) = v2 c
          ∧ r.2.mem ((c.tc : Thread Cert.DownRefIdeal.nD Cert.DownRefIdeal.τ).loc Cert.DownRefIdeal.main_arg0) = m' ((c.tc : Thread Cert.DownRefIdeal.nD Cert.DownRefIdeal.τ).loc Cert.DownRefIdeal.main_arg0)
          ∧ r.2.mem ((c.tc : Thread Cert.DownRefIdeal.nD Cert.DownRefIdeal.τ).loc Cert.DownRefIdeal.main_arg1) = m' ((c.tc : Thread Cert.DownRefIdeal.nD Cert.DownRefIdeal.τ).loc Cert.DownRefIdeal.main_arg1)
          ∧ r.2.mem ((c.tc : Thread Cert.DownRefIdeal.nD Cert.DownRefIdeal.τ).loc Cert.DownRefIdeal.main_arg2) = m' ((c.tc : Thread Cert.DownRefIdeal.nD Cert.DownRefIdeal.τ).loc Cert.DownRefIdeal.main_arg2)
          ∧ r.2.mem ((c.tc : Thread Cert.DownRefIdeal.nD Cert.DownRefIdeal.τ).loc Cert.DownRefIdeal.main_arg3) = m' ((c.tc : Thread Cert.DownRefIdeal.nD Cert.DownRefIdeal.τ).loc Cert.DownRefIdeal.main_arg3))

def preserves_DwUpSib_DwUpSibIdeal : Prop :=
  True

def algebraic_DwUpSibIdeal_DwUpSibRefIdeal [hDwUpSibIdeal : Cert.DwUpSibIdeal.Facts] [hDwUpSibRefIdeal : Cert.DwUpSibRefIdeal.Facts] : Prop :=
  ∀ (m : (ℓ : Loc Cert.DwUpSibIdeal.nD Cert.DwUpSibIdeal.τ Cert.DwUpSibIdeal.sig) → Buf (Elt Ideal) ℓ) (g : Dev Cert.DwUpSibIdeal.nD → PrngReg)
    (m' : (ℓ : Loc Cert.DwUpSibRefIdeal.nD Cert.DwUpSibRefIdeal.τ Cert.DwUpSibRefIdeal.sig) → Buf (Elt Ideal) ℓ) (g' : Dev Cert.DwUpSibRefIdeal.nD → PrngReg), Pre_DwUpSibIdeal m →
    (∀ c : Dev Cert.DwUpSibIdeal.nD,
      m' ((c.tc : Thread Cert.DwUpSibRefIdeal.nD Cert.DwUpSibRefIdeal.τ).loc Cert.DwUpSibRefIdeal.main_arg0) = m ((c.tc : Thread Cert.DwUpSibIdeal.nD Cert.DwUpSibIdeal.τ).loc Cert.DwUpSibIdeal.main_arg0)
      ∧ m' ((c.tc : Thread Cert.DwUpSibRefIdeal.nD Cert.DwUpSibRefIdeal.τ).loc Cert.DwUpSibRefIdeal.main_arg1) = m ((c.tc : Thread Cert.DwUpSibIdeal.nD Cert.DwUpSibIdeal.τ).loc Cert.DwUpSibIdeal.main_arg1)) →
    ∃ (v0 : (c : Dev Cert.DwUpSibIdeal.nD) → Buf (Elt Ideal) ((c.tc : Thread Cert.DwUpSibIdeal.nD Cert.DwUpSibIdeal.τ).loc Cert.DwUpSibIdeal.main_v1)),
      θ_run (Cert.DwUpSibIdeal.defs (F := Ideal)) (onTc (τ := Cert.DwUpSibIdeal.τ) (Cert.DwUpSibIdeal.main (F := Ideal))) ⟨m, fun _ => 0, g⟩ (fun r => ∀ c : Dev Cert.DwUpSibIdeal.nD,
          r.2.mem ((c.tc : Thread Cert.DwUpSibIdeal.nD Cert.DwUpSibIdeal.τ).loc Cert.DwUpSibIdeal.main_v1) = v0 c
          ∧ r.2.mem ((c.tc : Thread Cert.DwUpSibIdeal.nD Cert.DwUpSibIdeal.τ).loc Cert.DwUpSibIdeal.main_arg0) = m ((c.tc : Thread Cert.DwUpSibIdeal.nD Cert.DwUpSibIdeal.τ).loc Cert.DwUpSibIdeal.main_arg0)
          ∧ r.2.mem ((c.tc : Thread Cert.DwUpSibIdeal.nD Cert.DwUpSibIdeal.τ).loc Cert.DwUpSibIdeal.main_arg1) = m ((c.tc : Thread Cert.DwUpSibIdeal.nD Cert.DwUpSibIdeal.τ).loc Cert.DwUpSibIdeal.main_arg1))
      ∧ θ_run (Cert.DwUpSibRefIdeal.defs (F := Ideal)) (onTc (τ := Cert.DwUpSibRefIdeal.τ) (Cert.DwUpSibRefIdeal.main (F := Ideal))) ⟨m', fun _ => 0, g'⟩ (fun r => ∀ c : Dev Cert.DwUpSibRefIdeal.nD,
          r.2.mem ((c.tc : Thread Cert.DwUpSibRefIdeal.nD Cert.DwUpSibRefIdeal.τ).loc Cert.DwUpSibRefIdeal.main_v11) = v0 c
          ∧ r.2.mem ((c.tc : Thread Cert.DwUpSibRefIdeal.nD Cert.DwUpSibRefIdeal.τ).loc Cert.DwUpSibRefIdeal.main_arg0) = m' ((c.tc : Thread Cert.DwUpSibRefIdeal.nD Cert.DwUpSibRefIdeal.τ).loc Cert.DwUpSibRefIdeal.main_arg0)
          ∧ r.2.mem ((c.tc : Thread Cert.DwUpSibRefIdeal.nD Cert.DwUpSibRefIdeal.τ).loc Cert.DwUpSibRefIdeal.main_arg1) = m' ((c.tc : Thread Cert.DwUpSibRefIdeal.nD Cert.DwUpSibRefIdeal.τ).loc Cert.DwUpSibRefIdeal.main_arg1))

def preserves_DwUpOwn_DwUpOwnIdeal : Prop :=
  True

def algebraic_DwUpOwnIdeal_DwUpOwnRefIdeal [hDwUpOwnIdeal : Cert.DwUpOwnIdeal.Facts] [hDwUpOwnRefIdeal : Cert.DwUpOwnRefIdeal.Facts] : Prop :=
  ∀ (m : (ℓ : Loc Cert.DwUpOwnIdeal.nD Cert.DwUpOwnIdeal.τ Cert.DwUpOwnIdeal.sig) → Buf (Elt Ideal) ℓ) (g : Dev Cert.DwUpOwnIdeal.nD → PrngReg)
    (m' : (ℓ : Loc Cert.DwUpOwnRefIdeal.nD Cert.DwUpOwnRefIdeal.τ Cert.DwUpOwnRefIdeal.sig) → Buf (Elt Ideal) ℓ) (g' : Dev Cert.DwUpOwnRefIdeal.nD → PrngReg), Pre_DwUpOwnIdeal m →
    (∀ c : Dev Cert.DwUpOwnIdeal.nD,
      m' ((c.tc : Thread Cert.DwUpOwnRefIdeal.nD Cert.DwUpOwnRefIdeal.τ).loc Cert.DwUpOwnRefIdeal.main_arg0) = m ((c.tc : Thread Cert.DwUpOwnIdeal.nD Cert.DwUpOwnIdeal.τ).loc Cert.DwUpOwnIdeal.main_arg0)
      ∧ m' ((c.tc : Thread Cert.DwUpOwnRefIdeal.nD Cert.DwUpOwnRefIdeal.τ).loc Cert.DwUpOwnRefIdeal.main_arg1) = m ((c.tc : Thread Cert.DwUpOwnIdeal.nD Cert.DwUpOwnIdeal.τ).loc Cert.DwUpOwnIdeal.main_arg1)
      ∧ m' ((c.tc : Thread Cert.DwUpOwnRefIdeal.nD Cert.DwUpOwnRefIdeal.τ).loc Cert.DwUpOwnRefIdeal.main_arg2) = m ((c.tc : Thread Cert.DwUpOwnIdeal.nD Cert.DwUpOwnIdeal.τ).loc Cert.DwUpOwnIdeal.main_arg2)) →
    ∃ (v0 : (c : Dev Cert.DwUpOwnIdeal.nD) → Buf (Elt Ideal) ((c.tc : Thread Cert.DwUpOwnIdeal.nD Cert.DwUpOwnIdeal.τ).loc Cert.DwUpOwnIdeal.main_v1)),
      θ_run (Cert.DwUpOwnIdeal.defs (F := Ideal)) (onTc (τ := Cert.DwUpOwnIdeal.τ) (Cert.DwUpOwnIdeal.main (F := Ideal))) ⟨m, fun _ => 0, g⟩ (fun r => ∀ c : Dev Cert.DwUpOwnIdeal.nD,
          r.2.mem ((c.tc : Thread Cert.DwUpOwnIdeal.nD Cert.DwUpOwnIdeal.τ).loc Cert.DwUpOwnIdeal.main_v1) = v0 c
          ∧ r.2.mem ((c.tc : Thread Cert.DwUpOwnIdeal.nD Cert.DwUpOwnIdeal.τ).loc Cert.DwUpOwnIdeal.main_arg0) = m ((c.tc : Thread Cert.DwUpOwnIdeal.nD Cert.DwUpOwnIdeal.τ).loc Cert.DwUpOwnIdeal.main_arg0)
          ∧ r.2.mem ((c.tc : Thread Cert.DwUpOwnIdeal.nD Cert.DwUpOwnIdeal.τ).loc Cert.DwUpOwnIdeal.main_arg1) = m ((c.tc : Thread Cert.DwUpOwnIdeal.nD Cert.DwUpOwnIdeal.τ).loc Cert.DwUpOwnIdeal.main_arg1)
          ∧ r.2.mem ((c.tc : Thread Cert.DwUpOwnIdeal.nD Cert.DwUpOwnIdeal.τ).loc Cert.DwUpOwnIdeal.main_arg2) = m ((c.tc : Thread Cert.DwUpOwnIdeal.nD Cert.DwUpOwnIdeal.τ).loc Cert.DwUpOwnIdeal.main_arg2))
      ∧ θ_run (Cert.DwUpOwnRefIdeal.defs (F := Ideal)) (onTc (τ := Cert.DwUpOwnRefIdeal.τ) (Cert.DwUpOwnRefIdeal.main (F := Ideal))) ⟨m', fun _ => 0, g'⟩ (fun r => ∀ c : Dev Cert.DwUpOwnRefIdeal.nD,
          r.2.mem ((c.tc : Thread Cert.DwUpOwnRefIdeal.nD Cert.DwUpOwnRefIdeal.τ).loc Cert.DwUpOwnRefIdeal.main_v12) = v0 c
          ∧ r.2.mem ((c.tc : Thread Cert.DwUpOwnRefIdeal.nD Cert.DwUpOwnRefIdeal.τ).loc Cert.DwUpOwnRefIdeal.main_arg0) = m' ((c.tc : Thread Cert.DwUpOwnRefIdeal.nD Cert.DwUpOwnRefIdeal.τ).loc Cert.DwUpOwnRefIdeal.main_arg0)
          ∧ r.2.mem ((c.tc : Thread Cert.DwUpOwnRefIdeal.nD Cert.DwUpOwnRefIdeal.τ).loc Cert.DwUpOwnRefIdeal.main_arg1) = m' ((c.tc : Thread Cert.DwUpOwnRefIdeal.nD Cert.DwUpOwnRefIdeal.τ).loc Cert.DwUpOwnRefIdeal.main_arg1)
          ∧ r.2.mem ((c.tc : Thread Cert.DwUpOwnRefIdeal.nD Cert.DwUpOwnRefIdeal.τ).loc Cert.DwUpOwnRefIdeal.main_arg2) = m' ((c.tc : Thread Cert.DwUpOwnRefIdeal.nD Cert.DwUpOwnRefIdeal.τ).loc Cert.DwUpOwnRefIdeal.main_arg2))

def preserves_DwIn_DwInIdeal : Prop :=
  True

def algebraic_DwInIdeal_DwInRefIdeal [hDwInIdeal : Cert.DwInIdeal.Facts] [hDwInRefIdeal : Cert.DwInRefIdeal.Facts] : Prop :=
  ∀ (m : (ℓ : Loc Cert.DwInIdeal.nD Cert.DwInIdeal.τ Cert.DwInIdeal.sig) → Buf (Elt Ideal) ℓ) (g : Dev Cert.DwInIdeal.nD → PrngReg)
    (m' : (ℓ : Loc Cert.DwInRefIdeal.nD Cert.DwInRefIdeal.τ Cert.DwInRefIdeal.sig) → Buf (Elt Ideal) ℓ) (g' : Dev Cert.DwInRefIdeal.nD → PrngReg), Pre_DwInIdeal m →
    (∀ c : Dev Cert.DwInIdeal.nD,
      m' ((c.tc : Thread Cert.DwInRefIdeal.nD Cert.DwInRefIdeal.τ).loc Cert.DwInRefIdeal.main_arg0) = m ((c.tc : Thread Cert.DwInIdeal.nD Cert.DwInIdeal.τ).loc Cert.DwInIdeal.main_arg0)
      ∧ m' ((c.tc : Thread Cert.DwInRefIdeal.nD Cert.DwInRefIdeal.τ).loc Cert.DwInRefIdeal.main_arg1) = m ((c.tc : Thread Cert.DwInIdeal.nD Cert.DwInIdeal.τ).loc Cert.DwInIdeal.main_arg1)) →
    ∃ (v0 : (c : Dev Cert.DwInIdeal.nD) → Buf (Elt Ideal) ((c.tc : Thread Cert.DwInIdeal.nD Cert.DwInIdeal.τ).loc Cert.DwInIdeal.main_v1)),
      θ_run (Cert.DwInIdeal.defs (F := Ideal)) (onTc (τ := Cert.DwInIdeal.τ) (Cert.DwInIdeal.main (F := Ideal))) ⟨m, fun _ => 0, g⟩ (fun r => ∀ c : Dev Cert.DwInIdeal.nD,
          r.2.mem ((c.tc : Thread Cert.DwInIdeal.nD Cert.DwInIdeal.τ).loc Cert.DwInIdeal.main_v1) = v0 c
          ∧ r.2.mem ((c.tc : Thread Cert.DwInIdeal.nD Cert.DwInIdeal.τ).loc Cert.DwInIdeal.main_arg0) = m ((c.tc : Thread Cert.DwInIdeal.nD Cert.DwInIdeal.τ).loc Cert.DwInIdeal.main_arg0)
          ∧ r.2.mem ((c.tc : Thread Cert.DwInIdeal.nD Cert.DwInIdeal.τ).loc Cert.DwInIdeal.main_arg1) = m ((c.tc : Thread Cert.DwInIdeal.nD Cert.DwInIdeal.τ).loc Cert.DwInIdeal.main_arg1))
      ∧ θ_run (Cert.DwInRefIdeal.defs (F := Ideal)) (onTc (τ := Cert.DwInRefIdeal.τ) (Cert.DwInRefIdeal.main (F := Ideal))) ⟨m', fun _ => 0, g'⟩ (fun r => ∀ c : Dev Cert.DwInRefIdeal.nD,
          r.2.mem ((c.tc : Thread Cert.DwInRefIdeal.nD Cert.DwInRefIdeal.τ).loc Cert.DwInRefIdeal.main_v15) = v0 c
          ∧ r.2.mem ((c.tc : Thread Cert.DwInRefIdeal.nD Cert.DwInRefIdeal.τ).loc Cert.DwInRefIdeal.main_arg0) = m' ((c.tc : Thread Cert.DwInRefIdeal.nD Cert.DwInRefIdeal.τ).loc Cert.DwInRefIdeal.main_arg0)
          ∧ r.2.mem ((c.tc : Thread Cert.DwInRefIdeal.nD Cert.DwInRefIdeal.τ).loc Cert.DwInRefIdeal.main_arg1) = m' ((c.tc : Thread Cert.DwInRefIdeal.nD Cert.DwInRefIdeal.τ).loc Cert.DwInRefIdeal.main_arg1))

def preserves_AttnFwd_AttnFwdIdeal : Prop :=
  True

def algebraic_AttnFwdIdeal_AttnFwdRefIdeal [hAttnFwdIdeal : Cert.AttnFwdIdeal.Facts] [hAttnFwdRefIdeal : Cert.AttnFwdRefIdeal.Facts] : Prop :=
  ∀ (m : (ℓ : Loc Cert.AttnFwdIdeal.nD Cert.AttnFwdIdeal.τ Cert.AttnFwdIdeal.sig) → Buf (Elt Ideal) ℓ) (g : Dev Cert.AttnFwdIdeal.nD → PrngReg)
    (m' : (ℓ : Loc Cert.AttnFwdRefIdeal.nD Cert.AttnFwdRefIdeal.τ Cert.AttnFwdRefIdeal.sig) → Buf (Elt Ideal) ℓ) (g' : Dev Cert.AttnFwdRefIdeal.nD → PrngReg), Pre_AttnFwdIdeal m →
    (∀ c : Dev Cert.AttnFwdIdeal.nD,
      m' ((c.tc : Thread Cert.AttnFwdRefIdeal.nD Cert.AttnFwdRefIdeal.τ).loc Cert.AttnFwdRefIdeal.main_arg0) = m ((c.tc : Thread Cert.AttnFwdIdeal.nD Cert.AttnFwdIdeal.τ).loc Cert.AttnFwdIdeal.main_arg0)
      ∧ m' ((c.tc : Thread Cert.AttnFwdRefIdeal.nD Cert.AttnFwdRefIdeal.τ).loc Cert.AttnFwdRefIdeal.main_arg1) = m ((c.tc : Thread Cert.AttnFwdIdeal.nD Cert.AttnFwdIdeal.τ).loc Cert.AttnFwdIdeal.main_arg1)
      ∧ m' ((c.tc : Thread Cert.AttnFwdRefIdeal.nD Cert.AttnFwdRefIdeal.τ).loc Cert.AttnFwdRefIdeal.main_arg2) = m ((c.tc : Thread Cert.AttnFwdIdeal.nD Cert.AttnFwdIdeal.τ).loc Cert.AttnFwdIdeal.main_arg2)
      ∧ m' ((c.tc : Thread Cert.AttnFwdRefIdeal.nD Cert.AttnFwdRefIdeal.τ).loc Cert.AttnFwdRefIdeal.main_arg3) = m ((c.tc : Thread Cert.AttnFwdIdeal.nD Cert.AttnFwdIdeal.τ).loc Cert.AttnFwdIdeal.main_arg3)) →
    ∃ (v0 : (c : Dev Cert.AttnFwdIdeal.nD) → Buf (Elt Ideal) ((c.tc : Thread Cert.AttnFwdIdeal.nD Cert.AttnFwdIdeal.τ).loc Cert.AttnFwdIdeal.main_v23)),
      θ_run (Cert.AttnFwdIdeal.defs (F := Ideal)) (onTc (τ := Cert.AttnFwdIdeal.τ) (Cert.AttnFwdIdeal.main (F := Ideal))) ⟨m, fun _ => 0, g⟩ (fun r => ∀ c : Dev Cert.AttnFwdIdeal.nD,
          r.2.mem ((c.tc : Thread Cert.AttnFwdIdeal.nD Cert.AttnFwdIdeal.τ).loc Cert.AttnFwdIdeal.main_v23) = v0 c
          ∧ r.2.mem ((c.tc : Thread Cert.AttnFwdIdeal.nD Cert.AttnFwdIdeal.τ).loc Cert.AttnFwdIdeal.main_arg0) = m ((c.tc : Thread Cert.AttnFwdIdeal.nD Cert.AttnFwdIdeal.τ).loc Cert.AttnFwdIdeal.main_arg0)
          ∧ r.2.mem ((c.tc : Thread Cert.AttnFwdIdeal.nD Cert.AttnFwdIdeal.τ).loc Cert.AttnFwdIdeal.main_arg1) = m ((c.tc : Thread Cert.AttnFwdIdeal.nD Cert.AttnFwdIdeal.τ).loc Cert.AttnFwdIdeal.main_arg1)
          ∧ r.2.mem ((c.tc : Thread Cert.AttnFwdIdeal.nD Cert.AttnFwdIdeal.τ).loc Cert.AttnFwdIdeal.main_arg2) = m ((c.tc : Thread Cert.AttnFwdIdeal.nD Cert.AttnFwdIdeal.τ).loc Cert.AttnFwdIdeal.main_arg2)
          ∧ r.2.mem ((c.tc : Thread Cert.AttnFwdIdeal.nD Cert.AttnFwdIdeal.τ).loc Cert.AttnFwdIdeal.main_arg3) = m ((c.tc : Thread Cert.AttnFwdIdeal.nD Cert.AttnFwdIdeal.τ).loc Cert.AttnFwdIdeal.main_arg3))
      ∧ θ_run (Cert.AttnFwdRefIdeal.defs (F := Ideal)) (onTc (τ := Cert.AttnFwdRefIdeal.τ) (Cert.AttnFwdRefIdeal.main (F := Ideal))) ⟨m', fun _ => 0, g'⟩ (fun r => ∀ c : Dev Cert.AttnFwdRefIdeal.nD,
          r.2.mem ((c.tc : Thread Cert.AttnFwdRefIdeal.nD Cert.AttnFwdRefIdeal.τ).loc Cert.AttnFwdRefIdeal.main_v77) = v0 c
          ∧ r.2.mem ((c.tc : Thread Cert.AttnFwdRefIdeal.nD Cert.AttnFwdRefIdeal.τ).loc Cert.AttnFwdRefIdeal.main_arg0) = m' ((c.tc : Thread Cert.AttnFwdRefIdeal.nD Cert.AttnFwdRefIdeal.τ).loc Cert.AttnFwdRefIdeal.main_arg0)
          ∧ r.2.mem ((c.tc : Thread Cert.AttnFwdRefIdeal.nD Cert.AttnFwdRefIdeal.τ).loc Cert.AttnFwdRefIdeal.main_arg1) = m' ((c.tc : Thread Cert.AttnFwdRefIdeal.nD Cert.AttnFwdRefIdeal.τ).loc Cert.AttnFwdRefIdeal.main_arg1)
          ∧ r.2.mem ((c.tc : Thread Cert.AttnFwdRefIdeal.nD Cert.AttnFwdRefIdeal.τ).loc Cert.AttnFwdRefIdeal.main_arg2) = m' ((c.tc : Thread Cert.AttnFwdRefIdeal.nD Cert.AttnFwdRefIdeal.τ).loc Cert.AttnFwdRefIdeal.main_arg2)
          ∧ r.2.mem ((c.tc : Thread Cert.AttnFwdRefIdeal.nD Cert.AttnFwdRefIdeal.τ).loc Cert.AttnFwdRefIdeal.main_arg3) = m' ((c.tc : Thread Cert.AttnFwdRefIdeal.nD Cert.AttnFwdRefIdeal.τ).loc Cert.AttnFwdRefIdeal.main_arg3))

def Claim : Prop :=
  ∃ (hKernel : Cert.Kernel.Facts) (hKernelIdeal : Cert.KernelIdeal.Facts) (hReferenceIdeal : Cert.ReferenceIdeal.Facts) (hDAct : Cert.DAct.Facts) (hDActIdeal : Cert.DActIdeal.Facts) (hDActRefIdeal : Cert.DActRefIdeal.Facts) (hDwDown : Cert.DwDown.Facts) (hDwDownIdeal : Cert.DwDownIdeal.Facts) (hDwDownRefIdeal : Cert.DwDownRefIdeal.Facts) (hDUpIn : Cert.DUpIn.Facts) (hDUpInIdeal : Cert.DUpInIdeal.Facts) (hDUpInRefIdeal : Cert.DUpInRefIdeal.Facts) (hDMix : Cert.DMix.Facts) (hDMixIdeal : Cert.DMixIdeal.Facts) (hDMixRefIdeal : Cert.DMixRefIdeal.Facts) (hDwOut : Cert.DwOut.Facts) (hDwOutIdeal : Cert.DwOutIdeal.Facts) (hDwOutRefIdeal : Cert.DwOutRefIdeal.Facts) (hUp : Cert.Up.Facts) (hUpIdeal : Cert.UpIdeal.Facts) (hUpRefIdeal : Cert.UpRefIdeal.Facts) (hOut : Cert.Out.Facts) (hOutIdeal : Cert.OutIdeal.Facts) (hOutRefIdeal : Cert.OutRefIdeal.Facts) (hInProj : Cert.InProj.Facts) (hInProjIdeal : Cert.InProjIdeal.Facts) (hInProjRefIdeal : Cert.InProjRefIdeal.Facts) (hDInProj : Cert.DInProj.Facts) (hDInProjIdeal : Cert.DInProjIdeal.Facts) (hDInProjRefIdeal : Cert.DInProjRefIdeal.Facts) (hDown : Cert.Down.Facts) (hDownIdeal : Cert.DownIdeal.Facts) (hDownRefIdeal : Cert.DownRefIdeal.Facts) (hDwUpSib : Cert.DwUpSib.Facts) (hDwUpSibIdeal : Cert.DwUpSibIdeal.Facts) (hDwUpSibRefIdeal : Cert.DwUpSibRefIdeal.Facts) (hDwUpOwn : Cert.DwUpOwn.Facts) (hDwUpOwnIdeal : Cert.DwUpOwnIdeal.Facts) (hDwUpOwnRefIdeal : Cert.DwUpOwnRefIdeal.Facts) (hDwIn : Cert.DwIn.Facts) (hDwInIdeal : Cert.DwInIdeal.Facts) (hDwInRefIdeal : Cert.DwInRefIdeal.Facts) (hAttnFwd : Cert.AttnFwd.Facts) (hAttnFwdIdeal : Cert.AttnFwdIdeal.Facts) (hAttnFwdRefIdeal : Cert.AttnFwdRefIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_DAct (hDAct := hDAct)
    ∧ quiescent_DActIdeal (hDActIdeal := hDActIdeal)
    ∧ quiescent_DActRefIdeal (hDActRefIdeal := hDActRefIdeal)
    ∧ quiescent_DwDown (hDwDown := hDwDown)
    ∧ quiescent_DwDownIdeal (hDwDownIdeal := hDwDownIdeal)
    ∧ quiescent_DwDownRefIdeal (hDwDownRefIdeal := hDwDownRefIdeal)
    ∧ quiescent_DUpIn (hDUpIn := hDUpIn)
    ∧ quiescent_DUpInIdeal (hDUpInIdeal := hDUpInIdeal)
    ∧ quiescent_DUpInRefIdeal (hDUpInRefIdeal := hDUpInRefIdeal)
    ∧ quiescent_DMix (hDMix := hDMix)
    ∧ quiescent_DMixIdeal (hDMixIdeal := hDMixIdeal)
    ∧ quiescent_DMixRefIdeal (hDMixRefIdeal := hDMixRefIdeal)
    ∧ quiescent_DwOut (hDwOut := hDwOut)
    ∧ quiescent_DwOutIdeal (hDwOutIdeal := hDwOutIdeal)
    ∧ quiescent_DwOutRefIdeal (hDwOutRefIdeal := hDwOutRefIdeal)
    ∧ quiescent_Up (hUp := hUp)
    ∧ quiescent_UpIdeal (hUpIdeal := hUpIdeal)
    ∧ quiescent_UpRefIdeal (hUpRefIdeal := hUpRefIdeal)
    ∧ quiescent_Out (hOut := hOut)
    ∧ quiescent_OutIdeal (hOutIdeal := hOutIdeal)
    ∧ quiescent_OutRefIdeal (hOutRefIdeal := hOutRefIdeal)
    ∧ quiescent_InProj (hInProj := hInProj)
    ∧ quiescent_InProjIdeal (hInProjIdeal := hInProjIdeal)
    ∧ quiescent_InProjRefIdeal (hInProjRefIdeal := hInProjRefIdeal)
    ∧ quiescent_DInProj (hDInProj := hDInProj)
    ∧ quiescent_DInProjIdeal (hDInProjIdeal := hDInProjIdeal)
    ∧ quiescent_DInProjRefIdeal (hDInProjRefIdeal := hDInProjRefIdeal)
    ∧ quiescent_Down (hDown := hDown)
    ∧ quiescent_DownIdeal (hDownIdeal := hDownIdeal)
    ∧ quiescent_DownRefIdeal (hDownRefIdeal := hDownRefIdeal)
    ∧ quiescent_DwUpSib (hDwUpSib := hDwUpSib)
    ∧ quiescent_DwUpSibIdeal (hDwUpSibIdeal := hDwUpSibIdeal)
    ∧ quiescent_DwUpSibRefIdeal (hDwUpSibRefIdeal := hDwUpSibRefIdeal)
    ∧ quiescent_DwUpOwn (hDwUpOwn := hDwUpOwn)
    ∧ quiescent_DwUpOwnIdeal (hDwUpOwnIdeal := hDwUpOwnIdeal)
    ∧ quiescent_DwUpOwnRefIdeal (hDwUpOwnRefIdeal := hDwUpOwnRefIdeal)
    ∧ quiescent_DwIn (hDwIn := hDwIn)
    ∧ quiescent_DwInIdeal (hDwInIdeal := hDwInIdeal)
    ∧ quiescent_DwInRefIdeal (hDwInRefIdeal := hDwInRefIdeal)
    ∧ quiescent_AttnFwd (hAttnFwd := hAttnFwd)
    ∧ quiescent_AttnFwdIdeal (hAttnFwdIdeal := hAttnFwdIdeal)
    ∧ quiescent_AttnFwdRefIdeal (hAttnFwdRefIdeal := hAttnFwdRefIdeal)
    ∧ preserves_Kernel_KernelIdeal
    ∧ algebraic_KernelIdeal_ReferenceIdeal_pre_finite (hKernelIdeal := hKernelIdeal) (hReferenceIdeal := hReferenceIdeal) (hPre_finite := hPre_finite)
    ∧ preserves_DAct_DActIdeal
    ∧ algebraic_DActIdeal_DActRefIdeal (hDActIdeal := hDActIdeal) (hDActRefIdeal := hDActRefIdeal)
    ∧ preserves_DwDown_DwDownIdeal
    ∧ algebraic_DwDownIdeal_DwDownRefIdeal (hDwDownIdeal := hDwDownIdeal) (hDwDownRefIdeal := hDwDownRefIdeal)
    ∧ preserves_DUpIn_DUpInIdeal
    ∧ algebraic_DUpInIdeal_DUpInRefIdeal (hDUpInIdeal := hDUpInIdeal) (hDUpInRefIdeal := hDUpInRefIdeal)
    ∧ preserves_DMix_DMixIdeal
    ∧ algebraic_DMixIdeal_DMixRefIdeal (hDMixIdeal := hDMixIdeal) (hDMixRefIdeal := hDMixRefIdeal)
    ∧ preserves_DwOut_DwOutIdeal
    ∧ algebraic_DwOutIdeal_DwOutRefIdeal (hDwOutIdeal := hDwOutIdeal) (hDwOutRefIdeal := hDwOutRefIdeal)
    ∧ preserves_Up_UpIdeal
    ∧ algebraic_UpIdeal_UpRefIdeal (hUpIdeal := hUpIdeal) (hUpRefIdeal := hUpRefIdeal)
    ∧ preserves_Out_OutIdeal
    ∧ algebraic_OutIdeal_OutRefIdeal (hOutIdeal := hOutIdeal) (hOutRefIdeal := hOutRefIdeal)
    ∧ preserves_InProj_InProjIdeal
    ∧ algebraic_InProjIdeal_InProjRefIdeal (hInProjIdeal := hInProjIdeal) (hInProjRefIdeal := hInProjRefIdeal)
    ∧ preserves_DInProj_DInProjIdeal
    ∧ algebraic_DInProjIdeal_DInProjRefIdeal (hDInProjIdeal := hDInProjIdeal) (hDInProjRefIdeal := hDInProjRefIdeal)
    ∧ preserves_Down_DownIdeal
    ∧ algebraic_DownIdeal_DownRefIdeal (hDownIdeal := hDownIdeal) (hDownRefIdeal := hDownRefIdeal)
    ∧ preserves_DwUpSib_DwUpSibIdeal
    ∧ algebraic_DwUpSibIdeal_DwUpSibRefIdeal (hDwUpSibIdeal := hDwUpSibIdeal) (hDwUpSibRefIdeal := hDwUpSibRefIdeal)
    ∧ preserves_DwUpOwn_DwUpOwnIdeal
    ∧ algebraic_DwUpOwnIdeal_DwUpOwnRefIdeal (hDwUpOwnIdeal := hDwUpOwnIdeal) (hDwUpOwnRefIdeal := hDwUpOwnRefIdeal)
    ∧ preserves_DwIn_DwInIdeal
    ∧ algebraic_DwInIdeal_DwInRefIdeal (hDwInIdeal := hDwInIdeal) (hDwInRefIdeal := hDwInRefIdeal)
    ∧ preserves_AttnFwd_AttnFwdIdeal
    ∧ algebraic_AttnFwdIdeal_AttnFwdRefIdeal (hAttnFwdIdeal := hAttnFwdIdeal) (hAttnFwdRefIdeal := hAttnFwdRefIdeal)
-- ==== Pre_finite.lean ====
abbrev S4096x1024 : Shape := ⟨2, ![4096, 1024]⟩
abbrev S4096x256 : Shape := ⟨2, ![4096, 256]⟩
abbrev S8 : Shape := ⟨1, ![8]⟩
abbrev S4096x2048 : Shape := ⟨2, ![4096, 2048]⟩
abbrev S_ : Shape := ⟨0, ![]⟩

class Facts : Prop where
  bitsLt_bf16_f32 : FTy.bits .bf16 < FTy.bits .f32
  bcast_S_S4096x256 : S_.BroadcastsInDim S4096x256 (![] : Fin 0 → Fin S4096x256.rank)
  reducesTo_S4096x256_S_d0_1 : S4096x256.ReducesTo [0, 1] S_
  h_S_ : 0 < S_.numel
  slices_S4096x2048_S4096x1024_0_0 : S4096x2048.Slices ![0, 0] S4096x1024
  bcast_S_S4096x1024 : S_.BroadcastsInDim S4096x1024 (![] : Fin 0 → Fin S4096x1024.rank)
  reducesTo_S4096x1024_S_d0_1 : S4096x1024.ReducesTo [0, 1] S_

variable [Facts]

def fn {F : FTy → Type} [FloatOps F] (main_arg0 : FVec F S4096x1024 .bf16) (main_arg1 : FVec F S4096x256 .bf16) (main_arg2 : FVec F S4096x256 .bf16) (main_arg3 : FVec F S8 .f32) (main_arg4 : FVec F S4096x2048 .f32) : IVec S_ 1 :=
  let main_v0 : FVec F S4096x256 .f32 := (extf .f32 · bitsLt_bf16_f32) main_arg2
  let main_v1 : FVec F S4096x256 .f32 := Host.absf main_v0
  let main_cst : FVec F S_ .f32 := constant S_ .f32 0x7F800000#32
  let main_v2 : FVec F S4096x256 .f32 := broadcastInDim S4096x256 ![] bcast_S_S4096x256 main_cst
  let main_v3 : IVec S4096x256 1 := cmpf .olt main_v1 main_v2
  let main_c : IVec S_ 1 := constantI S_ 1 1#1
  let main_v4 : IVec S_ 1 := (fun x v => Host.reduce IntOp.andi x v reducesTo_S4096x256_S_d0_1 h_S_) main_v3 main_c
  let main_v5 : FVec F S4096x1024 .f32 := (extractStridedSlice S4096x1024 ![0, 0] · slices_S4096x2048_S4096x1024_0_0) main_arg4
  let main_v6 : FVec F S4096x1024 .f32 := Host.absf main_v5
  let main_cst_0 : FVec F S_ .f32 := constant S_ .f32 0x7F800000#32
  let main_v7 : FVec F S4096x1024 .f32 := broadcastInDim S4096x1024 ![] bcast_S_S4096x1024 main_cst_0
  let main_v8 : IVec S4096x1024 1 := cmpf .olt main_v6 main_v7
  let main_c_1 : IVec S_ 1 := constantI S_ 1 1#1
  let main_v9 : IVec S_ 1 := (fun x v => Host.reduce IntOp.andi x v reducesTo_S4096x1024_S_d0_1 h_S_) main_v8 main_c_1
  let main_v10 : IVec S_ 1 := andi main_v4 main_v9
  main_v10
-- ==== Kernel.lean ====
abbrev S4096x1024 : Shape := ⟨2, ![4096, 1024]⟩
abbrev S4096x256 : Shape := ⟨2, ![4096, 256]⟩
abbrev S8 : Shape := ⟨1, ![8]⟩
abbrev S4096x2048 : Shape := ⟨2, ![4096, 2048]⟩
abbrev S3x512x384 : Shape := ⟨3, ![3, 512, 384]⟩
abbrev S_ : Shape := ⟨0, ![]⟩
abbrev S2x8x128 : Shape := ⟨3, ![2, 8, 128]⟩
abbrev S1x512x384 : Shape := ⟨3, ![1, 512, 384]⟩
abbrev S128x512 : Shape := ⟨2, ![128, 512]⟩
abbrev S128x128 : Shape := ⟨2, ![128, 128]⟩
abbrev S1x8x128 : Shape := ⟨3, ![1, 8, 128]⟩
abbrev S384x128 : Shape := ⟨2, ![384, 128]⟩
abbrev S512x384 : Shape := ⟨2, ![512, 384]⟩
abbrev S512x128 : Shape := ⟨2, ![512, 128]⟩
abbrev S1 : Shape := ⟨1, ![1]⟩
abbrev S128x1 : Shape := ⟨2, ![128, 1]⟩
abbrev S512x1 : Shape := ⟨2, ![512, 1]⟩
abbrev S512 : Shape := ⟨1, ![512]⟩
abbrev S8x128 : Shape := ⟨2, ![8, 128]⟩
abbrev S1x128x1 : Shape := ⟨3, ![1, 128, 1]⟩
abbrev S1x1x1 : Shape := ⟨3, ![1, 1, 1]⟩

abbrev nBuf : Space → Nat
  | .hbm => 69
  | .vmem => 34
  | .smem => 1
  | _ => 0

abbrev bufTy : (tb : Table) → Fin (tcTables nBuf tb) → BufTy
  | .hbm, ⟨0, _⟩ => ⟨S4096x1024, .bf16⟩
  | .hbm, ⟨1, _⟩ => ⟨S4096x256, .bf16⟩
  | .hbm, ⟨2, _⟩ => ⟨S4096x256, .bf16⟩
  | .hbm, ⟨3, _⟩ => ⟨S8, .f32⟩
  | .hbm, ⟨4, _⟩ => ⟨S4096x2048, .f32⟩
  | .hbm, ⟨5, _⟩ => ⟨S3x512x384, .i32⟩
  | .hbm, ⟨6, _⟩ => ⟨S_, .i32⟩
  | .hbm, ⟨7, _⟩ => ⟨S_, .i32⟩
  | .hbm, ⟨8, _⟩ => ⟨S_, .i32⟩
  | .hbm, ⟨9, _⟩ => ⟨S_, .i1⟩
  | .hbm, ⟨10, _⟩ => ⟨S_, .i32⟩
  | .hbm, ⟨11, _⟩ => ⟨S_, .i32⟩
  | .hbm, ⟨12, _⟩ => ⟨S3x512x384, .i32⟩
  | .hbm, ⟨13, _⟩ => ⟨S3x512x384, .i32⟩
  | .hbm, ⟨14, _⟩ => ⟨S_, .i32⟩
  | .hbm, ⟨15, _⟩ => ⟨S3x512x384, .i32⟩
  | .hbm, ⟨16, _⟩ => ⟨S3x512x384, .i1⟩
  | .hbm, ⟨17, _⟩ => ⟨S_, .i32⟩
  | .hbm, ⟨18, _⟩ => ⟨S3x512x384, .i32⟩
  | .hbm, ⟨19, _⟩ => ⟨S3x512x384, .i1⟩
  | .hbm, ⟨20, _⟩ => ⟨S_, .i32⟩
  | .hbm, ⟨21, _⟩ => ⟨S_, .i1⟩
  | .hbm, ⟨22, _⟩ => ⟨S3x512x384, .i1⟩
  | .hbm, ⟨23, _⟩ => ⟨S3x512x384, .i1⟩
  | .hbm, ⟨24, _⟩ => ⟨S3x512x384, .i1⟩
  | .hbm, ⟨25, _⟩ => ⟨S3x512x384, .i32⟩
  | .hbm, ⟨26, _⟩ => ⟨S3x512x384, .i32⟩
  | .hbm, ⟨27, _⟩ => ⟨S3x512x384, .i32⟩
  | .hbm, ⟨28, _⟩ => ⟨S3x512x384, .i32⟩
  | .hbm, ⟨29, _⟩ => ⟨S3x512x384, .i32⟩
  | .hbm, ⟨30, _⟩ => ⟨S_, .i32⟩
  | .hbm, ⟨31, _⟩ => ⟨S3x512x384, .i32⟩
  | .hbm, ⟨32, _⟩ => ⟨S3x512x384, .i1⟩
  | .hbm, ⟨33, _⟩ => ⟨S_, .i32⟩
  | .hbm, ⟨34, _⟩ => ⟨S3x512x384, .i32⟩
  | .hbm, ⟨35, _⟩ => ⟨S3x512x384, .i1⟩
  | .hbm, ⟨36, _⟩ => ⟨S_, .i32⟩
  | .hbm, ⟨37, _⟩ => ⟨S3x512x384, .i32⟩
  | .hbm, ⟨38, _⟩ => ⟨S3x512x384, .i1⟩
  | .hbm, ⟨39, _⟩ => ⟨S_, .i32⟩
  | .hbm, ⟨40, _⟩ => ⟨S3x512x384, .i32⟩
  | .hbm, ⟨41, _⟩ => ⟨S3x512x384, .i1⟩
  | .hbm, ⟨42, _⟩ => ⟨S_, .i1⟩
  | .hbm, ⟨43, _⟩ => ⟨S3x512x384, .i1⟩
  | .hbm, ⟨44, _⟩ => ⟨S3x512x384, .i1⟩
  | .hbm, ⟨45, _⟩ => ⟨S3x512x384, .i1⟩
  | .hbm, ⟨46, _⟩ => ⟨S_, .i32⟩
  | .hbm, ⟨47, _⟩ => ⟨S3x512x384, .i32⟩
  | .hbm, ⟨48, _⟩ => ⟨S3x512x384, .i32⟩
  | .hbm, ⟨49, _⟩ => ⟨S3x512x384, .i32⟩
  | .hbm, ⟨50, _⟩ => ⟨S3x512x384, .i32⟩
  | .hbm, ⟨51, _⟩ => ⟨S_, .i32⟩
  | .hbm, ⟨52, _⟩ => ⟨S3x512x384, .i32⟩
  | .hbm, ⟨53, _⟩ => ⟨S3x512x384, .i1⟩
  | .hbm, ⟨54, _⟩ => ⟨S3x512x384, .i1⟩
  | .hbm, ⟨55, _⟩ => ⟨S_, .f32⟩
  | .hbm, ⟨56, _⟩ => ⟨S_, .f32⟩
  | .hbm, ⟨57, _⟩ => ⟨S3x512x384, .f32⟩
  | .hbm, ⟨58, _⟩ => ⟨S3x512x384, .f32⟩
  | .hbm, ⟨59, _⟩ => ⟨S3x512x384, .f32⟩
  | .hbm, ⟨60, _⟩ => ⟨S3x512x384, .f32⟩
  | .hbm, ⟨61, _⟩ => ⟨S4096x1024, .f32⟩
  | .hbm, ⟨62, _⟩ => ⟨S4096x256, .f32⟩
  | .hbm, ⟨63, _⟩ => ⟨S4096x256, .f32⟩
  | .hbm, ⟨64, _⟩ => ⟨S4096x256, .f32⟩
  | .hbm, ⟨65, _⟩ => ⟨S4096x256, .f32⟩
  | .hbm, ⟨66, _⟩ => ⟨S4096x256, .f32⟩
  | .hbm, ⟨67, _⟩ => ⟨S4096x256, .f32⟩
  | .hbm, ⟨68, _⟩ => ⟨S2x8x128, .f32⟩
  | .local _ .vmem, ⟨0, _⟩ => ⟨S1x512x384, .f32⟩
  | .local _ .vmem, ⟨1, _⟩ => ⟨S1x512x384, .f32⟩
  | .local _ .vmem, ⟨2, _⟩ => ⟨S128x512, .bf16⟩
  | .local _ .vmem, ⟨3, _⟩ => ⟨S128x512, .bf16⟩
  | .local _ .vmem, ⟨4, _⟩ => ⟨S128x128, .bf16⟩
  | .local _ .vmem, ⟨5, _⟩ => ⟨S128x128, .bf16⟩
  | .local _ .vmem, ⟨6, _⟩ => ⟨S128x128, .bf16⟩
  | .local _ .vmem, ⟨7, _⟩ => ⟨S128x128, .bf16⟩
  | .local _ .vmem, ⟨8, _⟩ => ⟨S128x128, .bf16⟩
  | .local _ .vmem, ⟨9, _⟩ => ⟨S128x128, .bf16⟩
  | .local _ .vmem, ⟨10, _⟩ => ⟨S128x128, .bf16⟩
  | .local _ .vmem, ⟨11, _⟩ => ⟨S128x128, .bf16⟩
  | .local _ .vmem, ⟨12, _⟩ => ⟨S128x128, .bf16⟩
  | .local _ .vmem, ⟨13, _⟩ => ⟨S128x128, .bf16⟩
  | .local _ .vmem, ⟨14, _⟩ => ⟨S128x128, .bf16⟩
  | .local _ .vmem, ⟨15, _⟩ => ⟨S128x128, .bf16⟩
  | .local _ .vmem, ⟨16, _⟩ => ⟨S128x512, .f32⟩
  | .local _ .vmem, ⟨17, _⟩ => ⟨S128x512, .f32⟩
  | .local _ .vmem, ⟨18, _⟩ => ⟨S128x512, .f32⟩
  | .local _ .vmem, ⟨19, _⟩ => ⟨S128x512, .f32⟩
  | .local _ .vmem, ⟨20, _⟩ => ⟨S128x128, .f32⟩
  | .local _ .vmem, ⟨21, _⟩ => ⟨S128x128, .f32⟩
  | .local _ .vmem, ⟨22, _⟩ => ⟨S128x128, .f32⟩
  | .local _ .vmem, ⟨23, _⟩ => ⟨S128x128, .f32⟩
  | .local _ .vmem, ⟨24, _⟩ => ⟨S128x128, .f32⟩
  | .local _ .vmem, ⟨25, _⟩ => ⟨S128x128, .f32⟩
  | .local _ .vmem, ⟨26, _⟩ => ⟨S128x128, .f32⟩
  | .local _ .vmem, ⟨27, _⟩ => ⟨S128x128, .f32⟩
  | .local _ .vmem, ⟨28, _⟩ => ⟨S128x128, .f32⟩
  | .local _ .vmem, ⟨29, _⟩ => ⟨S128x128, .f32⟩
  | .local _ .vmem, ⟨30, _⟩ => ⟨S128x128, .f32⟩
  | .local _ .vmem, ⟨31, _⟩ => ⟨S128x128, .f32⟩
  | .local _ .vmem, ⟨32, _⟩ => ⟨S1x8x128, .f32⟩
  | .local _ .vmem, ⟨33, _⟩ => ⟨S1x8x128, .f32⟩
  | .local _ .smem, ⟨0, _⟩ => ⟨S8, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .smem, ⟨0, _⟩ => true
  | _, _ => false

abbrev semScoped : Fin 0 → Bool
  | ⟨_, h⟩ => absurd h (Nat.not_lt_zero _)

abbrev dmaSemScoped : Fin 35 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | _ => false

abbrev sig : RefSig :=
  ofTc nBuf bufTy 0 35 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_c : Ref sig .tc := ⟨.hbm, 6, rfl⟩
abbrev main_call0_v0 : Ref sig .tc := ⟨.hbm, 7, rfl⟩
abbrev main_call0_c : Ref sig .tc := ⟨.hbm, 8, rfl⟩
abbrev main_call0_v1 : Ref sig .tc := ⟨.hbm, 9, rfl⟩
abbrev main_call0_c_0 : Ref sig .tc := ⟨.hbm, 10, rfl⟩
abbrev main_call0_v2 : Ref sig .tc := ⟨.hbm, 11, rfl⟩
abbrev main_call0_v3 : Ref sig .tc := ⟨.hbm, 12, rfl⟩
abbrev main_call0_v4 : Ref sig .tc := ⟨.hbm, 13, rfl⟩
abbrev main_call0_c_1 : Ref sig .tc := ⟨.hbm, 14, rfl⟩
abbrev main_call0_v5 : Ref sig .tc := ⟨.hbm, 15, rfl⟩
abbrev main_call0_v6 : Ref sig .tc := ⟨.hbm, 16, rfl⟩
abbrev main_call0_c_2 : Ref sig .tc := ⟨.hbm, 17, rfl⟩
abbrev main_call0_v7 : Ref sig .tc := ⟨.hbm, 18, rfl⟩
abbrev main_call0_v8 : Ref sig .tc := ⟨.hbm, 19, rfl⟩
abbrev main_call0_c_3 : Ref sig .tc := ⟨.hbm, 20, rfl⟩
abbrev main_call0_v9 : Ref sig .tc := ⟨.hbm, 21, rfl⟩
abbrev main_call0_v10 : Ref sig .tc := ⟨.hbm, 22, rfl⟩
abbrev main_call0_v11 : Ref sig .tc := ⟨.hbm, 23, rfl⟩
abbrev main_call0_v12 : Ref sig .tc := ⟨.hbm, 24, rfl⟩
abbrev main_call0_v13 : Ref sig .tc := ⟨.hbm, 25, rfl⟩
abbrev main_call0_v14 : Ref sig .tc := ⟨.hbm, 26, rfl⟩
abbrev main_v1 : Ref sig .tc := ⟨.hbm, 27, rfl⟩
abbrev main_v2 : Ref sig .tc := ⟨.hbm, 28, rfl⟩
abbrev main_v3 : Ref sig .tc := ⟨.hbm, 29, rfl⟩
abbrev main_c_0 : Ref sig .tc := ⟨.hbm, 30, rfl⟩
abbrev main_v4 : Ref sig .tc := ⟨.hbm, 31, rfl⟩
abbrev main_v5 : Ref sig .tc := ⟨.hbm, 32, rfl⟩
abbrev main_c_1 : Ref sig .tc := ⟨.hbm, 33, rfl⟩
abbrev main_v6 : Ref sig .tc := ⟨.hbm, 34, rfl⟩
abbrev main_v7 : Ref sig .tc := ⟨.hbm, 35, rfl⟩
abbrev main_c_2 : Ref sig .tc := ⟨.hbm, 36, rfl⟩
abbrev main_v8 : Ref sig .tc := ⟨.hbm, 37, rfl⟩
abbrev main_v9 : Ref sig .tc := ⟨.hbm, 38, rfl⟩
abbrev main_c_3 : Ref sig .tc := ⟨.hbm, 39, rfl⟩
abbrev main_v10 : Ref sig .tc := ⟨.hbm, 40, rfl⟩
abbrev main_v11 : Ref sig .tc := ⟨.hbm, 41, rfl⟩
abbrev main_c_4 : Ref sig .tc := ⟨.hbm, 42, rfl⟩
abbrev main_call1_v0 : Ref sig .tc := ⟨.hbm, 43, rfl⟩
abbrev main_v12 : Ref sig .tc := ⟨.hbm, 44, rfl⟩
abbrev main_v13 : Ref sig .tc := ⟨.hbm, 45, rfl⟩
abbrev main_c_5 : Ref sig .tc := ⟨.hbm, 46, rfl⟩
abbrev main_v14 : Ref sig .tc := ⟨.hbm, 47, rfl⟩
abbrev main_v15 : Ref sig .tc := ⟨.hbm, 48, rfl⟩
abbrev main_v16 : Ref sig .tc := ⟨.hbm, 49, rfl⟩
abbrev main_v17 : Ref sig .tc := ⟨.hbm, 50, rfl⟩
abbrev main_c_6 : Ref sig .tc := ⟨.hbm, 51, rfl⟩
abbrev main_v18 : Ref sig .tc := ⟨.hbm, 52, rfl⟩
abbrev main_v19 : Ref sig .tc := ⟨.hbm, 53, rfl⟩
abbrev main_v20 : Ref sig .tc := ⟨.hbm, 54, rfl⟩
abbrev main_cst : Ref sig .tc := ⟨.hbm, 55, rfl⟩
abbrev main_cst_7 : Ref sig .tc := ⟨.hbm, 56, rfl⟩
abbrev main_call3_v0 : Ref sig .tc := ⟨.hbm, 57, rfl⟩
abbrev main_call3_v1 : Ref sig .tc := ⟨.hbm, 58, rfl⟩
abbrev main_v21 : Ref sig .tc := ⟨.hbm, 59, rfl⟩
abbrev main_v22 : Ref sig .tc := ⟨.hbm, 60, rfl⟩
abbrev main_v23_0 : Ref sig .tc := ⟨.hbm, 61, rfl⟩
abbrev main_v23_1 : Ref sig .tc := ⟨.hbm, 62, rfl⟩
abbrev main_v23_2 : Ref sig .tc := ⟨.hbm, 63, rfl⟩
abbrev main_v23_3 : Ref sig .tc := ⟨.hbm, 64, rfl⟩
abbrev main_v23_4 : Ref sig .tc := ⟨.hbm, 65, rfl⟩
abbrev main_v23_5 : Ref sig .tc := ⟨.hbm, 66, rfl⟩
abbrev main_v23_6 : Ref sig .tc := ⟨.hbm, 67, rfl⟩
abbrev main_v23_7 : Ref sig .tc := ⟨.hbm, 68, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg11_1 : Ref sig .tc := ⟨.vmem, 21, rfl⟩
abbrev cc0_stg12_0 : Ref sig .tc := ⟨.vmem, 22, rfl⟩
abbrev cc0_stg12_1 : Ref sig .tc := ⟨.vmem, 23, rfl⟩
abbrev cc0_stg13_0 : Ref sig .tc := ⟨.vmem, 24, rfl⟩
abbrev cc0_stg13_1 : Ref sig .tc := ⟨.vmem, 25, rfl⟩
abbrev cc0_stg14_0 : Ref sig .tc := ⟨.vmem, 26, rfl⟩
abbrev cc0_stg14_1 : Ref sig .tc := ⟨.vmem, 27, rfl⟩
abbrev cc0_stg15_0 : Ref sig .tc := ⟨.vmem, 28, rfl⟩
abbrev cc0_stg15_1 : Ref sig .tc := ⟨.vmem, 29, rfl⟩
abbrev cc0_stg16_0 : Ref sig .tc := ⟨.vmem, 30, rfl⟩
abbrev cc0_stg16_1 : Ref sig .tc := ⟨.vmem, 31, rfl⟩
abbrev cc0_stg17_0 : Ref sig .tc := ⟨.vmem, 32, rfl⟩
abbrev cc0_stg17_1 : Ref sig .tc := ⟨.vmem, 33, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19
abbrev cc0_sem10_1 : DmaSem sig := 20
abbrev cc0_sem11_0 : DmaSem sig := 21
abbrev cc0_sem11_1 : DmaSem sig := 22
abbrev cc0_sem12_0 : DmaSem sig := 23
abbrev cc0_sem12_1 : DmaSem sig := 24
abbrev cc0_sem13_0 : DmaSem sig := 25
abbrev cc0_sem13_1 : DmaSem sig := 26
abbrev cc0_sem14_0 : DmaSem sig := 27
abbrev cc0_sem14_1 : DmaSem sig := 28
abbrev cc0_sem15_0 : DmaSem sig := 29
abbrev cc0_sem15_1 : DmaSem sig := 30
abbrev cc0_sem16_0 : DmaSem sig := 31
abbrev cc0_sem16_1 : DmaSem sig := 32
abbrev cc0_sem17_0 : DmaSem sig := 33
abbrev cc0_sem17_1 : DmaSem sig := 34

abbrev nD : Nat := 1
abbrev τ : Topo := Topo.v7x

variable {F : FTy → Type} [FloatOps F]

abbrev grid0 : Pipeline.Grid := ⟨2, ![2, 32], ![false, false]⟩

def k0_off1 (i : grid0.Coords) (c0_i32 : BitVec 32) : Fin 1 → Nat :=
  let arg0 : BitVec 32 := BitVec.ofNat 32 (i 0).val
  let c4_i32 : BitVec 32 := 4#32
  let v18 : BitVec 32 := Scalar.muli arg0 c4_i32
  let v19 : BitVec 32 := Scalar.addi v18 c0_i32
  let v20 : Index := Scalar.indexCast v19
  ![v20.toNat]
def cc0_transform_0 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg1 c0_i32
  let c31_i32 : BitVec 32 := 31#32
  let v1 : BitVec 1 := Scalar.cmpi .eq arg1 c31_i32
  let c2_i32 : BitVec 32 := 2#32
  let c1_i32 : BitVec 32 := 1#32
  let v2 : BitVec 32 := Scalar.select v1 c2_i32 c1_i32
  let c0_i32_0 : BitVec 32 := 0#32
  let v3 : BitVec 32 := Scalar.select v0 c0_i32_0 v2
  let c0_i32_1 : BitVec 32 := 0#32
  let c0_i32_2 : BitVec 32 := 0#32
  let c0_i32_3 : BitVec 32 := 0#32
  ![v3.toNat, c0_i32_1.toNat, c0_i32_2.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.subi arg1 c1_i32
  let c0_i32 : BitVec 32 := 0#32
  let v1 : BitVec 32 := Scalar.maxsi v0 c0_i32
  let c0_i32_0 : BitVec 32 := 0#32
  ![v1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c31_i32 : BitVec 32 := 31#32
  let v1 : BitVec 32 := Scalar.minsi v0 c31_i32
  let c0_i32 : BitVec 32 := 0#32
  ![v1.toNat, arg0.toNat]

def cc0_transform_6 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.subi arg1 c1_i32
  let c0_i32 : BitVec 32 := 0#32
  let v1 : BitVec 32 := Scalar.maxsi v0 c0_i32
  let c0_i32_0 : BitVec 32 := 0#32
  ![v1.toNat, arg0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_8 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c31_i32 : BitVec 32 := 31#32
  let v1 : BitVec 32 := Scalar.minsi v0 c31_i32
  let c0_i32 : BitVec 32 := 0#32
  ![v1.toNat, arg0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_15 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_16 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_17 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .smem S8 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x512x384 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S128x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S128x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S128x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S128x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S128x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S128x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S128x128 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S128x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S128x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S128x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S128x128 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S128x128 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S128x128 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]

abbrev stage0_15 : Fin 2 → Memref sig .tc .vmem S128x128 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]

abbrev stage0_16 : Fin 2 → Memref sig .tc .vmem S128x128 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, true]

abbrev stage0_17 : Fin 2 → Memref sig .tc .vmem S1x8x128 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true, false]
-- ==== ReferenceIdeal.lean ====
abbrev S4096x1024 : Shape := ⟨2, ![4096, 1024]⟩
abbrev S4096x256 : Shape := ⟨2, ![4096, 256]⟩
abbrev S8 : Shape := ⟨1, ![8]⟩
abbrev S4096x2048 : Shape := ⟨2, ![4096, 2048]⟩
abbrev S1x4096x8x128 : Shape := ⟨4, ![1, 4096, 8, 128]⟩
abbrev S1x4096x2x128 : Shape := ⟨4, ![1, 4096, 2, 128]⟩
abbrev S_ : Shape := ⟨0, ![]⟩
abbrev S1x4352x2x128 : Shape := ⟨4, ![1, 4352, 2, 128]⟩
abbrev S1x34x128x2x128 : Shape := ⟨5, ![1, 34, 128, 2, 128]⟩
abbrev S1x32x128x2x128 : Shape := ⟨5, ![1, 32, 128, 2, 128]⟩
abbrev S1x32x384x2x128 : Shape := ⟨5, ![1, 32, 384, 2, 128]⟩
abbrev S1x4096x1024 : Shape := ⟨3, ![1, 4096, 1024]⟩
abbrev S1x32x128x2x4x128 : Shape := ⟨6, ![1, 32, 128, 2, 4, 128]⟩
abbrev S1x2x32x384x128x4 : Shape := ⟨6, ![1, 2, 32, 384, 128, 4]⟩
abbrev S1x2x4x32x128x384 : Shape := ⟨6, ![1, 2, 4, 32, 128, 384]⟩
abbrev S128 : Shape := ⟨1, ![128]⟩
abbrev S128x1 : Shape := ⟨2, ![128, 1]⟩
abbrev S384 : Shape := ⟨1, ![384]⟩
abbrev S1x384 : Shape := ⟨2, ![1, 384]⟩
abbrev S128x384 : Shape := ⟨2, ![128, 384]⟩
abbrev S32 : Shape := ⟨1, ![32]⟩
abbrev S32x1x1 : Shape := ⟨3, ![32, 1, 1]⟩
abbrev S1x1x384 : Shape := ⟨3, ![1, 1, 384]⟩
abbrev S32x1x384 : Shape := ⟨3, ![32, 1, 384]⟩
abbrev S1x128x384 : Shape := ⟨3, ![1, 128, 384]⟩
abbrev S32x128x384 : Shape := ⟨3, ![32, 128, 384]⟩
abbrev S2x4 : Shape := ⟨2, ![2, 4]⟩
abbrev S1x2x4x1x1x1 : Shape := ⟨6, ![1, 2, 4, 1, 1, 1]⟩
abbrev S1x2x4x32x128 : Shape := ⟨5, ![1, 2, 4, 32, 128]⟩
abbrev S1x2x4x32x128x1 : Shape := ⟨6, ![1, 2, 4, 32, 128, 1]⟩
abbrev S1x32x2x128x4x128 : Shape := ⟨6, ![1, 32, 2, 128, 4, 128]⟩
abbrev S1x32x2x4x128x384 : Shape := ⟨6, ![1, 32, 2, 4, 128, 384]⟩
abbrev S1x32x2x128x384 : Shape := ⟨5, ![1, 32, 2, 128, 384]⟩
abbrev S1x2x4x1 : Shape := ⟨4, ![1, 2, 4, 1]⟩
abbrev S2x4x32x128 : Shape := ⟨4, ![2, 4, 32, 128]⟩
abbrev S1x2x32x128x4x128 : Shape := ⟨6, ![1, 2, 32, 128, 4, 128]⟩
abbrev S1x2x32x384x128 : Shape := ⟨5, ![1, 2, 32, 384, 128]⟩
abbrev S2x4x1 : Shape := ⟨3, ![2, 4, 1]⟩
abbrev S2x8x1 : Shape := ⟨3, ![2, 8, 1]⟩
abbrev S2x8x128 : Shape := ⟨3, ![2, 8, 128]⟩

abbrev nBuf : Space → Nat
  | .hbm => 213
  | .vmem => 0
  | .smem => 0
  | _ => 0

abbrev hbmTy0_0 (i : Nat) : BufTy := match i % 128 with
  | 0 => ⟨S4096x1024, .bf16⟩
  | 1 => ⟨S4096x256, .bf16⟩
  | 2 => ⟨S4096x256, .bf16⟩
  | 3 => ⟨S8, .f32⟩
  | 4 => ⟨S4096x2048, .f32⟩
  | 5 => ⟨S4096x1024, .f32⟩
  | 6 => ⟨S1x4096x8x128, .f32⟩
  | 7 => ⟨S4096x256, .f32⟩
  | 8 => ⟨S1x4096x2x128, .f32⟩
  | 9 => ⟨S_, .i32⟩
  | 10 => ⟨S_, .f32⟩
  | 11 => ⟨S1x4352x2x128, .f32⟩
  | 12 => ⟨S1x34x128x2x128, .f32⟩
  | 13 => ⟨S1x32x128x2x128, .f32⟩
  | 14 => ⟨S1x32x128x2x128, .f32⟩
  | 15 => ⟨S1x32x128x2x128, .f32⟩
  | 16 => ⟨S1x32x384x2x128, .f32⟩
  | 17 => ⟨S4096x256, .f32⟩
  | 18 => ⟨S1x4096x2x128, .f32⟩
  | 19 => ⟨S_, .i32⟩
  | 20 => ⟨S_, .f32⟩
  | 21 => ⟨S1x4352x2x128, .f32⟩
  | 22 => ⟨S1x34x128x2x128, .f32⟩
  | 23 => ⟨S1x32x128x2x128, .f32⟩
  | 24 => ⟨S1x32x128x2x128, .f32⟩
  | 25 => ⟨S1x32x128x2x128, .f32⟩
  | 26 => ⟨S1x32x384x2x128, .f32⟩
  | 27 => ⟨S4096x1024, .f32⟩
  | 28 => ⟨S1x4096x1024, .f32⟩
  | 29 => ⟨S1x32x128x2x4x128, .f32⟩
  | 30 => ⟨S1x2x32x384x128x4, .f32⟩
  | 31 => ⟨S1x2x4x32x128x384, .f32⟩
  | 32 => ⟨S_, .f32⟩
  | 33 => ⟨S1x2x4x32x128x384, .f32⟩
  | 34 => ⟨S1x2x4x32x128x384, .f32⟩
  | 35 => ⟨S128, .i32⟩
  | 36 => ⟨S128x1, .i32⟩
  | 37 => ⟨S384, .i32⟩
  | 38 => ⟨S1x384, .i32⟩
  | 39 => ⟨S_, .i32⟩
  | 40 => ⟨S1x384, .i32⟩
  | 41 => ⟨S1x384, .i32⟩
  | 42 => ⟨S128x384, .i32⟩
  | 43 => ⟨S128x384, .i32⟩
  | 44 => ⟨S128x384, .i32⟩
  | 45 => ⟨S32, .i32⟩
  | 46 => ⟨S32x1x1, .i32⟩
  | 47 => ⟨S_, .i32⟩
  | 48 => ⟨S32x1x1, .i32⟩
  | 49 => ⟨S32x1x1, .i32⟩
  | 50 => ⟨S_, .i32⟩
  | 51 => ⟨S32x1x1, .i32⟩
  | 52 => ⟨S32x1x1, .i32⟩
  | 53 => ⟨S1x1x384, .i32⟩
  | 54 => ⟨S32x1x384, .i32⟩
  | 55 => ⟨S32x1x384, .i32⟩
  | 56 => ⟨S32x1x384, .i32⟩
  | 57 => ⟨S128x384, .i32⟩
  | 58 => ⟨S_, .i32⟩
  | 59 => ⟨S128x384, .i32⟩
  | 60 => ⟨S128x384, .i1⟩
  | 61 => ⟨S1x128x384, .i1⟩
  | 62 => ⟨S_, .i32⟩
  | 63 => ⟨S32x1x384, .i32⟩
  | 64 => ⟨S32x1x384, .i1⟩
  | 65 => ⟨S32x128x384, .i1⟩
  | 66 => ⟨S32x128x384, .i1⟩
  | 67 => ⟨S32x128x384, .i1⟩
  | 68 => ⟨S_, .i32⟩
  | 69 => ⟨S32x1x384, .i32⟩
  | 70 => ⟨S32x1x384, .i1⟩
  | 71 => ⟨S32x128x384, .i1⟩
  | 72 => ⟨S32x128x384, .i1⟩
  | 73 => ⟨S_, .f32⟩
  | 74 => ⟨S_, .f32⟩
  | 75 => ⟨S1x2x4x32x128x384, .i1⟩
  | 76 => ⟨S1x2x4x32x128x384, .f32⟩
  | 77 => ⟨S1x2x4x32x128x384, .f32⟩
  | 78 => ⟨S_, .f32⟩
  | 79 => ⟨S1x2x4x32x128x384, .f32⟩
  | 80 => ⟨S2x4, .f32⟩
  | 81 => ⟨S1x2x4x1x1x1, .f32⟩
  | 82 => ⟨S_, .f32⟩
  | 83 => ⟨S1x2x4x32x128, .f32⟩
  | 84 => ⟨S1x2x4x32x128x1, .f32⟩
  | 85 => ⟨S1x2x4x32x128x384, .f32⟩
  | 86 => ⟨S1x2x4x32x128x384, .i1⟩
  | 87 => ⟨S1x2x4x32x128x384, .f32⟩
  | 88 => ⟨S_, .f32⟩
  | 89 => ⟨S1x2x4x32x128, .f32⟩
  | 90 => ⟨S1x2x4x32x128x1, .f32⟩
  | 91 => ⟨S1x2x4x32x128x1, .f32⟩
  | 92 => ⟨S1x2x4x32x128x1, .f32⟩
  | 93 => ⟨S1x2x4x32x128x1, .f32⟩
  | 94 => ⟨S1x2x4x32x128x1, .i1⟩
  | 95 => ⟨S1x2x4x32x128x1, .f32⟩
  | 96 => ⟨S1x2x4x32x128x1, .i1⟩
  | 97 => ⟨S_, .f32⟩
  | 98 => ⟨S1x2x4x32x128x1, .f32⟩
  | 99 => ⟨S_, .f32⟩
  | 100 => ⟨S1x2x4x32x128x1, .f32⟩
  | 101 => ⟨S_, .f32⟩
  | 102 => ⟨S1x2x4x32x128x1, .f32⟩
  | 103 => ⟨S1x2x4x32x128x1, .f32⟩
  | 104 => ⟨S1x2x4x32x128x1, .f32⟩
  | 105 => ⟨S1x2x4x32x128x1, .f32⟩
  | 106 => ⟨S1x2x4x32x128x1, .i1⟩
  | 107 => ⟨S1x2x4x32x128x1, .f32⟩
  | 108 => ⟨S1x2x4x32x128x1, .i1⟩
  | 109 => ⟨S_, .f32⟩
  | 110 => ⟨S1x2x4x32x128x1, .f32⟩
  | 111 => ⟨S_, .f32⟩
  | 112 => ⟨S1x2x4x32x128x1, .f32⟩
  | 113 => ⟨S_, .f32⟩
  | 114 => ⟨S1x2x4x32x128x1, .f32⟩
  | 115 => ⟨S1x2x4x32x128x1, .f32⟩
  | 116 => ⟨S1x2x4x32x128x1, .f32⟩
  | 117 => ⟨S1x2x4x32x128x384, .f32⟩
  | 118 => ⟨S1x2x4x32x128x384, .f32⟩
  | 119 => ⟨S1x2x4x32x128x384, .f32⟩
  | 120 => ⟨S_, .f32⟩
  | 121 => ⟨S1x2x4x32x128, .f32⟩
  | 122 => ⟨S1x2x4x32x128x1, .f32⟩
  | 123 => ⟨S1x2x4x32x128x1, .f32⟩
  | 124 => ⟨S1x2x4x32x128x1, .f32⟩
  | 125 => ⟨S1x2x4x32x128x1, .f32⟩
  | 126 => ⟨S1x2x4x32x128x1, .f32⟩
  | 127 => ⟨S1x2x4x32x128x384, .f32⟩
  | _ => ⟨S4096x1024, .bf16⟩

abbrev hbmTy0_1 (i : Nat) : BufTy := match i % 128 with
  | 0 => ⟨S1x2x4x32x128x384, .f32⟩
  | 1 => ⟨S1x2x4x32x128x1, .f32⟩
  | 2 => ⟨S_, .f32⟩
  | 3 => ⟨S1x2x4x32x128x1, .f32⟩
  | 4 => ⟨S1x2x4x32x128x1, .f32⟩
  | 5 => ⟨S1x32x2x128x4x128, .f32⟩
  | 6 => ⟨S1x32x128x2x4x128, .f32⟩
  | 7 => ⟨S1x4096x1024, .f32⟩
  | 8 => ⟨S1x32x128x2x4x128, .f32⟩
  | 9 => ⟨S1x32x2x128x4x128, .f32⟩
  | 10 => ⟨S1x32x2x4x128x384, .f32⟩
  | 11 => ⟨S1x2x4x32x128x384, .f32⟩
  | 12 => ⟨S1x32x2x128x384, .f32⟩
  | 13 => ⟨S1x32x384x2x128, .f32⟩
  | 14 => ⟨S1x2x4x32x128x384, .f32⟩
  | 15 => ⟨S1x2x4x32x128x384, .f32⟩
  | 16 => ⟨S1x2x4x32x128x384, .f32⟩
  | 17 => ⟨S_, .f32⟩
  | 18 => ⟨S1x2x4x32x128, .f32⟩
  | 19 => ⟨S1x2x4x32x128x1, .f32⟩
  | 20 => ⟨S1x2x4x32x128x1, .f32⟩
  | 21 => ⟨S1x2x4x32x128x384, .f32⟩
  | 22 => ⟨S1x2x4x32x128x384, .f32⟩
  | 23 => ⟨S1x2x4x32x128x1, .f32⟩
  | 24 => ⟨S_, .f32⟩
  | 25 => ⟨S1x2x4x1, .f32⟩
  | 26 => ⟨S1x2x4x1x1x1, .f32⟩
  | 27 => ⟨S1x2x4x32x128x1, .f32⟩
  | 28 => ⟨S_, .f32⟩
  | 29 => ⟨S2x4x32x128, .f32⟩
  | 30 => ⟨S1x2x4x32x128, .f32⟩
  | 31 => ⟨S1x2x4x32x128x384, .f32⟩
  | 32 => ⟨S1x2x4x32x128x384, .f32⟩
  | 33 => ⟨S1x2x4x32x128x384, .f32⟩
  | 34 => ⟨S1x2x4x32x128x384, .f32⟩
  | 35 => ⟨S_, .f32⟩
  | 36 => ⟨S1x2x4x32x128, .f32⟩
  | 37 => ⟨S1x2x4x32x128x1, .f32⟩
  | 38 => ⟨S1x2x4x32x128x1, .f32⟩
  | 39 => ⟨S1x2x4x32x128x1, .f32⟩
  | 40 => ⟨S_, .f32⟩
  | 41 => ⟨S1x2x4x1, .f32⟩
  | 42 => ⟨S1x2x4x1x1x1, .f32⟩
  | 43 => ⟨S1x2x4x1x1x1, .f32⟩
  | 44 => ⟨S1x2x4x32x128x1, .f32⟩
  | 45 => ⟨S_, .f32⟩
  | 46 => ⟨S2x4x32x128, .f32⟩
  | 47 => ⟨S1x2x4x32x128, .f32⟩
  | 48 => ⟨S1x2x4x32x128, .f32⟩
  | 49 => ⟨S1x2x4x32x128x384, .f32⟩
  | 50 => ⟨S1x2x4x32x128x384, .f32⟩
  | 51 => ⟨S1x2x4x32x128x384, .f32⟩
  | 52 => ⟨S_, .f32⟩
  | 53 => ⟨S2x4, .f32⟩
  | 54 => ⟨S8, .f32⟩
  | 55 => ⟨S_, .f32⟩
  | 56 => ⟨S1x2x4x32x128x384, .f32⟩
  | 57 => ⟨S1x2x4x32x128x384, .f32⟩
  | 58 => ⟨S_, .f32⟩
  | 59 => ⟨S1x2x4x32x128x384, .f32⟩
  | 60 => ⟨S1x2x4x32x128x384, .f32⟩
  | 61 => ⟨S1x2x32x384x128x4, .f32⟩
  | 62 => ⟨S1x2x32x128x4x128, .f32⟩
  | 63 => ⟨S1x32x128x2x4x128, .f32⟩
  | 64 => ⟨S1x2x32x384x128, .f32⟩
  | 65 => ⟨S1x32x384x2x128, .f32⟩
  | 66 => ⟨S1x4096x8x128, .f32⟩
  | 67 => ⟨S1x32x128x2x128, .f32⟩
  | 68 => ⟨S4096x256, .f32⟩
  | 69 => ⟨S1x32x128x2x128, .f32⟩
  | 70 => ⟨S4096x256, .f32⟩
  | 71 => ⟨S1x32x128x2x128, .f32⟩
  | 72 => ⟨S4096x256, .f32⟩
  | 73 => ⟨S1x32x128x2x128, .f32⟩
  | 74 => ⟨S4096x256, .f32⟩
  | 75 => ⟨S1x32x128x2x128, .f32⟩
  | 76 => ⟨S4096x256, .f32⟩
  | 77 => ⟨S1x32x128x2x128, .f32⟩
  | 78 => ⟨S4096x256, .f32⟩
  | 79 => ⟨S2x4x1, .f32⟩
  | 80 => ⟨S_, .f32⟩
  | 81 => ⟨S2x4x1, .f32⟩
  | 82 => ⟨S2x8x1, .f32⟩
  | 83 => ⟨S4096x1024, .f32⟩
  | 84 => ⟨S2x8x128, .f32⟩
  | _ => ⟨S4096x1024, .bf16⟩

abbrev hbmTy (i : Nat) : BufTy := match i / 128 with
  | 0 => hbmTy0_0 i
  | 1 => hbmTy0_1 i
  | _ => ⟨S4096x1024, .bf16⟩

abbrev bufTy : (tb : Table) → Fin (tcTables nBuf tb) → BufTy
  | .hbm, ⟨i, _⟩ => hbmTy i
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_c : Ref sig .tc := ⟨.hbm, 9, rfl⟩
abbrev main_call0_v0 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_c_0 : Ref sig .tc := ⟨.hbm, 19, rfl⟩
abbrev main_call1_v0 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_cst : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_c_1 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_c_2 : Ref sig .tc := ⟨.hbm, 47, rfl⟩
abbrev main_v36 : Ref sig .tc := ⟨.hbm, 48, rfl⟩
abbrev main_v37 : Ref sig .tc := ⟨.hbm, 49, rfl⟩
abbrev main_c_3 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_c_4 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_c_5 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_c_6 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_cst_7 : Ref sig .tc := ⟨.hbm, 73, rfl⟩
abbrev main_call2_v0 : Ref sig .tc := ⟨.hbm, 74, rfl⟩
abbrev main_v57_1 : Ref sig .tc := ⟨.hbm, 75, rfl⟩
abbrev main_call2_v2 : Ref sig .tc := ⟨.hbm, 76, rfl⟩
abbrev main_v57_0 : Ref sig .tc := ⟨.hbm, 77, rfl⟩
abbrev main_call2_cst : Ref sig .tc := ⟨.hbm, 78, rfl⟩
abbrev main_v57_2 : Ref sig .tc := ⟨.hbm, 79, rfl⟩
abbrev main_v58 : Ref sig .tc := ⟨.hbm, 80, rfl⟩
abbrev main_v59 : Ref sig .tc := ⟨.hbm, 81, rfl⟩
abbrev main_cst_8 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_cst_9 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩
abbrev main_v70 : Ref sig .tc := ⟨.hbm, 94, rfl⟩
abbrev main_v71 : Ref sig .tc := ⟨.hbm, 95, rfl⟩
abbrev main_v72 : Ref sig .tc := ⟨.hbm, 96, rfl⟩
abbrev main_cst_10 : Ref sig .tc := ⟨.hbm, 97, rfl⟩
abbrev main_v73 : Ref sig .tc := ⟨.hbm, 98, rfl⟩
abbrev main_cst_11 : Ref sig .tc := ⟨.hbm, 99, rfl⟩
abbrev main_v74 : Ref sig .tc := ⟨.hbm, 100, rfl⟩
abbrev main_cst_12 : Ref sig .tc := ⟨.hbm, 101, rfl⟩
abbrev main_v75 : Ref sig .tc := ⟨.hbm, 102, rfl⟩
abbrev main_v76 : Ref sig .tc := ⟨.hbm, 103, rfl⟩
abbrev main_v77 : Ref sig .tc := ⟨.hbm, 104, rfl⟩
abbrev main_v78 : Ref sig .tc := ⟨.hbm, 105, rfl⟩
abbrev main_v79 : Ref sig .tc := ⟨.hbm, 106, rfl⟩
abbrev main_v80 : Ref sig .tc := ⟨.hbm, 107, rfl⟩
abbrev main_v81 : Ref sig .tc := ⟨.hbm, 108, rfl⟩
abbrev main_cst_13 : Ref sig .tc := ⟨.hbm, 109, rfl⟩
abbrev main_v82 : Ref sig .tc := ⟨.hbm, 110, rfl⟩
abbrev main_cst_14 : Ref sig .tc := ⟨.hbm, 111, rfl⟩
abbrev main_v83 : Ref sig .tc := ⟨.hbm, 112, rfl⟩
abbrev main_cst_15 : Ref sig .tc := ⟨.hbm, 113, rfl⟩
abbrev main_v84 : Ref sig .tc := ⟨.hbm, 114, rfl⟩
abbrev main_v85 : Ref sig .tc := ⟨.hbm, 115, rfl⟩
abbrev main_v86 : Ref sig .tc := ⟨.hbm, 116, rfl⟩
abbrev main_v87 : Ref sig .tc := ⟨.hbm, 117, rfl⟩
abbrev main_v88 : Ref sig .tc := ⟨.hbm, 118, rfl⟩
abbrev main_v89 : Ref sig .tc := ⟨.hbm, 119, rfl⟩
abbrev main_cst_16 : Ref sig .tc := ⟨.hbm, 120, rfl⟩
abbrev main_v90 : Ref sig .tc := ⟨.hbm, 121, rfl⟩
abbrev main_v91 : Ref sig .tc := ⟨.hbm, 122, rfl⟩
abbrev main_v92 : Ref sig .tc := ⟨.hbm, 123, rfl⟩
abbrev main_v93 : Ref sig .tc := ⟨.hbm, 124, rfl⟩
abbrev main_v94 : Ref sig .tc := ⟨.hbm, 125, rfl⟩
abbrev main_v95 : Ref sig .tc := ⟨.hbm, 126, rfl⟩
abbrev main_v96 : Ref sig .tc := ⟨.hbm, 127, rfl⟩
abbrev main_v97 : Ref sig .tc := ⟨.hbm, 128, rfl⟩
abbrev main_v98 : Ref sig .tc := ⟨.hbm, 129, rfl⟩
abbrev main_cst_17 : Ref sig .tc := ⟨.hbm, 130, rfl⟩
abbrev main_v99 : Ref sig .tc := ⟨.hbm, 131, rfl⟩
abbrev main_v100 : Ref sig .tc := ⟨.hbm, 132, rfl⟩
abbrev main_v101 : Ref sig .tc := ⟨.hbm, 133, rfl⟩
abbrev main_v102 : Ref sig .tc := ⟨.hbm, 134, rfl⟩
abbrev main_v103 : Ref sig .tc := ⟨.hbm, 135, rfl⟩
abbrev main_v104 : Ref sig .tc := ⟨.hbm, 136, rfl⟩
abbrev main_v105 : Ref sig .tc := ⟨.hbm, 137, rfl⟩
abbrev main_v106 : Ref sig .tc := ⟨.hbm, 138, rfl⟩
abbrev main_v107 : Ref sig .tc := ⟨.hbm, 139, rfl⟩
abbrev main_v108 : Ref sig .tc := ⟨.hbm, 140, rfl⟩
abbrev main_v109 : Ref sig .tc := ⟨.hbm, 141, rfl⟩
abbrev main_v110 : Ref sig .tc := ⟨.hbm, 142, rfl⟩
abbrev main_v111 : Ref sig .tc := ⟨.hbm, 143, rfl⟩
abbrev main_v112 : Ref sig .tc := ⟨.hbm, 144, rfl⟩
abbrev main_cst_18 : Ref sig .tc := ⟨.hbm, 145, rfl⟩
abbrev main_v113 : Ref sig .tc := ⟨.hbm, 146, rfl⟩
abbrev main_v114 : Ref sig .tc := ⟨.hbm, 147, rfl⟩
abbrev main_v115 : Ref sig .tc := ⟨.hbm, 148, rfl⟩
abbrev main_v116 : Ref sig .tc := ⟨.hbm, 149, rfl⟩
abbrev main_v117 : Ref sig .tc := ⟨.hbm, 150, rfl⟩
abbrev main_v118 : Ref sig .tc := ⟨.hbm, 151, rfl⟩
abbrev main_cst_19 : Ref sig .tc := ⟨.hbm, 152, rfl⟩
abbrev main_v119 : Ref sig .tc := ⟨.hbm, 153, rfl⟩
abbrev main_v120 : Ref sig .tc := ⟨.hbm, 154, rfl⟩
abbrev main_v121 : Ref sig .tc := ⟨.hbm, 155, rfl⟩
abbrev main_cst_20 : Ref sig .tc := ⟨.hbm, 156, rfl⟩
abbrev main_v122 : Ref sig .tc := ⟨.hbm, 157, rfl⟩
abbrev main_v123 : Ref sig .tc := ⟨.hbm, 158, rfl⟩
abbrev main_v124 : Ref sig .tc := ⟨.hbm, 159, rfl⟩
abbrev main_v125 : Ref sig .tc := ⟨.hbm, 160, rfl⟩
abbrev main_v126 : Ref sig .tc := ⟨.hbm, 161, rfl⟩
abbrev main_v127 : Ref sig .tc := ⟨.hbm, 162, rfl⟩
abbrev main_cst_21 : Ref sig .tc := ⟨.hbm, 163, rfl⟩
abbrev main_v128 : Ref sig .tc := ⟨.hbm, 164, rfl⟩
abbrev main_v129 : Ref sig .tc := ⟨.hbm, 165, rfl⟩
abbrev main_v130 : Ref sig .tc := ⟨.hbm, 166, rfl⟩
abbrev main_v131 : Ref sig .tc := ⟨.hbm, 167, rfl⟩
abbrev main_cst_22 : Ref sig .tc := ⟨.hbm, 168, rfl⟩
abbrev main_v132 : Ref sig .tc := ⟨.hbm, 169, rfl⟩
abbrev main_v133 : Ref sig .tc := ⟨.hbm, 170, rfl⟩
abbrev main_v134 : Ref sig .tc := ⟨.hbm, 171, rfl⟩
abbrev main_v135 : Ref sig .tc := ⟨.hbm, 172, rfl⟩
abbrev main_cst_23 : Ref sig .tc := ⟨.hbm, 173, rfl⟩
abbrev main_v136 : Ref sig .tc := ⟨.hbm, 174, rfl⟩
abbrev main_v137 : Ref sig .tc := ⟨.hbm, 175, rfl⟩
abbrev main_v138 : Ref sig .tc := ⟨.hbm, 176, rfl⟩
abbrev main_v139 : Ref sig .tc := ⟨.hbm, 177, rfl⟩
abbrev main_v140 : Ref sig .tc := ⟨.hbm, 178, rfl⟩
abbrev main_v141 : Ref sig .tc := ⟨.hbm, 179, rfl⟩
abbrev main_cst_24 : Ref sig .tc := ⟨.hbm, 180, rfl⟩
abbrev main_v142 : Ref sig .tc := ⟨.hbm, 181, rfl⟩
abbrev main_v143 : Ref sig .tc := ⟨.hbm, 182, rfl⟩
abbrev main_call3_cst : Ref sig .tc := ⟨.hbm, 183, rfl⟩
abbrev main_call3_v0 : Ref sig .tc := ⟨.hbm, 184, rfl⟩
abbrev main_v144 : Ref sig .tc := ⟨.hbm, 185, rfl⟩
abbrev main_cst_25 : Ref sig .tc := ⟨.hbm, 186, rfl⟩
abbrev main_v145 : Ref sig .tc := ⟨.hbm, 187, rfl⟩
abbrev main_v146 : Ref sig .tc := ⟨.hbm, 188, rfl⟩
abbrev main_v147 : Ref sig .tc := ⟨.hbm, 189, rfl⟩
abbrev main_v148 : Ref sig .tc := ⟨.hbm, 190, rfl⟩
abbrev main_v149 : Ref sig .tc := ⟨.hbm, 191, rfl⟩
abbrev main_v150 : Ref sig .tc := ⟨.hbm, 192, rfl⟩
abbrev main_v151 : Ref sig .tc := ⟨.hbm, 193, rfl⟩
abbrev main_v152 : Ref sig .tc := ⟨.hbm, 194, rfl⟩
abbrev main_v153 : Ref sig .tc := ⟨.hbm, 195, rfl⟩
abbrev main_v154 : Ref sig .tc := ⟨.hbm, 196, rfl⟩
abbrev main_v155 : Ref sig .tc := ⟨.hbm, 197, rfl⟩
abbrev main_v156 : Ref sig .tc := ⟨.hbm, 198, rfl⟩
abbrev main_v157 : Ref sig .tc := ⟨.hbm, 199, rfl⟩
abbrev main_v158 : Ref sig .tc := ⟨.hbm, 200, rfl⟩
abbrev main_v159 : Ref sig .tc := ⟨.hbm, 201, rfl⟩
abbrev main_v160 : Ref sig .tc := ⟨.hbm, 202, rfl⟩
abbrev main_v161 : Ref sig .tc := ⟨.hbm, 203, rfl⟩
abbrev main_v162 : Ref sig .tc := ⟨.hbm, 204, rfl⟩
abbrev main_v163 : Ref sig .tc := ⟨.hbm, 205, rfl⟩
abbrev main_v164 : Ref sig .tc := ⟨.hbm, 206, rfl⟩
abbrev main_v165 : Ref sig .tc := ⟨.hbm, 207, rfl⟩
abbrev main_cst_26 : Ref sig .tc := ⟨.hbm, 208, rfl⟩
abbrev main_v166 : Ref sig .tc := ⟨.hbm, 209, rfl⟩
abbrev main_v167 : Ref sig .tc := ⟨.hbm, 210, rfl⟩
abbrev main_v168 : Ref sig .tc := ⟨.hbm, 211, rfl⟩
abbrev main_v169 : Ref sig .tc := ⟨.hbm, 212, rfl⟩

abbrev nD : Nat := 1
abbrev τ : Topo := Topo.v7x

variable {F : FTy → Type} [FloatOps F]
-- ==== DAct.lean ====
abbrev S4096x2048 : Shape := ⟨2, ![4096, 2048]⟩
abbrev S5632x2048 : Shape := ⟨2, ![5632, 2048]⟩
abbrev S4096x5632 : Shape := ⟨2, ![4096, 5632]⟩
abbrev S2048x2048 : Shape := ⟨2, ![2048, 2048]⟩
abbrev S1408x2048 : Shape := ⟨2, ![1408, 2048]⟩
abbrev S2048x1408 : Shape := ⟨2, ![2048, 1408]⟩

abbrev nBuf : Space → Nat
  | .hbm => 3
  | .vmem => 6
  | .smem => 0
  | _ => 0

abbrev bufTy : (tb : Table) → Fin (tcTables nBuf tb) → BufTy
  | .hbm, ⟨0, _⟩ => ⟨S4096x2048, .bf16⟩
  | .hbm, ⟨1, _⟩ => ⟨S5632x2048, .bf16⟩
  | .hbm, ⟨2, _⟩ => ⟨S4096x5632, .bf16⟩
  | .local _ .vmem, ⟨0, _⟩ => ⟨S2048x2048, .bf16⟩
  | .local _ .vmem, ⟨1, _⟩ => ⟨S2048x2048, .bf16⟩
  | .local _ .vmem, ⟨2, _⟩ => ⟨S1408x2048, .bf16⟩
  | .local _ .vmem, ⟨3, _⟩ => ⟨S1408x2048, .bf16⟩
  | .local _ .vmem, ⟨4, _⟩ => ⟨S2048x1408, .bf16⟩
  | .local _ .vmem, ⟨5, _⟩ => ⟨S2048x1408, .bf16⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1408x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DActRefIdeal.lean ====
abbrev S4096x2048 : Shape := ⟨2, ![4096, 2048]⟩
abbrev S5632x2048 : Shape := ⟨2, ![5632, 2048]⟩
abbrev S_ : Shape := ⟨0, ![]⟩
abbrev S4096x5632 : Shape := ⟨2, ![4096, 5632]⟩

abbrev nBuf : Space → Nat
  | .hbm => 9
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S5632x2048, .bf16⟩
  | .hbm, ⟨2, _⟩ => ⟨S_, .f32⟩
  | .hbm, ⟨3, _⟩ => ⟨S4096x5632, .f32⟩
  | .hbm, ⟨4, _⟩ => ⟨S5632x2048, .f32⟩
  | .hbm, ⟨5, _⟩ => ⟨S4096x2048, .f32⟩
  | .hbm, ⟨6, _⟩ => ⟨S4096x2048, .f32⟩
  | .hbm, ⟨7, _⟩ => ⟨S4096x5632, .f32⟩
  | .hbm, ⟨8, _⟩ => ⟨S4096x5632, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== DwDown.lean ====
abbrev S4096x5632 : Shape := ⟨2, ![4096, 5632]⟩
abbrev S4096x2048 : Shape := ⟨2, ![4096, 2048]⟩
abbrev S5632x2048 : Shape := ⟨2, ![5632, 2048]⟩
abbrev S4096x1408 : Shape := ⟨2, ![4096, 1408]⟩
abbrev S4096x512 : Shape := ⟨2, ![4096, 512]⟩
abbrev S1408x512 : Shape := ⟨2, ![1408, 512]⟩

abbrev nBuf : Space → Nat
  | .hbm => 3
  | .vmem => 6
  | .smem => 0
  | _ => 0

abbrev bufTy : (tb : Table) → Fin (tcTables nBuf tb) → BufTy
  | .hbm, ⟨0, _⟩ => ⟨S4096x5632, .bf16⟩
  | .hbm, ⟨1, _⟩ => ⟨S4096x2048, .bf16⟩
  | .hbm, ⟨2, _⟩ => ⟨S5632x2048, .f32⟩
  | .local _ .vmem, ⟨0, _⟩ => ⟨S4096x1408, .bf16⟩
  | .local _ .vmem, ⟨1, _⟩ => ⟨S4096x1408, .bf16⟩
  | .local _ .vmem, ⟨2, _⟩ => ⟨S4096x512, .bf16⟩
  | .local _ .vmem, ⟨3, _⟩ => ⟨S4096x512, .bf16⟩
  | .local _ .vmem, ⟨4, _⟩ => ⟨S1408x512, .f32⟩
  | .local _ .vmem, ⟨5, _⟩ => ⟨S1408x512, .f32⟩
  | _, _ => ⟨S4096x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S4096x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DwDownRefIdeal.lean ====
abbrev S4096x5632 : Shape := ⟨2, ![4096, 5632]⟩
abbrev S4096x2048 : Shape := ⟨2, ![4096, 2048]⟩
abbrev S_ : Shape := ⟨0, ![]⟩
abbrev S5632x2048 : Shape := ⟨2, ![5632, 2048]⟩
abbrev S2048x5632 : Shape := ⟨2, ![2048, 5632]⟩

abbrev nBuf : Space → Nat
  | .hbm => 9
  | .vmem => 0
  | .smem => 0
  | _ => 0

abbrev bufTy : (tb : Table) → Fin (tcTables nBuf tb) → BufTy
  | .hbm, ⟨0, _⟩ => ⟨S4096x5632, .bf16⟩
  | .hbm, ⟨1, _⟩ => ⟨S4096x2048, .bf16⟩
  | .hbm, ⟨2, _⟩ => ⟨S_, .f32⟩
  | .hbm, ⟨3, _⟩ => ⟨S5632x2048, .f32⟩
  | .hbm, ⟨4, _⟩ => ⟨S4096x5632, .f32⟩
  | .hbm, ⟨5, _⟩ => ⟨S4096x2048, .f32⟩
  | .hbm, ⟨6, _⟩ => ⟨S4096x2048, .f32⟩
  | .hbm, ⟨7, _⟩ => ⟨S2048x5632, .f32⟩
  | .hbm, ⟨8, _⟩ => ⟨S5632x2048, .f32⟩
  | _, _ => ⟨S4096x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== DUpIn.lean ====
abbrev S2x4096x5632 : Shape := ⟨3, ![2, 4096, 5632]⟩
abbrev S8x2048x1408 : Shape := ⟨3, ![8, 2048, 1408]⟩
abbrev S4096x2048 : Shape := ⟨2, ![4096, 2048]⟩
abbrev S1x1024x2816 : Shape := ⟨3, ![1, 1024, 2816]⟩
abbrev S2x1024x1408 : Shape := ⟨3, ![2, 1024, 1408]⟩
abbrev S1024x1024 : Shape := ⟨2, ![1024, 1024]⟩
abbrev S1024x2816 : Shape := ⟨2, ![1024, 2816]⟩
abbrev S1x1024x1408 : Shape := ⟨3, ![1, 1024, 1408]⟩
abbrev S1024x1408 : Shape := ⟨2, ![1024, 1408]⟩

abbrev nBuf : Space → Nat
  | .hbm => 3
  | .vmem => 7
  | .smem => 0
  | _ => 0

abbrev bufTy : (tb : Table) → Fin (tcTables nBuf tb) → BufTy
  | .hbm, ⟨0, _⟩ => ⟨S2x4096x5632, .bf16⟩
  | .hbm, ⟨1, _⟩ => ⟨S8x2048x1408, .bf16⟩
  | .hbm, ⟨2, _⟩ => ⟨S4096x2048, .f32⟩
  | .local _ .vmem, ⟨0, _⟩ => ⟨S1x1024x2816, .bf16⟩
  | .local _ .vmem, ⟨1, _⟩ => ⟨S1x1024x2816, .bf16⟩
  | .local _ .vmem, ⟨2, _⟩ => ⟨S2x1024x1408, .bf16⟩
  | .local _ .vmem, ⟨3, _⟩ => ⟨S2x1024x1408, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S2x4096x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 4], ![false, false, false]⟩

def k0_cond3 (i : grid0.Coords) : BitVec 1 :=
  let arg2 : BitVec 32 := BitVec.ofNat 32 (i 2).val
  let c3_i32 : BitVec 32 := 3#32
  let v14 : BitVec 1 := Scalar.cmpi .eq arg2 c3_i32
  let v15 : BitVec 32 := Scalar.extui v14
  let c0_i32_10 : BitVec 32 := 0#32
  let v16 : BitVec 1 := Scalar.cmpi .ne v15 c0_i32_10
  v16

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg2 c2_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg2 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg2 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg0.toNat, v26.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, arg1.toNat, c0_i32.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1x1024x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2x1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DUpInRefIdeal.lean ====
abbrev S2x4096x5632 : Shape := ⟨3, ![2, 4096, 5632]⟩
abbrev S8x2048x1408 : Shape := ⟨3, ![8, 2048, 1408]⟩
abbrev S4096x2x5632 : Shape := ⟨3, ![4096, 2, 5632]⟩
abbrev S4096x11264 : Shape := ⟨2, ![4096, 11264]⟩
abbrev S2048x8x1408 : Shape := ⟨3, ![2048, 8, 1408]⟩
abbrev S2048x11264 : Shape := ⟨2, ![2048, 11264]⟩
abbrev S_ : Shape := ⟨0, ![]⟩
abbrev S4096x2048 : Shape := ⟨2, ![4096, 2048]⟩

abbrev nBuf : Space → Nat
  | .hbm => 12
  | .vmem => 0
  | .smem => 0
  | _ => 0

abbrev bufTy : (tb : Table) → Fin (tcTables nBuf tb) → BufTy
  | .hbm, ⟨0, _⟩ => ⟨S2x4096x5632, .bf16⟩
  | .hbm, ⟨1, _⟩ => ⟨S8x2048x1408, .bf16⟩
  | .hbm, ⟨2, _⟩ => ⟨S4096x2x5632, .bf16⟩
  | .hbm, ⟨3, _⟩ => ⟨S4096x11264, .bf16⟩
  | .hbm, ⟨4, _⟩ => ⟨S2048x8x1408, .bf16⟩
  | .hbm, ⟨5, _⟩ => ⟨S2048x11264, .bf16⟩
  | .hbm, ⟨6, _⟩ => ⟨S_, .f32⟩
  | .hbm, ⟨7, _⟩ => ⟨S4096x2048, .f32⟩
  | .hbm, ⟨8, _⟩ => ⟨S2048x11264, .f32⟩
  | .hbm, ⟨9, _⟩ => ⟨S4096x11264, .f32⟩
  | .hbm, ⟨10, _⟩ => ⟨S4096x11264, .f32⟩
  | .hbm, ⟨11, _⟩ => ⟨S4096x2048, .f32⟩
  | _, _ => ⟨S2x4096x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_cst : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== DMix.lean ====
abbrev S4096x2048 : Shape := ⟨2, ![4096, 2048]⟩
abbrev S2048x2048 : Shape := ⟨2, ![2048, 2048]⟩
abbrev S1024x2048 : Shape := ⟨2, ![1024, 2048]⟩
abbrev S2048x1024 : Shape := ⟨2, ![2048, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x2048, .bf16⟩
  | .hbm, ⟨1, _⟩ => ⟨S2048x2048, .bf16⟩
  | .hbm, ⟨2, _⟩ => ⟨S4096x2048, .f32⟩
  | .local _ .vmem, ⟨0, _⟩ => ⟨S2048x2048, .bf16⟩
  | .local _ .vmem, ⟨1, _⟩ => ⟨S2048x2048, .bf16⟩
  | .local _ .vmem, ⟨2, _⟩ => ⟨S1024x2048, .bf16⟩
  | .local _ .vmem, ⟨3, _⟩ => ⟨S1024x2048, .bf16⟩
  | .local _ .vmem, ⟨4, _⟩ => ⟨S2048x1024, .f32⟩
  | .local _ .vmem, ⟨5, _⟩ => ⟨S2048x1024, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DMixRefIdeal.lean ====
abbrev S4096x2048 : Shape := ⟨2, ![4096, 2048]⟩
abbrev S2048x2048 : Shape := ⟨2, ![2048, 2048]⟩
abbrev S_ : Shape := ⟨0, ![]⟩

abbrev nBuf : Space → Nat
  | .hbm => 8
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S2048x2048, .bf16⟩
  | .hbm, ⟨2, _⟩ => ⟨S_, .f32⟩
  | .hbm, ⟨3, _⟩ => ⟨S4096x2048, .f32⟩
  | .hbm, ⟨4, _⟩ => ⟨S2048x2048, .f32⟩
  | .hbm, ⟨5, _⟩ => ⟨S4096x2048, .f32⟩
  | .hbm, ⟨6, _⟩ => ⟨S4096x2048, .f32⟩
  | .hbm, ⟨7, _⟩ => ⟨S4096x2048, .f32⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== DwOut.lean ====
abbrev S4096x1024 : Shape := ⟨2, ![4096, 1024]⟩
abbrev S4096x2048 : Shape := ⟨2, ![4096, 2048]⟩
abbrev S2048x2048 : Shape := ⟨2, ![2048, 2048]⟩
abbrev S4096x512 : Shape := ⟨2, ![4096, 512]⟩
abbrev S1024x512 : Shape := ⟨2, ![1024, 512]⟩

abbrev nBuf : Space → Nat
  | .hbm => 4
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S4096x2048, .bf16⟩
  | .hbm, ⟨3, _⟩ => ⟨S2048x2048, .f32⟩
  | .local _ .vmem, ⟨0, _⟩ => ⟨S4096x1024, .bf16⟩
  | .local _ .vmem, ⟨1, _⟩ => ⟨S4096x1024, .bf16⟩
  | .local _ .vmem, ⟨2, _⟩ => ⟨S4096x512, .bf16⟩
  | .local _ .vmem, ⟨3, _⟩ => ⟨S4096x512, .bf16⟩
  | .local _ .vmem, ⟨4, _⟩ => ⟨S1024x512, .f32⟩
  | .local _ .vmem, ⟨5, _⟩ => ⟨S1024x512, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨2, ![2, 4], ![false, false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg0 : BitVec 32 := BitVec.ofNat 32 (i 0).val
  let c1_i32 : BitVec 32 := 1#32
  let v3 : BitVec 1 := Scalar.cmpi .eq arg0 c1_i32
  let v4 : BitVec 32 := Scalar.extui v3
  let c0_i32_1 : BitVec 32 := 0#32
  let v5 : BitVec 1 := Scalar.cmpi .ne v4 c0_i32_1
  v5

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S4096x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 1 → Memref sig .tc .vmem S4096x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S4096x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== DwOutRefIdeal.lean ====
abbrev S4096x1024 : Shape := ⟨2, ![4096, 1024]⟩
abbrev S4096x2048 : Shape := ⟨2, ![4096, 2048]⟩
abbrev S_ : Shape := ⟨0, ![]⟩
abbrev S2048x2048 : Shape := ⟨2, ![2048, 2048]⟩

abbrev nBuf : Space → Nat
  | .hbm => 11
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S4096x2048, .bf16⟩
  | .hbm, ⟨3, _⟩ => ⟨S4096x2048, .bf16⟩
  | .hbm, ⟨4, _⟩ => ⟨S_, .f32⟩
  | .hbm, ⟨5, _⟩ => ⟨S2048x2048, .f32⟩
  | .hbm, ⟨6, _⟩ => ⟨S4096x2048, .f32⟩
  | .hbm, ⟨7, _⟩ => ⟨S4096x2048, .f32⟩
  | .hbm, ⟨8, _⟩ => ⟨S4096x2048, .f32⟩
  | .hbm, ⟨9, _⟩ => ⟨S2048x2048, .f32⟩
  | .hbm, ⟨10, _⟩ => ⟨S2048x2048, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩

abbrev nD : Nat := 1
abbrev τ : Topo := Topo.v7x

variable {F : FTy → Type} [FloatOps F]
-- ==== Up.lean ====
abbrev S4096x2048 : Shape := ⟨2, ![4096, 2048]⟩
abbrev S8x2048x1408 : Shape := ⟨3, ![8, 2048, 1408]⟩
abbrev S2x4096x5632 : Shape := ⟨3, ![2, 4096, 5632]⟩
abbrev S1024x2048 : Shape := ⟨2, ![1024, 2048]⟩
abbrev S1x2048x1408 : Shape := ⟨3, ![1, 2048, 1408]⟩
abbrev S1x1024x1408 : Shape := ⟨3, ![1, 1024, 1408]⟩
abbrev S2048x1408 : Shape := ⟨2, ![2048, 1408]⟩
abbrev S1024x1408 : Shape := ⟨2, ![1024, 1408]⟩

abbrev nBuf : Space → Nat
  | .hbm => 3
  | .vmem => 6
  | .smem => 0
  | _ => 0

abbrev bufTy : (tb : Table) → Fin (tcTables nBuf tb) → BufTy
  | .hbm, ⟨0, _⟩ => ⟨S4096x2048, .bf16⟩
  | .hbm, ⟨1, _⟩ => ⟨S8x2048x1408, .bf16⟩
  | .hbm, ⟨2, _⟩ => ⟨S2x4096x5632, .f32⟩
  | .local _ .vmem, ⟨0, _⟩ => ⟨S1024x2048, .bf16⟩
  | .local _ .vmem, ⟨1, _⟩ => ⟨S1024x2048, .bf16⟩
  | .local _ .vmem, ⟨2, _⟩ => ⟨S1x2048x1408, .bf16⟩
  | .local _ .vmem, ⟨3, _⟩ => ⟨S1x2048x1408, .bf16⟩
  | .local _ .vmem, ⟨4, _⟩ => ⟨S1x1024x1408, .f32⟩
  | .local _ .vmem, ⟨5, _⟩ => ⟨S1x1024x1408, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg1.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.divsi arg1 c4_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg0.toNat, v26.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false]

abbrev stage0_1 : Fin 2 → Memref sig .tc .vmem S1x2048x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, false]

abbrev stage0_2 : Fin 2 → Memref sig .tc .vmem S1x1024x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== UpRefIdeal.lean ====
abbrev S4096x2048 : Shape := ⟨2, ![4096, 2048]⟩
abbrev S8x2048x1408 : Shape := ⟨3, ![8, 2048, 1408]⟩
abbrev S2048x8x1408 : Shape := ⟨3, ![2048, 8, 1408]⟩
abbrev S2048x11264 : Shape := ⟨2, ![2048, 11264]⟩
abbrev S4096x11264 : Shape := ⟨2, ![4096, 11264]⟩
abbrev S4096x5632 : Shape := ⟨2, ![4096, 5632]⟩
abbrev S1x4096x5632 : Shape := ⟨3, ![1, 4096, 5632]⟩
abbrev S2x4096x5632 : Shape := ⟨3, ![2, 4096, 5632]⟩

abbrev nBuf : Space → Nat
  | .hbm => 12
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S8x2048x1408, .bf16⟩
  | .hbm, ⟨2, _⟩ => ⟨S4096x2048, .f32⟩
  | .hbm, ⟨3, _⟩ => ⟨S2048x8x1408, .bf16⟩
  | .hbm, ⟨4, _⟩ => ⟨S2048x11264, .bf16⟩
  | .hbm, ⟨5, _⟩ => ⟨S2048x11264, .f32⟩
  | .hbm, ⟨6, _⟩ => ⟨S4096x11264, .f32⟩
  | .hbm, ⟨7, _⟩ => ⟨S4096x5632, .f32⟩
  | .hbm, ⟨8, _⟩ => ⟨S4096x5632, .f32⟩
  | .hbm, ⟨9, _⟩ => ⟨S1x4096x5632, .f32⟩
  | .hbm, ⟨10, _⟩ => ⟨S1x4096x5632, .f32⟩
  | .hbm, ⟨11, _⟩ => ⟨S2x4096x5632, .f32⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩

abbrev nD : Nat := 1
abbrev τ : Topo := Topo.v7x

variable {F : FTy → Type} [FloatOps F]
-- ==== Out.lean ====
abbrev S4096x1024 : Shape := ⟨2, ![4096, 1024]⟩
abbrev S2048x2048 : Shape := ⟨2, ![2048, 2048]⟩
abbrev S4096x2048 : Shape := ⟨2, ![4096, 2048]⟩
abbrev S2048x1024 : Shape := ⟨2, ![2048, 1024]⟩
abbrev S2048x512 : Shape := ⟨2, ![2048, 512]⟩
abbrev S1024x512 : Shape := ⟨2, ![1024, 512]⟩

abbrev nBuf : Space → Nat
  | .hbm => 5
  | .vmem => 10
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S2048x2048, .bf16⟩
  | .hbm, ⟨3, _⟩ => ⟨S4096x2048, .f32⟩
  | .hbm, ⟨4, _⟩ => ⟨S4096x2048, .f32⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S2048x512, .bf16⟩
  | .local _ .vmem, ⟨5, _⟩ => ⟨S2048x512, .bf16⟩
  | .local _ .vmem, ⟨6, _⟩ => ⟨S2048x512, .f32⟩
  | .local _ .vmem, ⟨7, _⟩ => ⟨S2048x512, .f32⟩
  | .local _ .vmem, ⟨8, _⟩ => ⟨S2048x512, .f32⟩
  | .local _ .vmem, ⟨9, _⟩ => ⟨S2048x512, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![2, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S2048x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S2048x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== OutRefIdeal.lean ====
abbrev S4096x1024 : Shape := ⟨2, ![4096, 1024]⟩
abbrev S2048x2048 : Shape := ⟨2, ![2048, 2048]⟩
abbrev S4096x2048 : Shape := ⟨2, ![4096, 2048]⟩

abbrev nBuf : Space → Nat
  | .hbm => 9
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S2048x2048, .bf16⟩
  | .hbm, ⟨3, _⟩ => ⟨S4096x2048, .f32⟩
  | .hbm, ⟨4, _⟩ => ⟨S4096x2048, .bf16⟩
  | .hbm, ⟨5, _⟩ => ⟨S4096x2048, .f32⟩
  | .hbm, ⟨6, _⟩ => ⟨S2048x2048, .f32⟩
  | .hbm, ⟨7, _⟩ => ⟨S4096x2048, .f32⟩
  | .hbm, ⟨8, _⟩ => ⟨S4096x2048, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩

abbrev nD : Nat := 1
abbrev τ : Topo := Topo.v7x

variable {F : FTy → Type} [FloatOps F]
-- ==== InProj.lean ====
abbrev S4096x2048 : Shape := ⟨2, ![4096, 2048]⟩
abbrev S4736x2048 : Shape := ⟨2, ![4736, 2048]⟩
abbrev S4096x4608 : Shape := ⟨2, ![4096, 4608]⟩
abbrev S2048x2048 : Shape := ⟨2, ![2048, 2048]⟩
abbrev S1152x2048 : Shape := ⟨2, ![1152, 2048]⟩
abbrev S2048x1152 : Shape := ⟨2, ![2048, 1152]⟩

abbrev nBuf : Space → Nat
  | .hbm => 3
  | .vmem => 6
  | .smem => 0
  | _ => 0

abbrev bufTy : (tb : Table) → Fin (tcTables nBuf tb) → BufTy
  | .hbm, ⟨0, _⟩ => ⟨S4096x2048, .bf16⟩
  | .hbm, ⟨1, _⟩ => ⟨S4736x2048, .bf16⟩
  | .hbm, ⟨2, _⟩ => ⟨S4096x4608, .f32⟩
  | .local _ .vmem, ⟨0, _⟩ => ⟨S2048x2048, .bf16⟩
  | .local _ .vmem, ⟨1, _⟩ => ⟨S2048x2048, .bf16⟩
  | .local _ .vmem, ⟨2, _⟩ => ⟨S1152x2048, .bf16⟩
  | .local _ .vmem, ⟨3, _⟩ => ⟨S1152x2048, .bf16⟩
  | .local _ .vmem, ⟨4, _⟩ => ⟨S2048x1152, .f32⟩
  | .local _ .vmem, ⟨5, _⟩ => ⟨S2048x1152, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1152x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x1152 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== InProjRefIdeal.lean ====
abbrev S4096x2048 : Shape := ⟨2, ![4096, 2048]⟩
abbrev S4736x2048 : Shape := ⟨2, ![4736, 2048]⟩
abbrev S4608x2048 : Shape := ⟨2, ![4608, 2048]⟩
abbrev S2048x4608 : Shape := ⟨2, ![2048, 4608]⟩
abbrev S4096x4608 : Shape := ⟨2, ![4096, 4608]⟩

abbrev nBuf : Space → Nat
  | .hbm => 7
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S4736x2048, .bf16⟩
  | .hbm, ⟨2, _⟩ => ⟨S4096x2048, .f32⟩
  | .hbm, ⟨3, _⟩ => ⟨S4608x2048, .bf16⟩
  | .hbm, ⟨4, _⟩ => ⟨S2048x4608, .bf16⟩
  | .hbm, ⟨5, _⟩ => ⟨S2048x4608, .f32⟩
  | .hbm, ⟨6, _⟩ => ⟨S4096x4608, .f32⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== DInProj.lean ====
abbrev S4096x4736 : Shape := ⟨2, ![4096, 4736]⟩
abbrev S4736x2048 : Shape := ⟨2, ![4736, 2048]⟩
abbrev S4096x2048 : Shape := ⟨2, ![4096, 2048]⟩
abbrev S1024x4736 : Shape := ⟨2, ![1024, 4736]⟩
abbrev S4736x1024 : Shape := ⟨2, ![4736, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x4736, .bf16⟩
  | .hbm, ⟨1, _⟩ => ⟨S4736x2048, .bf16⟩
  | .hbm, ⟨2, _⟩ => ⟨S4096x2048, .f32⟩
  | .local _ .vmem, ⟨0, _⟩ => ⟨S1024x4736, .bf16⟩
  | .local _ .vmem, ⟨1, _⟩ => ⟨S1024x4736, .bf16⟩
  | .local _ .vmem, ⟨2, _⟩ => ⟨S4736x1024, .bf16⟩
  | .local _ .vmem, ⟨3, _⟩ => ⟨S4736x1024, .bf16⟩
  | .local _ .vmem, ⟨4, _⟩ => ⟨S1024x1024, .f32⟩
  | .local _ .vmem, ⟨5, _⟩ => ⟨S1024x1024, .f32⟩
  | _, _ => ⟨S4096x4736, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x4736 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4736x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DInProjRefIdeal.lean ====
abbrev S4096x4736 : Shape := ⟨2, ![4096, 4736]⟩
abbrev S4736x2048 : Shape := ⟨2, ![4736, 2048]⟩
abbrev S2048x4736 : Shape := ⟨2, ![2048, 4736]⟩
abbrev S_ : Shape := ⟨0, ![]⟩
abbrev S4096x2048 : Shape := ⟨2, ![4096, 2048]⟩

abbrev nBuf : Space → Nat
  | .hbm => 9
  | .vmem => 0
  | .smem => 0
  | _ => 0

abbrev bufTy : (tb : Table) → Fin (tcTables nBuf tb) → BufTy
  | .hbm, ⟨0, _⟩ => ⟨S4096x4736, .bf16⟩
  | .hbm, ⟨1, _⟩ => ⟨S4736x2048, .bf16⟩
  | .hbm, ⟨2, _⟩ => ⟨S2048x4736, .bf16⟩
  | .hbm, ⟨3, _⟩ => ⟨S_, .f32⟩
  | .hbm, ⟨4, _⟩ => ⟨S4096x2048, .f32⟩
  | .hbm, ⟨5, _⟩ => ⟨S2048x4736, .f32⟩
  | .hbm, ⟨6, _⟩ => ⟨S4096x4736, .f32⟩
  | .hbm, ⟨7, _⟩ => ⟨S4096x4736, .f32⟩
  | .hbm, ⟨8, _⟩ => ⟨S4096x2048, .f32⟩
  | _, _ => ⟨S4096x4736, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Down.lean ====
abbrev S4096x5632 : Shape := ⟨2, ![4096, 5632]⟩
abbrev S5632x2048 : Shape := ⟨2, ![5632, 2048]⟩
abbrev S4096x2048 : Shape := ⟨2, ![4096, 2048]⟩
abbrev S1x128 : Shape := ⟨2, ![1, 128]⟩
abbrev S1024x5632 : Shape := ⟨2, ![1024, 5632]⟩
abbrev S5632x512 : Shape := ⟨2, ![5632, 512]⟩
abbrev S1024x512 : Shape := ⟨2, ![1024, 512]⟩
abbrev S1024 : Shape := ⟨1, ![1024]⟩
abbrev S1024x1 : Shape := ⟨2, ![1024, 1]⟩
abbrev S1 : Shape := ⟨1, ![1]⟩
abbrev S1x1 : Shape := ⟨2, ![1, 1]⟩

abbrev nBuf : Space → Nat
  | .hbm => 7
  | .vmem => 13
  | .smem => 0
  | _ => 0

abbrev bufTy : (tb : Table) → Fin (tcTables nBuf tb) → BufTy
  | .hbm, ⟨0, _⟩ => ⟨S4096x5632, .bf16⟩
  | .hbm, ⟨1, _⟩ => ⟨S5632x2048, .bf16⟩
  | .hbm, ⟨2, _⟩ => ⟨S4096x2048, .f32⟩
  | .hbm, ⟨3, _⟩ => ⟨S4096x2048, .f32⟩
  | .hbm, ⟨4, _⟩ => ⟨S1x128, .f32⟩
  | .hbm, ⟨5, _⟩ => ⟨S4096x2048, .f32⟩
  | .hbm, ⟨6, _⟩ => ⟨S4096x2048, .bf16⟩
  | .local _ .vmem, ⟨0, _⟩ => ⟨S1024x5632, .bf16⟩
  | .local _ .vmem, ⟨1, _⟩ => ⟨S1024x5632, .bf16⟩
  | .local _ .vmem, ⟨2, _⟩ => ⟨S5632x512, .bf16⟩
  | .local _ .vmem, ⟨3, _⟩ => ⟨S5632x512, .bf16⟩
  | .local _ .vmem, ⟨4, _⟩ => ⟨S1024x512, .f32⟩
  | .local _ .vmem, ⟨5, _⟩ => ⟨S1024x512, .f32⟩
  | .local _ .vmem, ⟨6, _⟩ => ⟨S1024x512, .f32⟩
  | .local _ .vmem, ⟨7, _⟩ => ⟨S1024x512, .f32⟩
  | .local _ .vmem, ⟨8, _⟩ => ⟨S1x128, .f32⟩
  | .local _ .vmem, ⟨9, _⟩ => ⟨S1024x512, .f32⟩
  | .local _ .vmem, ⟨10, _⟩ => ⟨S1024x512, .f32⟩
  | .local _ .vmem, ⟨11, _⟩ => ⟨S1024x512, .bf16⟩
  | .local _ .vmem, ⟨12, _⟩ => ⟨S1024x512, .bf16⟩
  | _, _ => ⟨S4096x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨2, ![4, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x5632 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S5632x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1024x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1024x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== DownRefIdeal.lean ====
abbrev S4096x5632 : Shape := ⟨2, ![4096, 5632]⟩
abbrev S5632x2048 : Shape := ⟨2, ![5632, 2048]⟩
abbrev S4096x2048 : Shape := ⟨2, ![4096, 2048]⟩
abbrev S_ : Shape := ⟨0, ![]⟩
abbrev S4096 : Shape := ⟨1, ![4096]⟩
abbrev S1x128 : Shape := ⟨2, ![1, 128]⟩

abbrev nBuf : Space → Nat
  | .hbm => 33
  | .vmem => 0
  | .smem => 0
  | _ => 0

abbrev bufTy : (tb : Table) → Fin (tcTables nBuf tb) → BufTy
  | .hbm, ⟨0, _⟩ => ⟨S4096x5632, .bf16⟩
  | .hbm, ⟨1, _⟩ => ⟨S5632x2048, .bf16⟩
  | .hbm, ⟨2, _⟩ => ⟨S4096x2048, .f32⟩
  | .hbm, ⟨3, _⟩ => ⟨S4096x2048, .f32⟩
  | .hbm, ⟨4, _⟩ => ⟨S4096x5632, .f32⟩
  | .hbm, ⟨5, _⟩ => ⟨S5632x2048, .f32⟩
  | .hbm, ⟨6, _⟩ => ⟨S4096x2048, .f32⟩
  | .hbm, ⟨7, _⟩ => ⟨S4096x2048, .f32⟩
  | .hbm, ⟨8, _⟩ => ⟨S4096x2048, .f32⟩
  | .hbm, ⟨9, _⟩ => ⟨S4096x2048, .f32⟩
  | .hbm, ⟨10, _⟩ => ⟨S_, .f32⟩
  | .hbm, ⟨11, _⟩ => ⟨S4096x2048, .f32⟩
  | .hbm, ⟨12, _⟩ => ⟨S4096x2048, .f32⟩
  | .hbm, ⟨13, _⟩ => ⟨S_, .f32⟩
  | .hbm, ⟨14, _⟩ => ⟨S4096, .f32⟩
  | .hbm, ⟨15, _⟩ => ⟨S_, .f32⟩
  | .hbm, ⟨16, _⟩ => ⟨S4096, .f32⟩
  | .hbm, ⟨17, _⟩ => ⟨S4096, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S4096, .f32⟩
  | .hbm, ⟨26, _⟩ => ⟨S_, .f32⟩
  | .hbm, ⟨27, _⟩ => ⟨S4096, .f32⟩
  | .hbm, ⟨28, _⟩ => ⟨S4096, .f32⟩
  | .hbm, ⟨29, _⟩ => ⟨S4096x2048, .f32⟩
  | .hbm, ⟨30, _⟩ => ⟨S4096x2048, .f32⟩
  | .hbm, ⟨31, _⟩ => ⟨S1x128, .f32⟩
  | .hbm, ⟨32, _⟩ => ⟨S4096x2048, .bf16⟩
  | _, _ => ⟨S4096x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst : Ref sig .tc := ⟨.hbm, 10, rfl⟩
abbrev main_v6 : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_v10 : Ref sig .tc := ⟨.hbm, 17, rfl⟩
abbrev main_cst_2 : Ref sig .tc := ⟨.hbm, 18, rfl⟩
abbrev main_v11 : Ref sig .tc := ⟨.hbm, 19, rfl⟩
abbrev main_cst_3 : Ref sig .tc := ⟨.hbm, 20, rfl⟩
abbrev main_v12 : Ref sig .tc := ⟨.hbm, 21, rfl⟩
abbrev main_cst_4 : Ref sig .tc := ⟨.hbm, 22, rfl⟩
abbrev main_cst_5 : Ref sig .tc := ⟨.hbm, 23, rfl⟩
abbrev main_v13 : Ref sig .tc := ⟨.hbm, 24, rfl⟩
abbrev main_v14 : Ref sig .tc := ⟨.hbm, 25, rfl⟩
abbrev main_cst_6 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩

abbrev nD : Nat := 1
abbrev τ : Topo := Topo.v7x

variable {F : FTy → Type} [FloatOps F]
-- ==== DwUpSib.lean ====
abbrev S4096x2048 : Shape := ⟨2, ![4096, 2048]⟩
abbrev S2x4096x5632 : Shape := ⟨3, ![2, 4096, 5632]⟩
abbrev S_ : Shape := ⟨0, ![]⟩
abbrev S1 : Shape := ⟨1, ![1]⟩
abbrev S4x2048x1408 : Shape := ⟨3, ![4, 2048, 1408]⟩
abbrev S4096x512 : Shape := ⟨2, ![4096, 512]⟩
abbrev S1x4096x1408 : Shape := ⟨3, ![1, 4096, 1408]⟩
abbrev S1x512x1408 : Shape := ⟨3, ![1, 512, 1408]⟩
abbrev S4096x1408 : Shape := ⟨2, ![4096, 1408]⟩
abbrev S512x1408 : Shape := ⟨2, ![512, 1408]⟩

abbrev nBuf : Space → Nat
  | .hbm => 4
  | .vmem => 6
  | .smem => 1
  | _ => 0

abbrev bufTy : (tb : Table) → Fin (tcTables nBuf tb) → BufTy
  | .hbm, ⟨0, _⟩ => ⟨S4096x2048, .bf16⟩
  | .hbm, ⟨1, _⟩ => ⟨S2x4096x5632, .bf16⟩
  | .hbm, ⟨2, _⟩ => ⟨S_, .i32⟩
  | .hbm, ⟨3, _⟩ => ⟨S4x2048x1408, .f32⟩
  | .local _ .vmem, ⟨0, _⟩ => ⟨S4096x512, .bf16⟩
  | .local _ .vmem, ⟨1, _⟩ => ⟨S4096x512, .bf16⟩
  | .local _ .vmem, ⟨2, _⟩ => ⟨S1x4096x1408, .bf16⟩
  | .local _ .vmem, ⟨3, _⟩ => ⟨S1x4096x1408, .bf16⟩
  | .local _ .vmem, ⟨4, _⟩ => ⟨S1x512x1408, .f32⟩
  | .local _ .vmem, ⟨5, _⟩ => ⟨S1x512x1408, .f32⟩
  | .local _ .smem, ⟨0, _⟩ => ⟨S1, .i32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_v1 : Ref sig .tc := ⟨.hbm, 3, rfl⟩
abbrev main_v0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 4, 1], ![false, false, false]⟩

abbrev pre0 : Pipeline.Prefetch sig := ⟨1, ![main_v0.idx], fun | 0 => main_v0.names | ⟨_ + 1, h⟩ => absurd h (Nat.not_lt.2 (Nat.le_add_left _ _)), fun | 0 => rfl | ⟨_ + 1, h⟩ => absurd h (Nat.not_lt.2 (Nat.le_add_left _ _))⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_1 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli c2_i32 arg0
  let c0 : Index := 0#32
  let v1 : BitVec 32 := pf.at 0 (Rect.unit (s := S1) ![0] S1.size inb_S1_S1_0) numel1_S1
  let v2 : BitVec 32 := Scalar.addi v0 v1
  let c4_i32 : BitVec 32 := 4#32
  let v3 : BitVec 32 := Scalar.divsi v2 c4_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let c1_i32 : BitVec 32 := 1#32
  let v18 : BitVec 32 := Scalar.subi v3 c1_i32
  let v19 : BitVec 32 := Scalar.select v17 v18 v3
  let c2_i32_4 : BitVec 32 := 2#32
  let v20 : BitVec 32 := Scalar.muli c2_i32_4 arg0
  let c0_5 : Index := 0#32
  let v21 : BitVec 32 := pf.at 0 (Rect.unit (s := S1) ![0] S1.size inb_S1_S1_0) numel1_S1
  let v22 : BitVec 32 := Scalar.addi v20 v21
  let c4_i32_6 : BitVec 32 := 4#32
  let c0_i32_7 : BitVec 32 := 0#32
  let v23 : BitVec 1 := Scalar.cmpi .eq c4_i32_6 c0_i32_7
  let c1_i32_8 : BitVec 32 := 1#32
  let v24 : BitVec 32 := Scalar.select v23 c1_i32_8 c4_i32_6
  let v25 : BitVec 32 := Scalar.remsi v22 v24
  let c0_i32_9 : BitVec 32 := 0#32
  let v26 : BitVec 1 := Scalar.cmpi .ne v25 c0_i32_9
  let c0_i32_10 : BitVec 32 := 0#32
  let v27 : BitVec 1 := Scalar.cmpi .slt v25 c0_i32_10
  let c0_i32_11 : BitVec 32 := 0#32
  let v28 : BitVec 1 := Scalar.cmpi .slt v24 c0_i32_11
  let v29 : BitVec 1 := Scalar.xori v27 v28
  let v30 : BitVec 1 := Scalar.andi v29 v26
  let v31 : BitVec 32 := Scalar.addi v25 v24
  let v32 : BitVec 32 := Scalar.select v30 v31 v25
  let c0_i32_12 : BitVec 32 := 0#32
  ![v19.toNat, arg2.toNat, v32.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage0_0 : Fin 2 → Memref sig .tc .vmem S4096x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S1x4096x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1x512x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DwUpSibRefIdeal.lean ====
abbrev S4096x2048 : Shape := ⟨2, ![4096, 2048]⟩
abbrev S2x4096x5632 : Shape := ⟨3, ![2, 4096, 5632]⟩
abbrev S4096x2x5632 : Shape := ⟨3, ![4096, 2, 5632]⟩
abbrev S4096x11264 : Shape := ⟨2, ![4096, 11264]⟩
abbrev S_ : Shape := ⟨0, ![]⟩
abbrev S2048x11264 : Shape := ⟨2, ![2048, 11264]⟩
abbrev S11264x2048 : Shape := ⟨2, ![11264, 2048]⟩
abbrev S2048x4x2x1408 : Shape := ⟨4, ![2048, 4, 2, 1408]⟩
abbrev S2048x4x1x1408 : Shape := ⟨4, ![2048, 4, 1, 1408]⟩
abbrev S2048x4x1408 : Shape := ⟨3, ![2048, 4, 1408]⟩
abbrev S4x2048x1408 : Shape := ⟨3, ![4, 2048, 1408]⟩

abbrev nBuf : Space → Nat
  | .hbm => 15
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S2x4096x5632, .bf16⟩
  | .hbm, ⟨2, _⟩ => ⟨S4096x2x5632, .bf16⟩
  | .hbm, ⟨3, _⟩ => ⟨S4096x11264, .bf16⟩
  | .hbm, ⟨4, _⟩ => ⟨S_, .f32⟩
  | .hbm, ⟨5, _⟩ => ⟨S2048x11264, .f32⟩
  | .hbm, ⟨6, _⟩ => ⟨S4096x2048, .f32⟩
  | .hbm, ⟨7, _⟩ => ⟨S4096x11264, .f32⟩
  | .hbm, ⟨8, _⟩ => ⟨S4096x11264, .f32⟩
  | .hbm, ⟨9, _⟩ => ⟨S11264x2048, .f32⟩
  | .hbm, ⟨10, _⟩ => ⟨S2048x11264, .f32⟩
  | .hbm, ⟨11, _⟩ => ⟨S2048x4x2x1408, .f32⟩
  | .hbm, ⟨12, _⟩ => ⟨S2048x4x1x1408, .f32⟩
  | .hbm, ⟨13, _⟩ => ⟨S2048x4x1408, .f32⟩
  | .hbm, ⟨14, _⟩ => ⟨S4x2048x1408, .f32⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩

abbrev nD : Nat := 1
abbrev τ : Topo := Topo.v7x

variable {F : FTy → Type} [FloatOps F]
-- ==== DwUpOwn.lean ====
abbrev S4096x2048 : Shape := ⟨2, ![4096, 2048]⟩
abbrev S2x4096x5632 : Shape := ⟨3, ![2, 4096, 5632]⟩
abbrev S4x2048x1408 : Shape := ⟨3, ![4, 2048, 1408]⟩
abbrev S_ : Shape := ⟨0, ![]⟩
abbrev S1 : Shape := ⟨1, ![1]⟩
abbrev S4096x512 : Shape := ⟨2, ![4096, 512]⟩
abbrev S1x4096x1408 : Shape := ⟨3, ![1, 4096, 1408]⟩
abbrev S1x512x1408 : Shape := ⟨3, ![1, 512, 1408]⟩
abbrev S4096x1408 : Shape := ⟨2, ![4096, 1408]⟩
abbrev S512x1408 : Shape := ⟨2, ![512, 1408]⟩

abbrev nBuf : Space → Nat
  | .hbm => 5
  | .vmem => 8
  | .smem => 1
  | _ => 0

abbrev bufTy : (tb : Table) → Fin (tcTables nBuf tb) → BufTy
  | .hbm, ⟨0, _⟩ => ⟨S4096x2048, .bf16⟩
  | .hbm, ⟨1, _⟩ => ⟨S2x4096x5632, .bf16⟩
  | .hbm, ⟨2, _⟩ => ⟨S4x2048x1408, .f32⟩
  | .hbm, ⟨3, _⟩ => ⟨S_, .i32⟩
  | .hbm, ⟨4, _⟩ => ⟨S4x2048x1408, .f32⟩
  | .local _ .vmem, ⟨0, _⟩ => ⟨S4096x512, .bf16⟩
  | .local _ .vmem, ⟨1, _⟩ => ⟨S4096x512, .bf16⟩
  | .local _ .vmem, ⟨2, _⟩ => ⟨S1x4096x1408, .bf16⟩
  | .local _ .vmem, ⟨3, _⟩ => ⟨S1x4096x1408, .bf16⟩
  | .local _ .vmem, ⟨4, _⟩ => ⟨S1x512x1408, .f32⟩
  | .local _ .vmem, ⟨5, _⟩ => ⟨S1x512x1408, .f32⟩
  | .local _ .vmem, ⟨6, _⟩ => ⟨S1x512x1408, .f32⟩
  | .local _ .vmem, ⟨7, _⟩ => ⟨S1x512x1408, .f32⟩
  | .local _ .smem, ⟨0, _⟩ => ⟨S1, .i32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_v1 : Ref sig .tc := ⟨.hbm, 4, rfl⟩
abbrev main_v0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 4, 1], ![false, false, false]⟩

abbrev pre0 : Pipeline.Prefetch sig := ⟨1, ![main_v0.idx], fun | 0 => main_v0.names | ⟨_ + 1, h⟩ => absurd h (Nat.not_lt.2 (Nat.le_add_left _ _)), fun | 0 => rfl | ⟨_ + 1, h⟩ => absurd h (Nat.not_lt.2 (Nat.le_add_left _ _))⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_1 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli c2_i32 arg0
  let c0 : Index := 0#32
  let v1 : BitVec 32 := pf.at 0 (Rect.unit (s := S1) ![0] S1.size inb_S1_S1_0) numel1_S1
  let v2 : BitVec 32 := Scalar.addi v0 v1
  let c4_i32 : BitVec 32 := 4#32
  let v3 : BitVec 32 := Scalar.divsi v2 c4_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let c1_i32 : BitVec 32 := 1#32
  let v18 : BitVec 32 := Scalar.subi v3 c1_i32
  let v19 : BitVec 32 := Scalar.select v17 v18 v3
  let c2_i32_4 : BitVec 32 := 2#32
  let v20 : BitVec 32 := Scalar.muli c2_i32_4 arg0
  let c0_5 : Index := 0#32
  let v21 : BitVec 32 := pf.at 0 (Rect.unit (s := S1) ![0] S1.size inb_S1_S1_0) numel1_S1
  let v22 : BitVec 32 := Scalar.addi v20 v21
  let c4_i32_6 : BitVec 32 := 4#32
  let c0_i32_7 : BitVec 32 := 0#32
  let v23 : BitVec 1 := Scalar.cmpi .eq c4_i32_6 c0_i32_7
  let c1_i32_8 : BitVec 32 := 1#32
  let v24 : BitVec 32 := Scalar.select v23 c1_i32_8 c4_i32_6
  let v25 : BitVec 32 := Scalar.remsi v22 v24
  let c0_i32_9 : BitVec 32 := 0#32
  let v26 : BitVec 1 := Scalar.cmpi .ne v25 c0_i32_9
  let c0_i32_10 : BitVec 32 := 0#32
  let v27 : BitVec 1 := Scalar.cmpi .slt v25 c0_i32_10
  let c0_i32_11 : BitVec 32 := 0#32
  let v28 : BitVec 1 := Scalar.cmpi .slt v24 c0_i32_11
  let v29 : BitVec 1 := Scalar.xori v27 v28
  let v30 : BitVec 1 := Scalar.andi v29 v26
  let v31 : BitVec 32 := Scalar.addi v25 v24
  let v32 : BitVec 32 := Scalar.select v30 v31 v25
  let c0_i32_12 : BitVec 32 := 0#32
  ![v19.toNat, arg2.toNat, v32.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage0_0 : Fin 2 → Memref sig .tc .vmem S4096x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S1x4096x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1x512x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x512x1408 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== DwUpOwnRefIdeal.lean ====
abbrev S4096x2048 : Shape := ⟨2, ![4096, 2048]⟩
abbrev S2x4096x5632 : Shape := ⟨3, ![2, 4096, 5632]⟩
abbrev S4x2048x1408 : Shape := ⟨3, ![4, 2048, 1408]⟩
abbrev S4096x2x5632 : Shape := ⟨3, ![4096, 2, 5632]⟩
abbrev S4096x11264 : Shape := ⟨2, ![4096, 11264]⟩
abbrev S_ : Shape := ⟨0, ![]⟩
abbrev S2048x11264 : Shape := ⟨2, ![2048, 11264]⟩
abbrev S11264x2048 : Shape := ⟨2, ![11264, 2048]⟩
abbrev S2048x4x2x1408 : Shape := ⟨4, ![2048, 4, 2, 1408]⟩
abbrev S2048x4x1x1408 : Shape := ⟨4, ![2048, 4, 1, 1408]⟩
abbrev S2048x4x1408 : Shape := ⟨3, ![2048, 4, 1408]⟩

abbrev nBuf : Space → Nat
  | .hbm => 17
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S2x4096x5632, .bf16⟩
  | .hbm, ⟨2, _⟩ => ⟨S4x2048x1408, .f32⟩
  | .hbm, ⟨3, _⟩ => ⟨S4096x2x5632, .bf16⟩
  | .hbm, ⟨4, _⟩ => ⟨S4096x11264, .bf16⟩
  | .hbm, ⟨5, _⟩ => ⟨S_, .f32⟩
  | .hbm, ⟨6, _⟩ => ⟨S2048x11264, .f32⟩
  | .hbm, ⟨7, _⟩ => ⟨S4096x2048, .f32⟩
  | .hbm, ⟨8, _⟩ => ⟨S4096x11264, .f32⟩
  | .hbm, ⟨9, _⟩ => ⟨S4096x11264, .f32⟩
  | .hbm, ⟨10, _⟩ => ⟨S11264x2048, .f32⟩
  | .hbm, ⟨11, _⟩ => ⟨S2048x11264, .f32⟩
  | .hbm, ⟨12, _⟩ => ⟨S2048x4x2x1408, .f32⟩
  | .hbm, ⟨13, _⟩ => ⟨S2048x4x1x1408, .f32⟩
  | .hbm, ⟨14, _⟩ => ⟨S2048x4x1408, .f32⟩
  | .hbm, ⟨15, _⟩ => ⟨S4x2048x1408, .f32⟩
  | .hbm, ⟨16, _⟩ => ⟨S4x2048x1408, .f32⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩

abbrev nD : Nat := 1
abbrev τ : Topo := Topo.v7x

variable {F : FTy → Type} [FloatOps F]
-- ==== DwIn.lean ====
abbrev S4096x4736 : Shape := ⟨2, ![4096, 4736]⟩
abbrev S4096x2048 : Shape := ⟨2, ![4096, 2048]⟩
abbrev S4640x2048 : Shape := ⟨2, ![4640, 2048]⟩
abbrev S4096x512 : Shape := ⟨2, ![4096, 512]⟩
abbrev S4096x1024 : Shape := ⟨2, ![4096, 1024]⟩
abbrev S512x1024 : Shape := ⟨2, ![512, 1024]⟩
abbrev S4608x2048 : Shape := ⟨2, ![4608, 2048]⟩

abbrev nBuf : Space → Nat
  | .hbm => 4
  | .vmem => 6
  | .smem => 0
  | _ => 0

abbrev bufTy : (tb : Table) → Fin (tcTables nBuf tb) → BufTy
  | .hbm, ⟨0, _⟩ => ⟨S4096x4736, .bf16⟩
  | .hbm, ⟨1, _⟩ => ⟨S4096x2048, .bf16⟩
  | .hbm, ⟨2, _⟩ => ⟨S4640x2048, .f32⟩
  | .hbm, ⟨3, _⟩ => ⟨S4608x2048, .f32⟩
  | .local _ .vmem, ⟨0, _⟩ => ⟨S4096x512, .bf16⟩
  | .local _ .vmem, ⟨1, _⟩ => ⟨S4096x512, .bf16⟩
  | .local _ .vmem, ⟨2, _⟩ => ⟨S4096x1024, .bf16⟩
  | .local _ .vmem, ⟨3, _⟩ => ⟨S4096x1024, .bf16⟩
  | .local _ .vmem, ⟨4, _⟩ => ⟨S512x1024, .f32⟩
  | .local _ .vmem, ⟨5, _⟩ => ⟨S512x1024, .f32⟩
  | _, _ => ⟨S4096x4736, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 9, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 1 := Scalar.cmpi .slt arg1 c2_i32
  let c4_i32 : BitVec 32 := 4#32
  let v1 : BitVec 1 := Scalar.cmpi .slt arg1 c4_i32
  let c5_i32 : BitVec 32 := 5#32
  let v2 : BitVec 32 := Scalar.addi arg1 c5_i32
  let c6_i32 : BitVec 32 := 6#32
  let v3 : BitVec 1 := Scalar.cmpi .slt arg1 c6_i32
  let c1_i32 : BitVec 32 := 1#32
  let v4 : BitVec 32 := Scalar.addi arg1 c1_i32
  let c8_i32 : BitVec 32 := 8#32
  let v5 : BitVec 1 := Scalar.cmpi .slt arg1 c8_i32
  let c3_i32 : BitVec 32 := 3#32
  let v6 : BitVec 32 := Scalar.subi arg1 c3_i32
  let c2_i32_0 : BitVec 32 := 2#32
  let v7 : BitVec 32 := Scalar.select v5 v6 c2_i32_0
  let v8 : BitVec 32 := Scalar.select v3 v4 v7
  let v9 : BitVec 32 := Scalar.select v1 v2 v8
  let v10 : BitVec 32 := Scalar.select v0 arg1 v9
  let c0_i32 : BitVec 32 := 0#32
  ![v10.toNat, arg0.toNat]

abbrev stage0_0 : Fin 2 → Memref sig .tc .vmem S4096x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, false]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DwInRefIdeal.lean ====
abbrev S4096x4736 : Shape := ⟨2, ![4096, 4736]⟩
abbrev S4096x2048 : Shape := ⟨2, ![4096, 2048]⟩
abbrev S4096x4608 : Shape := ⟨2, ![4096, 4608]⟩
abbrev S4096x1024 : Shape := ⟨2, ![4096, 1024]⟩
abbrev S4096x512 : Shape := ⟨2, ![4096, 512]⟩
abbrev S4096x256 : Shape := ⟨2, ![4096, 256]⟩
abbrev S_ : Shape := ⟨0, ![]⟩
abbrev S2048x4608 : Shape := ⟨2, ![2048, 4608]⟩
abbrev S4608x2048 : Shape := ⟨2, ![4608, 2048]⟩

abbrev nBuf : Space → Nat
  | .hbm => 19
  | .vmem => 0
  | .smem => 0
  | _ => 0

abbrev bufTy : (tb : Table) → Fin (tcTables nBuf tb) → BufTy
  | .hbm, ⟨0, _⟩ => ⟨S4096x4736, .bf16⟩
  | .hbm, ⟨1, _⟩ => ⟨S4096x2048, .bf16⟩
  | .hbm, ⟨2, _⟩ => ⟨S4096x4608, .bf16⟩
  | .hbm, ⟨3, _⟩ => ⟨S4096x1024, .bf16⟩
  | .hbm, ⟨4, _⟩ => ⟨S4096x1024, .bf16⟩
  | .hbm, ⟨5, _⟩ => ⟨S4096x1024, .bf16⟩
  | .hbm, ⟨6, _⟩ => ⟨S4096x512, .bf16⟩
  | .hbm, ⟨7, _⟩ => ⟨S4096x512, .bf16⟩
  | .hbm, ⟨8, _⟩ => ⟨S4096x256, .bf16⟩
  | .hbm, ⟨9, _⟩ => ⟨S4096x256, .bf16⟩
  | .hbm, ⟨10, _⟩ => ⟨S4096x4608, .bf16⟩
  | .hbm, ⟨11, _⟩ => ⟨S_, .f32⟩
  | .hbm, ⟨12, _⟩ => ⟨S2048x4608, .f32⟩
  | .hbm, ⟨13, _⟩ => ⟨S4096x2048, .f32⟩
  | .hbm, ⟨14, _⟩ => ⟨S4096x4608, .f32⟩
  | .hbm, ⟨15, _⟩ => ⟨S4096x4608, .f32⟩
  | .hbm, ⟨16, _⟩ => ⟨S4608x2048, .f32⟩
  | .hbm, ⟨17, _⟩ => ⟨S2048x4608, .f32⟩
  | .hbm, ⟨18, _⟩ => ⟨S4608x2048, .f32⟩
  | _, _ => ⟨S4096x4736, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_cst : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩

abbrev nD : Nat := 1
abbrev τ : Topo := Topo.v7x

variable {F : FTy → Type} [FloatOps F]
-- ==== AttnFwd.lean ====
abbrev S4096x1024 : Shape := ⟨2, ![4096, 1024]⟩
abbrev S4096x256 : Shape := ⟨2, ![4096, 256]⟩
abbrev S8 : Shape := ⟨1, ![8]⟩
abbrev S3x512x384 : Shape := ⟨3, ![3, 512, 384]⟩
abbrev S_ : Shape := ⟨0, ![]⟩
abbrev S1x512x384 : Shape := ⟨3, ![1, 512, 384]⟩
abbrev S128x1024 : Shape := ⟨2, ![128, 1024]⟩
abbrev S128x256 : Shape := ⟨2, ![128, 256]⟩
abbrev S512x384 : Shape := ⟨2, ![512, 384]⟩
abbrev S128x128 : Shape := ⟨2, ![128, 128]⟩
abbrev S512x128 : Shape := ⟨2, ![512, 128]⟩
abbrev S384x128 : Shape := ⟨2, ![384, 128]⟩
abbrev S1 : Shape := ⟨1, ![1]⟩
abbrev S128x1 : Shape := ⟨2, ![128, 1]⟩
abbrev S512x1 : Shape := ⟨2, ![512, 1]⟩
abbrev S512 : Shape := ⟨1, ![512]⟩

abbrev nBuf : Space → Nat
  | .hbm => 61
  | .vmem => 18
  | .smem => 1
  | _ => 0

abbrev bufTy : (tb : Table) → Fin (tcTables nBuf tb) → BufTy
  | .hbm, ⟨0, _⟩ => ⟨S4096x1024, .bf16⟩
  | .hbm, ⟨1, _⟩ => ⟨S4096x256, .bf16⟩
  | .hbm, ⟨2, _⟩ => ⟨S4096x256, .bf16⟩
  | .hbm, ⟨3, _⟩ => ⟨S8, .f32⟩
  | .hbm, ⟨4, _⟩ => ⟨S3x512x384, .i32⟩
  | .hbm, ⟨5, _⟩ => ⟨S_, .i32⟩
  | .hbm, ⟨6, _⟩ => ⟨S_, .i32⟩
  | .hbm, ⟨7, _⟩ => ⟨S_, .i32⟩
  | .hbm, ⟨8, _⟩ => ⟨S_, .i1⟩
  | .hbm, ⟨9, _⟩ => ⟨S_, .i32⟩
  | .hbm, ⟨10, _⟩ => ⟨S_, .i32⟩
  | .hbm, ⟨11, _⟩ => ⟨S3x512x384, .i32⟩
  | .hbm, ⟨12, _⟩ => ⟨S3x512x384, .i32⟩
  | .hbm, ⟨13, _⟩ => ⟨S_, .i32⟩
  | .hbm, ⟨14, _⟩ => ⟨S3x512x384, .i32⟩
  | .hbm, ⟨15, _⟩ => ⟨S3x512x384, .i1⟩
  | .hbm, ⟨16, _⟩ => ⟨S_, .i32⟩
  | .hbm, ⟨17, _⟩ => ⟨S3x512x384, .i32⟩
  | .hbm, ⟨18, _⟩ => ⟨S3x512x384, .i1⟩
  | .hbm, ⟨19, _⟩ => ⟨S_, .i32⟩
  | .hbm, ⟨20, _⟩ => ⟨S_, .i1⟩
  | .hbm, ⟨21, _⟩ => ⟨S3x512x384, .i1⟩
  | .hbm, ⟨22, _⟩ => ⟨S3x512x384, .i1⟩
  | .hbm, ⟨23, _⟩ => ⟨S3x512x384, .i1⟩
  | .hbm, ⟨24, _⟩ => ⟨S3x512x384, .i32⟩
  | .hbm, ⟨25, _⟩ => ⟨S3x512x384, .i32⟩
  | .hbm, ⟨26, _⟩ => ⟨S3x512x384, .i32⟩
  | .hbm, ⟨27, _⟩ => ⟨S3x512x384, .i32⟩
  | .hbm, ⟨28, _⟩ => ⟨S3x512x384, .i32⟩
  | .hbm, ⟨29, _⟩ => ⟨S_, .i32⟩
  | .hbm, ⟨30, _⟩ => ⟨S3x512x384, .i32⟩
  | .hbm, ⟨31, _⟩ => ⟨S3x512x384, .i1⟩
  | .hbm, ⟨32, _⟩ => ⟨S_, .i32⟩
  | .hbm, ⟨33, _⟩ => ⟨S3x512x384, .i32⟩
  | .hbm, ⟨34, _⟩ => ⟨S3x512x384, .i1⟩
  | .hbm, ⟨35, _⟩ => ⟨S_, .i32⟩
  | .hbm, ⟨36, _⟩ => ⟨S3x512x384, .i32⟩
  | .hbm, ⟨37, _⟩ => ⟨S3x512x384, .i1⟩
  | .hbm, ⟨38, _⟩ => ⟨S_, .i32⟩
  | .hbm, ⟨39, _⟩ => ⟨S3x512x384, .i32⟩
  | .hbm, ⟨40, _⟩ => ⟨S3x512x384, .i1⟩
  | .hbm, ⟨41, _⟩ => ⟨S_, .i1⟩
  | .hbm, ⟨42, _⟩ => ⟨S3x512x384, .i1⟩
  | .hbm, ⟨43, _⟩ => ⟨S3x512x384, .i1⟩
  | .hbm, ⟨44, _⟩ => ⟨S3x512x384, .i1⟩
  | .hbm, ⟨45, _⟩ => ⟨S_, .i32⟩
  | .hbm, ⟨46, _⟩ => ⟨S3x512x384, .i32⟩
  | .hbm, ⟨47, _⟩ => ⟨S3x512x384, .i32⟩
  | .hbm, ⟨48, _⟩ => ⟨S3x512x384, .i32⟩
  | .hbm, ⟨49, _⟩ => ⟨S3x512x384, .i32⟩
  | .hbm, ⟨50, _⟩ => ⟨S_, .i32⟩
  | .hbm, ⟨51, _⟩ => ⟨S3x512x384, .i32⟩
  | .hbm, ⟨52, _⟩ => ⟨S3x512x384, .i1⟩
  | .hbm, ⟨53, _⟩ => ⟨S3x512x384, .i1⟩
  | .hbm, ⟨54, _⟩ => ⟨S_, .f32⟩
  | .hbm, ⟨55, _⟩ => ⟨S_, .f32⟩
  | .hbm, ⟨56, _⟩ => ⟨S3x512x384, .f32⟩
  | .hbm, ⟨57, _⟩ => ⟨S3x512x384, .f32⟩
  | .hbm, ⟨58, _⟩ => ⟨S3x512x384, .f32⟩
  | .hbm, ⟨59, _⟩ => ⟨S3x512x384, .f32⟩
  | .hbm, ⟨60, _⟩ => ⟨S4096x1024, .bf16⟩
  | .local _ .vmem, ⟨0, _⟩ => ⟨S1x512x384, .f32⟩
  | .local _ .vmem, ⟨1, _⟩ => ⟨S1x512x384, .f32⟩
  | .local _ .vmem, ⟨2, _⟩ => ⟨S128x1024, .bf16⟩
  | .local _ .vmem, ⟨3, _⟩ => ⟨S128x1024, .bf16⟩
  | .local _ .vmem, ⟨4, _⟩ => ⟨S128x256, .bf16⟩
  | .local _ .vmem, ⟨5, _⟩ => ⟨S128x256, .bf16⟩
  | .local _ .vmem, ⟨6, _⟩ => ⟨S128x256, .bf16⟩
  | .local _ .vmem, ⟨7, _⟩ => ⟨S128x256, .bf16⟩
  | .local _ .vmem, ⟨8, _⟩ => ⟨S128x256, .bf16⟩
  | .local _ .vmem, ⟨9, _⟩ => ⟨S128x256, .bf16⟩
  | .local _ .vmem, ⟨10, _⟩ => ⟨S128x256, .bf16⟩
  | .local _ .vmem, ⟨11, _⟩ => ⟨S128x256, .bf16⟩
  | .local _ .vmem, ⟨12, _⟩ => ⟨S128x256, .bf16⟩
  | .local _ .vmem, ⟨13, _⟩ => ⟨S128x256, .bf16⟩
  | .local _ .vmem, ⟨14, _⟩ => ⟨S128x256, .bf16⟩
  | .local _ .vmem, ⟨15, _⟩ => ⟨S128x256, .bf16⟩
  | .local _ .vmem, ⟨16, _⟩ => ⟨S128x1024, .bf16⟩
  | .local _ .vmem, ⟨17, _⟩ => ⟨S128x1024, .bf16⟩
  | .local _ .smem, ⟨0, _⟩ => ⟨S8, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .smem, ⟨0, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_c : Ref sig .tc := ⟨.hbm, 5, rfl⟩
abbrev main_call0_v0 : Ref sig .tc := ⟨.hbm, 6, rfl⟩
abbrev main_call0_c : Ref sig .tc := ⟨.hbm, 7, rfl⟩
abbrev main_call0_v1 : Ref sig .tc := ⟨.hbm, 8, rfl⟩
abbrev main_call0_c_0 : Ref sig .tc := ⟨.hbm, 9, rfl⟩
abbrev main_call0_v2 : Ref sig .tc := ⟨.hbm, 10, rfl⟩
abbrev main_call0_v3 : Ref sig .tc := ⟨.hbm, 11, rfl⟩
abbrev main_call0_v4 : Ref sig .tc := ⟨.hbm, 12, rfl⟩
abbrev main_call0_c_1 : Ref sig .tc := ⟨.hbm, 13, rfl⟩
abbrev main_call0_v5 : Ref sig .tc := ⟨.hbm, 14, rfl⟩
abbrev main_call0_v6 : Ref sig .tc := ⟨.hbm, 15, rfl⟩
abbrev main_call0_c_2 : Ref sig .tc := ⟨.hbm, 16, rfl⟩
abbrev main_call0_v7 : Ref sig .tc := ⟨.hbm, 17, rfl⟩
abbrev main_call0_v8 : Ref sig .tc := ⟨.hbm, 18, rfl⟩
abbrev main_call0_c_3 : Ref sig .tc := ⟨.hbm, 19, rfl⟩
abbrev main_call0_v9 : Ref sig .tc := ⟨.hbm, 20, rfl⟩
abbrev main_call0_v10 : Ref sig .tc := ⟨.hbm, 21, rfl⟩
abbrev main_call0_v11 : Ref sig .tc := ⟨.hbm, 22, rfl⟩
abbrev main_call0_v12 : Ref sig .tc := ⟨.hbm, 23, rfl⟩
abbrev main_call0_v13 : Ref sig .tc := ⟨.hbm, 24, rfl⟩
abbrev main_call0_v14 : Ref sig .tc := ⟨.hbm, 25, rfl⟩
abbrev main_v1 : Ref sig .tc := ⟨.hbm, 26, rfl⟩
abbrev main_v2 : Ref sig .tc := ⟨.hbm, 27, rfl⟩
abbrev main_v3 : Ref sig .tc := ⟨.hbm, 28, rfl⟩
abbrev main_c_0 : Ref sig .tc := ⟨.hbm, 29, rfl⟩
abbrev main_v4 : Ref sig .tc := ⟨.hbm, 30, rfl⟩
abbrev main_v5 : Ref sig .tc := ⟨.hbm, 31, rfl⟩
abbrev main_c_1 : Ref sig .tc := ⟨.hbm, 32, rfl⟩
abbrev main_v6 : Ref sig .tc := ⟨.hbm, 33, rfl⟩
abbrev main_v7 : Ref sig .tc := ⟨.hbm, 34, rfl⟩
abbrev main_c_2 : Ref sig .tc := ⟨.hbm, 35, rfl⟩
abbrev main_v8 : Ref sig .tc := ⟨.hbm, 36, rfl⟩
abbrev main_v9 : Ref sig .tc := ⟨.hbm, 37, rfl⟩
abbrev main_c_3 : Ref sig .tc := ⟨.hbm, 38, rfl⟩
abbrev main_v10 : Ref sig .tc := ⟨.hbm, 39, rfl⟩
abbrev main_v11 : Ref sig .tc := ⟨.hbm, 40, rfl⟩
abbrev main_c_4 : Ref sig .tc := ⟨.hbm, 41, rfl⟩
abbrev main_call1_v0 : Ref sig .tc := ⟨.hbm, 42, rfl⟩
abbrev main_v12 : Ref sig .tc := ⟨.hbm, 43, rfl⟩
abbrev main_v13 : Ref sig .tc := ⟨.hbm, 44, rfl⟩
abbrev main_c_5 : Ref sig .tc := ⟨.hbm, 45, rfl⟩
abbrev main_v14 : Ref sig .tc := ⟨.hbm, 46, rfl⟩
abbrev main_v15 : Ref sig .tc := ⟨.hbm, 47, rfl⟩
abbrev main_v16 : Ref sig .tc := ⟨.hbm, 48, rfl⟩
abbrev main_v17 : Ref sig .tc := ⟨.hbm, 49, rfl⟩
abbrev main_c_6 : Ref sig .tc := ⟨.hbm, 50, rfl⟩
abbrev main_v18 : Ref sig .tc := ⟨.hbm, 51, rfl⟩
abbrev main_v19 : Ref sig .tc := ⟨.hbm, 52, rfl⟩
abbrev main_v20 : Ref sig .tc := ⟨.hbm, 53, rfl⟩
abbrev main_cst : Ref sig .tc := ⟨.hbm, 54, rfl⟩
abbrev main_cst_7 : Ref sig .tc := ⟨.hbm, 55, rfl⟩
abbrev main_call3_v0 : Ref sig .tc := ⟨.hbm, 56, rfl⟩
abbrev main_call3_v1 : Ref sig .tc := ⟨.hbm, 57, rfl⟩
abbrev main_v21 : Ref sig .tc := ⟨.hbm, 58, rfl⟩
abbrev main_v22 : Ref sig .tc := ⟨.hbm, 59, rfl⟩
abbrev main_v23 : Ref sig .tc := ⟨.hbm, 60, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18

abbrev nD : Nat := 1
abbrev τ : Topo := Topo.v7x

variable {F : FTy → Type} [FloatOps F]

abbrev grid0 : Pipeline.Grid := ⟨1, ![32], ![false]⟩

def cc0_transform_0 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_1 (i : grid0.Coords) : Fin 3 → Nat :=
  let arg0 : BitVec 32 := BitVec.ofNat 32 (i 0).val
  let c0_i32 : BitVec 32 := 0#32
  let v0 : BitVec 1 := Scalar.cmpi .eq arg0 c0_i32
  let c31_i32 : BitVec 32 := 31#32
  let v1 : BitVec 1 := Scalar.cmpi .eq arg0 c31_i32
  let c2_i32 : BitVec 32 := 2#32
  let c1_i32 : BitVec 32 := 1#32
  let v2 : BitVec 32 := Scalar.select v1 c2_i32 c1_i32
  let c0_i32_0 : BitVec 32 := 0#32
  let v3 : BitVec 32 := Scalar.select v0 c0_i32_0 v2
  let c0_i32_1 : BitVec 32 := 0#32
  let c0_i32_2 : BitVec 32 := 0#32
  let c0_i32_3 : BitVec 32 := 0#32
  ![v3.toNat, c0_i32_1.toNat, c0_i32_2.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c1_i32 : BitVec 32 := 1#32
  let v0 : BitVec 32 := Scalar.addi arg0 c1_i32
  let c31_i32 : BitVec 32 := 31#32
  let v1 : BitVec 32 := Scalar.minsi v0 c31_i32
  let c0_i32 : BitVec 32 := 0#32
  let c0_i32_0 : BitVec 32 := 0#32
  ![v1.toNat, c0_i32.toNat]

def cc0_transform_6 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c1_i32 : BitVec 32 := 1#32
  let v0 : BitVec 32 := Scalar.addi arg0 c1_i32
  let c31_i32 : BitVec 32 := 31#32
  let v1 : BitVec 32 := Scalar.minsi v0 c31_i32
  let c0_i32 : BitVec 32 := 0#32
  let c0_i32_0 : BitVec 32 := 0#32
  ![v1.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .smem S8 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1x512x384 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x256 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S128x256 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S128x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== AttnFwdRefIdeal.lean ====
abbrev S4096x1024 : Shape := ⟨2, ![4096, 1024]⟩
abbrev S4096x256 : Shape := ⟨2, ![4096, 256]⟩
abbrev S8 : Shape := ⟨1, ![8]⟩
abbrev S1x4096x8x128 : Shape := ⟨4, ![1, 4096, 8, 128]⟩
abbrev S1x4096x2x128 : Shape := ⟨4, ![1, 4096, 2, 128]⟩
abbrev S_ : Shape := ⟨0, ![]⟩
abbrev S1x4352x2x128 : Shape := ⟨4, ![1, 4352, 2, 128]⟩
abbrev S1x34x128x2x128 : Shape := ⟨5, ![1, 34, 128, 2, 128]⟩
abbrev S1x32x128x2x128 : Shape := ⟨5, ![1, 32, 128, 2, 128]⟩
abbrev S1x32x384x2x128 : Shape := ⟨5, ![1, 32, 384, 2, 128]⟩
abbrev S1x32x128x2x4x128 : Shape := ⟨6, ![1, 32, 128, 2, 4, 128]⟩
abbrev S1x2x32x384x128x4 : Shape := ⟨6, ![1, 2, 32, 384, 128, 4]⟩
abbrev S1x2x4x32x128x384 : Shape := ⟨6, ![1, 2, 4, 32, 128, 384]⟩
abbrev S128 : Shape := ⟨1, ![128]⟩
abbrev S128x1 : Shape := ⟨2, ![128, 1]⟩
abbrev S384 : Shape := ⟨1, ![384]⟩
abbrev S1x384 : Shape := ⟨2, ![1, 384]⟩
abbrev S128x384 : Shape := ⟨2, ![128, 384]⟩
abbrev S32 : Shape := ⟨1, ![32]⟩
abbrev S32x1x1 : Shape := ⟨3, ![32, 1, 1]⟩
abbrev S1x1x384 : Shape := ⟨3, ![1, 1, 384]⟩
abbrev S32x1x384 : Shape := ⟨3, ![32, 1, 384]⟩
abbrev S1x128x384 : Shape := ⟨3, ![1, 128, 384]⟩
abbrev S32x128x384 : Shape := ⟨3, ![32, 128, 384]⟩
abbrev S2x4 : Shape := ⟨2, ![2, 4]⟩
abbrev S1x2x4x1x1x1 : Shape := ⟨6, ![1, 2, 4, 1, 1, 1]⟩
abbrev S1x2x4x32x128 : Shape := ⟨5, ![1, 2, 4, 32, 128]⟩
abbrev S1x2x4x32x128x1 : Shape := ⟨6, ![1, 2, 4, 32, 128, 1]⟩
abbrev S1x32x2x128x4x128 : Shape := ⟨6, ![1, 32, 2, 128, 4, 128]⟩
abbrev S1x4096x1024 : Shape := ⟨3, ![1, 4096, 1024]⟩

abbrev nBuf : Space → Nat
  | .hbm => 99
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x256, .bf16⟩
  | .hbm, ⟨2, _⟩ => ⟨S4096x256, .bf16⟩
  | .hbm, ⟨3, _⟩ => ⟨S8, .f32⟩
  | .hbm, ⟨4, _⟩ => ⟨S4096x1024, .f32⟩
  | .hbm, ⟨5, _⟩ => ⟨S1x4096x8x128, .f32⟩
  | .hbm, ⟨6, _⟩ => ⟨S4096x256, .f32⟩
  | .hbm, ⟨7, _⟩ => ⟨S1x4096x2x128, .f32⟩
  | .hbm, ⟨8, _⟩ => ⟨S_, .i32⟩
  | .hbm, ⟨9, _⟩ => ⟨S_, .f32⟩
  | .hbm, ⟨10, _⟩ => ⟨S1x4352x2x128, .f32⟩
  | .hbm, ⟨11, _⟩ => ⟨S1x34x128x2x128, .f32⟩
  | .hbm, ⟨12, _⟩ => ⟨S1x32x128x2x128, .f32⟩
  | .hbm, ⟨13, _⟩ => ⟨S1x32x128x2x128, .f32⟩
  | .hbm, ⟨14, _⟩ => ⟨S1x32x128x2x128, .f32⟩
  | .hbm, ⟨15, _⟩ => ⟨S1x32x384x2x128, .f32⟩
  | .hbm, ⟨16, _⟩ => ⟨S4096x256, .f32⟩
  | .hbm, ⟨17, _⟩ => ⟨S1x4096x2x128, .f32⟩
  | .hbm, ⟨18, _⟩ => ⟨S_, .i32⟩
  | .hbm, ⟨19, _⟩ => ⟨S_, .f32⟩
  | .hbm, ⟨20, _⟩ => ⟨S1x4352x2x128, .f32⟩
  | .hbm, ⟨21, _⟩ => ⟨S1x34x128x2x128, .f32⟩
  | .hbm, ⟨22, _⟩ => ⟨S1x32x128x2x128, .f32⟩
  | .hbm, ⟨23, _⟩ => ⟨S1x32x128x2x128, .f32⟩
  | .hbm, ⟨24, _⟩ => ⟨S1x32x128x2x128, .f32⟩
  | .hbm, ⟨25, _⟩ => ⟨S1x32x384x2x128, .f32⟩
  | .hbm, ⟨26, _⟩ => ⟨S1x32x128x2x4x128, .f32⟩
  | .hbm, ⟨27, _⟩ => ⟨S1x2x32x384x128x4, .f32⟩
  | .hbm, ⟨28, _⟩ => ⟨S1x2x4x32x128x384, .f32⟩
  | .hbm, ⟨29, _⟩ => ⟨S_, .f32⟩
  | .hbm, ⟨30, _⟩ => ⟨S1x2x4x32x128x384, .f32⟩
  | .hbm, ⟨31, _⟩ => ⟨S1x2x4x32x128x384, .f32⟩
  | .hbm, ⟨32, _⟩ => ⟨S128, .i32⟩
  | .hbm, ⟨33, _⟩ => ⟨S128x1, .i32⟩
  | .hbm, ⟨34, _⟩ => ⟨S384, .i32⟩
  | .hbm, ⟨35, _⟩ => ⟨S1x384, .i32⟩
  | .hbm, ⟨36, _⟩ => ⟨S_, .i32⟩
  | .hbm, ⟨37, _⟩ => ⟨S1x384, .i32⟩
  | .hbm, ⟨38, _⟩ => ⟨S1x384, .i32⟩
  | .hbm, ⟨39, _⟩ => ⟨S128x384, .i32⟩
  | .hbm, ⟨40, _⟩ => ⟨S128x384, .i32⟩
  | .hbm, ⟨41, _⟩ => ⟨S128x384, .i32⟩
  | .hbm, ⟨42, _⟩ => ⟨S32, .i32⟩
  | .hbm, ⟨43, _⟩ => ⟨S32x1x1, .i32⟩
  | .hbm, ⟨44, _⟩ => ⟨S_, .i32⟩
  | .hbm, ⟨45, _⟩ => ⟨S32x1x1, .i32⟩
  | .hbm, ⟨46, _⟩ => ⟨S32x1x1, .i32⟩
  | .hbm, ⟨47, _⟩ => ⟨S_, .i32⟩
  | .hbm, ⟨48, _⟩ => ⟨S32x1x1, .i32⟩
  | .hbm, ⟨49, _⟩ => ⟨S32x1x1, .i32⟩
  | .hbm, ⟨50, _⟩ => ⟨S1x1x384, .i32⟩
  | .hbm, ⟨51, _⟩ => ⟨S32x1x384, .i32⟩
  | .hbm, ⟨52, _⟩ => ⟨S32x1x384, .i32⟩
  | .hbm, ⟨53, _⟩ => ⟨S32x1x384, .i32⟩
  | .hbm, ⟨54, _⟩ => ⟨S128x384, .i32⟩
  | .hbm, ⟨55, _⟩ => ⟨S_, .i32⟩
  | .hbm, ⟨56, _⟩ => ⟨S128x384, .i32⟩
  | .hbm, ⟨57, _⟩ => ⟨S128x384, .i1⟩
  | .hbm, ⟨58, _⟩ => ⟨S1x128x384, .i1⟩
  | .hbm, ⟨59, _⟩ => ⟨S_, .i32⟩
  | .hbm, ⟨60, _⟩ => ⟨S32x1x384, .i32⟩
  | .hbm, ⟨61, _⟩ => ⟨S32x1x384, .i1⟩
  | .hbm, ⟨62, _⟩ => ⟨S32x128x384, .i1⟩
  | .hbm, ⟨63, _⟩ => ⟨S32x128x384, .i1⟩
  | .hbm, ⟨64, _⟩ => ⟨S32x128x384, .i1⟩
  | .hbm, ⟨65, _⟩ => ⟨S_, .i32⟩
  | .hbm, ⟨66, _⟩ => ⟨S32x1x384, .i32⟩
  | .hbm, ⟨67, _⟩ => ⟨S32x1x384, .i1⟩
  | .hbm, ⟨68, _⟩ => ⟨S32x128x384, .i1⟩
  | .hbm, ⟨69, _⟩ => ⟨S32x128x384, .i1⟩
  | .hbm, ⟨70, _⟩ => ⟨S_, .f32⟩
  | .hbm, ⟨71, _⟩ => ⟨S_, .f32⟩
  | .hbm, ⟨72, _⟩ => ⟨S1x2x4x32x128x384, .i1⟩
  | .hbm, ⟨73, _⟩ => ⟨S1x2x4x32x128x384, .f32⟩
  | .hbm, ⟨74, _⟩ => ⟨S1x2x4x32x128x384, .f32⟩
  | .hbm, ⟨75, _⟩ => ⟨S2x4, .f32⟩
  | .hbm, ⟨76, _⟩ => ⟨S1x2x4x1x1x1, .f32⟩
  | .hbm, ⟨77, _⟩ => ⟨S_, .f32⟩
  | .hbm, ⟨78, _⟩ => ⟨S1x2x4x32x128, .f32⟩
  | .hbm, ⟨79, _⟩ => ⟨S1x2x4x32x128x1, .f32⟩
  | .hbm, ⟨80, _⟩ => ⟨S1x2x4x32x128x1, .f32⟩
  | .hbm, ⟨81, _⟩ => ⟨S1x2x4x32x128x1, .f32⟩
  | .hbm, ⟨82, _⟩ => ⟨S1x2x4x32x128x384, .f32⟩
  | .hbm, ⟨83, _⟩ => ⟨S1x2x4x32x128x384, .f32⟩
  | .hbm, ⟨84, _⟩ => ⟨S1x2x4x32x128x384, .f32⟩
  | .hbm, ⟨85, _⟩ => ⟨S_, .f32⟩
  | .hbm, ⟨86, _⟩ => ⟨S1x2x4x32x128, .f32⟩
  | .hbm, ⟨87, _⟩ => ⟨S1x2x4x32x128x1, .f32⟩
  | .hbm, ⟨88, _⟩ => ⟨S1x2x4x32x128x1, .f32⟩
  | .hbm, ⟨89, _⟩ => ⟨S1x2x4x32x128x1, .f32⟩
  | .hbm, ⟨90, _⟩ => ⟨S1x2x4x32x128x1, .f32⟩
  | .hbm, ⟨91, _⟩ => ⟨S1x2x4x32x128x1, .f32⟩
  | .hbm, ⟨92, _⟩ => ⟨S1x2x4x32x128x384, .f32⟩
  | .hbm, ⟨93, _⟩ => ⟨S1x2x4x32x128x384, .f32⟩
  | .hbm, ⟨94, _⟩ => ⟨S1x32x2x128x4x128, .f32⟩
  | .hbm, ⟨95, _⟩ => ⟨S1x32x128x2x4x128, .f32⟩
  | .hbm, ⟨96, _⟩ => ⟨S1x4096x1024, .f32⟩
  | .hbm, ⟨97, _⟩ => ⟨S4096x1024, .f32⟩
  | .hbm, ⟨98, _⟩ => ⟨S4096x1024, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_c : Ref sig .tc := ⟨.hbm, 8, rfl⟩
abbrev main_call0_v0 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_c_0 : Ref sig .tc := ⟨.hbm, 18, rfl⟩
abbrev main_call1_v0 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_cst : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_c_1 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_c_2 : Ref sig .tc := ⟨.hbm, 44, rfl⟩
abbrev main_v34 : Ref sig .tc := ⟨.hbm, 45, rfl⟩
abbrev main_v35 : Ref sig .tc := ⟨.hbm, 46, rfl⟩
abbrev main_c_3 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_c_4 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_c_5 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_c_6 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_cst_7 : Ref sig .tc := ⟨.hbm, 70, rfl⟩
abbrev main_call2_v0 : Ref sig .tc := ⟨.hbm, 71, rfl⟩
abbrev main_call2_v1 : Ref sig .tc := ⟨.hbm, 72, rfl⟩
abbrev main_call2_v2 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_cst_8 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_v64 : Ref sig .tc := ⟨.hbm, 84, rfl⟩
abbrev main_cst_9 : Ref sig .tc := ⟨.hbm, 85, rfl⟩
abbrev main_v65 : Ref sig .tc := ⟨.hbm, 86, rfl⟩
abbrev main_v66 : Ref sig .tc := ⟨.hbm, 87, rfl⟩
abbrev main_v67 : Ref sig .tc := ⟨.hbm, 88, rfl⟩
abbrev main_v68 : Ref sig .tc := ⟨.hbm, 89, rfl⟩
abbrev main_v69 : Ref sig .tc := ⟨.hbm, 90, rfl⟩
abbrev main_v70 : Ref sig .tc := ⟨.hbm, 91, rfl⟩
abbrev main_v71 : Ref sig .tc := ⟨.hbm, 92, rfl⟩
abbrev main_v72 : Ref sig .tc := ⟨.hbm, 93, rfl⟩
abbrev main_v73 : Ref sig .tc := ⟨.hbm, 94, rfl⟩
abbrev main_v74 : Ref sig .tc := ⟨.hbm, 95, rfl⟩
abbrev main_v75 : Ref sig .tc := ⟨.hbm, 96, rfl⟩
abbrev main_v76 : Ref sig .tc := ⟨.hbm, 97, rfl⟩
abbrev main_v77 : Ref sig .tc := ⟨.hbm, 98, rfl⟩

abbrev nD : Nat := 1
abbrev τ : Topo := Topo.v7x

variable {F : FTy → Type} [FloatOps F]
-- ==== Proof.Row.lean ====
/-
  One row of the attention: the softmax over the keys and a sink, and its gradient.

  `s` are the row's scores (`⊥` where a key is hidden), `sk` is the sink's logit and `dp` is the
  derivative of the loss by the row's probabilities. The backward pass written by hand holds the row's
  maximum for a constant. A gradient taken by rule also follows the maximum, and this file proves that
  what it sends there is zero (`row_flow`), so the two gradients are one.
-/
module

public import Idealize.ShloMosaic.PureOps.Ideal

@[expose] public section

noncomputable section

namespace Cert.Attn

open Idealize.ShloMosaic

variable {n : ℕ}

/-- The maximum of the row's scores and of the sink. -/
def rowMax (s : Fin n → EReal) (sk : EReal) : EReal := max (Finset.univ.fold max ⊥ s) sk

/-- The exponential of a score less the maximum. -/
def rowExp (s : Fin n → EReal) (sk : EReal) (j : Fin n) : EReal := Ideal.exp (s j - rowMax s sk)

/-- The exponential of the sink less the maximum. -/
def rowSink (s : Fin n → EReal) (sk : EReal) : EReal := Ideal.exp (sk - rowMax s sk)

/-- The softmax's denominator. -/
def rowSum (s : Fin n → EReal) (sk : EReal) : EReal := ∑ j, rowExp s sk j + rowSink s sk

/-- The probability of a key. -/
def rowProb (s : Fin n → EReal) (sk : EReal) (j : Fin n) : EReal :=
  Ideal.div (rowExp s sk j) (rowSum s sk)

/-- The derivative by the denominator. -/
def rowDot (s : Fin n → EReal) (sk : EReal) (dp : Fin n → EReal) : EReal :=
  -∑ j, dp j * Ideal.div 1 (rowSum s sk * rowSum s sk) * rowExp s sk j

/-- The derivative by a score, with the maximum held. -/
def rowDs (s : Fin n → EReal) (sk : EReal) (dp : Fin n → EReal) (j : Fin n) : EReal :=
  (Ideal.div (dp j) (rowSum s sk) + rowDot s sk dp) * rowExp s sk j

/-- The derivative by the maximum. -/
def rowFlow (s : Fin n → EReal) (sk : EReal) (dp : Fin n → EReal) : EReal :=
  -(rowDot s sk dp * rowSink s sk) + ∑ j, -rowDs s sk dp j

/-- A hidden key has the weight zero. -/
theorem rowExp_hidden (s : Fin n → EReal) (sk : EReal) (j : Fin n) (h : s j = ⊥) : rowExp s sk j = 0 := by
  rw [rowExp, h, sub_eq_add_neg, EReal.bot_add, Ideal.exp_bot]

/-- The derivative by the denominator does not read `dp` where the weight is zero. -/
theorem rowDot_congr (s : Fin n → EReal) (sk : EReal) {dp dp' : Fin n → EReal}
    (h : ∀ j, rowExp s sk j ≠ 0 → dp j = dp' j) : rowDot s sk dp = rowDot s sk dp' := by
  unfold rowDot
  congr 1
  refine Finset.sum_congr rfl fun j _ => ?_
  by_cases hj : rowExp s sk j = 0
  · simp [hj]
  · rw [h j hj]

/-- The derivative by a score does not read `dp` where the weight is zero. -/
theorem rowDs_congr (s : Fin n → EReal) (sk : EReal) {dp dp' : Fin n → EReal}
    (h : ∀ j, rowExp s sk j ≠ 0 → dp j = dp' j) (j : Fin n) : rowDs s sk dp j = rowDs s sk dp' j := by
  unfold rowDs
  rw [rowDot_congr s sk h]
  by_cases hj : rowExp s sk j = 0
  · simp [hj]
  · rw [h j hj]

theorem rowFlow_congr (s : Fin n → EReal) (sk : EReal) {dp dp' : Fin n → EReal}
    (h : ∀ j, rowExp s sk j ≠ 0 → dp j = dp' j) : rowFlow s sk dp = rowFlow s sk dp' := by
  unfold rowFlow
  rw [rowDot_congr s sk h]
  simp only [rowDs_congr s sk h]

/-- The identity over the reals. -/
theorem flow_real {ι : Type} [Fintype ι] (e d : ι → ℝ) (η Z : ℝ) (hZ : Z = ∑ j, e j + η) (h0 : Z ≠ 0) :
    -(-(∑ j, d j * (1 / (Z * Z)) * e j) * η)
      + ∑ j, -((d j * (1 / Z) + -(∑ j, d j * (1 / (Z * Z)) * e j)) * e j) = 0 := by
  have hA : ∑ j, d j * (1 / (Z * Z)) * e j = (1 / (Z * Z)) * ∑ j, d j * e j := by
    rw [Finset.mul_sum]; exact Finset.sum_congr rfl fun j _ => by ring
  set D := ∑ j, d j * e j with hD
  rw [hA]
  have hB : ∑ j, -((d j * (1 / Z) + -((1 / (Z * Z)) * D)) * e j)
      = -(1 / Z) * D + (1 / (Z * Z)) * D * ∑ j, e j := by
    have hj : ∀ j, -((d j * (1 / Z) + -((1 / (Z * Z)) * D)) * e j)
        = -(1 / Z) * (d j * e j) + (1 / (Z * Z)) * D * e j := fun j => by ring
    rw [Finset.sum_congr rfl fun j _ => hj j, Finset.sum_add_distrib, ← Finset.mul_sum, ← Finset.mul_sum]
  rw [hB]
  have : ∑ j, e j = Z - η := by rw [hZ]; ring
  rw [this]
  field_simp
  ring

theorem coe_sum {ι : Type} (t : Finset ι) (f : ι → ℝ) :
    ((∑ j ∈ t, f j : ℝ) : EReal) = ∑ j ∈ t, (f j : EReal) := by
  classical
  induction t using Finset.induction_on with
  | empty => simp
  | insert a t ha ih => rw [Finset.sum_insert ha, Finset.sum_insert ha, EReal.coe_add, ih]

theorem le_rowMax (s : Fin n → EReal) (sk : EReal) (j : Fin n) : s j ≤ rowMax s sk :=
  le_max_of_le_left ((Finset.le_fold_max _).2 (Or.inr ⟨j, Finset.mem_univ j, le_rfl⟩))

/-- An exponential of something at most a real `μ`, less `μ`, is a real that is not negative. -/
theorem exp_sub_real {x : EReal} {μ : ℝ} (h : x ≤ (μ : EReal)) :
    ∃ r : ℝ, 0 ≤ r ∧ Ideal.exp (x - (μ : EReal)) = (r : EReal) := by
  induction x with
  | bot => exact ⟨0, le_rfl, by rw [sub_eq_add_neg, EReal.bot_add, Ideal.exp_bot]; rfl⟩
  | top => exact absurd h (by simp)
  | coe x => exact ⟨Real.exp (x - μ), (Real.exp_pos _).le, by rw [← EReal.coe_sub]; rfl⟩

/-- What the gradient sends to the row's maximum is zero, where `dp` is a number at every key with a
    weight. -/
theorem row_flow (s : Fin n → EReal) (sk : EReal) (dp : Fin n → EReal)
    (h : ∀ j, rowExp s sk j ≠ 0 → ∃ r : ℝ, dp j = (r : EReal)) : rowFlow s sk dp = 0 := by
  have hd : ∀ j, rowExp s sk j ≠ 0 → dp j = ((dp j).toReal : EReal) := by
    intro j hj
    obtain ⟨r, hr⟩ := h j hj
    rw [hr, EReal.toReal_coe]
  rw [rowFlow_congr s sk hd]
  generalize hd' : (fun j => (dp j).toReal) = d
  have hfun : (fun j => ((dp j).toReal : EReal)) = fun j => (d j : EReal) := by rw [← hd']
  rw [hfun]
  clear hfun hd' hd h dp
  have hle := le_rowMax s sk
  have hsk : sk ≤ rowMax s sk := le_max_right _ _
  -- the weights vanish where the maximum is not a number
  have hz : (∀ j, rowExp s sk j = 0) → rowSink s sk = 0 → rowFlow s sk (fun j => (d j : EReal)) = 0 := by
    intro h1 h2
    simp [rowFlow, rowDs, h1, h2]
  cases hm : rowMax s sk with
  | bot =>
    rw [hm] at hle hsk
    refine hz (fun j => rowExp_hidden s sk j (le_bot_iff.1 (hle j))) ?_
    rw [rowSink, le_bot_iff.1 hsk, sub_eq_add_neg, EReal.bot_add, Ideal.exp_bot]
  | top =>
    refine hz (fun j => ?_) ?_
    · rw [rowExp, hm, sub_eq_add_neg, EReal.neg_top, EReal.add_bot, Ideal.exp_bot]
    · rw [rowSink, hm, sub_eq_add_neg, EReal.neg_top, EReal.add_bot, Ideal.exp_bot]
  | coe μ =>
    rw [hm] at hle hsk
    have he : ∀ j, ∃ r : ℝ, 0 ≤ r ∧ rowExp s sk j = (r : EReal) := by
      intro j
      rw [rowExp, hm]
      exact exp_sub_real (hle j)
    choose e he0 he using he
    obtain ⟨η, hη0, hη⟩ : ∃ r : ℝ, 0 ≤ r ∧ rowSink s sk = (r : EReal) := by
      rw [rowSink, hm]
      exact exp_sub_real hsk
    have hexp1 : Ideal.exp ((μ : EReal) - (μ : EReal)) = 1 := by
      rw [← EReal.coe_sub, sub_self]
      exact congrArg (fun r : ℝ => (r : EReal)) Real.exp_zero
    have hZ : rowSum s sk = ((∑ j, e j + η : ℝ) : EReal) := by
      rw [rowSum, hη, EReal.coe_add, coe_sum]
      simp only [he]
    have hpos : 0 < ∑ j, e j + η := by
      rcases max_choice (Finset.univ.fold max ⊥ s) sk with hc | hc
      · have hf : (μ : EReal) ≤ Finset.univ.fold max ⊥ s := by rw [← hm, rowMax, hc]
        rcases (Finset.le_fold_max _).1 hf with hb | ⟨j, _, hj⟩
        · exact absurd hb (by simp)
        · have : rowExp s sk j = 1 := by rw [rowExp, hm, le_antisymm (hle j) hj, hexp1]
          have h1 : e j = 1 := by
            rw [he j] at this
            exact_mod_cast this
          have := Finset.single_le_sum (f := e) (fun i _ => he0 i) (Finset.mem_univ j)
          linarith
      · have : rowSink s sk = 1 := by
          have hs : sk = (μ : EReal) := by rw [← hm, rowMax, hc]
          rw [rowSink, hm, hs, hexp1]
        have h1 : η = 1 := by
          rw [hη] at this
          exact_mod_cast this
        have := Finset.sum_nonneg (s := Finset.univ) fun i _ => he0 i
        linarith
    have hd0 := flow_real e d η _ rfl hpos.ne'
    have hdot : rowDot s sk (fun j => (d j : EReal))
        = ((-∑ j, d j * (1 / ((∑ j, e j + η) * (∑ j, e j + η))) * e j : ℝ) : EReal) := by
      rw [rowDot, hZ, EReal.coe_neg, coe_sum, ← EReal.coe_mul,
        Ideal.div_coe (mul_ne_zero hpos.ne' hpos.ne'), one_mul]
      simp only [he, EReal.coe_mul]
    have hds : ∀ j, rowDs s sk (fun j => (d j : EReal)) j
        = (((d j * (1 / (∑ j, e j + η))
          + -∑ j, d j * (1 / ((∑ j, e j + η) * (∑ j, e j + η))) * e j) * e j : ℝ) : EReal) := by
      intro j
      rw [rowDs, hdot, hZ, Ideal.div_coe hpos.ne', he, ← EReal.coe_mul, ← EReal.coe_add, ← EReal.coe_mul]
    rw [rowFlow, hdot, hη, ← EReal.coe_mul, ← EReal.coe_neg]
    simp only [hds, ← EReal.coe_neg]
    rw [← coe_sum, ← EReal.coe_add, hd0]
    rfl

end Cert.Attn

end
-- ==== Proof.Problem.lean ====
/-
  The gradient of the windowed attention as plain formulas of the arrays.

  There are 2 key heads `h`, 4 query heads `g` for each, 32 blocks `n` of 128 positions, a position `i` of
  a block and the 384 positions `j` of the block's window: the block before, the block and the block after.
  A position outside the sequence has keys and values that are zero, and it is hidden.
-/
module

public import proofs.«01_k».proof.Proof.Row
public import Idealize.ShloMosaic.Lib.Pointwise

@[expose] public section

noncomputable section

namespace Cert.Attn

open Idealize.ShloMosaic

/-- A matrix of extended reals. -/
abbrev Mat (a b : ℕ) : Type := (⟨2, ![a, b]⟩ : Shape).Idx → EReal

/-- The scale of the scores, `1/√128` rounded to f32. -/
def scale : EReal := Ideal.ofBits .f32 0x3DB504F3#32

theorem ofBits_neg_inf : Ideal.ofBits .f32 0xFF800000#32 = ⊥ := by
  simp [Ideal.ofBits, Ideal.ieee]

section
variable (n : Fin 32) (h : Fin 2) (g : Fin 4) (i : Fin 128) (j : Fin 384)

/-- The element of a window that starts one block early, zero outside the sequence. -/
def windowAt (K : Mat 4096 256) (d : Fin 128) : EReal :=
  if hj : 128 ≤ n.val * 128 + j.val ∧ n.val * 128 + j.val < 4224 then
    K (ix2 ⟨n.val * 128 + j.val - 128, by omega⟩ ⟨h.val * 128 + d.val, by omega⟩)
  else 0

theorem windowAt_inside {K : Mat 4096 256} {d : Fin 128}
    (hj : 128 ≤ n.val * 128 + j.val ∧ n.val * 128 + j.val < 4224) :
    windowAt n h j K d = K (ix2 ⟨n.val * 128 + j.val - 128, by omega⟩ ⟨h.val * 128 + d.val, by omega⟩) :=
  dif_pos hj

theorem windowAt_outside {K : Mat 4096 256} {d : Fin 128}
    (hj : ¬(128 ≤ n.val * 128 + j.val ∧ n.val * 128 + j.val < 4224)) : windowAt n h j K d = 0 :=
  dif_neg hj

/-- The element of a head's block of queries, or of the cotangent of the head's output. -/
def headAt {w : ℕ} (hw : 1024 ≤ w) (Q : Mat 4096 w) (d : Fin 128) : EReal :=
  Q (ix2 ⟨n.val * 128 + i.val, by omega⟩ ⟨h.val * 512 + g.val * 128 + d.val, by omega⟩)

/-- Position `i` sees window position `j`: at most a block away, and inside the sequence. -/
def Seen : Prop :=
  (i.val ≤ j.val ∧ j.val ≤ 256 + i.val) ∧ 128 ≤ n.val * 128 + j.val ∧ n.val * 128 + j.val < 4224

instance : Decidable (Seen n i j) := by unfold Seen; infer_instance

/-- A row of scores, hidden positions at `⊥`. -/
def score (Q : Mat 4096 1024) (K : Mat 4096 256) : EReal :=
  if Seen n i j then (∑ d : Fin 128, windowAt n h j K d * headAt n h g i le_rfl Q d) * scale else ⊥

/-- The sink's logit of a head. -/
def sinkAt (S : (⟨1, ![8]⟩ : Shape).Idx → EReal) : EReal := S (ix1 ⟨h.val * 4 + g.val, by omega⟩)

/-- The derivative by a probability. -/
def dprob (V : Mat 4096 256) (O : Mat 4096 2048) : EReal :=
  ∑ d : Fin 128, headAt n h g i (by decide) O d * windowAt n h j V d
end

section
variable (Q : Mat 4096 1024) (K V : Mat 4096 256) (S : (⟨1, ![8]⟩ : Shape).Idx → EReal) (O : Mat 4096 2048)
variable (n : Fin 32) (h : Fin 2) (g : Fin 4) (i : Fin 128)

/-- The probability of a window position. -/
def probOf (j : Fin 384) : EReal := rowProb (fun j => score n h g i j Q K) (sinkAt h g S) j

/-- The derivative by a product of a query and a key. -/
def dscore (j : Fin 384) : EReal :=
  rowDs (fun j => score n h g i j Q K) (sinkAt h g S) (fun j => dprob n h g i j V O) j * scale

/-- A row's derivative by its sink. -/
def drowSink : EReal :=
  rowDot (fun j => score n h g i j Q K) (sinkAt h g S) (fun j => dprob n h g i j V O)
    * rowSink (fun j => score n h g i j Q K) (sinkAt h g S)

/-- The gradient by a query. -/
def dqOf (d : Fin 128) : EReal := ∑ j : Fin 384, dscore Q K V S O n h g i j * windowAt n h j K d

/-- The gradient by a key of a window. -/
def dkOf (j : Fin 384) (d : Fin 128) : EReal :=
  ∑ i : Fin 128, ∑ g : Fin 4, dscore Q K V S O n h g i j * headAt n h g i le_rfl Q d

/-- The gradient by a value of a window. -/
def dvOf (j : Fin 384) (d : Fin 128) : EReal :=
  ∑ i : Fin 128, ∑ g : Fin 4, probOf Q K S n h g i j * headAt n h g i (by decide) O d

/-- The gradient by a head's sink. -/
def dsinkOf : EReal := ∑ n : Fin 32, ∑ i : Fin 128, drowSink Q K V S O n h g i
end

/-! What each result array holds. -/

section
variable (Q : Mat 4096 1024) (K V : Mat 4096 256) (S : (⟨1, ![8]⟩ : Shape).Idx → EReal) (O : Mat 4096 2048)

def dqArr : Mat 4096 1024 := fun y =>
  dqOf Q K V S O ⟨(y 0).val / 128, by have := (y 0).isLt; simp at this; omega⟩
    ⟨(y 1).val / 512, by have := (y 1).isLt; simp at this; omega⟩
    ⟨(y 1).val % 512 / 128, by omega⟩ ⟨(y 0).val % 128, by omega⟩ ⟨(y 1).val % 128, by omega⟩

/-- The gradient by the keys that the windows take from the block `p - 1` places after their own. -/
def dkArr (p : Fin 3) : Mat 4096 256 := fun y =>
  dkOf Q K V S O ⟨(y 0).val / 128, by have := (y 0).isLt; simp at this; omega⟩
    ⟨(y 1).val / 128, by have := (y 1).isLt; simp at this; omega⟩
    ⟨128 * p.val + (y 0).val % 128, by omega⟩ ⟨(y 1).val % 128, by omega⟩

/-- The gradient by the values that the windows take from the block `p - 1` places after their own. -/
def dvArr (p : Fin 3) : Mat 4096 256 := fun y =>
  dvOf Q K S O ⟨(y 0).val / 128, by have := (y 0).isLt; simp at this; omega⟩
    ⟨(y 1).val / 128, by have := (y 1).isLt; simp at this; omega⟩
    ⟨128 * p.val + (y 0).val % 128, by omega⟩ ⟨(y 1).val % 128, by omega⟩

/-- The gradient by the sinks, one row for each head of a key head and four rows of zeros. -/
def dsinkArr : (⟨3, ![2, 8, 128]⟩ : Shape).Idx → EReal := fun y =>
  if hg : (y 1).val < 4 then dsinkOf Q K V S O (y 0) ⟨(y 1).val, hg⟩ else 0

/-- Row `i` of block `n`. -/
abbrev rowAt (n : Fin 32) (i : Fin 128) : Fin 4096 := ⟨n.val * 128 + i.val, by omega⟩

/-- Column `d` of query head `g` of key head `h`. -/
abbrev colAt (h : Fin 2) (g : Fin 4) (d : Fin 128) : Fin 1024 := ⟨h.val * 512 + g.val * 128 + d.val, by omega⟩

/-- Column `d` of key head `h`. -/
abbrev keyAt (h : Fin 2) (d : Fin 128) : Fin 256 := ⟨h.val * 128 + d.val, by omega⟩

theorem dqArr_at (n : Fin 32) (h : Fin 2) (g : Fin 4) (i d : Fin 128) :
    dqArr Q K V S O (ix2 (rowAt n i) (colAt h g d)) = dqOf Q K V S O n h g i d := by
  unfold dqArr
  congr 1 <;> apply Fin.ext <;> simp <;> omega

theorem dkArr_at (p : Fin 3) (n : Fin 32) (h : Fin 2) (i d : Fin 128) :
    dkArr Q K V S O p (ix2 (rowAt n i) (keyAt h d))
      = dkOf Q K V S O n h ⟨128 * p.val + i.val, by omega⟩ d := by
  unfold dkArr
  congr 1 <;> apply Fin.ext <;> simp <;> omega

theorem dvArr_at (p : Fin 3) (n : Fin 32) (h : Fin 2) (i d : Fin 128) :
    dvArr Q K S O p (ix2 (rowAt n i) (keyAt h d))
      = dvOf Q K S O n h ⟨128 * p.val + i.val, by omega⟩ d := by
  unfold dvArr
  congr 1 <;> apply Fin.ext <;> simp <;> omega
end

/-- Every index of a query is a row of a block and a column of a head. -/
theorem query_index (y : (⟨2, ![4096, 1024]⟩ : Shape).Idx) :
    ∃ n h g i d, y = ix2 (rowAt n i) (colAt h g d) := by
  have h0 : (y 0).val < 4096 := (y 0).isLt
  have h1 : (y 1).val < 1024 := (y 1).isLt
  refine ⟨⟨(y 0).val / 128, by omega⟩, ⟨(y 1).val / 512, by omega⟩, ⟨(y 1).val % 512 / 128, by omega⟩,
    ⟨(y 0).val % 128, by omega⟩, ⟨(y 1).val % 128, by omega⟩, ?_⟩
  funext a
  apply Fin.ext
  match a with
  | ⟨0, _⟩ => show (y 0).val = (y 0).val / 128 * 128 + (y 0).val % 128; omega
  | ⟨1, _⟩ => show (y 1).val = (y 1).val / 512 * 512 + (y 1).val % 512 / 128 * 128 + (y 1).val % 128; omega

/-- Every index of a key is a row of a block and a column of a head. -/
theorem key_index (y : (⟨2, ![4096, 256]⟩ : Shape).Idx) : ∃ n h i d, y = ix2 (rowAt n i) (keyAt h d) := by
  have h0 : (y 0).val < 4096 := (y 0).isLt
  have h1 : (y 1).val < 256 := (y 1).isLt
  refine ⟨⟨(y 0).val / 128, by omega⟩, ⟨(y 1).val / 128, by omega⟩,
    ⟨(y 0).val % 128, by omega⟩, ⟨(y 1).val % 128, by omega⟩, ?_⟩
  funext a
  apply Fin.ext
  match a with
  | ⟨0, _⟩ => show (y 0).val = (y 0).val / 128 * 128 + (y 0).val % 128; omega
  | ⟨1, _⟩ => show (y 1).val = (y 1).val / 128 * 128 + (y 1).val % 128; omega

end Cert.Attn

end
-- ==== Proof.RefMask.lean ====
/-
  The reference program read at an index: the windows, the heads and the mask.
-/
module

public import proofs.«01_k».proof.Proof.Problem
public import proofs.«01_k».proof.Proof.Gen.ReferenceIdeal.Read
public import Idealize.ShloMosaic.Lib.Pointwise
public import Idealize.ShloMosaic.Lib.WordArith

@[expose] public section

set_option maxRecDepth 16384

noncomputable section

namespace Cert.Attn

open Idealize.ShloMosaic Idealize.ShloMosaic.WordArith Cert.ReferenceIdeal Cert.ReferenceIdeal.Gen Cert.ReferenceIdeal.Read

theorem pad_zero (i : S_.Idx) : val_main_call0_v0 (F := Ideal) i = 0 := by
  show ((((0#32 : BitVec 32).toInt : ℝ)) : EReal) = 0
  simp

/-- The windows of keys. -/
theorem ref_keys (K : Mat 4096 256) (n : Fin 32) (j : Fin 384) (h : Fin 2) (d : Fin 128) :
    val_main_v9 (F := Ideal) K (ix5 0 n j h d) = windowAt n h j K d := by
  have hK : ∀ a b : ℕ, ∀ ha : a < 4096, ∀ hb : b < 4096, ∀ k : Fin 256, a = b →
      K (ix2 ⟨a, ha⟩ k) = K (ix2 ⟨b, hb⟩ k) := by
    intro a b ha hb k hab; subst hab; rfl
  by_cases hj : 128 ≤ n.val * 128 + j.val ∧ n.val * 128 + j.val < 4224
  · rw [windowAt_inside n h j hj]
    unfold val_main_v9 val_main_v8 val_main_v7 val_main_v6 val_main_v5 val_main_v4 val_main_v3 val_main_v2
    pointwise [pad_zero]
    repeat' split
    all_goals first | (apply hK; omega) | (exfalso; omega)
  · rw [windowAt_outside n h j hj]
    unfold val_main_v9 val_main_v8 val_main_v7 val_main_v6 val_main_v5 val_main_v4 val_main_v3 val_main_v2
    pointwise [pad_zero]
    repeat' split
    all_goals first | rfl | (exfalso; omega)

/-- The queries. -/
theorem ref_queries (Q : Mat 4096 1024) (n : Fin 32) (i : Fin 128) (h : Fin 2) (g : Fin 4) (d : Fin 128) :
    val_main_v20 (F := Ideal) Q (ix6 0 n i h g d) = headAt n h g i le_rfl Q d := by
  unfold val_main_v20 val_main_v1 val_main_v0 headAt
  pointwise

/-- The cotangents. -/
theorem ref_cotangents (O : Mat 4096 2048) (n : Fin 32) (i : Fin 128) (h : Fin 2) (g : Fin 4) (d : Fin 128) :
    val_main_v104 (F := Ideal) O (ix6 0 n i h g d) = headAt n h g i (by decide) O d := by
  unfold val_main_v104 val_main_v19 val_main_v18 headAt
  pointwise

theorem near_eq (i : Fin 128) (j : Fin 384) :
    IntOp.cmpi CmpIPredicate.sle
        (IntOp.absi (IntOp.subi (IntOp.subi (BitVec.ofNat 32 j.val) 128#32) (BitVec.ofNat 32 i.val))) 128#32
      = BitVec.ofBool (decide (i.val ≤ j.val ∧ j.val ≤ 256 + i.val)) := by
  have hi : (BitVec.ofNat 32 i.val).toInt = i.val := toInt_ofNat_small _ (by omega)
  have hj : (BitVec.ofNat 32 j.val).toInt = j.val := toInt_ofNat_small _ (by omega)
  have h128 : (128#32 : BitVec 32).toInt = 128 := by decide
  have hm : (IntOp.subi (BitVec.ofNat 32 j.val) 128#32).toInt = (j.val : ℤ) - 128 := by
    have := toInt_sub_of_bounds (BitVec.ofNat 32 j.val) 128#32 (by rw [hj, h128]; omega) (by rw [hj, h128]; omega)
    rw [hj, h128] at this
    exact this
  have hx : (IntOp.subi (IntOp.subi (BitVec.ofNat 32 j.val) 128#32) (BitVec.ofNat 32 i.val)).toInt
      = (j.val : ℤ) - 128 - i.val := by
    have := toInt_sub_of_bounds (IntOp.subi (BitVec.ofNat 32 j.val) 128#32) (BitVec.ofNat 32 i.val)
      (by rw [hm, hi]; omega) (by rw [hm, hi]; omega)
    rw [hm, hi] at this
    exact this
  generalize IntOp.subi (IntOp.subi (BitVec.ofNat 32 j.val) 128#32) (BitVec.ofNat 32 i.val) = x at hx
  have h0 : (0#32 : BitVec 32).toInt = 0 := by decide
  have ha : (IntOp.absi x).toInt = |(j.val : ℤ) - 128 - i.val| := by
    unfold IntOp.absi
    rw [BitVec.msb_eq_toInt, hx]
    by_cases hneg : (j.val : ℤ) - 128 - i.val < 0
    · have := toInt_sub_of_bounds 0#32 x (by rw [hx, h0]; omega) (by rw [hx, h0]; omega)
      rw [if_pos (by simpa using hneg), ← BitVec.zero_sub, this, hx, h0, abs_of_neg hneg]
      omega
    · rw [if_neg (by simpa using hneg), hx, abs_of_nonneg (by omega)]
  show BitVec.ofBool (BitVec.sle _ _) = _
  rw [BitVec.sle_eq_decide, ha, h128]
  refine congrArg _ (decide_eq_decide.2 ?_)
  rw [abs_le]
  omega

/-- The position in the sequence, as the programs compute it. -/
theorem place_toInt (n : Fin 32) (j : Fin 384) :
    (IntOp.addi (IntOp.subi (IntOp.muli (BitVec.ofNat 32 n.val) 128#32) 128#32) (BitVec.ofNat 32 j.val)).toInt
      = (n.val : ℤ) * 128 - 128 + j.val := by
  have hn : (BitVec.ofNat 32 n.val).toInt = n.val := toInt_ofNat_small _ (by omega)
  have hj : (BitVec.ofNat 32 j.val).toInt = j.val := toInt_ofNat_small _ (by omega)
  have h128 : (128#32 : BitVec 32).toInt = 128 := by decide
  have hm : (IntOp.muli (BitVec.ofNat 32 n.val) 128#32).toInt = (n.val : ℤ) * 128 := by
    have := toInt_mul_of_bounds (BitVec.ofNat 32 n.val) 128#32 (by rw [hn, h128]; omega) (by rw [hn, h128]; omega)
    rw [hn, h128] at this
    exact this
  have hs : (IntOp.subi (IntOp.muli (BitVec.ofNat 32 n.val) 128#32) 128#32).toInt = (n.val : ℤ) * 128 - 128 := by
    have := toInt_sub_of_bounds (IntOp.muli (BitVec.ofNat 32 n.val) 128#32) 128#32 (by rw [hm, h128]; omega) (by rw [hm, h128]; omega)
    rw [hm, h128] at this
    exact this
  have := toInt_add_of_bounds (IntOp.subi (IntOp.muli (BitVec.ofNat 32 n.val) 128#32) 128#32) (BitVec.ofNat 32 j.val)
    (by rw [hs, hj]; omega) (by rw [hs, hj]; omega)
  rw [hs, hj] at this
  exact this

theorem inside_ge (n : Fin 32) (j : Fin 384) :
    IntOp.cmpi CmpIPredicate.sge
        (IntOp.addi (IntOp.subi (IntOp.muli (BitVec.ofNat 32 n.val) 128#32) 128#32) (BitVec.ofNat 32 j.val)) 0#32
      = BitVec.ofBool (decide (128 ≤ n.val * 128 + j.val)) := by
  show BitVec.ofBool (BitVec.sle _ _) = _
  rw [BitVec.sle_eq_decide, place_toInt]
  exact congrArg _ (decide_eq_decide.2 (by simp; omega))

theorem inside_lt (n : Fin 32) (j : Fin 384) :
    IntOp.cmpi CmpIPredicate.slt
        (IntOp.addi (IntOp.subi (IntOp.muli (BitVec.ofNat 32 n.val) 128#32) 128#32) (BitVec.ofNat 32 j.val)) 4096#32
      = BitVec.ofBool (decide (n.val * 128 + j.val < 4224)) := by
  have h : (4096#32 : BitVec 32).toInt = 4096 := by decide
  show BitVec.ofBool (BitVec.slt _ _) = _
  rw [BitVec.slt_eq_decide, place_toInt, h]
  exact congrArg _ (decide_eq_decide.2 (by omega))

/-- The mask. -/
theorem ref_mask (n : Fin 32) (i : Fin 128) (j : Fin 384) :
    val_main_v56 (F := Ideal) (ix3 n i j) = BitVec.ofBool (decide (Seen n i j)) := by
  unfold val_main_v56 val_main_v55 val_main_v54 val_main_v53 val_main_c_6 val_main_v52 val_main_v51 val_main_v50
    val_main_v49 val_main_v48 val_main_c_5 val_main_v47 val_main_v46 val_main_v45 val_main_c_4 val_main_v44
    val_main_v43 val_main_v42 val_main_v41 val_main_v40 val_main_v39 val_main_v38 val_main_c_3 val_main_v37
    val_main_v36 val_main_c_2 val_main_v35 val_main_v34 val_main_v33 val_main_v32 val_main_v31 val_main_v30
    val_main_v29 val_main_c_1 val_main_v28 val_main_v27 val_main_v26 val_main_v25
  pointwise
  rw [near_eq, inside_ge, inside_lt, andi_ofBool, andi_ofBool]
  congr 1
  unfold Seen
  rw [← Bool.decide_and, ← Bool.decide_and]
  exact decide_eq_decide.2 (by tauto)

end Cert.Attn

end
-- ==== Proof.Reduce.lean ====
/-
  Sums and a maximum along axes of an array of six axes.
-/
module

public import proofs.«01_k».proof.Proof.Gen.ReferenceIdeal.Read
public import Idealize.ShloMosaic.Lib.Pointwise

@[expose] public section

noncomputable section

namespace Cert.Attn

open Idealize.ShloMosaic Cert.ReferenceIdeal Cert.ReferenceIdeal.Gen

section
variable {n0 n1 n2 n3 n4 n5 : ℕ}
variable (h : (⟨6, ![n0, n1, n2, n3, n4, n5]⟩ : Shape).ReducesTo [5] ⟨5, ![n0, n1, n2, n3, n4]⟩)
variable (a : Fin n0) (b : Fin n1) (c : Fin n2) (d : Fin n3) (e : Fin n4)

theorem last_fiber (i : (⟨6, ![n0, n1, n2, n3, n4, n5]⟩ : Shape).Idx) :
    h.drop i = ix5 a b c d e ↔ ∃ k : Fin n5, ix6 a b c d e k = i := by
  constructor
  · intro hd
    refine ⟨i 5, ?_⟩
    funext x
    apply Fin.ext
    match x with
    | ⟨0, _⟩ => exact (congrArg Fin.val (congrFun hd 0)).symm
    | ⟨1, _⟩ => exact (congrArg Fin.val (congrFun hd 1)).symm
    | ⟨2, _⟩ => exact (congrArg Fin.val (congrFun hd 2)).symm
    | ⟨3, _⟩ => exact (congrArg Fin.val (congrFun hd 3)).symm
    | ⟨4, _⟩ => exact (congrArg Fin.val (congrFun hd 4)).symm
    | ⟨5, _⟩ => rfl
  · rintro ⟨k, rfl⟩
    funext x
    apply Fin.ext
    match x with
    | ⟨0, _⟩ => rfl
    | ⟨1, _⟩ => rfl
    | ⟨2, _⟩ => rfl
    | ⟨3, _⟩ => rfl
    | ⟨4, _⟩ => rfl

theorem last_inj : Function.Injective
    (fun k : Fin n5 => (ix6 a b c d e k : (⟨6, ![n0, n1, n2, n3, n4, n5]⟩ : Shape).Idx)) :=
  fun _ _ hk => congrFun hk 5

/-- A sum along the last of six axes. -/
theorem sum_last (v : (⟨6, ![n0, n1, n2, n3, n4, n5]⟩ : Shape).Idx → EReal) (z : EReal) :
    Ideal.hostReduceAdd h v z (ix5 a b c d e) = z + ∑ k : Fin n5, v (ix6 a b c d e k) :=
  congrArg (z + ·) (Finset.sum_filter_eq_sum_of_fiber _ _ (last_inj a b c d e) (last_fiber h a b c d e) v)

/-- A maximum along the last of six axes. -/
theorem max_last (v : (⟨6, ![n0, n1, n2, n3, n4, n5]⟩ : Shape).Idx → EReal) (z : EReal) :
    (Finset.univ.filter (fun i => h.drop i = ix5 a b c d e)).fold max z v
      = Finset.univ.fold max z (fun k : Fin n5 => v (ix6 a b c d e k)) :=
  Finset.fold_filter_eq_fold_of_fiber max _ _ (last_inj a b c d e) (last_fiber h a b c d e) z v
end

/-- A sum along a first and a last axis of one element each. -/
theorem sum_ends {n1 n2 n3 n4 : ℕ}
    (h : (⟨6, ![1, n1, n2, n3, n4, 1]⟩ : Shape).ReducesTo [0, 5] ⟨4, ![n1, n2, n3, n4]⟩)
    (a : Fin n1) (b : Fin n2) (c : Fin n3) (d : Fin n4)
    (v : (⟨6, ![1, n1, n2, n3, n4, 1]⟩ : Shape).Idx → EReal) (z : EReal) :
    Ideal.hostReduceAdd h v z (ix4 a b c d) = z + v (ix6 0 a b c d 0) := by
  have hf : ∀ i, h.drop i = ix4 a b c d ↔ ∃ k : Fin 1,
      (fun _ : Fin 1 => (ix6 0 a b c d 0 : (⟨6, ![1, n1, n2, n3, n4, 1]⟩ : Shape).Idx)) k = i := by
    intro i
    constructor
    · intro hd
      refine ⟨0, ?_⟩
      funext x
      match x with
      | ⟨0, _⟩ => exact Subsingleton.elim (α := Fin 1) _ _
      | ⟨1, _⟩ => exact Fin.ext (congrArg Fin.val (congrFun hd 0)).symm
      | ⟨2, _⟩ => exact Fin.ext (congrArg Fin.val (congrFun hd 1)).symm
      | ⟨3, _⟩ => exact Fin.ext (congrArg Fin.val (congrFun hd 2)).symm
      | ⟨4, _⟩ => exact Fin.ext (congrArg Fin.val (congrFun hd 3)).symm
      | ⟨5, _⟩ => exact Subsingleton.elim (α := Fin 1) _ _
    · rintro ⟨k, rfl⟩
      funext x
      apply Fin.ext
      match x with
      | ⟨0, _⟩ | ⟨1, _⟩ | ⟨2, _⟩ | ⟨3, _⟩ => rfl
  refine congrArg (z + ·) ((Finset.sum_filter_eq_sum_of_fiber _ _ (Function.injective_of_subsingleton _) hf v).trans ?_)
  exact Fin.sum_univ_one _

/-- A sum along all axes but two, of one element each. -/
theorem sum_ones {n1 n2 : ℕ}
    (h : (⟨6, ![1, n1, n2, 1, 1, 1]⟩ : Shape).ReducesTo [0, 3, 4, 5] ⟨2, ![n1, n2]⟩)
    (a : Fin n1) (b : Fin n2) (v : (⟨6, ![1, n1, n2, 1, 1, 1]⟩ : Shape).Idx → EReal) (z : EReal) :
    Ideal.hostReduceAdd h v z (ix2 a b) = z + v (ix6 0 a b 0 0 0) := by
  have hf : ∀ i, h.drop i = ix2 a b ↔ ∃ k : Fin 1,
      (fun _ : Fin 1 => (ix6 0 a b 0 0 0 : (⟨6, ![1, n1, n2, 1, 1, 1]⟩ : Shape).Idx)) k = i := by
    intro i
    constructor
    · intro hd
      refine ⟨0, ?_⟩
      funext x
      match x with
      | ⟨0, _⟩ | ⟨3, _⟩ | ⟨4, _⟩ | ⟨5, _⟩ => exact Subsingleton.elim (α := Fin 1) _ _
      | ⟨1, _⟩ => exact Fin.ext (congrArg Fin.val (congrFun hd 0)).symm
      | ⟨2, _⟩ => exact Fin.ext (congrArg Fin.val (congrFun hd 1)).symm
    · rintro ⟨k, rfl⟩
      funext x
      apply Fin.ext
      match x with
      | ⟨0, _⟩ | ⟨1, _⟩ => rfl
  refine congrArg (z + ·) ((Finset.sum_filter_eq_sum_of_fiber _ _ (Function.injective_of_subsingleton _) hf v).trans ?_)
  exact Fin.sum_univ_one _

/-- A sum along the fourth and the fifth of six axes. -/
theorem sum_inner {n0 n1 n2 n3 n4 n5 : ℕ}
    (h : (⟨6, ![n0, n1, n2, n3, n4, n5]⟩ : Shape).ReducesTo [3, 4] ⟨4, ![n0, n1, n2, n5]⟩)
    (a : Fin n0) (b : Fin n1) (c : Fin n2) (f : Fin n5)
    (v : (⟨6, ![n0, n1, n2, n3, n4, n5]⟩ : Shape).Idx → EReal) (z : EReal) :
    Ideal.hostReduceAdd h v z (ix4 a b c f) = z + ∑ d : Fin n3, ∑ e : Fin n4, v (ix6 a b c d e f) := by
  have hf : ∀ i, h.drop i = ix4 a b c f ↔ ∃ k : Fin n3 × Fin n4,
      (fun k : Fin n3 × Fin n4 =>
        (ix6 a b c k.1 k.2 f : (⟨6, ![n0, n1, n2, n3, n4, n5]⟩ : Shape).Idx)) k = i := by
    intro i
    constructor
    · intro hd
      refine ⟨(i 3, i 4), ?_⟩
      funext x
      apply Fin.ext
      match x with
      | ⟨0, _⟩ => exact (congrArg Fin.val (congrFun hd 0)).symm
      | ⟨1, _⟩ => exact (congrArg Fin.val (congrFun hd 1)).symm
      | ⟨2, _⟩ => exact (congrArg Fin.val (congrFun hd 2)).symm
      | ⟨3, _⟩ | ⟨4, _⟩ => rfl
      | ⟨5, _⟩ => exact (congrArg Fin.val (congrFun hd 3)).symm
    · rintro ⟨k, rfl⟩
      funext x
      apply Fin.ext
      match x with
      | ⟨0, _⟩ | ⟨1, _⟩ | ⟨2, _⟩ | ⟨3, _⟩ => rfl
  refine congrArg (z + ·) ((Finset.sum_filter_eq_sum_of_fiber _ _ ?_ hf v).trans ?_)
  · intro k k' hk
    exact Prod.ext (congrFun hk 3) (congrFun hk 4)
  · exact Fintype.sum_prod_type _

end Cert.Attn

end
-- ==== Proof.RefScore.lean ====
/-
  The reference program read at an index: one row's scores and their maximum.
-/
module

public import proofs.«01_k».proof.Proof.RefMask
public import proofs.«01_k».proof.Proof.Reduce

@[expose] public section

set_option maxRecDepth 16384

noncomputable section

namespace Cert.Attn

open Idealize.ShloMosaic Cert.ReferenceIdeal Cert.ReferenceIdeal.Gen Cert.ReferenceIdeal.Read

theorem ref_values (V : Mat 4096 256) (n : Fin 32) (j : Fin 384) (h : Fin 2) (d : Fin 128) :
    val_main_v17 (F := Ideal) V (ix5 0 n j h d) = windowAt n h j V d :=
  ref_keys V n j h d

section
variable (Q : Mat 4096 1024) (K V : Mat 4096 256) (S : (⟨1, ![8]⟩ : Shape).Idx → EReal) (O : Mat 4096 2048)
variable (h : Fin 2) (g : Fin 4) (n : Fin 32) (i : Fin 128)

/-- A row's scores. -/
abbrev rowS (j : Fin 384) : EReal := score n h g i j Q K

/-- A row's derivatives by the probabilities. -/
abbrev rowP (j : Fin 384) : EReal := dprob n h g i j V O

theorem ref_score (j : Fin 384) :
    val_main_v57_0 (F := Ideal) Q K (ix6 0 h g n i j) = rowS Q K h g n i j := by
  unfold val_main_v57_0 val_main_v57_1 val_main_call2_v2 val_main_call2_v0 val_main_cst_7 val_main_v24 val_main_v23
    val_main_cst val_main_v22 val_main_v21 rowS score scale
  pointwise [ref_keys, ref_queries, ref_mask, ofBits_neg_inf]
  by_cases hs : Seen n i j
  · simp [hs, Scalar.select]
  · simp [hs, Scalar.select]
    exact ofBits_neg_inf

theorem ref_top : val_main_v60 (F := Ideal) Q K (ix5 0 h g n i) = Finset.univ.fold max ⊥ (rowS Q K h g n i) := by
  unfold val_main_v60 val_main_cst_8
  pointwise [max_last, ref_score, ofBits_neg_inf]

theorem ref_sink : val_main_v59 (F := Ideal) S (ix6 0 h g 0 0 0) = sinkAt h g S := by
  unfold val_main_v59 val_main_v58 sinkAt
  pointwise

theorem idx_rows (j : Fin 384) : idx_main_v87 (ix6 0 h g n i j) = ix6 0 h g n i 0 := by
  funext a
  match a with
  | ⟨0, _⟩ | ⟨1, _⟩ | ⟨2, _⟩ | ⟨3, _⟩ | ⟨4, _⟩ | ⟨5, _⟩ => rfl

theorem idx_top : idx_main_v66 (ix6 0 h g n i 0) = ix5 0 h g n i := by
  funext a
  match a with
  | ⟨0, _⟩ | ⟨1, _⟩ | ⟨2, _⟩ | ⟨3, _⟩ | ⟨4, _⟩ => rfl

theorem idx_sink : idx_main_v67 (ix6 0 h g n i 0) = ix6 0 h g 0 0 0 := by
  funext a
  match a with
  | ⟨0, _⟩ | ⟨1, _⟩ | ⟨2, _⟩ | ⟨3, _⟩ | ⟨4, _⟩ | ⟨5, _⟩ => rfl

theorem ref_max : val_main_v68 (F := Ideal) Q K S (ix6 0 h g n i 0) = rowMax (rowS Q K h g n i) (sinkAt h g S) := by
  have ht : val_main_v66 (F := Ideal) Q K (ix6 0 h g n i 0) = Finset.univ.fold max ⊥ (rowS Q K h g n i) := by
    rw [val_main_v66_apply, idx_top, ref_top]
  have hs : val_main_v67 (F := Ideal) S (ix6 0 h g n i 0) = sinkAt h g S := by
    rw [val_main_v67_apply, idx_sink, ref_sink]
  rw [val_main_v68_apply, ht, hs]
  rw [Ideal.maximumf_eq_max]
  rfl

end

end Cert.Attn

end
-- ==== Proof.RefRow.lean ====
/-
  The reference program read at an index: one row's softmax and its gradient.
-/
module

public import proofs.«01_k».proof.Proof.RefScore

@[expose] public section

set_option maxRecDepth 16384

noncomputable section

namespace Cert.Attn

open Idealize.ShloMosaic Cert.ReferenceIdeal Cert.ReferenceIdeal.Gen Cert.ReferenceIdeal.Read

section
variable (Q : Mat 4096 1024) (K V : Mat 4096 256) (S : (⟨1, ![8]⟩ : Shape).Idx → EReal) (O : Mat 4096 2048)
variable (h : Fin 2) (g : Fin 4) (n : Fin 32) (i : Fin 128)

theorem ref_exp (j : Fin 384) :
    val_main_v89 (F := Ideal) Q K S (ix6 0 h g n i j) = rowExp (rowS Q K h g n i) (sinkAt h g S) j := by
  rw [val_main_v89_apply, val_main_v88_apply, val_main_v87_apply, idx_rows, ref_score, ref_max]
  unfold rowExp
  show Ideal.exp (_ - _) = Ideal.exp (_ - _)
  rfl

theorem ref_sinkExp :
    val_main_v94 (F := Ideal) Q K S (ix6 0 h g n i 0) = rowSink (rowS Q K h g n i) (sinkAt h g S) := by
  unfold val_main_v94 val_main_v93 val_main_v92 rowSink
  pointwise [ref_sink, ref_max]

theorem ref_sum :
    val_main_v95 (F := Ideal) Q K S (ix6 0 h g n i 0) = rowSum (rowS Q K h g n i) (sinkAt h g S) := by
  unfold val_main_v95 val_main_v91 val_main_v90 val_main_cst_16 rowSum
  pointwise [sum_last, ref_exp, ref_sinkExp]

theorem ref_prob (j : Fin 384) :
    val_main_v97 (F := Ideal) Q K S (ix6 0 h g n i j) = probOf Q K S n h g i j := by
  unfold val_main_v97 val_main_v96 probOf rowProb
  pointwise [ref_exp, ref_sum]

theorem ref_dprob (j : Fin 384) :
    val_main_v107 (F := Ideal) V O (ix6 0 h g n i j) = rowP V O h g n i j := by
  unfold val_main_v107 val_main_v106 val_main_v105 rowP dprob
  pointwise [ref_cotangents, ref_values]

theorem ref_dot : val_main_v115 (F := Ideal) Q K V S O (ix6 0 h g n i 0)
    = rowDot (rowS Q K h g n i) (sinkAt h g S) (rowP V O h g n i) := by
  unfold val_main_v115 val_main_v114 val_main_v113 val_main_cst_18 val_main_v112 val_main_v111 val_main_v110
    val_main_v100 val_main_v99 val_main_v98 val_main_cst_17 rowDot
  pointwise [sum_last, ref_exp, ref_sum, ref_dprob]

theorem ref_dsink : val_main_v118 (F := Ideal) Q K V S O (ix6 0 h g n i 0) = drowSink Q K V S O n h g i := by
  unfold val_main_v118 drowSink
  pointwise [ref_dot, ref_sinkExp]

theorem ref_ds (j : Fin 384) : val_main_v126 (F := Ideal) Q K V S O (ix6 0 h g n i j)
    = rowDs (rowS Q K h g n i) (sinkAt h g S) (rowP V O h g n i) j := by
  unfold val_main_v126 val_main_v125 val_main_v124 val_main_v123 val_main_v122 val_main_cst_20 val_main_v117
    val_main_v116 rowDs
  pointwise [sum_ends, ref_exp, ref_sum, ref_dprob, ref_dot]

theorem ref_flow : val_main_v130 (F := Ideal) Q K V S O (ix6 0 h g n i 0)
    = rowFlow (rowS Q K h g n i) (sinkAt h g S) (rowP V O h g n i) := by
  unfold val_main_v130 val_main_v129 val_main_v128 val_main_cst_21 val_main_v127 val_main_v121 rowFlow
  pointwise [sum_last, ref_dsink, ref_ds, drowSink]

end

end Cert.Attn

end
-- ==== Proof.RefOut.lean ====
/-
  The reference program's derivatives by the scores: the parts by way of the maximum are zero.
-/
module

public import proofs.«01_k».proof.Proof.RefRow

@[expose] public section

set_option maxRecDepth 16384

noncomputable section

namespace Cert.Attn

open Idealize.ShloMosaic Cert.ReferenceIdeal Cert.ReferenceIdeal.Gen Cert.ReferenceIdeal.Read

section
variable (Q : Mat 4096 1024) (K V : Mat 4096 256) (S : (⟨1, ![8]⟩ : Shape).Idx → EReal) (O : Mat 4096 2048)

/-- The values, and the cotangents of the attention's columns, are numbers. -/
def Numbers : Prop :=
  (∀ t c, ∃ r : ℝ, V (ix2 t c) = (r : EReal)) ∧
    ∀ (t : Fin 4096) (c : Fin 2048), c.val < 1024 → ∃ r : ℝ, O (ix2 t c) = (r : EReal)

variable (h : Fin 2) (g : Fin 4) (n : Fin 32) (i : Fin 128)

theorem dprob_real (hN : Numbers V O) (j : Fin 384) : ∃ r : ℝ, dprob n h g i j V O = (r : EReal) := by
  have hv : ∀ d, ∃ r : ℝ, windowAt n h j V d = (r : EReal) := by
    intro d
    unfold windowAt
    split
    · exact hN.1 _ _
    · exact ⟨0, rfl⟩
  have ho : ∀ d, ∃ r : ℝ, headAt n h g i (by decide) O d = (r : EReal) := by
    intro d
    exact hN.2 _ _ (by show h.val * 512 + g.val * 128 + d.val < 1024; omega)
  choose a ha using hv
  choose b hb using ho
  refine ⟨∑ d, b d * a d, ?_⟩
  rw [coe_sum]
  exact Finset.sum_congr rfl fun d _ => by rw [ha, hb, EReal.coe_mul]

theorem flow_zero (hN : Numbers V O) : val_main_v130 (F := Ideal) Q K V S O (ix6 0 h g n i 0) = 0 := by
  rw [ref_flow]
  exact row_flow _ _ _ fun j _ => dprob_real V O h g n i hN j

/-- Whether a score is the row's maximum, as a number. -/
theorem ref_equal (j : Fin 384) : val_main_v64 (F := Ideal) Q K (ix6 0 h g n i j) = 0
    ∨ val_main_v64 (F := Ideal) Q K (ix6 0 h g n i j) = 1 := by
  rw [val_main_v64_apply]
  generalize val_main_v63 (F := Ideal) Q K (ix6 0 h g n i j) = b
  have hb : b = 0#1 ∨ b = 1#1 := by
    revert b; decide
  rcases hb with rfl | rfl
  · left; show (((0#1 : BitVec 1).toNat : ℝ) : EReal) = 0; simp
  · right; show (((1#1 : BitVec 1).toNat : ℝ) : EReal) = 1; simp

theorem ref_count : val_main_v65 (F := Ideal) Q K (ix5 0 h g n i)
    = ∑ j : Fin 384, val_main_v64 (F := Ideal) Q K (ix6 0 h g n i j) := by
  unfold val_main_v65 val_main_cst_9
  pointwise [sum_last]

theorem share_zero (j : Fin 384) :
    Ideal.div 0 (val_main_v65 (F := Ideal) Q K (ix5 0 h g n i)) * val_main_v64 (F := Ideal) Q K (ix6 0 h g n i j) = 0 := by
  rcases ref_equal Q K h g n i j with h0 | h1
  · rw [h0, mul_zero]
  · have hpos : 0 < val_main_v65 (F := Ideal) Q K (ix5 0 h g n i) := by
      rw [ref_count]
      refine lt_of_lt_of_le (by rw [h1]; exact zero_lt_one) (Finset.single_le_sum
        (f := fun j : Fin 384 => val_main_v64 (F := Ideal) Q K (ix6 0 h g n i j)) ?_ (Finset.mem_univ j))
      intro k _
      rcases ref_equal Q K h g n i k with hk | hk
      · exact hk.ge
      · exact zero_le_one.trans hk.ge
    rw [Ideal.div, if_neg hpos.ne', zero_mul, zero_mul]

theorem ref_whole (hN : Numbers V O) (j : Fin 384) : val_main_v141 (F := Ideal) Q K V S O (ix6 0 h g n i j)
    = rowDs (rowS Q K h g n i) (sinkAt h g S) (rowP V O h g n i) j := by
  have hz : val_main_v136 (F := Ideal) Q K V S O (ix4 h g n i) = 0 := by
    unfold val_main_v136 val_main_v135 val_main_cst_23
    pointwise [sum_ends, flow_zero Q K V S O h g n i hN]
    exact zero_mul _
  have ho : val_main_v140 (F := Ideal) Q K V S O (ix6 0 h g n i j) = 0 := by
    unfold val_main_v140 val_main_v139 val_main_v138 val_main_v137
    pointwise [hz]
    exact share_zero Q K h g n i j
  unfold val_main_v141
  pointwise [ref_ds, ho]

theorem ref_dscore (hN : Numbers V O) (j : Fin 384) : val_main_v146 (F := Ideal) Q K V S O (ix6 0 h g n i j)
    = dscore Q K V S O n h g i j := by
  unfold val_main_v146 val_main_v145 val_main_cst_25 val_main_v144 val_main_v57_1 dscore scale
  pointwise [ref_mask, ref_whole Q K V S O h g n i hN]
  by_cases hs : Seen n i j
  · simp [hs, Scalar.select]
  · have hr : rowDs (rowS Q K h g n i) (sinkAt h g S) (rowP V O h g n i) j = 0 := by
      rw [rowDs, rowExp_hidden _ _ _ (by rw [rowS, score, if_neg hs]), mul_zero]
    have h0 : val_main_call3_v0 (F := Ideal) (ix6 0 h g n i j) = 0 := by
      unfold val_main_call3_v0 val_main_call3_cst
      pointwise
    simp [hs, Scalar.select, hr, h0]

end

end Cert.Attn

end
-- ==== Proof.RefArr.lean ====
/-
  The reference program's results are the arrays of the problem.
-/
module

public import proofs.«01_k».proof.Proof.RefOut

@[expose] public section

set_option maxRecDepth 16384

noncomputable section

namespace Cert.Attn

open Idealize.ShloMosaic Cert.ReferenceIdeal Cert.ReferenceIdeal.Gen Cert.ReferenceIdeal.Read

section
variable (Q : Mat 4096 1024) (K V : Mat 4096 256) (S : (⟨1, ![8]⟩ : Shape).Idx → EReal) (O : Mat 4096 2048)

theorem ref_turned (hN : Numbers V O) (h : Fin 2) (g : Fin 4) (n : Fin 32) (i : Fin 128) (j : Fin 384) :
    val_main_v147 (F := Ideal) Q K V S O (ix6 0 h n j i g) = dscore Q K V S O n h g i j := by
  unfold val_main_v147
  pointwise [ref_dscore Q K V S O _ _ _ _ hN]

theorem ref_dq (hN : Numbers V O) : val_main_v168 (F := Ideal) Q K V S O = dqArr Q K V S O := by
  funext y
  obtain ⟨n, h, g, i, d, rfl⟩ := query_index y
  rw [dqArr_at]
  have hd : val_main_v148 (F := Ideal) Q K V S O (ix6 0 h n i g d) = dqOf Q K V S O n h g i d := by
    unfold val_main_v148 dqOf
    pointwise [ref_turned Q K V S O hN, ref_keys]
  unfold val_main_v168 val_main_v152 val_main_v149 rowAt colAt
  pointwise
  exact hd

theorem ref_dkeys (hN : Numbers V O) (n : Fin 32) (h : Fin 2) (j : Fin 384) (d : Fin 128) :
    val_main_v150 (F := Ideal) Q K V S O (ix5 0 h n j d) = dkOf Q K V S O n h j d := by
  unfold val_main_v150 dkOf
  pointwise [ref_turned Q K V S O hN, ref_queries]

theorem ref_dvalues (n : Fin 32) (h : Fin 2) (j : Fin 384) (d : Fin 128) :
    val_main_v108 (F := Ideal) Q K S O (ix5 0 n h d j) = dvOf Q K S O n h j d := by
  have hc : dvOf Q K S O n h j d
      = ∑ g : Fin 4, ∑ i : Fin 128, headAt n h g i (by decide) O d * probOf Q K S n h g i j :=
    Finset.sum_comm.trans <| Finset.sum_congr rfl fun _ _ => Finset.sum_congr rfl fun _ _ => mul_comm _ _
  rw [hc]
  unfold val_main_v108 val_main_v105
  pointwise [ref_prob, ref_cotangents]

theorem ref_dk_before (hN : Numbers V O) : val_main_v154 (F := Ideal) Q K V S O = dkArr Q K V S O 0 := by
  funext y
  obtain ⟨n, h, i, d, rfl⟩ := key_index y
  rw [dkArr_at]
  unfold val_main_v154 val_main_v153 val_main_v151 rowAt keyAt
  pointwise
  exact ref_dkeys Q K V S O hN _ _ _ _

theorem ref_dv_before : val_main_v160 (F := Ideal) Q K S O = dvArr Q K S O 0 := by
  funext y
  obtain ⟨n, h, i, d, rfl⟩ := key_index y
  rw [dvArr_at]
  unfold val_main_v160 val_main_v159 val_main_v109 rowAt keyAt
  pointwise
  exact ref_dvalues Q K S O _ _ _ _

theorem ref_dk_same (hN : Numbers V O) : val_main_v156 (F := Ideal) Q K V S O = dkArr Q K V S O 1 := by
  funext y
  obtain ⟨n, h, i, d, rfl⟩ := key_index y
  rw [dkArr_at]
  unfold val_main_v156 val_main_v155 val_main_v151 rowAt keyAt
  pointwise
  exact ref_dkeys Q K V S O hN _ _ _ _

theorem ref_dv_same : val_main_v162 (F := Ideal) Q K S O = dvArr Q K S O 1 := by
  funext y
  obtain ⟨n, h, i, d, rfl⟩ := key_index y
  rw [dvArr_at]
  unfold val_main_v162 val_main_v161 val_main_v109 rowAt keyAt
  pointwise
  exact ref_dvalues Q K S O _ _ _ _

theorem ref_dk_after (hN : Numbers V O) : val_main_v158 (F := Ideal) Q K V S O = dkArr Q K V S O 2 := by
  funext y
  obtain ⟨n, h, i, d, rfl⟩ := key_index y
  rw [dkArr_at]
  unfold val_main_v158 val_main_v157 val_main_v151 rowAt keyAt
  pointwise
  exact ref_dkeys Q K V S O hN _ _ _ _

theorem ref_dv_after : val_main_v164 (F := Ideal) Q K S O = dvArr Q K S O 2 := by
  funext y
  obtain ⟨n, h, i, d, rfl⟩ := key_index y
  rw [dvArr_at]
  unfold val_main_v164 val_main_v163 val_main_v109 rowAt keyAt
  pointwise
  exact ref_dvalues Q K S O _ _ _ _

theorem ref_dsinks (hN : Numbers V O) : val_main_v169 (F := Ideal) Q K V S O = dsinkArr Q K V S O := by
  have hs : ∀ (h : Fin 2) (g : Fin 4), val_main_v120 (F := Ideal) Q K V S O (ix6 0 h g 0 0 0) = dsinkOf Q K V S O h g := by
    intro h g
    unfold val_main_v120 val_main_v119 val_main_cst_19 dsinkOf
    pointwise [sum_inner, ref_dsink]
  have h0 : ∀ (h : Fin 2) (g : Fin 4), val_main_v133 (F := Ideal) Q K V S O (ix6 0 h g 0 0 0) = 0 := by
    intro h g
    unfold val_main_v133 val_main_v132 val_main_v131 val_main_cst_22
    pointwise [sum_inner, flow_zero Q K V S O _ _ _ _ hN]
    simp
  have h1 : ∀ (h : Fin 2) (g : Fin 4), val_main_v142 (F := Ideal) Q K V S O (ix2 h g) = dsinkOf Q K V S O h g := by
    intro h g
    unfold val_main_v142 val_main_v134 val_main_cst_24
    pointwise [sum_ones, hs, h0]
  funext y
  rw [eq_ix3 y]
  generalize y 0 = h
  generalize y 1 = r
  generalize y 2 = c
  unfold val_main_v169 val_main_v167 val_main_v166 val_main_v165 val_main_v143 val_main_cst_26 dsinkArr
  pointwise [h1]
end

end Cert.Attn

end
-- ==== Proof.Block.lean ====
/-
  What one grid point of the kernel computes, read at an index.
-/
module

public import proofs.«01_k».proof.Proof.Problem
public import proofs.«01_k».proof.Proof.Gen.KernelIdeal.Skeleton
public import Idealize.ShloMosaic.Lib.Pointwise

@[expose] public section

set_option maxRecDepth 16384

noncomputable section

namespace Cert.Attn

open Idealize.ShloMosaic Cert.KernelIdeal Cert.KernelIdeal.Gen

abbrev V (s : Shape) (φ : FTy) : Type := FVec Ideal s φ

/-- Row `i` of query head `g` in the stack of the four heads. -/
abbrev rowOf (g : Fin 4) (i : Fin 128) : Fin 512 := ⟨128 * g.val + i.val, by omega⟩

theorem rowOf_zero (i : Fin 128) : rowOf 0 i = ⟨i.val, by omega⟩ := Fin.ext (by simp)
theorem rowOf_one (i : Fin 128) : rowOf 1 i = ⟨128 + i.val, by omega⟩ := rfl
theorem rowOf_two (i : Fin 128) : rowOf 2 i = ⟨256 + i.val, by omega⟩ := rfl
theorem rowOf_three (i : Fin 128) : rowOf 3 i = ⟨384 + i.val, by omega⟩ := rfl

/-- A row of scores from the stacked queries, the keys and the bias. -/
def kScore (kc : V S384x128 .f32) (b : V S512x384 .f32) (qs : V S512x128 .f32) (r : Fin 512) (j : Fin 384) : EReal :=
  (∑ d : Fin 128, qs (ix2 r d) * kc (ix2 j d)) * scale + b (ix2 r j)

theorem pay13_apply (kc : V S384x128 .f32) (b : V S512x384 .f32) (qs : V S512x128 .f32) (r : Fin 512) (j : Fin 384) :
    k0_pay13 kc b qs (ix2 r j) = kScore kc b qs r j := by
  unfold k0_pay13 kScore scale
  pointwise

section
variable (kc : V S384x128 .f32) (b : V S512x384 .f32) (qs : V S512x128 .f32)
variable (v22 v27 : V S128x1 .f32) (v31 v36 : Elt Ideal .f32)

/-- The sink's logit at a row. -/
def kSk (r : Fin 512) : EReal := k0_pay12 v22 v27 v31 v36 (ix2 r 0)

theorem pay14_apply (r : Fin 512) :
    k0_pay14 kc b qs v22 v27 v31 v36 (ix2 r 0) = rowMax (kScore kc b qs r) (kSk v22 v27 v31 v36 r) := by
  unfold k0_pay14 rowMax kSk
  pointwise [pay13_apply, ofBits_neg_inf]

theorem pay15_apply (r : Fin 512) (j : Fin 384) :
    k0_pay15 kc b qs v22 v27 v31 v36 (ix2 r j) = rowExp (kScore kc b qs r) (kSk v22 v27 v31 v36 r) j := by
  unfold k0_pay15 rowExp
  pointwise [pay13_apply, pay14_apply]

theorem pay16_apply (r : Fin 512) :
    k0_pay16 kc b qs v22 v27 v31 v36 (ix2 r 0) = rowSink (kScore kc b qs r) (kSk v22 v27 v31 v36 r) := by
  unfold k0_pay16 rowSink
  pointwise [pay14_apply]
  rfl

theorem pay17_apply (r : Fin 512) :
    k0_pay17 kc b qs v22 v27 v31 v36 (ix2 r 0) = rowSum (kScore kc b qs r) (kSk v22 v27 v31 v36 r) := by
  unfold k0_pay17 rowSum
  pointwise [pay15_apply, pay16_apply]

theorem pay18_apply (r : Fin 512) :
    k0_pay18 kc b qs v22 v27 v31 v36 (ix2 r 0) = Ideal.div 1
      (rowSum (kScore kc b qs r) (kSk v22 v27 v31 v36 r) * rowSum (kScore kc b qs r) (kSk v22 v27 v31 v36 r)) := by
  unfold k0_pay18
  pointwise [pay17_apply]

theorem pay20_apply (vc : V S384x128 .f32) (v61 v62 v63 v64 : V S128x128 .f32) (r : Fin 512) (j : Fin 384) :
    k0_pay20 vc v61 v62 v63 v64 (ix2 r j)
      = ∑ d : Fin 128, k0_pay19 (F := Ideal) v61 v62 v63 v64 (ix2 r d) * vc (ix2 j d) := by
  unfold k0_pay20
  pointwise

theorem pay21_apply (v61 v62 v63 v64 : V S128x128 .f32) (j : Fin 384) (d : Fin 128) :
    k0_pay21 kc b qs v22 v27 v31 v36 v61 v62 v63 v64 (ix2 j d)
      = ∑ r : Fin 512, rowProb (kScore kc b qs r) (kSk v22 v27 v31 v36 r) j * k0_pay19 (F := Ideal) v61 v62 v63 v64 (ix2 r d) := by
  unfold k0_pay21 rowProb
  pointwise [pay15_apply, pay17_apply]
end

section
variable (v50 : V S512x384 .f32) (v54 v55 v60 : V S512x1 .f32) (v68 : V S512x384 .f32)
variable (s : Fin 512 → Fin 384 → EReal) (sk : Fin 512 → EReal)
variable (h50 : ∀ r j, v50 (ix2 r j) = rowExp (s r) (sk r) j)
variable (h54 : ∀ r, v54 (ix2 r 0) = rowSink (s r) (sk r))
variable (h55 : ∀ r, v55 (ix2 r 0) = rowSum (s r) (sk r))
variable (h60 : ∀ r, v60 (ix2 r 0) = Ideal.div 1 (rowSum (s r) (sk r) * rowSum (s r) (sk r)))

include h50 h60 in
theorem pay22_apply (r : Fin 512) :
    k0_pay22 v50 v60 v68 (ix2 r 0) = rowDot (s r) (sk r) fun j => v68 (ix2 r j) := by
  unfold k0_pay22 rowDot
  pointwise [h50, h60]
  rw [zero_sub]

include h50 h54 h60 in
theorem pay23_apply (r : Fin 512) :
    k0_pay23 v50 v54 v60 v68 (ix2 r 0)
      = rowDot (s r) (sk r) (fun j => v68 (ix2 r j)) * rowSink (s r) (sk r) := by
  unfold k0_pay23
  pointwise [h54, pay22_apply v50 v60 v68 s sk h50 h60]

include h50 h55 h60 in
theorem pay24_apply (r : Fin 512) (j : Fin 384) :
    k0_pay24 v50 v55 v60 v68 (ix2 r j) = rowDs (s r) (sk r) (fun j => v68 (ix2 r j)) j * scale := by
  unfold k0_pay24 rowDs scale
  pointwise [h50, h55]
  rw [Fin.sum_univ_one, pay22_apply v50 v60 v68 s sk h50 h60]

include h50 h55 h60 in
theorem pay25_apply (kc : V S384x128 .f32) (r : Fin 512) (d : Fin 128) :
    k0_pay25 kc v50 v55 v60 v68 (ix2 r d)
      = ∑ j : Fin 384, rowDs (s r) (sk r) (fun j => v68 (ix2 r j)) j * scale * kc (ix2 j d) := by
  unfold k0_pay25
  pointwise [pay24_apply v50 v55 v60 v68 s sk h50 h55 h60]

include h50 h55 h60 in
theorem pay26_apply (qs : V S512x128 .f32) (j : Fin 384) (d : Fin 128) :
    k0_pay26 qs v50 v55 v60 v68 (ix2 j d)
      = ∑ r : Fin 512, rowDs (s r) (sk r) (fun j => v68 (ix2 r j)) j * scale * qs (ix2 r d) := by
  unfold k0_pay26
  pointwise [pay24_apply v50 v55 v60 v68 s sk h50 h55 h60]
end

/-- The sum over one head's rows. -/
def headSum (x : Fin 512 → EReal) (g : Fin 4) : EReal := ∑ i : Fin 128, x (rowOf g i)

theorem select_row (a : Fin 8) (k : ℕ) (hk : k < 8) (x y : EReal) :
    Scalar.select (IntOp.cmpi CmpIPredicate.eq (BitVec.ofNat 32 a.val) (BitVec.ofNat 32 k)) x y
      = if a.val = k then x else y := by
  interval_cases k <;> fin_cases a <;> rfl

theorem pay28_apply (v50 : V S512x384 .f32) (v54 v60 : V S512x1 .f32) (v68 : V S512x384 .f32) (a : Fin 8) (l : Fin 128) :
    k0_pay28 v50 v54 v60 v68 (ix2 a l)
      = if a.val = 0 then headSum (fun r => k0_pay23 v50 v54 v60 v68 (ix2 r 0)) 0 else 0 := by
  unfold k0_pay28 headSum
  pointwise
  rw [select_row a 0 (by decide)]
  simp [rowOf_zero]

theorem pay34_apply (v81 : V S512x1 .f32) (v109 : V S8x128 .f32) (v114 : V S128x1 .f32) (a : Fin 8) (l : Fin 128) :
    k0_pay34 v81 (iota .tc S8x128 32 [0] iota_S8x128_d0_w32) v109 k0_pay30 v114 (ix2 a l)
      = v109 (ix2 a l) + (if a.val = 1 then ∑ i : Fin 128, v114 (ix2 i 0) else 0)
        + (if a.val = 2 then headSum (fun r => v81 (ix2 r 0)) 2 else 0)
        + (if a.val = 3 then headSum (fun r => v81 (ix2 r 0)) 3 else 0) := by
  unfold k0_pay34 k0_pay30 headSum
  pointwise
  rw [select_row a 1 (by decide), select_row a 2 (by decide), select_row a 3 (by decide)]
  simp [rowOf_two, rowOf_three]

/-- Four blocks stacked into rows. -/
theorem pay19_apply (b : Fin 4 → V S128x128 .f32) (g : Fin 4) (i d : Fin 128) :
    k0_pay19 (b 0) (b 1) (b 2) (b 3) (ix2 (rowOf g i) d) = b g (ix2 i d) := by
  unfold k0_pay19
  fin_cases g <;> pointwise
  all_goals simp only [show ¬256 + i.val < 128 by omega, show ¬256 + i.val - 128 < 128 by omega,
    show 256 + i.val - 128 - 128 < 128 by omega, show ¬384 + i.val < 128 by omega,
    show ¬384 + i.val - 128 < 128 by omega, show ¬384 + i.val - 128 - 128 < 128 by omega, dif_pos, dif_neg,
    not_false_eq_true]
  all_goals exact congrArg (fun k => b _ (ix2 k _)) (Fin.ext (by simp only []; omega))

theorem pay9_apply (b : Fin 4 → V S128x128 .bf16) (g : Fin 4) (i d : Fin 128) :
    (k0_pay9 (F := Ideal) (b 0) (b 1) (b 2) (b 3) (ix2 (rowOf g i) d) : EReal) = b g (ix2 i d) := by
  unfold k0_pay9
  fin_cases g <;> pointwise
  all_goals simp only [show ¬256 + i.val < 128 by omega, show ¬256 + i.val - 128 < 128 by omega,
    show 256 + i.val - 128 - 128 < 128 by omega, show ¬384 + i.val < 128 by omega,
    show ¬384 + i.val - 128 < 128 by omega, show ¬384 + i.val - 128 - 128 < 128 by omega, dif_pos, dif_neg,
    not_false_eq_true]
  all_goals exact congrArg (fun k => b _ (ix2 k _)) (Fin.ext (by simp only []; omega))

/-- The three blocks of a window. -/
theorem pay6_apply (b : Fin 3 → V S128x128 .bf16) (p : Fin 3) (i d : Fin 128) :
    (k0_pay6 (F := Ideal) (b 0) (b 1) (b 2) (ix2 ⟨128 * p.val + i.val, by omega⟩ d) : EReal) = b p (ix2 i d) := by
  unfold k0_pay6
  fin_cases p <;> pointwise
  all_goals simp only [show ¬256 + i.val < 128 by omega, show ¬256 + i.val - 128 < 128 by omega, dif_pos, dif_neg,
    not_false_eq_true]
  all_goals exact congrArg (fun k => b _ (ix2 k _)) (Fin.ext (by simp only []; omega))

theorem pay7_apply (b : Fin 3 → V S128x128 .bf16) (p : Fin 3) (i d : Fin 128) :
    (k0_pay7 (F := Ideal) (b 0) (b 1) (b 2) (ix2 ⟨128 * p.val + i.val, by omega⟩ d) : EReal) = b p (ix2 i d) :=
  pay6_apply b p i d

theorem pay8_apply (x1 : V S1x512x384 .f32) (r : Fin 512) (j : Fin 384) : k0_pay8 x1 (ix2 r j) = x1 (ix3 0 r j) := by
  unfold k0_pay8
  pointwise

/-- The column of the sinks. -/
theorem kSk_apply (z : Fin 4 → EReal) (g : Fin 4) (i : Fin 128) :
    kSk (k0_pay10 (F := Ideal) (z 0)) (k0_pay11 (F := Ideal) (z 1)) (z 2) (z 3) (rowOf g i) = z g := by
  unfold kSk k0_pay12 k0_pay10 k0_pay11
  fin_cases g <;> pointwise
  all_goals simp only [show ¬256 + i.val < 128 by omega, show ¬256 + i.val - 128 < 128 by omega,
    show 256 + i.val - 128 - 128 < 128 by omega, show ¬384 + i.val < 128 by omega,
    show ¬384 + i.val - 128 < 128 by omega, show ¬384 + i.val - 128 - 128 < 128 by omega, dif_pos, dif_neg,
    not_false_eq_true]

section
variable (kc : V S384x128 .f32) (v50 : V S512x384 .f32) (v54 v55 v60 : V S512x1 .f32) (v68 : V S512x384 .f32)

theorem pay27_apply (i d : Fin 128) : k0_pay27 kc v50 v55 v60 v68 (ix2 i d)
    = k0_pay25 (F := Ideal) kc v50 v55 v60 v68 (ix2 (rowOf 0 i) d) := by
  unfold k0_pay27
  pointwise [rowOf_zero, rowOf_one, rowOf_two, rowOf_three]

theorem pay29_apply (i d : Fin 128) : k0_pay29 kc v50 v55 v60 v68 (ix2 i d)
    = k0_pay25 (F := Ideal) kc v50 v55 v60 v68 (ix2 (rowOf 1 i) d) := by
  unfold k0_pay29
  pointwise [rowOf_zero, rowOf_one, rowOf_two, rowOf_three]

theorem pay31_apply (i : Fin 128) : k0_pay31 v50 v54 v60 v68 (ix2 i 0)
    = k0_pay23 (F := Ideal) v50 v54 v60 v68 (ix2 (rowOf 1 i) 0) := by
  unfold k0_pay31
  pointwise [rowOf_zero, rowOf_one, rowOf_two, rowOf_three]
end

theorem pay32_apply (x : V S512x128 .f32) (i d : Fin 128) : k0_pay32 x (ix2 i d) = x (ix2 (rowOf 2 i) d) := by
  unfold k0_pay32
  pointwise [rowOf_zero, rowOf_one, rowOf_two, rowOf_three]

theorem pay33_apply (x : V S512x128 .f32) (i d : Fin 128) : k0_pay33 x (ix2 i d) = x (ix2 (rowOf 3 i) d) := by
  unfold k0_pay33
  pointwise [rowOf_zero, rowOf_one, rowOf_two, rowOf_three]

section
variable (x : V S384x128 .f32) (i d : Fin 128)

theorem pay35_apply : k0_pay35 x (ix2 i d) = x (ix2 ⟨128 * (0 : Fin 3).val + i.val, by omega⟩ d) := by
  unfold k0_pay35
  pointwise

theorem pay37_apply : k0_pay37 x (ix2 i d) = x (ix2 ⟨128 * (1 : Fin 3).val + i.val, by omega⟩ d) := by
  unfold k0_pay37
  pointwise

theorem pay2_apply : k0_pay2 x (ix2 i d) = x (ix2 ⟨128 * (2 : Fin 3).val + i.val, by omega⟩ d) := by
  unfold k0_pay2
  pointwise

theorem pay36_apply : k0_pay36 x (ix2 i d) = x (ix2 ⟨128 * (0 : Fin 3).val + i.val, by omega⟩ d) := by
  unfold k0_pay36
  pointwise

theorem pay1_apply : k0_pay1 x (ix2 i d) = x (ix2 ⟨128 * (1 : Fin 3).val + i.val, by omega⟩ d) := by
  unfold k0_pay1
  pointwise

theorem pay3_apply : k0_pay3 x (ix2 i d) = x (ix2 ⟨128 * (2 : Fin 3).val + i.val, by omega⟩ d) := by
  unfold k0_pay3
  pointwise
end

theorem pay4_apply (a : Fin 8) (l : Fin 128) : k0_pay4 (F := Ideal) (ix3 0 a l) = 0 := by
  unfold k0_pay4
  pointwise

theorem pay5_apply (x : V S8x128 .f32) (acc : V S1x8x128 .f32) (a : Fin 8) (l : Fin 128) :
    k0_pay5 x acc (ix3 0 a l) = acc (ix3 0 a l) + x (ix2 a l) := by
  unfold k0_pay5
  pointwise

end Cert.Attn
end
-- ==== Proof.Tile.lean ====
/-
  One grid point's payloads are the problem's formulas at a block `n` and a key head `h`.
-/
module

public import proofs.«01_k».proof.Proof.Block

@[expose] public section

set_option maxRecDepth 16384

noncomputable section

namespace Cert.Attn

open Idealize.ShloMosaic Cert.KernelIdeal Cert.KernelIdeal.Gen

/-- The stacked rows are the pairs of a position and a head. -/
theorem sum_rows (f : Fin 512 → EReal) : ∑ r : Fin 512, f r = ∑ i : Fin 128, ∑ g : Fin 4, f (rowOf g i) := by
  rw [Finset.sum_comm, ← Fintype.sum_prod_type' (f := fun g i => f (rowOf g i))]
  refine (Fintype.sum_equiv (finProdFinEquiv (m := 4) (n := 128)) _ _ fun x => ?_).symm
  refine congrArg f (Fin.ext ?_)
  show 128 * x.1.val + x.2.val = x.2.val + 128 * x.1.val
  omega

section
variable (Q : Mat 4096 1024) (K W : Mat 4096 256) (S : (⟨1, ![8]⟩ : Shape).Idx → EReal) (O : Mat 4096 2048)
variable (n : Fin 32) (h : Fin 2)

/-- What the blocks of one grid point hold. The keys and the values outside the sequence are left open. -/
structure Tile (kc vc : V S384x128 .f32) (bs : V S512x384 .f32) (qs : V S512x128 .f32)
    (b : Fin 4 → V S128x128 .f32) (z : Fin 4 → EReal) : Prop where
  keys : ∀ (j : Fin 384) (d : Fin 128), 128 ≤ n.val * 128 + j.val ∧ n.val * 128 + j.val < 4224 →
    kc (ix2 j d) = windowAt n h j K d
  values : ∀ (j : Fin 384) (d : Fin 128), 128 ≤ n.val * 128 + j.val ∧ n.val * 128 + j.val < 4224 →
    vc (ix2 j d) = windowAt n h j W d
  bias : ∀ (g : Fin 4) (i : Fin 128) (j : Fin 384), bs (ix2 (rowOf g i) j) = if Seen n i j then 0 else ⊥
  queries : ∀ (g : Fin 4) (i d : Fin 128), qs (ix2 (rowOf g i) d) = headAt n h g i le_rfl Q d
  cotangents : ∀ (g : Fin 4) (i d : Fin 128), b g (ix2 i d) = headAt n h g i (by decide) O d
  sinks : ∀ g : Fin 4, z g = sinkAt h g S

variable {Q K W S O n h}
variable {kc vc : V S384x128 .f32} {bs : V S512x384 .f32} {qs : V S512x128 .f32}
variable {b : Fin 4 → V S128x128 .f32} {z : Fin 4 → EReal}
variable (T : Tile Q K W S O n h kc vc bs qs b z)

include T

theorem Tile.score_eq (g : Fin 4) (i : Fin 128) : kScore kc bs qs (rowOf g i) = fun j => score n h g i j Q K := by
  funext j
  unfold kScore score
  rw [T.bias]
  by_cases hs : Seen n i j
  · rw [if_pos hs, if_pos hs, add_zero]
    refine congrArg (· * scale) (Finset.sum_congr rfl fun d _ => ?_)
    rw [T.queries, T.keys j d hs.2, mul_comm]
  · rw [if_neg hs, if_neg hs, EReal.add_bot]

theorem Tile.sink_eq (g : Fin 4) (i : Fin 128) :
    kSk (k0_pay10 (F := Ideal) (z 0)) (k0_pay11 (F := Ideal) (z 1)) (z 2) (z 3) (rowOf g i) = sinkAt h g S := by
  rw [kSk_apply, T.sinks]

theorem Tile.dprob_eq (g : Fin 4) (i : Fin 128) (j : Fin 384) (hj : Seen n i j) :
    k0_pay20 vc (b 0) (b 1) (b 2) (b 3) (ix2 (rowOf g i) j) = dprob n h g i j W O := by
  rw [pay20_apply]
  unfold dprob
  refine Finset.sum_congr rfl fun d _ => ?_
  rw [pay19_apply, T.cotangents, T.values j d hj.2]

/-- A position with a weight is seen. -/
theorem seen_of_weight (g : Fin 4) (i : Fin 128) (j : Fin 384) (sk : EReal)
    (hw : rowExp (fun j => score n h g i j Q K) sk j ≠ 0) : Seen n i j := by
  by_contra hs
  exact hw (rowExp_hidden _ _ _ (if_neg hs))

theorem Tile.ds_eq (g : Fin 4) (i : Fin 128) (j : Fin 384) :
    rowDs (kScore kc bs qs (rowOf g i))
        (kSk (k0_pay10 (F := Ideal) (z 0)) (k0_pay11 (F := Ideal) (z 1)) (z 2) (z 3) (rowOf g i))
        (fun j => k0_pay20 vc (b 0) (b 1) (b 2) (b 3) (ix2 (rowOf g i) j)) j * scale
      = dscore Q K W S O n h g i j := by
  rw [T.score_eq, T.sink_eq, dscore]
  refine congrArg (· * scale) (rowDs_congr _ _ (fun j hj => ?_) j)
  exact T.dprob_eq g i j (seen_of_weight T g i j _ hj)

theorem Tile.dot_eq (g : Fin 4) (i : Fin 128) :
    rowDot (kScore kc bs qs (rowOf g i))
        (kSk (k0_pay10 (F := Ideal) (z 0)) (k0_pay11 (F := Ideal) (z 1)) (z 2) (z 3) (rowOf g i))
        (fun j => k0_pay20 vc (b 0) (b 1) (b 2) (b 3) (ix2 (rowOf g i) j))
      * rowSink (kScore kc bs qs (rowOf g i))
        (kSk (k0_pay10 (F := Ideal) (z 0)) (k0_pay11 (F := Ideal) (z 1)) (z 2) (z 3) (rowOf g i))
      = drowSink Q K W S O n h g i := by
  rw [T.score_eq, T.sink_eq, drowSink]
  refine congrArg (· * _) (rowDot_congr _ _ fun j hj => ?_)
  exact T.dprob_eq g i j (seen_of_weight T g i j _ hj)

/-- A hidden position has the gradient zero. -/
theorem dscore_hidden (g : Fin 4) (i : Fin 128) (j : Fin 384) (hs : ¬Seen n i j) : dscore Q K W S O n h g i j = 0 := by
  rw [dscore, rowDs, rowExp_hidden _ _ _ (if_neg hs), mul_zero, zero_mul]
end

section
variable {Q : Mat 4096 1024} {K W : Mat 4096 256} {S : (⟨1, ![8]⟩ : Shape).Idx → EReal} {O : Mat 4096 2048}
variable {n : Fin 32} {h : Fin 2}
variable {kc vc : V S384x128 .f32} {bs : V S512x384 .f32} {qs : V S512x128 .f32}
variable {b : Fin 4 → V S128x128 .f32} {z : Fin 4 → EReal}
variable (T : Tile Q K W S O n h kc vc bs qs b z)

/-- The weights of a grid point. -/
abbrev tE (kc : V S384x128 .f32) (bs : V S512x384 .f32) (qs : V S512x128 .f32) (z : Fin 4 → EReal) : V S512x384 .f32 :=
  k0_pay15 kc bs qs (k0_pay10 (F := Ideal) (z 0)) (k0_pay11 (F := Ideal) (z 1)) (z 2) (z 3)

/-- The sinks' weights. -/
abbrev tH (kc : V S384x128 .f32) (bs : V S512x384 .f32) (qs : V S512x128 .f32) (z : Fin 4 → EReal) : V S512x1 .f32 :=
  k0_pay16 kc bs qs (k0_pay10 (F := Ideal) (z 0)) (k0_pay11 (F := Ideal) (z 1)) (z 2) (z 3)

/-- The denominators. -/
abbrev tZ (kc : V S384x128 .f32) (bs : V S512x384 .f32) (qs : V S512x128 .f32) (z : Fin 4 → EReal) : V S512x1 .f32 :=
  k0_pay17 kc bs qs (k0_pay10 (F := Ideal) (z 0)) (k0_pay11 (F := Ideal) (z 1)) (z 2) (z 3)

/-- The squared denominators' reciprocals. -/
abbrev tI (kc : V S384x128 .f32) (bs : V S512x384 .f32) (qs : V S512x128 .f32) (z : Fin 4 → EReal) : V S512x1 .f32 :=
  k0_pay18 kc bs qs (k0_pay10 (F := Ideal) (z 0)) (k0_pay11 (F := Ideal) (z 1)) (z 2) (z 3)

/-- The derivatives by the probabilities. -/
abbrev tD (vc : V S384x128 .f32) (b : Fin 4 → V S128x128 .f32) : V S512x384 .f32 :=
  k0_pay20 vc (b 0) (b 1) (b 2) (b 3)

/-- The gradient by the queries, the four heads stacked. -/
abbrev tQ (kc vc : V S384x128 .f32) (bs : V S512x384 .f32) (qs : V S512x128 .f32)
    (b : Fin 4 → V S128x128 .f32) (z : Fin 4 → EReal) : V S512x128 .f32 :=
  k0_pay25 kc (tE kc bs qs z) (tZ kc bs qs z) (tI kc bs qs z) (tD vc b)

/-- The gradient by the keys of a window. -/
abbrev tK (kc vc : V S384x128 .f32) (bs : V S512x384 .f32) (qs : V S512x128 .f32)
    (b : Fin 4 → V S128x128 .f32) (z : Fin 4 → EReal) : V S384x128 .f32 :=
  k0_pay26 qs (tE kc bs qs z) (tZ kc bs qs z) (tI kc bs qs z) (tD vc b)

/-- The gradient by the values of a window. -/
abbrev tV (kc : V S384x128 .f32) (bs : V S512x384 .f32) (qs : V S512x128 .f32)
    (b : Fin 4 → V S128x128 .f32) (z : Fin 4 → EReal) : V S384x128 .f32 :=
  k0_pay21 kc bs qs (k0_pay10 (F := Ideal) (z 0)) (k0_pay11 (F := Ideal) (z 1)) (z 2) (z 3) (b 0) (b 1) (b 2) (b 3)

/-- The rows' derivatives by their sinks. -/
abbrev tR (kc vc : V S384x128 .f32) (bs : V S512x384 .f32) (qs : V S512x128 .f32)
    (b : Fin 4 → V S128x128 .f32) (z : Fin 4 → EReal) : V S512x1 .f32 :=
  k0_pay23 (tE kc bs qs z) (tH kc bs qs z) (tI kc bs qs z) (tD vc b)

/-- The sinks' gradients of a grid point. -/
abbrev tS (kc vc : V S384x128 .f32) (bs : V S512x384 .f32) (qs : V S512x128 .f32)
    (b : Fin 4 → V S128x128 .f32) (z : Fin 4 → EReal) : V S8x128 .f32 :=
  k0_pay34 (tR kc vc bs qs b z) (iota .tc S8x128 32 [0] iota_S8x128_d0_w32)
    (k0_pay28 (tE kc bs qs z) (tH kc bs qs z) (tI kc bs qs z) (tD vc b)) k0_pay30
    (k0_pay31 (tE kc bs qs z) (tH kc bs qs z) (tI kc bs qs z) (tD vc b))

include T

theorem Tile.dq (g : Fin 4) (i d : Fin 128) :
    tQ kc vc bs qs b z (ix2 (rowOf g i) d) = dqOf Q K W S O n h g i d := by
  rw [tQ, pay25_apply _ _ _ _ (fun r => kScore kc bs qs r) (fun r => kSk _ _ _ _ r)
    (fun r j => pay15_apply kc bs qs _ _ _ _ r j) (fun r => pay17_apply kc bs qs _ _ _ _ r)
    (fun r => pay18_apply kc bs qs _ _ _ _ r)]
  unfold dqOf
  refine Finset.sum_congr rfl fun j _ => ?_
  rw [T.ds_eq]
  by_cases hs : Seen n i j
  · rw [T.keys j d hs.2]
  · rw [dscore_hidden T g i j hs, zero_mul, zero_mul]

theorem Tile.dk (j : Fin 384) (d : Fin 128) : tK kc vc bs qs b z (ix2 j d) = dkOf Q K W S O n h j d := by
  rw [tK, pay26_apply _ _ _ _ (fun r => kScore kc bs qs r) (fun r => kSk _ _ _ _ r)
    (fun r j => pay15_apply kc bs qs _ _ _ _ r j) (fun r => pay17_apply kc bs qs _ _ _ _ r)
    (fun r => pay18_apply kc bs qs _ _ _ _ r), sum_rows]
  unfold dkOf
  refine Finset.sum_congr rfl fun i _ => Finset.sum_congr rfl fun g _ => ?_
  rw [T.ds_eq, T.queries]

theorem Tile.dv (j : Fin 384) (d : Fin 128) : tV kc bs qs b z (ix2 j d) = dvOf Q K S O n h j d := by
  rw [tV, pay21_apply, sum_rows]
  unfold dvOf
  refine Finset.sum_congr rfl fun i _ => Finset.sum_congr rfl fun g _ => ?_
  rw [T.score_eq, T.sink_eq, pay19_apply, T.cotangents]
  rfl

theorem Tile.row (g : Fin 4) (i : Fin 128) : tR kc vc bs qs b z (ix2 (rowOf g i) 0) = drowSink Q K W S O n h g i := by
  rw [tR, pay23_apply _ _ _ _ (fun r => kScore kc bs qs r) (fun r => kSk _ _ _ _ r)
    (fun r j => pay15_apply kc bs qs _ _ _ _ r j) (fun r => pay16_apply kc bs qs _ _ _ _ r)
    (fun r => pay18_apply kc bs qs _ _ _ _ r)]
  exact T.dot_eq g i

/-- The sinks' gradients: the sums over the rows of a head, four rows of zeros below them. -/
theorem Tile.dsink (a : Fin 8) (l : Fin 128) : tS kc vc bs qs b z (ix2 a l)
    = if ha : a.val < 4 then ∑ i : Fin 128, drowSink Q K W S O n h ⟨a.val, ha⟩ i else 0 := by
  rw [tS, pay34_apply, pay28_apply]
  simp only [pay31_apply, headSum]
  have hr := fun g i => T.row g i
  simp only [tR] at hr
  simp only [hr]
  fin_cases a <;> simp
end

end Cert.Attn
end
-- ==== Proof.Stores.lean ====
/-
  What one grid point stores, read as payloads of its blocks.
-/
module

public import proofs.«01_k».proof.Proof.Tile
public import proofs.«01_k».proof.Proof.Gen.KernelIdeal.Value
public import Idealize.ShloMosaic.Lib.Pipeline.ValueKit.Tiles

@[expose] public section

set_option maxRecDepth 16384
set_option maxHeartbeats 1000000

noncomputable section

namespace Cert.Attn

open Idealize.ShloMosaic Idealize.ShloMosaic.Pipeline Cert.KernelIdeal Cert.KernelIdeal.Gen

/-- One head's columns of a block of four heads. -/
def colsOf {e : EltTy} (x : Vec Ideal S128x512 e) (g : Fin 4) : Vec Ideal S128x128 e :=
  fun y => x (ix2 (y 0) ⟨128 * g.val + (y 1).val, by have := (y 1).isLt; change (y 1).val < 128 at this; omega⟩)

/-- The sink of a head of a grid point, as it is loaded. -/
def sinkOf (x : Vec Ideal S8 .f32) (i : grid0.Coords) (g : Fin 4) : EReal :=
  View.ld (Val := Elt Ideal) x (Rect.unit (s := S8) (k0_off1 i (BitVec.ofNat 32 g.val)) S1.size (k0_off1_inb i g))
    (Shape.Idx.first (s := S1) (by decide))

theorem ld_cols {e : EltTy} (x : Vec Ideal S128x512 e) (g : Fin 4) (o : Fin 2 → ℕ) (ho : o = ![0, 128 * g.val])
    (inb : ∀ a, o a + (![128, 128] : Fin 2 → ℕ) a ≤ S128x512.size a) :
    View.ld (Val := Elt Ideal) x (Rect.unit (s := S128x512) o ![128, 128] inb) = colsOf x g := by
  subst ho
  funext y
  exact View.ld_unit_apply_of (Val := Elt Ideal) x _ _ inb y _ fun a => by fin_cases a <;> simp [ix2]

theorem sinkOf_eq (x : Vec Ideal S8 .f32) (i : grid0.Coords) (g : Fin 4) :
    sinkOf x i g = x (ix1 ⟨4 * (i 0).val + g.val, by have : (i 0).val < 2 := (i 0).isLt; omega⟩) := by
  unfold sinkOf
  refine View.ld_unit_apply_of (Val := Elt Ideal) x _ _ (k0_off1_inb i g) _ _ fun a => ?_
  have hz : a = 0 := Subsingleton.elim _ _
  subst hz
  refine Eq.trans ?_ (congrArg₂ (· + ·) (congrFun (k0_off1_eq i g) 0).symm
    (Nat.lt_one_iff.mp (Shape.Idx.first (s := S1) (by decide) 0).isLt).symm)
  simp [ix1]

theorem hz2 : (![0, 0] : Fin 2 → Nat) = fun _ => 0 := funext fun a => by fin_cases a <;> rfl
theorem hz3 : (![0, 0, 0] : Fin 3 → Nat) = fun _ => 0 := funext fun a => by fin_cases a <;> rfl

/-- The keys, values, biases and queries of a point's blocks. -/
abbrev bK (x3 x4 x5 : V S128x128 .bf16) : V S384x128 .f32 := k0_pay6 x3 x4 x5
abbrev bV (x6 x7 x8 : V S128x128 .bf16) : V S384x128 .f32 := k0_pay7 x6 x7 x8
abbrev bB (x1 : V S1x512x384 .f32) : V S512x384 .f32 := k0_pay8 x1
abbrev bQ (x2 : Vec Ideal S128x512 .bf16) : V S512x128 .f32 := k0_pay9 (colsOf x2 0) (colsOf x2 1) (colsOf x2 2) (colsOf x2 3)

section
variable (c : Dev nD) (i : grid0.Coords) (arg2 : Memref sig .tc .smem S8 .f32) (harg2 : arg2.IsWhole) (arg3 : Memref sig .tc .vmem S1x512x384 .f32) (harg3 : arg3.IsWhole) (arg4 : Memref sig .tc .vmem S128x512 .bf16) (harg4 : arg4.IsWhole) (arg5 : Memref sig .tc .vmem S128x128 .bf16) (harg5 : arg5.IsWhole) (arg6 : Memref sig .tc .vmem S128x128 .bf16) (harg6 : arg6.IsWhole) (arg7 : Memref sig .tc .vmem S128x128 .bf16) (harg7 : arg7.IsWhole) (arg8 : Memref sig .tc .vmem S128x128 .bf16) (harg8 : arg8.IsWhole) (arg9 : Memref sig .tc .vmem S128x128 .bf16) (harg9 : arg9.IsWhole) (arg10 : Memref sig .tc .vmem S128x128 .bf16) (harg10 : arg10.IsWhole) (arg11 : Memref sig .tc .vmem S128x512 .f32) (harg11 : arg11.IsWhole) (arg12 : Memref sig .tc .vmem S128x512 .f32) (harg12 : arg12.IsWhole) (arg13 : Memref sig .tc .vmem S128x128 .f32) (harg13 : arg13.IsWhole) (arg14 : Memref sig .tc .vmem S128x128 .f32) (harg14 : arg14.IsWhole) (arg15 : Memref sig .tc .vmem S128x128 .f32) (harg15 : arg15.IsWhole) (arg16 : Memref sig .tc .vmem S128x128 .f32) (harg16 : arg16.IsWhole) (arg17 : Memref sig .tc .vmem S128x128 .f32) (harg17 : arg17.IsWhole) (arg18 : Memref sig .tc .vmem S128x128 .f32) (harg18 : arg18.IsWhole) (arg19 : Memref sig .tc .vmem S1x8x128 .f32) (harg19 : arg19.IsWhole)
    (x0 : Vec Ideal S8 .f32) (x1 : Vec Ideal S1x512x384 .f32) (x2 : Vec Ideal S128x512 .bf16) (x3 : Vec Ideal S128x128 .bf16) (x4 : Vec Ideal S128x128 .bf16) (x5 : Vec Ideal S128x128 .bf16) (x6 : Vec Ideal S128x128 .bf16) (x7 : Vec Ideal S128x128 .bf16) (x8 : Vec Ideal S128x128 .bf16) (x9 : Vec Ideal S128x512 .f32)

section
variable (hc0 : cond0_0 i)

theorem storeA_11 : out0_A_11 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 = k0_pay35 (tK (bK x3 x4 x5) (bV x6 x7 x8) (bB x1) (bQ x2) (colsOf x9) (sinkOf x0 i)) := by
  unfold out0_A_11
  rw [View.read_writes_eq_canon _ _ _ (cover0_A_11 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9)]
  unfold kernelRun0_A
  dsimp only
  rw [View.canon_unit_zero hz2]
  sl_unfold_words
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, View.ld_unit_zero (S := S128x128) hz2, View.ld_unit_zero (S := S1x512x384) hz3, View.ld_unit_zero (S := S1x8x128) hz3,
    ld_cols x2 0 ![0, 0] rfl, ld_cols x2 1 ![0, 128] rfl, ld_cols x2 2 ![0, 256] rfl, ld_cols x2 3 ![0, 384] rfl,
    ld_cols x9 0 ![0, 0] rfl, ld_cols x9 1 ![0, 128] rfl, ld_cols x9 2 ![0, 256] rfl, ld_cols x9 3 ![0, 384] rfl]
  rfl

theorem storeA_12 : out0_A_12 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 = k0_pay37 (tK (bK x3 x4 x5) (bV x6 x7 x8) (bB x1) (bQ x2) (colsOf x9) (sinkOf x0 i)) := by
  unfold out0_A_12
  rw [View.read_writes_eq_canon _ _ _ (cover0_A_12 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9)]
  unfold kernelRun0_A
  dsimp only
  rw [View.canon_unit_zero hz2]
  sl_unfold_words
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, View.ld_unit_zero (S := S128x128) hz2, View.ld_unit_zero (S := S1x512x384) hz3, View.ld_unit_zero (S := S1x8x128) hz3,
    ld_cols x2 0 ![0, 0] rfl, ld_cols x2 1 ![0, 128] rfl, ld_cols x2 2 ![0, 256] rfl, ld_cols x2 3 ![0, 384] rfl,
    ld_cols x9 0 ![0, 0] rfl, ld_cols x9 1 ![0, 128] rfl, ld_cols x9 2 ![0, 256] rfl, ld_cols x9 3 ![0, 384] rfl]
  rfl

theorem storeA_13 : out0_A_13 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 = k0_pay2 (tK (bK x3 x4 x5) (bV x6 x7 x8) (bB x1) (bQ x2) (colsOf x9) (sinkOf x0 i)) := by
  unfold out0_A_13
  rw [View.read_writes_eq_canon _ _ _ (cover0_A_13 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9)]
  unfold kernelRun0_A
  dsimp only
  rw [View.canon_unit_zero hz2]
  sl_unfold_words
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, View.ld_unit_zero (S := S128x128) hz2, View.ld_unit_zero (S := S1x512x384) hz3, View.ld_unit_zero (S := S1x8x128) hz3,
    ld_cols x2 0 ![0, 0] rfl, ld_cols x2 1 ![0, 128] rfl, ld_cols x2 2 ![0, 256] rfl, ld_cols x2 3 ![0, 384] rfl,
    ld_cols x9 0 ![0, 0] rfl, ld_cols x9 1 ![0, 128] rfl, ld_cols x9 2 ![0, 256] rfl, ld_cols x9 3 ![0, 384] rfl]
  rfl

theorem storeA_14 : out0_A_14 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 = k0_pay36 (tV (bK x3 x4 x5) (bB x1) (bQ x2) (colsOf x9) (sinkOf x0 i)) := by
  unfold out0_A_14
  rw [View.read_writes_eq_canon _ _ _ (cover0_A_14 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9)]
  unfold kernelRun0_A
  dsimp only
  rw [View.canon_unit_zero hz2]
  sl_unfold_words
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, View.ld_unit_zero (S := S128x128) hz2, View.ld_unit_zero (S := S1x512x384) hz3, View.ld_unit_zero (S := S1x8x128) hz3,
    ld_cols x2 0 ![0, 0] rfl, ld_cols x2 1 ![0, 128] rfl, ld_cols x2 2 ![0, 256] rfl, ld_cols x2 3 ![0, 384] rfl,
    ld_cols x9 0 ![0, 0] rfl, ld_cols x9 1 ![0, 128] rfl, ld_cols x9 2 ![0, 256] rfl, ld_cols x9 3 ![0, 384] rfl]
  rfl

theorem storeA_15 : out0_A_15 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 = k0_pay1 (tV (bK x3 x4 x5) (bB x1) (bQ x2) (colsOf x9) (sinkOf x0 i)) := by
  unfold out0_A_15
  rw [View.read_writes_eq_canon _ _ _ (cover0_A_15 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9)]
  unfold kernelRun0_A
  dsimp only
  rw [View.canon_unit_zero hz2]
  sl_unfold_words
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, View.ld_unit_zero (S := S128x128) hz2, View.ld_unit_zero (S := S1x512x384) hz3, View.ld_unit_zero (S := S1x8x128) hz3,
    ld_cols x2 0 ![0, 0] rfl, ld_cols x2 1 ![0, 128] rfl, ld_cols x2 2 ![0, 256] rfl, ld_cols x2 3 ![0, 384] rfl,
    ld_cols x9 0 ![0, 0] rfl, ld_cols x9 1 ![0, 128] rfl, ld_cols x9 2 ![0, 256] rfl, ld_cols x9 3 ![0, 384] rfl]
  rfl

theorem storeA_16 : out0_A_16 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 = k0_pay3 (tV (bK x3 x4 x5) (bB x1) (bQ x2) (colsOf x9) (sinkOf x0 i)) := by
  unfold out0_A_16
  rw [View.read_writes_eq_canon _ _ _ (cover0_A_16 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9)]
  unfold kernelRun0_A
  dsimp only
  rw [View.canon_unit_zero hz2]
  sl_unfold_words
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, View.ld_unit_zero (S := S128x128) hz2, View.ld_unit_zero (S := S1x512x384) hz3, View.ld_unit_zero (S := S1x8x128) hz3,
    ld_cols x2 0 ![0, 0] rfl, ld_cols x2 1 ![0, 128] rfl, ld_cols x2 2 ![0, 256] rfl, ld_cols x2 3 ![0, 384] rfl,
    ld_cols x9 0 ![0, 0] rfl, ld_cols x9 1 ![0, 128] rfl, ld_cols x9 2 ![0, 256] rfl, ld_cols x9 3 ![0, 384] rfl]
  rfl

theorem storeA_17 : out0_A_17 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 = k0_pay5 (tS (bK x3 x4 x5) (bV x6 x7 x8) (bB x1) (bQ x2) (colsOf x9) (sinkOf x0 i)) (k0_pay4 (F := Ideal)) := by
  unfold out0_A_17
  rw [View.read_writes_eq_canon _ _ _ (cover0_A_17 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9)]
  unfold kernelRun0_A
  dsimp only
  rw [View.canon_cons_unit_zero (S := S1x8x128) hz3]
  sl_unfold_words
  simp only [ View.readCov_unit_zero (S := S1x8x128) _ hz3,View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, View.ld_unit_zero (S := S128x128) hz2, View.ld_unit_zero (S := S1x512x384) hz3, View.ld_unit_zero (S := S1x8x128) hz3,
    ld_cols x2 0 ![0, 0] rfl, ld_cols x2 1 ![0, 128] rfl, ld_cols x2 2 ![0, 256] rfl, ld_cols x2 3 ![0, 384] rfl,
    ld_cols x9 0 ![0, 0] rfl, ld_cols x9 1 ![0, 128] rfl, ld_cols x9 2 ![0, 256] rfl, ld_cols x9 3 ![0, 384] rfl]
  rfl

theorem storeA_10 : out0_A_10 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 = View.canon (Val := Elt Ideal) (s := S128x512) (e := .f32) [⟨Rect.unit ![0, 384] ![128, 128] inb_S128x512_S128x128_0_384, k0_pay33 (tQ (bK x3 x4 x5) (bV x6 x7 x8) (bB x1) (bQ x2) (colsOf x9) (sinkOf x0 i))⟩, ⟨Rect.unit ![0, 256] ![128, 128] inb_S128x512_S128x128_0_256, k0_pay32 (tQ (bK x3 x4 x5) (bV x6 x7 x8) (bB x1) (bQ x2) (colsOf x9) (sinkOf x0 i))⟩, ⟨Rect.unit ![0, 128] ![128, 128] inb_S128x512_S128x128_0_128, k0_pay29 (bK x3 x4 x5) (tE (bK x3 x4 x5) (bB x1) (bQ x2) (sinkOf x0 i)) (tZ (bK x3 x4 x5) (bB x1) (bQ x2) (sinkOf x0 i)) (tI (bK x3 x4 x5) (bB x1) (bQ x2) (sinkOf x0 i)) (tD (bV x6 x7 x8) (colsOf x9))⟩, ⟨Rect.unit ![0, 0] ![128, 128] inb_S128x512_S128x128_0_0, k0_pay27 (bK x3 x4 x5) (tE (bK x3 x4 x5) (bB x1) (bQ x2) (sinkOf x0 i)) (tZ (bK x3 x4 x5) (bB x1) (bQ x2) (sinkOf x0 i)) (tI (bK x3 x4 x5) (bB x1) (bQ x2) (sinkOf x0 i)) (tD (bV x6 x7 x8) (colsOf x9))⟩] := by
  unfold out0_A_10
  rw [View.read_writes_eq_canon _ _ _ (cover0_A_10 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9)]
  unfold kernelRun0_A
  dsimp only
  sl_unfold_words
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, View.ld_unit_zero (S := S128x128) hz2, View.ld_unit_zero (S := S1x512x384) hz3, View.ld_unit_zero (S := S1x8x128) hz3,
    ld_cols x2 0 ![0, 0] rfl, ld_cols x2 1 ![0, 128] rfl, ld_cols x2 2 ![0, 256] rfl, ld_cols x2 3 ![0, 384] rfl,
    ld_cols x9 0 ![0, 0] rfl, ld_cols x9 1 ![0, 128] rfl, ld_cols x9 2 ![0, 256] rfl, ld_cols x9 3 ![0, 384] rfl]
  rfl

end

section
variable (hc0 : ¬cond0_0 i)

theorem storeB_11 (xo17 : Vec Ideal S1x8x128 .f32) : out0_B_11 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 xo17 = k0_pay35 (tK (bK x3 x4 x5) (bV x6 x7 x8) (bB x1) (bQ x2) (colsOf x9) (sinkOf x0 i)) := by
  unfold out0_B_11
  rw [View.read_writes_eq_canon _ _ _ (cover0_B_11 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 xo17)]
  unfold kernelRun0_B
  dsimp only
  rw [View.canon_unit_zero hz2]
  sl_unfold_words
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, View.ld_unit_zero (S := S128x128) hz2, View.ld_unit_zero (S := S1x512x384) hz3, View.ld_unit_zero (S := S1x8x128) hz3,
    ld_cols x2 0 ![0, 0] rfl, ld_cols x2 1 ![0, 128] rfl, ld_cols x2 2 ![0, 256] rfl, ld_cols x2 3 ![0, 384] rfl,
    ld_cols x9 0 ![0, 0] rfl, ld_cols x9 1 ![0, 128] rfl, ld_cols x9 2 ![0, 256] rfl, ld_cols x9 3 ![0, 384] rfl]
  rfl

theorem storeB_12 (xo17 : Vec Ideal S1x8x128 .f32) : out0_B_12 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 xo17 = k0_pay37 (tK (bK x3 x4 x5) (bV x6 x7 x8) (bB x1) (bQ x2) (colsOf x9) (sinkOf x0 i)) := by
  unfold out0_B_12
  rw [View.read_writes_eq_canon _ _ _ (cover0_B_12 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 xo17)]
  unfold kernelRun0_B
  dsimp only
  rw [View.canon_unit_zero hz2]
  sl_unfold_words
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, View.ld_unit_zero (S := S128x128) hz2, View.ld_unit_zero (S := S1x512x384) hz3, View.ld_unit_zero (S := S1x8x128) hz3,
    ld_cols x2 0 ![0, 0] rfl, ld_cols x2 1 ![0, 128] rfl, ld_cols x2 2 ![0, 256] rfl, ld_cols x2 3 ![0, 384] rfl,
    ld_cols x9 0 ![0, 0] rfl, ld_cols x9 1 ![0, 128] rfl, ld_cols x9 2 ![0, 256] rfl, ld_cols x9 3 ![0, 384] rfl]
  rfl

theorem storeB_13 (xo17 : Vec Ideal S1x8x128 .f32) : out0_B_13 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 xo17 = k0_pay2 (tK (bK x3 x4 x5) (bV x6 x7 x8) (bB x1) (bQ x2) (colsOf x9) (sinkOf x0 i)) := by
  unfold out0_B_13
  rw [View.read_writes_eq_canon _ _ _ (cover0_B_13 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 xo17)]
  unfold kernelRun0_B
  dsimp only
  rw [View.canon_unit_zero hz2]
  sl_unfold_words
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, View.ld_unit_zero (S := S128x128) hz2, View.ld_unit_zero (S := S1x512x384) hz3, View.ld_unit_zero (S := S1x8x128) hz3,
    ld_cols x2 0 ![0, 0] rfl, ld_cols x2 1 ![0, 128] rfl, ld_cols x2 2 ![0, 256] rfl, ld_cols x2 3 ![0, 384] rfl,
    ld_cols x9 0 ![0, 0] rfl, ld_cols x9 1 ![0, 128] rfl, ld_cols x9 2 ![0, 256] rfl, ld_cols x9 3 ![0, 384] rfl]
  rfl

theorem storeB_14 (xo17 : Vec Ideal S1x8x128 .f32) : out0_B_14 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 xo17 = k0_pay36 (tV (bK x3 x4 x5) (bB x1) (bQ x2) (colsOf x9) (sinkOf x0 i)) := by
  unfold out0_B_14
  rw [View.read_writes_eq_canon _ _ _ (cover0_B_14 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 xo17)]
  unfold kernelRun0_B
  dsimp only
  rw [View.canon_unit_zero hz2]
  sl_unfold_words
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, View.ld_unit_zero (S := S128x128) hz2, View.ld_unit_zero (S := S1x512x384) hz3, View.ld_unit_zero (S := S1x8x128) hz3,
    ld_cols x2 0 ![0, 0] rfl, ld_cols x2 1 ![0, 128] rfl, ld_cols x2 2 ![0, 256] rfl, ld_cols x2 3 ![0, 384] rfl,
    ld_cols x9 0 ![0, 0] rfl, ld_cols x9 1 ![0, 128] rfl, ld_cols x9 2 ![0, 256] rfl, ld_cols x9 3 ![0, 384] rfl]
  rfl

theorem storeB_15 (xo17 : Vec Ideal S1x8x128 .f32) : out0_B_15 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 xo17 = k0_pay1 (tV (bK x3 x4 x5) (bB x1) (bQ x2) (colsOf x9) (sinkOf x0 i)) := by
  unfold out0_B_15
  rw [View.read_writes_eq_canon _ _ _ (cover0_B_15 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 xo17)]
  unfold kernelRun0_B
  dsimp only
  rw [View.canon_unit_zero hz2]
  sl_unfold_words
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, View.ld_unit_zero (S := S128x128) hz2, View.ld_unit_zero (S := S1x512x384) hz3, View.ld_unit_zero (S := S1x8x128) hz3,
    ld_cols x2 0 ![0, 0] rfl, ld_cols x2 1 ![0, 128] rfl, ld_cols x2 2 ![0, 256] rfl, ld_cols x2 3 ![0, 384] rfl,
    ld_cols x9 0 ![0, 0] rfl, ld_cols x9 1 ![0, 128] rfl, ld_cols x9 2 ![0, 256] rfl, ld_cols x9 3 ![0, 384] rfl]
  rfl

theorem storeB_16 (xo17 : Vec Ideal S1x8x128 .f32) : out0_B_16 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 xo17 = k0_pay3 (tV (bK x3 x4 x5) (bB x1) (bQ x2) (colsOf x9) (sinkOf x0 i)) := by
  unfold out0_B_16
  rw [View.read_writes_eq_canon _ _ _ (cover0_B_16 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 xo17)]
  unfold kernelRun0_B
  dsimp only
  rw [View.canon_unit_zero hz2]
  sl_unfold_words
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, View.ld_unit_zero (S := S128x128) hz2, View.ld_unit_zero (S := S1x512x384) hz3, View.ld_unit_zero (S := S1x8x128) hz3,
    ld_cols x2 0 ![0, 0] rfl, ld_cols x2 1 ![0, 128] rfl, ld_cols x2 2 ![0, 256] rfl, ld_cols x2 3 ![0, 384] rfl,
    ld_cols x9 0 ![0, 0] rfl, ld_cols x9 1 ![0, 128] rfl, ld_cols x9 2 ![0, 256] rfl, ld_cols x9 3 ![0, 384] rfl]
  rfl

variable (xo17 : Vec Ideal S1x8x128 .f32)

theorem storeB_17 : out0_B_17 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 xo17 = k0_pay5 (tS (bK x3 x4 x5) (bV x6 x7 x8) (bB x1) (bQ x2) (colsOf x9) (sinkOf x0 i)) xo17 := by
  unfold out0_B_17
  rw [View.read_writes_eq_canon _ _ _ (cover0_B_17 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 xo17)]
  unfold kernelRun0_B
  dsimp only
  rw [View.canon_unit_zero (S := S1x8x128) hz3]
  sl_unfold_words
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, View.ld_unit_zero (S := S128x128) hz2, View.ld_unit_zero (S := S1x512x384) hz3, View.ld_unit_zero (S := S1x8x128) hz3,
    ld_cols x2 0 ![0, 0] rfl, ld_cols x2 1 ![0, 128] rfl, ld_cols x2 2 ![0, 256] rfl, ld_cols x2 3 ![0, 384] rfl,
    ld_cols x9 0 ![0, 0] rfl, ld_cols x9 1 ![0, 128] rfl, ld_cols x9 2 ![0, 256] rfl, ld_cols x9 3 ![0, 384] rfl]
  rfl

theorem storeB_10 : out0_B_10 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 xo17 = View.canon (Val := Elt Ideal) (s := S128x512) (e := .f32) [⟨Rect.unit ![0, 384] ![128, 128] inb_S128x512_S128x128_0_384, k0_pay33 (tQ (bK x3 x4 x5) (bV x6 x7 x8) (bB x1) (bQ x2) (colsOf x9) (sinkOf x0 i))⟩, ⟨Rect.unit ![0, 256] ![128, 128] inb_S128x512_S128x128_0_256, k0_pay32 (tQ (bK x3 x4 x5) (bV x6 x7 x8) (bB x1) (bQ x2) (colsOf x9) (sinkOf x0 i))⟩, ⟨Rect.unit ![0, 128] ![128, 128] inb_S128x512_S128x128_0_128, k0_pay29 (bK x3 x4 x5) (tE (bK x3 x4 x5) (bB x1) (bQ x2) (sinkOf x0 i)) (tZ (bK x3 x4 x5) (bB x1) (bQ x2) (sinkOf x0 i)) (tI (bK x3 x4 x5) (bB x1) (bQ x2) (sinkOf x0 i)) (tD (bV x6 x7 x8) (colsOf x9))⟩, ⟨Rect.unit ![0, 0] ![128, 128] inb_S128x512_S128x128_0_0, k0_pay27 (bK x3 x4 x5) (tE (bK x3 x4 x5) (bB x1) (bQ x2) (sinkOf x0 i)) (tZ (bK x3 x4 x5) (bB x1) (bQ x2) (sinkOf x0 i)) (tI (bK x3 x4 x5) (bB x1) (bQ x2) (sinkOf x0 i)) (tD (bV x6 x7 x8) (colsOf x9))⟩] := by
  unfold out0_B_10
  rw [View.read_writes_eq_canon _ _ _ (cover0_B_10 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 xo17)]
  unfold kernelRun0_B
  dsimp only
  sl_unfold_words
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, View.ld_unit_zero (S := S128x128) hz2, View.ld_unit_zero (S := S1x512x384) hz3, View.ld_unit_zero (S := S1x8x128) hz3,
    ld_cols x2 0 ![0, 0] rfl, ld_cols x2 1 ![0, 128] rfl, ld_cols x2 2 ![0, 256] rfl, ld_cols x2 3 ![0, 384] rfl,
    ld_cols x9 0 ![0, 0] rfl, ld_cols x9 1 ![0, 128] rfl, ld_cols x9 2 ![0, 256] rfl, ld_cols x9 3 ![0, 384] rfl]
  rfl

end
end

end Cert.Attn
-- ==== Proof.Bias.lean ====
/-
  The mask that the host code prepares: zero at a position seen, `⊥` at a hidden one, for the first block, an inner
  block and the last block.
-/
module

public import proofs.«01_k».proof.Proof.Stores
public import proofs.«01_k».proof.Proof.RefMask
public import Idealize.ShloMosaic.Lib.StableHlo.Run
public import Idealize.ShloMosaic.Lib.Tactic

@[expose] public section

set_option maxRecDepth 16384

noncomputable section

namespace Cert.Attn

open Idealize.ShloMosaic Idealize.ShloMosaic.TcCoe Idealize.ShloMosaic.WordArith Cert.KernelIdeal Cert.KernelIdeal.Gen

abbrev Words : Type := Vec Ideal S3x512x384 .i32
abbrev Bits1 : Type := Vec Ideal S3x512x384 .i1

/-- A word at every index. -/
def every (w : BitVec 32) : Words := broadcastInDim S3x512x384 ![] bcast_S_S3x512x384 (constantI S_ 32 w : Vec Ideal S_ .i32)

/-- The divisor, as it is guarded against zero. -/
def divisor : Vec Ideal S_ .i32 :=
  select (cmpi .eq (constantI S_ 32 128#32 : Vec Ideal S_ .i32) (constantI S_ 32 0#32 : Vec Ideal S_ .i32))
    (constantI S_ 32 1#32 : Vec Ideal S_ .i32) (constantI S_ 32 128#32 : Vec Ideal S_ .i32)

def rest : Words :=
  Host.remsi (iotaInDim S3x512x384 32 1 : Words) (broadcastInDim S3x512x384 ![] bcast_S_S3x512x384 divisor : Words)

/-- The position in its block of a row. -/
def place : Words :=
  select
    (andi
      (cmpi .ne (cmpi .slt rest (every 0#32) : Bits1)
        (broadcastInDim S3x512x384 ![] bcast_S_S3x512x384
          (cmpi .slt divisor (constantI S_ 32 0#32 : Vec Ideal S_ .i32) : Vec Ideal S_ .i1) : Bits1) : Bits1)
      (cmpi .ne rest (every 0#32) : Bits1) : Bits1)
    (addi rest (broadcastInDim S3x512x384 ![] bcast_S_S3x512x384 divisor : Words) : Words) rest

/-- The window positions inside the sequence. -/
def inside : Bits1 :=
  select (cmpi .eq (iotaInDim S3x512x384 32 0 : Words) (every 0#32) : Bits1)
    (cmpi .sge (iotaInDim S3x512x384 32 2 : Words) (every 128#32) : Bits1)
    (select (cmpi .eq (iotaInDim S3x512x384 32 0 : Words) (every 2#32) : Bits1)
      (cmpi .slt (iotaInDim S3x512x384 32 2 : Words) (every 256#32) : Bits1)
      (broadcastInDim S3x512x384 ![] bcast_S_S3x512x384 (constantI S_ 1 1#1 : Vec Ideal S_ .i1) : Bits1))

/-- The window positions at most a block away. -/
def near : Bits1 :=
  cmpi .sle (absi (subi (subi (iotaInDim S3x512x384 32 2 : Words) (every 128#32) : Words) place : Words) : Words) (every 128#32)

def biasArr : Vec Ideal S3x512x384 .f32 :=
  select (andi near inside : Bits1)
    (broadcastInDim S3x512x384 ![] bcast_S_S3x512x384 (constant (F := Ideal) S_ .f32 0x00000000#32 : Vec Ideal S_ .f32) : Vec Ideal S3x512x384 .f32)
    (broadcastInDim S3x512x384 ![] bcast_S_S3x512x384 (constant (F := Ideal) S_ .f32 0xFF800000#32 : Vec Ideal S_ .f32) : Vec Ideal S3x512x384 .f32)

theorem bias_entry (m : (ℓ : Loc nD τ sig) → Buf (Elt Ideal) ℓ) (c : Dev nD) : Cert.KernelIdeal.Gen.V m c main_v22 = biasArr := by
  dsimp only [Cert.KernelIdeal.Gen.V, hostOps0, hostOps0_1, hostOps0_2, hostOps0_3, hostOps0_4, hostOps0_5, hostOps0_6, hostOps0_7]
  simp only [List.flatten_cons, List.flatten_nil, List.append_nil, List.cons_append, List.nil_append]
  after_results_simp
  rfl

theorem place_apply (e : Fin 3) (r : Fin 512) (j : Fin 384) : place (ix3 e r j) = BitVec.ofNat 32 (r.val % 128) := by
  unfold place rest divisor every
  pointwise
  revert r
  decide +kernel

theorem inside_apply (e : Fin 3) (r : Fin 512) (j : Fin 384) : inside (ix3 e r j)
    = BitVec.ofBool (decide ((e.val = 0 → 128 ≤ j.val) ∧ (e.val = 2 → j.val < 256))) := by
  unfold inside every
  pointwise
  revert e j
  decide +kernel

theorem bias_apply (e : Fin 3) (g : Fin 4) (i : Fin 128) (j : Fin 384) : biasArr (ix3 e (rowOf g i) j)
    = if (i.val ≤ j.val ∧ j.val ≤ 256 + i.val) ∧ (e.val = 0 → 128 ≤ j.val) ∧ (e.val = 2 → j.val < 256) then 0 else ⊥ := by
  have hn : near (ix3 e (rowOf g i) j) = BitVec.ofBool (decide (i.val ≤ j.val ∧ j.val ≤ 256 + i.val)) := by
    have hp : place (ix3 e (rowOf g i) j) = BitVec.ofNat 32 i.val := by
      rw [place_apply]
      refine congrArg _ ?_
      show (128 * g.val + i.val) % 128 = i.val
      omega
    rw [← near_eq i j, ← hp]
    unfold near every
    pointwise
  have hi := inside_apply e (rowOf g i) j
  unfold biasArr
  pointwise
  rw [hn, hi, andi_ofBool, ← Bool.decide_and, ofBits_neg_inf]
  by_cases hc : (i.val ≤ j.val ∧ j.val ≤ 256 + i.val) ∧ (e.val = 0 → 128 ≤ j.val) ∧ (e.val = 2 → j.val < 256)
  · rw [decide_eq_true hc, if_pos hc]
    rfl
  · rw [decide_eq_false hc, if_neg hc]
    rfl

end Cert.Attn
-- ==== Proof.Blocks.lean ====
/-
  What the blocks of a grid point hold, in terms of the argument arrays.
-/
module

public import proofs.«01_k».proof.Proof.Bias

@[expose] public section

set_option maxRecDepth 16384

noncomputable section

namespace Cert.Attn

open Idealize.ShloMosaic Idealize.ShloMosaic.TcCoe Cert.KernelIdeal Cert.KernelIdeal.Gen

/-- The block and the key head of a grid point. -/
def blOf (t : Fin cfg0.N) : Fin 32 := ⟨t.val % 32, Nat.mod_lt _ (by decide)⟩
def hdOf (t : Fin cfg0.N) : Fin 2 := ⟨t.val / 32, by have : t.val < 64 := lt_of_lt_of_eq t.isLt N_0; omega⟩

/-- The mask that a block takes. -/
def edge (n : Fin 32) : Fin 3 := if n.val = 0 then 0 else if n.val = 31 then 2 else 1

theorem at0 : ∀ t : Fin cfg0.N, win0_0.index t (0 : Fin 1) = 0 := (by decide +kernel : ∀ t : Fin grid0.N, _)
theorem at1 : ∀ t : Fin cfg0.N, win0_1.index t (0 : Fin 3) = (edge (blOf t)).val ∧ win0_1.index t (1 : Fin 3) = 0 ∧ win0_1.index t (2 : Fin 3) = 0 := (by decide +kernel : ∀ t : Fin grid0.N, _)
theorem at2 : ∀ t : Fin cfg0.N, win0_2.index t (0 : Fin 2) = t.val % 32 ∧ win0_2.index t (1 : Fin 2) = t.val / 32 := (by decide +kernel : ∀ t : Fin grid0.N, _)
theorem at3 : ∀ t : Fin cfg0.N, win0_3.index t (0 : Fin 2) = t.val % 32 - 1 ∧ win0_3.index t (1 : Fin 2) = t.val / 32 := (by decide +kernel : ∀ t : Fin grid0.N, _)
theorem at4 : ∀ t : Fin cfg0.N, win0_4.index t (0 : Fin 2) = t.val % 32 ∧ win0_4.index t (1 : Fin 2) = t.val / 32 := (by decide +kernel : ∀ t : Fin grid0.N, _)
theorem at5 : ∀ t : Fin cfg0.N, win0_5.index t (0 : Fin 2) = min (t.val % 32 + 1) 31 ∧ win0_5.index t (1 : Fin 2) = t.val / 32 := (by decide +kernel : ∀ t : Fin grid0.N, _)
theorem at6 : ∀ t : Fin cfg0.N, win0_6.index t (0 : Fin 2) = t.val % 32 - 1 ∧ win0_6.index t (1 : Fin 2) = t.val / 32 := (by decide +kernel : ∀ t : Fin grid0.N, _)
theorem at7 : ∀ t : Fin cfg0.N, win0_7.index t (0 : Fin 2) = t.val % 32 ∧ win0_7.index t (1 : Fin 2) = t.val / 32 := (by decide +kernel : ∀ t : Fin grid0.N, _)
theorem at8 : ∀ t : Fin cfg0.N, win0_8.index t (0 : Fin 2) = min (t.val % 32 + 1) 31 ∧ win0_8.index t (1 : Fin 2) = t.val / 32 := (by decide +kernel : ∀ t : Fin grid0.N, _)
theorem at9 : ∀ t : Fin cfg0.N, win0_9.index t (0 : Fin 2) = t.val % 32 ∧ win0_9.index t (1 : Fin 2) = t.val / 32 := (by decide +kernel : ∀ t : Fin grid0.N, _)
theorem at10 : ∀ t : Fin cfg0.N, win0_10.index t (0 : Fin 2) = t.val % 32 ∧ win0_10.index t (1 : Fin 2) = t.val / 32 := (by decide +kernel : ∀ t : Fin grid0.N, _)
theorem at11 : ∀ t : Fin cfg0.N, win0_11.index t (0 : Fin 2) = t.val % 32 ∧ win0_11.index t (1 : Fin 2) = t.val / 32 := (by decide +kernel : ∀ t : Fin grid0.N, _)
theorem at12 : ∀ t : Fin cfg0.N, win0_12.index t (0 : Fin 2) = t.val % 32 ∧ win0_12.index t (1 : Fin 2) = t.val / 32 := (by decide +kernel : ∀ t : Fin grid0.N, _)
theorem at13 : ∀ t : Fin cfg0.N, win0_13.index t (0 : Fin 2) = t.val % 32 ∧ win0_13.index t (1 : Fin 2) = t.val / 32 := (by decide +kernel : ∀ t : Fin grid0.N, _)
theorem at14 : ∀ t : Fin cfg0.N, win0_14.index t (0 : Fin 2) = t.val % 32 ∧ win0_14.index t (1 : Fin 2) = t.val / 32 := (by decide +kernel : ∀ t : Fin grid0.N, _)
theorem at15 : ∀ t : Fin cfg0.N, win0_15.index t (0 : Fin 2) = t.val % 32 ∧ win0_15.index t (1 : Fin 2) = t.val / 32 := (by decide +kernel : ∀ t : Fin grid0.N, _)
theorem at16 : ∀ t : Fin cfg0.N, win0_16.index t (0 : Fin 2) = t.val % 32 ∧ win0_16.index t (1 : Fin 2) = t.val / 32 := (by decide +kernel : ∀ t : Fin grid0.N, _)
theorem at17 : ∀ t : Fin cfg0.N, win0_17.index t (0 : Fin 3) = t.val / 32 ∧ win0_17.index t (1 : Fin 3) = 0 ∧ win0_17.index t (2 : Fin 3) = 0 := (by decide +kernel : ∀ t : Fin grid0.N, _)
theorem coord0 : ∀ t : Fin cfg0.N, ((grid0.coords t) 0).val = t.val / 32 := (by decide +kernel : ∀ t : Fin grid0.N, _)

section
variable (m : (ℓ : Loc nD τ sig) → Buf (Elt Ideal) ℓ) (c : Dev nD) (t : Fin cfg0.N)

/-- The argument arrays. -/
abbrev aQ : Mat 4096 1024 := m ((c : Thread nD τ).loc main_arg0)
abbrev aK : Mat 4096 256 := m ((c : Thread nD τ).loc main_arg1)
abbrev aV : Mat 4096 256 := m ((c : Thread nD τ).loc main_arg2)
abbrev aS : (⟨1, ![8]⟩ : Shape).Idx → EReal := m ((c : Thread nD τ).loc main_arg3)
abbrev aO : Mat 4096 2048 := m ((c : Thread nD τ).loc main_arg4)

abbrev X0 : Vec Ideal S8 .f32 := iblk m c 0 t
abbrev X1 : Vec Ideal S1x512x384 .f32 := iblk m c 1 t
abbrev X2 : Vec Ideal S128x512 .bf16 := iblk m c 2 t
abbrev X3 : Vec Ideal S128x128 .bf16 := iblk m c 3 t
abbrev X4 : Vec Ideal S128x128 .bf16 := iblk m c 4 t
abbrev X5 : Vec Ideal S128x128 .bf16 := iblk m c 5 t
abbrev X6 : Vec Ideal S128x128 .bf16 := iblk m c 6 t
abbrev X7 : Vec Ideal S128x128 .bf16 := iblk m c 7 t
abbrev X8 : Vec Ideal S128x128 .bf16 := iblk m c 8 t
abbrev X9 : Vec Ideal S128x512 .f32 := iblk m c 9 t

theorem X2_apply (i : Fin 128) (d : Fin 512) : X2 m c t (ix2 i d)
    = aQ m c (ix2 ⟨t.val % 32 * 128 + i.val, by omega⟩ ⟨(hdOf t).val * 512 + d.val, by have := (hdOf t).isLt; omega⟩) := by
  obtain ⟨e0, e1⟩ := at2 t
  show Cert.KernelIdeal.Gen.V m c main_arg0 (((cfg0.win 2).blk t).view.emb (ix2 i d)) = _
  rw [V_main_arg0]
  refine congrArg (aQ m c) (funext fun a => Fin.ext ?_)
  match a with
  | ⟨0, _⟩ => show win0_2.index t (0 : Fin 2) * 128 + 1 * i.val = _ * 128 + i.val; rw [e0, one_mul]
  | ⟨1, _⟩ => show win0_2.index t (1 : Fin 2) * 512 + 1 * d.val = t.val / 32 * 512 + d.val; rw [e1, one_mul]

theorem X3_apply (i : Fin 128) (d : Fin 128) : X3 m c t (ix2 i d)
    = aK m c (ix2 ⟨(t.val % 32 - 1) * 128 + i.val, by omega⟩ ⟨(hdOf t).val * 128 + d.val, by have := (hdOf t).isLt; omega⟩) := by
  obtain ⟨e0, e1⟩ := at3 t
  show Cert.KernelIdeal.Gen.V m c main_arg1 (((cfg0.win 3).blk t).view.emb (ix2 i d)) = _
  rw [V_main_arg1]
  refine congrArg (aK m c) (funext fun a => Fin.ext ?_)
  match a with
  | ⟨0, _⟩ => show win0_3.index t (0 : Fin 2) * 128 + 1 * i.val = _ * 128 + i.val; rw [e0, one_mul]
  | ⟨1, _⟩ => show win0_3.index t (1 : Fin 2) * 128 + 1 * d.val = t.val / 32 * 128 + d.val; rw [e1, one_mul]

theorem X4_apply (i : Fin 128) (d : Fin 128) : X4 m c t (ix2 i d)
    = aK m c (ix2 ⟨t.val % 32 * 128 + i.val, by omega⟩ ⟨(hdOf t).val * 128 + d.val, by have := (hdOf t).isLt; omega⟩) := by
  obtain ⟨e0, e1⟩ := at4 t
  show Cert.KernelIdeal.Gen.V m c main_arg1 (((cfg0.win 4).blk t).view.emb (ix2 i d)) = _
  rw [V_main_arg1]
  refine congrArg (aK m c) (funext fun a => Fin.ext ?_)
  match a with
  | ⟨0, _⟩ => show win0_4.index t (0 : Fin 2) * 128 + 1 * i.val = _ * 128 + i.val; rw [e0, one_mul]
  | ⟨1, _⟩ => show win0_4.index t (1 : Fin 2) * 128 + 1 * d.val = t.val / 32 * 128 + d.val; rw [e1, one_mul]

theorem X5_apply (i : Fin 128) (d : Fin 128) : X5 m c t (ix2 i d)
    = aK m c (ix2 ⟨min (t.val % 32 + 1) 31 * 128 + i.val, by omega⟩ ⟨(hdOf t).val * 128 + d.val, by have := (hdOf t).isLt; omega⟩) := by
  obtain ⟨e0, e1⟩ := at5 t
  show Cert.KernelIdeal.Gen.V m c main_arg1 (((cfg0.win 5).blk t).view.emb (ix2 i d)) = _
  rw [V_main_arg1]
  refine congrArg (aK m c) (funext fun a => Fin.ext ?_)
  match a with
  | ⟨0, _⟩ => show win0_5.index t (0 : Fin 2) * 128 + 1 * i.val = _ * 128 + i.val; rw [e0, one_mul]
  | ⟨1, _⟩ => show win0_5.index t (1 : Fin 2) * 128 + 1 * d.val = t.val / 32 * 128 + d.val; rw [e1, one_mul]

theorem X6_apply (i : Fin 128) (d : Fin 128) : X6 m c t (ix2 i d)
    = aV m c (ix2 ⟨(t.val % 32 - 1) * 128 + i.val, by omega⟩ ⟨(hdOf t).val * 128 + d.val, by have := (hdOf t).isLt; omega⟩) := by
  obtain ⟨e0, e1⟩ := at6 t
  show Cert.KernelIdeal.Gen.V m c main_arg2 (((cfg0.win 6).blk t).view.emb (ix2 i d)) = _
  rw [V_main_arg2]
  refine congrArg (aV m c) (funext fun a => Fin.ext ?_)
  match a with
  | ⟨0, _⟩ => show win0_6.index t (0 : Fin 2) * 128 + 1 * i.val = _ * 128 + i.val; rw [e0, one_mul]
  | ⟨1, _⟩ => show win0_6.index t (1 : Fin 2) * 128 + 1 * d.val = t.val / 32 * 128 + d.val; rw [e1, one_mul]

theorem X7_apply (i : Fin 128) (d : Fin 128) : X7 m c t (ix2 i d)
    = aV m c (ix2 ⟨t.val % 32 * 128 + i.val, by omega⟩ ⟨(hdOf t).val * 128 + d.val, by have := (hdOf t).isLt; omega⟩) := by
  obtain ⟨e0, e1⟩ := at7 t
  show Cert.KernelIdeal.Gen.V m c main_arg2 (((cfg0.win 7).blk t).view.emb (ix2 i d)) = _
  rw [V_main_arg2]
  refine congrArg (aV m c) (funext fun a => Fin.ext ?_)
  match a with
  | ⟨0, _⟩ => show win0_7.index t (0 : Fin 2) * 128 + 1 * i.val = _ * 128 + i.val; rw [e0, one_mul]
  | ⟨1, _⟩ => show win0_7.index t (1 : Fin 2) * 128 + 1 * d.val = t.val / 32 * 128 + d.val; rw [e1, one_mul]

theorem X8_apply (i : Fin 128) (d : Fin 128) : X8 m c t (ix2 i d)
    = aV m c (ix2 ⟨min (t.val % 32 + 1) 31 * 128 + i.val, by omega⟩ ⟨(hdOf t).val * 128 + d.val, by have := (hdOf t).isLt; omega⟩) := by
  obtain ⟨e0, e1⟩ := at8 t
  show Cert.KernelIdeal.Gen.V m c main_arg2 (((cfg0.win 8).blk t).view.emb (ix2 i d)) = _
  rw [V_main_arg2]
  refine congrArg (aV m c) (funext fun a => Fin.ext ?_)
  match a with
  | ⟨0, _⟩ => show win0_8.index t (0 : Fin 2) * 128 + 1 * i.val = _ * 128 + i.val; rw [e0, one_mul]
  | ⟨1, _⟩ => show win0_8.index t (1 : Fin 2) * 128 + 1 * d.val = t.val / 32 * 128 + d.val; rw [e1, one_mul]

theorem X9_apply (i : Fin 128) (d : Fin 512) : X9 m c t (ix2 i d)
    = aO m c (ix2 ⟨t.val % 32 * 128 + i.val, by omega⟩ ⟨(hdOf t).val * 512 + d.val, by have := (hdOf t).isLt; omega⟩) := by
  obtain ⟨e0, e1⟩ := at9 t
  show Cert.KernelIdeal.Gen.V m c main_arg4 (((cfg0.win 9).blk t).view.emb (ix2 i d)) = _
  rw [V_main_arg4]
  refine congrArg (aO m c) (funext fun a => Fin.ext ?_)
  match a with
  | ⟨0, _⟩ => show win0_9.index t (0 : Fin 2) * 128 + 1 * i.val = _ * 128 + i.val; rw [e0, one_mul]
  | ⟨1, _⟩ => show win0_9.index t (1 : Fin 2) * 512 + 1 * d.val = t.val / 32 * 512 + d.val; rw [e1, one_mul]

theorem X0_apply (g : Fin 8) : X0 m c t (ix1 g) = aS m c (ix1 g) := by
  have e0 := at0 t
  show Cert.KernelIdeal.Gen.V m c main_arg3 (((cfg0.win 0).blk t).view.emb (ix1 g)) = _
  rw [V_main_arg3]
  refine congrArg (aS m c) (funext fun a => Fin.ext ?_)
  match a with
  | ⟨0, _⟩ => show win0_0.index t (0 : Fin 1) * 8 + 1 * g.val = g.val; omega

theorem X1_apply (r : Fin 512) (j : Fin 384) : X1 m c t (ix3 0 r j) = biasArr (ix3 (edge (blOf t)) r j) := by
  obtain ⟨e0, e1, e2⟩ := at1 t
  show Cert.KernelIdeal.Gen.V m c main_v22 (((cfg0.win 1).blk t).view.emb (ix3 0 r j)) = _
  rw [bias_entry]
  refine congrArg biasArr (funext fun a => Fin.ext ?_)
  match a with
  | ⟨0, _⟩ => show win0_1.index t (0 : Fin 3) * 1 + 1 * 0 = (edge (blOf t)).val; omega
  | ⟨1, _⟩ => show win0_1.index t (1 : Fin 3) * 512 + 1 * r.val = r.val; omega
  | ⟨2, _⟩ => show win0_1.index t (2 : Fin 3) * 384 + 1 * j.val = j.val; omega

/-- The masks of the edge blocks are the positions seen. -/
theorem bias_seen (n : Fin 32) (g : Fin 4) (i : Fin 128) (j : Fin 384) :
    biasArr (ix3 (edge n) (rowOf g i) j) = if Seen n i j then 0 else ⊥ := by
  rw [bias_apply]
  refine if_congr ?_ rfl rfl
  unfold Seen edge
  have := n.isLt
  by_cases h0 : n.val = 0
  · rw [if_pos h0]
    simp
    omega
  · rw [if_neg h0]
    by_cases h1 : n.val = 31
    · rw [if_pos h1]
      simp
      omega
    · rw [if_neg h1]
      simp
      omega

/-- A window position is a place in one of three blocks. -/
theorem window_index (j : Fin 384) : ∃ (p : Fin 3) (i : Fin 128), j = ⟨128 * p.val + i.val, by omega⟩ :=
  ⟨⟨j.val / 128, by omega⟩, ⟨j.val % 128, by omega⟩, Fin.ext (by simp only []; omega)⟩

theorem keys_of (K : Mat 4096 256) (n : Fin 32) (h : Fin 2) (x y z : V S128x128 .bf16)
    (h0 : ∀ (i d : Fin 128) (hp : 128 ≤ n.val * 128 + (128 * 0 + i.val) ∧ n.val * 128 + (128 * 0 + i.val) < 4224), (x (ix2 i d) : EReal) = K (ix2 ⟨n.val * 128 + (128 * 0 + i.val) - 128, by omega⟩ ⟨h.val * 128 + d.val, by omega⟩))
    (h1 : ∀ (i d : Fin 128) (hp : 128 ≤ n.val * 128 + (128 * 1 + i.val) ∧ n.val * 128 + (128 * 1 + i.val) < 4224), (y (ix2 i d) : EReal) = K (ix2 ⟨n.val * 128 + (128 * 1 + i.val) - 128, by omega⟩ ⟨h.val * 128 + d.val, by omega⟩))
    (h2 : ∀ (i d : Fin 128) (hp : 128 ≤ n.val * 128 + (128 * 2 + i.val) ∧ n.val * 128 + (128 * 2 + i.val) < 4224), (z (ix2 i d) : EReal) = K (ix2 ⟨n.val * 128 + (128 * 2 + i.val) - 128, by omega⟩ ⟨h.val * 128 + d.val, by omega⟩))
    (j : Fin 384) (d : Fin 128) (hj : 128 ≤ n.val * 128 + j.val ∧ n.val * 128 + j.val < 4224) :
    (k0_pay6 (F := Ideal) x y z (ix2 j d) : EReal) = windowAt n h j K d := by
  rw [windowAt_inside _ _ _ hj]
  obtain ⟨p, i, rfl⟩ := window_index j
  refine (pay6_apply ![x, y, z] p i d).trans ?_
  match p with
  | ⟨0, _⟩ => exact h0 i d hj
  | ⟨1, _⟩ => exact h1 i d hj
  | ⟨2, _⟩ => exact h2 i d hj

theorem values_of (K : Mat 4096 256) (n : Fin 32) (h : Fin 2) (x y z : V S128x128 .bf16)
    (h0 : ∀ (i d : Fin 128) (hp : 128 ≤ n.val * 128 + (128 * 0 + i.val) ∧ n.val * 128 + (128 * 0 + i.val) < 4224), (x (ix2 i d) : EReal) = K (ix2 ⟨n.val * 128 + (128 * 0 + i.val) - 128, by omega⟩ ⟨h.val * 128 + d.val, by omega⟩))
    (h1 : ∀ (i d : Fin 128) (hp : 128 ≤ n.val * 128 + (128 * 1 + i.val) ∧ n.val * 128 + (128 * 1 + i.val) < 4224), (y (ix2 i d) : EReal) = K (ix2 ⟨n.val * 128 + (128 * 1 + i.val) - 128, by omega⟩ ⟨h.val * 128 + d.val, by omega⟩))
    (h2 : ∀ (i d : Fin 128) (hp : 128 ≤ n.val * 128 + (128 * 2 + i.val) ∧ n.val * 128 + (128 * 2 + i.val) < 4224), (z (ix2 i d) : EReal) = K (ix2 ⟨n.val * 128 + (128 * 2 + i.val) - 128, by omega⟩ ⟨h.val * 128 + d.val, by omega⟩))
    (j : Fin 384) (d : Fin 128) (hj : 128 ≤ n.val * 128 + j.val ∧ n.val * 128 + j.val < 4224) :
    (k0_pay7 (F := Ideal) x y z (ix2 j d) : EReal) = windowAt n h j K d := by
  rw [windowAt_inside _ _ _ hj]
  obtain ⟨p, i, rfl⟩ := window_index j
  refine (pay7_apply ![x, y, z] p i d).trans ?_
  match p with
  | ⟨0, _⟩ => exact h0 i d hj
  | ⟨1, _⟩ => exact h1 i d hj
  | ⟨2, _⟩ => exact h2 i d hj

theorem keys_at (j : Fin 384) (d : Fin 128)
    (hj : 128 ≤ (blOf t).val * 128 + j.val ∧ (blOf t).val * 128 + j.val < 4224) :
    bK (X3 m c t) (X4 m c t) (X5 m c t) (ix2 j d) = windowAt (blOf t) (hdOf t) j (aK m c) d :=
  keys_of (aK m c) (blOf t) (hdOf t) (X3 m c t) (X4 m c t) (X5 m c t)
    (fun i d hp => (X3_apply m c t i d).trans (congrArg (fun k => aK m c (ix2 k _)) (Fin.ext (by
        have hn : (blOf t).val = t.val % 32 := rfl
        show (t.val % 32 - 1) * 128 + i.val = (blOf t).val * 128 + (128 * 0 + i.val) - 128
        rw [hn] at hp ⊢
        omega))))
    (fun i d hp => (X4_apply m c t i d).trans (congrArg (fun k => aK m c (ix2 k _)) (Fin.ext (by
        have hn : (blOf t).val = t.val % 32 := rfl
        show t.val % 32 * 128 + i.val = (blOf t).val * 128 + (128 * 1 + i.val) - 128
        rw [hn] at hp ⊢
        omega))))
    (fun i d hp => (X5_apply m c t i d).trans (congrArg (fun k => aK m c (ix2 k _)) (Fin.ext (by
        have hn : (blOf t).val = t.val % 32 := rfl
        show min (t.val % 32 + 1) 31 * 128 + i.val = (blOf t).val * 128 + (128 * 2 + i.val) - 128
        rw [hn] at hp ⊢
        omega))))
    j d hj

theorem values_at (j : Fin 384) (d : Fin 128)
    (hj : 128 ≤ (blOf t).val * 128 + j.val ∧ (blOf t).val * 128 + j.val < 4224) :
    bV (X6 m c t) (X7 m c t) (X8 m c t) (ix2 j d) = windowAt (blOf t) (hdOf t) j (aV m c) d :=
  values_of (aV m c) (blOf t) (hdOf t) (X6 m c t) (X7 m c t) (X8 m c t)
    (fun i d hp => (X6_apply m c t i d).trans (congrArg (fun k => aV m c (ix2 k _)) (Fin.ext (by
        have hn : (blOf t).val = t.val % 32 := rfl
        show (t.val % 32 - 1) * 128 + i.val = (blOf t).val * 128 + (128 * 0 + i.val) - 128
        rw [hn] at hp ⊢
        omega))))
    (fun i d hp => (X7_apply m c t i d).trans (congrArg (fun k => aV m c (ix2 k _)) (Fin.ext (by
        have hn : (blOf t).val = t.val % 32 := rfl
        show t.val % 32 * 128 + i.val = (blOf t).val * 128 + (128 * 1 + i.val) - 128
        rw [hn] at hp ⊢
        omega))))
    (fun i d hp => (X8_apply m c t i d).trans (congrArg (fun k => aV m c (ix2 k _)) (Fin.ext (by
        have hn : (blOf t).val = t.val % 32 := rfl
        show min (t.val % 32 + 1) 31 * 128 + i.val = (blOf t).val * 128 + (128 * 2 + i.val) - 128
        rw [hn] at hp ⊢
        omega))))
    j d hj

/-- The blocks of a grid point hold its part of the problem. -/
theorem tile_at : Tile (aQ m c) (aK m c) (aV m c) (aS m c) (aO m c) (blOf t) (hdOf t)
    (bK (X3 m c t) (X4 m c t) (X5 m c t)) (bV (X6 m c t) (X7 m c t) (X8 m c t)) (bB (X1 m c t)) (bQ (X2 m c t))
    (colsOf (X9 m c t)) (sinkOf (X0 m c t) (grid0.coords t)) where
  keys := keys_at m c t
  values := values_at m c t
  bias g i j := by
    refine (pay8_apply (X1 m c t) _ _).trans ?_
    rw [X1_apply, bias_seen]
  queries g i d := by
    refine (pay9_apply (colsOf (X2 m c t)) g i d).trans ?_
    unfold colsOf headAt
    refine (X2_apply m c t i _).trans (congrArg (fun k => aQ m c (ix2 _ k)) (Fin.ext ?_))
    show (hdOf t).val * 512 + (128 * g.val + d.val) = (hdOf t).val * 512 + g.val * 128 + d.val
    omega
  cotangents g i d := by
    unfold colsOf headAt
    refine (X9_apply m c t i _).trans (congrArg (fun k => aO m c (ix2 _ k)) (Fin.ext ?_))
    show (hdOf t).val * 512 + (128 * g.val + d.val) = (hdOf t).val * 512 + g.val * 128 + d.val
    omega
  sinks g := by
    rw [sinkOf_eq]
    unfold sinkAt
    refine (X0_apply m c t _).trans (congrArg (fun k => aS m c (ix1 k)) (Fin.ext ?_))
    have := coord0 t
    show 4 * ((grid0.coords t) 0).val + g.val = t.val / 32 * 4 + g.val
    omega
end

end Cert.Attn
-- ==== Proof.Arrays.lean ====
/-
  What the result arrays of the call hold.
-/
module

public import proofs.«01_k».proof.Proof.Blocks

@[expose] public section

set_option maxRecDepth 16384
set_option maxHeartbeats 1000000

noncomputable section

namespace Cert.Attn

open Idealize.ShloMosaic Idealize.ShloMosaic.TcCoe Idealize.ShloMosaic.Pipeline Cert.KernelIdeal Cert.KernelIdeal.Gen
open Cert.KernelIdeal.Value

/-- Four blocks of columns stored side by side. -/
theorem canon_heads (p : Fin 4 → Vec Ideal S128x128 .f32) (i d : Fin 128) (g : Fin 4) :
    View.canon (Val := Elt Ideal) (s := S128x512) (e := .f32)
      [⟨Rect.unit ![0, 384] ![128, 128] inb_S128x512_S128x128_0_384, p 3⟩,
       ⟨Rect.unit ![0, 256] ![128, 128] inb_S128x512_S128x128_0_256, p 2⟩,
       ⟨Rect.unit ![0, 128] ![128, 128] inb_S128x512_S128x128_0_128, p 1⟩,
       ⟨Rect.unit ![0, 0] ![128, 128] inb_S128x512_S128x128_0_0, p 0⟩]
      (ix2 i ⟨128 * g.val + d.val, by omega⟩) = p g (ix2 i d) := by
  have hG := View.canon_apply_of_pieces (Val := Elt Ideal) (S := S128x512) (e := .f32)
    (fun y => p ⟨(y 1).val / 128, by have := (y 1).isLt; change (y 1).val < 512 at this; omega⟩
      (ix2 (y 0) ⟨(y 1).val % 128, by omega⟩))
    [⟨Rect.unit ![0, 384] ![128, 128] inb_S128x512_S128x128_0_384, p 3⟩,
       ⟨Rect.unit ![0, 256] ![128, 128] inb_S128x512_S128x128_0_256, p 2⟩,
       ⟨Rect.unit ![0, 128] ![128, 128] inb_S128x512_S128x128_0_128, p 1⟩,
       ⟨Rect.unit ![0, 0] ![128, 128] inb_S128x512_S128x128_0_0, p 0⟩] ?_
    (ix2 i ⟨128 * g.val + d.val, by omega⟩) ?_
  · rw [hG]
    have e0 : (⟨(128 * g.val + d.val) / 128, by omega⟩ : Fin 4) = g := Fin.ext (by show (128 * g.val + d.val) / 128 = g.val; omega)
    have e1 : (⟨(128 * g.val + d.val) % 128, by omega⟩ : Fin 128) = d := Fin.ext (by show (128 * g.val + d.val) % 128 = d.val; omega)
    show p (⟨(128 * g.val + d.val) / 128, _⟩ : Fin 4) (ix2 i (⟨(128 * g.val + d.val) % 128, _⟩ : Fin 128)) = p g (ix2 i d)
    rw [e0, e1]
  · have key : ∀ (k : Fin 4) (x : S128x128.Idx) (e : S128x512.Idx), (e 0).val = (x 0).val → (e 1).val = 128 * k.val + (x 1).val →
        p k x = p ⟨(e 1).val / 128, by have := (e 1).isLt; change (e 1).val < 512 at this; omega⟩
          (ix2 (e 0) ⟨(e 1).val % 128, by omega⟩) := by
      intro k x e h0 h1
      have hx : (x 1).val < 128 := (x 1).isLt
      have hk : (⟨(e 1).val / 128, by have := (e 1).isLt; change (e 1).val < 512 at this; omega⟩ : Fin 4) = k :=
        Fin.ext (by show (e 1).val / 128 = k.val; omega)
      rw [hk]
      refine congrArg (p k) ?_
      funext a
      match a with
      | ⟨0, _⟩ => exact Fin.ext h0.symm
      | ⟨1, _⟩ => exact Fin.ext (by show (x 1).val = (e 1).val % 128; omega)
    intro q hq x
    simp only [List.mem_cons, List.not_mem_nil, or_false] at hq
    rcases hq with rfl | rfl | rfl | rfl
    · exact key 3 x _ (by show 0 + 1 * (x 0).val = (x 0).val; omega) (by show 384 + 1 * (x 1).val = 128 * 3 + (x 1).val; omega)
    · exact key 2 x _ (by show 0 + 1 * (x 0).val = (x 0).val; omega) (by show 256 + 1 * (x 1).val = 128 * 2 + (x 1).val; omega)
    · exact key 1 x _ (by show 0 + 1 * (x 0).val = (x 0).val; omega) (by show 128 + 1 * (x 1).val = 128 * 1 + (x 1).val; omega)
    · exact key 0 x _ (by show 0 + 1 * (x 0).val = (x 0).val; omega) (by show 0 + 1 * (x 1).val = 128 * 0 + (x 1).val; omega)
  · have mem : ∀ (o : Fin 2 → ℕ) (inb : ∀ a, o a + (![128, 128] : Fin 2 → ℕ) a ≤ S128x512.size a), o 0 = 0 → o 1 = 128 * g.val →
        (ix2 i ⟨128 * g.val + d.val, by omega⟩ : S128x512.Idx) ∈ (Rect.unit (s := S128x512) o ![128, 128] inb).set := by
      intro o inb h0 h1
      rw [Rect.mem_set_unit]
      intro a
      match a with
      | ⟨0, _⟩ => show o 0 ≤ i.val ∧ i.val < o 0 + 128; omega
      | ⟨1, _⟩ => show o 1 ≤ 128 * g.val + d.val ∧ 128 * g.val + d.val < o 1 + 128; omega
    fin_cases g
    · exact ⟨_, List.mem_cons_of_mem _ (List.mem_cons_of_mem _ (List.mem_cons_of_mem _ List.mem_cons_self)), mem _ inb_S128x512_S128x128_0_0 rfl rfl⟩
    · exact ⟨_, List.mem_cons_of_mem _ (List.mem_cons_of_mem _ List.mem_cons_self), mem _ inb_S128x512_S128x128_0_128 rfl rfl⟩
    · exact ⟨_, List.mem_cons_of_mem _ List.mem_cons_self, mem _ inb_S128x512_S128x128_0_256 rfl rfl⟩
    · exact ⟨_, List.mem_cons_self, mem _ inb_S128x512_S128x128_0_384 rfl rfl⟩

/-- The grid point of a block and a key head. -/
def ptOf (n : Fin 32) (h : Fin 2) : Fin cfg0.N := ⟨32 * h.val + n.val, by show 32 * h.val + n.val < grid0.N; rw [N_0]; omega⟩

theorem blOf_ptOf (n : Fin 32) (h : Fin 2) : blOf (ptOf n h) = n := Fin.ext (by show (32 * h.val + n.val) % 32 = n.val; omega)
theorem hdOf_ptOf (n : Fin 32) (h : Fin 2) : hdOf (ptOf n h) = h := Fin.ext (by show (32 * h.val + n.val) / 32 = h.val; omega)

theorem block_keys (n : Fin 32) (h : Fin 2) (f : V S128x128 .f32) (G : Mat 4096 256) (e : S128x128.Idx → (⟨2, ![4096, 256]⟩ : Shape).Idx)
    (he : ∀ i d, e (ix2 i d) = ix2 (rowAt n i) (keyAt h d)) (hf : ∀ i d, f (ix2 i d) = G (ix2 (rowAt n i) (keyAt h d)))
    (y : S128x128.Idx) : f y = G (e y) := by
  rw [eq_ix2 (n0 := 128) (n1 := 128) y]
  exact (hf _ _).trans (congrArg G (he _ _)).symm

theorem block_queries (n : Fin 32) (h : Fin 2) (f : V S128x512 .f32) (G : Mat 4096 1024) (e : S128x512.Idx → (⟨2, ![4096, 1024]⟩ : Shape).Idx)
    (he : ∀ i g d, e (ix2 i ⟨128 * g.val + d.val, by omega⟩) = ix2 (rowAt n i) (colAt h g d))
    (hf : ∀ (i : Fin 128) (g : Fin 4) (d : Fin 128), f (ix2 i ⟨128 * g.val + d.val, by omega⟩) = G (ix2 (rowAt n i) (colAt h g d)))
    (y : S128x512.Idx) : f y = G (e y) := by
  have h1 : (y 1).val < 512 := (y 1).isLt
  have hy : y = ix2 (y 0) (⟨128 * (⟨(y 1).val / 128, by omega⟩ : Fin 4).val + (⟨(y 1).val % 128, by omega⟩ : Fin 128).val, by
      show 128 * ((y 1).val / 128) + (y 1).val % 128 < 512; omega⟩ : Fin 512) := by
    funext a
    match a with
    | ⟨0, _⟩ => rfl
    | ⟨1, _⟩ => exact Fin.ext (by show (y 1).val = 128 * ((y 1).val / 128) + (y 1).val % 128; omega)
  rw [hy]
  exact (hf _ _ _).trans (congrArg G (he _ _ _)).symm

section
variable (m : (ℓ : Loc nD τ sig) → Buf (Elt Ideal) ℓ) (c : Dev nD)

theorem emb11 (t : Fin cfg0.N) (i d : Fin 128) :
    ((cfg0.win 11).blk t).view.emb (ix2 i d) = ix2 (rowAt (blOf t) i) (keyAt (hdOf t) d) := by
  obtain ⟨e0, e1⟩ := at11 t
  refine funext fun a => Fin.ext ?_
  match a with
  | ⟨0, _⟩ => show win0_11.index t (0 : Fin 2) * 128 + 1 * i.val = t.val % 32 * 128 + i.val; rw [e0, one_mul]
  | ⟨1, _⟩ => show win0_11.index t (1 : Fin 2) * 128 + 1 * d.val = t.val / 32 * 128 + d.val; rw [e1, one_mul]

theorem flushed_eq11 (t : Fin cfg0.N) : (dats m 0 c).flushed 11 t
    = ((cfg0.win 11).blk t).view.read (Elt Ideal) (dkArr (aQ m c) (aK m c) (aV m c) (aS m c) (aO m c) 0) := by
  by_cases h0 : t.val % 32 = 0
  · rw [flushed11_A m c t h0, storeA_11]
    funext y
    exact block_keys (blOf t) (hdOf t) _ (dkArr (aQ m c) (aK m c) (aV m c) (aS m c) (aO m c) 0) (fun y => ((cfg0.win 11).blk t).view.emb y) (emb11 t) (fun i d => (pay35_apply _ i d).trans
      (((tile_at m c t).dk _ d).trans (dkArr_at .. ).symm)) y
  · rw [flushed11_B m c t h0, storeB_11]
    funext y
    exact block_keys (blOf t) (hdOf t) _ (dkArr (aQ m c) (aK m c) (aV m c) (aS m c) (aO m c) 0) (fun y => ((cfg0.win 11).blk t).view.emb y) (emb11 t) (fun i d => (pay35_apply _ i d).trans
      (((tile_at m c t).dk _ d).trans (dkArr_at .. ).symm)) y

theorem final11 : (dats m 0 c).arrAt 11 cfg0.N = (dkArr (aQ m c) (aK m c) (aV m c) (aS m c) (aO m c) 0) :=
  (dats m 0 c).arrAt_eq_of_cover 11 (dkArr (aQ m c) (aK m c) (aV m c) (aS m c) (aO m c) 0) (fun t _ => flushed_eq11 m c t) fun y => by
    obtain ⟨n, h, i, d, rfl⟩ := key_index y
    refine ⟨ptOf n h, flush0_11 _, ?_⟩
    have hm := ((cfg0.win 11).blk (ptOf n h)).view.emb_mem_set (ix2 i d)
    rwa [emb11, blOf_ptOf, hdOf_ptOf] at hm

theorem emb12 (t : Fin cfg0.N) (i d : Fin 128) :
    ((cfg0.win 12).blk t).view.emb (ix2 i d) = ix2 (rowAt (blOf t) i) (keyAt (hdOf t) d) := by
  obtain ⟨e0, e1⟩ := at12 t
  refine funext fun a => Fin.ext ?_
  match a with
  | ⟨0, _⟩ => show win0_12.index t (0 : Fin 2) * 128 + 1 * i.val = t.val % 32 * 128 + i.val; rw [e0, one_mul]
  | ⟨1, _⟩ => show win0_12.index t (1 : Fin 2) * 128 + 1 * d.val = t.val / 32 * 128 + d.val; rw [e1, one_mul]

theorem flushed_eq12 (t : Fin cfg0.N) : (dats m 0 c).flushed 12 t
    = ((cfg0.win 12).blk t).view.read (Elt Ideal) (dkArr (aQ m c) (aK m c) (aV m c) (aS m c) (aO m c) 1) := by
  by_cases h0 : t.val % 32 = 0
  · rw [flushed12_A m c t h0, storeA_12]
    funext y
    exact block_keys (blOf t) (hdOf t) _ (dkArr (aQ m c) (aK m c) (aV m c) (aS m c) (aO m c) 1) (fun y => ((cfg0.win 12).blk t).view.emb y) (emb12 t) (fun i d => (pay37_apply _ i d).trans
      (((tile_at m c t).dk _ d).trans (dkArr_at .. ).symm)) y
  · rw [flushed12_B m c t h0, storeB_12]
    funext y
    exact block_keys (blOf t) (hdOf t) _ (dkArr (aQ m c) (aK m c) (aV m c) (aS m c) (aO m c) 1) (fun y => ((cfg0.win 12).blk t).view.emb y) (emb12 t) (fun i d => (pay37_apply _ i d).trans
      (((tile_at m c t).dk _ d).trans (dkArr_at .. ).symm)) y

theorem final12 : (dats m 0 c).arrAt 12 cfg0.N = (dkArr (aQ m c) (aK m c) (aV m c) (aS m c) (aO m c) 1) :=
  (dats m 0 c).arrAt_eq_of_cover 12 (dkArr (aQ m c) (aK m c) (aV m c) (aS m c) (aO m c) 1) (fun t _ => flushed_eq12 m c t) fun y => by
    obtain ⟨n, h, i, d, rfl⟩ := key_index y
    refine ⟨ptOf n h, flush0_12 _, ?_⟩
    have hm := ((cfg0.win 12).blk (ptOf n h)).view.emb_mem_set (ix2 i d)
    rwa [emb12, blOf_ptOf, hdOf_ptOf] at hm

theorem emb13 (t : Fin cfg0.N) (i d : Fin 128) :
    ((cfg0.win 13).blk t).view.emb (ix2 i d) = ix2 (rowAt (blOf t) i) (keyAt (hdOf t) d) := by
  obtain ⟨e0, e1⟩ := at13 t
  refine funext fun a => Fin.ext ?_
  match a with
  | ⟨0, _⟩ => show win0_13.index t (0 : Fin 2) * 128 + 1 * i.val = t.val % 32 * 128 + i.val; rw [e0, one_mul]
  | ⟨1, _⟩ => show win0_13.index t (1 : Fin 2) * 128 + 1 * d.val = t.val / 32 * 128 + d.val; rw [e1, one_mul]

theorem flushed_eq13 (t : Fin cfg0.N) : (dats m 0 c).flushed 13 t
    = ((cfg0.win 13).blk t).view.read (Elt Ideal) (dkArr (aQ m c) (aK m c) (aV m c) (aS m c) (aO m c) 2) := by
  by_cases h0 : t.val % 32 = 0
  · rw [flushed13_A m c t h0, storeA_13]
    funext y
    exact block_keys (blOf t) (hdOf t) _ (dkArr (aQ m c) (aK m c) (aV m c) (aS m c) (aO m c) 2) (fun y => ((cfg0.win 13).blk t).view.emb y) (emb13 t) (fun i d => (pay2_apply _ i d).trans
      (((tile_at m c t).dk _ d).trans (dkArr_at .. ).symm)) y
  · rw [flushed13_B m c t h0, storeB_13]
    funext y
    exact block_keys (blOf t) (hdOf t) _ (dkArr (aQ m c) (aK m c) (aV m c) (aS m c) (aO m c) 2) (fun y => ((cfg0.win 13).blk t).view.emb y) (emb13 t) (fun i d => (pay2_apply _ i d).trans
      (((tile_at m c t).dk _ d).trans (dkArr_at .. ).symm)) y

theorem final13 : (dats m 0 c).arrAt 13 cfg0.N = (dkArr (aQ m c) (aK m c) (aV m c) (aS m c) (aO m c) 2) :=
  (dats m 0 c).arrAt_eq_of_cover 13 (dkArr (aQ m c) (aK m c) (aV m c) (aS m c) (aO m c) 2) (fun t _ => flushed_eq13 m c t) fun y => by
    obtain ⟨n, h, i, d, rfl⟩ := key_index y
    refine ⟨ptOf n h, flush0_13 _, ?_⟩
    have hm := ((cfg0.win 13).blk (ptOf n h)).view.emb_mem_set (ix2 i d)
    rwa [emb13, blOf_ptOf, hdOf_ptOf] at hm

theorem emb14 (t : Fin cfg0.N) (i d : Fin 128) :
    ((cfg0.win 14).blk t).view.emb (ix2 i d) = ix2 (rowAt (blOf t) i) (keyAt (hdOf t) d) := by
  obtain ⟨e0, e1⟩ := at14 t
  refine funext fun a => Fin.ext ?_
  match a with
  | ⟨0, _⟩ => show win0_14.index t (0 : Fin 2) * 128 + 1 * i.val = t.val % 32 * 128 + i.val; rw [e0, one_mul]
  | ⟨1, _⟩ => show win0_14.index t (1 : Fin 2) * 128 + 1 * d.val = t.val / 32 * 128 + d.val; rw [e1, one_mul]

theorem flushed_eq14 (t : Fin cfg0.N) : (dats m 0 c).flushed 14 t
    = ((cfg0.win 14).blk t).view.read (Elt Ideal) (dvArr (aQ m c) (aK m c) (aS m c) (aO m c) 0) := by
  by_cases h0 : t.val % 32 = 0
  · rw [flushed14_A m c t h0, storeA_14]
    funext y
    exact block_keys (blOf t) (hdOf t) _ (dvArr (aQ m c) (aK m c) (aS m c) (aO m c) 0) (fun y => ((cfg0.win 14).blk t).view.emb y) (emb14 t) (fun i d => (pay36_apply _ i d).trans
      (((tile_at m c t).dv _ d).trans (dvArr_at .. ).symm)) y
  · rw [flushed14_B m c t h0, storeB_14]
    funext y
    exact block_keys (blOf t) (hdOf t) _ (dvArr (aQ m c) (aK m c) (aS m c) (aO m c) 0) (fun y => ((cfg0.win 14).blk t).view.emb y) (emb14 t) (fun i d => (pay36_apply _ i d).trans
      (((tile_at m c t).dv _ d).trans (dvArr_at .. ).symm)) y

theorem final14 : (dats m 0 c).arrAt 14 cfg0.N = (dvArr (aQ m c) (aK m c) (aS m c) (aO m c) 0) :=
  (dats m 0 c).arrAt_eq_of_cover 14 (dvArr (aQ m c) (aK m c) (aS m c) (aO m c) 0) (fun t _ => flushed_eq14 m c t) fun y => by
    obtain ⟨n, h, i, d, rfl⟩ := key_index y
    refine ⟨ptOf n h, flush0_14 _, ?_⟩
    have hm := ((cfg0.win 14).blk (ptOf n h)).view.emb_mem_set (ix2 i d)
    rwa [emb14, blOf_ptOf, hdOf_ptOf] at hm

theorem emb15 (t : Fin cfg0.N) (i d : Fin 128) :
    ((cfg0.win 15).blk t).view.emb (ix2 i d) = ix2 (rowAt (blOf t) i) (keyAt (hdOf t) d) := by
  obtain ⟨e0, e1⟩ := at15 t
  refine funext fun a => Fin.ext ?_
  match a with
  | ⟨0, _⟩ => show win0_15.index t (0 : Fin 2) * 128 + 1 * i.val = t.val % 32 * 128 + i.val; rw [e0, one_mul]
  | ⟨1, _⟩ => show win0_15.index t (1 : Fin 2) * 128 + 1 * d.val = t.val / 32 * 128 + d.val; rw [e1, one_mul]

theorem flushed_eq15 (t : Fin cfg0.N) : (dats m 0 c).flushed 15 t
    = ((cfg0.win 15).blk t).view.read (Elt Ideal) (dvArr (aQ m c) (aK m c) (aS m c) (aO m c) 1) := by
  by_cases h0 : t.val % 32 = 0
  · rw [flushed15_A m c t h0, storeA_15]
    funext y
    exact block_keys (blOf t) (hdOf t) _ (dvArr (aQ m c) (aK m c) (aS m c) (aO m c) 1) (fun y => ((cfg0.win 15).blk t).view.emb y) (emb15 t) (fun i d => (pay1_apply _ i d).trans
      (((tile_at m c t).dv _ d).trans (dvArr_at .. ).symm)) y
  · rw [flushed15_B m c t h0, storeB_15]
    funext y
    exact block_keys (blOf t) (hdOf t) _ (dvArr (aQ m c) (aK m c) (aS m c) (aO m c) 1) (fun y => ((cfg0.win 15).blk t).view.emb y) (emb15 t) (fun i d => (pay1_apply _ i d).trans
      (((tile_at m c t).dv _ d).trans (dvArr_at .. ).symm)) y

theorem final15 : (dats m 0 c).arrAt 15 cfg0.N = (dvArr (aQ m c) (aK m c) (aS m c) (aO m c) 1) :=
  (dats m 0 c).arrAt_eq_of_cover 15 (dvArr (aQ m c) (aK m c) (aS m c) (aO m c) 1) (fun t _ => flushed_eq15 m c t) fun y => by
    obtain ⟨n, h, i, d, rfl⟩ := key_index y
    refine ⟨ptOf n h, flush0_15 _, ?_⟩
    have hm := ((cfg0.win 15).blk (ptOf n h)).view.emb_mem_set (ix2 i d)
    rwa [emb15, blOf_ptOf, hdOf_ptOf] at hm

theorem emb16 (t : Fin cfg0.N) (i d : Fin 128) :
    ((cfg0.win 16).blk t).view.emb (ix2 i d) = ix2 (rowAt (blOf t) i) (keyAt (hdOf t) d) := by
  obtain ⟨e0, e1⟩ := at16 t
  refine funext fun a => Fin.ext ?_
  match a with
  | ⟨0, _⟩ => show win0_16.index t (0 : Fin 2) * 128 + 1 * i.val = t.val % 32 * 128 + i.val; rw [e0, one_mul]
  | ⟨1, _⟩ => show win0_16.index t (1 : Fin 2) * 128 + 1 * d.val = t.val / 32 * 128 + d.val; rw [e1, one_mul]

theorem flushed_eq16 (t : Fin cfg0.N) : (dats m 0 c).flushed 16 t
    = ((cfg0.win 16).blk t).view.read (Elt Ideal) (dvArr (aQ m c) (aK m c) (aS m c) (aO m c) 2) := by
  by_cases h0 : t.val % 32 = 0
  · rw [flushed16_A m c t h0, storeA_16]
    funext y
    exact block_keys (blOf t) (hdOf t) _ (dvArr (aQ m c) (aK m c) (aS m c) (aO m c) 2) (fun y => ((cfg0.win 16).blk t).view.emb y) (emb16 t) (fun i d => (pay3_apply _ i d).trans
      (((tile_at m c t).dv _ d).trans (dvArr_at .. ).symm)) y
  · rw [flushed16_B m c t h0, storeB_16]
    funext y
    exact block_keys (blOf t) (hdOf t) _ (dvArr (aQ m c) (aK m c) (aS m c) (aO m c) 2) (fun y => ((cfg0.win 16).blk t).view.emb y) (emb16 t) (fun i d => (pay3_apply _ i d).trans
      (((tile_at m c t).dv _ d).trans (dvArr_at .. ).symm)) y

theorem final16 : (dats m 0 c).arrAt 16 cfg0.N = (dvArr (aQ m c) (aK m c) (aS m c) (aO m c) 2) :=
  (dats m 0 c).arrAt_eq_of_cover 16 (dvArr (aQ m c) (aK m c) (aS m c) (aO m c) 2) (fun t _ => flushed_eq16 m c t) fun y => by
    obtain ⟨n, h, i, d, rfl⟩ := key_index y
    refine ⟨ptOf n h, flush0_16 _, ?_⟩
    have hm := ((cfg0.win 16).blk (ptOf n h)).view.emb_mem_set (ix2 i d)
    rwa [emb16, blOf_ptOf, hdOf_ptOf] at hm

theorem emb10 (t : Fin cfg0.N) (i : Fin 128) (g : Fin 4) (d : Fin 128) :
    ((cfg0.win 10).blk t).view.emb (ix2 i ⟨128 * g.val + d.val, by omega⟩) = ix2 (rowAt (blOf t) i) (colAt (hdOf t) g d) := by
  obtain ⟨e0, e1⟩ := at10 t
  refine funext fun a => Fin.ext ?_
  match a with
  | ⟨0, _⟩ => show win0_10.index t (0 : Fin 2) * 128 + 1 * i.val = t.val % 32 * 128 + i.val; rw [e0, one_mul]
  | ⟨1, _⟩ =>
    show win0_10.index t (1 : Fin 2) * 512 + 1 * (128 * g.val + d.val) = t.val / 32 * 512 + g.val * 128 + d.val
    rw [e1]
    omega

/-- The four heads' blocks of the gradient by the queries. -/
theorem heads_at (t : Fin cfg0.N) (g : Fin 4) (i d : Fin 128) :
    (![k0_pay27 (bK (X3 m c t) (X4 m c t) (X5 m c t)) (tE (bK (X3 m c t) (X4 m c t) (X5 m c t)) (bB (X1 m c t)) (bQ (X2 m c t)) (sinkOf (X0 m c t) (grid0.coords t))) (tZ (bK (X3 m c t) (X4 m c t) (X5 m c t)) (bB (X1 m c t)) (bQ (X2 m c t)) (sinkOf (X0 m c t) (grid0.coords t))) (tI (bK (X3 m c t) (X4 m c t) (X5 m c t)) (bB (X1 m c t)) (bQ (X2 m c t)) (sinkOf (X0 m c t) (grid0.coords t))) (tD (bV (X6 m c t) (X7 m c t) (X8 m c t)) (colsOf (X9 m c t))), k0_pay29 (bK (X3 m c t) (X4 m c t) (X5 m c t)) (tE (bK (X3 m c t) (X4 m c t) (X5 m c t)) (bB (X1 m c t)) (bQ (X2 m c t)) (sinkOf (X0 m c t) (grid0.coords t))) (tZ (bK (X3 m c t) (X4 m c t) (X5 m c t)) (bB (X1 m c t)) (bQ (X2 m c t)) (sinkOf (X0 m c t) (grid0.coords t))) (tI (bK (X3 m c t) (X4 m c t) (X5 m c t)) (bB (X1 m c t)) (bQ (X2 m c t)) (sinkOf (X0 m c t) (grid0.coords t))) (tD (bV (X6 m c t) (X7 m c t) (X8 m c t)) (colsOf (X9 m c t))), k0_pay32 (tQ (bK (X3 m c t) (X4 m c t) (X5 m c t)) (bV (X6 m c t) (X7 m c t) (X8 m c t)) (bB (X1 m c t)) (bQ (X2 m c t)) (colsOf (X9 m c t)) (sinkOf (X0 m c t) (grid0.coords t))), k0_pay33 (tQ (bK (X3 m c t) (X4 m c t) (X5 m c t)) (bV (X6 m c t) (X7 m c t) (X8 m c t)) (bB (X1 m c t)) (bQ (X2 m c t)) (colsOf (X9 m c t)) (sinkOf (X0 m c t) (grid0.coords t)))] : Fin 4 → Vec Ideal S128x128 .f32) g (ix2 i d)
      = dqOf (aQ m c) (aK m c) (aV m c) (aS m c) (aO m c) (blOf t) (hdOf t) g i d := by
  match g with
  | ⟨0, _⟩ => exact (pay27_apply _ _ _ _ _ i d).trans ((tile_at m c t).dq 0 i d)
  | ⟨1, _⟩ => exact (pay29_apply _ _ _ _ _ i d).trans ((tile_at m c t).dq 1 i d)
  | ⟨2, _⟩ => exact (pay32_apply _ i d).trans ((tile_at m c t).dq 2 i d)
  | ⟨3, _⟩ => exact (pay33_apply _ i d).trans ((tile_at m c t).dq 3 i d)

theorem flushed_eq10 (t : Fin cfg0.N) : (dats m 0 c).flushed 10 t
    = ((cfg0.win 10).blk t).view.read (Elt Ideal) (dqArr (aQ m c) (aK m c) (aV m c) (aS m c) (aO m c)) := by
  by_cases h0 : t.val % 32 = 0
  · rw [flushed10_A m c t h0, storeA_10]
    funext y
    exact block_queries (blOf t) (hdOf t) _ (dqArr (aQ m c) (aK m c) (aV m c) (aS m c) (aO m c)) (fun y => ((cfg0.win 10).blk t).view.emb y) (emb10 t) (fun i g d => (canon_heads
      ![k0_pay27 (bK (X3 m c t) (X4 m c t) (X5 m c t)) (tE (bK (X3 m c t) (X4 m c t) (X5 m c t)) (bB (X1 m c t)) (bQ (X2 m c t)) (sinkOf (X0 m c t) (grid0.coords t))) (tZ (bK (X3 m c t) (X4 m c t) (X5 m c t)) (bB (X1 m c t)) (bQ (X2 m c t)) (sinkOf (X0 m c t) (grid0.coords t))) (tI (bK (X3 m c t) (X4 m c t) (X5 m c t)) (bB (X1 m c t)) (bQ (X2 m c t)) (sinkOf (X0 m c t) (grid0.coords t))) (tD (bV (X6 m c t) (X7 m c t) (X8 m c t)) (colsOf (X9 m c t))), k0_pay29 (bK (X3 m c t) (X4 m c t) (X5 m c t)) (tE (bK (X3 m c t) (X4 m c t) (X5 m c t)) (bB (X1 m c t)) (bQ (X2 m c t)) (sinkOf (X0 m c t) (grid0.coords t))) (tZ (bK (X3 m c t) (X4 m c t) (X5 m c t)) (bB (X1 m c t)) (bQ (X2 m c t)) (sinkOf (X0 m c t) (grid0.coords t))) (tI (bK (X3 m c t) (X4 m c t) (X5 m c t)) (bB (X1 m c t)) (bQ (X2 m c t)) (sinkOf (X0 m c t) (grid0.coords t))) (tD (bV (X6 m c t) (X7 m c t) (X8 m c t)) (colsOf (X9 m c t))), k0_pay32 (tQ (bK (X3 m c t) (X4 m c t) (X5 m c t)) (bV (X6 m c t) (X7 m c t) (X8 m c t)) (bB (X1 m c t)) (bQ (X2 m c t)) (colsOf (X9 m c t)) (sinkOf (X0 m c t) (grid0.coords t))), k0_pay33 (tQ (bK (X3 m c t) (X4 m c t) (X5 m c t)) (bV (X6 m c t) (X7 m c t) (X8 m c t)) (bB (X1 m c t)) (bQ (X2 m c t)) (colsOf (X9 m c t)) (sinkOf (X0 m c t) (grid0.coords t)))] i d g).trans ((heads_at m c t g i d).trans (dqArr_at ..).symm)) y
  · rw [flushed10_B m c t h0, storeB_10]
    funext y
    exact block_queries (blOf t) (hdOf t) _ (dqArr (aQ m c) (aK m c) (aV m c) (aS m c) (aO m c)) (fun y => ((cfg0.win 10).blk t).view.emb y) (emb10 t) (fun i g d => (canon_heads
      ![k0_pay27 (bK (X3 m c t) (X4 m c t) (X5 m c t)) (tE (bK (X3 m c t) (X4 m c t) (X5 m c t)) (bB (X1 m c t)) (bQ (X2 m c t)) (sinkOf (X0 m c t) (grid0.coords t))) (tZ (bK (X3 m c t) (X4 m c t) (X5 m c t)) (bB (X1 m c t)) (bQ (X2 m c t)) (sinkOf (X0 m c t) (grid0.coords t))) (tI (bK (X3 m c t) (X4 m c t) (X5 m c t)) (bB (X1 m c t)) (bQ (X2 m c t)) (sinkOf (X0 m c t) (grid0.coords t))) (tD (bV (X6 m c t) (X7 m c t) (X8 m c t)) (colsOf (X9 m c t))), k0_pay29 (bK (X3 m c t) (X4 m c t) (X5 m c t)) (tE (bK (X3 m c t) (X4 m c t) (X5 m c t)) (bB (X1 m c t)) (bQ (X2 m c t)) (sinkOf (X0 m c t) (grid0.coords t))) (tZ (bK (X3 m c t) (X4 m c t) (X5 m c t)) (bB (X1 m c t)) (bQ (X2 m c t)) (sinkOf (X0 m c t) (grid0.coords t))) (tI (bK (X3 m c t) (X4 m c t) (X5 m c t)) (bB (X1 m c t)) (bQ (X2 m c t)) (sinkOf (X0 m c t) (grid0.coords t))) (tD (bV (X6 m c t) (X7 m c t) (X8 m c t)) (colsOf (X9 m c t))), k0_pay32 (tQ (bK (X3 m c t) (X4 m c t) (X5 m c t)) (bV (X6 m c t) (X7 m c t) (X8 m c t)) (bB (X1 m c t)) (bQ (X2 m c t)) (colsOf (X9 m c t)) (sinkOf (X0 m c t) (grid0.coords t))), k0_pay33 (tQ (bK (X3 m c t) (X4 m c t) (X5 m c t)) (bV (X6 m c t) (X7 m c t) (X8 m c t)) (bB (X1 m c t)) (bQ (X2 m c t)) (colsOf (X9 m c t)) (sinkOf (X0 m c t) (grid0.coords t)))] i d g).trans ((heads_at m c t g i d).trans (dqArr_at ..).symm)) y

theorem final10 : (dats m 0 c).arrAt 10 cfg0.N = (dqArr (aQ m c) (aK m c) (aV m c) (aS m c) (aO m c)) :=
  (dats m 0 c).arrAt_eq_of_cover 10 (dqArr (aQ m c) (aK m c) (aV m c) (aS m c) (aO m c)) (fun t _ => flushed_eq10 m c t) fun y => by
    obtain ⟨n, h, g, i, d, rfl⟩ := query_index y
    refine ⟨ptOf n h, flush0_10 _, ?_⟩
    have hm := ((cfg0.win 10).blk (ptOf n h)).view.emb_mem_set (ix2 i ⟨128 * g.val + d.val, by omega⟩)
    rwa [emb10, blOf_ptOf, hdOf_ptOf] at hm

/-- One block's share of the sinks' gradient. -/
def shareOf (h : Fin 2) (a : Fin 8) (n : ℕ) : EReal :=
  if hn : n < 32 then (if ha : a.val < 4 then ∑ i : Fin 128, drowSink (aQ m c) (aK m c) (aV m c) (aS m c) (aO m c) ⟨n, hn⟩ h ⟨a.val, ha⟩ i else 0) else 0

theorem share_at (t : Fin cfg0.N) (a : Fin 8) (l : Fin 128) :
    tS (bK (X3 m c t) (X4 m c t) (X5 m c t)) (bV (X6 m c t) (X7 m c t) (X8 m c t)) (bB (X1 m c t)) (bQ (X2 m c t))
      (colsOf (X9 m c t)) (sinkOf (X0 m c t) (grid0.coords t)) (ix2 a l) = shareOf m c (hdOf t) a (t.val % 32) := by
  rw [(tile_at m c t).dsink a l]
  rw [shareOf, dif_pos (Nat.mod_lt t.val (show 0 < 32 by decide))]
  rfl

/-- What the staged block of the sinks' gradient holds after a point: the shares of the blocks so far. -/
theorem sinks_after (h : Fin 2) (a : Fin 8) (l : Fin 128) : ∀ (k : ℕ) (t : Fin cfg0.N), t.val = 32 * h.val + k → k < 32 →
    (outsAt0 m c t.val t.isLt).2.2.2.2.2.2.2 (ix3 0 a l) = ∑ n ∈ Finset.range (k + 1), shareOf m c h a n := by
  intro k
  induction k with
  | zero =>
    intro t ht hk
    have h0 : t.val % 32 = 0 := by omega
    have hh : hdOf t = h := Fin.ext (by show t.val / 32 = h.val; omega)
    rw [outsAt0_A m c t h0]
    dsimp only
    rw [storeA_17, pay5_apply, pay4_apply, zero_add]
    refine (share_at m c t a l).trans ?_
    rw [hh, h0, Finset.sum_range_one]
  | succ k ih =>
    intro t ht hk
    have h0 : ¬ t.val % 32 = 0 := by omega
    have h1 : t.val % 32 = k + 1 := by omega
    have hh : hdOf t = h := Fin.ext (by show t.val / 32 = h.val; omega)
    have hp := ih ⟨t.val - 1, Nat.lt_of_le_of_lt (Nat.sub_le _ _) t.isLt⟩ (by show t.val - 1 = _; omega) (by omega)
    rw [outsAt0_B m c t h0]
    dsimp only
    rw [storeB_17, pay5_apply, Finset.sum_range_succ]
    refine congrArg₂ (· + ·) hp ?_
    refine (share_at m c t a l).trans ?_
    rw [hh, h1]

theorem emb17 (t : Fin cfg0.N) (a : Fin 8) (l : Fin 128) :
    ((cfg0.win 17).blk t).view.emb (ix3 0 a l) = ix3 (hdOf t) a l := by
  obtain ⟨e0, e1, e2⟩ := at17 t
  refine funext fun b => Fin.ext ?_
  match b with
  | ⟨0, _⟩ => show win0_17.index t (0 : Fin 3) * 1 + 1 * 0 = t.val / 32; rw [e0]; omega
  | ⟨1, _⟩ => show win0_17.index t (1 : Fin 3) * 8 + 1 * a.val = a.val; rw [e1]; omega
  | ⟨2, _⟩ => show win0_17.index t (2 : Fin 3) * 128 + 1 * l.val = l.val; rw [e2]; omega

theorem sinks_total (h : Fin 2) (a : Fin 8) (l : Fin 128) :
    ∑ n ∈ Finset.range (31 + 1), shareOf m c h a n = dsinkArr (aQ m c) (aK m c) (aV m c) (aS m c) (aO m c) (ix3 h a l) := by
  rw [Finset.sum_range]
  show _ = (if hg : a.val < 4 then dsinkOf (aQ m c) (aK m c) (aV m c) (aS m c) (aO m c) h ⟨a.val, hg⟩ else 0)
  by_cases ha : a.val < 4
  · rw [dif_pos ha]
    refine Finset.sum_congr rfl fun n _ => ?_
    rw [shareOf, dif_pos n.isLt, dif_pos ha]
  · rw [dif_neg ha]
    refine Finset.sum_eq_zero fun n _ => ?_
    rw [shareOf, dif_pos n.isLt, dif_neg ha]

theorem block_sinks (h : Fin 2) (f : V S1x8x128 .f32) (G : (⟨3, ![2, 8, 128]⟩ : Shape).Idx → EReal)
    (e : S1x8x128.Idx → (⟨3, ![2, 8, 128]⟩ : Shape).Idx)
    (he : ∀ a l, e (ix3 0 a l) = ix3 h a l) (hf : ∀ a l, f (ix3 0 a l) = G (ix3 h a l))
    (y : S1x8x128.Idx) : f y = G (e y) := by
  have hy : y = ix3 0 (y 1) (y 2) := by
    funext b
    match b with
    | ⟨0, _⟩ => exact Subsingleton.elim (α := Fin 1) _ _
    | ⟨1, _⟩ => rfl
    | ⟨2, _⟩ => rfl
  rw [hy]
  exact (hf _ _).trans (congrArg G (he _ _)).symm

theorem flushed_eq17 (t : Fin cfg0.N) (h31 : t.val % 32 = 31) : (dats m 0 c).flushed 17 t
    = ((cfg0.win 17).blk t).view.read (Elt Ideal) (dsinkArr (aQ m c) (aK m c) (aV m c) (aS m c) (aO m c)) := by
  rw [flushed17]
  funext y
  exact block_sinks (hdOf t) ((outsAt0 m c t.val t.isLt).2.2.2.2.2.2.2) (dsinkArr (aQ m c) (aK m c) (aV m c) (aS m c) (aO m c))
    (fun y => ((cfg0.win 17).blk t).view.emb y) (emb17 t)
    (fun a l => (sinks_after m c (hdOf t) a l 31 t (by show t.val = 32 * (t.val / 32) + 31; omega) (by omega)).trans
      (sinks_total m c (hdOf t) a l)) y

theorem final17 : (dats m 0 c).arrAt 17 cfg0.N = dsinkArr (aQ m c) (aK m c) (aV m c) (aS m c) (aO m c) :=
  (dats m 0 c).arrAt_eq_of_cover 17 (dsinkArr (aQ m c) (aK m c) (aV m c) (aS m c) (aO m c)) (fun t ht => flushed_eq17 m c t ((flush0_17 t).mp ht)) fun y => by
    have hy : y = ix3 (y 0) (y 1) (y 2) := by
      funext b
      match b with
      | ⟨0, _⟩ => rfl
      | ⟨1, _⟩ => rfl
      | ⟨2, _⟩ => rfl
    refine ⟨ptOf 31 (y 0), (flush0_17 _).mpr (by show (32 * (y 0).val + 31) % 32 = 31; omega), ?_⟩
    have hm : ∀ (h : Fin 2) (a : Fin 8) (l : Fin 128),
        (ix3 h a l : (⟨3, ![2, 8, 128]⟩ : Shape).Idx) ∈ ((cfg0.win 17).blk (ptOf 31 h)).view.set := fun h a l => by
      have hq := ((cfg0.win 17).blk (ptOf 31 h)).view.emb_mem_set (ix3 (0 : Fin 1) a l)
      have he := emb17 (ptOf 31 h) a l
      rw [hdOf_ptOf] at he
      exact Eq.mp (congrArg (· ∈ ((cfg0.win 17).blk (ptOf 31 h)).view.set) he) hq
    rw [hy]
    exact hm (y 0) (y 1) (y 2)

end

end Cert.Attn
-- ==== Proof.Pre.lean ====
/-
  What the precondition says of the values and of the gradient that comes in, and the assembled equality of results.
-/
module

public import proofs.«01_k».proof.Defs
public import proofs.«01_k».proof.Proof.RefArr
public import proofs.«01_k».proof.Proof.Arrays
public import Idealize.ShloMosaic.Lib.ReduceAll
public import Idealize.ShloMosaic.Lib.Claim

@[expose] public section

set_option maxRecDepth 16384

noncomputable section

namespace Cert.Attn

open Idealize.ShloMosaic

instance pre_facts : Cert.Pre_finite.Facts where
  bitsLt_bf16_f32 := by decide
  bcast_S_S4096x256 := by decide
  reducesTo_S4096x256_S_d0_1 := by decide
  h_S_ := by decide
  slices_S4096x2048_S4096x1024_0_0 := by decide
  bcast_S_S4096x1024 := by decide
  reducesTo_S4096x1024_S_d0_1 := by decide

/-- A number whose absolute value is below infinity is real. -/
theorem real_of_bit (x : EReal)
    (h : BitVec.ofBool (decide ((FloatOps.absf (F := Ideal) (φ := .f32) x : EReal) < Ideal.ofBits .f32 0x7F800000#32)) = 1#1) :
    ∃ r : ℝ, x = (r : EReal) := by
  have hlt : (FloatOps.absf (F := Ideal) (φ := .f32) x : EReal) < Ideal.ofBits .f32 0x7F800000#32 := by
    by_contra hn
    rw [decide_eq_false hn] at h
    exact absurd h (by decide)
  have hne : x ≠ ⊤ ∧ x ≠ ⊥ := by
    have h2 : max x (-x) < Ideal.ofBits .f32 0x7F800000#32 := hlt
    have h3 := lt_of_lt_of_le h2 le_top
    constructor <;> rintro rfl <;> simp at h3
  induction x with
  | bot => exact absurd rfl hne.2
  | top => exact absurd rfl hne.1
  | coe r => exact ⟨r, rfl⟩

theorem and_bits {c d : BitVec 1} : IntOp.andi c d = 1#1 ↔ c = 1#1 ∧ d = 1#1 := by revert c d; decide

theorem numbers_of_pre (Q : FVec Ideal ⟨2, ![4096, 1024]⟩ .bf16) (K V : FVec Ideal ⟨2, ![4096, 256]⟩ .bf16)
    (S : FVec Ideal ⟨1, ![8]⟩ .f32) (O : FVec Ideal ⟨2, ![4096, 2048]⟩ .f32)
    (h : Cert.Pre_finite.fn (F := Ideal) Q K V S O = fun _ => 1#1) : Numbers V O := by
  haveI : Subsingleton Cert.Pre_finite.S_.Idx := ⟨fun a b => funext fun x => x.elim0⟩
  have h0 := congrFun h (fun x => x.elim0)
  unfold Cert.Pre_finite.fn at h0
  dsimp only at h0
  obtain ⟨hv, ho⟩ := and_bits.mp h0
  have ev := Host.reduce_andi_all _ _ _ _ _ hv
  have eo := Host.reduce_andi_all _ _ _ _ _ ho
  refine ⟨fun t c => ?_, fun t c hc => ?_⟩
  · have e := ev (ix2 t c)
    pointwise at e
    exact real_of_bit _ e
  · have e := eo (ix2 t ⟨c.val, hc⟩)
    pointwise at e
    exact real_of_bit _ e

end Cert.Attn
-- ==== Proof.DAct.lean ====
/-
  The cotangent of the channel mixer's inner array: the rows of `dy` against the rows of `w_down`.
-/
module

public import proofs.«01_k».proof.Proof.Problem
public import proofs.«01_k».proof.Proof.Gen.DActIdeal.Value
public import proofs.«01_k».proof.Proof.Gen.DActRefIdeal.Run
public import proofs.«01_k».proof.Proof.Gen.DActRefIdeal.Read
public import Idealize.ShloMosaic.Lib.Pipeline.ValueKit.Tiles

@[expose] public section

set_option maxRecDepth 16384
set_option maxHeartbeats 1000000

noncomputable section

namespace Cert.DActIdeal.Own

open Idealize.ShloMosaic Idealize.ShloMosaic.Pipeline Idealize.ShloMosaic.TcCoe Cert.Attn Cert.DActIdeal Cert.DActIdeal.Gen Cert.DActIdeal.Value

/-- The product. -/
def prod (a : Mat 4096 2048) (b : Mat 5632 2048) : Mat 4096 5632 := fun y => ∑ k : Fin 2048, a (ix2 (y 0) k) * b (ix2 (y 1) k)

theorem hz2 : (![0, 0] : Fin 2 → Nat) = fun _ => 0 := funext fun a => by fin_cases a <;> rfl

theorem pay_apply (x0 : Vec Ideal S2048x2048 .bf16) (x1 : Vec Ideal S1408x2048 .bf16) (i : Fin 2048) (j : Fin 1408) :
    k0_pay1 (F := Ideal) x0 x1 (ix2 i j) = ∑ k : Fin 2048, x0 (ix2 i k) * x1 (ix2 j k) := by
  unfold k0_pay1
  pointwise

theorem out_apply (x0 : Vec Ideal S2048x2048 .bf16) (x1 : Vec Ideal S1408x2048 .bf16) (i : Fin 2048) (j : Fin 1408) :
    out0_2 (F := Ideal) x0 x1 (ix2 i j) = ∑ k : Fin 2048, x0 (ix2 i k) * x1 (ix2 j k) := by
  unfold out0_2
  rw [View.canon_unit_zero hz2]
  simp only [View.ld_unit_zero (S := S2048x2048) hz2, View.ld_unit_zero (S := S1408x2048) hz2]
  exact pay_apply x0 x1 i j

theorem at0 : ∀ t : Fin cfg0.N, win0_0.index t (0 : Fin 2) = t.val / 4 ∧ win0_0.index t (1 : Fin 2) = 0 := (by decide +kernel : ∀ t : Fin grid0.N, _)
theorem at1 : ∀ t : Fin cfg0.N, win0_1.index t (0 : Fin 2) = t.val % 4 ∧ win0_1.index t (1 : Fin 2) = 0 := (by decide +kernel : ∀ t : Fin grid0.N, _)
theorem at2 : ∀ t : Fin cfg0.N, win0_2.index t (0 : Fin 2) = t.val / 4 ∧ win0_2.index t (1 : Fin 2) = t.val % 4 := (by decide +kernel : ∀ t : Fin grid0.N, _)

/-- The rows and the columns of a grid point. -/
def rowAt (t : Fin cfg0.N) (i : Fin 2048) : Fin 4096 := ⟨t.val / 4 * 2048 + i.val, by have : t.val < 8 := lt_of_lt_of_eq t.isLt N_0; omega⟩
def colAt (t : Fin cfg0.N) (j : Fin 1408) : Fin 5632 := ⟨t.val % 4 * 1408 + j.val, by omega⟩

section
variable (m : (ℓ : Loc nD τ sig) → Buf (Elt Ideal) ℓ) (c : Dev nD) (t : Fin cfg0.N)

/-- The argument arrays. -/
abbrev aA : Mat 4096 2048 := m ((c : Thread nD τ).loc main_arg0)
abbrev aB : Mat 5632 2048 := m ((c : Thread nD τ).loc main_arg1)

theorem blk0 (i : Fin 2048) (k : Fin 2048) : (iblk m c 0 t : Vec Ideal S2048x2048 .bf16) (ix2 i k) = aA m c (ix2 (rowAt t i) k) := by
  obtain ⟨e0, e1⟩ := at0 t
  show Gen.V m c main_arg0 (((cfg0.win 0).blk t).view.emb (ix2 i k)) = _
  rw [V_main_arg0]
  refine congrArg (aA m c) (funext fun a => Fin.ext ?_)
  match a with
  | ⟨0, _⟩ => show win0_0.index t (0 : Fin 2) * 2048 + 1 * i.val = t.val / 4 * 2048 + i.val; rw [e0, one_mul]
  | ⟨1, _⟩ => show win0_0.index t (1 : Fin 2) * 2048 + 1 * k.val = k.val; rw [e1, one_mul, Nat.zero_mul, Nat.zero_add]

theorem blk1 (j : Fin 1408) (k : Fin 2048) : (iblk m c 1 t : Vec Ideal S1408x2048 .bf16) (ix2 j k) = aB m c (ix2 (colAt t j) k) := by
  obtain ⟨e0, e1⟩ := at1 t
  show Gen.V m c main_arg1 (((cfg0.win 1).blk t).view.emb (ix2 j k)) = _
  rw [V_main_arg1]
  refine congrArg (aB m c) (funext fun a => Fin.ext ?_)
  match a with
  | ⟨0, _⟩ => show win0_1.index t (0 : Fin 2) * 1408 + 1 * j.val = t.val % 4 * 1408 + j.val; rw [e0, one_mul]
  | ⟨1, _⟩ => show win0_1.index t (1 : Fin 2) * 2048 + 1 * k.val = k.val; rw [e1, one_mul, Nat.zero_mul, Nat.zero_add]

theorem emb2 (i : Fin 2048) (j : Fin 1408) : ((cfg0.win 2).blk t).view.emb (ix2 i j) = ix2 (rowAt t i) (colAt t j) := by
  obtain ⟨e0, e1⟩ := at2 t
  refine funext fun a => Fin.ext ?_
  match a with
  | ⟨0, _⟩ => show win0_2.index t (0 : Fin 2) * 2048 + 1 * i.val = t.val / 4 * 2048 + i.val; rw [e0, one_mul]
  | ⟨1, _⟩ => show win0_2.index t (1 : Fin 2) * 1408 + 1 * j.val = t.val % 4 * 1408 + j.val; rw [e1, one_mul]

theorem block (f : S2048x1408.Idx → EReal) (G : Mat 4096 5632) (e : S2048x1408.Idx → (⟨2, ![4096, 5632]⟩ : Shape).Idx)
    (he : ∀ i j, e (ix2 i j) = ix2 (rowAt t i) (colAt t j)) (hf : ∀ i j, f (ix2 i j) = G (ix2 (rowAt t i) (colAt t j)))
    (y : S2048x1408.Idx) : f y = G (e y) := by
  rw [eq_ix2 (n0 := 2048) (n1 := 1408) y]
  exact (hf _ _).trans (congrArg G (he _ _)).symm

theorem flushed_eq : (dats m 0 c).flushed 2 t = ((cfg0.win 2).blk t).view.read (Elt Ideal) (prod (aA m c) (aB m c)) := by
  rw [flushed2 m c t]
  funext y
  refine block t _ (prod (aA m c) (aB m c)) (fun y => ((cfg0.win 2).blk t).view.emb y) (emb2 t) (fun i j => ?_) y
  refine (out_apply _ _ i j).trans (Finset.sum_congr rfl fun k _ => ?_)
  rw [blk0 m c t i k, blk1 m c t j k]
  rfl

theorem final : (dats m 0 c).arrAt 2 cfg0.N = prod (aA m c) (aB m c) :=
  (dats m 0 c).arrAt_eq_of_cover 2 (prod (aA m c) (aB m c)) (fun t _ => flushed_eq m c t) fun y => by
    have h0 : (y 0).val < 4096 := (y 0).isLt
    have h1 : (y 1).val < 5632 := (y 1).isLt
    let t : Fin cfg0.N := ⟨(y 0).val / 2048 * 4 + (y 1).val / 1408, by show _ < grid0.N; rw [N_0]; omega⟩
    refine ⟨t, flush0_2 t, ?_⟩
    have hm := ((cfg0.win 2).blk t).view.emb_mem_set (ix2 (⟨(y 0).val % 2048, by omega⟩ : Fin 2048) (⟨(y 1).val % 1408, by omega⟩ : Fin 1408))
    rw [emb2] at hm
    have hy : y = ix2 (rowAt t ⟨(y 0).val % 2048, by omega⟩) (colAt t ⟨(y 1).val % 1408, by omega⟩) := by
      funext a
      match a with
      | ⟨0, _⟩ => exact Fin.ext (by show (y 0).val = ((y 0).val / 2048 * 4 + (y 1).val / 1408) / 4 * 2048 + (y 0).val % 2048; omega)
      | ⟨1, _⟩ => exact Fin.ext (by show (y 1).val = ((y 0).val / 2048 * 4 + (y 1).val / 1408) % 4 * 1408 + (y 1).val % 1408; omega)
    rw [hy]
    exact hm

end

open Cert.DActRefIdeal.Read in
theorem ref_eq (a : Mat 4096 2048) (b : Mat 5632 2048) : val_main_v5 (F := Ideal) a b = prod a b := by
  funext y
  rw [eq_ix2 (n0 := 4096) (n1 := 5632) y]
  show val_main_v5 (F := Ideal) a b (ix2 (y 0) (y 1)) = ∑ k : Fin 2048, a (ix2 (y 0) k) * b (ix2 (y 1) k)
  generalize y 0 = i
  generalize y 1 = j
  unfold val_main_v5 val_main_v4 val_main_v3 val_main_v1
  pointwise

end Cert.DActIdeal.Own

end
-- ==== Proof.DwDown.lean ====
/-
  The gradient of the channel mixer's second matrix: the columns of `act` against the columns of `dy`.
-/
module

public import proofs.«01_k».proof.Proof.Problem
public import proofs.«01_k».proof.Proof.Gen.DwDownIdeal.Value
public import proofs.«01_k».proof.Proof.Gen.DwDownRefIdeal.Run
public import proofs.«01_k».proof.Proof.Gen.DwDownRefIdeal.Read
public import Idealize.ShloMosaic.Lib.Pipeline.ValueKit.Tiles

@[expose] public section

set_option maxRecDepth 16384
set_option maxHeartbeats 1000000

noncomputable section

namespace Cert.DwDownIdeal.Own

open Idealize.ShloMosaic Idealize.ShloMosaic.Pipeline Idealize.ShloMosaic.TcCoe Cert.Attn Cert.DwDownIdeal Cert.DwDownIdeal.Gen Cert.DwDownIdeal.Value

/-- The product. -/
def prod (a : Mat 4096 5632) (b : Mat 4096 2048) : Mat 5632 2048 := fun y => ∑ k : Fin 4096, a (ix2 k (y 0)) * b (ix2 k (y 1))

theorem hz2 : (![0, 0] : Fin 2 → Nat) = fun _ => 0 := funext fun a => by fin_cases a <;> rfl

theorem pay_apply (x0 : Vec Ideal S4096x1408 .bf16) (x1 : Vec Ideal S4096x512 .bf16) (i : Fin 1408) (j : Fin 512) :
    k0_pay1 (F := Ideal) x0 x1 (ix2 i j) = ∑ k : Fin 4096, x0 (ix2 k i) * x1 (ix2 k j) := by
  unfold k0_pay1
  pointwise

theorem out_apply (x0 : Vec Ideal S4096x1408 .bf16) (x1 : Vec Ideal S4096x512 .bf16) (i : Fin 1408) (j : Fin 512) :
    out0_2 (F := Ideal) x0 x1 (ix2 i j) = ∑ k : Fin 4096, x0 (ix2 k i) * x1 (ix2 k j) := by
  unfold out0_2
  rw [View.canon_unit_zero hz2]
  simp only [View.ld_unit_zero (S := S4096x1408) hz2, View.ld_unit_zero (S := S4096x512) hz2]
  exact pay_apply x0 x1 i j

theorem at0 : ∀ t : Fin cfg0.N, win0_0.index t (0 : Fin 2) = 0 ∧ win0_0.index t (1 : Fin 2) = t.val / 4 := (by decide +kernel : ∀ t : Fin grid0.N, _)
theorem at1 : ∀ t : Fin cfg0.N, win0_1.index t (0 : Fin 2) = 0 ∧ win0_1.index t (1 : Fin 2) = t.val % 4 := (by decide +kernel : ∀ t : Fin grid0.N, _)
theorem at2 : ∀ t : Fin cfg0.N, win0_2.index t (0 : Fin 2) = t.val / 4 ∧ win0_2.index t (1 : Fin 2) = t.val % 4 := (by decide +kernel : ∀ t : Fin grid0.N, _)

/-- The rows and the columns of a grid point. -/
def rowAt (t : Fin cfg0.N) (i : Fin 1408) : Fin 5632 := ⟨t.val / 4 * 1408 + i.val, by have : t.val < 16 := lt_of_lt_of_eq t.isLt N_0; omega⟩
def colAt (t : Fin cfg0.N) (j : Fin 512) : Fin 2048 := ⟨t.val % 4 * 512 + j.val, by omega⟩

section
variable (m : (ℓ : Loc nD τ sig) → Buf (Elt Ideal) ℓ) (c : Dev nD) (t : Fin cfg0.N)

/-- The argument arrays. -/
abbrev aA : Mat 4096 5632 := m ((c : Thread nD τ).loc main_arg0)
abbrev aB : Mat 4096 2048 := m ((c : Thread nD τ).loc main_arg1)

theorem blk0 (k : Fin 4096) (i : Fin 1408) : (iblk m c 0 t : Vec Ideal S4096x1408 .bf16) (ix2 k i) = aA m c (ix2 k (rowAt t i)) := by
  obtain ⟨e0, e1⟩ := at0 t
  show Gen.V m c main_arg0 (((cfg0.win 0).blk t).view.emb (ix2 k i)) = _
  rw [V_main_arg0]
  refine congrArg (aA m c) (funext fun a => Fin.ext ?_)
  match a with
  | ⟨0, _⟩ => show win0_0.index t (0 : Fin 2) * 4096 + 1 * k.val = k.val; rw [e0, one_mul, Nat.zero_mul, Nat.zero_add]
  | ⟨1, _⟩ => show win0_0.index t (1 : Fin 2) * 1408 + 1 * i.val = t.val / 4 * 1408 + i.val; rw [e1, one_mul]

theorem blk1 (k : Fin 4096) (j : Fin 512) : (iblk m c 1 t : Vec Ideal S4096x512 .bf16) (ix2 k j) = aB m c (ix2 k (colAt t j)) := by
  obtain ⟨e0, e1⟩ := at1 t
  show Gen.V m c main_arg1 (((cfg0.win 1).blk t).view.emb (ix2 k j)) = _
  rw [V_main_arg1]
  refine congrArg (aB m c) (funext fun a => Fin.ext ?_)
  match a with
  | ⟨0, _⟩ => show win0_1.index t (0 : Fin 2) * 4096 + 1 * k.val = k.val; rw [e0, one_mul, Nat.zero_mul, Nat.zero_add]
  | ⟨1, _⟩ => show win0_1.index t (1 : Fin 2) * 512 + 1 * j.val = t.val % 4 * 512 + j.val; rw [e1, one_mul]

theorem emb2 (i : Fin 1408) (j : Fin 512) : ((cfg0.win 2).blk t).view.emb (ix2 i j) = ix2 (rowAt t i) (colAt t j) := by
  obtain ⟨e0, e1⟩ := at2 t
  refine funext fun a => Fin.ext ?_
  match a with
  | ⟨0, _⟩ => show win0_2.index t (0 : Fin 2) * 1408 + 1 * i.val = t.val / 4 * 1408 + i.val; rw [e0, one_mul]
  | ⟨1, _⟩ => show win0_2.index t (1 : Fin 2) * 512 + 1 * j.val = t.val % 4 * 512 + j.val; rw [e1, one_mul]

theorem block (f : S1408x512.Idx → EReal) (G : Mat 5632 2048) (e : S1408x512.Idx → (⟨2, ![5632, 2048]⟩ : Shape).Idx)
    (he : ∀ i j, e (ix2 i j) = ix2 (rowAt t i) (colAt t j)) (hf : ∀ i j, f (ix2 i j) = G (ix2 (rowAt t i) (colAt t j)))
    (y : S1408x512.Idx) : f y = G (e y) := by
  rw [eq_ix2 (n0 := 1408) (n1 := 512) y]
  exact (hf _ _).trans (congrArg G (he _ _)).symm

theorem flushed_eq : (dats m 0 c).flushed 2 t = ((cfg0.win 2).blk t).view.read (Elt Ideal) (prod (aA m c) (aB m c)) := by
  rw [flushed2 m c t]
  funext y
  refine block t _ (prod (aA m c) (aB m c)) (fun y => ((cfg0.win 2).blk t).view.emb y) (emb2 t) (fun i j => ?_) y
  refine (out_apply _ _ i j).trans (Finset.sum_congr rfl fun k _ => ?_)
  rw [blk0 m c t k i, blk1 m c t k j]
  rfl

theorem final : (dats m 0 c).arrAt 2 cfg0.N = prod (aA m c) (aB m c) :=
  (dats m 0 c).arrAt_eq_of_cover 2 (prod (aA m c) (aB m c)) (fun t _ => flushed_eq m c t) fun y => by
    have h0 : (y 0).val < 5632 := (y 0).isLt
    have h1 : (y 1).val < 2048 := (y 1).isLt
    let t : Fin cfg0.N := ⟨(y 0).val / 1408 * 4 + (y 1).val / 512, by show _ < grid0.N; rw [N_0]; omega⟩
    refine ⟨t, flush0_2 t, ?_⟩
    have hm := ((cfg0.win 2).blk t).view.emb_mem_set (ix2 (⟨(y 0).val % 1408, by omega⟩ : Fin 1408) (⟨(y 1).val % 512, by omega⟩ : Fin 512))
    rw [emb2] at hm
    have hy : y = ix2 (rowAt t ⟨(y 0).val % 1408, by omega⟩) (colAt t ⟨(y 1).val % 512, by omega⟩) := by
      funext a
      match a with
      | ⟨0, _⟩ => exact Fin.ext (by show (y 0).val = ((y 0).val / 1408 * 4 + (y 1).val / 512) / 4 * 1408 + (y 0).val % 1408; omega)
      | ⟨1, _⟩ => exact Fin.ext (by show (y 1).val = ((y 0).val / 1408 * 4 + (y 1).val / 512) % 4 * 512 + (y 1).val % 512; omega)
    rw [hy]
    exact hm

end

open Cert.DwDownRefIdeal.Read in
theorem ref_eq (a : Mat 4096 5632) (b : Mat 4096 2048) : val_main_v5 (F := Ideal) a b = prod a b := by
  funext y
  rw [eq_ix2 (n0 := 5632) (n1 := 2048) y]
  show val_main_v5 (F := Ideal) a b (ix2 (y 0) (y 1)) = ∑ k : Fin 4096, a (ix2 k (y 0)) * b (ix2 k (y 1))
  generalize y 0 = i
  generalize y 1 = j
  unfold val_main_v5 val_main_v4 val_main_v3 val_main_v1
  pointwise
  exact Finset.sum_congr rfl fun k _ => mul_comm _ _

end Cert.DwDownIdeal.Own

end
-- ==== Proof.Columns.lean ====
/-
  The matrices that come in blocks of columns.
-/
module

public import proofs.«01_k».proof.Proof.Problem

@[expose] public section

noncomputable section

namespace Cert.Attn

open Idealize.ShloMosaic

/-- An array of matrices. -/
abbrev Mats (n a b : ℕ) : Type := (⟨3, ![n, a, b]⟩ : Shape).Idx → EReal

/-- The block of columns that a column of a half lies in, and its place there. -/
def blkOf (p : Fin 2) (j : Fin 5632) : Fin 8 := ⟨4 * p.val + j.val / 1408, by omega⟩
def inBlk (j : Fin 5632) : Fin 1408 := ⟨j.val % 1408, by omega⟩

theorem zero2 : (![0, 0] : Fin 2 → Nat) = fun _ => 0 := funext fun a => by fin_cases a <;> rfl
theorem zero3 : (![0, 0, 0] : Fin 3 → Nat) = fun _ => 0 := funext fun a => by fin_cases a <;> rfl

end Cert.Attn

end
-- ==== Proof.DUpIn.lean ====
/-
  The cotangent of the channel mixer's input, over the 8 blocks of columns of its matrix, two at a step.
-/
module

public import proofs.«01_k».proof.Proof.Columns
public import proofs.«01_k».proof.Proof.Gen.DUpInIdeal.Value
public import proofs.«01_k».proof.Proof.Gen.DUpInRefIdeal.Run
public import proofs.«01_k».proof.Proof.Gen.DUpInRefIdeal.Read
public import Idealize.ShloMosaic.Lib.Pipeline.ValueKit.Tiles

@[expose] public section

set_option maxRecDepth 16384
set_option maxHeartbeats 1000000

noncomputable section

namespace Cert.DUpInIdeal.Own

open Idealize.ShloMosaic Idealize.ShloMosaic.Pipeline Idealize.ShloMosaic.TcCoe Cert.Attn Cert.DUpInIdeal Cert.DUpInIdeal.Gen Cert.DUpInIdeal.Value

/-- What a step adds. -/
def step (x0 : Vec Ideal S1x1024x2816 .bf16) (x1 : Vec Ideal S2x1024x1408 .bf16) (i j : Fin 1024) : EReal :=
  ∑ b : Fin 2, ∑ k : Fin 1408, x0 (ix3 (0 : Fin 1) i ⟨1408 * b.val + k.val, by omega⟩) * x1 (ix3 b j k)

abbrev lo (x1 : Vec Ideal S2x1024x1408 .bf16) : Vec Ideal S1x1024x1408 .bf16 := fun y => x1 (ix3 (0 : Fin 2) (y 1) (y 2))
abbrev hi (x1 : Vec Ideal S2x1024x1408 .bf16) : Vec Ideal S1x1024x1408 .bf16 := fun y => x1 (ix3 (1 : Fin 2) (y 1) (y 2))

theorem ld_lo (x1 : Vec Ideal S2x1024x1408 .bf16) (o : Fin 3 → ℕ) (ho : o = ![0, 0, 0]) (inb : ∀ a, o a + (![1, 1024, 1408] : Fin 3 → ℕ) a ≤ S2x1024x1408.size a) :
    View.ld (Val := Elt Ideal) x1 (Rect.unit (s := S2x1024x1408) o ![1, 1024, 1408] inb) = lo x1 := by
  subst ho
  funext y
  have h0 : (y 0).val < 1 := (y 0).isLt
  exact View.ld_unit_apply_of (Val := Elt Ideal) x1 _ _ inb y _ fun a => by
    match a with
    | ⟨0, _⟩ => show 0 = 0 + (y 0).val; omega
    | ⟨1, _⟩ => show (y 1).val = 0 + (y 1).val; omega
    | ⟨2, _⟩ => show (y 2).val = 0 + (y 2).val; omega

theorem ld_hi (x1 : Vec Ideal S2x1024x1408 .bf16) (o : Fin 3 → ℕ) (ho : o = ![1, 0, 0]) (inb : ∀ a, o a + (![1, 1024, 1408] : Fin 3 → ℕ) a ≤ S2x1024x1408.size a) :
    View.ld (Val := Elt Ideal) x1 (Rect.unit (s := S2x1024x1408) o ![1, 1024, 1408] inb) = hi x1 := by
  subst ho
  funext y
  have h0 : (y 0).val < 1 := (y 0).isLt
  exact View.ld_unit_apply_of (Val := Elt Ideal) x1 _ _ inb y _ fun a => by
    match a with
    | ⟨0, _⟩ => show 1 = 1 + (y 0).val; omega
    | ⟨1, _⟩ => show (y 1).val = 0 + (y 1).val; omega
    | ⟨2, _⟩ => show (y 2).val = 0 + (y 2).val; omega

theorem pay1_apply (x0 : Vec Ideal S1x1024x2816 .bf16) (x1 : Vec Ideal S2x1024x1408 .bf16) (i j : Fin 1024) :
    k0_pay1 (F := Ideal) x0 (lo x1) (hi x1) (ix2 i j) = step x0 x1 i j := by
  unfold k0_pay1 step
  pointwise
  rw [Fin.sum_univ_two]
  refine congrArg₂ (· + ·) (Finset.sum_congr rfl fun k _ => ?_) (Finset.sum_congr rfl fun k _ => rfl)
  exact congrArg (fun u => x0 (ix3 (0 : Fin 1) i u) * x1 (ix3 (0 : Fin 2) j k)) (Fin.ext (by show k.val = 1408 * 0 + k.val; omega))

theorem pay2_apply (x0 : Vec Ideal S1x1024x2816 .bf16) (x1 : Vec Ideal S2x1024x1408 .bf16) (i j : Fin 1024) :
    k0_pay2 (F := Ideal) x0 (lo x1) (hi x1) (ix2 i j) = step x0 x1 i j := by
  rw [← pay1_apply]
  unfold k0_pay2
  generalize k0_pay1 (F := Ideal) x0 (lo x1) (hi x1) = v
  pointwise

theorem pay3_apply (x0 : Vec Ideal S1x1024x2816 .bf16) (x1 : Vec Ideal S2x1024x1408 .bf16) (x2 : Vec Ideal S1024x1024 .f32) (i j : Fin 1024) :
    k0_pay3 (F := Ideal) x0 (lo x1) (hi x1) x2 (ix2 i j) = x2 (ix2 i j) + step x0 x1 i j := by
  rw [← pay1_apply]
  unfold k0_pay3
  generalize k0_pay1 (F := Ideal) x0 (lo x1) (hi x1) = v
  pointwise

theorem scratchA (c : Dev nD) (i : grid0.Coords) (arg3 : Memref sig .tc .vmem S1x1024x2816 .bf16) (harg3 : arg3.IsWhole) (arg4 : Memref sig .tc .vmem S2x1024x1408 .bf16) (harg4 : arg4.IsWhole) (arg5 : Memref sig .tc .vmem S1024x1024 .f32) (harg5 : arg5.IsWhole) (arg6 : Memref sig .tc .vmem S1024x1024 .f32) (harg6 : arg6.IsWhole) (hc0 : cond0_0 i) (hc1 : ¬cond0_1 i) (hc2 : ¬cond0_2 i)
    (x0 : Vec Ideal S1x1024x2816 .bf16) (x1 : Vec Ideal S2x1024x1408 .bf16) :
    sout0_A_0 (F := Ideal) c i arg3 harg3 arg4 harg4 arg5 harg5 arg6 harg6 hc0 hc1 hc2 x0 x1 = k0_pay2 (F := Ideal) x0 (lo x1) (hi x1) := by
  unfold sout0_A_0
  rw [View.read_writes_eq_canon _ _ _ (scover0_A_0 c i arg3 harg3 arg4 harg4 arg5 harg5 arg6 harg6 hc0 hc1 hc2 x0 x1)]
  unfold kernelRun0_A
  dsimp only
  rw [View.canon_unit_zero zero2]
  sl_unfold_words
  simp only [View.readAt_eq_ld, harg3.read_unread, harg4.read_unread, harg6.read_unread, View.ld_unit_zero (S := S1x1024x2816) zero3, View.ld_unit_zero (S := S1024x1024) zero2]
  rw [ld_lo x1 _ rfl, ld_hi x1 _ rfl]

theorem scratchB (c : Dev nD) (i : grid0.Coords) (arg3 : Memref sig .tc .vmem S1x1024x2816 .bf16) (harg3 : arg3.IsWhole) (arg4 : Memref sig .tc .vmem S2x1024x1408 .bf16) (harg4 : arg4.IsWhole) (arg5 : Memref sig .tc .vmem S1024x1024 .f32) (harg5 : arg5.IsWhole) (arg6 : Memref sig .tc .vmem S1024x1024 .f32) (harg6 : arg6.IsWhole) (hc0 : ¬cond0_0 i) (hc1 : cond0_1 i) (hc2 : ¬cond0_2 i)
    (x0 : Vec Ideal S1x1024x2816 .bf16) (x1 : Vec Ideal S2x1024x1408 .bf16) (xs : Vec Ideal S1024x1024 .f32) :
    sout0_B_0 (F := Ideal) c i arg3 harg3 arg4 harg4 arg5 harg5 arg6 harg6 hc0 hc1 hc2 x0 x1 xs = k0_pay3 (F := Ideal) x0 (lo x1) (hi x1) xs := by
  unfold sout0_B_0
  rw [View.read_writes_eq_canon _ _ _ (scover0_B_0 c i arg3 harg3 arg4 harg4 arg5 harg5 arg6 harg6 hc0 hc1 hc2 x0 x1 xs)]
  unfold kernelRun0_B
  dsimp only
  rw [View.canon_unit_zero zero2]
  sl_unfold_words
  simp only [View.readAt_eq_ld, harg3.read_unread, harg4.read_unread, harg6.read_unread, View.ld_unit_zero (S := S1x1024x2816) zero3, View.ld_unit_zero (S := S1024x1024) zero2]
  rw [ld_lo x1 _ rfl, ld_hi x1 _ rfl]

theorem outC (c : Dev nD) (i : grid0.Coords) (arg3 : Memref sig .tc .vmem S1x1024x2816 .bf16) (harg3 : arg3.IsWhole) (arg4 : Memref sig .tc .vmem S2x1024x1408 .bf16) (harg4 : arg4.IsWhole) (arg5 : Memref sig .tc .vmem S1024x1024 .f32) (harg5 : arg5.IsWhole) (arg6 : Memref sig .tc .vmem S1024x1024 .f32) (harg6 : arg6.IsWhole) (hc0 : ¬cond0_0 i) (hc1 : cond0_1 i) (hc2 : cond0_2 i)
    (x0 : Vec Ideal S1x1024x2816 .bf16) (x1 : Vec Ideal S2x1024x1408 .bf16) (xs : Vec Ideal S1024x1024 .f32) :
    out0_C_2 (F := Ideal) c i arg3 harg3 arg4 harg4 arg5 harg5 arg6 harg6 hc0 hc1 hc2 x0 x1 xs = k0_pay3 (F := Ideal) x0 (lo x1) (hi x1) xs := by
  unfold out0_C_2
  rw [View.read_writes_eq_canon _ _ _ (cover0_C_2 c i arg3 harg3 arg4 harg4 arg5 harg5 arg6 harg6 hc0 hc1 hc2 x0 x1 xs)]
  unfold kernelRun0_C
  dsimp only
  rw [View.canon_unit_zero zero2]
  sl_unfold_words
  simp only [View.readAt_eq_ld, harg3.read_unread, harg4.read_unread, harg6.read_unread, View.ld_unit_zero (S := S1x1024x2816) zero3, View.ld_unit_zero (S := S1024x1024) zero2]
  rw [View.readCov_cons_toLoadRect, ld_lo x1 _ rfl, ld_hi x1 _ rfl]

theorem at0 : ∀ t : Fin cfg0.N, win0_0.index t (0 : Fin 3) = t.val % 4 / 2 ∧ win0_0.index t (1 : Fin 3) = t.val / 8 ∧ win0_0.index t (2 : Fin 3) = t.val % 2 := (by decide +kernel : ∀ t : Fin grid0.N, _)
theorem at1 : ∀ t : Fin cfg0.N, win0_1.index t (0 : Fin 3) = t.val % 4 ∧ win0_1.index t (1 : Fin 3) = t.val / 4 % 2 ∧ win0_1.index t (2 : Fin 3) = 0 := (by decide +kernel : ∀ t : Fin grid0.N, _)
theorem at2 : ∀ t : Fin cfg0.N, win0_2.index t (0 : Fin 2) = t.val / 8 ∧ win0_2.index t (1 : Fin 2) = t.val / 4 % 2 := (by decide +kernel : ∀ t : Fin grid0.N, _)

/-- The rows and the columns of a grid point, and the blocks of columns that it meets. -/
def rowAt (t : Fin cfg0.N) (i : Fin 1024) : Fin 4096 := ⟨t.val / 8 * 1024 + i.val, by have : t.val < 32 := lt_of_lt_of_eq t.isLt N_0; omega⟩
def colAt (t : Fin cfg0.N) (j : Fin 1024) : Fin 2048 := ⟨t.val / 4 % 2 * 1024 + j.val, by omega⟩
def halfAt (t : Fin cfg0.N) : Fin 2 := ⟨t.val % 4 / 2, by omega⟩
def bAt (t : Fin cfg0.N) (b : Fin 2) : Fin 8 := ⟨t.val % 4 * 2 + b.val, by omega⟩

/-- What one block of columns gives. -/
def piece (a : Mats 2 4096 5632) (w : Mats 8 2048 1408) (i : Fin 4096) (j : Fin 2048) (b : Fin 8) : EReal :=
  ∑ k : Fin 1408, a (ix3 ⟨b.val / 4, by omega⟩ i ⟨b.val % 4 * 1408 + k.val, by omega⟩) * w (ix3 b j k)

/-- The cotangent. -/
def prod (a : Mats 2 4096 5632) (w : Mats 8 2048 1408) : Mat 4096 2048 := fun y => ∑ b : Fin 8, piece a w (y 0) (y 1) b

section
variable (m : (ℓ : Loc nD τ sig) → Buf (Elt Ideal) ℓ) (c : Dev nD) (t : Fin cfg0.N)

/-- The argument arrays. -/
abbrev aA : Mats 2 4096 5632 := m ((c : Thread nD τ).loc main_arg0)
abbrev aW : Mats 8 2048 1408 := m ((c : Thread nD τ).loc main_arg1)

abbrev X0 : Vec Ideal S1x1024x2816 .bf16 := iblk m c 0 t
abbrev X1 : Vec Ideal S2x1024x1408 .bf16 := iblk m c 1 t

theorem blk0 (i : Fin 1024) (k : Fin 2816) : X0 m c t (ix3 (0 : Fin 1) i k)
    = aA m c (ix3 (halfAt t) (rowAt t i) ⟨t.val % 2 * 2816 + k.val, by omega⟩) := by
  obtain ⟨e0, e1, e2⟩ := at0 t
  show Gen.V m c main_arg0 (((cfg0.win 0).blk t).view.emb (ix3 (0 : Fin 1) i k)) = _
  rw [V_main_arg0]
  refine congrArg (aA m c) (funext fun a => Fin.ext ?_)
  match a with
  | ⟨0, _⟩ => show win0_0.index t (0 : Fin 3) * 1 + 1 * 0 = t.val % 4 / 2; rw [e0]; omega
  | ⟨1, _⟩ => show win0_0.index t (1 : Fin 3) * 1024 + 1 * i.val = t.val / 8 * 1024 + i.val; rw [e1, one_mul]
  | ⟨2, _⟩ => show win0_0.index t (2 : Fin 3) * 2816 + 1 * k.val = t.val % 2 * 2816 + k.val; rw [e2, one_mul]

theorem blk1 (b : Fin 2) (j : Fin 1024) (k : Fin 1408) : X1 m c t (ix3 b j k)
    = aW m c (ix3 (bAt t b) (colAt t j) k) := by
  obtain ⟨e0, e1, e2⟩ := at1 t
  show Gen.V m c main_arg1 (((cfg0.win 1).blk t).view.emb (ix3 b j k)) = _
  rw [V_main_arg1]
  refine congrArg (aW m c) (funext fun a => Fin.ext ?_)
  match a with
  | ⟨0, _⟩ => show win0_1.index t (0 : Fin 3) * 2 + 1 * b.val = t.val % 4 * 2 + b.val; rw [e0, one_mul]
  | ⟨1, _⟩ => show win0_1.index t (1 : Fin 3) * 1024 + 1 * j.val = t.val / 4 % 2 * 1024 + j.val; rw [e1, one_mul]
  | ⟨2, _⟩ => show win0_1.index t (2 : Fin 3) * 1408 + 1 * k.val = k.val; rw [e2, one_mul, Nat.zero_mul, Nat.zero_add]

theorem emb2 (i j : Fin 1024) : ((cfg0.win 2).blk t).view.emb (ix2 i j) = ix2 (rowAt t i) (colAt t j) := by
  obtain ⟨e0, e1⟩ := at2 t
  refine funext fun a => Fin.ext ?_
  match a with
  | ⟨0, _⟩ => show win0_2.index t (0 : Fin 2) * 1024 + 1 * i.val = t.val / 8 * 1024 + i.val; rw [e0, one_mul]
  | ⟨1, _⟩ => show win0_2.index t (1 : Fin 2) * 1024 + 1 * j.val = t.val / 4 % 2 * 1024 + j.val; rw [e1, one_mul]

theorem step_eq (i j : Fin 1024) : step (X0 m c t) (X1 m c t) i j
    = piece (aA m c) (aW m c) (rowAt t i) (colAt t j) (bAt t 0) + piece (aA m c) (aW m c) (rowAt t i) (colAt t j) (bAt t 1) := by
  unfold step
  rw [Fin.sum_univ_two]
  have key : ∀ (b : Fin 2) (k : Fin 1408), X0 m c t (ix3 (0 : Fin 1) i ⟨1408 * b.val + k.val, by omega⟩)
        * X1 m c t (ix3 b j k)
      = aA m c (ix3 ⟨(bAt t b).val / 4, by have := (bAt t b).isLt; omega⟩ (rowAt t i) ⟨(bAt t b).val % 4 * 1408 + k.val, by omega⟩) * aW m c (ix3 (bAt t b) (colAt t j) k) := by
    intro b k
    rw [blk0 m c t i, blk1 m c t b j k]
    refine congrArg₂ (fun u v => aA m c (ix3 u (rowAt t i) v) * aW m c (ix3 (bAt t b) (colAt t j) k)) (Fin.ext ?_) (Fin.ext ?_)
    · show t.val % 4 / 2 = (t.val % 4 * 2 + b.val) / 4
      omega
    · show t.val % 2 * 2816 + (1408 * b.val + k.val) = (t.val % 4 * 2 + b.val) % 4 * 1408 + k.val
      omega
  exact congrArg₂ (· + ·) (Finset.sum_congr rfl fun k _ => key 0 k) (Finset.sum_congr rfl fun k _ => key 1 k)

/-- The point before. -/
abbrev before (t : Fin cfg0.N) : Fin cfg0.N := ⟨t.val - 1, Nat.lt_of_le_of_lt (Nat.sub_le _ _) t.isLt⟩

theorem carried_first (h : t.val % 4 = 0) (i j : Fin 1024) : (outsAt0 m c t.val t.isLt).2 (ix2 i j) = step (X0 m c t) (X1 m c t) i j := by
  rw [outsAt0_A m c t h (by omega) (by omega)]
  dsimp only
  rw [scratchA]
  exact pay2_apply _ _ i j

theorem carried_next (h0 : ¬t.val % 4 = 0) (h3 : ¬t.val % 4 = 3) (i j : Fin 1024) : (outsAt0 m c t.val t.isLt).2 (ix2 i j)
    = (outsAt0 m c (before t).val (before t).isLt).2 (ix2 i j) + step (X0 m c t) (X1 m c t) i j := by
  rw [outsAt0_B m c t h0 (by omega) h3]
  dsimp only
  rw [scratchB]
  exact pay3_apply _ _ _ i j

theorem stored_last (h3 : t.val % 4 = 3) (i j : Fin 1024) : (outsAt0 m c t.val t.isLt).1 (ix2 i j)
    = (outsAt0 m c (before t).val (before t).isLt).2 (ix2 i j) + step (X0 m c t) (X1 m c t) i j := by
  rw [outsAt0_C m c t (by omega) (by omega) h3]
  dsimp only
  rw [outC]
  exact pay3_apply _ _ _ i j

theorem stored_eq (h3 : t.val % 4 = 3) (i j : Fin 1024) : (outsAt0 m c t.val t.isLt).1 (ix2 i j)
    = prod (aA m c) (aW m c) (ix2 (rowAt t i) (colAt t j)) := by
  have same : ∀ (s : Fin cfg0.N) (b : Fin 2) (r : Fin 8), s.val / 4 = t.val / 4 → s.val % 4 * 2 + b.val = r.val →
      piece (aA m c) (aW m c) (rowAt s i) (colAt s j) (bAt s b) = piece (aA m c) (aW m c) (rowAt t i) (colAt t j) r := by
    intro s b r hs hr
    have e0 : rowAt s i = rowAt t i := Fin.ext (by show s.val / 8 * 1024 + i.val = t.val / 8 * 1024 + i.val; omega)
    have e1 : colAt s j = colAt t j := Fin.ext (by show s.val / 4 % 2 * 1024 + j.val = t.val / 4 % 2 * 1024 + j.val; omega)
    have e2 : bAt s b = r := Fin.ext hr
    rw [e0, e1, e2]
  have v1 : (before t).val = t.val - 1 := rfl
  have v2 : (before (before t)).val = t.val - 2 := by show t.val - 1 - 1 = t.val - 2; omega
  have v3 : (before (before (before t))).val = t.val - 3 := by show t.val - 1 - 1 - 1 = t.val - 3; omega
  have z : (0 : Fin 2).val = 0 := rfl
  have o : (1 : Fin 2).val = 1 := rfl
  rw [stored_last m c t h3, carried_next m c (before t) (by omega) (by omega), carried_next m c (before (before t)) (by omega) (by omega),
    carried_first m c (before (before (before t))) (by omega), step_eq, step_eq, step_eq, step_eq,
    same (before (before (before t))) 0 0 (by omega) (by rw [z]; show _ = 0; omega), same (before (before (before t))) 1 1 (by omega) (by rw [o]; show _ = 1; omega),
    same (before (before t)) 0 2 (by omega) (by rw [z]; show _ = 2; omega), same (before (before t)) 1 3 (by omega) (by rw [o]; show _ = 3; omega),
    same (before t) 0 4 (by omega) (by rw [z]; show _ = 4; omega), same (before t) 1 5 (by omega) (by rw [o]; show _ = 5; omega),
    same t 0 6 (by omega) (by rw [z]; show _ = 6; omega), same t 1 7 (by omega) (by rw [o]; show _ = 7; omega)]
  show _ = ∑ b : Fin 8, piece (aA m c) (aW m c) (rowAt t i) (colAt t j) b
  rw [Fin.sum_univ_eight]
  simp only [add_assoc]

theorem block (f : S1024x1024.Idx → EReal) (G : Mat 4096 2048) (e : S1024x1024.Idx → (⟨2, ![4096, 2048]⟩ : Shape).Idx)
    (he : ∀ i j, e (ix2 i j) = ix2 (rowAt t i) (colAt t j)) (hf : ∀ i j, f (ix2 i j) = G (ix2 (rowAt t i) (colAt t j)))
    (y : S1024x1024.Idx) : f y = G (e y) := by
  rw [eq_ix2 (n0 := 1024) (n1 := 1024) y]
  exact (hf _ _).trans (congrArg G (he _ _)).symm

theorem flushed_eq (hf : (cfg0.win 2).flush t = true) : (dats m 0 c).flushed 2 t = ((cfg0.win 2).blk t).view.read (Elt Ideal) (prod (aA m c) (aW m c)) := by
  rw [flushed2 m c t]
  funext y
  exact block t _ (prod (aA m c) (aW m c)) (fun y => ((cfg0.win 2).blk t).view.emb y) (emb2 t) (stored_eq m c t ((flush0_2 t).mp hf)) y

theorem final : (dats m 0 c).arrAt 2 cfg0.N = prod (aA m c) (aW m c) :=
  (dats m 0 c).arrAt_eq_of_cover 2 (prod (aA m c) (aW m c)) (fun t hf => flushed_eq m c t hf) fun y => by
    have h0 : (y 0).val < 4096 := (y 0).isLt
    have h1 : (y 1).val < 2048 := (y 1).isLt
    let t : Fin cfg0.N := ⟨((y 0).val / 1024 * 2 + (y 1).val / 1024) * 4 + 3, by show _ < grid0.N; rw [N_0]; omega⟩
    refine ⟨t, (flush0_2 t).mpr (by show (((y 0).val / 1024 * 2 + (y 1).val / 1024) * 4 + 3) % 4 = 3; omega), ?_⟩
    have hm := ((cfg0.win 2).blk t).view.emb_mem_set (ix2 (⟨(y 0).val % 1024, by omega⟩ : Fin 1024) (⟨(y 1).val % 1024, by omega⟩ : Fin 1024))
    rw [emb2] at hm
    have hy : y = ix2 (rowAt t ⟨(y 0).val % 1024, by omega⟩) (colAt t ⟨(y 1).val % 1024, by omega⟩) := by
      funext a
      match a with
      | ⟨0, _⟩ => exact Fin.ext (by show (y 0).val = (((y 0).val / 1024 * 2 + (y 1).val / 1024) * 4 + 3) / 8 * 1024 + (y 0).val % 1024; omega)
      | ⟨1, _⟩ => exact Fin.ext (by show (y 1).val = (((y 0).val / 1024 * 2 + (y 1).val / 1024) * 4 + 3) / 4 % 2 * 1024 + (y 1).val % 1024; omega)
    rw [hy]
    exact hm

end

theorem sum_blocks (f : Fin 11264 → EReal) : ∑ x : Fin 11264, f x = ∑ b : Fin 8, ∑ k : Fin 1408, f ⟨b.val * 1408 + k.val, by omega⟩ := by
  rw [← Fintype.sum_prod_type' (f := fun (b : Fin 8) (k : Fin 1408) => f ⟨b.val * 1408 + k.val, by omega⟩)]
  refine (Fintype.sum_equiv (finProdFinEquiv (m := 8) (n := 1408)) _ _ fun x => ?_).symm
  refine congrArg f (Fin.ext ?_)
  show x.1.val * 1408 + x.2.val = x.2.val + 1408 * x.1.val
  omega

open Cert.DUpInRefIdeal.Read in
theorem ref_eq (a : Mats 2 4096 5632) (w : Mats 8 2048 1408) : val_main_v8 (F := Ideal) a w = prod a w := by
  funext y
  rw [eq_ix2 (n0 := 4096) (n1 := 2048) y]
  show val_main_v8 (F := Ideal) a w (ix2 (y 0) (y 1)) = ∑ b : Fin 8, ∑ k : Fin 1408, a (ix3 ⟨b.val / 4, by omega⟩ (y 0) ⟨b.val % 4 * 1408 + k.val, by omega⟩) * w (ix3 b (y 1) k)
  generalize y 0 = i
  generalize y 1 = j
  unfold val_main_v8 val_main_v7 val_main_v5 val_main_v3 val_main_v2 val_main_v1 val_main_v0
  pointwise
  rw [sum_blocks]
  refine Finset.sum_congr rfl fun b _ => Finset.sum_congr rfl fun k _ => congrArg₂ (· * ·) (congrArg a ?_) (congrArg w ?_)
  · refine congrArg₂ (fun u v => ix3 u i v) (Fin.ext ?_) (Fin.ext ?_)
    · show (b.val * 1408 + k.val) / 5632 = b.val / 4
      omega
    · show (b.val * 1408 + k.val) % 5632 = b.val % 4 * 1408 + k.val
      omega
  · refine congrArg₂ (fun u v => ix3 u j v) (Fin.ext ?_) (Fin.ext ?_)
    · show (b.val * 1408 + k.val) / 1408 = b.val
      omega
    · show (b.val * 1408 + k.val) % 1408 = k.val
      omega

end Cert.DUpInIdeal.Own

end
-- ==== Proof.DMix.lean ====
/-
  The cotangent of the two mixers' outputs: the rows of `dx1` against the rows of `w_out`.
-/
module

public import proofs.«01_k».proof.Proof.Problem
public import proofs.«01_k».proof.Proof.Gen.DMixIdeal.Value
public import proofs.«01_k».proof.Proof.Gen.DMixRefIdeal.Run
public import proofs.«01_k».proof.Proof.Gen.DMixRefIdeal.Read
public import Idealize.ShloMosaic.Lib.Pipeline.ValueKit.Tiles

@[expose] public section

set_option maxRecDepth 16384
set_option maxHeartbeats 1000000

noncomputable section

namespace Cert.DMixIdeal.Own

open Idealize.ShloMosaic Idealize.ShloMosaic.Pipeline Idealize.ShloMosaic.TcCoe Cert.Attn Cert.DMixIdeal Cert.DMixIdeal.Gen Cert.DMixIdeal.Value

/-- The product. -/
def prod (a : Mat 4096 2048) (b : Mat 2048 2048) : Mat 4096 2048 := fun y => ∑ k : Fin 2048, a (ix2 (y 0) k) * b (ix2 (y 1) k)

theorem hz2 : (![0, 0] : Fin 2 → Nat) = fun _ => 0 := funext fun a => by fin_cases a <;> rfl

theorem pay_apply (x0 : Vec Ideal S2048x2048 .bf16) (x1 : Vec Ideal S1024x2048 .bf16) (i : Fin 2048) (j : Fin 1024) :
    k0_pay1 (F := Ideal) x0 x1 (ix2 i j) = ∑ k : Fin 2048, x0 (ix2 i k) * x1 (ix2 j k) := by
  unfold k0_pay1
  pointwise

theorem out_apply (x0 : Vec Ideal S2048x2048 .bf16) (x1 : Vec Ideal S1024x2048 .bf16) (i : Fin 2048) (j : Fin 1024) :
    out0_2 (F := Ideal) x0 x1 (ix2 i j) = ∑ k : Fin 2048, x0 (ix2 i k) * x1 (ix2 j k) := by
  unfold out0_2
  rw [View.canon_unit_zero hz2]
  simp only [View.ld_unit_zero (S := S2048x2048) hz2, View.ld_unit_zero (S := S1024x2048) hz2]
  exact pay_apply x0 x1 i j

theorem at0 : ∀ t : Fin cfg0.N, win0_0.index t (0 : Fin 2) = t.val / 2 ∧ win0_0.index t (1 : Fin 2) = 0 := (by decide +kernel : ∀ t : Fin grid0.N, _)
theorem at1 : ∀ t : Fin cfg0.N, win0_1.index t (0 : Fin 2) = t.val % 2 ∧ win0_1.index t (1 : Fin 2) = 0 := (by decide +kernel : ∀ t : Fin grid0.N, _)
theorem at2 : ∀ t : Fin cfg0.N, win0_2.index t (0 : Fin 2) = t.val / 2 ∧ win0_2.index t (1 : Fin 2) = t.val % 2 := (by decide +kernel : ∀ t : Fin grid0.N, _)

/-- The rows and the columns of a grid point. -/
def rowAt (t : Fin cfg0.N) (i : Fin 2048) : Fin 4096 := ⟨t.val / 2 * 2048 + i.val, by have : t.val < 4 := lt_of_lt_of_eq t.isLt N_0; omega⟩
def colAt (t : Fin cfg0.N) (j : Fin 1024) : Fin 2048 := ⟨t.val % 2 * 1024 + j.val, by omega⟩

section
variable (m : (ℓ : Loc nD τ sig) → Buf (Elt Ideal) ℓ) (c : Dev nD) (t : Fin cfg0.N)

/-- The argument arrays. -/
abbrev aA : Mat 4096 2048 := m ((c : Thread nD τ).loc main_arg0)
abbrev aB : Mat 2048 2048 := m ((c : Thread nD τ).loc main_arg1)

theorem blk0 (i : Fin 2048) (k : Fin 2048) : (iblk m c 0 t : Vec Ideal S2048x2048 .bf16) (ix2 i k) = aA m c (ix2 (rowAt t i) k) := by
  obtain ⟨e0, e1⟩ := at0 t
  show Gen.V m c main_arg0 (((cfg0.win 0).blk t).view.emb (ix2 i k)) = _
  rw [V_main_arg0]
  refine congrArg (aA m c) (funext fun a => Fin.ext ?_)
  match a with
  | ⟨0, _⟩ => show win0_0.index t (0 : Fin 2) * 2048 + 1 * i.val = t.val / 2 * 2048 + i.val; rw [e0, one_mul]
  | ⟨1, _⟩ => show win0_0.index t (1 : Fin 2) * 2048 + 1 * k.val = k.val; rw [e1, one_mul, Nat.zero_mul, Nat.zero_add]

theorem blk1 (j : Fin 1024) (k : Fin 2048) : (iblk m c 1 t : Vec Ideal S1024x2048 .bf16) (ix2 j k) = aB m c (ix2 (colAt t j) k) := by
  obtain ⟨e0, e1⟩ := at1 t
  show Gen.V m c main_arg1 (((cfg0.win 1).blk t).view.emb (ix2 j k)) = _
  rw [V_main_arg1]
  refine congrArg (aB m c) (funext fun a => Fin.ext ?_)
  match a with
  | ⟨0, _⟩ => show win0_1.index t (0 : Fin 2) * 1024 + 1 * j.val = t.val % 2 * 1024 + j.val; rw [e0, one_mul]
  | ⟨1, _⟩ => show win0_1.index t (1 : Fin 2) * 2048 + 1 * k.val = k.val; rw [e1, one_mul, Nat.zero_mul, Nat.zero_add]

theorem emb2 (i : Fin 2048) (j : Fin 1024) : ((cfg0.win 2).blk t).view.emb (ix2 i j) = ix2 (rowAt t i) (colAt t j) := by
  obtain ⟨e0, e1⟩ := at2 t
  refine funext fun a => Fin.ext ?_
  match a with
  | ⟨0, _⟩ => show win0_2.index t (0 : Fin 2) * 2048 + 1 * i.val = t.val / 2 * 2048 + i.val; rw [e0, one_mul]
  | ⟨1, _⟩ => show win0_2.index t (1 : Fin 2) * 1024 + 1 * j.val = t.val % 2 * 1024 + j.val; rw [e1, one_mul]

theorem block (f : S2048x1024.Idx → EReal) (G : Mat 4096 2048) (e : S2048x1024.Idx → (⟨2, ![4096, 2048]⟩ : Shape).Idx)
    (he : ∀ i j, e (ix2 i j) = ix2 (rowAt t i) (colAt t j)) (hf : ∀ i j, f (ix2 i j) = G (ix2 (rowAt t i) (colAt t j)))
    (y : S2048x1024.Idx) : f y = G (e y) := by
  rw [eq_ix2 (n0 := 2048) (n1 := 1024) y]
  exact (hf _ _).trans (congrArg G (he _ _)).symm

theorem flushed_eq : (dats m 0 c).flushed 2 t = ((cfg0.win 2).blk t).view.read (Elt Ideal) (prod (aA m c) (aB m c)) := by
  rw [flushed2 m c t]
  funext y
  refine block t _ (prod (aA m c) (aB m c)) (fun y => ((cfg0.win 2).blk t).view.emb y) (emb2 t) (fun i j => ?_) y
  refine (out_apply _ _ i j).trans (Finset.sum_congr rfl fun k _ => ?_)
  rw [blk0 m c t i k, blk1 m c t j k]
  rfl

theorem final : (dats m 0 c).arrAt 2 cfg0.N = prod (aA m c) (aB m c) :=
  (dats m 0 c).arrAt_eq_of_cover 2 (prod (aA m c) (aB m c)) (fun t _ => flushed_eq m c t) fun y => by
    have h0 : (y 0).val < 4096 := (y 0).isLt
    have h1 : (y 1).val < 2048 := (y 1).isLt
    let t : Fin cfg0.N := ⟨(y 0).val / 2048 * 2 + (y 1).val / 1024, by show _ < grid0.N; rw [N_0]; omega⟩
    refine ⟨t, flush0_2 t, ?_⟩
    have hm := ((cfg0.win 2).blk t).view.emb_mem_set (ix2 (⟨(y 0).val % 2048, by omega⟩ : Fin 2048) (⟨(y 1).val % 1024, by omega⟩ : Fin 1024))
    rw [emb2] at hm
    have hy : y = ix2 (rowAt t ⟨(y 0).val % 2048, by omega⟩) (colAt t ⟨(y 1).val % 1024, by omega⟩) := by
      funext a
      match a with
      | ⟨0, _⟩ => exact Fin.ext (by show (y 0).val = ((y 0).val / 2048 * 2 + (y 1).val / 1024) / 2 * 2048 + (y 0).val % 2048; omega)
      | ⟨1, _⟩ => exact Fin.ext (by show (y 1).val = ((y 0).val / 2048 * 2 + (y 1).val / 1024) % 2 * 1024 + (y 1).val % 1024; omega)
    rw [hy]
    exact hm

end

open Cert.DMixRefIdeal.Read in
theorem ref_eq (a : Mat 4096 2048) (b : Mat 2048 2048) : val_main_v4 (F := Ideal) a b = prod a b := by
  funext y
  rw [eq_ix2 (n0 := 4096) (n1 := 2048) y]
  show val_main_v4 (F := Ideal) a b (ix2 (y 0) (y 1)) = ∑ k : Fin 2048, a (ix2 (y 0) k) * b (ix2 (y 1) k)
  generalize y 0 = i
  generalize y 1 = j
  unfold val_main_v4 val_main_v3 val_main_v1
  pointwise

end Cert.DMixIdeal.Own

end
-- ==== Proof.DwOut.lean ====
/-
  The gradient of the matrix behind the two mixers.
-/
module

public import proofs.«01_k».proof.Proof.Columns
public import proofs.«01_k».proof.Proof.Gen.DwOutIdeal.Value
public import proofs.«01_k».proof.Proof.Gen.DwOutRefIdeal.Run
public import proofs.«01_k».proof.Proof.Gen.DwOutRefIdeal.Read
public import Idealize.ShloMosaic.Lib.Pipeline.ValueKit.Tiles

@[expose] public section

set_option maxRecDepth 16384
set_option maxHeartbeats 1000000

noncomputable section

namespace Cert.DwOutIdeal.Own

open Idealize.ShloMosaic Idealize.ShloMosaic.Pipeline Idealize.ShloMosaic.TcCoe Cert.Attn Cert.DwOutIdeal Cert.DwOutIdeal.Gen Cert.DwOutIdeal.Value

/-- The gradient: the first mixer's rows above the second's. -/
def prod (a g : Mat 4096 1024) (d : Mat 4096 2048) : Mat 2048 2048 := fun y =>
  if h : (y 0).val < 1024 then ∑ k : Fin 4096, a (ix2 k ⟨(y 0).val, h⟩) * d (ix2 k (y 1))
  else ∑ k : Fin 4096, g (ix2 k ⟨(y 0).val - 1024, by have : (y 0).val < 2048 := (y 0).isLt; omega⟩) * d (ix2 k (y 1))

theorem prod_fst (a g : Mat 4096 1024) (d : Mat 4096 2048) (i : Fin 1024) (i' : Fin 2048) (j : Fin 2048) (h : i'.val = i.val) :
    prod a g d (ix2 i' j) = ∑ k : Fin 4096, a (ix2 k i) * d (ix2 k j) := by
  have hi : i'.val < 1024 := by omega
  show (if h : i'.val < 1024 then ∑ k : Fin 4096, a (ix2 k ⟨i'.val, h⟩) * d (ix2 k j) else _) = _
  rw [dif_pos hi]
  exact Finset.sum_congr rfl fun k _ => congrArg (fun u => a (ix2 k u) * d (ix2 k j)) (Fin.ext h)

theorem prod_snd (a g : Mat 4096 1024) (d : Mat 4096 2048) (i : Fin 1024) (i' : Fin 2048) (j : Fin 2048) (h : i'.val = 1024 + i.val) :
    prod a g d (ix2 i' j) = ∑ k : Fin 4096, g (ix2 k i) * d (ix2 k j) := by
  have hi : ¬ i'.val < 1024 := by omega
  show (if h : i'.val < 1024 then _ else ∑ k : Fin 4096, g (ix2 k ⟨i'.val - 1024, _⟩) * d (ix2 k j)) = _
  rw [dif_neg hi]
  exact Finset.sum_congr rfl fun k _ => congrArg (fun u => g (ix2 k u) * d (ix2 k j)) (Fin.ext (by show i'.val - 1024 = i.val; omega))

theorem pay1_apply (x0 : Vec Ideal S4096x1024 .bf16) (x1 : Vec Ideal S4096x512 .bf16) (i : Fin 1024) (j : Fin 512) :
    k0_pay1 (F := Ideal) x0 x1 (ix2 i j) = ∑ k : Fin 4096, x0 (ix2 k i) * x1 (ix2 k j) := by
  unfold k0_pay1
  pointwise

theorem pay2_apply (x0 : Vec Ideal S4096x1024 .bf16) (x1 : Vec Ideal S4096x512 .bf16) (i : Fin 1024) (j : Fin 512) :
    k0_pay2 (F := Ideal) x0 x1 (ix2 i j) = ∑ k : Fin 4096, x0 (ix2 k i) * x1 (ix2 k j) := by
  unfold k0_pay2
  pointwise

theorem storeA (c : Dev nD) (i : grid0.Coords) (arg2 : Memref sig .tc .vmem S4096x1024 .bf16) (harg2 : arg2.IsWhole) (arg3 : Memref sig .tc .vmem S4096x1024 .bf16) (harg3 : arg3.IsWhole) (arg4 : Memref sig .tc .vmem S4096x512 .bf16) (harg4 : arg4.IsWhole) (arg5 : Memref sig .tc .vmem S1024x512 .f32) (harg5 : arg5.IsWhole) (hc0 : cond0_0 i) (hc1 : ¬cond0_1 i)
    (x0 x1 : Vec Ideal S4096x1024 .bf16) (x2 : Vec Ideal S4096x512 .bf16) :
    out0_A_3 (F := Ideal) c i arg2 harg2 arg3 harg3 arg4 harg4 arg5 harg5 hc0 hc1 x0 x1 x2 = k0_pay1 (F := Ideal) x0 x2 := by
  unfold out0_A_3
  rw [View.read_writes_eq_canon _ _ _ (cover0_A_3 c i arg2 harg2 arg3 harg3 arg4 harg4 arg5 harg5 hc0 hc1 x0 x1 x2)]
  unfold kernelRun0_A
  dsimp only
  rw [View.canon_unit_zero zero2]
  sl_unfold_words
  simp only [View.readAt_eq_ld, harg2.read_unread, harg3.read_unread, harg4.read_unread, View.ld_unit_zero (S := S4096x1024) zero2, View.ld_unit_zero (S := S4096x512) zero2]

theorem storeB (c : Dev nD) (i : grid0.Coords) (arg2 : Memref sig .tc .vmem S4096x1024 .bf16) (harg2 : arg2.IsWhole) (arg3 : Memref sig .tc .vmem S4096x1024 .bf16) (harg3 : arg3.IsWhole) (arg4 : Memref sig .tc .vmem S4096x512 .bf16) (harg4 : arg4.IsWhole) (arg5 : Memref sig .tc .vmem S1024x512 .f32) (harg5 : arg5.IsWhole) (hc0 : ¬cond0_0 i) (hc1 : cond0_1 i)
    (x0 x1 : Vec Ideal S4096x1024 .bf16) (x2 : Vec Ideal S4096x512 .bf16) :
    out0_B_3 (F := Ideal) c i arg2 harg2 arg3 harg3 arg4 harg4 arg5 harg5 hc0 hc1 x0 x1 x2 = k0_pay2 (F := Ideal) x1 x2 := by
  unfold out0_B_3
  rw [View.read_writes_eq_canon _ _ _ (cover0_B_3 c i arg2 harg2 arg3 harg3 arg4 harg4 arg5 harg5 hc0 hc1 x0 x1 x2)]
  unfold kernelRun0_B
  dsimp only
  rw [View.canon_unit_zero zero2]
  sl_unfold_words
  simp only [View.readAt_eq_ld, harg2.read_unread, harg3.read_unread, harg4.read_unread, View.ld_unit_zero (S := S4096x1024) zero2, View.ld_unit_zero (S := S4096x512) zero2]

theorem at0 : ∀ t : Fin cfg0.N, win0_0.index t (0 : Fin 2) = 0 ∧ win0_0.index t (1 : Fin 2) = 0 := (by decide +kernel : ∀ t : Fin grid0.N, _)
theorem at1 : ∀ t : Fin cfg0.N, win0_1.index t (0 : Fin 2) = 0 ∧ win0_1.index t (1 : Fin 2) = 0 := (by decide +kernel : ∀ t : Fin grid0.N, _)
theorem at2 : ∀ t : Fin cfg0.N, win0_2.index t (0 : Fin 2) = 0 ∧ win0_2.index t (1 : Fin 2) = t.val % 4 := (by decide +kernel : ∀ t : Fin grid0.N, _)
theorem at3 : ∀ t : Fin cfg0.N, win0_3.index t (0 : Fin 2) = t.val / 4 ∧ win0_3.index t (1 : Fin 2) = t.val % 4 := (by decide +kernel : ∀ t : Fin grid0.N, _)

/-- The rows and the columns of a grid point. -/
def rowAt (t : Fin cfg0.N) (i : Fin 1024) : Fin 2048 := ⟨t.val / 4 * 1024 + i.val, by have : t.val < 8 := lt_of_lt_of_eq t.isLt N_0; omega⟩
def colAt (t : Fin cfg0.N) (j : Fin 512) : Fin 2048 := ⟨t.val % 4 * 512 + j.val, by omega⟩

section
variable (m : (ℓ : Loc nD τ sig) → Buf (Elt Ideal) ℓ) (c : Dev nD) (t : Fin cfg0.N)

/-- The argument arrays. -/
abbrev aA : Mat 4096 1024 := m ((c : Thread nD τ).loc main_arg0)
abbrev aG : Mat 4096 1024 := m ((c : Thread nD τ).loc main_arg1)
abbrev aD : Mat 4096 2048 := m ((c : Thread nD τ).loc main_arg2)

theorem blk0 (k : Fin 4096) (i : Fin 1024) : (iblk m c 0 t : Vec Ideal S4096x1024 .bf16) (ix2 k i) = aA m c (ix2 k i) := by
  obtain ⟨e0, e1⟩ := at0 t
  show Gen.V m c main_arg0 (((cfg0.win 0).blk t).view.emb (ix2 k i)) = _
  rw [V_main_arg0]
  refine congrArg (aA m c) (funext fun a => Fin.ext ?_)
  match a with
  | ⟨0, _⟩ => show win0_0.index t (0 : Fin 2) * 4096 + 1 * k.val = k.val; rw [e0, one_mul, Nat.zero_mul, Nat.zero_add]
  | ⟨1, _⟩ => show win0_0.index t (1 : Fin 2) * 1024 + 1 * i.val = i.val; rw [e1, one_mul, Nat.zero_mul, Nat.zero_add]

theorem blk1 (k : Fin 4096) (i : Fin 1024) : (iblk m c 1 t : Vec Ideal S4096x1024 .bf16) (ix2 k i) = aG m c (ix2 k i) := by
  obtain ⟨e0, e1⟩ := at1 t
  show Gen.V m c main_arg1 (((cfg0.win 1).blk t).view.emb (ix2 k i)) = _
  rw [V_main_arg1]
  refine congrArg (aG m c) (funext fun a => Fin.ext ?_)
  match a with
  | ⟨0, _⟩ => show win0_1.index t (0 : Fin 2) * 4096 + 1 * k.val = k.val; rw [e0, one_mul, Nat.zero_mul, Nat.zero_add]
  | ⟨1, _⟩ => show win0_1.index t (1 : Fin 2) * 1024 + 1 * i.val = i.val; rw [e1, one_mul, Nat.zero_mul, Nat.zero_add]

theorem blk2 (k : Fin 4096) (j : Fin 512) : (iblk m c 2 t : Vec Ideal S4096x512 .bf16) (ix2 k j) = aD m c (ix2 k (colAt t j)) := by
  obtain ⟨e0, e1⟩ := at2 t
  show Gen.V m c main_arg2 (((cfg0.win 2).blk t).view.emb (ix2 k j)) = _
  rw [V_main_arg2]
  refine congrArg (aD m c) (funext fun a => Fin.ext ?_)
  match a with
  | ⟨0, _⟩ => show win0_2.index t (0 : Fin 2) * 4096 + 1 * k.val = k.val; rw [e0, one_mul, Nat.zero_mul, Nat.zero_add]
  | ⟨1, _⟩ => show win0_2.index t (1 : Fin 2) * 512 + 1 * j.val = t.val % 4 * 512 + j.val; rw [e1, one_mul]

theorem emb3 (i : Fin 1024) (j : Fin 512) : ((cfg0.win 3).blk t).view.emb (ix2 i j) = ix2 (rowAt t i) (colAt t j) := by
  obtain ⟨e0, e1⟩ := at3 t
  refine funext fun a => Fin.ext ?_
  match a with
  | ⟨0, _⟩ => show win0_3.index t (0 : Fin 2) * 1024 + 1 * i.val = t.val / 4 * 1024 + i.val; rw [e0, one_mul]
  | ⟨1, _⟩ => show win0_3.index t (1 : Fin 2) * 512 + 1 * j.val = t.val % 4 * 512 + j.val; rw [e1, one_mul]

theorem block (f : S1024x512.Idx → EReal) (G : Mat 2048 2048) (e : S1024x512.Idx → (⟨2, ![2048, 2048]⟩ : Shape).Idx)
    (he : ∀ i j, e (ix2 i j) = ix2 (rowAt t i) (colAt t j)) (hf : ∀ i j, f (ix2 i j) = G (ix2 (rowAt t i) (colAt t j)))
    (y : S1024x512.Idx) : f y = G (e y) := by
  rw [eq_ix2 (n0 := 1024) (n1 := 512) y]
  exact (hf _ _).trans (congrArg G (he _ _)).symm

theorem flushed_eq : (dats m 0 c).flushed 3 t = ((cfg0.win 3).blk t).view.read (Elt Ideal) (prod (aA m c) (aG m c) (aD m c)) := by
  have ht : t.val < 8 := lt_of_lt_of_eq t.isLt N_0
  by_cases h0 : t.val < 4
  · rw [flushed3_A m c t h0 (by omega), storeA]
    funext y
    refine block t _ (prod (aA m c) (aG m c) (aD m c)) (fun y => ((cfg0.win 3).blk t).view.emb y) (emb3 t) (fun i j => ?_) y
    refine (pay1_apply _ _ i j).trans (Eq.trans ?_ (prod_fst _ _ _ i (rowAt t i) (colAt t j) (by show t.val / 4 * 1024 + i.val = i.val; omega)).symm)
    exact Finset.sum_congr rfl fun k _ => congrArg₂ (· * ·) (blk0 m c t k i) (blk2 m c t k j)
  · rw [flushed3_B m c t h0 (by omega), storeB]
    funext y
    refine block t _ (prod (aA m c) (aG m c) (aD m c)) (fun y => ((cfg0.win 3).blk t).view.emb y) (emb3 t) (fun i j => ?_) y
    refine (pay2_apply _ _ i j).trans (Eq.trans ?_ (prod_snd _ _ _ i (rowAt t i) (colAt t j) (by show t.val / 4 * 1024 + i.val = 1024 + i.val; omega)).symm)
    exact Finset.sum_congr rfl fun k _ => congrArg₂ (· * ·) (blk1 m c t k i) (blk2 m c t k j)

theorem final : (dats m 0 c).arrAt 3 cfg0.N = prod (aA m c) (aG m c) (aD m c) :=
  (dats m 0 c).arrAt_eq_of_cover 3 (prod (aA m c) (aG m c) (aD m c)) (fun t _ => flushed_eq m c t) fun y => by
    have h0 : (y 0).val < 2048 := (y 0).isLt
    have h1 : (y 1).val < 2048 := (y 1).isLt
    let t : Fin cfg0.N := ⟨(y 0).val / 1024 * 4 + (y 1).val / 512, by show _ < grid0.N; rw [N_0]; omega⟩
    refine ⟨t, flush0_3 t, ?_⟩
    have hm := ((cfg0.win 3).blk t).view.emb_mem_set (ix2 (⟨(y 0).val % 1024, by omega⟩ : Fin 1024) (⟨(y 1).val % 512, by omega⟩ : Fin 512))
    rw [emb3] at hm
    have hy : y = ix2 (rowAt t ⟨(y 0).val % 1024, by omega⟩) (colAt t ⟨(y 1).val % 512, by omega⟩) := by
      funext a
      match a with
      | ⟨0, _⟩ => exact Fin.ext (by show (y 0).val = ((y 0).val / 1024 * 4 + (y 1).val / 512) / 4 * 1024 + (y 0).val % 1024; omega)
      | ⟨1, _⟩ => exact Fin.ext (by show (y 1).val = ((y 0).val / 1024 * 4 + (y 1).val / 512) % 4 * 512 + (y 1).val % 512; omega)
    rw [hy]
    exact hm

end

open Cert.DwOutRefIdeal.Read in
theorem ref_eq (a g : Mat 4096 1024) (d : Mat 4096 2048) : val_main_v6 (F := Ideal) a g d = prod a g d := by
  funext y
  rw [eq_ix2 (n0 := 2048) (n1 := 2048) y]
  generalize h0 : y 0 = i
  generalize y 1 = j
  have hi : i.val < 2048 := i.isLt
  by_cases h : i.val < 1024
  · rw [prod_fst a g d ⟨i.val, h⟩ i j rfl]
    unfold val_main_v6 val_main_v5 val_main_v4 val_main_v2 val_main_v0
    pointwise
    exact Finset.sum_congr rfl fun k _ => by rw [dif_pos h, mul_comm]
  · rw [prod_snd a g d ⟨i.val - 1024, by omega⟩ i j (by show i.val = 1024 + (i.val - 1024); omega)]
    unfold val_main_v6 val_main_v5 val_main_v4 val_main_v2 val_main_v0
    pointwise
    exact Finset.sum_congr rfl fun k _ => by rw [dif_neg h, mul_comm]

end Cert.DwOutIdeal.Own

end
-- ==== Proof.Up.lean ====
/-
  The channel mixer's first product, over the 8 blocks of columns that its matrix comes in.
-/
module

public import proofs.«01_k».proof.Proof.Columns
public import proofs.«01_k».proof.Proof.Gen.UpIdeal.Value
public import proofs.«01_k».proof.Proof.Gen.UpRefIdeal.Run
public import proofs.«01_k».proof.Proof.Gen.UpRefIdeal.Read
public import Idealize.ShloMosaic.Lib.Pipeline.ValueKit.Tiles

@[expose] public section

set_option maxRecDepth 16384
set_option maxHeartbeats 1000000

noncomputable section

namespace Cert.UpIdeal.Own

open Idealize.ShloMosaic Idealize.ShloMosaic.Pipeline Idealize.ShloMosaic.TcCoe Cert.Attn Cert.UpIdeal Cert.UpIdeal.Gen Cert.UpIdeal.Value

/-- The product: the gates' half and the values' half. -/
def prod (a : Mat 4096 2048) (b : Mats 8 2048 1408) : Mats 2 4096 5632 :=
  fun y => ∑ k : Fin 2048, a (ix2 (y 1) k) * b (ix3 (blkOf (y 0) (y 2)) k (inBlk (y 2)))

theorem pay_apply (x0 : Vec Ideal S1024x2048 .bf16) (x1 : Vec Ideal S1x2048x1408 .bf16) (i : Fin 1024) (j : Fin 1408) :
    k0_pay1 (F := Ideal) x0 x1 (ix3 (0 : Fin 1) i j) = ∑ k : Fin 2048, x0 (ix2 i k) * x1 (ix3 (0 : Fin 1) k j) := by
  unfold k0_pay1
  pointwise

theorem out_apply (x0 : Vec Ideal S1024x2048 .bf16) (x1 : Vec Ideal S1x2048x1408 .bf16) (i : Fin 1024) (j : Fin 1408) :
    out0_2 (F := Ideal) x0 x1 (ix3 (0 : Fin 1) i j) = ∑ k : Fin 2048, x0 (ix2 i k) * x1 (ix3 (0 : Fin 1) k j) := by
  unfold out0_2
  rw [View.canon_unit_zero zero3]
  simp only [View.ld_unit_zero (S := S1024x2048) zero2, View.ld_unit_zero (S := S1x2048x1408) zero3]
  exact pay_apply x0 x1 i j

theorem at0 : ∀ t : Fin cfg0.N, win0_0.index t (0 : Fin 2) = t.val / 8 ∧ win0_0.index t (1 : Fin 2) = 0 := (by decide +kernel : ∀ t : Fin grid0.N, _)
theorem at1 : ∀ t : Fin cfg0.N, win0_1.index t (0 : Fin 3) = t.val % 8 ∧ win0_1.index t (1 : Fin 3) = 0 ∧ win0_1.index t (2 : Fin 3) = 0 := (by decide +kernel : ∀ t : Fin grid0.N, _)
theorem at2 : ∀ t : Fin cfg0.N, win0_2.index t (0 : Fin 3) = t.val % 8 / 4 ∧ win0_2.index t (1 : Fin 3) = t.val / 8 ∧ win0_2.index t (2 : Fin 3) = t.val % 4 := (by decide +kernel : ∀ t : Fin grid0.N, _)

/-- The half, the rows and the columns of a grid point. -/
def halfAt (t : Fin cfg0.N) : Fin 2 := ⟨t.val % 8 / 4, by omega⟩
def rowAt (t : Fin cfg0.N) (i : Fin 1024) : Fin 4096 := ⟨t.val / 8 * 1024 + i.val, by have : t.val < 32 := lt_of_lt_of_eq t.isLt N_0; omega⟩
def colAt (t : Fin cfg0.N) (j : Fin 1408) : Fin 5632 := ⟨t.val % 4 * 1408 + j.val, by omega⟩
def pieceAt (t : Fin cfg0.N) : Fin 8 := ⟨t.val % 8, by omega⟩

theorem blkOf_at (t : Fin cfg0.N) (j : Fin 1408) : blkOf (halfAt t) (colAt t j) = pieceAt t :=
  Fin.ext (by show 4 * (t.val % 8 / 4) + (t.val % 4 * 1408 + j.val) / 1408 = t.val % 8; omega)
theorem inBlk_at (t : Fin cfg0.N) (j : Fin 1408) : inBlk (colAt t j) = j :=
  Fin.ext (by show (t.val % 4 * 1408 + j.val) % 1408 = j.val; omega)

section
variable (m : (ℓ : Loc nD τ sig) → Buf (Elt Ideal) ℓ) (c : Dev nD) (t : Fin cfg0.N)

/-- The argument arrays. -/
abbrev aA : Mat 4096 2048 := m ((c : Thread nD τ).loc main_arg0)
abbrev aB : Mats 8 2048 1408 := m ((c : Thread nD τ).loc main_arg1)

theorem blk0 (i : Fin 1024) (k : Fin 2048) : (iblk m c 0 t : Vec Ideal S1024x2048 .bf16) (ix2 i k) = aA m c (ix2 (rowAt t i) k) := by
  obtain ⟨e0, e1⟩ := at0 t
  show Gen.V m c main_arg0 (((cfg0.win 0).blk t).view.emb (ix2 i k)) = _
  rw [V_main_arg0]
  refine congrArg (aA m c) (funext fun a => Fin.ext ?_)
  match a with
  | ⟨0, _⟩ => show win0_0.index t (0 : Fin 2) * 1024 + 1 * i.val = t.val / 8 * 1024 + i.val; rw [e0, one_mul]
  | ⟨1, _⟩ => show win0_0.index t (1 : Fin 2) * 2048 + 1 * k.val = k.val; rw [e1, one_mul, Nat.zero_mul, Nat.zero_add]

theorem blk1 (k : Fin 2048) (j : Fin 1408) : (iblk m c 1 t : Vec Ideal S1x2048x1408 .bf16) (ix3 (0 : Fin 1) k j) = aB m c (ix3 (pieceAt t) k j) := by
  obtain ⟨e0, e1, e2⟩ := at1 t
  show Gen.V m c main_arg1 (((cfg0.win 1).blk t).view.emb (ix3 (0 : Fin 1) k j)) = _
  rw [V_main_arg1]
  refine congrArg (aB m c) (funext fun a => Fin.ext ?_)
  match a with
  | ⟨0, _⟩ => show win0_1.index t (0 : Fin 3) * 1 + 1 * 0 = t.val % 8; rw [e0]; omega
  | ⟨1, _⟩ => show win0_1.index t (1 : Fin 3) * 2048 + 1 * k.val = k.val; rw [e1, one_mul, Nat.zero_mul, Nat.zero_add]
  | ⟨2, _⟩ => show win0_1.index t (2 : Fin 3) * 1408 + 1 * j.val = j.val; rw [e2, one_mul, Nat.zero_mul, Nat.zero_add]

theorem emb2 (i : Fin 1024) (j : Fin 1408) : ((cfg0.win 2).blk t).view.emb (ix3 (0 : Fin 1) i j) = ix3 (halfAt t) (rowAt t i) (colAt t j) := by
  obtain ⟨e0, e1, e2⟩ := at2 t
  refine funext fun a => Fin.ext ?_
  match a with
  | ⟨0, _⟩ => show win0_2.index t (0 : Fin 3) * 1 + 1 * 0 = t.val % 8 / 4; rw [e0]; omega
  | ⟨1, _⟩ => show win0_2.index t (1 : Fin 3) * 1024 + 1 * i.val = t.val / 8 * 1024 + i.val; rw [e1, one_mul]
  | ⟨2, _⟩ => show win0_2.index t (2 : Fin 3) * 1408 + 1 * j.val = t.val % 4 * 1408 + j.val; rw [e2, one_mul]

theorem block (f : S1x1024x1408.Idx → EReal) (G : Mats 2 4096 5632) (e : S1x1024x1408.Idx → (⟨3, ![2, 4096, 5632]⟩ : Shape).Idx)
    (he : ∀ i j, e (ix3 (0 : Fin 1) i j) = ix3 (halfAt t) (rowAt t i) (colAt t j))
    (hf : ∀ i j, f (ix3 (0 : Fin 1) i j) = G (ix3 (halfAt t) (rowAt t i) (colAt t j)))
    (y : S1x1024x1408.Idx) : f y = G (e y) := by
  have hy : y = ix3 (0 : Fin 1) (y 1) (y 2) := by
    funext a
    match a with
    | ⟨0, _⟩ => exact Subsingleton.elim (α := Fin 1) _ _
    | ⟨1, _⟩ => rfl
    | ⟨2, _⟩ => rfl
  rw [hy]
  exact (hf _ _).trans (congrArg G (he _ _)).symm

theorem flushed_eq : (dats m 0 c).flushed 2 t = ((cfg0.win 2).blk t).view.read (Elt Ideal) (prod (aA m c) (aB m c)) := by
  rw [flushed2 m c t]
  funext y
  refine block t _ (prod (aA m c) (aB m c)) (fun y => ((cfg0.win 2).blk t).view.emb y) (emb2 t) (fun i j => ?_) y
  refine (out_apply _ _ i j).trans (Finset.sum_congr rfl fun k _ => ?_)
  rw [blk0 m c t i k, blk1 m c t k j]
  show _ = aA m c (ix2 (rowAt t i) k) * aB m c (ix3 (blkOf (halfAt t) (colAt t j)) k (inBlk (colAt t j)))
  rw [blkOf_at, inBlk_at]

theorem final : (dats m 0 c).arrAt 2 cfg0.N = prod (aA m c) (aB m c) :=
  (dats m 0 c).arrAt_eq_of_cover 2 (prod (aA m c) (aB m c)) (fun t _ => flushed_eq m c t) fun y => by
    have h0 : (y 0).val < 2 := (y 0).isLt
    have h1 : (y 1).val < 4096 := (y 1).isLt
    have h2 : (y 2).val < 5632 := (y 2).isLt
    let t : Fin cfg0.N := ⟨(y 1).val / 1024 * 8 + (y 0).val * 4 + (y 2).val / 1408, by show _ < grid0.N; rw [N_0]; omega⟩
    refine ⟨t, flush0_2 t, ?_⟩
    have hm := ((cfg0.win 2).blk t).view.emb_mem_set (ix3 (0 : Fin 1) (⟨(y 1).val % 1024, by omega⟩ : Fin 1024) (⟨(y 2).val % 1408, by omega⟩ : Fin 1408))
    rw [emb2] at hm
    have hy : y = ix3 (halfAt t) (rowAt t ⟨(y 1).val % 1024, by omega⟩) (colAt t ⟨(y 2).val % 1408, by omega⟩) := by
      funext a
      match a with
      | ⟨0, _⟩ => exact Fin.ext (by show (y 0).val = ((y 1).val / 1024 * 8 + (y 0).val * 4 + (y 2).val / 1408) % 8 / 4; omega)
      | ⟨1, _⟩ => exact Fin.ext (by show (y 1).val = ((y 1).val / 1024 * 8 + (y 0).val * 4 + (y 2).val / 1408) / 8 * 1024 + (y 1).val % 1024; omega)
      | ⟨2, _⟩ => exact Fin.ext (by show (y 2).val = ((y 1).val / 1024 * 8 + (y 0).val * 4 + (y 2).val / 1408) % 4 * 1408 + (y 2).val % 1408; omega)
    rw [hy]
    exact hm

end

open Cert.UpRefIdeal.Read in
theorem ref_eq (a : Mat 4096 2048) (b : Mats 8 2048 1408) : val_main_v9 (F := Ideal) a b = prod a b := by
  funext y
  rw [eq_ix3 (n0 := 2) (n1 := 4096) (n2 := 5632) y]
  show val_main_v9 (F := Ideal) a b (ix3 (y 0) (y 1) (y 2)) = ∑ k : Fin 2048, a (ix2 (y 1) k) * b (ix3 (blkOf (y 0) (y 2)) k (inBlk (y 2)))
  generalize y 0 = p
  generalize y 1 = i
  generalize y 2 = j
  unfold val_main_v9 val_main_v8 val_main_v7 val_main_v6 val_main_v5 val_main_v4 val_main_v3 val_main_v2 val_main_v1 val_main_v0
  match p with
  | ⟨0, _⟩ =>
    pointwise
    refine Finset.sum_congr rfl fun k _ => congrArg (fun u => a (ix2 i k) * b (ix3 u k (inBlk j))) (Fin.ext ?_)
    show j.val / 1408 = 4 * 0 + j.val / 1408
    omega
  | ⟨1, _⟩ =>
    pointwise
    refine Finset.sum_congr rfl fun k _ => congrArg₂ (fun u v => a (ix2 i k) * b (ix3 u k v)) (Fin.ext ?_) (Fin.ext ?_)
    · show (5632 + j.val) / 1408 = 4 * 1 + j.val / 1408
      omega
    · show (5632 + j.val) % 1408 = j.val % 1408
      omega

end Cert.UpIdeal.Own

end
-- ==== Proof.Out.lean ====
/-
  The product behind the two mixers, and the residual.
-/
module

public import proofs.«01_k».proof.Proof.Columns
public import proofs.«01_k».proof.Proof.Gen.OutIdeal.Value
public import proofs.«01_k».proof.Proof.Gen.OutRefIdeal.Run
public import proofs.«01_k».proof.Proof.Gen.OutRefIdeal.Read
public import Idealize.ShloMosaic.Lib.Pipeline.ValueKit.Tiles

@[expose] public section

set_option maxRecDepth 16384
set_option maxHeartbeats 1000000

noncomputable section

namespace Cert.OutIdeal.Own

open Idealize.ShloMosaic Idealize.ShloMosaic.Pipeline Idealize.ShloMosaic.TcCoe Cert.Attn Cert.OutIdeal Cert.OutIdeal.Gen Cert.OutIdeal.Value

/-- The rows of the matrix that the first and the second mixer meet. -/
def fst (k : Fin 1024) : Fin 2048 := ⟨k.val, by omega⟩
def snd (k : Fin 1024) : Fin 2048 := ⟨1024 + k.val, by omega⟩

/-- The product and the residual. -/
def prod (a g : Mat 4096 1024) (w : Mat 2048 2048) (x : Mat 4096 2048) : Mat 4096 2048 := fun y =>
  ∑ k : Fin 1024, a (ix2 (y 0) k) * w (ix2 (fst k) (y 1)) + ∑ k : Fin 1024, g (ix2 (y 0) k) * w (ix2 (snd k) (y 1)) + x (ix2 (y 0) (y 1))

theorem pay_apply (x0 : Vec Ideal S2048x1024 .bf16) (x1 : Vec Ideal S1024x512 .bf16) (x2 : Vec Ideal S2048x1024 .bf16) (x3 : Vec Ideal S1024x512 .bf16)
    (x4 : Vec Ideal S2048x512 .f32) (i : Fin 2048) (j : Fin 512) : k0_pay1 (F := Ideal) x0 x1 x2 x3 x4 (ix2 i j)
      = ∑ k : Fin 1024, x0 (ix2 i k) * x1 (ix2 k j) + ∑ k : Fin 1024, x2 (ix2 i k) * x3 (ix2 k j) + x4 (ix2 i j) := by
  unfold k0_pay1
  pointwise

theorem ld_fst (x : Vec Ideal S2048x512 .bf16) (k : Fin 1024) (j : Fin 512) : View.ld (Val := Elt Ideal) x r0_1 (ix2 k j) = x (ix2 (fst k) j) :=
  View.ld_unit_apply_of (Val := Elt Ideal) x _ _ _ _ _ fun a => by fin_cases a <;> simp [ix2, fst]

theorem ld_snd (x : Vec Ideal S2048x512 .bf16) (k : Fin 1024) (j : Fin 512) : View.ld (Val := Elt Ideal) x r0_2 (ix2 k j) = x (ix2 (snd k) j) :=
  View.ld_unit_apply_of (Val := Elt Ideal) x _ _ _ _ _ fun a => by fin_cases a <;> simp [ix2, snd]

theorem out_apply (x0 x1 : Vec Ideal S2048x1024 .bf16) (x2 : Vec Ideal S2048x512 .bf16) (x3 : Vec Ideal S2048x512 .f32) (i : Fin 2048) (j : Fin 512) :
    out0_4 (F := Ideal) x0 x1 x2 x3 (ix2 i j)
      = ∑ k : Fin 1024, x0 (ix2 i k) * x2 (ix2 (fst k) j) + ∑ k : Fin 1024, x1 (ix2 i k) * x2 (ix2 (snd k) j) + x3 (ix2 i j) := by
  unfold out0_4
  rw [View.canon_unit_zero zero2]
  simp only [View.ld_unit_zero (S := S2048x1024) zero2, View.ld_unit_zero (S := S2048x512) zero2]
  refine (pay_apply _ _ _ _ _ i j).trans ?_
  exact congrArg₂ (· + ·) (congrArg₂ (· + ·) (Finset.sum_congr rfl fun k _ => congrArg (x0 (ix2 i k) * ·) (ld_fst x2 k j))
    (Finset.sum_congr rfl fun k _ => congrArg (x1 (ix2 i k) * ·) (ld_snd x2 k j))) rfl

theorem at0 : ∀ t : Fin cfg0.N, win0_0.index t (0 : Fin 2) = t.val / 4 ∧ win0_0.index t (1 : Fin 2) = 0 := (by decide +kernel : ∀ t : Fin grid0.N, _)
theorem at1 : ∀ t : Fin cfg0.N, win0_1.index t (0 : Fin 2) = t.val / 4 ∧ win0_1.index t (1 : Fin 2) = 0 := (by decide +kernel : ∀ t : Fin grid0.N, _)
theorem at2 : ∀ t : Fin cfg0.N, win0_2.index t (0 : Fin 2) = 0 ∧ win0_2.index t (1 : Fin 2) = t.val % 4 := (by decide +kernel : ∀ t : Fin grid0.N, _)
theorem at3 : ∀ t : Fin cfg0.N, win0_3.index t (0 : Fin 2) = t.val / 4 ∧ win0_3.index t (1 : Fin 2) = t.val % 4 := (by decide +kernel : ∀ t : Fin grid0.N, _)
theorem at4 : ∀ t : Fin cfg0.N, win0_4.index t (0 : Fin 2) = t.val / 4 ∧ win0_4.index t (1 : Fin 2) = t.val % 4 := (by decide +kernel : ∀ t : Fin grid0.N, _)

/-- The rows and the columns of a grid point. -/
def rowAt (t : Fin cfg0.N) (i : Fin 2048) : Fin 4096 := ⟨t.val / 4 * 2048 + i.val, by have : t.val < 8 := lt_of_lt_of_eq t.isLt N_0; omega⟩
def colAt (t : Fin cfg0.N) (j : Fin 512) : Fin 2048 := ⟨t.val % 4 * 512 + j.val, by omega⟩

section
variable (m : (ℓ : Loc nD τ sig) → Buf (Elt Ideal) ℓ) (c : Dev nD) (t : Fin cfg0.N)

/-- The argument arrays. -/
abbrev aA : Mat 4096 1024 := m ((c : Thread nD τ).loc main_arg0)
abbrev aG : Mat 4096 1024 := m ((c : Thread nD τ).loc main_arg1)
abbrev aW : Mat 2048 2048 := m ((c : Thread nD τ).loc main_arg2)
abbrev aX : Mat 4096 2048 := m ((c : Thread nD τ).loc main_arg3)

theorem blk0 (i : Fin 2048) (k : Fin 1024) : (iblk m c 0 t : Vec Ideal S2048x1024 .bf16) (ix2 i k) = aA m c (ix2 (rowAt t i) k) := by
  obtain ⟨e0, e1⟩ := at0 t
  show Gen.V m c main_arg0 (((cfg0.win 0).blk t).view.emb (ix2 i k)) = _
  rw [V_main_arg0]
  refine congrArg (aA m c) (funext fun a => Fin.ext ?_)
  match a with
  | ⟨0, _⟩ => show win0_0.index t (0 : Fin 2) * 2048 + 1 * i.val = t.val / 4 * 2048 + i.val; rw [e0, one_mul]
  | ⟨1, _⟩ => show win0_0.index t (1 : Fin 2) * 1024 + 1 * k.val = k.val; rw [e1, one_mul, Nat.zero_mul, Nat.zero_add]

theorem blk1 (i : Fin 2048) (k : Fin 1024) : (iblk m c 1 t : Vec Ideal S2048x1024 .bf16) (ix2 i k) = aG m c (ix2 (rowAt t i) k) := by
  obtain ⟨e0, e1⟩ := at1 t
  show Gen.V m c main_arg1 (((cfg0.win 1).blk t).view.emb (ix2 i k)) = _
  rw [V_main_arg1]
  refine congrArg (aG m c) (funext fun a => Fin.ext ?_)
  match a with
  | ⟨0, _⟩ => show win0_1.index t (0 : Fin 2) * 2048 + 1 * i.val = t.val / 4 * 2048 + i.val; rw [e0, one_mul]
  | ⟨1, _⟩ => show win0_1.index t (1 : Fin 2) * 1024 + 1 * k.val = k.val; rw [e1, one_mul, Nat.zero_mul, Nat.zero_add]

theorem blk2 (k : Fin 2048) (j : Fin 512) : (iblk m c 2 t : Vec Ideal S2048x512 .bf16) (ix2 k j) = aW m c (ix2 k (colAt t j)) := by
  obtain ⟨e0, e1⟩ := at2 t
  show Gen.V m c main_arg2 (((cfg0.win 2).blk t).view.emb (ix2 k j)) = _
  rw [V_main_arg2]
  refine congrArg (aW m c) (funext fun a => Fin.ext ?_)
  match a with
  | ⟨0, _⟩ => show win0_2.index t (0 : Fin 2) * 2048 + 1 * k.val = k.val; rw [e0, one_mul, Nat.zero_mul, Nat.zero_add]
  | ⟨1, _⟩ => show win0_2.index t (1 : Fin 2) * 512 + 1 * j.val = t.val % 4 * 512 + j.val; rw [e1, one_mul]

theorem blk3 (i : Fin 2048) (j : Fin 512) : (iblk m c 3 t : Vec Ideal S2048x512 .f32) (ix2 i j) = aX m c (ix2 (rowAt t i) (colAt t j)) := by
  obtain ⟨e0, e1⟩ := at3 t
  show Gen.V m c main_arg3 (((cfg0.win 3).blk t).view.emb (ix2 i j)) = _
  rw [V_main_arg3]
  refine congrArg (aX m c) (funext fun a => Fin.ext ?_)
  match a with
  | ⟨0, _⟩ => show win0_3.index t (0 : Fin 2) * 2048 + 1 * i.val = t.val / 4 * 2048 + i.val; rw [e0, one_mul]
  | ⟨1, _⟩ => show win0_3.index t (1 : Fin 2) * 512 + 1 * j.val = t.val % 4 * 512 + j.val; rw [e1, one_mul]

theorem emb4 (i : Fin 2048) (j : Fin 512) : ((cfg0.win 4).blk t).view.emb (ix2 i j) = ix2 (rowAt t i) (colAt t j) := by
  obtain ⟨e0, e1⟩ := at4 t
  refine funext fun a => Fin.ext ?_
  match a with
  | ⟨0, _⟩ => show win0_4.index t (0 : Fin 2) * 2048 + 1 * i.val = t.val / 4 * 2048 + i.val; rw [e0, one_mul]
  | ⟨1, _⟩ => show win0_4.index t (1 : Fin 2) * 512 + 1 * j.val = t.val % 4 * 512 + j.val; rw [e1, one_mul]

theorem block (f : S2048x512.Idx → EReal) (G : Mat 4096 2048) (e : S2048x512.Idx → (⟨2, ![4096, 2048]⟩ : Shape).Idx)
    (he : ∀ i j, e (ix2 i j) = ix2 (rowAt t i) (colAt t j)) (hf : ∀ i j, f (ix2 i j) = G (ix2 (rowAt t i) (colAt t j)))
    (y : S2048x512.Idx) : f y = G (e y) := by
  rw [eq_ix2 (n0 := 2048) (n1 := 512) y]
  exact (hf _ _).trans (congrArg G (he _ _)).symm

theorem flushed_eq : (dats m 0 c).flushed 4 t = ((cfg0.win 4).blk t).view.read (Elt Ideal) (prod (aA m c) (aG m c) (aW m c) (aX m c)) := by
  rw [flushed4 m c t]
  funext y
  refine block t _ (prod (aA m c) (aG m c) (aW m c) (aX m c)) (fun y => ((cfg0.win 4).blk t).view.emb y) (emb4 t) (fun i j => ?_) y
  refine (out_apply _ _ _ _ i j).trans ?_
  refine congrArg₂ (· + ·) (congrArg₂ (· + ·) (Finset.sum_congr rfl fun k _ => ?_) (Finset.sum_congr rfl fun k _ => ?_)) (blk3 m c t i j)
  · exact congrArg₂ (· * ·) (blk0 m c t i k) (blk2 m c t (fst k) j)
  · exact congrArg₂ (· * ·) (blk1 m c t i k) (blk2 m c t (snd k) j)

theorem final : (dats m 0 c).arrAt 4 cfg0.N = prod (aA m c) (aG m c) (aW m c) (aX m c) :=
  (dats m 0 c).arrAt_eq_of_cover 4 (prod (aA m c) (aG m c) (aW m c) (aX m c)) (fun t _ => flushed_eq m c t) fun y => by
    have h0 : (y 0).val < 4096 := (y 0).isLt
    have h1 : (y 1).val < 2048 := (y 1).isLt
    let t : Fin cfg0.N := ⟨(y 0).val / 2048 * 4 + (y 1).val / 512, by show _ < grid0.N; rw [N_0]; omega⟩
    refine ⟨t, flush0_4 t, ?_⟩
    have hm := ((cfg0.win 4).blk t).view.emb_mem_set (ix2 (⟨(y 0).val % 2048, by omega⟩ : Fin 2048) (⟨(y 1).val % 512, by omega⟩ : Fin 512))
    rw [emb4] at hm
    have hy : y = ix2 (rowAt t ⟨(y 0).val % 2048, by omega⟩) (colAt t ⟨(y 1).val % 512, by omega⟩) := by
      funext a
      match a with
      | ⟨0, _⟩ => exact Fin.ext (by show (y 0).val = ((y 0).val / 2048 * 4 + (y 1).val / 512) / 4 * 2048 + (y 0).val % 2048; omega)
      | ⟨1, _⟩ => exact Fin.ext (by show (y 1).val = ((y 0).val / 2048 * 4 + (y 1).val / 512) % 4 * 512 + (y 1).val % 512; omega)
    rw [hy]
    exact hm

end

open Cert.OutRefIdeal.Read in
theorem ref_eq (a g : Mat 4096 1024) (w : Mat 2048 2048) (x : Mat 4096 2048) : val_main_v4 (F := Ideal) a g w x = prod a g w x := by
  funext y
  rw [eq_ix2 (n0 := 4096) (n1 := 2048) y]
  show val_main_v4 (F := Ideal) a g w x (ix2 (y 0) (y 1)) = ∑ k : Fin 1024, a (ix2 (y 0) k) * w (ix2 (fst k) (y 1)) + ∑ k : Fin 1024, g (ix2 (y 0) k) * w (ix2 (snd k) (y 1)) + x (ix2 (y 0) (y 1))
  generalize y 0 = i
  generalize y 1 = j
  unfold val_main_v4 val_main_v3 val_main_v2 val_main_v1 val_main_v0
  pointwise
  exact add_comm _ _

end Cert.OutIdeal.Own

end
-- ==== Proof.InProj.lean ====
/-
  The input projections, all but the low-rank decays': the rows of the normalised input against the first 4608 rows of the transposed `w_in`.
-/
module

public import proofs.«01_k».proof.Proof.Problem
public import proofs.«01_k».proof.Proof.Gen.InProjIdeal.Value
public import proofs.«01_k».proof.Proof.Gen.InProjRefIdeal.Run
public import proofs.«01_k».proof.Proof.Gen.InProjRefIdeal.Read
public import Idealize.ShloMosaic.Lib.Pipeline.ValueKit.Tiles

@[expose] public section

set_option maxRecDepth 16384
set_option maxHeartbeats 1000000

noncomputable section

namespace Cert.InProjIdeal.Own

open Idealize.ShloMosaic Idealize.ShloMosaic.Pipeline Idealize.ShloMosaic.TcCoe Cert.Attn Cert.InProjIdeal Cert.InProjIdeal.Gen Cert.InProjIdeal.Value

/-- A used row of the padded matrix. -/
def row (j : Fin 4608) : Fin 4736 := ⟨j.val, by omega⟩

/-- The product. -/
def prod (a : Mat 4096 2048) (b : Mat 4736 2048) : Mat 4096 4608 := fun y => ∑ k : Fin 2048, a (ix2 (y 0) k) * b (ix2 (row (y 1)) k)

theorem hz2 : (![0, 0] : Fin 2 → Nat) = fun _ => 0 := funext fun a => by fin_cases a <;> rfl

theorem pay_apply (x0 : Vec Ideal S2048x2048 .bf16) (x1 : Vec Ideal S1152x2048 .bf16) (i : Fin 2048) (j : Fin 1152) :
    k0_pay1 (F := Ideal) x0 x1 (ix2 i j) = ∑ k : Fin 2048, x0 (ix2 i k) * x1 (ix2 j k) := by
  unfold k0_pay1
  pointwise

theorem out_apply (c : Dev nD) (p : grid0.Coords) (arg3 : Memref sig .tc .vmem S2048x2048 .bf16) (harg3 : arg3.IsWhole) (arg4 : Memref sig .tc .vmem S1152x2048 .bf16) (harg4 : arg4.IsWhole) (arg5 : Memref sig .tc .vmem S2048x1152 .f32) (harg5 : arg5.IsWhole)
    (x0 : Vec Ideal S2048x2048 .bf16) (x1 : Vec Ideal S1152x2048 .bf16) (i : Fin 2048) (j : Fin 1152) :
    out0_A_2 (F := Ideal) c p arg3 harg3 arg4 harg4 arg5 harg5 x0 x1 (ix2 i j) = ∑ k : Fin 2048, x0 (ix2 i k) * x1 (ix2 j k) := by
  unfold out0_A_2
  rw [View.read_writes_eq_canon _ _ _ (cover0_A_2 c p arg3 harg3 arg4 harg4 arg5 harg5 x0 x1)]
  unfold kernelRun0_A
  dsimp only
  rw [View.canon_unit_zero hz2]
  sl_unfold_words
  simp only [View.readAt_eq_ld, harg3.read_unread, harg4.read_unread, View.ld_unit_zero (S := S2048x2048) hz2, View.ld_unit_zero (S := S1152x2048) hz2]
  exact pay_apply x0 x1 i j

theorem at0 : ∀ t : Fin cfg0.N, win0_0.index t (0 : Fin 2) = t.val / 4 ∧ win0_0.index t (1 : Fin 2) = 0 := (by decide +kernel : ∀ t : Fin grid0.N, _)
theorem at1 : ∀ t : Fin cfg0.N, win0_1.index t (0 : Fin 2) = t.val % 4 ∧ win0_1.index t (1 : Fin 2) = 0 := (by decide +kernel : ∀ t : Fin grid0.N, _)
theorem at2 : ∀ t : Fin cfg0.N, win0_2.index t (0 : Fin 2) = t.val / 4 ∧ win0_2.index t (1 : Fin 2) = t.val % 4 := (by decide +kernel : ∀ t : Fin grid0.N, _)

/-- The rows and the columns of a grid point. -/
def rowAt (t : Fin cfg0.N) (i : Fin 2048) : Fin 4096 := ⟨t.val / 4 * 2048 + i.val, by have : t.val < 8 := lt_of_lt_of_eq t.isLt N_0; omega⟩
def colAt (t : Fin cfg0.N) (j : Fin 1152) : Fin 4608 := ⟨t.val % 4 * 1152 + j.val, by omega⟩

section
variable (m : (ℓ : Loc nD τ sig) → Buf (Elt Ideal) ℓ) (c : Dev nD) (t : Fin cfg0.N)

/-- The argument arrays. -/
abbrev aA : Mat 4096 2048 := m ((c : Thread nD τ).loc main_arg0)
abbrev aB : Mat 4736 2048 := m ((c : Thread nD τ).loc main_arg1)

theorem blk0 (i : Fin 2048) (k : Fin 2048) : (iblk m c 0 t : Vec Ideal S2048x2048 .bf16) (ix2 i k) = aA m c (ix2 (rowAt t i) k) := by
  obtain ⟨e0, e1⟩ := at0 t
  show Gen.V m c main_arg0 (((cfg0.win 0).blk t).view.emb (ix2 i k)) = _
  rw [V_main_arg0]
  refine congrArg (aA m c) (funext fun a => Fin.ext ?_)
  match a with
  | ⟨0, _⟩ => show win0_0.index t (0 : Fin 2) * 2048 + 1 * i.val = t.val / 4 * 2048 + i.val; rw [e0, one_mul]
  | ⟨1, _⟩ => show win0_0.index t (1 : Fin 2) * 2048 + 1 * k.val = k.val; rw [e1, one_mul, Nat.zero_mul, Nat.zero_add]

theorem blk1 (j : Fin 1152) (k : Fin 2048) : (X0_1 m c t : Vec Ideal S1152x2048 .bf16) (ix2 j k) = aB m c (ix2 (row (colAt t j)) k) := by
  obtain ⟨e0, e1⟩ := at1 t
  unfold X0_1 Pipeline.Window.fill
  rw [dif_pos (moved0_1 t _)]
  unfold iblk
  show Gen.V m c main_arg1 (((cfg0.win 1).blk t).view.emb _) = _
  rw [V_main_arg1]
  refine congrArg (aB m c) (funext fun a => Fin.ext ?_)
  match a with
  | ⟨0, _⟩ => show win0_1.index t (0 : Fin 2) * 1152 + 1 * j.val = t.val % 4 * 1152 + j.val; rw [e0, one_mul]
  | ⟨1, _⟩ => show win0_1.index t (1 : Fin 2) * 2048 + 1 * k.val = k.val; rw [e1, one_mul, Nat.zero_mul, Nat.zero_add]

theorem emb2 (i : Fin 2048) (j : Fin 1152) : ((cfg0.win 2).blk t).view.emb (ix2 i j) = ix2 (rowAt t i) (colAt t j) := by
  obtain ⟨e0, e1⟩ := at2 t
  refine funext fun a => Fin.ext ?_
  match a with
  | ⟨0, _⟩ => show win0_2.index t (0 : Fin 2) * 2048 + 1 * i.val = t.val / 4 * 2048 + i.val; rw [e0, one_mul]
  | ⟨1, _⟩ => show win0_2.index t (1 : Fin 2) * 1152 + 1 * j.val = t.val % 4 * 1152 + j.val; rw [e1, one_mul]

theorem block (f : S2048x1152.Idx → EReal) (G : Mat 4096 4608) (e : S2048x1152.Idx → (⟨2, ![4096, 4608]⟩ : Shape).Idx)
    (he : ∀ i j, e (ix2 i j) = ix2 (rowAt t i) (colAt t j)) (hf : ∀ i j, f (ix2 i j) = G (ix2 (rowAt t i) (colAt t j)))
    (y : S2048x1152.Idx) : f y = G (e y) := by
  rw [eq_ix2 (n0 := 2048) (n1 := 1152) y]
  exact (hf _ _).trans (congrArg G (he _ _)).symm

theorem flushed_eq : (dats m 0 c).flushed 2 t = ((cfg0.win 2).blk t).view.read (Elt Ideal) (prod (aA m c) (aB m c)) := by
  rw [flushed2_A m c t]
  funext y
  refine block t _ (prod (aA m c) (aB m c)) (fun y => ((cfg0.win 2).blk t).view.emb y) (emb2 t) (fun i j => ?_) y
  refine (out_apply _ _ _ _ _ _ _ _ _ _ i j).trans (Finset.sum_congr rfl fun k _ => ?_)
  rw [blk0 m c t i k, blk1 m c t j k]
  rfl

theorem final : (dats m 0 c).arrAt 2 cfg0.N = prod (aA m c) (aB m c) :=
  (dats m 0 c).arrAt_eq_of_cover 2 (prod (aA m c) (aB m c)) (fun t _ => flushed_eq m c t) fun (y : (⟨2, ![4096, 4608]⟩ : Shape).Idx) => by
    have h0 : (y 0).val < 4096 := (y 0).isLt
    have h1 : (y 1).val < 4608 := (y 1).isLt
    let t : Fin cfg0.N := ⟨(y 0).val / 2048 * 4 + (y 1).val / 1152, by show _ < grid0.N; rw [N_0]; omega⟩
    refine ⟨t, flush0_2 t, ?_⟩
    have hm := ((cfg0.win 2).blk t).view.emb_mem_set (ix2 (⟨(y 0).val % 2048, by omega⟩ : Fin 2048) (⟨(y 1).val % 1152, by omega⟩ : Fin 1152))
    rw [emb2] at hm
    have hy : y = ix2 (rowAt t ⟨(y 0).val % 2048, by omega⟩) (colAt t ⟨(y 1).val % 1152, by omega⟩) := by
      funext a
      match a with
      | ⟨0, _⟩ => exact Fin.ext (by show (y 0).val = ((y 0).val / 2048 * 4 + (y 1).val / 1152) / 4 * 2048 + (y 0).val % 2048; omega)
      | ⟨1, _⟩ => exact Fin.ext (by show (y 1).val = ((y 0).val / 2048 * 4 + (y 1).val / 1152) % 4 * 1152 + (y 1).val % 1152; omega)
    rw [hy]
    exact hm

end

open Cert.InProjRefIdeal.Read in
theorem ref_eq (a : Mat 4096 2048) (b : Mat 4736 2048) : val_main_v4 (F := Ideal) a b = prod a b := by
  funext y
  rw [eq_ix2 (n0 := 4096) (n1 := 4608) y]
  show val_main_v4 (F := Ideal) a b (ix2 (y 0) (y 1)) = ∑ k : Fin 2048, a (ix2 (y 0) k) * b (ix2 (row (y 1)) k)
  generalize y 0 = i
  generalize y 1 = j
  unfold val_main_v4 val_main_v3 val_main_v2 val_main_v1 val_main_v0
  pointwise
  rfl

end Cert.InProjIdeal.Own

end
-- ==== Proof.DInProj.lean ====
/-
  The cotangent of the normalised input: the rows of the projections' cotangents against the columns of the transposed `w_in`.
-/
module

public import proofs.«01_k».proof.Proof.Problem
public import proofs.«01_k».proof.Proof.Gen.DInProjIdeal.Value
public import proofs.«01_k».proof.Proof.Gen.DInProjRefIdeal.Run
public import proofs.«01_k».proof.Proof.Gen.DInProjRefIdeal.Read
public import Idealize.ShloMosaic.Lib.Pipeline.ValueKit.Tiles

@[expose] public section

set_option maxRecDepth 16384
set_option maxHeartbeats 1000000

noncomputable section

namespace Cert.DInProjIdeal.Own

open Idealize.ShloMosaic Idealize.ShloMosaic.Pipeline Idealize.ShloMosaic.TcCoe Cert.Attn Cert.DInProjIdeal Cert.DInProjIdeal.Gen Cert.DInProjIdeal.Value

/-- The product. -/
def prod (a : Mat 4096 4736) (b : Mat 4736 2048) : Mat 4096 2048 := fun y => ∑ k : Fin 4736, a (ix2 (y 0) k) * b (ix2 k (y 1))

theorem hz2 : (![0, 0] : Fin 2 → Nat) = fun _ => 0 := funext fun a => by fin_cases a <;> rfl

theorem pay_apply (x0 : Vec Ideal S1024x4736 .bf16) (x1 : Vec Ideal S4736x1024 .bf16) (i : Fin 1024) (j : Fin 1024) :
    k0_pay1 (F := Ideal) x0 x1 (ix2 i j) = ∑ k : Fin 4736, x0 (ix2 i k) * x1 (ix2 k j) := by
  unfold k0_pay1
  pointwise

theorem out_apply (x0 : Vec Ideal S1024x4736 .bf16) (x1 : Vec Ideal S4736x1024 .bf16) (i : Fin 1024) (j : Fin 1024) :
    out0_2 (F := Ideal) x0 x1 (ix2 i j) = ∑ k : Fin 4736, x0 (ix2 i k) * x1 (ix2 k j) := by
  unfold out0_2
  rw [View.canon_unit_zero hz2]
  simp only [View.ld_unit_zero (S := S1024x4736) hz2, View.ld_unit_zero (S := S4736x1024) hz2]
  exact pay_apply x0 x1 i j

theorem at0 : ∀ t : Fin cfg0.N, win0_0.index t (0 : Fin 2) = t.val / 2 ∧ win0_0.index t (1 : Fin 2) = 0 := (by decide +kernel : ∀ t : Fin grid0.N, _)
theorem at1 : ∀ t : Fin cfg0.N, win0_1.index t (0 : Fin 2) = 0 ∧ win0_1.index t (1 : Fin 2) = t.val % 2 := (by decide +kernel : ∀ t : Fin grid0.N, _)
theorem at2 : ∀ t : Fin cfg0.N, win0_2.index t (0 : Fin 2) = t.val / 2 ∧ win0_2.index t (1 : Fin 2) = t.val % 2 := (by decide +kernel : ∀ t : Fin grid0.N, _)

/-- The rows and the columns of a grid point. -/
def rowAt (t : Fin cfg0.N) (i : Fin 1024) : Fin 4096 := ⟨t.val / 2 * 1024 + i.val, by have : t.val < 8 := lt_of_lt_of_eq t.isLt N_0; omega⟩
def colAt (t : Fin cfg0.N) (j : Fin 1024) : Fin 2048 := ⟨t.val % 2 * 1024 + j.val, by omega⟩

section
variable (m : (ℓ : Loc nD τ sig) → Buf (Elt Ideal) ℓ) (c : Dev nD) (t : Fin cfg0.N)

/-- The argument arrays. -/
abbrev aA : Mat 4096 4736 := m ((c : Thread nD τ).loc main_arg0)
abbrev aB : Mat 4736 2048 := m ((c : Thread nD τ).loc main_arg1)

theorem blk0 (i : Fin 1024) (k : Fin 4736) : (iblk m c 0 t : Vec Ideal S1024x4736 .bf16) (ix2 i k) = aA m c (ix2 (rowAt t i) k) := by
  obtain ⟨e0, e1⟩ := at0 t
  show Gen.V m c main_arg0 (((cfg0.win 0).blk t).view.emb (ix2 i k)) = _
  rw [V_main_arg0]
  refine congrArg (aA m c) (funext fun a => Fin.ext ?_)
  match a with
  | ⟨0, _⟩ => show win0_0.index t (0 : Fin 2) * 1024 + 1 * i.val = t.val / 2 * 1024 + i.val; rw [e0, one_mul]
  | ⟨1, _⟩ => show win0_0.index t (1 : Fin 2) * 4736 + 1 * k.val = k.val; rw [e1, one_mul, Nat.zero_mul, Nat.zero_add]

theorem blk1 (k : Fin 4736) (j : Fin 1024) : (iblk m c 1 t : Vec Ideal S4736x1024 .bf16) (ix2 k j) = aB m c (ix2 k (colAt t j)) := by
  obtain ⟨e0, e1⟩ := at1 t
  show Gen.V m c main_arg1 (((cfg0.win 1).blk t).view.emb (ix2 k j)) = _
  rw [V_main_arg1]
  refine congrArg (aB m c) (funext fun a => Fin.ext ?_)
  match a with
  | ⟨0, _⟩ => show win0_1.index t (0 : Fin 2) * 4736 + 1 * k.val = k.val; rw [e0, one_mul, Nat.zero_mul, Nat.zero_add]
  | ⟨1, _⟩ => show win0_1.index t (1 : Fin 2) * 1024 + 1 * j.val = t.val % 2 * 1024 + j.val; rw [e1, one_mul]

theorem emb2 (i : Fin 1024) (j : Fin 1024) : ((cfg0.win 2).blk t).view.emb (ix2 i j) = ix2 (rowAt t i) (colAt t j) := by
  obtain ⟨e0, e1⟩ := at2 t
  refine funext fun a => Fin.ext ?_
  match a with
  | ⟨0, _⟩ => show win0_2.index t (0 : Fin 2) * 1024 + 1 * i.val = t.val / 2 * 1024 + i.val; rw [e0, one_mul]
  | ⟨1, _⟩ => show win0_2.index t (1 : Fin 2) * 1024 + 1 * j.val = t.val % 2 * 1024 + j.val; rw [e1, one_mul]

theorem block (f : S1024x1024.Idx → EReal) (G : Mat 4096 2048) (e : S1024x1024.Idx → (⟨2, ![4096, 2048]⟩ : Shape).Idx)
    (he : ∀ i j, e (ix2 i j) = ix2 (rowAt t i) (colAt t j)) (hf : ∀ i j, f (ix2 i j) = G (ix2 (rowAt t i) (colAt t j)))
    (y : S1024x1024.Idx) : f y = G (e y) := by
  rw [eq_ix2 (n0 := 1024) (n1 := 1024) y]
  exact (hf _ _).trans (congrArg G (he _ _)).symm

theorem flushed_eq : (dats m 0 c).flushed 2 t = ((cfg0.win 2).blk t).view.read (Elt Ideal) (prod (aA m c) (aB m c)) := by
  rw [flushed2 m c t]
  funext y
  refine block t _ (prod (aA m c) (aB m c)) (fun y => ((cfg0.win 2).blk t).view.emb y) (emb2 t) (fun i j => ?_) y
  refine (out_apply _ _ i j).trans (Finset.sum_congr rfl fun k _ => ?_)
  rw [blk0 m c t i k, blk1 m c t k j]
  rfl

theorem final : (dats m 0 c).arrAt 2 cfg0.N = prod (aA m c) (aB m c) :=
  (dats m 0 c).arrAt_eq_of_cover 2 (prod (aA m c) (aB m c)) (fun t _ => flushed_eq m c t) fun y => by
    have h0 : (y 0).val < 4096 := (y 0).isLt
    have h1 : (y 1).val < 2048 := (y 1).isLt
    let t : Fin cfg0.N := ⟨(y 0).val / 1024 * 2 + (y 1).val / 1024, by show _ < grid0.N; rw [N_0]; omega⟩
    refine ⟨t, flush0_2 t, ?_⟩
    have hm := ((cfg0.win 2).blk t).view.emb_mem_set (ix2 (⟨(y 0).val % 1024, by omega⟩ : Fin 1024) (⟨(y 1).val % 1024, by omega⟩ : Fin 1024))
    rw [emb2] at hm
    have hy : y = ix2 (rowAt t ⟨(y 0).val % 1024, by omega⟩) (colAt t ⟨(y 1).val % 1024, by omega⟩) := by
      funext a
      match a with
      | ⟨0, _⟩ => exact Fin.ext (by show (y 0).val = ((y 0).val / 1024 * 2 + (y 1).val / 1024) / 2 * 1024 + (y 0).val % 1024; omega)
      | ⟨1, _⟩ => exact Fin.ext (by show (y 1).val = ((y 0).val / 1024 * 2 + (y 1).val / 1024) % 2 * 1024 + (y 1).val % 1024; omega)
    rw [hy]
    exact hm

end

open Cert.DInProjRefIdeal.Read in
theorem ref_eq (a : Mat 4096 4736) (b : Mat 4736 2048) : val_main_v5 (F := Ideal) a b = prod a b := by
  funext y
  rw [eq_ix2 (n0 := 4096) (n1 := 2048) y]
  show val_main_v5 (F := Ideal) a b (ix2 (y 0) (y 1)) = ∑ k : Fin 4736, a (ix2 (y 0) k) * b (ix2 k (y 1))
  generalize y 0 = i
  generalize y 1 = j
  unfold val_main_v5 val_main_v4 val_main_v2 val_main_v0
  pointwise

end Cert.DInProjIdeal.Own

end
-- ==== Proof.Down.lean ====
/-
  The output of the channel mixer, the loss, and the cotangent of the output.
-/
module

public import proofs.«01_k».proof.Proof.Columns
public import proofs.«01_k».proof.Proof.Gen.DownIdeal.Value
public import proofs.«01_k».proof.Proof.Gen.DownRefIdeal.Run
public import proofs.«01_k».proof.Proof.Gen.DownRefIdeal.Read
public import Idealize.ShloMosaic.Lib.Pipeline.ValueKit.Tiles

@[expose] public section

set_option maxRecDepth 16384
set_option maxHeartbeats 1000000

noncomputable section

namespace Cert.DownIdeal.Own

open Idealize.ShloMosaic Idealize.ShloMosaic.Pipeline Idealize.ShloMosaic.TcCoe Cert.Attn Cert.DownIdeal Cert.DownIdeal.Gen Cert.DownIdeal.Value

/-! ## The mathematics -/

/-- The error of the output. -/
def errOf (a : Mat 4096 5632) (b : Mat 5632 2048) (x t : Mat 4096 2048) : Mat 4096 2048 :=
  fun y => (∑ k : Fin 5632, a (ix2 (y 0) k) * b (ix2 k (y 1))) + x (ix2 (y 0) (y 1)) - t (ix2 (y 0) (y 1))

/-- The cotangent of the output. -/
def dyOf (a : Mat 4096 5632) (b : Mat 5632 2048) (x t : Mat 4096 2048) : Mat 4096 2048 :=
  fun y => errOf a b x t (ix2 (y 0) (y 1)) * ((1 / 2048 : ℝ) : EReal)

/-- The part of the loss of one entry. -/
def lossAt (a : Mat 4096 5632) (b : Mat 5632 2048) (x t : Mat 4096 2048) (i : Fin 4096) (j : Fin 2048) : EReal :=
  ((1 / 2 : ℝ) : EReal) * (((1 / 2048 : ℝ) : EReal) * (errOf a b x t (ix2 i j) * errOf a b x t (ix2 i j)))

/-- The loss, on every lane. -/
def lossOf (a : Mat 4096 5632) (b : Mat 5632 2048) (x t : Mat 4096 2048) : Mat 1 128 :=
  fun _ => ∑ i : Fin 4096, ∑ j : Fin 2048, lossAt a b x t i j

theorem lit_half : Ideal.ofBits .f32 0x3F000000#32 = ((1 / 2 : ℝ) : EReal) := by
  simp [Ideal.ofBits, Ideal.ieee]
  rw [← EReal.coe_mul]
  norm_num
theorem lit_frac : Ideal.ofBits .f32 0x3A000000#32 = ((1 / 2048 : ℝ) : EReal) := by
  simp [Ideal.ofBits, Ideal.ieee]
  rw [← EReal.coe_mul]
  norm_num
theorem lit_two : Ideal.ofBits .f32 0x40000000#32 = ((2 : ℝ) : EReal) := by
  simp [Ideal.ofBits, Ideal.ieee]
  rw [← EReal.coe_mul]
  norm_num
theorem lit_one : Ideal.ofBits .f32 0x3F800000#32 = ((1 : ℝ) : EReal) := by
  simp [Ideal.ofBits, Ideal.ieee]
  rw [← EReal.coe_mul]
  norm_num
theorem lit_width : Ideal.ofBits .f32 0x45000000#32 = ((2048 : ℝ) : EReal) := by
  simp [Ideal.ofBits, Ideal.ieee]
  rw [← EReal.coe_mul]
  norm_num
theorem div_width (x : EReal) : Ideal.div x ((2048 : ℝ) : EReal) = ((1 / 2048 : ℝ) : EReal) * x := by
  have h : ((2048 : ℝ) : EReal) ≠ 0 := by exact_mod_cast (by norm_num : (2048 : ℝ) ≠ 0)
  rw [Ideal.div, if_neg h, ← EReal.coe_inv, mul_comm]
  norm_num

theorem lit_zero : Ideal.ofBits .f32 0x00000000#32 = 0 := by
  simp [Ideal.ofBits, Ideal.ieee]

theorem sq_nonneg' (x : EReal) : 0 ≤ x * x := by
  rcases le_total 0 x with h | h
  · exact EReal.mul_nonneg_iff.mpr (Or.inl ⟨h, h⟩)
  · exact EReal.mul_nonneg_iff.mpr (Or.inr ⟨h, h⟩)

theorem mul_sum_nonneg {ι : Type*} (s : Finset ι) (f : ι → EReal) (hf : ∀ i, 0 ≤ f i) (r : EReal) :
    r * ∑ i ∈ s, f i = ∑ i ∈ s, r * f i := by
  classical
  induction s using Finset.induction_on with
  | empty => simp
  | insert i s hi ih =>
    rw [Finset.sum_insert hi, Finset.sum_insert hi, EReal.left_distrib_of_nonneg (hf i) (Finset.sum_nonneg fun k _ => hf k), ih]

theorem sum_cut {p q N : ℕ} (h : N = p * q) (f : Fin N → EReal) :
    ∑ x : Fin N, f x = ∑ b : Fin p, ∑ k : Fin q, f ⟨b.val * q + k.val, by subst h; exact (finProdFinEquiv (b, k)).isLt.trans_eq' (by simp [finProdFinEquiv]; ring)⟩ := by
  subst h
  rw [← Fintype.sum_prod_type' (f := fun (b : Fin p) (k : Fin q) => f ⟨b.val * q + k.val, _⟩)]
  refine (Fintype.sum_equiv (finProdFinEquiv (m := p) (n := q)) _ _ fun x => ?_).symm
  refine congrArg f (Fin.ext ?_)
  show x.1.val * q + x.2.val = x.2.val + q * x.1.val
  ring

/-! ## What the body computes -/

theorem pay1_apply (x0 : Vec Ideal S1024x5632 .bf16) (x1 : Vec Ideal S5632x512 .bf16) (x2 x3 : Vec Ideal S1024x512 .f32) (i : Fin 1024) (j : Fin 512) :
    k0_pay1 (F := Ideal) x0 x1 x2 x3 (ix2 i j) = (∑ k : Fin 5632, x0 (ix2 i k) * x1 (ix2 k j)) + x2 (ix2 i j) - x3 (ix2 i j) := by
  unfold k0_pay1
  pointwise

theorem pay2_apply (x0 : Vec Ideal S1024x5632 .bf16) (x1 : Vec Ideal S5632x512 .bf16) (x2 x3 : Vec Ideal S1024x512 .f32) (i : Fin 1024) (j : Fin 512) :
    k0_pay2 (F := Ideal) x0 x1 x2 x3 (ix2 i j) = k0_pay1 (F := Ideal) x0 x1 x2 x3 (ix2 i j) * ((1 / 2048 : ℝ) : EReal) := by
  unfold k0_pay2
  generalize k0_pay1 (F := Ideal) x0 x1 x2 x3 = e
  pointwise
  exact congrArg (e (ix2 i j) * ·) lit_frac

theorem pay3_apply (x0 : Vec Ideal S1024x5632 .bf16) (x1 : Vec Ideal S5632x512 .bf16) (x2 x3 : Vec Ideal S1024x512 .f32) (i : Fin 1024) (j : Fin 512) :
    k0_pay3 (F := Ideal) x0 x1 x2 x3 (ix2 i j) = k0_pay1 (F := Ideal) x0 x1 x2 x3 (ix2 i j) * ((1 / 2048 : ℝ) : EReal) := by
  unfold k0_pay3
  exact pay2_apply x0 x1 x2 x3 i j

theorem pay4_apply (l : Fin 128) : k0_pay4 (F := Ideal) (ix2 (0 : Fin 1) l) = 0 := by
  unfold k0_pay4
  exact lit_zero

theorem pay5_apply (x0 : Vec Ideal S1024x5632 .bf16) (x1 : Vec Ideal S5632x512 .bf16) (x2 x3 : Vec Ideal S1024x512 .f32) (o : Vec Ideal S1x128 .f32) (l : Fin 128) :
    k0_pay5 (F := Ideal) x0 x1 x2 x3 o (ix2 (0 : Fin 1) l) = o (ix2 (0 : Fin 1) l)
      + ((1 / 2 : ℝ) : EReal) * ∑ i : Fin 1024, (∑ j : Fin 512, k0_pay1 (F := Ideal) x0 x1 x2 x3 (ix2 i j) * k0_pay1 (F := Ideal) x0 x1 x2 x3 (ix2 i j)) * ((1 / 2048 : ℝ) : EReal) := by
  unfold k0_pay5
  generalize k0_pay1 (F := Ideal) x0 x1 x2 x3 = e
  rw [← lit_half, ← lit_frac]
  pointwise

theorem storeA_4 (c : Dev nD) (p : grid0.Coords) (arg2 : Memref sig .tc .vmem S1024x5632 .bf16) (harg2 : arg2.IsWhole) (arg3 : Memref sig .tc .vmem S5632x512 .bf16) (harg3 : arg3.IsWhole) (arg4 : Memref sig .tc .vmem S1024x512 .f32) (harg4 : arg4.IsWhole) (arg5 : Memref sig .tc .vmem S1024x512 .f32) (harg5 : arg5.IsWhole) (arg6 : Memref sig .tc .vmem S1x128 .f32) (harg6 : arg6.IsWhole) (arg7 : Memref sig .tc .vmem S1024x512 .f32) (harg7 : arg7.IsWhole) (arg8 : Memref sig .tc .vmem S1024x512 .bf16) (harg8 : arg8.IsWhole) (hc : cond0_0 p) (x0 : Vec Ideal S1024x5632 .bf16) (x1 : Vec Ideal S5632x512 .bf16) (x2 x3 : Vec Ideal S1024x512 .f32) :
    out0_A_4 (F := Ideal) c p arg2 harg2 arg3 harg3 arg4 harg4 arg5 harg5 arg6 harg6 arg7 harg7 arg8 harg8 hc x0 x1 x2 x3 = k0_pay5 (F := Ideal) x0 x1 x2 x3 (k0_pay4 (F := Ideal)) := by
  unfold out0_A_4
  rw [View.read_writes_eq_canon _ _ _ (cover0_A_4 c p arg2 harg2 arg3 harg3 arg4 harg4 arg5 harg5 arg6 harg6 arg7 harg7 arg8 harg8 hc x0 x1 x2 x3)]
  unfold kernelRun0_A
  dsimp only
  rw [View.canon_cons_unit_zero (S := S1x128) zero2]
  sl_unfold_words
  simp only [View.readCov_unit_zero (S := S1x128) _ zero2, View.readAt_eq_ld, harg2.read_unread, harg3.read_unread, harg4.read_unread, harg5.read_unread, harg6.read_unread, harg7.read_unread, harg8.read_unread, View.ld_unit_zero (S := S1024x5632) zero2, View.ld_unit_zero (S := S5632x512) zero2, View.ld_unit_zero (S := S1024x512) zero2, View.ld_unit_zero (S := S1x128) zero2]

theorem storeA_5 (c : Dev nD) (p : grid0.Coords) (arg2 : Memref sig .tc .vmem S1024x5632 .bf16) (harg2 : arg2.IsWhole) (arg3 : Memref sig .tc .vmem S5632x512 .bf16) (harg3 : arg3.IsWhole) (arg4 : Memref sig .tc .vmem S1024x512 .f32) (harg4 : arg4.IsWhole) (arg5 : Memref sig .tc .vmem S1024x512 .f32) (harg5 : arg5.IsWhole) (arg6 : Memref sig .tc .vmem S1x128 .f32) (harg6 : arg6.IsWhole) (arg7 : Memref sig .tc .vmem S1024x512 .f32) (harg7 : arg7.IsWhole) (arg8 : Memref sig .tc .vmem S1024x512 .bf16) (harg8 : arg8.IsWhole) (hc : cond0_0 p) (x0 : Vec Ideal S1024x5632 .bf16) (x1 : Vec Ideal S5632x512 .bf16) (x2 x3 : Vec Ideal S1024x512 .f32) :
    out0_A_5 (F := Ideal) c p arg2 harg2 arg3 harg3 arg4 harg4 arg5 harg5 arg6 harg6 arg7 harg7 arg8 harg8 hc x0 x1 x2 x3 = k0_pay2 (F := Ideal) x0 x1 x2 x3 := by
  unfold out0_A_5
  rw [View.read_writes_eq_canon _ _ _ (cover0_A_5 c p arg2 harg2 arg3 harg3 arg4 harg4 arg5 harg5 arg6 harg6 arg7 harg7 arg8 harg8 hc x0 x1 x2 x3)]
  unfold kernelRun0_A
  dsimp only
  rw [View.canon_unit_zero (S := S1024x512) zero2]
  sl_unfold_words
  simp only [View.readAt_eq_ld, harg2.read_unread, harg3.read_unread, harg4.read_unread, harg5.read_unread, harg6.read_unread, harg7.read_unread, harg8.read_unread, View.ld_unit_zero (S := S1024x5632) zero2, View.ld_unit_zero (S := S5632x512) zero2, View.ld_unit_zero (S := S1024x512) zero2, View.ld_unit_zero (S := S1x128) zero2]

theorem storeA_6 (c : Dev nD) (p : grid0.Coords) (arg2 : Memref sig .tc .vmem S1024x5632 .bf16) (harg2 : arg2.IsWhole) (arg3 : Memref sig .tc .vmem S5632x512 .bf16) (harg3 : arg3.IsWhole) (arg4 : Memref sig .tc .vmem S1024x512 .f32) (harg4 : arg4.IsWhole) (arg5 : Memref sig .tc .vmem S1024x512 .f32) (harg5 : arg5.IsWhole) (arg6 : Memref sig .tc .vmem S1x128 .f32) (harg6 : arg6.IsWhole) (arg7 : Memref sig .tc .vmem S1024x512 .f32) (harg7 : arg7.IsWhole) (arg8 : Memref sig .tc .vmem S1024x512 .bf16) (harg8 : arg8.IsWhole) (hc : cond0_0 p) (x0 : Vec Ideal S1024x5632 .bf16) (x1 : Vec Ideal S5632x512 .bf16) (x2 x3 : Vec Ideal S1024x512 .f32) :
    out0_A_6 (F := Ideal) c p arg2 harg2 arg3 harg3 arg4 harg4 arg5 harg5 arg6 harg6 arg7 harg7 arg8 harg8 hc x0 x1 x2 x3 = k0_pay3 (F := Ideal) x0 x1 x2 x3 := by
  unfold out0_A_6
  rw [View.read_writes_eq_canon _ _ _ (cover0_A_6 c p arg2 harg2 arg3 harg3 arg4 harg4 arg5 harg5 arg6 harg6 arg7 harg7 arg8 harg8 hc x0 x1 x2 x3)]
  unfold kernelRun0_A
  dsimp only
  rw [View.canon_unit_zero (S := S1024x512) zero2]
  sl_unfold_words
  simp only [View.readAt_eq_ld, harg2.read_unread, harg3.read_unread, harg4.read_unread, harg5.read_unread, harg6.read_unread, harg7.read_unread, harg8.read_unread, View.ld_unit_zero (S := S1024x5632) zero2, View.ld_unit_zero (S := S5632x512) zero2, View.ld_unit_zero (S := S1024x512) zero2, View.ld_unit_zero (S := S1x128) zero2]

theorem storeB_4 (c : Dev nD) (p : grid0.Coords) (arg2 : Memref sig .tc .vmem S1024x5632 .bf16) (harg2 : arg2.IsWhole) (arg3 : Memref sig .tc .vmem S5632x512 .bf16) (harg3 : arg3.IsWhole) (arg4 : Memref sig .tc .vmem S1024x512 .f32) (harg4 : arg4.IsWhole) (arg5 : Memref sig .tc .vmem S1024x512 .f32) (harg5 : arg5.IsWhole) (arg6 : Memref sig .tc .vmem S1x128 .f32) (harg6 : arg6.IsWhole) (arg7 : Memref sig .tc .vmem S1024x512 .f32) (harg7 : arg7.IsWhole) (arg8 : Memref sig .tc .vmem S1024x512 .bf16) (harg8 : arg8.IsWhole) (hc : ¬cond0_0 p) (x0 : Vec Ideal S1024x5632 .bf16) (x1 : Vec Ideal S5632x512 .bf16) (x2 x3 : Vec Ideal S1024x512 .f32) (xo : Vec Ideal S1x128 .f32) :
    out0_B_4 (F := Ideal) c p arg2 harg2 arg3 harg3 arg4 harg4 arg5 harg5 arg6 harg6 arg7 harg7 arg8 harg8 hc x0 x1 x2 x3 xo = k0_pay5 (F := Ideal) x0 x1 x2 x3 xo := by
  unfold out0_B_4
  rw [View.read_writes_eq_canon _ _ _ (cover0_B_4 c p arg2 harg2 arg3 harg3 arg4 harg4 arg5 harg5 arg6 harg6 arg7 harg7 arg8 harg8 hc x0 x1 x2 x3 xo)]
  unfold kernelRun0_B
  dsimp only
  rw [View.canon_unit_zero (S := S1x128) zero2]
  sl_unfold_words
  simp only [View.readAt_eq_ld, harg2.read_unread, harg3.read_unread, harg4.read_unread, harg5.read_unread, harg6.read_unread, harg7.read_unread, harg8.read_unread, View.ld_unit_zero (S := S1024x5632) zero2, View.ld_unit_zero (S := S5632x512) zero2, View.ld_unit_zero (S := S1024x512) zero2, View.ld_unit_zero (S := S1x128) zero2]

theorem storeB_5 (c : Dev nD) (p : grid0.Coords) (arg2 : Memref sig .tc .vmem S1024x5632 .bf16) (harg2 : arg2.IsWhole) (arg3 : Memref sig .tc .vmem S5632x512 .bf16) (harg3 : arg3.IsWhole) (arg4 : Memref sig .tc .vmem S1024x512 .f32) (harg4 : arg4.IsWhole) (arg5 : Memref sig .tc .vmem S1024x512 .f32) (harg5 : arg5.IsWhole) (arg6 : Memref sig .tc .vmem S1x128 .f32) (harg6 : arg6.IsWhole) (arg7 : Memref sig .tc .vmem S1024x512 .f32) (harg7 : arg7.IsWhole) (arg8 : Memref sig .tc .vmem S1024x512 .bf16) (harg8 : arg8.IsWhole) (hc : ¬cond0_0 p) (x0 : Vec Ideal S1024x5632 .bf16) (x1 : Vec Ideal S5632x512 .bf16) (x2 x3 : Vec Ideal S1024x512 .f32) (xo : Vec Ideal S1x128 .f32) :
    out0_B_5 (F := Ideal) c p arg2 harg2 arg3 harg3 arg4 harg4 arg5 harg5 arg6 harg6 arg7 harg7 arg8 harg8 hc x0 x1 x2 x3 xo = k0_pay2 (F := Ideal) x0 x1 x2 x3 := by
  unfold out0_B_5
  rw [View.read_writes_eq_canon _ _ _ (cover0_B_5 c p arg2 harg2 arg3 harg3 arg4 harg4 arg5 harg5 arg6 harg6 arg7 harg7 arg8 harg8 hc x0 x1 x2 x3 xo)]
  unfold kernelRun0_B
  dsimp only
  rw [View.canon_unit_zero (S := S1024x512) zero2]
  sl_unfold_words
  simp only [View.readAt_eq_ld, harg2.read_unread, harg3.read_unread, harg4.read_unread, harg5.read_unread, harg6.read_unread, harg7.read_unread, harg8.read_unread, View.ld_unit_zero (S := S1024x5632) zero2, View.ld_unit_zero (S := S5632x512) zero2, View.ld_unit_zero (S := S1024x512) zero2, View.ld_unit_zero (S := S1x128) zero2]

theorem storeB_6 (c : Dev nD) (p : grid0.Coords) (arg2 : Memref sig .tc .vmem S1024x5632 .bf16) (harg2 : arg2.IsWhole) (arg3 : Memref sig .tc .vmem S5632x512 .bf16) (harg3 : arg3.IsWhole) (arg4 : Memref sig .tc .vmem S1024x512 .f32) (harg4 : arg4.IsWhole) (arg5 : Memref sig .tc .vmem S1024x512 .f32) (harg5 : arg5.IsWhole) (arg6 : Memref sig .tc .vmem S1x128 .f32) (harg6 : arg6.IsWhole) (arg7 : Memref sig .tc .vmem S1024x512 .f32) (harg7 : arg7.IsWhole) (arg8 : Memref sig .tc .vmem S1024x512 .bf16) (harg8 : arg8.IsWhole) (hc : ¬cond0_0 p) (x0 : Vec Ideal S1024x5632 .bf16) (x1 : Vec Ideal S5632x512 .bf16) (x2 x3 : Vec Ideal S1024x512 .f32) (xo : Vec Ideal S1x128 .f32) :
    out0_B_6 (F := Ideal) c p arg2 harg2 arg3 harg3 arg4 harg4 arg5 harg5 arg6 harg6 arg7 harg7 arg8 harg8 hc x0 x1 x2 x3 xo = k0_pay3 (F := Ideal) x0 x1 x2 x3 := by
  unfold out0_B_6
  rw [View.read_writes_eq_canon _ _ _ (cover0_B_6 c p arg2 harg2 arg3 harg3 arg4 harg4 arg5 harg5 arg6 harg6 arg7 harg7 arg8 harg8 hc x0 x1 x2 x3 xo)]
  unfold kernelRun0_B
  dsimp only
  rw [View.canon_unit_zero (S := S1024x512) zero2]
  sl_unfold_words
  simp only [View.readAt_eq_ld, harg2.read_unread, harg3.read_unread, harg4.read_unread, harg5.read_unread, harg6.read_unread, harg7.read_unread, harg8.read_unread, View.ld_unit_zero (S := S1024x5632) zero2, View.ld_unit_zero (S := S5632x512) zero2, View.ld_unit_zero (S := S1024x512) zero2, View.ld_unit_zero (S := S1x128) zero2]

theorem at0 : ∀ t : Fin cfg0.N, win0_0.index t (0 : Fin 2) = t.val / 4 ∧ win0_0.index t (1 : Fin 2) = 0 := (by decide +kernel : ∀ t : Fin grid0.N, _)
theorem at1 : ∀ t : Fin cfg0.N, win0_1.index t (0 : Fin 2) = 0 ∧ win0_1.index t (1 : Fin 2) = t.val % 4 := (by decide +kernel : ∀ t : Fin grid0.N, _)
theorem at2 : ∀ t : Fin cfg0.N, win0_2.index t (0 : Fin 2) = t.val / 4 ∧ win0_2.index t (1 : Fin 2) = t.val % 4 := (by decide +kernel : ∀ t : Fin grid0.N, _)
theorem at3 : ∀ t : Fin cfg0.N, win0_3.index t (0 : Fin 2) = t.val / 4 ∧ win0_3.index t (1 : Fin 2) = t.val % 4 := (by decide +kernel : ∀ t : Fin grid0.N, _)
theorem at4 : ∀ t : Fin cfg0.N, win0_4.index t (0 : Fin 2) = 0 ∧ win0_4.index t (1 : Fin 2) = 0 := (by decide +kernel : ∀ t : Fin grid0.N, _)
theorem at5 : ∀ t : Fin cfg0.N, win0_5.index t (0 : Fin 2) = t.val / 4 ∧ win0_5.index t (1 : Fin 2) = t.val % 4 := (by decide +kernel : ∀ t : Fin grid0.N, _)
theorem at6 : ∀ t : Fin cfg0.N, win0_6.index t (0 : Fin 2) = t.val / 4 ∧ win0_6.index t (1 : Fin 2) = t.val % 4 := (by decide +kernel : ∀ t : Fin grid0.N, _)

/-- The rows and the columns of a grid point. -/
def rowAt (t : Fin cfg0.N) (i : Fin 1024) : Fin 4096 := ⟨t.val / 4 * 1024 + i.val, by have : t.val < 16 := lt_of_lt_of_eq t.isLt N_0; omega⟩
def colAt (t : Fin cfg0.N) (j : Fin 512) : Fin 2048 := ⟨t.val % 4 * 512 + j.val, by omega⟩

section
variable (m : (ℓ : Loc nD τ sig) → Buf (Elt Ideal) ℓ) (c : Dev nD) (t : Fin cfg0.N)

/-- The argument arrays. -/
abbrev aA : Mat 4096 5632 := m ((c : Thread nD τ).loc main_arg0)
abbrev aB : Mat 5632 2048 := m ((c : Thread nD τ).loc main_arg1)
abbrev aX : Mat 4096 2048 := m ((c : Thread nD τ).loc main_arg2)
abbrev aT : Mat 4096 2048 := m ((c : Thread nD τ).loc main_arg3)

theorem blk0 (i : Fin 1024) (k : Fin 5632) : (iblk m c 0 t : Vec Ideal S1024x5632 .bf16) (ix2 i k) = aA m c (ix2 (rowAt t i) k) := by
  obtain ⟨e0, e1⟩ := at0 t
  show Gen.V m c main_arg0 (((cfg0.win 0).blk t).view.emb (ix2 i k)) = _
  rw [V_main_arg0]
  refine congrArg (aA m c) (funext fun a => Fin.ext ?_)
  match a with
  | ⟨0, _⟩ => show win0_0.index t (0 : Fin 2) * 1024 + 1 * i.val = t.val / 4 * 1024 + i.val; rw [e0, one_mul]
  | ⟨1, _⟩ => show win0_0.index t (1 : Fin 2) * 5632 + 1 * k.val = k.val; rw [e1, one_mul, Nat.zero_mul, Nat.zero_add]

theorem blk1 (k : Fin 5632) (j : Fin 512) : (iblk m c 1 t : Vec Ideal S5632x512 .bf16) (ix2 k j) = aB m c (ix2 k (colAt t j)) := by
  obtain ⟨e0, e1⟩ := at1 t
  show Gen.V m c main_arg1 (((cfg0.win 1).blk t).view.emb (ix2 k j)) = _
  rw [V_main_arg1]
  refine congrArg (aB m c) (funext fun a => Fin.ext ?_)
  match a with
  | ⟨0, _⟩ => show win0_1.index t (0 : Fin 2) * 5632 + 1 * k.val = k.val; rw [e0, one_mul, Nat.zero_mul, Nat.zero_add]
  | ⟨1, _⟩ => show win0_1.index t (1 : Fin 2) * 512 + 1 * j.val = t.val % 4 * 512 + j.val; rw [e1, one_mul]

theorem blk2 (i : Fin 1024) (j : Fin 512) : (iblk m c 2 t : Vec Ideal S1024x512 .f32) (ix2 i j) = aX m c (ix2 (rowAt t i) (colAt t j)) := by
  obtain ⟨e0, e1⟩ := at2 t
  show Gen.V m c main_arg2 (((cfg0.win 2).blk t).view.emb (ix2 i j)) = _
  rw [V_main_arg2]
  refine congrArg (aX m c) (funext fun a => Fin.ext ?_)
  match a with
  | ⟨0, _⟩ => show win0_2.index t (0 : Fin 2) * 1024 + 1 * i.val = t.val / 4 * 1024 + i.val; rw [e0, one_mul]
  | ⟨1, _⟩ => show win0_2.index t (1 : Fin 2) * 512 + 1 * j.val = t.val % 4 * 512 + j.val; rw [e1, one_mul]

theorem blk3 (i : Fin 1024) (j : Fin 512) : (iblk m c 3 t : Vec Ideal S1024x512 .f32) (ix2 i j) = aT m c (ix2 (rowAt t i) (colAt t j)) := by
  obtain ⟨e0, e1⟩ := at3 t
  show Gen.V m c main_arg3 (((cfg0.win 3).blk t).view.emb (ix2 i j)) = _
  rw [V_main_arg3]
  refine congrArg (aT m c) (funext fun a => Fin.ext ?_)
  match a with
  | ⟨0, _⟩ => show win0_3.index t (0 : Fin 2) * 1024 + 1 * i.val = t.val / 4 * 1024 + i.val; rw [e0, one_mul]
  | ⟨1, _⟩ => show win0_3.index t (1 : Fin 2) * 512 + 1 * j.val = t.val % 4 * 512 + j.val; rw [e1, one_mul]

theorem err_at (i : Fin 1024) (j : Fin 512) :
    k0_pay1 (F := Ideal) (iblk m c 0 t) (iblk m c 1 t) (iblk m c 2 t) (iblk m c 3 t) (ix2 i j) = errOf (aA m c) (aB m c) (aX m c) (aT m c) (ix2 (rowAt t i) (colAt t j)) := by
  refine (pay1_apply _ _ _ _ i j).trans ?_
  rw [blk2 m c t i j, blk3 m c t i j]
  refine congrArg (· + aX m c (ix2 (rowAt t i) (colAt t j)) - aT m c (ix2 (rowAt t i) (colAt t j))) (Finset.sum_congr rfl fun k _ => ?_)
  rw [blk0 m c t i k, blk1 m c t k j]
  rfl

theorem block (f : S1024x512.Idx → EReal) (G : Mat 4096 2048) (e : S1024x512.Idx → (⟨2, ![4096, 2048]⟩ : Shape).Idx)
    (he : ∀ i j, e (ix2 i j) = ix2 (rowAt t i) (colAt t j)) (hf : ∀ i j, f (ix2 i j) = G (ix2 (rowAt t i) (colAt t j)))
    (y : S1024x512.Idx) : f y = G (e y) := by
  rw [eq_ix2 (n0 := 1024) (n1 := 512) y]
  exact (hf _ _).trans (congrArg G (he _ _)).symm

theorem emb5 (i : Fin 1024) (j : Fin 512) : ((cfg0.win 5).blk t).view.emb (ix2 i j) = ix2 (rowAt t i) (colAt t j) := by
  obtain ⟨e0, e1⟩ := at5 t
  refine funext fun a => Fin.ext ?_
  match a with
  | ⟨0, _⟩ => show win0_5.index t (0 : Fin 2) * 1024 + 1 * i.val = t.val / 4 * 1024 + i.val; rw [e0, one_mul]
  | ⟨1, _⟩ => show win0_5.index t (1 : Fin 2) * 512 + 1 * j.val = t.val % 4 * 512 + j.val; rw [e1, one_mul]

theorem out_at5 (i : Fin 1024) (j : Fin 512) : (outsAt0 m c t.val t.isLt).2.1 (ix2 i j) = dyOf (aA m c) (aB m c) (aX m c) (aT m c) (ix2 (rowAt t i) (colAt t j)) := by
  by_cases h0 : t.val % 16 = 0
  · rw [outsAt0_A m c t h0]
    dsimp only
    rw [storeA_5]
    exact (pay2_apply _ _ _ _ i j).trans (congrArg (· * ((1 / 2048 : ℝ) : EReal)) (err_at m c t i j))
  · rw [outsAt0_B m c t h0]
    dsimp only
    rw [storeB_5]
    exact (pay2_apply _ _ _ _ i j).trans (congrArg (· * ((1 / 2048 : ℝ) : EReal)) (err_at m c t i j))

theorem flushed_eq5 : (dats m 0 c).flushed 5 t = ((cfg0.win 5).blk t).view.read (Elt Ideal) (dyOf (aA m c) (aB m c) (aX m c) (aT m c)) := by
  rw [flushed5 m c t]
  funext y
  exact block t _ (dyOf (aA m c) (aB m c) (aX m c) (aT m c)) (fun y => ((cfg0.win 5).blk t).view.emb y) (emb5 t) (out_at5 m c t) y

theorem final5 : (dats m 0 c).arrAt 5 cfg0.N = dyOf (aA m c) (aB m c) (aX m c) (aT m c) :=
  (dats m 0 c).arrAt_eq_of_cover 5 (dyOf (aA m c) (aB m c) (aX m c) (aT m c)) (fun t _ => flushed_eq5 m c t) fun (y : (⟨2, ![4096, 2048]⟩ : Shape).Idx) => by
    have h0 : (y 0).val < 4096 := (y 0).isLt
    have h1 : (y 1).val < 2048 := (y 1).isLt
    let t : Fin cfg0.N := ⟨(y 0).val / 1024 * 4 + (y 1).val / 512, by show _ < grid0.N; rw [N_0]; omega⟩
    refine ⟨t, flush0_5 t, ?_⟩
    have hm := ((cfg0.win 5).blk t).view.emb_mem_set (ix2 (⟨(y 0).val % 1024, by omega⟩ : Fin 1024) (⟨(y 1).val % 512, by omega⟩ : Fin 512))
    rw [emb5] at hm
    have hy : y = ix2 (rowAt t ⟨(y 0).val % 1024, by omega⟩) (colAt t ⟨(y 1).val % 512, by omega⟩) := by
      funext a
      match a with
      | ⟨0, _⟩ => exact Fin.ext (by show (y 0).val = ((y 0).val / 1024 * 4 + (y 1).val / 512) / 4 * 1024 + (y 0).val % 1024; omega)
      | ⟨1, _⟩ => exact Fin.ext (by show (y 1).val = ((y 0).val / 1024 * 4 + (y 1).val / 512) % 4 * 512 + (y 1).val % 512; omega)
    rw [hy]
    exact hm

theorem emb6 (i : Fin 1024) (j : Fin 512) : ((cfg0.win 6).blk t).view.emb (ix2 i j) = ix2 (rowAt t i) (colAt t j) := by
  obtain ⟨e0, e1⟩ := at6 t
  refine funext fun a => Fin.ext ?_
  match a with
  | ⟨0, _⟩ => show win0_6.index t (0 : Fin 2) * 1024 + 1 * i.val = t.val / 4 * 1024 + i.val; rw [e0, one_mul]
  | ⟨1, _⟩ => show win0_6.index t (1 : Fin 2) * 512 + 1 * j.val = t.val % 4 * 512 + j.val; rw [e1, one_mul]

theorem out_at6 (i : Fin 1024) (j : Fin 512) : (outsAt0 m c t.val t.isLt).2.2 (ix2 i j) = dyOf (aA m c) (aB m c) (aX m c) (aT m c) (ix2 (rowAt t i) (colAt t j)) := by
  by_cases h0 : t.val % 16 = 0
  · rw [outsAt0_A m c t h0]
    dsimp only
    rw [storeA_6]
    exact (pay3_apply _ _ _ _ i j).trans (congrArg (· * ((1 / 2048 : ℝ) : EReal)) (err_at m c t i j))
  · rw [outsAt0_B m c t h0]
    dsimp only
    rw [storeB_6]
    exact (pay3_apply _ _ _ _ i j).trans (congrArg (· * ((1 / 2048 : ℝ) : EReal)) (err_at m c t i j))

theorem flushed_eq6 : (dats m 0 c).flushed 6 t = ((cfg0.win 6).blk t).view.read (Elt Ideal) (dyOf (aA m c) (aB m c) (aX m c) (aT m c)) := by
  rw [flushed6 m c t]
  funext y
  exact block t _ (dyOf (aA m c) (aB m c) (aX m c) (aT m c)) (fun y => ((cfg0.win 6).blk t).view.emb y) (emb6 t) (out_at6 m c t) y

theorem final6 : (dats m 0 c).arrAt 6 cfg0.N = dyOf (aA m c) (aB m c) (aX m c) (aT m c) :=
  (dats m 0 c).arrAt_eq_of_cover 6 (dyOf (aA m c) (aB m c) (aX m c) (aT m c)) (fun t _ => flushed_eq6 m c t) fun (y : (⟨2, ![4096, 2048]⟩ : Shape).Idx) => by
    have h0 : (y 0).val < 4096 := (y 0).isLt
    have h1 : (y 1).val < 2048 := (y 1).isLt
    let t : Fin cfg0.N := ⟨(y 0).val / 1024 * 4 + (y 1).val / 512, by show _ < grid0.N; rw [N_0]; omega⟩
    refine ⟨t, flush0_6 t, ?_⟩
    have hm := ((cfg0.win 6).blk t).view.emb_mem_set (ix2 (⟨(y 0).val % 1024, by omega⟩ : Fin 1024) (⟨(y 1).val % 512, by omega⟩ : Fin 512))
    rw [emb6] at hm
    have hy : y = ix2 (rowAt t ⟨(y 0).val % 1024, by omega⟩) (colAt t ⟨(y 1).val % 512, by omega⟩) := by
      funext a
      match a with
      | ⟨0, _⟩ => exact Fin.ext (by show (y 0).val = ((y 0).val / 1024 * 4 + (y 1).val / 512) / 4 * 1024 + (y 0).val % 1024; omega)
      | ⟨1, _⟩ => exact Fin.ext (by show (y 1).val = ((y 0).val / 1024 * 4 + (y 1).val / 512) % 4 * 512 + (y 1).val % 512; omega)
    rw [hy]
    exact hm

/-! ## The loss -/

/-- The part of the loss of a grid point's block. -/
def share (n : ℕ) : EReal :=
  if hn : n < 16 then ∑ i : Fin 1024, ∑ j : Fin 512, lossAt (aA m c) (aB m c) (aX m c) (aT m c) ⟨n / 4 * 1024 + i.val, by omega⟩ ⟨n % 4 * 512 + j.val, by omega⟩ else 0

theorem share_at : ((1 / 2 : ℝ) : EReal) * ∑ i : Fin 1024, (∑ j : Fin 512, k0_pay1 (F := Ideal) (iblk m c 0 t) (iblk m c 1 t) (iblk m c 2 t) (iblk m c 3 t) (ix2 i j)
      * k0_pay1 (F := Ideal) (iblk m c 0 t) (iblk m c 1 t) (iblk m c 2 t) (iblk m c 3 t) (ix2 i j)) * ((1 / 2048 : ℝ) : EReal) = share m c t.val := by
  have h16 : t.val < 16 := lt_of_lt_of_eq t.isLt N_0
  have hr : (0 : EReal) ≤ ((1 / 2048 : ℝ) : EReal) := by exact_mod_cast (by norm_num : (0 : ℝ) ≤ 1 / 2048)
  rw [share, dif_pos h16, mul_sum_nonneg]
  · refine Finset.sum_congr rfl fun i _ => ?_
    rw [mul_comm (∑ j : Fin 512, _) _, mul_sum_nonneg _ _ (fun j => sq_nonneg' _), mul_sum_nonneg]
    · refine Finset.sum_congr rfl fun j _ => ?_
      rw [err_at m c t i j]
      rfl
    · exact fun j => EReal.mul_nonneg_iff.mpr (Or.inl ⟨hr, sq_nonneg' _⟩)
  · exact fun i => EReal.mul_nonneg_iff.mpr (Or.inl ⟨Finset.sum_nonneg fun j _ => sq_nonneg' _, hr⟩)

/-- What the staged lanes of the loss hold after a point: the shares of the blocks so far. -/
theorem loss_after (l : Fin 128) : ∀ (k : ℕ) (t : Fin cfg0.N), t.val = k →
    (outsAt0 m c t.val t.isLt).1 (ix2 (0 : Fin 1) l) = ∑ n ∈ Finset.range (k + 1), share m c n := by
  intro k
  induction k with
  | zero =>
    intro t ht
    have h0 : t.val % 16 = 0 := by omega
    rw [outsAt0_A m c t h0]
    dsimp only
    rw [storeA_4, pay5_apply, pay4_apply, zero_add]
    refine (share_at m c t).trans ?_
    rw [ht, Finset.sum_range_one]
  | succ k ih =>
    intro t ht
    have h16 : t.val < 16 := lt_of_lt_of_eq t.isLt N_0
    have h0 : ¬ t.val % 16 = 0 := by omega
    have hp := ih ⟨t.val - 1, Nat.lt_of_le_of_lt (Nat.sub_le _ _) t.isLt⟩ (by show t.val - 1 = _; omega)
    rw [outsAt0_B m c t h0]
    dsimp only
    rw [storeB_4, pay5_apply, Finset.sum_range_succ]
    refine congrArg₂ (· + ·) hp ?_
    refine (share_at m c t).trans ?_
    rw [ht]

theorem loss_total : ∑ n ∈ Finset.range (15 + 1), share m c n = ∑ i : Fin 4096, ∑ j : Fin 2048, lossAt (aA m c) (aB m c) (aX m c) (aT m c) i j := by
  rw [Finset.sum_range]
  rw [sum_cut (p := 4) (q := 4) rfl, sum_cut (p := 4) (q := 1024) (N := 4096) rfl]
  refine Finset.sum_congr rfl fun r _ => ?_
  have hj : ∀ i : Fin 1024, ∑ j : Fin 2048, lossAt (aA m c) (aB m c) (aX m c) (aT m c) ⟨r.val * 1024 + i.val, by omega⟩ j
      = ∑ q : Fin 4, ∑ j : Fin 512, lossAt (aA m c) (aB m c) (aX m c) (aT m c) ⟨r.val * 1024 + i.val, by omega⟩ ⟨q.val * 512 + j.val, by omega⟩ :=
    fun i => sum_cut (p := 4) (q := 512) rfl _
  rw [Finset.sum_congr rfl fun i _ => hj i, Finset.sum_comm]
  refine Finset.sum_congr rfl fun q _ => ?_
  rw [share, dif_pos (by show r.val * 4 + q.val < 16; omega)]
  refine Finset.sum_congr rfl fun i _ => Finset.sum_congr rfl fun j _ => congrArg₂ (lossAt (aA m c) (aB m c) (aX m c) (aT m c)) (Fin.ext ?_) (Fin.ext ?_)
  · show (r.val * 4 + q.val) / 4 * 1024 + i.val = r.val * 1024 + i.val
    omega
  · show (r.val * 4 + q.val) % 4 * 512 + j.val = q.val * 512 + j.val
    omega

theorem emb4 (l : Fin 128) : ((cfg0.win 4).blk t).view.emb (ix2 (0 : Fin 1) l) = ix2 (0 : Fin 1) l := by
  obtain ⟨e0, e1⟩ := at4 t
  refine funext fun a => Fin.ext ?_
  match a with
  | ⟨0, _⟩ => show win0_4.index t (0 : Fin 2) * 1 + 1 * 0 = 0; rw [e0]
  | ⟨1, _⟩ => show win0_4.index t (1 : Fin 2) * 128 + 1 * l.val = l.val; rw [e1, one_mul, Nat.zero_mul, Nat.zero_add]

theorem lane (y : S1x128.Idx) : y = ix2 (0 : Fin 1) (y 1) := by
  funext b
  match b with
  | ⟨0, _⟩ => exact Subsingleton.elim (α := Fin 1) _ _
  | ⟨1, _⟩ => rfl

theorem lanes (f : S1x128.Idx → EReal) (G : Mat 1 128) (e : S1x128.Idx → (⟨2, ![1, 128]⟩ : Shape).Idx)
    (he : ∀ l, e (ix2 (0 : Fin 1) l) = ix2 (0 : Fin 1) l) (hf : ∀ l, f (ix2 (0 : Fin 1) l) = G (ix2 (0 : Fin 1) l))
    (y : S1x128.Idx) : f y = G (e y) := by
  rw [lane y]
  exact (hf _).trans (congrArg G (he _)).symm

theorem flushed_eq4 (h : t.val % 16 = 15) : (dats m 0 c).flushed 4 t = ((cfg0.win 4).blk t).view.read (Elt Ideal) (lossOf (aA m c) (aB m c) (aX m c) (aT m c)) := by
  have h16 : t.val < 16 := lt_of_lt_of_eq t.isLt N_0
  rw [flushed4 m c t]
  funext y
  exact lanes ((outsAt0 m c t.val t.isLt).1) (lossOf (aA m c) (aB m c) (aX m c) (aT m c)) (fun y => ((cfg0.win 4).blk t).view.emb y) (emb4 t)
    (fun l => (loss_after m c l 15 t (by omega)).trans (loss_total m c)) y

theorem final4 : (dats m 0 c).arrAt 4 cfg0.N = lossOf (aA m c) (aB m c) (aX m c) (aT m c) :=
  (dats m 0 c).arrAt_eq_of_cover 4 (lossOf (aA m c) (aB m c) (aX m c) (aT m c)) (fun t ht => flushed_eq4 m c t ((flush0_4 t).mp ht)) fun (y : (⟨2, ![1, 128]⟩ : Shape).Idx) => by
    let t : Fin cfg0.N := ⟨15, by show _ < grid0.N; rw [N_0]; omega⟩
    refine ⟨t, (flush0_4 _).mpr rfl, ?_⟩
    obtain ⟨l, rfl⟩ : ∃ l : Fin 128, y = ix2 (0 : Fin 1) l := ⟨y 1, lane y⟩
    have hm := ((cfg0.win 4).blk t).view.emb_mem_set (ix2 (0 : Fin 1) l)
    rw [emb4] at hm
    exact hm

end

/-! ## The reference -/

section
open Cert.DownRefIdeal.Read
variable (a : Mat 4096 5632) (b : Mat 5632 2048) (x t : Mat 4096 2048)

theorem ref_err (i : Fin 4096) (j : Fin 2048) : val_main_v4 (F := Ideal) a b x t (ix2 i j) = errOf a b x t (ix2 i j) := by
  show _ = (∑ k : Fin 5632, a (ix2 i k) * b (ix2 k j)) + x (ix2 i j) - t (ix2 i j)
  unfold val_main_v4 val_main_v3 val_main_v2 val_main_v1 val_main_v0
  pointwise
  rw [add_comm (x (ix2 i j))]

theorem ref_dy_at (i : Fin 4096) (j : Fin 2048) : val_main_v18 (F := Ideal) a b x t (ix2 i j) = errOf a b x t (ix2 i j) * ((1 / 2048 : ℝ) : EReal) := by
  rw [← ref_err]
  unfold val_main_v18 val_main_v17 val_main_v16 val_main_v15 val_main_v14 val_main_v13 val_main_v7 val_main_v6 val_main_cst val_main_cst_4 val_main_cst_5 val_main_cst_6
  generalize val_main_v4 (F := Ideal) a b x t = e
  pointwise
  rw [lit_half, lit_two, lit_width, div_width]
  try rw [lit_one]
  try rw [mul_one]
  rw [← mul_assoc, mul_comm (e (ix2 i j))]
  refine congrArg (· * e (ix2 i j)) ?_
  norm_cast
  norm_num

theorem ref_dy : val_main_v18 (F := Ideal) a b x t = dyOf a b x t := by
  funext y
  rw [eq_ix2 (n0 := 4096) (n1 := 2048) y]
  exact ref_dy_at a b x t (y 0) (y 1)

theorem ref_cast : val_main_v20 (F := Ideal) a b x t = dyOf a b x t := by
  unfold val_main_v20
  exact ref_dy a b x t

theorem ref_loss_at (l : Fin 128) : val_main_v19 (F := Ideal) a b x t (ix2 (0 : Fin 1) l) = ∑ i : Fin 4096, ∑ j : Fin 2048, lossAt a b x t i j := by
  have he := ref_err a b x t
  unfold val_main_v19 val_main_v12 val_main_v11 val_main_v10 val_main_v9 val_main_v8 val_main_v5 val_main_cst_0 val_main_cst_1 val_main_cst_2 val_main_cst_3
  generalize val_main_v4 (F := Ideal) a b x t = e at he
  have hr : (0 : EReal) ≤ ((1 / 2048 : ℝ) : EReal) := by exact_mod_cast (by norm_num : (0 : ℝ) ≤ 1 / 2048)
  pointwise
  rw [lit_half, lit_width]
  simp only [div_width]
  rw [mul_sum_nonneg]
  · refine Finset.sum_congr rfl fun i _ => ?_
    rw [mul_sum_nonneg _ _ (fun j => sq_nonneg' _), mul_sum_nonneg]
    · refine Finset.sum_congr rfl fun j _ => ?_
      rw [he i j]
      rfl
    · exact fun j => EReal.mul_nonneg_iff.mpr (Or.inl ⟨hr, sq_nonneg' _⟩)
  · exact fun i => EReal.mul_nonneg_iff.mpr (Or.inl ⟨hr, Finset.sum_nonneg fun j _ => sq_nonneg' _⟩)

theorem ref_loss : val_main_v19 (F := Ideal) a b x t = lossOf a b x t := by
  funext y
  rw [lane y]
  exact ref_loss_at a b x t (y 1)

end

end Cert.DownIdeal.Own

end
-- ==== Proof.DwUpSib.lean ====
/-
  The half of the gradient of the channel mixer's first matrix that the sibling core owns: its blocks of columns.
-/
module

public import proofs.«01_k».proof.Proof.Columns
public import proofs.«01_k».proof.Proof.Gen.DwUpSibIdeal.Frame
public import proofs.«01_k».proof.Proof.Gen.DwUpSibRefIdeal.Run
public import proofs.«01_k».proof.Proof.Gen.DwUpSibRefIdeal.Read
public import Idealize.ShloMosaic.Lib.Pipeline.ValueKit.Tiles

@[expose] public section

set_option maxRecDepth 16384
set_option maxHeartbeats 1000000

noncomputable section

namespace Cert.DwUpSibIdeal.Own

open Idealize.ShloMosaic Idealize.ShloMosaic.Pipeline Idealize.ShloMosaic.TcCoe Cert.Attn Cert.DwUpSibIdeal Cert.DwUpSibIdeal.Gen

/-! ## The table: which of the pair's two cores owns the blocks -/

section
variable {F : FTy → Type} [FloatOps F]

/-- The table holds this one word. -/
def word : pre0.Contents (Elt F) := fun | 0 => (fun _ => 1#32 : (⟨S1, .i32⟩ : BufTy).Contents (Elt F)) | ⟨_ + 1, h⟩ => absurd h (Nat.not_lt.2 (Nat.le_add_left _ _))

variable (m : (ℓ : Loc nD τ sig) → Buf (Elt F) ℓ)

theorem core_entry (c : Dev nD) : Gen.V m c main_v0 = (fun _ => 1#32 : (⟨S1, .i32⟩ : BufTy).Contents (Elt F)) := by
  dsimp only [Gen.V, hostOps0]
  after_results_simp
  rfl

theorem tbl_eq : tbl m = word := by
  funext j
  match j with
  | 0 => exact core_entry m 0
  | ⟨_ + 1, h⟩ => exact absurd h (Nat.not_lt.2 (Nat.le_add_left _ _))

theorem map1_real : ∀ (i : grid0.Coords) (a : Fin 3), cc0_transform_1 inb_S1_S1_0 numel1_S1 (word (F := Ideal)) i a = (![(2 * (i 0).val + 1) / 4, 0, (2 * (i 0).val + 1) % 4] : Fin 3 → Nat) a := by
  decide +kernel

theorem map1 (i : grid0.Coords) (a : Fin 3) : cc0_transform_1 inb_S1_S1_0 numel1_S1 (word (F := F)) i a = (![(2 * (i 0).val + 1) / 4, 0, (2 * (i 0).val + 1) % 4] : Fin 3 → Nat) a :=
  (rfl : cc0_transform_1 inb_S1_S1_0 numel1_S1 (word (F := F)) i a = cc0_transform_1 inb_S1_S1_0 numel1_S1 (word (F := Ideal)) i a).trans (map1_real i a)

theorem ok_real : ok0 (word (F := Ideal)) := by
  decide +kernel

/-- Every block that the table's word leads to lies inside the array. -/
theorem ok : Ok m := by
  show ok0 (tbl m)
  rw [tbl_eq]
  exact (ok_real : ok0 (word (F := Ideal)))

end

/-! ## The product -/

/-- The product: block `j` of the half is block `2 j + 1` of the matrix's 8 blocks of columns. -/
def halfOf (j : Fin 4) : Fin 2 := ⟨(2 * j.val + 1) / 4, by omega⟩
def colOf (j : Fin 4) (q : Fin 1408) : Fin 5632 := ⟨(2 * j.val + 1) % 4 * 1408 + q.val, by omega⟩

def prod (a : Mat 4096 2048) (b : Mats 2 4096 5632) : Mats 4 2048 1408 :=
  fun y => ∑ k : Fin 4096, a (ix2 k (y 1)) * b (ix3 (halfOf (y 0)) k (colOf (y 0) (y 2)))

theorem pay_apply (x0 : Vec Ideal S4096x512 .bf16) (x1 : Vec Ideal S1x4096x1408 .bf16) (i : Fin 512) (j : Fin 1408) :
    k0_pay1 (F := Ideal) x0 x1 (ix3 (0 : Fin 1) i j) = ∑ k : Fin 4096, x0 (ix2 k i) * x1 (ix3 (0 : Fin 1) k j) := by
  unfold k0_pay1
  pointwise

theorem out_apply (c : Dev nD) (p : grid0.Coords) (arg4 : Memref sig .tc .vmem S4096x512 .bf16) (harg4 : arg4.IsWhole) (arg5 : Memref sig .tc .vmem S1x4096x1408 .bf16) (harg5 : arg5.IsWhole) (arg6 : Memref sig .tc .vmem S1x512x1408 .f32) (harg6 : arg6.IsWhole)
    (x0 : Vec Ideal S4096x512 .bf16) (x1 : Vec Ideal S1x4096x1408 .bf16) (w : TbBuf0 (F := Ideal) c tbM0_0) (i : Fin 512) (j : Fin 1408) :
    out0_A_2 (F := Ideal) c p arg4 harg4 arg5 harg5 arg6 harg6 x0 x1 w (ix3 (0 : Fin 1) i j) = ∑ k : Fin 4096, x0 (ix2 k i) * x1 (ix3 (0 : Fin 1) k j) := by
  unfold out0_A_2
  rw [View.read_writes_eq_canon _ _ _ (cover0_A_2 c p arg4 harg4 arg5 harg5 arg6 harg6 x0 x1 w)]
  unfold kernelRun0_A
  dsimp only
  rw [View.canon_unit_zero zero3]
  sl_unfold_words
  simp only [View.readAt_eq_ld, harg4.read_unread, harg5.read_unread, View.ld_unit_zero (S := S4096x512) zero2, View.ld_unit_zero (S := S1x4096x1408) zero3]
  exact pay_apply x0 x1 i j

/-- The block and the rows of a grid point. -/
def pieceAt (t : Fin grid0.N) : Fin 4 := ⟨t.val / 4, by have : t.val < 16 := lt_of_lt_of_eq t.isLt N_0; omega⟩
def rowAt (t : Fin grid0.N) (i : Fin 512) : Fin 2048 := ⟨t.val % 4 * 512 + i.val, by omega⟩

theorem coord0 : ∀ t : Fin grid0.N, (grid0.coords t 0).val = t.val / 4 := by decide +kernel

section
variable (m : (ℓ : Loc nD τ sig) → Buf (Elt Ideal) ℓ) (hO : Ok m) (c : Dev nD) (t : Fin (cfgM m hO).N)

theorem at0 (t : Fin (cfgM m hO).N) : ((cfgM m hO).win 0).index t (0 : Fin 2) = 0 ∧ ((cfgM m hO).win 0).index t (1 : Fin 2) = t.val % 4 :=
  (by decide +kernel : ∀ t : Fin grid0.N, cc0_transform_0 (grid0.coords t) (0 : Fin 2) = 0 ∧ cc0_transform_0 (grid0.coords t) (1 : Fin 2) = t.val % 4) t
theorem at1 (t : Fin (cfgM m hO).N) (a : Fin 3) : ((cfgM m hO).win 1).index t a = (![(2 * (t.val / 4) + 1) / 4, 0, (2 * (t.val / 4) + 1) % 4] : Fin 3 → Nat) a := by
  show cc0_transform_1 inb_S1_S1_0 numel1_S1 (tbl m) (grid0.coords t) a = _
  rw [tbl_eq, map1, coord0]
theorem at2 (t : Fin (cfgM m hO).N) : ((cfgM m hO).win 2).index t (0 : Fin 3) = t.val / 4 ∧ ((cfgM m hO).win 2).index t (1 : Fin 3) = t.val % 4 ∧ ((cfgM m hO).win 2).index t (2 : Fin 3) = 0 :=
  (by decide +kernel : ∀ t : Fin grid0.N, cc0_transform_2 (grid0.coords t) (0 : Fin 3) = t.val / 4 ∧ cc0_transform_2 (grid0.coords t) (1 : Fin 3) = t.val % 4 ∧ cc0_transform_2 (grid0.coords t) (2 : Fin 3) = 0) t

/-- The argument arrays. -/
abbrev aA : Mat 4096 2048 := m ((c : Thread nD τ).loc main_arg0)
abbrev aB : Mats 2 4096 5632 := m ((c : Thread nD τ).loc main_arg1)

theorem blk0 (k : Fin 4096) (i : Fin 512) : (iblk m hO c 0 t : Vec Ideal S4096x512 .bf16) (ix2 k i) = aA m c (ix2 k (rowAt t i)) := by
  obtain ⟨e0, e1⟩ := at0 m hO t
  show Gen.V m c main_arg0 ((((cfgM m hO).win 0).blk t).view.emb (ix2 k i)) = _
  rw [V_main_arg0]
  refine congrArg (aA m c) (funext fun a => Fin.ext ?_)
  match a with
  | ⟨0, _⟩ => show ((cfgM m hO).win 0).index t (0 : Fin 2) * 4096 + 1 * k.val = k.val; rw [e0, one_mul, Nat.zero_mul, Nat.zero_add]
  | ⟨1, _⟩ => show ((cfgM m hO).win 0).index t (1 : Fin 2) * 512 + 1 * i.val = t.val % 4 * 512 + i.val; rw [e1, one_mul]

theorem blk1 (k : Fin 4096) (j : Fin 1408) : (iblk m hO c 1 t : Vec Ideal S1x4096x1408 .bf16) (ix3 (0 : Fin 1) k j) = aB m c (ix3 (halfOf (pieceAt t)) k (colOf (pieceAt t) j)) := by
  show Gen.V m c main_arg1 ((((cfgM m hO).win 1).blk t).view.emb (ix3 (0 : Fin 1) k j)) = _
  rw [V_main_arg1]
  refine congrArg (aB m c) (funext fun a => Fin.ext ?_)
  match a with
  | ⟨0, _⟩ => show ((cfgM m hO).win 1).index t (0 : Fin 3) * 1 + 1 * 0 = (2 * (t.val / 4) + 1) / 4; rw [at1]; show (2 * (t.val / 4) + 1) / 4 * 1 + 1 * 0 = _; omega
  | ⟨1, _⟩ => show ((cfgM m hO).win 1).index t (1 : Fin 3) * 4096 + 1 * k.val = k.val; rw [at1]; show 0 * 4096 + 1 * k.val = _; omega
  | ⟨2, _⟩ => show ((cfgM m hO).win 1).index t (2 : Fin 3) * 1408 + 1 * j.val = (2 * (t.val / 4) + 1) % 4 * 1408 + j.val; rw [at1]; show (2 * (t.val / 4) + 1) % 4 * 1408 + 1 * j.val = _; omega

theorem emb2 (i : Fin 512) (j : Fin 1408) : (((cfgM m hO).win 2).blk t).view.emb (ix3 (0 : Fin 1) i j) = ix3 (pieceAt t) (rowAt t i) j := by
  obtain ⟨e0, e1, e2⟩ := at2 m hO t
  refine funext fun a => Fin.ext ?_
  match a with
  | ⟨0, _⟩ => show ((cfgM m hO).win 2).index t (0 : Fin 3) * 1 + 1 * 0 = t.val / 4; rw [e0]; omega
  | ⟨1, _⟩ => show ((cfgM m hO).win 2).index t (1 : Fin 3) * 512 + 1 * i.val = t.val % 4 * 512 + i.val; rw [e1, one_mul]
  | ⟨2, _⟩ => show ((cfgM m hO).win 2).index t (2 : Fin 3) * 1408 + 1 * j.val = j.val; rw [e2, one_mul, Nat.zero_mul, Nat.zero_add]

theorem block (f : S1x512x1408.Idx → EReal) (G : Mats 4 2048 1408) (e : S1x512x1408.Idx → (⟨3, ![4, 2048, 1408]⟩ : Shape).Idx)
    (t : Fin grid0.N)
    (he : ∀ i j, e (ix3 (0 : Fin 1) i j) = ix3 (pieceAt t) (rowAt t i) j)
    (hf : ∀ i j, f (ix3 (0 : Fin 1) i j) = G (ix3 (pieceAt t) (rowAt t i) j))
    (y : S1x512x1408.Idx) : f y = G (e y) := by
  have hy : y = ix3 (0 : Fin 1) (y 1) (y 2) := by
    funext a
    match a with
    | ⟨0, _⟩ => exact Subsingleton.elim (α := Fin 1) _ _
    | ⟨1, _⟩ => rfl
    | ⟨2, _⟩ => rfl
  rw [hy]
  exact (hf _ _).trans (congrArg G (he _ _)).symm

theorem flushed_eq : (dats m hO 0 c).flushed 2 t = (((cfgM m hO).win 2).blk t).view.read (Elt Ideal) (prod (aA m c) (aB m c)) := by
  show (dats m hO 0 c).after 2 t = _
  rw [after0_2]
  unfold outsAt0
  funext y
  refine block _ (prod (aA m c) (aB m c)) (fun y => (((cfgM m hO).win 2).blk t).view.emb y) t (emb2 m hO t) (fun i j => ?_) y
  refine (out_apply _ _ _ _ _ _ _ _ _ _ _ i j).trans ?_
  refine Finset.sum_congr rfl fun k _ => ?_
  rw [blk0 m hO c t k i, blk1 m hO c t k j]
  rfl

theorem final : (dats m hO 0 c).arrAt 2 (cfgM m hO).N = prod (aA m c) (aB m c) :=
  (dats m hO 0 c).arrAt_eq_of_cover 2 (prod (aA m c) (aB m c)) (fun t _ => flushed_eq m hO c t) fun (y : (⟨3, ![4, 2048, 1408]⟩ : Shape).Idx) => by
    have h0 : (y 0).val < 4 := (y 0).isLt
    have h1 : (y 1).val < 2048 := (y 1).isLt
    have h2 : (y 2).val < 1408 := (y 2).isLt
    let t : Fin (cfgM m hO).N := ⟨(y 0).val * 4 + (y 1).val / 512, by show _ < grid0.N; rw [N_0]; omega⟩
    refine ⟨t, flush0_2 (adm m hO) t, ?_⟩
    have hm := (((cfgM m hO).win 2).blk t).view.emb_mem_set (ix3 (0 : Fin 1) (⟨(y 1).val % 512, by omega⟩ : Fin 512) (⟨(y 2).val, h2⟩ : Fin 1408))
    rw [emb2] at hm
    have hy : y = ix3 (pieceAt t) (rowAt t ⟨(y 1).val % 512, by omega⟩) ⟨(y 2).val, h2⟩ := by
      funext a
      match a with
      | ⟨0, _⟩ => exact Fin.ext (by show (y 0).val = ((y 0).val * 4 + (y 1).val / 512) / 4; omega)
      | ⟨1, _⟩ => exact Fin.ext (by show (y 1).val = ((y 0).val * 4 + (y 1).val / 512) % 4 * 512 + (y 1).val % 512; omega)
      | ⟨2, _⟩ => rfl
    rw [hy]
    exact hm

end

open Cert.DwUpSibRefIdeal.Read in
theorem ref_eq (a : Mat 4096 2048) (b : Mats 2 4096 5632) : val_main_v11 (F := Ideal) a b = prod a b := by
  funext y
  rw [eq_ix3 (n0 := 4) (n1 := 2048) (n2 := 1408) y]
  show val_main_v11 (F := Ideal) a b (ix3 (y 0) (y 1) (y 2)) = ∑ k : Fin 4096, a (ix2 k (y 1)) * b (ix3 (halfOf (y 0)) k (colOf (y 0) (y 2)))
  generalize y 0 = p
  generalize y 1 = i
  generalize y 2 = j
  unfold val_main_v11 val_main_v10 val_main_v9 val_main_v8 val_main_v7 val_main_v6 val_main_v5 val_main_v3 val_main_v1 val_main_v0
  pointwise

  refine Finset.sum_congr rfl fun k _ => (mul_comm _ _).trans (congrArg₂ (fun u v => a (ix2 k i) * b (ix3 u k v)) (Fin.ext ?_) (Fin.ext ?_))
  · have hp : p.val < 4 := p.isLt
    have hj : j.val < 1408 := j.isLt
    show (p.val * 2816 + 1408 + j.val) / 5632 = (2 * p.val + 1) / 4
    omega
  · have hp : p.val < 4 := p.isLt
    have hj : j.val < 1408 := j.isLt
    show (p.val * 2816 + 1408 + j.val) % 5632 = (2 * p.val + 1) % 4 * 1408 + j.val
    omega

end Cert.DwUpSibIdeal.Own

end
-- ==== Proof.DwUpOwn.lean ====
/-
  The half of the gradient of the channel mixer's first matrix that this core owns: its blocks of columns, and the sibling's part added.
-/
module

public import proofs.«01_k».proof.Proof.Columns
public import proofs.«01_k».proof.Proof.Gen.DwUpOwnIdeal.Frame
public import proofs.«01_k».proof.Proof.Gen.DwUpOwnRefIdeal.Run
public import proofs.«01_k».proof.Proof.Gen.DwUpOwnRefIdeal.Read
public import Idealize.ShloMosaic.Lib.Pipeline.ValueKit.Tiles

@[expose] public section

set_option maxRecDepth 16384
set_option maxHeartbeats 1000000

noncomputable section

namespace Cert.DwUpOwnIdeal.Own

open Idealize.ShloMosaic Idealize.ShloMosaic.Pipeline Idealize.ShloMosaic.TcCoe Cert.Attn Cert.DwUpOwnIdeal Cert.DwUpOwnIdeal.Gen

/-! ## The table: which of the pair's two cores owns the blocks -/

section
variable {F : FTy → Type} [FloatOps F]

/-- The table holds this one word. -/
def word : pre0.Contents (Elt F) := fun | 0 => (fun _ => 0#32 : (⟨S1, .i32⟩ : BufTy).Contents (Elt F)) | ⟨_ + 1, h⟩ => absurd h (Nat.not_lt.2 (Nat.le_add_left _ _))

variable (m : (ℓ : Loc nD τ sig) → Buf (Elt F) ℓ)

theorem core_entry (c : Dev nD) : Gen.V m c main_v0 = (fun _ => 0#32 : (⟨S1, .i32⟩ : BufTy).Contents (Elt F)) := by
  dsimp only [Gen.V, hostOps0]
  after_results_simp
  rfl

theorem tbl_eq : tbl m = word := by
  funext j
  match j with
  | 0 => exact core_entry m 0
  | ⟨_ + 1, h⟩ => exact absurd h (Nat.not_lt.2 (Nat.le_add_left _ _))

theorem map1_real : ∀ (i : grid0.Coords) (a : Fin 3), cc0_transform_1 inb_S1_S1_0 numel1_S1 (word (F := Ideal)) i a = (![(2 * (i 0).val + 0) / 4, 0, (2 * (i 0).val + 0) % 4] : Fin 3 → Nat) a := by
  decide +kernel

theorem map1 (i : grid0.Coords) (a : Fin 3) : cc0_transform_1 inb_S1_S1_0 numel1_S1 (word (F := F)) i a = (![(2 * (i 0).val + 0) / 4, 0, (2 * (i 0).val + 0) % 4] : Fin 3 → Nat) a :=
  (rfl : cc0_transform_1 inb_S1_S1_0 numel1_S1 (word (F := F)) i a = cc0_transform_1 inb_S1_S1_0 numel1_S1 (word (F := Ideal)) i a).trans (map1_real i a)

theorem ok_real : ok0 (word (F := Ideal)) := by
  decide +kernel

/-- Every block that the table's word leads to lies inside the array. -/
theorem ok : Ok m := by
  show ok0 (tbl m)
  rw [tbl_eq]
  exact (ok_real : ok0 (word (F := Ideal)))

end

/-! ## The product -/

/-- The product: block `j` of the half is block `2 j + 0` of the matrix's 8 blocks of columns. -/
def halfOf (j : Fin 4) : Fin 2 := ⟨(2 * j.val + 0) / 4, by omega⟩
def colOf (j : Fin 4) (q : Fin 1408) : Fin 5632 := ⟨(2 * j.val + 0) % 4 * 1408 + q.val, by omega⟩

def prod (a : Mat 4096 2048) (b : Mats 2 4096 5632) (g : Mats 4 2048 1408) : Mats 4 2048 1408 :=
  fun y => ∑ k : Fin 4096, a (ix2 k (y 1)) * b (ix3 (halfOf (y 0)) k (colOf (y 0) (y 2))) + g (ix3 (y 0) (y 1) (y 2))

theorem pay_apply (x0 : Vec Ideal S4096x512 .bf16) (x1 : Vec Ideal S1x4096x1408 .bf16) (x2 : Vec Ideal S1x512x1408 .f32) (i : Fin 512) (j : Fin 1408) :
    k0_pay1 (F := Ideal) x0 x1 x2 (ix3 (0 : Fin 1) i j) = ∑ k : Fin 4096, x0 (ix2 k i) * x1 (ix3 (0 : Fin 1) k j) + x2 (ix3 (0 : Fin 1) i j) := by
  unfold k0_pay1
  pointwise

theorem out_apply (c : Dev nD) (p : grid0.Coords) (arg4 : Memref sig .tc .vmem S4096x512 .bf16) (harg4 : arg4.IsWhole) (arg5 : Memref sig .tc .vmem S1x4096x1408 .bf16) (harg5 : arg5.IsWhole) (arg6 : Memref sig .tc .vmem S1x512x1408 .f32) (harg6 : arg6.IsWhole) (arg7 : Memref sig .tc .vmem S1x512x1408 .f32) (harg7 : arg7.IsWhole)
    (x0 : Vec Ideal S4096x512 .bf16) (x1 : Vec Ideal S1x4096x1408 .bf16) (x2 : Vec Ideal S1x512x1408 .f32) (w : TbBuf0 (F := Ideal) c tbM0_0) (i : Fin 512) (j : Fin 1408) :
    out0_A_3 (F := Ideal) c p arg4 harg4 arg5 harg5 arg6 harg6 arg7 harg7 x0 x1 x2 w (ix3 (0 : Fin 1) i j) = ∑ k : Fin 4096, x0 (ix2 k i) * x1 (ix3 (0 : Fin 1) k j) + x2 (ix3 (0 : Fin 1) i j) := by
  unfold out0_A_3
  rw [View.read_writes_eq_canon _ _ _ (cover0_A_3 c p arg4 harg4 arg5 harg5 arg6 harg6 arg7 harg7 x0 x1 x2 w)]
  unfold kernelRun0_A
  dsimp only
  rw [View.canon_unit_zero zero3]
  sl_unfold_words
  simp only [View.readAt_eq_ld, harg4.read_unread, harg5.read_unread, harg6.read_unread, View.ld_unit_zero (S := S4096x512) zero2, View.ld_unit_zero (S := S1x4096x1408) zero3, View.ld_unit_zero (S := S1x512x1408) zero3]
  exact pay_apply x0 x1 x2 i j

/-- The block and the rows of a grid point. -/
def pieceAt (t : Fin grid0.N) : Fin 4 := ⟨t.val / 4, by have : t.val < 16 := lt_of_lt_of_eq t.isLt N_0; omega⟩
def rowAt (t : Fin grid0.N) (i : Fin 512) : Fin 2048 := ⟨t.val % 4 * 512 + i.val, by omega⟩

theorem coord0 : ∀ t : Fin grid0.N, (grid0.coords t 0).val = t.val / 4 := by decide +kernel

section
variable (m : (ℓ : Loc nD τ sig) → Buf (Elt Ideal) ℓ) (hO : Ok m) (c : Dev nD) (t : Fin (cfgM m hO).N)

theorem at0 (t : Fin (cfgM m hO).N) : ((cfgM m hO).win 0).index t (0 : Fin 2) = 0 ∧ ((cfgM m hO).win 0).index t (1 : Fin 2) = t.val % 4 :=
  (by decide +kernel : ∀ t : Fin grid0.N, cc0_transform_0 (grid0.coords t) (0 : Fin 2) = 0 ∧ cc0_transform_0 (grid0.coords t) (1 : Fin 2) = t.val % 4) t
theorem at1 (t : Fin (cfgM m hO).N) (a : Fin 3) : ((cfgM m hO).win 1).index t a = (![(2 * (t.val / 4) + 0) / 4, 0, (2 * (t.val / 4) + 0) % 4] : Fin 3 → Nat) a := by
  show cc0_transform_1 inb_S1_S1_0 numel1_S1 (tbl m) (grid0.coords t) a = _
  rw [tbl_eq, map1, coord0]
theorem at2 (t : Fin (cfgM m hO).N) : ((cfgM m hO).win 2).index t (0 : Fin 3) = t.val / 4 ∧ ((cfgM m hO).win 2).index t (1 : Fin 3) = t.val % 4 ∧ ((cfgM m hO).win 2).index t (2 : Fin 3) = 0 :=
  (by decide +kernel : ∀ t : Fin grid0.N, cc0_transform_2 (grid0.coords t) (0 : Fin 3) = t.val / 4 ∧ cc0_transform_2 (grid0.coords t) (1 : Fin 3) = t.val % 4 ∧ cc0_transform_2 (grid0.coords t) (2 : Fin 3) = 0) t
theorem at3 (t : Fin (cfgM m hO).N) : ((cfgM m hO).win 3).index t (0 : Fin 3) = t.val / 4 ∧ ((cfgM m hO).win 3).index t (1 : Fin 3) = t.val % 4 ∧ ((cfgM m hO).win 3).index t (2 : Fin 3) = 0 :=
  (by decide +kernel : ∀ t : Fin grid0.N, cc0_transform_3 (grid0.coords t) (0 : Fin 3) = t.val / 4 ∧ cc0_transform_3 (grid0.coords t) (1 : Fin 3) = t.val % 4 ∧ cc0_transform_3 (grid0.coords t) (2 : Fin 3) = 0) t

/-- The argument arrays. -/
abbrev aA : Mat 4096 2048 := m ((c : Thread nD τ).loc main_arg0)
abbrev aB : Mats 2 4096 5632 := m ((c : Thread nD τ).loc main_arg1)
abbrev aG : Mats 4 2048 1408 := m ((c : Thread nD τ).loc main_arg2)

theorem blk0 (k : Fin 4096) (i : Fin 512) : (iblk m hO c 0 t : Vec Ideal S4096x512 .bf16) (ix2 k i) = aA m c (ix2 k (rowAt t i)) := by
  obtain ⟨e0, e1⟩ := at0 m hO t
  show Gen.V m c main_arg0 ((((cfgM m hO).win 0).blk t).view.emb (ix2 k i)) = _
  rw [V_main_arg0]
  refine congrArg (aA m c) (funext fun a => Fin.ext ?_)
  match a with
  | ⟨0, _⟩ => show ((cfgM m hO).win 0).index t (0 : Fin 2) * 4096 + 1 * k.val = k.val; rw [e0, one_mul, Nat.zero_mul, Nat.zero_add]
  | ⟨1, _⟩ => show ((cfgM m hO).win 0).index t (1 : Fin 2) * 512 + 1 * i.val = t.val % 4 * 512 + i.val; rw [e1, one_mul]

theorem blk1 (k : Fin 4096) (j : Fin 1408) : (iblk m hO c 1 t : Vec Ideal S1x4096x1408 .bf16) (ix3 (0 : Fin 1) k j) = aB m c (ix3 (halfOf (pieceAt t)) k (colOf (pieceAt t) j)) := by
  show Gen.V m c main_arg1 ((((cfgM m hO).win 1).blk t).view.emb (ix3 (0 : Fin 1) k j)) = _
  rw [V_main_arg1]
  refine congrArg (aB m c) (funext fun a => Fin.ext ?_)
  match a with
  | ⟨0, _⟩ => show ((cfgM m hO).win 1).index t (0 : Fin 3) * 1 + 1 * 0 = (2 * (t.val / 4) + 0) / 4; rw [at1]; show (2 * (t.val / 4) + 0) / 4 * 1 + 1 * 0 = _; omega
  | ⟨1, _⟩ => show ((cfgM m hO).win 1).index t (1 : Fin 3) * 4096 + 1 * k.val = k.val; rw [at1]; show 0 * 4096 + 1 * k.val = _; omega
  | ⟨2, _⟩ => show ((cfgM m hO).win 1).index t (2 : Fin 3) * 1408 + 1 * j.val = (2 * (t.val / 4) + 0) % 4 * 1408 + j.val; rw [at1]; show (2 * (t.val / 4) + 0) % 4 * 1408 + 1 * j.val = _; omega

theorem blk2 (i : Fin 512) (j : Fin 1408) : (iblk m hO c 2 t : Vec Ideal S1x512x1408 .f32) (ix3 (0 : Fin 1) i j) = aG m c (ix3 (pieceAt t) (rowAt t i) j) := by
  obtain ⟨e0, e1, e2⟩ := at2 m hO t
  show Gen.V m c main_arg2 ((((cfgM m hO).win 2).blk t).view.emb (ix3 (0 : Fin 1) i j)) = _
  rw [V_main_arg2]
  refine congrArg (aG m c) (funext fun a => Fin.ext ?_)
  match a with
  | ⟨0, _⟩ => show ((cfgM m hO).win 2).index t (0 : Fin 3) * 1 + 1 * 0 = t.val / 4; rw [e0]; omega
  | ⟨1, _⟩ => show ((cfgM m hO).win 2).index t (1 : Fin 3) * 512 + 1 * i.val = t.val % 4 * 512 + i.val; rw [e1, one_mul]
  | ⟨2, _⟩ => show ((cfgM m hO).win 2).index t (2 : Fin 3) * 1408 + 1 * j.val = j.val; rw [e2, one_mul, Nat.zero_mul, Nat.zero_add]

theorem emb3 (i : Fin 512) (j : Fin 1408) : (((cfgM m hO).win 3).blk t).view.emb (ix3 (0 : Fin 1) i j) = ix3 (pieceAt t) (rowAt t i) j := by
  obtain ⟨e0, e1, e2⟩ := at3 m hO t
  refine funext fun a => Fin.ext ?_
  match a with
  | ⟨0, _⟩ => show ((cfgM m hO).win 3).index t (0 : Fin 3) * 1 + 1 * 0 = t.val / 4; rw [e0]; omega
  | ⟨1, _⟩ => show ((cfgM m hO).win 3).index t (1 : Fin 3) * 512 + 1 * i.val = t.val % 4 * 512 + i.val; rw [e1, one_mul]
  | ⟨2, _⟩ => show ((cfgM m hO).win 3).index t (2 : Fin 3) * 1408 + 1 * j.val = j.val; rw [e2, one_mul, Nat.zero_mul, Nat.zero_add]

theorem block (f : S1x512x1408.Idx → EReal) (G : Mats 4 2048 1408) (e : S1x512x1408.Idx → (⟨3, ![4, 2048, 1408]⟩ : Shape).Idx)
    (t : Fin grid0.N)
    (he : ∀ i j, e (ix3 (0 : Fin 1) i j) = ix3 (pieceAt t) (rowAt t i) j)
    (hf : ∀ i j, f (ix3 (0 : Fin 1) i j) = G (ix3 (pieceAt t) (rowAt t i) j))
    (y : S1x512x1408.Idx) : f y = G (e y) := by
  have hy : y = ix3 (0 : Fin 1) (y 1) (y 2) := by
    funext a
    match a with
    | ⟨0, _⟩ => exact Subsingleton.elim (α := Fin 1) _ _
    | ⟨1, _⟩ => rfl
    | ⟨2, _⟩ => rfl
  rw [hy]
  exact (hf _ _).trans (congrArg G (he _ _)).symm

theorem flushed_eq : (dats m hO 0 c).flushed 3 t = (((cfgM m hO).win 3).blk t).view.read (Elt Ideal) (prod (aA m c) (aB m c) (aG m c)) := by
  show (dats m hO 0 c).after 3 t = _
  rw [after0_3]
  unfold outsAt0
  funext y
  refine block _ (prod (aA m c) (aB m c) (aG m c)) (fun y => (((cfgM m hO).win 3).blk t).view.emb y) t (emb3 m hO t) (fun i j => ?_) y
  refine (out_apply _ _ _ _ _ _ _ _ _ _ _ _ _ _ i j).trans ?_
  refine congrArg₂ (· + ·) (Finset.sum_congr rfl fun k _ => ?_) (blk2 m hO c t i j)
  rw [blk0 m hO c t k i, blk1 m hO c t k j]
  rfl

theorem final : (dats m hO 0 c).arrAt 3 (cfgM m hO).N = prod (aA m c) (aB m c) (aG m c) :=
  (dats m hO 0 c).arrAt_eq_of_cover 3 (prod (aA m c) (aB m c) (aG m c)) (fun t _ => flushed_eq m hO c t) fun (y : (⟨3, ![4, 2048, 1408]⟩ : Shape).Idx) => by
    have h0 : (y 0).val < 4 := (y 0).isLt
    have h1 : (y 1).val < 2048 := (y 1).isLt
    have h2 : (y 2).val < 1408 := (y 2).isLt
    let t : Fin (cfgM m hO).N := ⟨(y 0).val * 4 + (y 1).val / 512, by show _ < grid0.N; rw [N_0]; omega⟩
    refine ⟨t, flush0_3 (adm m hO) t, ?_⟩
    have hm := (((cfgM m hO).win 3).blk t).view.emb_mem_set (ix3 (0 : Fin 1) (⟨(y 1).val % 512, by omega⟩ : Fin 512) (⟨(y 2).val, h2⟩ : Fin 1408))
    rw [emb3] at hm
    have hy : y = ix3 (pieceAt t) (rowAt t ⟨(y 1).val % 512, by omega⟩) ⟨(y 2).val, h2⟩ := by
      funext a
      match a with
      | ⟨0, _⟩ => exact Fin.ext (by show (y 0).val = ((y 0).val * 4 + (y 1).val / 512) / 4; omega)
      | ⟨1, _⟩ => exact Fin.ext (by show (y 1).val = ((y 0).val * 4 + (y 1).val / 512) % 4 * 512 + (y 1).val % 512; omega)
      | ⟨2, _⟩ => rfl
    rw [hy]
    exact hm

end

open Cert.DwUpOwnRefIdeal.Read in
theorem ref_eq (a : Mat 4096 2048) (b : Mats 2 4096 5632) (g : Mats 4 2048 1408) : val_main_v12 (F := Ideal) a b g = prod a b g := by
  funext y
  rw [eq_ix3 (n0 := 4) (n1 := 2048) (n2 := 1408) y]
  show val_main_v12 (F := Ideal) a b g (ix3 (y 0) (y 1) (y 2)) = ∑ k : Fin 4096, a (ix2 k (y 1)) * b (ix3 (halfOf (y 0)) k (colOf (y 0) (y 2))) + g (ix3 (y 0) (y 1) (y 2))
  generalize y 0 = p
  generalize y 1 = i
  generalize y 2 = j
  unfold val_main_v12 val_main_v11 val_main_v10 val_main_v9 val_main_v8 val_main_v7 val_main_v6 val_main_v5 val_main_v3 val_main_v1 val_main_v0
  pointwise
  refine congrArg (· + g (ix3 p i j)) ?_
  refine Finset.sum_congr rfl fun k _ => (mul_comm _ _).trans (congrArg₂ (fun u v => a (ix2 k i) * b (ix3 u k v)) (Fin.ext ?_) (Fin.ext ?_))
  · have hp : p.val < 4 := p.isLt
    have hj : j.val < 1408 := j.isLt
    show (p.val * 2816 + j.val) / 5632 = (2 * p.val + 0) / 4
    omega
  · have hp : p.val < 4 := p.isLt
    have hj : j.val < 1408 := j.isLt
    show (p.val * 2816 + j.val) % 5632 = (2 * p.val + 0) % 4 * 1408 + j.val
    omega

end Cert.DwUpOwnIdeal.Own

end
-- ==== Proof.DwIn.lean ====
/-
  The gradient of the matrix of the input projections, transposed, all but the low-rank decays' rows: the rows' tiles lie in another order than the columns that come in.
-/
module

public import proofs.«01_k».proof.Proof.Columns
public import proofs.«01_k».proof.Proof.Gen.DwInIdeal.Frame
public import proofs.«01_k».proof.Proof.Gen.DwInRefIdeal.Run
public import proofs.«01_k».proof.Proof.Gen.DwInRefIdeal.Read
public import Idealize.ShloMosaic.Lib.Pipeline.ValueKit.Tiles
public import Idealize.ShloMosaic.Lib.Pipeline.ValueKit.Partial

@[expose] public section

set_option maxRecDepth 16384
set_option maxHeartbeats 1000000

noncomputable section

namespace Cert.DwInIdeal.Own

open Idealize.ShloMosaic Idealize.ShloMosaic.Pipeline Idealize.ShloMosaic.TcCoe Cert.Attn Cert.DwInIdeal Cert.DwInIdeal.Gen

/-- Where a row's column comes in. -/
def place (r : Nat) : Nat :=
  if r < 1024 then r else if r < 1536 then r + 3072 else if r < 2560 then r + 1536 else if r < 3584 then r - 512 else r - 2560

theorem place_lt (r : Nat) (h : r < 4608) : place r < 4736 := by unfold place; split_ifs <;> omega

def col (r : Fin 4608) : Fin 4736 := ⟨place r.val, place_lt r.val r.isLt⟩

/-- The product, and the array that the call fills but for its last rows. -/
def prod (a : Mat 4096 4736) (b : Mat 4096 2048) : Mat 4608 2048 := fun y => ∑ k : Fin 4096, a (ix2 k (col (y 0))) * b (ix2 k (y 1))
def full (a : Mat 4096 4736) (b : Mat 4096 2048) : Mat 4640 2048 :=
  fun y => if h : (y 0).val < 4608 then prod a b (ix2 ⟨(y 0).val, h⟩ (y 1)) else 0

theorem zero2 : (![0, 0] : Fin 2 → Nat) = fun _ => 0 := funext fun a => by fin_cases a <;> rfl

theorem pay_apply (x0 : Vec Ideal S4096x512 .bf16) (x1 : Vec Ideal S4096x1024 .bf16) (i : Fin 512) (j : Fin 1024) :
    k0_pay1 (F := Ideal) x0 x1 (ix2 i j) = ∑ k : Fin 4096, x0 (ix2 k i) * x1 (ix2 k j) := by
  unfold k0_pay1
  pointwise

theorem out_apply (c : Dev nD) (p : grid0.Coords) (arg3 : Memref sig .tc .vmem S4096x512 .bf16) (harg3 : arg3.IsWhole) (arg4 : Memref sig .tc .vmem S4096x1024 .bf16) (harg4 : arg4.IsWhole) (arg5 : Memref sig .tc .vmem S512x1024 .f32) (harg5 : arg5.IsWhole)
    (x0 : Vec Ideal S4096x512 .bf16) (x1 : Vec Ideal S4096x1024 .bf16) (i : Fin 512) (j : Fin 1024) :
    out0_A_2 (F := Ideal) c p arg3 harg3 arg4 harg4 arg5 harg5 x0 x1 (ix2 i j) = ∑ k : Fin 4096, x0 (ix2 k i) * x1 (ix2 k j) := by
  unfold out0_A_2
  rw [View.read_writes_eq_canon _ _ _ (cover0_A_2 c p arg3 harg3 arg4 harg4 arg5 harg5 x0 x1)]
  unfold kernelRun0_A
  dsimp only
  rw [View.canon_unit_zero zero2]
  sl_unfold_words
  simp only [View.readAt_eq_ld, harg3.read_unread, harg4.read_unread, View.ld_unit_zero (S := S4096x512) zero2, View.ld_unit_zero (S := S4096x1024) zero2]
  exact pay_apply x0 x1 i j

/-- The tile of rows that the call's table gives for a tile of columns. -/
def tile (i : Nat) : Nat := if i < 2 then i else if i < 4 then i + 5 else if i < 6 then i + 1 else if i < 8 then i - 3 else 2

theorem place_tile (i r : Nat) (hi : i < 9) (hr : r < 512) : tile i * 512 + r < 4608 ∧ place (tile i * 512 + r) = i * 512 + r := by
  unfold tile place
  split_ifs <;> omega

theorem at0 : ∀ t : Fin cfg0.N, win0_0.index t (0 : Fin 2) = 0 ∧ win0_0.index t (1 : Fin 2) = t.val % 9 := (by decide +kernel : ∀ t : Fin grid0.N, _)
theorem at1 : ∀ t : Fin cfg0.N, win0_1.index t (0 : Fin 2) = 0 ∧ win0_1.index t (1 : Fin 2) = t.val / 9 := (by decide +kernel : ∀ t : Fin grid0.N, _)
theorem at2 : ∀ t : Fin cfg0.N, win0_2.index t (0 : Fin 2) = tile (t.val % 9) ∧ win0_2.index t (1 : Fin 2) = t.val / 9 := (by decide +kernel : ∀ t : Fin grid0.N, _)

/-- The rows and the columns of a grid point. -/
def rowAt (t : Fin cfg0.N) (i : Fin 512) : Fin 4608 := ⟨tile (t.val % 9) * 512 + i.val, (place_tile _ _ (Nat.mod_lt _ (by norm_num)) i.isLt).1⟩
def colAt (t : Fin cfg0.N) (j : Fin 1024) : Fin 2048 := ⟨t.val / 9 * 1024 + j.val, by have : t.val < 18 := lt_of_lt_of_eq t.isLt N_0; omega⟩

theorem col_rowAt (t : Fin cfg0.N) (i : Fin 512) : (col (rowAt t i)).val = t.val % 9 * 512 + i.val :=
  (place_tile _ _ (Nat.mod_lt _ (by norm_num)) i.isLt).2

section
variable (m : (ℓ : Loc nD τ sig) → Buf (Elt Ideal) ℓ) (c : Dev nD) (t : Fin cfg0.N)

/-- The argument arrays. -/
abbrev aA : Mat 4096 4736 := m ((c : Thread nD τ).loc main_arg0)
abbrev aB : Mat 4096 2048 := m ((c : Thread nD τ).loc main_arg1)

theorem blk0 (k : Fin 4096) (i : Fin 512) : (X0_0 m c t : Vec Ideal S4096x512 .bf16) (ix2 k i) = aA m c (ix2 k (col (rowAt t i))) := by
  obtain ⟨e0, e1⟩ := at0 t
  unfold X0_0 Pipeline.Window.fill
  rw [dif_pos (moved0_0 t _)]
  unfold iblk
  show Gen.V m c main_arg0 (((cfg0.win 0).blk t).view.emb _) = _
  rw [V_main_arg0]
  refine congrArg (aA m c) (funext fun a => Fin.ext ?_)
  match a with
  | ⟨0, _⟩ => show win0_0.index t (0 : Fin 2) * 4096 + 1 * k.val = k.val; rw [e0, one_mul, Nat.zero_mul, Nat.zero_add]
  | ⟨1, _⟩ => show win0_0.index t (1 : Fin 2) * 512 + 1 * i.val = (col (rowAt t i)).val; rw [e1, one_mul, col_rowAt]

theorem blk1 (k : Fin 4096) (j : Fin 1024) : (iblk m c 1 t : Vec Ideal S4096x1024 .bf16) (ix2 k j) = aB m c (ix2 k (colAt t j)) := by
  obtain ⟨e0, e1⟩ := at1 t
  show Gen.V m c main_arg1 (((cfg0.win 1).blk t).view.emb (ix2 k j)) = _
  rw [V_main_arg1]
  refine congrArg (aB m c) (funext fun a => Fin.ext ?_)
  match a with
  | ⟨0, _⟩ => show win0_1.index t (0 : Fin 2) * 4096 + 1 * k.val = k.val; rw [e0, one_mul, Nat.zero_mul, Nat.zero_add]
  | ⟨1, _⟩ => show win0_1.index t (1 : Fin 2) * 1024 + 1 * j.val = t.val / 9 * 1024 + j.val; rw [e1, one_mul]

/-- What the body leaves at a point. -/
theorem after_apply (i : Fin 512) (j : Fin 1024) : ((dats m 0 c).after 2 t : Vec Ideal S512x1024 .f32) (ix2 i j) = prod (aA m c) (aB m c) (ix2 (rowAt t i) (colAt t j)) := by
  rw [after0_2]
  unfold outsAt0
  refine (out_apply _ _ _ _ _ _ _ _ _ _ i j).trans (Finset.sum_congr rfl fun k _ => ?_)
  rw [blk0 m c t k i, blk1 m c t k j]
  rfl

theorem full_at (a : Mat 4096 4736) (b : Mat 4096 2048) (y : (⟨2, ![4640, 2048]⟩ : Shape).Idx) (r : Fin 4608) (q : Fin 2048)
    (h0 : (y 0).val = r.val) (h1 : (y 1).val = q.val) : full a b y = prod a b (ix2 r q) := by
  have h : (y 0).val < 4608 := h0 ▸ r.isLt
  show dite _ _ _ = _
  rw [dif_pos h]
  exact congrArg₂ (fun u v => prod a b (ix2 u v)) (Fin.ext h0) (Fin.ext h1)

theorem final (y : (⟨2, ![4640, 2048]⟩ : Shape).Idx) (hy : (y 0).val < 4608) :
    ((dats m 0 c).arrAt 2 cfg0.N : Mat 4640 2048) y = full (aA m c) (aB m c) y := by
  have key := (dats m 0 c).arrAt_apply_of_coversWhere 2 (full (aA m c) (aB m c))
    (P := fun y : (⟨2, ![4640, 2048]⟩ : Shape).Idx => (y 0).val / 512 < 9) (fun β => β (0 : Fin 2) < 9) (by decide +kernel)
    (fun t _ z => by
      obtain ⟨e0, e1⟩ := at2 t
      have hz : (cfg0.win 2).xinj (cfg0.grid.coords t) z = ix2 (⟨(z (0 : Fin 2)).val, ((cfg0.win 2).xinj (cfg0.grid.coords t) z (0 : Fin 2)).isLt⟩ : Fin 512) (⟨(z (1 : Fin 2)).val, ((cfg0.win 2).xinj (cfg0.grid.coords t) z (1 : Fin 2)).isLt⟩ : Fin 1024) := by
        funext a
        match a with
        | ⟨0, _⟩ => rfl
        | ⟨1, _⟩ => rfl
      show (dats m 0 c).after 2 t ((cfg0.win 2).xinj (cfg0.grid.coords t) z) = _
      rw [hz]
      refine (after_apply m c t _ _).trans (full_at _ _ _ _ _ ?_ ?_).symm
      · show win0_2.index t (0 : Fin 2) * 512 + 1 * (z (0 : Fin 2)).val = tile (t.val % 9) * 512 + (z (0 : Fin 2)).val
        rw [e0, one_mul]
      · show win0_2.index t (1 : Fin 2) * 1024 + 1 * (z (1 : Fin 2)).val = t.val / 9 * 1024 + (z (1 : Fin 2)).val
        rw [e1, one_mul])
    (fun j => Iff.rfl) y
  refine key.trans (if_pos ?_)
  show (y 0).val / 512 < 9
  omega

/-- The slice behind the call. -/
theorem tail_eq : Pipeline.afterTail₀ cfgs (dats m) 0 (V0 m) [hostOps1] c main_v1 = prod (aA m c) (aB m c) := by
  unfold Pipeline.afterTail₀
  simp only [hostOps1, List.flatten_cons, List.flatten_nil, List.append_nil]
  after_results_simp
  have e : Pipeline.withArrays (cfgs (0 : Fin 1)).spec c (V0 m c) (fun w => (dats m 0 c).arrAt w (cfgs (0 : Fin 1)).N) (Proc.devRef .tc main_v0) = (dats m 0 c).arrAt 2 cfg0.N :=
    Pipeline.withArrays_arr spec0 (by decide) c (V0 m c) (fun w => (dats m 0 c).arrAt w cfg0.N) 2
  rw [e]
  funext y
  rw [eq_ix2 (n0 := 4608) (n1 := 2048) y]
  generalize y 0 = i
  generalize y 1 = j
  pointwise
  have hi : i.val < 4608 := i.isLt
  exact (final m c _ hi).trans (full_at _ _ _ i j rfl rfl)

end

/-! The columns of the seven arrays that the reference puts together. -/

theorem place_1 {n : Nat} (h : n < 1024) : place n = n := by unfold place; split_ifs; rfl
theorem place_2 {n : Nat} (h : 1024 ≤ n) (h' : n < 1280) : place n = 4096 + (n - 1024) := by unfold place; split_ifs <;> omega
theorem place_3 {n : Nat} (h : 1280 ≤ n) (h' : n < 1536) : place n = 4352 + (n - 1024 - 256) := by unfold place; split_ifs <;> omega
theorem place_4 {n : Nat} (h : 1536 ≤ n) (h' : n < 2048) : place n = 3072 + (n - 1024 - 256 - 256) := by unfold place; split_ifs <;> omega
theorem place_5 {n : Nat} (h : 2048 ≤ n) (h' : n < 2560) : place n = 3584 + (n - 1024 - 256 - 256 - 512) := by unfold place; split_ifs <;> omega
theorem place_6 {n : Nat} (h : 2560 ≤ n) (h' : n < 3584) : place n = 2048 + (n - 1024 - 256 - 256 - 512 - 512) := by unfold place; split_ifs <;> omega
theorem place_7 {n : Nat} (h : 3584 ≤ n) (h' : n < 4608) : place n = 1024 + (n - 1024 - 256 - 256 - 512 - 512 - 1024) := by unfold place; split_ifs <;> omega

open Cert.DwInRefIdeal.Read in
theorem ref_at (a : Mat 4096 4736) (b : Mat 4096 2048) (i : Fin 4608) (j : Fin 2048) :
    val_main_v15 (F := Ideal) a b (ix2 i j) = ∑ k : Fin 4096, a (ix2 k (col i)) * b (ix2 k j) := by
  unfold val_main_v15 val_main_v14 val_main_v13 val_main_v12 val_main_v10 val_main_v8 val_main_v7 val_main_v6 val_main_v5 val_main_v4 val_main_v3 val_main_v2 val_main_v1 val_main_v0
  pointwise
  refine Finset.sum_congr rfl fun k _ => congrArg₂ (· * ·) ?_ rfl
  have hi : i.val < 4608 := i.isLt
  have out (u v : Fin 4736) (h : v.val = u.val) : a (ix2 k u) = a (ix2 k v) := congrArg (fun w => a (ix2 k w)) (Fin.ext h.symm)
  by_cases h1 : i.val < 1024
  · rw [dif_pos h1]
    exact out _ _ (place_1 h1)
  rw [dif_neg h1]
  by_cases h2 : i.val - 1024 < 256
  · rw [dif_pos h2]
    exact out _ _ (place_2 (by omega) (by omega))
  rw [dif_neg h2]
  by_cases h3 : i.val - 1024 - 256 < 256
  · rw [dif_pos h3]
    exact out _ _ (place_3 (by omega) (by omega))
  rw [dif_neg h3]
  by_cases h4 : i.val - 1024 - 256 - 256 < 512
  · rw [dif_pos h4]
    exact out _ _ (place_4 (by omega) (by omega))
  rw [dif_neg h4]
  by_cases h5 : i.val - 1024 - 256 - 256 - 512 < 512
  · rw [dif_pos h5]
    exact out _ _ (place_5 (by omega) (by omega))
  rw [dif_neg h5]
  by_cases h6 : i.val - 1024 - 256 - 256 - 512 - 512 < 1024
  · rw [dif_pos h6]
    exact out _ _ (place_6 (by omega) (by omega))
  rw [dif_neg h6]
  exact out _ _ (place_7 (by omega) (by omega))

theorem ref_eq (a : Mat 4096 4736) (b : Mat 4096 2048) : Cert.DwInRefIdeal.Read.val_main_v15 (F := Ideal) a b = prod a b := by
  funext y
  rw [eq_ix2 (n0 := 4608) (n1 := 2048) y]
  exact ref_at a b (y 0) (y 1)

end Cert.DwInIdeal.Own

end
-- ==== Proof.FwdBlock.lean ====
/-
  What one grid point of the attention's forward pass computes, read at an index.
-/
module

public import proofs.«01_k».proof.Proof.Problem
public import proofs.«01_k».proof.Proof.Gen.AttnFwdIdeal.Skeleton
public import Idealize.ShloMosaic.Lib.Pointwise

@[expose] public section

set_option maxRecDepth 16384

noncomputable section

namespace Cert.Attn.Fwd

open Idealize.ShloMosaic Cert.AttnFwdIdeal Cert.AttnFwdIdeal.Gen

abbrev V (s : Shape) (φ : FTy) : Type := FVec Ideal s φ

/-- Row `i` of query head `g` in the stack of the four heads. -/
abbrev rowOf (g : Fin 4) (i : Fin 128) : Fin 512 := ⟨128 * g.val + i.val, by omega⟩

theorem rowOf_zero (i : Fin 128) : rowOf 0 i = ⟨i.val, by omega⟩ := Fin.ext (by simp)
theorem rowOf_one (i : Fin 128) : rowOf 1 i = ⟨128 + i.val, by omega⟩ := rfl
theorem rowOf_two (i : Fin 128) : rowOf 2 i = ⟨256 + i.val, by omega⟩ := rfl
theorem rowOf_three (i : Fin 128) : rowOf 3 i = ⟨384 + i.val, by omega⟩ := rfl

section
variable (b : V S512x384 .f32) (qs : V S512x128 .f32) (kc vc : V S384x128 .f32) (z : V S512x1 .f32)
variable (r : Fin 512)

/-- A row of scores from the stacked queries, the keys and the bias. -/
def kScore (j : Fin 384) : EReal := (∑ d : Fin 128, qs (ix2 r d) * kc (ix2 j d)) * scale + b (ix2 r j)

theorem pay14_apply (j : Fin 384) : k0_pay14 b qs kc (ix2 r j) = kScore b qs kc r j := by
  unfold k0_pay14 kScore scale
  pointwise

theorem pay15_apply : k0_pay15 b qs kc z (ix2 r 0) = rowMax (kScore b qs kc r) (z (ix2 r 0)) := by
  unfold k0_pay15 rowMax
  pointwise [pay14_apply, ofBits_neg_inf]

theorem pay16_apply (j : Fin 384) :
    k0_pay16 b qs kc z (ix2 r j) = rowExp (kScore b qs kc r) (z (ix2 r 0)) j := by
  unfold k0_pay16 rowExp
  pointwise [pay14_apply, pay15_apply]

theorem pay17_apply (d : Fin 128) :
    (k0_pay17 vc z (k0_pay15 b qs kc z) (k0_pay16 b qs kc z) (ix2 r d) : EReal)
      = ∑ j : Fin 384, rowProb (kScore b qs kc r) (z (ix2 r 0)) j * vc (ix2 j d) := by
  unfold k0_pay17 rowProb rowSum rowSink
  pointwise [pay15_apply, pay16_apply]

/-- The second key head's payload is the first's. -/
theorem pay18_eq : k0_pay18 b qs kc vc z = k0_pay17 vc z (k0_pay15 b qs kc z) (k0_pay16 b qs kc z) := rfl

theorem pay18_apply (d : Fin 128) : (k0_pay18 b qs kc vc z (ix2 r d) : EReal)
    = ∑ j : Fin 384, rowProb (kScore b qs kc r) (z (ix2 r 0)) j * vc (ix2 j d) := by
  rw [pay18_eq]
  exact pay17_apply b qs kc vc z r d
end

theorem pay6_apply (b : Fin 4 → V S128x128 .bf16) (g : Fin 4) (i d : Fin 128) :
    (k0_pay6 (F := Ideal) (b 0) (b 1) (b 2) (b 3) (ix2 (rowOf g i) d) : EReal) = b g (ix2 i d) := by
  unfold k0_pay6
  fin_cases g <;> pointwise
  all_goals simp only [show ¬256 + i.val < 128 by omega, show ¬256 + i.val - 128 < 128 by omega,
    show 256 + i.val - 128 - 128 < 128 by omega, show ¬384 + i.val < 128 by omega,
    show ¬384 + i.val - 128 < 128 by omega, show ¬384 + i.val - 128 - 128 < 128 by omega, dif_pos, dif_neg,
    not_false_eq_true]
  all_goals exact congrArg (fun k => b _ (ix2 k _)) (Fin.ext (by simp only []; omega))

/-- The three blocks of a window. -/
theorem pay7_apply (b : Fin 3 → V S128x128 .bf16) (p : Fin 3) (i d : Fin 128) :
    (k0_pay7 (F := Ideal) (b 0) (b 1) (b 2) (ix2 ⟨128 * p.val + i.val, by omega⟩ d) : EReal) = b p (ix2 i d) := by
  unfold k0_pay7
  fin_cases p <;> pointwise
  all_goals simp only [show ¬256 + i.val < 128 by omega, show ¬256 + i.val - 128 < 128 by omega, dif_pos, dif_neg,
    not_false_eq_true]
  all_goals exact congrArg (fun k => b _ (ix2 k _)) (Fin.ext (by simp only []; omega))

theorem pay5_apply (x1 : V S1x512x384 .f32) (r : Fin 512) (j : Fin 384) : k0_pay5 x1 (ix2 r j) = x1 (ix3 0 r j) := by
  unfold k0_pay5
  pointwise

/-- The column of the sinks. -/
theorem pay9_apply (z : Fin 4 → EReal) (g : Fin 4) (i : Fin 128) :
    k0_pay9 (F := Ideal) (z 0) (z 1) (z 2) (z 3) (ix2 (rowOf g i) 0) = z g := by
  unfold k0_pay9
  fin_cases g <;> pointwise
  all_goals simp only [show ¬256 + i.val < 128 by omega, show ¬256 + i.val - 128 < 128 by omega,
    show 256 + i.val - 128 - 128 < 128 by omega, show ¬384 + i.val < 128 by omega,
    show ¬384 + i.val - 128 < 128 by omega, show ¬384 + i.val - 128 - 128 < 128 by omega, dif_pos, dif_neg,
    not_false_eq_true]

/-! The two key heads' windows and stacks are the same functions. -/

theorem pay8_eq : k0_pay8 (F := Ideal) = k0_pay7 := rfl
theorem pay10_eq : k0_pay10 (F := Ideal) = k0_pay6 := rfl
theorem pay11_eq : k0_pay11 (F := Ideal) = k0_pay7 := rfl
theorem pay12_eq : k0_pay12 (F := Ideal) = k0_pay7 := rfl
theorem pay13_eq : k0_pay13 (F := Ideal) = k0_pay9 := rfl

section
variable (x : V S512x128 .bf16) (i d : Fin 128)

theorem pay1_apply : k0_pay1 x (ix2 i d) = x (ix2 (rowOf 0 i) d) := by
  unfold k0_pay1
  pointwise [rowOf_zero, rowOf_one, rowOf_two, rowOf_three]

theorem pay2_apply : k0_pay2 x (ix2 i d) = x (ix2 (rowOf 1 i) d) := by
  unfold k0_pay2
  pointwise [rowOf_zero, rowOf_one, rowOf_two, rowOf_three]

theorem pay3_apply : k0_pay3 x (ix2 i d) = x (ix2 (rowOf 2 i) d) := by
  unfold k0_pay3
  pointwise [rowOf_zero, rowOf_one, rowOf_two, rowOf_three]

theorem pay4_apply : k0_pay4 x (ix2 i d) = x (ix2 (rowOf 3 i) d) := by
  unfold k0_pay4
  pointwise [rowOf_zero, rowOf_one, rowOf_two, rowOf_three]
end

section
variable (v : V S384x128 .f32) (z y : V S512x1 .f32) (e : V S512x384 .f32)

theorem pay19_eq : k0_pay19 v z y e = k0_pay1 (k0_pay17 v z y e) := rfl
theorem pay20_eq : k0_pay20 v z y e = k0_pay2 (k0_pay17 v z y e) := rfl
theorem pay21_eq : k0_pay21 v z y e = k0_pay3 (k0_pay17 v z y e) := rfl
theorem pay22_eq : k0_pay22 v z y e = k0_pay4 (k0_pay17 v z y e) := rfl
end

end Cert.Attn.Fwd

end
-- ==== Proof.FwdStore.lean ====
/-
  What one grid point of the attention's forward pass stores, read as payloads of its blocks.
-/
module

public import proofs.«01_k».proof.Proof.FwdBlock
public import proofs.«01_k».proof.Proof.Gen.AttnFwdIdeal.Value
public import Idealize.ShloMosaic.Lib.Pipeline.ValueKit.Tiles

@[expose] public section

set_option maxRecDepth 16384
set_option maxHeartbeats 1000000

noncomputable section

namespace Cert.Attn.Fwd

open Idealize.ShloMosaic Idealize.ShloMosaic.Pipeline Cert.AttnFwdIdeal Cert.AttnFwdIdeal.Gen

/-- One head's columns of a block of queries. -/
def qCols (x : Vec Ideal S128x1024 .bf16) (k : Fin 8) : V S128x128 .bf16 :=
  fun y => x (ix2 (y 0) ⟨128 * k.val + (y 1).val, by have := (y 1).isLt; change (y 1).val < 128 at this; omega⟩)

/-- One key head's columns of a block of keys or values. -/
def kCols (x : Vec Ideal S128x256 .bf16) (k : Fin 2) : V S128x128 .bf16 :=
  fun y => x (ix2 (y 0) ⟨128 * k.val + (y 1).val, by have := (y 1).isLt; change (y 1).val < 128 at this; omega⟩)

theorem ld_q (x : Vec Ideal S128x1024 .bf16) (k : Fin 8) (o : Fin 2 → ℕ) (ho : o = ![0, 128 * k.val])
    (inb : ∀ a, o a + (![128, 128] : Fin 2 → ℕ) a ≤ S128x1024.size a) :
    View.ld (Val := Elt Ideal) x (Rect.unit (s := S128x1024) o ![128, 128] inb) = qCols x k := by
  subst ho
  funext y
  exact View.ld_unit_apply_of (Val := Elt Ideal) x _ _ inb y _ fun a => by fin_cases a <;> simp [ix2]

theorem ld_k (x : Vec Ideal S128x256 .bf16) (k : Fin 2) (o : Fin 2 → ℕ) (ho : o = ![0, 128 * k.val])
    (inb : ∀ a, o a + (![128, 128] : Fin 2 → ℕ) a ≤ S128x256.size a) :
    View.ld (Val := Elt Ideal) x (Rect.unit (s := S128x256) o ![128, 128] inb) = kCols x k := by
  subst ho
  funext y
  exact View.ld_unit_apply_of (Val := Elt Ideal) x _ _ inb y _ fun a => by fin_cases a <;> simp [ix2]

/-- A sink, as it is loaded. -/
def sinkOf (x : Vec Ideal S8 .f32) (k : ℕ) (inb : ∀ a, (![k] : Fin 1 → ℕ) a + S1.size a ≤ S8.size a) : EReal :=
  View.ld (Val := Elt Ideal) x (Rect.unit (s := S8) ![k] S1.size inb) (Shape.Idx.first (s := S1) (by decide))

theorem sinkOf_eq (x : Vec Ideal S8 .f32) (k : Fin 8) (inb : ∀ a, (![k.val] : Fin 1 → ℕ) a + S1.size a ≤ S8.size a) :
    sinkOf x k.val inb = x (ix1 k) := by
  unfold sinkOf
  refine View.ld_unit_apply_of (Val := Elt Ideal) x _ _ inb _ _ fun a => ?_
  have hz : a = 0 := Subsingleton.elim _ _
  subst hz
  refine Eq.trans ?_ (congrArg (k.val + ·)
    (Nat.lt_one_iff.mp (Shape.Idx.first (s := S1) (by decide) 0).isLt).symm)
  simp [ix1]

theorem hz3 : (![0, 0, 0] : Fin 3 → Nat) = fun _ => 0 := funext fun a => by fin_cases a <;> rfl

/-- A key head's four stacked outputs, from its queries, keys, values and sinks and the biases. -/
def headsOut (q : Fin 4 → V S128x128 .bf16) (k w : Fin 3 → V S128x128 .bf16) (z : Fin 4 → EReal) (b : V S1x512x384 .f32) :
    V S512x128 .bf16 :=
  k0_pay17 (k0_pay7 (F := Ideal) (w 0) (w 1) (w 2)) (k0_pay9 (F := Ideal) (z 0) (z 1) (z 2) (z 3))
    (k0_pay15 (k0_pay5 b) (k0_pay6 (F := Ideal) (q 0) (q 1) (q 2) (q 3)) (k0_pay7 (F := Ideal) (k 0) (k 1) (k 2))
      (k0_pay9 (F := Ideal) (z 0) (z 1) (z 2) (z 3)))
    (k0_pay16 (k0_pay5 b) (k0_pay6 (F := Ideal) (q 0) (q 1) (q 2) (q 3)) (k0_pay7 (F := Ideal) (k 0) (k 1) (k 2))
      (k0_pay9 (F := Ideal) (z 0) (z 1) (z 2) (z 3)))

/-- What a grid point stores of a key head. -/
def out0 (x0 : Vec Ideal S8 .f32) (x1 : Vec Ideal S1x512x384 .f32) (x2 : Vec Ideal S128x1024 .bf16)
    (x3 x4 x5 x6 x7 x8 : Vec Ideal S128x256 .bf16) : V S512x128 .bf16 :=
  headsOut ![qCols x2 0, qCols x2 1, qCols x2 2, qCols x2 3] ![kCols x3 0, kCols x4 0, kCols x5 0]
    ![kCols x6 0, kCols x7 0, kCols x8 0]
    ![sinkOf x0 0 inb_S8_S1_0, sinkOf x0 1 inb_S8_S1_1, sinkOf x0 2 inb_S8_S1_2, sinkOf x0 3 inb_S8_S1_3] x1

def out1 (x0 : Vec Ideal S8 .f32) (x1 : Vec Ideal S1x512x384 .f32) (x2 : Vec Ideal S128x1024 .bf16)
    (x3 x4 x5 x6 x7 x8 : Vec Ideal S128x256 .bf16) : V S512x128 .bf16 :=
  headsOut ![qCols x2 4, qCols x2 5, qCols x2 6, qCols x2 7] ![kCols x3 1, kCols x4 1, kCols x5 1]
    ![kCols x6 1, kCols x7 1, kCols x8 1]
    ![sinkOf x0 4 inb_S8_S1_4, sinkOf x0 5 inb_S8_S1_5, sinkOf x0 6 inb_S8_S1_6, sinkOf x0 7 inb_S8_S1_7] x1

/-- The eight heads' blocks of columns. -/
abbrev pieces (p : Fin 8 → V S128x128 .bf16) : List (View.Piece (Elt Ideal) S128x1024 .bf16) :=
  [⟨Rect.unit ![0, 896] ![128, 128] inb_S128x1024_S128x128_0_896, p 7⟩,
   ⟨Rect.unit ![0, 768] ![128, 128] inb_S128x1024_S128x128_0_768, p 6⟩,
   ⟨Rect.unit ![0, 640] ![128, 128] inb_S128x1024_S128x128_0_640, p 5⟩,
   ⟨Rect.unit ![0, 512] ![128, 128] inb_S128x1024_S128x128_0_512, p 4⟩,
   ⟨Rect.unit ![0, 384] ![128, 128] inb_S128x1024_S128x128_0_384, p 3⟩,
   ⟨Rect.unit ![0, 256] ![128, 128] inb_S128x1024_S128x128_0_256, p 2⟩,
   ⟨Rect.unit ![0, 128] ![128, 128] inb_S128x1024_S128x128_0_128, p 1⟩,
   ⟨Rect.unit ![0, 0] ![128, 128] inb_S128x1024_S128x128_0_0, p 0⟩]

section
variable (c : Dev nD) (i : grid0.Coords) (arg1 : Memref sig .tc .smem S8 .f32) (harg1 : arg1.IsWhole) (arg2 : Memref sig .tc .vmem S1x512x384 .f32) (harg2 : arg2.IsWhole) (arg3 : Memref sig .tc .vmem S128x1024 .bf16) (harg3 : arg3.IsWhole) (arg4 : Memref sig .tc .vmem S128x256 .bf16) (harg4 : arg4.IsWhole) (arg5 : Memref sig .tc .vmem S128x256 .bf16) (harg5 : arg5.IsWhole) (arg6 : Memref sig .tc .vmem S128x256 .bf16) (harg6 : arg6.IsWhole) (arg7 : Memref sig .tc .vmem S128x256 .bf16) (harg7 : arg7.IsWhole) (arg8 : Memref sig .tc .vmem S128x256 .bf16) (harg8 : arg8.IsWhole) (arg9 : Memref sig .tc .vmem S128x256 .bf16) (harg9 : arg9.IsWhole) (arg10 : Memref sig .tc .vmem S128x1024 .bf16) (harg10 : arg10.IsWhole)
    (x0 : Vec Ideal S8 .f32) (x1 : Vec Ideal S1x512x384 .f32) (x2 : Vec Ideal S128x1024 .bf16)
    (x3 x4 x5 x6 x7 x8 : Vec Ideal S128x256 .bf16)

theorem store_9 : out0_A_9 c i arg1 harg1 arg2 harg2 arg3 harg3 arg4 harg4 arg5 harg5 arg6 harg6 arg7 harg7 arg8 harg8 arg9 harg9 arg10 harg10 x0 x1 x2 x3 x4 x5 x6 x7 x8 =
    View.canon (Val := Elt Ideal) (s := S128x1024) (e := .bf16) (pieces
      ![k0_pay1 (out0 x0 x1 x2 x3 x4 x5 x6 x7 x8), k0_pay2 (out0 x0 x1 x2 x3 x4 x5 x6 x7 x8), k0_pay3 (out0 x0 x1 x2 x3 x4 x5 x6 x7 x8), k0_pay4 (out0 x0 x1 x2 x3 x4 x5 x6 x7 x8),
        k0_pay1 (out1 x0 x1 x2 x3 x4 x5 x6 x7 x8), k0_pay2 (out1 x0 x1 x2 x3 x4 x5 x6 x7 x8), k0_pay3 (out1 x0 x1 x2 x3 x4 x5 x6 x7 x8), k0_pay4 (out1 x0 x1 x2 x3 x4 x5 x6 x7 x8)]) := by
  unfold out0_A_9
  rw [View.read_writes_eq_canon _ _ _ (cover0_A_9 c i arg1 harg1 arg2 harg2 arg3 harg3 arg4 harg4 arg5 harg5 arg6 harg6 arg7 harg7 arg8 harg8 arg9 harg9 arg10 harg10 x0 x1 x2 x3 x4 x5 x6 x7 x8)]
  unfold kernelRun0_A
  dsimp only
  sl_unfold_words
  simp only [View.readAt_eq_ld, harg1.read_unread, harg2.read_unread, harg3.read_unread, harg4.read_unread, harg5.read_unread, harg6.read_unread, harg7.read_unread, harg8.read_unread, harg9.read_unread, harg10.read_unread, View.ld_unit_zero (S := S1x512x384) hz3,
    ld_q x2 0 ![0, 0] rfl, ld_q x2 1 ![0, 128] rfl, ld_q x2 2 ![0, 256] rfl, ld_q x2 3 ![0, 384] rfl,
    ld_q x2 4 ![0, 512] rfl, ld_q x2 5 ![0, 640] rfl, ld_q x2 6 ![0, 768] rfl, ld_q x2 7 ![0, 896] rfl,
    ld_k x3 0 ![0, 0] rfl, ld_k x3 1 ![0, 128] rfl,
    ld_k x4 0 ![0, 0] rfl, ld_k x4 1 ![0, 128] rfl,
    ld_k x5 0 ![0, 0] rfl, ld_k x5 1 ![0, 128] rfl,
    ld_k x6 0 ![0, 0] rfl, ld_k x6 1 ![0, 128] rfl,
    ld_k x7 0 ![0, 0] rfl, ld_k x7 1 ![0, 128] rfl,
    ld_k x8 0 ![0, 0] rfl, ld_k x8 1 ![0, 128] rfl,
    pay8_eq, pay10_eq, pay11_eq, pay12_eq, pay13_eq, pay18_eq, pay19_eq, pay20_eq, pay21_eq, pay22_eq]
  rfl
end

theorem canon_heads (p : Fin 8 → V S128x128 .bf16) (i d : Fin 128) (g : Fin 8) :
    View.canon (Val := Elt Ideal) (s := S128x1024) (e := .bf16) (pieces p)
      (ix2 i ⟨128 * g.val + d.val, by omega⟩) = p g (ix2 i d) := by
  have hG := View.canon_apply_of_pieces (Val := Elt Ideal) (S := S128x1024) (e := .bf16)
    (fun y => p ⟨(y 1).val / 128, by have := (y 1).isLt; change (y 1).val < 1024 at this; omega⟩
      (ix2 (y 0) ⟨(y 1).val % 128, by omega⟩))
    (pieces p) ?_
    (ix2 i ⟨128 * g.val + d.val, by omega⟩) ?_
  · rw [hG]
    have e0 : (⟨(128 * g.val + d.val) / 128, by omega⟩ : Fin 8) = g := Fin.ext (by show (128 * g.val + d.val) / 128 = g.val; omega)
    have e1 : (⟨(128 * g.val + d.val) % 128, by omega⟩ : Fin 128) = d := Fin.ext (by show (128 * g.val + d.val) % 128 = d.val; omega)
    show p (⟨(128 * g.val + d.val) / 128, _⟩ : Fin 8) (ix2 i (⟨(128 * g.val + d.val) % 128, _⟩ : Fin 128)) = p g (ix2 i d)
    rw [e0, e1]
  · have key : ∀ (k : Fin 8) (x : S128x128.Idx) (e : S128x1024.Idx), (e 0).val = (x 0).val → (e 1).val = 128 * k.val + (x 1).val →
        p k x = p ⟨(e 1).val / 128, by have := (e 1).isLt; change (e 1).val < 1024 at this; omega⟩
          (ix2 (e 0) ⟨(e 1).val % 128, by omega⟩) := by
      intro k x e h0 h1
      have hx : (x 1).val < 128 := (x 1).isLt
      have hk : (⟨(e 1).val / 128, by have := (e 1).isLt; change (e 1).val < 1024 at this; omega⟩ : Fin 8) = k :=
        Fin.ext (by show (e 1).val / 128 = k.val; omega)
      rw [hk]
      refine congrArg (p k) ?_
      funext a
      match a with
      | ⟨0, _⟩ => exact Fin.ext h0.symm
      | ⟨1, _⟩ => exact Fin.ext (by show (x 1).val = (e 1).val % 128; omega)
    intro q hq x
    simp only [pieces, List.mem_cons, List.not_mem_nil, or_false] at hq
    rcases hq with rfl | rfl | rfl | rfl | rfl | rfl | rfl | rfl
    · exact key 7 x _ (by show 0 + 1 * (x 0).val = (x 0).val; omega) (by show 896 + 1 * (x 1).val = 128 * 7 + (x 1).val; omega)
    · exact key 6 x _ (by show 0 + 1 * (x 0).val = (x 0).val; omega) (by show 768 + 1 * (x 1).val = 128 * 6 + (x 1).val; omega)
    · exact key 5 x _ (by show 0 + 1 * (x 0).val = (x 0).val; omega) (by show 640 + 1 * (x 1).val = 128 * 5 + (x 1).val; omega)
    · exact key 4 x _ (by show 0 + 1 * (x 0).val = (x 0).val; omega) (by show 512 + 1 * (x 1).val = 128 * 4 + (x 1).val; omega)
    · exact key 3 x _ (by show 0 + 1 * (x 0).val = (x 0).val; omega) (by show 384 + 1 * (x 1).val = 128 * 3 + (x 1).val; omega)
    · exact key 2 x _ (by show 0 + 1 * (x 0).val = (x 0).val; omega) (by show 256 + 1 * (x 1).val = 128 * 2 + (x 1).val; omega)
    · exact key 1 x _ (by show 0 + 1 * (x 0).val = (x 0).val; omega) (by show 128 + 1 * (x 1).val = 128 * 1 + (x 1).val; omega)
    · exact key 0 x _ (by show 0 + 1 * (x 0).val = (x 0).val; omega) (by show 0 + 1 * (x 1).val = 128 * 0 + (x 1).val; omega)
  · have mem : ∀ (o : Fin 2 → ℕ) (inb : ∀ a, o a + (![128, 128] : Fin 2 → ℕ) a ≤ S128x1024.size a), o 0 = 0 → o 1 = 128 * g.val →
        (ix2 i ⟨128 * g.val + d.val, by omega⟩ : S128x1024.Idx) ∈ (Rect.unit (s := S128x1024) o ![128, 128] inb).set := by
      intro o inb h0 h1
      rw [Rect.mem_set_unit]
      intro a
      match a with
      | ⟨0, _⟩ => show o 0 ≤ i.val ∧ i.val < o 0 + 128; omega
      | ⟨1, _⟩ => show o 1 ≤ 128 * g.val + d.val ∧ 128 * g.val + d.val < o 1 + 128; omega
    fin_cases g
    · exact ⟨_, (List.mem_cons_of_mem _ (List.mem_cons_of_mem _ (List.mem_cons_of_mem _ (List.mem_cons_of_mem _ (List.mem_cons_of_mem _ (List.mem_cons_of_mem _ (List.mem_cons_of_mem _ List.mem_cons_self))))))), mem _ inb_S128x1024_S128x128_0_0 rfl rfl⟩
    · exact ⟨_, (List.mem_cons_of_mem _ (List.mem_cons_of_mem _ (List.mem_cons_of_mem _ (List.mem_cons_of_mem _ (List.mem_cons_of_mem _ (List.mem_cons_of_mem _ List.mem_cons_self)))))), mem _ inb_S128x1024_S128x128_0_128 rfl rfl⟩
    · exact ⟨_, (List.mem_cons_of_mem _ (List.mem_cons_of_mem _ (List.mem_cons_of_mem _ (List.mem_cons_of_mem _ (List.mem_cons_of_mem _ List.mem_cons_self))))), mem _ inb_S128x1024_S128x128_0_256 rfl rfl⟩
    · exact ⟨_, (List.mem_cons_of_mem _ (List.mem_cons_of_mem _ (List.mem_cons_of_mem _ (List.mem_cons_of_mem _ List.mem_cons_self)))), mem _ inb_S128x1024_S128x128_0_384 rfl rfl⟩
    · exact ⟨_, (List.mem_cons_of_mem _ (List.mem_cons_of_mem _ (List.mem_cons_of_mem _ List.mem_cons_self))), mem _ inb_S128x1024_S128x128_0_512 rfl rfl⟩
    · exact ⟨_, (List.mem_cons_of_mem _ (List.mem_cons_of_mem _ List.mem_cons_self)), mem _ inb_S128x1024_S128x128_0_640 rfl rfl⟩
    · exact ⟨_, (List.mem_cons_of_mem _ List.mem_cons_self), mem _ inb_S128x1024_S128x128_0_768 rfl rfl⟩
    · exact ⟨_, List.mem_cons_self, mem _ inb_S128x1024_S128x128_0_896 rfl rfl⟩

end Cert.Attn.Fwd

end
-- ==== Proof.Attend.lean ====
/-
  One row of the attention's output: the probabilities times the values of the window.

  A position outside the sequence is hidden, but a clamped block puts values there that the sequence does have. They
  have no effect. Where the row's denominator is not zero, a hidden position has the probability zero. Where it is
  zero, every probability is `0 / 0 = ⊥`, and a sum of `⊥ * x` only asks which signs occur.
-/
module

public import proofs.«01_k».proof.Proof.Problem

@[expose] public section

noncomputable section

namespace Cert.Attn

open Idealize.ShloMosaic

theorem exp_nonneg (x : EReal) : 0 ≤ Ideal.exp x := by
  induction x with
  | bot => rw [Ideal.exp_bot]
  | top => exact le_top
  | coe x => exact EReal.coe_nonneg.2 (Real.exp_pos x).le

/-- Without weights every weight is zero. -/
theorem rowExp_of_rowSum {n : ℕ} (s : Fin n → EReal) (sk : EReal) (h : rowSum s sk = 0) (j : Fin n) :
    rowExp s sk j = 0 := by
  have h0 : ∀ j ∈ Finset.univ, 0 ≤ rowExp s sk j := fun j _ => exp_nonneg _
  have hs : ∑ j, rowExp s sk j = 0 :=
    le_antisymm (h ▸ (le_add_of_nonneg_right (exp_nonneg _))) (Finset.sum_nonneg h0)
  exact (Finset.sum_eq_zero_iff_of_nonneg h0).1 hs j (Finset.mem_univ j)

theorem sum_bot {n : ℕ} (f : Fin n → EReal) (j : Fin n) (h : f j = ⊥) : ∑ j, f j = ⊥ := by
  rw [← Finset.add_sum_erase _ _ (Finset.mem_univ j), h, EReal.bot_add]

theorem sum_top {n : ℕ} (f : Fin n → EReal) (h0 : ∀ j, 0 ≤ f j) (j : Fin n) (h : f j = ⊤) : ∑ j, f j = ⊤ := by
  rw [← Finset.add_sum_erase _ _ (Finset.mem_univ j), h]
  refine EReal.top_add_of_ne_bot fun hb => ?_
  have := Finset.sum_nonneg (s := Finset.univ.erase j) fun i _ => h0 i
  rw [hb] at this
  simp at this

/-- A sum of `⊥ * x` by the signs that occur. -/
theorem sum_bot_mul {n : ℕ} (x : Fin n → EReal) :
    ∑ j, ⊥ * x j = if ∃ j, 0 < x j then ⊥ else if ∃ j, x j < 0 then ⊤ else 0 := by
  by_cases hp : ∃ j, 0 < x j
  · rw [if_pos hp]
    obtain ⟨j, hj⟩ := hp
    exact sum_bot _ j (EReal.bot_mul_of_pos hj)
  · rw [if_neg hp]
    push Not at hp
    by_cases hn : ∃ j, x j < 0
    · rw [if_pos hn]
      obtain ⟨j, hj⟩ := hn
      refine sum_top _ (fun i => ?_) j (EReal.bot_mul_of_neg hj)
      rcases (hp i).lt_or_eq with h | h
      · rw [EReal.bot_mul_of_neg h]
        exact le_top
      · rw [h, mul_zero]
    · rw [if_neg hn]
      push Not at hn
      refine Finset.sum_eq_zero fun i _ => ?_
      rw [le_antisymm (hp i) (hn i), mul_zero]

section
variable (Q : Mat 4096 1024) (K W : Mat 4096 256) (S : (⟨1, ![8]⟩ : Shape).Idx → EReal)
variable (n : Fin 32) (h : Fin 2) (g : Fin 4) (i : Fin 128)

/-- The output of a head at a position. -/
def outOf (d : Fin 128) : EReal := ∑ j : Fin 384, probOf Q K S n h g i j * windowAt n h j W d

def outArr : Mat 4096 1024 := fun y =>
  outOf Q K W S ⟨(y 0).val / 128, by have := (y 0).isLt; simp at this; omega⟩
    ⟨(y 1).val / 512, by have := (y 1).isLt; simp at this; omega⟩
    ⟨(y 1).val % 512 / 128, by omega⟩ ⟨(y 0).val % 128, by omega⟩ ⟨(y 1).val % 128, by omega⟩

theorem outArr_at (d : Fin 128) :
    outArr Q K W S (ix2 (rowAt n i) (colAt h g d)) = outOf Q K W S n h g i d := by
  unfold outArr
  congr 1 <;> apply Fin.ext <;> simp <;> omega

/-- The output doesn't depend on what stands outside the sequence, where it is a copy of something inside. -/
theorem outOf_eq (d : Fin 128) (v : Fin 384 → EReal)
    (hv : ∀ j : Fin 384, 128 ≤ n.val * 128 + j.val ∧ n.val * 128 + j.val < 4224 → v j = windowAt n h j W d)
    (ho : ∀ j : Fin 384, ¬(128 ≤ n.val * 128 + j.val ∧ n.val * 128 + j.val < 4224) →
      ∃ k : Fin 384, v j = windowAt n h k W d) :
    ∑ j, probOf Q K S n h g i j * v j = outOf Q K W S n h g i d := by
  unfold outOf
  by_cases hz : rowSum (fun j => score n h g i j Q K) (sinkAt h g S) = 0
  · have hb : ∀ j, probOf Q K S n h g i j = ⊥ := by
      intro j
      unfold probOf rowProb
      rw [rowExp_of_rowSum _ _ hz, hz]
      simp [Ideal.div]
    have hany : ∀ p : EReal → Prop, ¬p 0 → ((∃ j, p (v j)) ↔ ∃ j, p (windowAt n h j W d)) := by
      intro p hp
      constructor
      · rintro ⟨j, hj⟩
        by_cases hin : 128 ≤ n.val * 128 + j.val ∧ n.val * 128 + j.val < 4224
        · exact ⟨j, hv j hin ▸ hj⟩
        · obtain ⟨k, hk⟩ := ho j hin
          exact ⟨k, hk ▸ hj⟩
      · rintro ⟨j, hj⟩
        by_cases hin : 128 ≤ n.val * 128 + j.val ∧ n.val * 128 + j.val < 4224
        · exact ⟨j, (hv j hin).symm ▸ hj⟩
        · rw [windowAt_outside n h j hin] at hj
          exact absurd hj hp
    simp only [hb]
    rw [sum_bot_mul, sum_bot_mul, if_congr (hany (fun x => 0 < x) (lt_irrefl _)) rfl rfl,
      if_congr (hany (fun x => x < 0) (lt_irrefl _)) rfl rfl]
  · refine Finset.sum_congr rfl fun j _ => ?_
    by_cases hs : Seen n i j
    · rw [hv j hs.2]
    · have h0 : probOf Q K S n h g i j = 0 := by
        unfold probOf rowProb
        rw [rowExp_hidden _ _ _ (if_neg hs), Ideal.div, if_neg hz, zero_mul]
      rw [h0, zero_mul, zero_mul]
end

end Cert.Attn

end
-- ==== Proof.Fwd.lean ====
/-
  The attention's forward pass: the kernel's output is the problem's.
-/
module

public import proofs.«01_k».proof.Proof.FwdStore
public import proofs.«01_k».proof.Proof.Attend
public import proofs.«01_k».proof.Proof.Blocks
public import Idealize.ShloMosaic.Lib.Pipeline.ValueKit.Tiles

@[expose] public section

set_option maxRecDepth 16384
set_option maxHeartbeats 1000000

noncomputable section

namespace Cert.Attn.Fwd

open Idealize.ShloMosaic Idealize.ShloMosaic.TcCoe Idealize.ShloMosaic.Pipeline Cert.AttnFwdIdeal Cert.AttnFwdIdeal.Gen

theorem lt32 (t : Fin cfg0.N) : t.val < 32 := lt_of_lt_of_eq t.isLt N_0

/-- The block of a grid point. -/
def blAt (t : Fin cfg0.N) : Fin 32 := ⟨t.val, lt32 t⟩

theorem at0 : ∀ t : Fin cfg0.N, win0_0.index t (0 : Fin 1) = 0 := (by decide +kernel : ∀ t : Fin grid0.N, _)
theorem at1 : ∀ t : Fin cfg0.N, win0_1.index t (0 : Fin 3) = (edge (blAt t)).val ∧ win0_1.index t (1 : Fin 3) = 0 ∧ win0_1.index t (2 : Fin 3) = 0 := (by decide +kernel : ∀ t : Fin grid0.N, _)
theorem at2 : ∀ t : Fin cfg0.N, win0_2.index t (0 : Fin 2) = t.val ∧ win0_2.index t (1 : Fin 2) = 0 := (by decide +kernel : ∀ t : Fin grid0.N, _)
theorem at3 : ∀ t : Fin cfg0.N, win0_3.index t (0 : Fin 2) = t.val - 1 ∧ win0_3.index t (1 : Fin 2) = 0 := (by decide +kernel : ∀ t : Fin grid0.N, _)
theorem at4 : ∀ t : Fin cfg0.N, win0_4.index t (0 : Fin 2) = t.val ∧ win0_4.index t (1 : Fin 2) = 0 := (by decide +kernel : ∀ t : Fin grid0.N, _)
theorem at5 : ∀ t : Fin cfg0.N, win0_5.index t (0 : Fin 2) = min (t.val + 1) 31 ∧ win0_5.index t (1 : Fin 2) = 0 := (by decide +kernel : ∀ t : Fin grid0.N, _)
theorem at6 : ∀ t : Fin cfg0.N, win0_6.index t (0 : Fin 2) = t.val - 1 ∧ win0_6.index t (1 : Fin 2) = 0 := (by decide +kernel : ∀ t : Fin grid0.N, _)
theorem at7 : ∀ t : Fin cfg0.N, win0_7.index t (0 : Fin 2) = t.val ∧ win0_7.index t (1 : Fin 2) = 0 := (by decide +kernel : ∀ t : Fin grid0.N, _)
theorem at8 : ∀ t : Fin cfg0.N, win0_8.index t (0 : Fin 2) = min (t.val + 1) 31 ∧ win0_8.index t (1 : Fin 2) = 0 := (by decide +kernel : ∀ t : Fin grid0.N, _)
theorem at9 : ∀ t : Fin cfg0.N, win0_9.index t (0 : Fin 2) = t.val ∧ win0_9.index t (1 : Fin 2) = 0 := (by decide +kernel : ∀ t : Fin grid0.N, _)

theorem bias_entry (m : (ℓ : Loc nD τ sig) → Buf (Elt Ideal) ℓ) (c : Dev nD) : Cert.AttnFwdIdeal.Gen.V m c main_v22 = biasArr := by
  dsimp only [Cert.AttnFwdIdeal.Gen.V, hostOps0, hostOps0_1, hostOps0_2, hostOps0_3, hostOps0_4, hostOps0_5, hostOps0_6, hostOps0_7]
  simp only [List.flatten_cons, List.flatten_nil, List.append_nil, List.cons_append, List.nil_append]
  after_results_simp
  rfl

section
variable (m : (ℓ : Loc nD τ sig) → Buf (Elt Ideal) ℓ) (c : Dev nD) (t : Fin cfg0.N)

/-- The argument arrays. -/
abbrev aQ : Mat 4096 1024 := m ((c : Thread nD τ).loc main_arg0)
abbrev aK : Mat 4096 256 := m ((c : Thread nD τ).loc main_arg1)
abbrev aV : Mat 4096 256 := m ((c : Thread nD τ).loc main_arg2)
abbrev aS : (⟨1, ![8]⟩ : Shape).Idx → EReal := m ((c : Thread nD τ).loc main_arg3)

abbrev X0 : Vec Ideal S8 .f32 := iblk m c 0 t
abbrev X1 : Vec Ideal S1x512x384 .f32 := iblk m c 1 t
abbrev X2 : Vec Ideal S128x1024 .bf16 := iblk m c 2 t
abbrev X3 : Vec Ideal S128x256 .bf16 := iblk m c 3 t
abbrev X4 : Vec Ideal S128x256 .bf16 := iblk m c 4 t
abbrev X5 : Vec Ideal S128x256 .bf16 := iblk m c 5 t
abbrev X6 : Vec Ideal S128x256 .bf16 := iblk m c 6 t
abbrev X7 : Vec Ideal S128x256 .bf16 := iblk m c 7 t
abbrev X8 : Vec Ideal S128x256 .bf16 := iblk m c 8 t

theorem X0_apply (g : Fin 8) : X0 m c t (ix1 g) = aS m c (ix1 g) := by
  have e0 := at0 t
  show Cert.AttnFwdIdeal.Gen.V m c main_arg3 (((cfg0.win 0).blk t).view.emb (ix1 g)) = _
  rw [V_main_arg3]
  refine congrArg (aS m c) (funext fun a => Fin.ext ?_)
  match a with
  | ⟨0, _⟩ => show win0_0.index t (0 : Fin 1) * 8 + 1 * g.val = g.val; omega

theorem X1_apply (r : Fin 512) (j : Fin 384) : X1 m c t (ix3 0 r j) = biasArr (ix3 (edge (blAt t)) r j) := by
  obtain ⟨e0, e1, e2⟩ := at1 t
  show Cert.AttnFwdIdeal.Gen.V m c main_v22 (((cfg0.win 1).blk t).view.emb (ix3 0 r j)) = _
  rw [bias_entry]
  refine congrArg biasArr (funext fun a => Fin.ext ?_)
  match a with
  | ⟨0, _⟩ => show win0_1.index t (0 : Fin 3) * 1 + 1 * 0 = (edge (blAt t)).val; omega
  | ⟨1, _⟩ => show win0_1.index t (1 : Fin 3) * 512 + 1 * r.val = r.val; omega
  | ⟨2, _⟩ => show win0_1.index t (2 : Fin 3) * 384 + 1 * j.val = j.val; omega

theorem X2_apply (i : Fin 128) (d : Fin 1024) : X2 m c t (ix2 i d) = aQ m c (ix2 ⟨t.val * 128 + i.val, by have := lt32 t; omega⟩ d) := by
  obtain ⟨e0, e1⟩ := at2 t
  show Cert.AttnFwdIdeal.Gen.V m c main_arg0 (((cfg0.win 2).blk t).view.emb (ix2 i d)) = _
  rw [V_main_arg0]
  refine congrArg (aQ m c) (funext fun a => Fin.ext ?_)
  match a with
  | ⟨0, _⟩ => show win0_2.index t (0 : Fin 2) * 128 + 1 * i.val = _ * 128 + i.val; rw [e0, one_mul]
  | ⟨1, _⟩ => show win0_2.index t (1 : Fin 2) * 1024 + 1 * d.val = d.val; omega

theorem X3_apply (i : Fin 128) (d : Fin 256) : X3 m c t (ix2 i d) = aK m c (ix2 ⟨(t.val - 1) * 128 + i.val, by have := lt32 t; omega⟩ d) := by
  obtain ⟨e0, e1⟩ := at3 t
  show Cert.AttnFwdIdeal.Gen.V m c main_arg1 (((cfg0.win 3).blk t).view.emb (ix2 i d)) = _
  rw [V_main_arg1]
  refine congrArg (aK m c) (funext fun a => Fin.ext ?_)
  match a with
  | ⟨0, _⟩ => show win0_3.index t (0 : Fin 2) * 128 + 1 * i.val = _ * 128 + i.val; rw [e0, one_mul]
  | ⟨1, _⟩ => show win0_3.index t (1 : Fin 2) * 256 + 1 * d.val = d.val; omega

theorem X4_apply (i : Fin 128) (d : Fin 256) : X4 m c t (ix2 i d) = aK m c (ix2 ⟨t.val * 128 + i.val, by have := lt32 t; omega⟩ d) := by
  obtain ⟨e0, e1⟩ := at4 t
  show Cert.AttnFwdIdeal.Gen.V m c main_arg1 (((cfg0.win 4).blk t).view.emb (ix2 i d)) = _
  rw [V_main_arg1]
  refine congrArg (aK m c) (funext fun a => Fin.ext ?_)
  match a with
  | ⟨0, _⟩ => show win0_4.index t (0 : Fin 2) * 128 + 1 * i.val = _ * 128 + i.val; rw [e0, one_mul]
  | ⟨1, _⟩ => show win0_4.index t (1 : Fin 2) * 256 + 1 * d.val = d.val; omega

theorem X5_apply (i : Fin 128) (d : Fin 256) : X5 m c t (ix2 i d) = aK m c (ix2 ⟨min (t.val + 1) 31 * 128 + i.val, by have := lt32 t; omega⟩ d) := by
  obtain ⟨e0, e1⟩ := at5 t
  show Cert.AttnFwdIdeal.Gen.V m c main_arg1 (((cfg0.win 5).blk t).view.emb (ix2 i d)) = _
  rw [V_main_arg1]
  refine congrArg (aK m c) (funext fun a => Fin.ext ?_)
  match a with
  | ⟨0, _⟩ => show win0_5.index t (0 : Fin 2) * 128 + 1 * i.val = _ * 128 + i.val; rw [e0, one_mul]
  | ⟨1, _⟩ => show win0_5.index t (1 : Fin 2) * 256 + 1 * d.val = d.val; omega

theorem X6_apply (i : Fin 128) (d : Fin 256) : X6 m c t (ix2 i d) = aV m c (ix2 ⟨(t.val - 1) * 128 + i.val, by have := lt32 t; omega⟩ d) := by
  obtain ⟨e0, e1⟩ := at6 t
  show Cert.AttnFwdIdeal.Gen.V m c main_arg2 (((cfg0.win 6).blk t).view.emb (ix2 i d)) = _
  rw [V_main_arg2]
  refine congrArg (aV m c) (funext fun a => Fin.ext ?_)
  match a with
  | ⟨0, _⟩ => show win0_6.index t (0 : Fin 2) * 128 + 1 * i.val = _ * 128 + i.val; rw [e0, one_mul]
  | ⟨1, _⟩ => show win0_6.index t (1 : Fin 2) * 256 + 1 * d.val = d.val; omega

theorem X7_apply (i : Fin 128) (d : Fin 256) : X7 m c t (ix2 i d) = aV m c (ix2 ⟨t.val * 128 + i.val, by have := lt32 t; omega⟩ d) := by
  obtain ⟨e0, e1⟩ := at7 t
  show Cert.AttnFwdIdeal.Gen.V m c main_arg2 (((cfg0.win 7).blk t).view.emb (ix2 i d)) = _
  rw [V_main_arg2]
  refine congrArg (aV m c) (funext fun a => Fin.ext ?_)
  match a with
  | ⟨0, _⟩ => show win0_7.index t (0 : Fin 2) * 128 + 1 * i.val = _ * 128 + i.val; rw [e0, one_mul]
  | ⟨1, _⟩ => show win0_7.index t (1 : Fin 2) * 256 + 1 * d.val = d.val; omega

theorem X8_apply (i : Fin 128) (d : Fin 256) : X8 m c t (ix2 i d) = aV m c (ix2 ⟨min (t.val + 1) 31 * 128 + i.val, by have := lt32 t; omega⟩ d) := by
  obtain ⟨e0, e1⟩ := at8 t
  show Cert.AttnFwdIdeal.Gen.V m c main_arg2 (((cfg0.win 8).blk t).view.emb (ix2 i d)) = _
  rw [V_main_arg2]
  refine congrArg (aV m c) (funext fun a => Fin.ext ?_)
  match a with
  | ⟨0, _⟩ => show win0_8.index t (0 : Fin 2) * 128 + 1 * i.val = _ * 128 + i.val; rw [e0, one_mul]
  | ⟨1, _⟩ => show win0_8.index t (1 : Fin 2) * 256 + 1 * d.val = d.val; omega
end

/-- A window built from three blocks of an array, where it lies inside the sequence. -/
theorem inside_of (K : Mat 4096 256) (n : Fin 32) (h : Fin 2) (b : Fin 3 → V S128x128 .bf16)
    (h0 : ∀ i d : Fin 128, (b 0 (ix2 i d) : EReal) = K (ix2 ⟨(n.val - 1) * 128 + i.val, by omega⟩ ⟨h.val * 128 + d.val, by omega⟩))
    (h1 : ∀ i d : Fin 128, (b 1 (ix2 i d) : EReal) = K (ix2 ⟨n.val * 128 + i.val, by omega⟩ ⟨h.val * 128 + d.val, by omega⟩))
    (h2 : ∀ i d : Fin 128, (b 2 (ix2 i d) : EReal) = K (ix2 ⟨min (n.val + 1) 31 * 128 + i.val, by omega⟩ ⟨h.val * 128 + d.val, by omega⟩))
    (j : Fin 384) (d : Fin 128) (hj : 128 ≤ n.val * 128 + j.val ∧ n.val * 128 + j.val < 4224) :
    (k0_pay7 (F := Ideal) (b 0) (b 1) (b 2) (ix2 j d) : EReal) = windowAt n h j K d := by
  rw [windowAt_inside _ _ _ hj]
  obtain ⟨p, i, rfl⟩ := window_index j
  refine (pay7_apply b p i d).trans ?_
  match p with
  | ⟨0, _⟩ => exact (h0 i d).trans (congrArg (fun k => K (ix2 k _)) (Fin.ext (by
      show (n.val - 1) * 128 + i.val = n.val * 128 + (128 * 0 + i.val) - 128
      change 128 ≤ n.val * 128 + (128 * 0 + i.val) ∧ _ at hj
      omega)))
  | ⟨1, _⟩ => exact (h1 i d).trans (congrArg (fun k => K (ix2 k _)) (Fin.ext (by
      show n.val * 128 + i.val = n.val * 128 + (128 * 1 + i.val) - 128
      omega)))
  | ⟨2, _⟩ => exact (h2 i d).trans (congrArg (fun k => K (ix2 k _)) (Fin.ext (by
      show min (n.val + 1) 31 * 128 + i.val = n.val * 128 + (128 * 2 + i.val) - 128
      change _ ∧ n.val * 128 + (128 * 2 + i.val) < 4224 at hj
      omega)))

/-- Outside the sequence it repeats the block at the edge, which the window has too. -/
theorem outside_of (K : Mat 4096 256) (n : Fin 32) (h : Fin 2) (b : Fin 3 → V S128x128 .bf16)
    (h0 : ∀ i d : Fin 128, (b 0 (ix2 i d) : EReal) = K (ix2 ⟨(n.val - 1) * 128 + i.val, by omega⟩ ⟨h.val * 128 + d.val, by omega⟩))
    (h2 : ∀ i d : Fin 128, (b 2 (ix2 i d) : EReal) = K (ix2 ⟨min (n.val + 1) 31 * 128 + i.val, by omega⟩ ⟨h.val * 128 + d.val, by omega⟩))
    (j : Fin 384) (d : Fin 128) (hj : ¬(128 ≤ n.val * 128 + j.val ∧ n.val * 128 + j.val < 4224)) :
    ∃ k : Fin 384, (k0_pay7 (F := Ideal) (b 0) (b 1) (b 2) (ix2 j d) : EReal) = windowAt n h k K d := by
  obtain ⟨p, i, rfl⟩ := window_index j
  refine ⟨⟨128 + i.val, by omega⟩, ?_⟩
  have hk : 128 ≤ n.val * 128 + (128 + i.val) ∧ n.val * 128 + (128 + i.val) < 4224 := by omega
  rw [windowAt_inside _ _ _ hk]
  refine (pay7_apply b p i d).trans ?_
  match p with
  | ⟨0, _⟩ => exact (h0 i d).trans (congrArg (fun k => K (ix2 k _)) (Fin.ext (by
      show (n.val - 1) * 128 + i.val = n.val * 128 + (128 + i.val) - 128
      change ¬(128 ≤ n.val * 128 + (128 * 0 + i.val) ∧ n.val * 128 + (128 * 0 + i.val) < 4224) at hj
      omega)))
  | ⟨1, _⟩ => exact absurd (show 128 ≤ n.val * 128 + (128 * 1 + i.val) ∧ n.val * 128 + (128 * 1 + i.val) < 4224 by omega) hj
  | ⟨2, _⟩ => exact (h2 i d).trans (congrArg (fun k => K (ix2 k _)) (Fin.ext (by
      show min (n.val + 1) 31 * 128 + i.val = n.val * 128 + (128 + i.val) - 128
      change ¬(128 ≤ n.val * 128 + (128 * 2 + i.val) ∧ n.val * 128 + (128 * 2 + i.val) < 4224) at hj
      omega)))

/-- A key head's stacked outputs. -/
theorem headsOut_apply (Q : Mat 4096 1024) (K W : Mat 4096 256) (S : (⟨1, ![8]⟩ : Shape).Idx → EReal) (n : Fin 32) (h : Fin 2)
    (q : Fin 4 → V S128x128 .bf16) (k w : Fin 3 → V S128x128 .bf16) (z : Fin 4 → EReal) (b : V S1x512x384 .f32)
    (hq : ∀ g i d, (q g (ix2 i d) : EReal) = headAt n h g i le_rfl Q d) (hz : ∀ g, z g = sinkAt h g S)
    (hb : ∀ r j, b (ix3 0 r j) = biasArr (ix3 (edge n) r j))
    (k0 : ∀ i d : Fin 128, (k 0 (ix2 i d) : EReal) = K (ix2 ⟨(n.val - 1) * 128 + i.val, by omega⟩ ⟨h.val * 128 + d.val, by omega⟩))
    (k1 : ∀ i d : Fin 128, (k 1 (ix2 i d) : EReal) = K (ix2 ⟨n.val * 128 + i.val, by omega⟩ ⟨h.val * 128 + d.val, by omega⟩))
    (k2 : ∀ i d : Fin 128, (k 2 (ix2 i d) : EReal) = K (ix2 ⟨min (n.val + 1) 31 * 128 + i.val, by omega⟩ ⟨h.val * 128 + d.val, by omega⟩))
    (w0 : ∀ i d : Fin 128, (w 0 (ix2 i d) : EReal) = W (ix2 ⟨(n.val - 1) * 128 + i.val, by omega⟩ ⟨h.val * 128 + d.val, by omega⟩))
    (w1 : ∀ i d : Fin 128, (w 1 (ix2 i d) : EReal) = W (ix2 ⟨n.val * 128 + i.val, by omega⟩ ⟨h.val * 128 + d.val, by omega⟩))
    (w2 : ∀ i d : Fin 128, (w 2 (ix2 i d) : EReal) = W (ix2 ⟨min (n.val + 1) 31 * 128 + i.val, by omega⟩ ⟨h.val * 128 + d.val, by omega⟩))
    (g : Fin 4) (i d : Fin 128) :
    (headsOut q k w z b (ix2 (rowOf g i) d) : EReal) = outOf Q K W S n h g i d := by
  unfold headsOut
  refine (pay17_apply _ _ _ _ _ (rowOf g i) d).trans ?_
  have hs : kScore (k0_pay5 b) (k0_pay6 (F := Ideal) (q 0) (q 1) (q 2) (q 3)) (k0_pay7 (F := Ideal) (k 0) (k 1) (k 2)) (rowOf g i)
      = fun j => score n h g i j Q K := by
    funext j
    unfold kScore score
    rw [pay5_apply, hb]
    refine (congrArg (_ + ·) (bias_seen n g i j)).trans ?_
    by_cases hs : Seen n i j
    · rw [if_pos hs, if_pos hs, add_zero]
      refine congrArg (· * scale) (Finset.sum_congr rfl fun d _ => ?_)
      rw [pay6_apply, hq, inside_of K n h k k0 k1 k2 j d hs.2, mul_comm]
    · rw [if_neg hs, if_neg hs, EReal.add_bot]
  rw [hs, pay9_apply, hz]
  exact outOf_eq Q K W S n h g i d _ (fun j hj => inside_of W n h w w0 w1 w2 j d hj)
    (fun j hj => outside_of W n h w w0 w2 j d hj)

section
variable (m : (ℓ : Loc nD τ sig) → Buf (Elt Ideal) ℓ) (c : Dev nD) (t : Fin cfg0.N)

theorem out0_apply (g : Fin 4) (i d : Fin 128) :
    (out0 (X0 m c t) (X1 m c t) (X2 m c t) (X3 m c t) (X4 m c t) (X5 m c t) (X6 m c t) (X7 m c t) (X8 m c t) (ix2 (rowOf g i) d) : EReal)
      = outOf (aQ m c) (aK m c) (aV m c) (aS m c) (blAt t) 0 g i d := by
  unfold out0
  refine headsOut_apply (aQ m c) (aK m c) (aV m c) (aS m c) (blAt t) 0 _ _ _ _ _ ?_ ?_ (fun r j => X1_apply m c t r j)
    (fun i d => (X3_apply m c t i _).trans (congrArg (fun k => aK m c (ix2 _ k)) (Fin.ext (by show 128 * 0 + d.val = 0 * 128 + d.val; omega))))
    (fun i d => (X4_apply m c t i _).trans (congrArg (fun k => aK m c (ix2 _ k)) (Fin.ext (by show 128 * 0 + d.val = 0 * 128 + d.val; omega))))
    (fun i d => (X5_apply m c t i _).trans (congrArg (fun k => aK m c (ix2 _ k)) (Fin.ext (by show 128 * 0 + d.val = 0 * 128 + d.val; omega))))
    (fun i d => (X6_apply m c t i _).trans (congrArg (fun k => aV m c (ix2 _ k)) (Fin.ext (by show 128 * 0 + d.val = 0 * 128 + d.val; omega))))
    (fun i d => (X7_apply m c t i _).trans (congrArg (fun k => aV m c (ix2 _ k)) (Fin.ext (by show 128 * 0 + d.val = 0 * 128 + d.val; omega))))
    (fun i d => (X8_apply m c t i _).trans (congrArg (fun k => aV m c (ix2 _ k)) (Fin.ext (by show 128 * 0 + d.val = 0 * 128 + d.val; omega))))
    g i d
  · intro g i d
    refine Eq.trans (b := aQ m c (ix2 ⟨t.val * 128 + i.val, by have := lt32 t; omega⟩ ⟨128 * (0 + g.val) + d.val, by omega⟩)) ?_ ?_
    · fin_cases g <;> exact X2_apply m c t i _
    · unfold headAt
      refine congrArg (fun k => aQ m c (ix2 _ k)) (Fin.ext ?_)
      show 128 * (0 + g.val) + d.val = 0 * 512 + g.val * 128 + d.val
      omega
  · intro g
    refine Eq.trans (b := aS m c (ix1 ⟨0 + g.val, by omega⟩)) ?_ ?_
    · fin_cases g
      · exact (sinkOf_eq (X0 m c t) 0 inb_S8_S1_0).trans (X0_apply m c t 0)
      · exact (sinkOf_eq (X0 m c t) 1 inb_S8_S1_1).trans (X0_apply m c t 1)
      · exact (sinkOf_eq (X0 m c t) 2 inb_S8_S1_2).trans (X0_apply m c t 2)
      · exact (sinkOf_eq (X0 m c t) 3 inb_S8_S1_3).trans (X0_apply m c t 3)
    · unfold sinkAt
      refine congrArg (fun k => aS m c (ix1 k)) (Fin.ext ?_)
      show 0 + g.val = 0 * 4 + g.val
      omega

theorem out1_apply (g : Fin 4) (i d : Fin 128) :
    (out1 (X0 m c t) (X1 m c t) (X2 m c t) (X3 m c t) (X4 m c t) (X5 m c t) (X6 m c t) (X7 m c t) (X8 m c t) (ix2 (rowOf g i) d) : EReal)
      = outOf (aQ m c) (aK m c) (aV m c) (aS m c) (blAt t) 1 g i d := by
  unfold out1
  refine headsOut_apply (aQ m c) (aK m c) (aV m c) (aS m c) (blAt t) 1 _ _ _ _ _ ?_ ?_ (fun r j => X1_apply m c t r j)
    (fun i d => (X3_apply m c t i _).trans (congrArg (fun k => aK m c (ix2 _ k)) (Fin.ext (by show 128 * 1 + d.val = 1 * 128 + d.val; omega))))
    (fun i d => (X4_apply m c t i _).trans (congrArg (fun k => aK m c (ix2 _ k)) (Fin.ext (by show 128 * 1 + d.val = 1 * 128 + d.val; omega))))
    (fun i d => (X5_apply m c t i _).trans (congrArg (fun k => aK m c (ix2 _ k)) (Fin.ext (by show 128 * 1 + d.val = 1 * 128 + d.val; omega))))
    (fun i d => (X6_apply m c t i _).trans (congrArg (fun k => aV m c (ix2 _ k)) (Fin.ext (by show 128 * 1 + d.val = 1 * 128 + d.val; omega))))
    (fun i d => (X7_apply m c t i _).trans (congrArg (fun k => aV m c (ix2 _ k)) (Fin.ext (by show 128 * 1 + d.val = 1 * 128 + d.val; omega))))
    (fun i d => (X8_apply m c t i _).trans (congrArg (fun k => aV m c (ix2 _ k)) (Fin.ext (by show 128 * 1 + d.val = 1 * 128 + d.val; omega))))
    g i d
  · intro g i d
    refine Eq.trans (b := aQ m c (ix2 ⟨t.val * 128 + i.val, by have := lt32 t; omega⟩ ⟨128 * (4 + g.val) + d.val, by omega⟩)) ?_ ?_
    · fin_cases g <;> exact X2_apply m c t i _
    · unfold headAt
      refine congrArg (fun k => aQ m c (ix2 _ k)) (Fin.ext ?_)
      show 128 * (4 + g.val) + d.val = 1 * 512 + g.val * 128 + d.val
      omega
  · intro g
    refine Eq.trans (b := aS m c (ix1 ⟨4 + g.val, by omega⟩)) ?_ ?_
    · fin_cases g
      · exact (sinkOf_eq (X0 m c t) 4 inb_S8_S1_4).trans (X0_apply m c t 4)
      · exact (sinkOf_eq (X0 m c t) 5 inb_S8_S1_5).trans (X0_apply m c t 5)
      · exact (sinkOf_eq (X0 m c t) 6 inb_S8_S1_6).trans (X0_apply m c t 6)
      · exact (sinkOf_eq (X0 m c t) 7 inb_S8_S1_7).trans (X0_apply m c t 7)
    · unfold sinkAt
      refine congrArg (fun k => aS m c (ix1 k)) (Fin.ext ?_)
      show 4 + g.val = 1 * 4 + g.val
      omega

/-- The eight heads' columns of a block. -/
abbrev cols : Fin 8 → V S128x128 .bf16 :=
  ![k0_pay1 (out0 (X0 m c t) (X1 m c t) (X2 m c t) (X3 m c t) (X4 m c t) (X5 m c t) (X6 m c t) (X7 m c t) (X8 m c t)), k0_pay2 (out0 (X0 m c t) (X1 m c t) (X2 m c t) (X3 m c t) (X4 m c t) (X5 m c t) (X6 m c t) (X7 m c t) (X8 m c t)), k0_pay3 (out0 (X0 m c t) (X1 m c t) (X2 m c t) (X3 m c t) (X4 m c t) (X5 m c t) (X6 m c t) (X7 m c t) (X8 m c t)), k0_pay4 (out0 (X0 m c t) (X1 m c t) (X2 m c t) (X3 m c t) (X4 m c t) (X5 m c t) (X6 m c t) (X7 m c t) (X8 m c t)), k0_pay1 (out1 (X0 m c t) (X1 m c t) (X2 m c t) (X3 m c t) (X4 m c t) (X5 m c t) (X6 m c t) (X7 m c t) (X8 m c t)), k0_pay2 (out1 (X0 m c t) (X1 m c t) (X2 m c t) (X3 m c t) (X4 m c t) (X5 m c t) (X6 m c t) (X7 m c t) (X8 m c t)), k0_pay3 (out1 (X0 m c t) (X1 m c t) (X2 m c t) (X3 m c t) (X4 m c t) (X5 m c t) (X6 m c t) (X7 m c t) (X8 m c t)), k0_pay4 (out1 (X0 m c t) (X1 m c t) (X2 m c t) (X3 m c t) (X4 m c t) (X5 m c t) (X6 m c t) (X7 m c t) (X8 m c t))]

theorem cols_apply (h : Fin 2) (g : Fin 4) (i d : Fin 128) :
    (cols m c t ⟨4 * h.val + g.val, by omega⟩ (ix2 i d) : EReal)
      = outOf (aQ m c) (aK m c) (aV m c) (aS m c) (blAt t) h g i d := by
  match h, g with
  | ⟨0, _⟩, ⟨0, _⟩ => exact (pay1_apply (out0 (X0 m c t) (X1 m c t) (X2 m c t) (X3 m c t) (X4 m c t) (X5 m c t) (X6 m c t) (X7 m c t) (X8 m c t)) i d).trans (out0_apply m c t 0 i d)
  | ⟨0, _⟩, ⟨1, _⟩ => exact (pay2_apply (out0 (X0 m c t) (X1 m c t) (X2 m c t) (X3 m c t) (X4 m c t) (X5 m c t) (X6 m c t) (X7 m c t) (X8 m c t)) i d).trans (out0_apply m c t 1 i d)
  | ⟨0, _⟩, ⟨2, _⟩ => exact (pay3_apply (out0 (X0 m c t) (X1 m c t) (X2 m c t) (X3 m c t) (X4 m c t) (X5 m c t) (X6 m c t) (X7 m c t) (X8 m c t)) i d).trans (out0_apply m c t 2 i d)
  | ⟨0, _⟩, ⟨3, _⟩ => exact (pay4_apply (out0 (X0 m c t) (X1 m c t) (X2 m c t) (X3 m c t) (X4 m c t) (X5 m c t) (X6 m c t) (X7 m c t) (X8 m c t)) i d).trans (out0_apply m c t 3 i d)
  | ⟨1, _⟩, ⟨0, _⟩ => exact (pay1_apply (out1 (X0 m c t) (X1 m c t) (X2 m c t) (X3 m c t) (X4 m c t) (X5 m c t) (X6 m c t) (X7 m c t) (X8 m c t)) i d).trans (out1_apply m c t 0 i d)
  | ⟨1, _⟩, ⟨1, _⟩ => exact (pay2_apply (out1 (X0 m c t) (X1 m c t) (X2 m c t) (X3 m c t) (X4 m c t) (X5 m c t) (X6 m c t) (X7 m c t) (X8 m c t)) i d).trans (out1_apply m c t 1 i d)
  | ⟨1, _⟩, ⟨2, _⟩ => exact (pay3_apply (out1 (X0 m c t) (X1 m c t) (X2 m c t) (X3 m c t) (X4 m c t) (X5 m c t) (X6 m c t) (X7 m c t) (X8 m c t)) i d).trans (out1_apply m c t 2 i d)
  | ⟨1, _⟩, ⟨3, _⟩ => exact (pay4_apply (out1 (X0 m c t) (X1 m c t) (X2 m c t) (X3 m c t) (X4 m c t) (X5 m c t) (X6 m c t) (X7 m c t) (X8 m c t)) i d).trans (out1_apply m c t 3 i d)

theorem emb9 (i : Fin 128) (h : Fin 2) (g : Fin 4) (d : Fin 128) :
    ((cfg0.win 9).blk t).view.emb (ix2 i ⟨128 * (4 * h.val + g.val) + d.val, by omega⟩) = ix2 (rowAt (blAt t) i) (colAt h g d) := by
  obtain ⟨e0, e1⟩ := at9 t
  refine funext fun a => Fin.ext ?_
  match a with
  | ⟨0, _⟩ => show win0_9.index t (0 : Fin 2) * 128 + 1 * i.val = t.val * 128 + i.val; rw [e0, one_mul]
  | ⟨1, _⟩ =>
    show win0_9.index t (1 : Fin 2) * 1024 + 1 * (128 * (4 * h.val + g.val) + d.val) = h.val * 512 + g.val * 128 + d.val
    rw [e1]
    omega

theorem block_out (n : Fin 32) (f : V S128x1024 .bf16) (G : Mat 4096 1024) (e : S128x1024.Idx → (⟨2, ![4096, 1024]⟩ : Shape).Idx)
    (he : ∀ i h g d, e (ix2 i ⟨128 * (4 * (h : Fin 2).val + (g : Fin 4).val) + (d : Fin 128).val, by omega⟩) = ix2 (rowAt n i) (colAt h g d))
    (hf : ∀ i h g d, (f (ix2 i ⟨128 * (4 * (h : Fin 2).val + (g : Fin 4).val) + (d : Fin 128).val, by omega⟩) : EReal)
      = G (ix2 (rowAt n i) (colAt h g d)))
    (y : S128x1024.Idx) : (f y : EReal) = G (e y) := by
  have h1 : (y 1).val < 1024 := (y 1).isLt
  have hy : y = ix2 (y 0) ⟨128 * (4 * ((⟨(y 1).val / 512, by omega⟩ : Fin 2)).val + ((⟨(y 1).val % 512 / 128, by omega⟩ : Fin 4)).val)
      + ((⟨(y 1).val % 128, by omega⟩ : Fin 128)).val, by simp only []; omega⟩ := by
    funext a
    match a with
    | ⟨0, _⟩ => rfl
    | ⟨1, _⟩ => exact Fin.ext (by show (y 1).val = 128 * (4 * ((y 1).val / 512) + (y 1).val % 512 / 128) + (y 1).val % 128; omega)
  rw [hy]
  exact (hf _ _ _ _).trans (congrArg G (he _ _ _ _).symm)

theorem flushed_eq9 : (dats m 0 c).flushed 9 t
    = ((cfg0.win 9).blk t).view.read (Elt Ideal) (outArr (aQ m c) (aK m c) (aV m c) (aS m c)) := by
  rw [Cert.AttnFwdIdeal.Value.flushed9_A m c t, store_9]
  funext y
  exact block_out (blAt t) _ (outArr (aQ m c) (aK m c) (aV m c) (aS m c)) (fun y => ((cfg0.win 9).blk t).view.emb y) (emb9 t)
    (fun i h g d => (canon_heads (cols m c t) i d ⟨4 * h.val + g.val, by omega⟩).trans
      ((cols_apply m c t h g i d).trans (outArr_at ..).symm)) y
end

theorem final9 (m : (ℓ : Loc nD τ sig) → Buf (Elt Ideal) ℓ) (c : Dev nD) :
    (dats m 0 c).arrAt 9 cfg0.N = outArr (aQ m c) (aK m c) (aV m c) (aS m c) :=
  (dats m 0 c).arrAt_eq_of_cover 9 (outArr (aQ m c) (aK m c) (aV m c) (aS m c)) (fun t _ => flushed_eq9 m c t) fun y => by
    obtain ⟨n, h, g, i, d, rfl⟩ := query_index y
    let t : Fin cfg0.N := ⟨n.val, by show n.val < grid0.N; rw [N_0]; exact n.isLt⟩
    refine ⟨t, flush0_9 t, ?_⟩
    have hm := ((cfg0.win 9).blk t).view.emb_mem_set (ix2 i ⟨128 * (4 * h.val + g.val) + d.val, by omega⟩)
    rwa [emb9] at hm

end Cert.Attn.Fwd

end
-- ==== Proof.FwdRef.lean ====
/-
  The reference of the attention's forward pass, read at an index.
-/
module

public import proofs.«01_k».proof.Proof.Attend
public import proofs.«01_k».proof.Proof.RefMask
public import proofs.«01_k».proof.Proof.Reduce
public import proofs.«01_k».proof.Proof.Gen.AttnFwdRefIdeal.Read

@[expose] public section

set_option maxRecDepth 16384

noncomputable section

namespace Cert.Attn.Fwd

open Idealize.ShloMosaic Idealize.ShloMosaic.WordArith
open Cert.AttnFwdRefIdeal Cert.AttnFwdRefIdeal.Gen Cert.AttnFwdRefIdeal.Read

theorem pad_zero (i : S_.Idx) : val_main_call0_v0 (F := Ideal) i = 0 := by
  show ((((0#32 : BitVec 32).toInt : ℝ)) : EReal) = 0
  simp

theorem pad_zero_values (i : S_.Idx) : val_main_call1_v0 (F := Ideal) i = 0 := by
  show ((((0#32 : BitVec 32).toInt : ℝ)) : EReal) = 0
  simp

/-- The windows of keys. -/
theorem ref_keys (K : Mat 4096 256) (n : Fin 32) (j : Fin 384) (h : Fin 2) (d : Fin 128) :
    val_main_v9 (F := Ideal) K (ix5 0 n j h d) = windowAt n h j K d := by
  have hK : ∀ a b : ℕ, ∀ ha : a < 4096, ∀ hb : b < 4096, ∀ k : Fin 256, a = b →
      K (ix2 ⟨a, ha⟩ k) = K (ix2 ⟨b, hb⟩ k) := by
    intro a b ha hb k hab; subst hab; rfl
  by_cases hj : 128 ≤ n.val * 128 + j.val ∧ n.val * 128 + j.val < 4224
  · rw [windowAt_inside n h j hj]
    unfold val_main_v9 val_main_v8 val_main_v7 val_main_v6 val_main_v5 val_main_v4 val_main_v3 val_main_v2
    pointwise [pad_zero]
    repeat' split
    all_goals first | (apply hK; omega) | (exfalso; omega)
  · rw [windowAt_outside n h j hj]
    unfold val_main_v9 val_main_v8 val_main_v7 val_main_v6 val_main_v5 val_main_v4 val_main_v3 val_main_v2
    pointwise [pad_zero]
    repeat' split
    all_goals first | rfl | (exfalso; omega)

/-- The windows of values. -/
theorem ref_values (V : Mat 4096 256) (n : Fin 32) (j : Fin 384) (h : Fin 2) (d : Fin 128) :
    val_main_v17 (F := Ideal) V (ix5 0 n j h d) = windowAt n h j V d := by
  have hV : ∀ a b : ℕ, ∀ ha : a < 4096, ∀ hb : b < 4096, ∀ k : Fin 256, a = b →
      V (ix2 ⟨a, ha⟩ k) = V (ix2 ⟨b, hb⟩ k) := by
    intro a b ha hb k hab; subst hab; rfl
  by_cases hj : 128 ≤ n.val * 128 + j.val ∧ n.val * 128 + j.val < 4224
  · rw [windowAt_inside n h j hj]
    unfold val_main_v17 val_main_v16 val_main_v15 val_main_v14 val_main_v13 val_main_v12 val_main_v11 val_main_v10
    pointwise [pad_zero_values]
    repeat' split
    all_goals first | (apply hV; omega) | (exfalso; omega)
  · rw [windowAt_outside n h j hj]
    unfold val_main_v17 val_main_v16 val_main_v15 val_main_v14 val_main_v13 val_main_v12 val_main_v11 val_main_v10
    pointwise [pad_zero_values]
    repeat' split
    all_goals first | rfl | (exfalso; omega)

/-- The queries. -/
theorem ref_queries (Q : Mat 4096 1024) (n : Fin 32) (i : Fin 128) (h : Fin 2) (g : Fin 4) (d : Fin 128) :
    val_main_v18 (F := Ideal) Q (ix6 0 n i h g d) = headAt n h g i le_rfl Q d := by
  unfold val_main_v18 val_main_v1 val_main_v0 headAt
  pointwise

/-- The mask. -/
theorem ref_mask (n : Fin 32) (i : Fin 128) (j : Fin 384) :
    val_main_v54 (F := Ideal) (ix3 n i j) = BitVec.ofBool (decide (Seen n i j)) := by
  unfold val_main_v54 val_main_v53 val_main_v52 val_main_v51 val_main_c_6 val_main_v50 val_main_v49 val_main_v48
    val_main_v47 val_main_v46 val_main_c_5 val_main_v45 val_main_v44 val_main_v43 val_main_c_4 val_main_v42
    val_main_v41 val_main_v40 val_main_v39 val_main_v38 val_main_v37 val_main_v36 val_main_c_3 val_main_v35
    val_main_v34 val_main_c_2 val_main_v33 val_main_v32 val_main_v31 val_main_v30 val_main_v29 val_main_v28
    val_main_v27 val_main_c_1 val_main_v26 val_main_v25 val_main_v24 val_main_v23
  pointwise
  rw [near_eq, inside_ge, inside_lt, andi_ofBool, andi_ofBool]
  congr 1
  unfold Seen
  rw [← Bool.decide_and, ← Bool.decide_and]
  exact decide_eq_decide.2 (by tauto)

section
variable (Q : Mat 4096 1024) (K V : Mat 4096 256) (S : (⟨1, ![8]⟩ : Shape).Idx → EReal)
variable (h : Fin 2) (g : Fin 4) (n : Fin 32) (i : Fin 128)

/-- A row's scores. -/
abbrev rowS (j : Fin 384) : EReal := score n h g i j Q K

theorem ref_score (j : Fin 384) :
    val_main_v55 (F := Ideal) Q K (ix6 0 h g n i j) = rowS Q K h g n i j := by
  unfold val_main_v55 val_main_call2_v1 val_main_call2_v2 val_main_call2_v0 val_main_cst_7 val_main_v22 val_main_v21
    val_main_cst val_main_v20 val_main_v19 rowS score scale
  pointwise [ref_keys, ref_queries, ref_mask, ofBits_neg_inf]
  by_cases hs : Seen n i j
  · simp [hs, Scalar.select]
  · simp [hs, Scalar.select]
    exact ofBits_neg_inf

theorem ref_top : val_main_v58 (F := Ideal) Q K (ix5 0 h g n i) = Finset.univ.fold max ⊥ (rowS Q K h g n i) := by
  unfold val_main_v58 val_main_cst_8
  pointwise [max_last, ref_score, ofBits_neg_inf]

theorem ref_sink : val_main_v57 (F := Ideal) S (ix6 0 h g 0 0 0) = sinkAt h g S := by
  unfold val_main_v57 val_main_v56 sinkAt
  pointwise

theorem idx_rows (j : Fin 384) : idx_main_v62 (ix6 0 h g n i j) = ix6 0 h g n i 0 := by
  funext a
  match a with
  | ⟨0, _⟩ | ⟨1, _⟩ | ⟨2, _⟩ | ⟨3, _⟩ | ⟨4, _⟩ | ⟨5, _⟩ => rfl

theorem idx_top : idx_main_v59 (ix6 0 h g n i 0) = ix5 0 h g n i := by
  funext a
  match a with
  | ⟨0, _⟩ | ⟨1, _⟩ | ⟨2, _⟩ | ⟨3, _⟩ | ⟨4, _⟩ => rfl

theorem idx_sink : idx_main_v60 (ix6 0 h g n i 0) = ix6 0 h g 0 0 0 := by
  funext a
  match a with
  | ⟨0, _⟩ | ⟨1, _⟩ | ⟨2, _⟩ | ⟨3, _⟩ | ⟨4, _⟩ | ⟨5, _⟩ => rfl

theorem ref_max : val_main_v61 (F := Ideal) Q K S (ix6 0 h g n i 0) = rowMax (rowS Q K h g n i) (sinkAt h g S) := by
  have ht : val_main_v59 (F := Ideal) Q K (ix6 0 h g n i 0) = Finset.univ.fold max ⊥ (rowS Q K h g n i) := by
    rw [val_main_v59_apply, idx_top, ref_top]
  have hs : val_main_v60 (F := Ideal) S (ix6 0 h g n i 0) = sinkAt h g S := by
    rw [val_main_v60_apply, idx_sink, ref_sink]
  rw [val_main_v61_apply, ht, hs]
  rw [Ideal.maximumf_eq_max]
  rfl

theorem ref_exp (j : Fin 384) :
    val_main_v64 (F := Ideal) Q K S (ix6 0 h g n i j) = rowExp (rowS Q K h g n i) (sinkAt h g S) j := by
  rw [val_main_v64_apply, val_main_v63_apply, val_main_v62_apply, idx_rows, ref_score, ref_max]
  unfold rowExp
  show Ideal.exp (_ - _) = Ideal.exp (_ - _)
  rfl

theorem ref_sinkExp :
    val_main_v69 (F := Ideal) Q K S (ix6 0 h g n i 0) = rowSink (rowS Q K h g n i) (sinkAt h g S) := by
  unfold val_main_v69 val_main_v68 val_main_v67 rowSink
  pointwise [ref_sink, ref_max]

theorem ref_sum :
    val_main_v70 (F := Ideal) Q K S (ix6 0 h g n i 0) = rowSum (rowS Q K h g n i) (sinkAt h g S) := by
  unfold val_main_v70 val_main_v66 val_main_v65 val_main_cst_9 rowSum
  pointwise [sum_last, ref_exp, ref_sinkExp]

theorem ref_prob (j : Fin 384) :
    val_main_v72 (F := Ideal) Q K S (ix6 0 h g n i j) = probOf Q K S n h g i j := by
  unfold val_main_v72 val_main_v71 probOf rowProb
  pointwise [ref_exp, ref_sum]

theorem ref_head (d : Fin 128) :
    val_main_v73 (F := Ideal) Q K V S (ix6 0 n h d g i) = outOf Q K V S n h g i d := by
  have hc : outOf Q K V S n h g i d = ∑ j : Fin 384, windowAt n h j V d * probOf Q K S n h g i j :=
    Finset.sum_congr rfl fun _ _ => mul_comm _ _
  rw [hc]
  unfold val_main_v73
  pointwise [ref_prob, ref_values]
end

theorem ref_out (Q : Mat 4096 1024) (K V : Mat 4096 256) (S : (⟨1, ![8]⟩ : Shape).Idx → EReal) :
    val_main_v77 (F := Ideal) Q K V S = outArr Q K V S := by
  funext y
  obtain ⟨n, h, g, i, d, rfl⟩ := query_index y
  rw [outArr_at]
  unfold val_main_v77 val_main_v76 val_main_v75 val_main_v74 rowAt colAt
  pointwise
  exact ref_head Q K V S h g n i d

end Cert.Attn.Fwd

end
-- ==== Proof.Products.lean ====
/- The calls but the first: each call leaves the product of its arguments, and so does its plain reference. -/
module

public import proofs.«01_k».proof.Defs
public import proofs.«01_k».proof.Proof.Gen.DActIdeal.Value
public import proofs.«01_k».proof.Proof.Gen.DActRefIdeal.Run
public import proofs.«01_k».proof.Proof.Gen.DActRefIdeal.Read
public import proofs.«01_k».proof.Proof.DAct
public import proofs.«01_k».proof.Proof.Gen.DwDownIdeal.Value
public import proofs.«01_k».proof.Proof.Gen.DwDownRefIdeal.Run
public import proofs.«01_k».proof.Proof.Gen.DwDownRefIdeal.Read
public import proofs.«01_k».proof.Proof.DwDown
public import proofs.«01_k».proof.Proof.Gen.DUpInIdeal.Value
public import proofs.«01_k».proof.Proof.Gen.DUpInRefIdeal.Run
public import proofs.«01_k».proof.Proof.Gen.DUpInRefIdeal.Read
public import proofs.«01_k».proof.Proof.DUpIn
public import proofs.«01_k».proof.Proof.Gen.DMixIdeal.Value
public import proofs.«01_k».proof.Proof.Gen.DMixRefIdeal.Run
public import proofs.«01_k».proof.Proof.Gen.DMixRefIdeal.Read
public import proofs.«01_k».proof.Proof.DMix
public import proofs.«01_k».proof.Proof.Gen.DwOutIdeal.Value
public import proofs.«01_k».proof.Proof.Gen.DwOutRefIdeal.Run
public import proofs.«01_k».proof.Proof.Gen.DwOutRefIdeal.Read
public import proofs.«01_k».proof.Proof.DwOut
public import proofs.«01_k».proof.Proof.Gen.UpIdeal.Value
public import proofs.«01_k».proof.Proof.Gen.UpRefIdeal.Run
public import proofs.«01_k».proof.Proof.Gen.UpRefIdeal.Read
public import proofs.«01_k».proof.Proof.Up
public import proofs.«01_k».proof.Proof.Gen.OutIdeal.Value
public import proofs.«01_k».proof.Proof.Gen.OutRefIdeal.Run
public import proofs.«01_k».proof.Proof.Gen.OutRefIdeal.Read
public import proofs.«01_k».proof.Proof.Out
public import proofs.«01_k».proof.Proof.Gen.InProjIdeal.Value
public import proofs.«01_k».proof.Proof.Gen.InProjRefIdeal.Run
public import proofs.«01_k».proof.Proof.Gen.InProjRefIdeal.Read
public import proofs.«01_k».proof.Proof.InProj
public import proofs.«01_k».proof.Proof.Gen.DInProjIdeal.Value
public import proofs.«01_k».proof.Proof.Gen.DInProjRefIdeal.Run
public import proofs.«01_k».proof.Proof.Gen.DInProjRefIdeal.Read
public import proofs.«01_k».proof.Proof.DInProj
public import proofs.«01_k».proof.Proof.Gen.DownIdeal.Value
public import proofs.«01_k».proof.Proof.Gen.DownRefIdeal.Run
public import proofs.«01_k».proof.Proof.Gen.DownRefIdeal.Read
public import proofs.«01_k».proof.Proof.Down
public import proofs.«01_k».proof.Proof.Gen.DwUpSibIdeal.Frame
public import proofs.«01_k».proof.Proof.Gen.DwUpSibRefIdeal.Run
public import proofs.«01_k».proof.Proof.Gen.DwUpSibRefIdeal.Read
public import proofs.«01_k».proof.Proof.DwUpSib
public import proofs.«01_k».proof.Proof.Gen.DwUpOwnIdeal.Frame
public import proofs.«01_k».proof.Proof.Gen.DwUpOwnRefIdeal.Run
public import proofs.«01_k».proof.Proof.Gen.DwUpOwnRefIdeal.Read
public import proofs.«01_k».proof.Proof.DwUpOwn
public import proofs.«01_k».proof.Proof.Gen.DwInIdeal.Frame
public import proofs.«01_k».proof.Proof.Gen.DwInRefIdeal.Run
public import proofs.«01_k».proof.Proof.Gen.DwInRefIdeal.Read
public import proofs.«01_k».proof.Proof.DwIn
public import proofs.«01_k».proof.Proof.Gen.AttnFwdIdeal.Value
public import proofs.«01_k».proof.Proof.Gen.AttnFwdRefIdeal.Run
public import proofs.«01_k».proof.Proof.Gen.AttnFwdRefIdeal.Read
public import proofs.«01_k».proof.Proof.Fwd
public import proofs.«01_k».proof.Proof.FwdRef
public import Idealize.ShloMosaic.Adequacy
public import Idealize.ShloMosaic.Init

public section

open Idealize.ShloMosaic Idealize.ShloMosaic.StableHlo Idealize.SL.Sem Cert.Attn

namespace Cert.Products

section

open Cert.DActIdeal.Own

theorem reference_frame_DAct : Cert.quiescent_DActRefIdeal := fun m g _ =>
  (θ_run Cert.DActRefIdeal.defs _ _).mono
    (fun r h => And.intro (fun c => (h c).2) (sem_eq_zero_of_no_sems (by decide) r.2))
    (Cert.DActRefIdeal.Value.run (F := Ideal) m g)

theorem algebraic_DAct : Cert.algebraic_DActIdeal_DActRefIdeal := by
  intro m g m' g' _ harg
  refine ⟨fun c => prod (aA m c) (aB m c), ?_, ?_⟩
  · exact (θ_run _ _ _).mono (fun r h c => ⟨(h c).1.trans (final m c), (h c).2⟩) (Cert.DActIdeal.Value.run_blocks m g)
  · refine (θ_run _ _ _).mono (fun r h c => ⟨(h c).1.trans ?_, (h c).2⟩) (Cert.DActRefIdeal.Value.run (F := Ideal) m' g')
    obtain ⟨e0, e1⟩ := harg c
    refine (Cert.DActRefIdeal.Read.val_main_v5_eq _ _).trans ((ref_eq _ _).trans ?_)
    rw [e0, e1]

end

section

open Cert.DwDownIdeal.Own

theorem reference_frame_DwDown : Cert.quiescent_DwDownRefIdeal := fun m g _ =>
  (θ_run Cert.DwDownRefIdeal.defs _ _).mono
    (fun r h => And.intro (fun c => (h c).2) (sem_eq_zero_of_no_sems (by decide) r.2))
    (Cert.DwDownRefIdeal.Value.run (F := Ideal) m g)

theorem algebraic_DwDown : Cert.algebraic_DwDownIdeal_DwDownRefIdeal := by
  intro m g m' g' _ harg
  refine ⟨fun c => prod (aA m c) (aB m c), ?_, ?_⟩
  · exact (θ_run _ _ _).mono (fun r h c => ⟨(h c).1.trans (final m c), (h c).2⟩) (Cert.DwDownIdeal.Value.run_blocks m g)
  · refine (θ_run _ _ _).mono (fun r h c => ⟨(h c).1.trans ?_, (h c).2⟩) (Cert.DwDownRefIdeal.Value.run (F := Ideal) m' g')
    obtain ⟨e0, e1⟩ := harg c
    refine (Cert.DwDownRefIdeal.Read.val_main_v5_eq _ _).trans ((ref_eq _ _).trans ?_)
    rw [e0, e1]

end

section

open Cert.DUpInIdeal.Own

theorem reference_frame_DUpIn : Cert.quiescent_DUpInRefIdeal := fun m g _ =>
  (θ_run Cert.DUpInRefIdeal.defs _ _).mono
    (fun r h => And.intro (fun c => (h c).2) (sem_eq_zero_of_no_sems (by decide) r.2))
    (Cert.DUpInRefIdeal.Value.run (F := Ideal) m g)

theorem algebraic_DUpIn : Cert.algebraic_DUpInIdeal_DUpInRefIdeal := by
  intro m g m' g' _ harg
  refine ⟨fun c => prod (aA m c) (aW m c), ?_, ?_⟩
  · exact (θ_run _ _ _).mono (fun r h c => ⟨(h c).1.trans (final m c), (h c).2⟩) (Cert.DUpInIdeal.Value.run_blocks m g)
  · refine (θ_run _ _ _).mono (fun r h c => ⟨(h c).1.trans ?_, (h c).2⟩) (Cert.DUpInRefIdeal.Value.run (F := Ideal) m' g')
    obtain ⟨e0, e1⟩ := harg c
    refine (Cert.DUpInRefIdeal.Read.val_main_v8_eq _ _).trans ((ref_eq _ _).trans ?_)
    rw [e0, e1]

end

section

open Cert.DMixIdeal.Own

theorem reference_frame_DMix : Cert.quiescent_DMixRefIdeal := fun m g _ =>
  (θ_run Cert.DMixRefIdeal.defs _ _).mono
    (fun r h => And.intro (fun c => (h c).2) (sem_eq_zero_of_no_sems (by decide) r.2))
    (Cert.DMixRefIdeal.Value.run (F := Ideal) m g)

theorem algebraic_DMix : Cert.algebraic_DMixIdeal_DMixRefIdeal := by
  intro m g m' g' _ harg
  refine ⟨fun c => prod (aA m c) (aB m c), ?_, ?_⟩
  · exact (θ_run _ _ _).mono (fun r h c => ⟨(h c).1.trans (final m c), (h c).2⟩) (Cert.DMixIdeal.Value.run_blocks m g)
  · refine (θ_run _ _ _).mono (fun r h c => ⟨(h c).1.trans ?_, (h c).2⟩) (Cert.DMixRefIdeal.Value.run (F := Ideal) m' g')
    obtain ⟨e0, e1⟩ := harg c
    refine (Cert.DMixRefIdeal.Read.val_main_v4_eq _ _).trans ((ref_eq _ _).trans ?_)
    rw [e0, e1]

end

section

open Cert.DwOutIdeal.Own

theorem reference_frame_DwOut : Cert.quiescent_DwOutRefIdeal := fun m g _ =>
  (θ_run Cert.DwOutRefIdeal.defs _ _).mono
    (fun r h => And.intro (fun c => (h c).2) (sem_eq_zero_of_no_sems (by decide) r.2))
    (Cert.DwOutRefIdeal.Value.run (F := Ideal) m g)

theorem algebraic_DwOut : Cert.algebraic_DwOutIdeal_DwOutRefIdeal := by
  intro m g m' g' _ harg
  refine ⟨fun c => prod (aA m c) (aG m c) (aD m c), ?_, ?_⟩
  · exact (θ_run _ _ _).mono (fun r h c => ⟨(h c).1.trans (final m c), (h c).2⟩) (Cert.DwOutIdeal.Value.run_blocks m g)
  · refine (θ_run _ _ _).mono (fun r h c => ⟨(h c).1.trans ?_, (h c).2⟩) (Cert.DwOutRefIdeal.Value.run (F := Ideal) m' g')
    obtain ⟨e0, e1, e2⟩ := harg c
    refine (Cert.DwOutRefIdeal.Read.val_main_v6_eq _ _ _).trans ((ref_eq _ _ _).trans ?_)
    rw [e0, e1, e2]

end

section

open Cert.UpIdeal.Own

theorem reference_frame_Up : Cert.quiescent_UpRefIdeal := fun m g _ =>
  (θ_run Cert.UpRefIdeal.defs _ _).mono
    (fun r h => And.intro (fun c => (h c).2) (sem_eq_zero_of_no_sems (by decide) r.2))
    (Cert.UpRefIdeal.Value.run (F := Ideal) m g)

theorem algebraic_Up : Cert.algebraic_UpIdeal_UpRefIdeal := by
  intro m g m' g' _ harg
  refine ⟨fun c => prod (aA m c) (aB m c), ?_, ?_⟩
  · exact (θ_run _ _ _).mono (fun r h c => ⟨(h c).1.trans (final m c), (h c).2⟩) (Cert.UpIdeal.Value.run_blocks m g)
  · refine (θ_run _ _ _).mono (fun r h c => ⟨(h c).1.trans ?_, (h c).2⟩) (Cert.UpRefIdeal.Value.run (F := Ideal) m' g')
    obtain ⟨e0, e1⟩ := harg c
    refine (Cert.UpRefIdeal.Read.val_main_v9_eq _ _).trans ((ref_eq _ _).trans ?_)
    rw [e0, e1]

end

section

open Cert.OutIdeal.Own

theorem reference_frame_Out : Cert.quiescent_OutRefIdeal := fun m g _ =>
  (θ_run Cert.OutRefIdeal.defs _ _).mono
    (fun r h => And.intro (fun c => (h c).2) (sem_eq_zero_of_no_sems (by decide) r.2))
    (Cert.OutRefIdeal.Value.run (F := Ideal) m g)

theorem algebraic_Out : Cert.algebraic_OutIdeal_OutRefIdeal := by
  intro m g m' g' _ harg
  refine ⟨fun c => prod (aA m c) (aG m c) (aW m c) (aX m c), ?_, ?_⟩
  · exact (θ_run _ _ _).mono (fun r h c => ⟨(h c).1.trans (final m c), (h c).2⟩) (Cert.OutIdeal.Value.run_blocks m g)
  · refine (θ_run _ _ _).mono (fun r h c => ⟨(h c).1.trans ?_, (h c).2⟩) (Cert.OutRefIdeal.Value.run (F := Ideal) m' g')
    obtain ⟨e0, e1, e2, e3⟩ := harg c
    refine (Cert.OutRefIdeal.Read.val_main_v4_eq _ _ _ _).trans ((ref_eq _ _ _ _).trans ?_)
    rw [e0, e1, e2, e3]

end

section

open Cert.InProjIdeal.Own

theorem reference_frame_InProj : Cert.quiescent_InProjRefIdeal := fun m g _ =>
  (θ_run Cert.InProjRefIdeal.defs _ _).mono
    (fun r h => And.intro (fun c => (h c).2) (sem_eq_zero_of_no_sems (by decide) r.2))
    (Cert.InProjRefIdeal.Value.run (F := Ideal) m g)

theorem algebraic_InProj : Cert.algebraic_InProjIdeal_InProjRefIdeal := by
  intro m g m' g' _ harg
  refine ⟨fun c => prod (aA m c) (aB m c), ?_, ?_⟩
  · exact (θ_run _ _ _).mono (fun r h c => ⟨(h c).1.trans (final m c), (h c).2⟩) (Cert.InProjIdeal.Value.run_blocks m g)
  · refine (θ_run _ _ _).mono (fun r h c => ⟨(h c).1.trans ?_, (h c).2⟩) (Cert.InProjRefIdeal.Value.run (F := Ideal) m' g')
    obtain ⟨e0, e1⟩ := harg c
    refine (Cert.InProjRefIdeal.Read.val_main_v4_eq _ _).trans ((ref_eq _ _).trans ?_)
    rw [e0, e1]

end

section

open Cert.DInProjIdeal.Own

theorem reference_frame_DInProj : Cert.quiescent_DInProjRefIdeal := fun m g _ =>
  (θ_run Cert.DInProjRefIdeal.defs _ _).mono
    (fun r h => And.intro (fun c => (h c).2) (sem_eq_zero_of_no_sems (by decide) r.2))
    (Cert.DInProjRefIdeal.Value.run (F := Ideal) m g)

theorem algebraic_DInProj : Cert.algebraic_DInProjIdeal_DInProjRefIdeal := by
  intro m g m' g' _ harg
  refine ⟨fun c => prod (aA m c) (aB m c), ?_, ?_⟩
  · exact (θ_run _ _ _).mono (fun r h c => ⟨(h c).1.trans (final m c), (h c).2⟩) (Cert.DInProjIdeal.Value.run_blocks m g)
  · refine (θ_run _ _ _).mono (fun r h c => ⟨(h c).1.trans ?_, (h c).2⟩) (Cert.DInProjRefIdeal.Value.run (F := Ideal) m' g')
    obtain ⟨e0, e1⟩ := harg c
    refine (Cert.DInProjRefIdeal.Read.val_main_v5_eq _ _).trans ((ref_eq _ _).trans ?_)
    rw [e0, e1]

end

section

open Cert.DownIdeal.Own

theorem reference_frame_Down : Cert.quiescent_DownRefIdeal := fun m g _ =>
  (θ_run Cert.DownRefIdeal.defs _ _).mono
    (fun r h => And.intro (fun c => (h c).2.2.2) (sem_eq_zero_of_no_sems (by decide) r.2))
    (Cert.DownRefIdeal.Value.run (F := Ideal) m g)

theorem algebraic_Down : Cert.algebraic_DownIdeal_DownRefIdeal := by
  intro m g m' g' _ harg
  refine ⟨fun c => lossOf (aA m c) (aB m c) (aX m c) (aT m c), fun c => dyOf (aA m c) (aB m c) (aX m c) (aT m c), fun c => dyOf (aA m c) (aB m c) (aX m c) (aT m c), ?_, ?_⟩
  · exact (θ_run _ _ _).mono (fun r h c => ⟨(h c).1.trans (final4 m c), (h c).2.1.trans (final5 m c), (h c).2.2.1.trans (final6 m c), (h c).2.2.2⟩) (Cert.DownIdeal.Value.run_blocks m g)
  · refine (θ_run _ _ _).mono (fun r h c => ⟨(h c).1.trans ?_, (h c).2.1.trans ?_, (h c).2.2.1.trans ?_, (h c).2.2.2⟩) (Cert.DownRefIdeal.Value.run (F := Ideal) m' g')
    · obtain ⟨e0, e1, e2, e3⟩ := harg c
      refine (Cert.DownRefIdeal.Read.val_main_v19_eq _ _ _ _).trans ((ref_loss _ _ _ _).trans ?_)
      rw [e0, e1, e2, e3]
    · obtain ⟨e0, e1, e2, e3⟩ := harg c
      refine (Cert.DownRefIdeal.Read.val_main_v18_eq _ _ _ _).trans ((ref_dy _ _ _ _).trans ?_)
      rw [e0, e1, e2, e3]
    · obtain ⟨e0, e1, e2, e3⟩ := harg c
      refine (Cert.DownRefIdeal.Read.val_main_v20_eq _ _ _ _).trans ((ref_cast _ _ _ _).trans ?_)
      rw [e0, e1, e2, e3]

end

section

open Cert.DwUpSibIdeal.Own

theorem reference_frame_DwUpSib : Cert.quiescent_DwUpSibRefIdeal := fun m g _ =>
  (θ_run Cert.DwUpSibRefIdeal.defs _ _).mono
    (fun r h => And.intro (fun c => (h c).2) (sem_eq_zero_of_no_sems (by decide) r.2))
    (Cert.DwUpSibRefIdeal.Value.run (F := Ideal) m g)

theorem algebraic_DwUpSib : Cert.algebraic_DwUpSibIdeal_DwUpSibRefIdeal := by
  intro m g m' g' _ harg
  refine ⟨fun c => prod (aA m c) (aB m c), ?_, ?_⟩
  · exact (θ_run _ _ _).mono (fun r h c => ⟨((h.1 c).1 2).trans (final m (ok m) c), h.2 c⟩)
      (θ_run_and (Cert.DwUpSibIdeal.Gen.run_main m g (ok m)) (Cert.DwUpSibIdeal.Gen.unchanged m g (ok m)))
  · refine (θ_run _ _ _).mono (fun r h c => ⟨(h c).1.trans ?_, (h c).2⟩) (Cert.DwUpSibRefIdeal.Value.run (F := Ideal) m' g')
    obtain ⟨e0, e1⟩ := harg c
    refine (Cert.DwUpSibRefIdeal.Read.val_main_v11_eq _ _).trans ((ref_eq _ _).trans ?_)
    rw [e0, e1]

end

section

open Cert.DwUpOwnIdeal.Own

theorem reference_frame_DwUpOwn : Cert.quiescent_DwUpOwnRefIdeal := fun m g _ =>
  (θ_run Cert.DwUpOwnRefIdeal.defs _ _).mono
    (fun r h => And.intro (fun c => (h c).2) (sem_eq_zero_of_no_sems (by decide) r.2))
    (Cert.DwUpOwnRefIdeal.Value.run (F := Ideal) m g)

theorem algebraic_DwUpOwn : Cert.algebraic_DwUpOwnIdeal_DwUpOwnRefIdeal := by
  intro m g m' g' _ harg
  refine ⟨fun c => prod (aA m c) (aB m c) (aG m c), ?_, ?_⟩
  · exact (θ_run _ _ _).mono (fun r h c => ⟨((h.1 c).1 3).trans (final m (ok m) c), h.2 c⟩)
      (θ_run_and (Cert.DwUpOwnIdeal.Gen.run_main m g (ok m)) (Cert.DwUpOwnIdeal.Gen.unchanged m g (ok m)))
  · refine (θ_run _ _ _).mono (fun r h c => ⟨(h c).1.trans ?_, (h c).2⟩) (Cert.DwUpOwnRefIdeal.Value.run (F := Ideal) m' g')
    obtain ⟨e0, e1, e2⟩ := harg c
    refine (Cert.DwUpOwnRefIdeal.Read.val_main_v12_eq _ _ _).trans ((ref_eq _ _ _).trans ?_)
    rw [e0, e1, e2]

end

section

open Cert.DwInIdeal.Own

theorem reference_frame_DwIn : Cert.quiescent_DwInRefIdeal := fun m g _ =>
  (θ_run Cert.DwInRefIdeal.defs _ _).mono
    (fun r h => And.intro (fun c => (h c).2) (sem_eq_zero_of_no_sems (by decide) r.2))
    (Cert.DwInRefIdeal.Value.run (F := Ideal) m g)

theorem algebraic_DwIn : Cert.algebraic_DwInIdeal_DwInRefIdeal := by
  intro m g m' g' _ harg
  refine ⟨fun c => prod (aA m c) (aB m c), ?_, ?_⟩
  · exact (θ_run _ _ _).mono (fun r h c => ⟨((h.1 c).2 Cert.DwInIdeal.main_v1 (Pipeline.mem_restRefs_of _ rfl (by decide))).trans (tail_eq m c), h.2 c⟩)
      (θ_run_and (Cert.DwInIdeal.Gen.run_main m g) (Cert.DwInIdeal.Gen.unchanged m g))
  · refine (θ_run _ _ _).mono (fun r h c => ⟨(h c).1.trans ?_, (h c).2⟩) (Cert.DwInRefIdeal.Value.run (F := Ideal) m' g')
    obtain ⟨e0, e1⟩ := harg c
    refine (Cert.DwInRefIdeal.Read.val_main_v15_eq _ _).trans ((ref_eq _ _).trans ?_)
    rw [e0, e1]

end

section

open Cert.Attn.Fwd

theorem reference_frame_AttnFwd : Cert.quiescent_AttnFwdRefIdeal := fun m g _ =>
  (θ_run Cert.AttnFwdRefIdeal.defs _ _).mono
    (fun r h => And.intro (fun c => (h c).2) (sem_eq_zero_of_no_sems (by decide) r.2))
    (Cert.AttnFwdRefIdeal.Value.run (F := Ideal) m g)

theorem algebraic_AttnFwd : Cert.algebraic_AttnFwdIdeal_AttnFwdRefIdeal := by
  intro m g m' g' _ harg
  refine ⟨fun c => Cert.Attn.outArr (Fwd.aQ m c) (Fwd.aK m c) (Fwd.aV m c) (Fwd.aS m c), ?_, ?_⟩
  · exact (θ_run _ _ _).mono (fun r h c => ⟨(h c).1.trans (Fwd.final9 m c), (h c).2⟩) (Cert.AttnFwdIdeal.Value.run_blocks m g)
  · refine (θ_run _ _ _).mono (fun r h c => ⟨(h c).1.trans ?_, (h c).2⟩) (Cert.AttnFwdRefIdeal.Value.run (F := Ideal) m' g')
    obtain ⟨e0, e1, e2, e3⟩ := harg c
    refine (Cert.AttnFwdRefIdeal.Read.val_main_v77_eq _ _).trans ((Fwd.ref_out _ _ _ _).trans ?_)
    rw [e0, e1, e2, e3]

end

end Cert.Products

end
-- ==== Proof.Tables.lean ====
/-
  The two calls that read which core owns the blocks, as they run on words: their tables hold the same word.
-/
module

public import proofs.«01_k».proof.Proof.Columns
public import proofs.«01_k».proof.Proof.Gen.DwUpSib.Frame
public import proofs.«01_k».proof.Proof.Gen.DwUpOwn.Frame

@[expose] public section

set_option maxRecDepth 16384
set_option maxHeartbeats 1000000

noncomputable section

namespace Cert.DwUpSib.Own

open Idealize.ShloMosaic Idealize.ShloMosaic.Pipeline Idealize.ShloMosaic.TcCoe Cert.DwUpSib Cert.DwUpSib.Gen

section
variable {F : FTy → Type} [FloatOps F]

/-- The table holds this one word. -/
def word : pre0.Contents (Elt F) := fun | 0 => (fun _ => 1#32 : (⟨S1, .i32⟩ : BufTy).Contents (Elt F)) | ⟨_ + 1, h⟩ => absurd h (Nat.not_lt.2 (Nat.le_add_left _ _))

variable (m : (ℓ : Loc nD τ sig) → Buf (Elt F) ℓ)

theorem core_entry (c : Dev nD) : Gen.V m c main_v0 = (fun _ => 1#32 : (⟨S1, .i32⟩ : BufTy).Contents (Elt F)) := by
  dsimp only [Gen.V, hostOps0]
  after_results_simp
  rfl

theorem tbl_eq : tbl m = word := by
  funext j
  match j with
  | 0 => exact core_entry m 0
  | ⟨_ + 1, h⟩ => exact absurd h (Nat.not_lt.2 (Nat.le_add_left _ _))

theorem ok_real : ok0 (word (F := Ideal)) := by
  decide +kernel

/-- Every block that the table's word leads to lies inside the array. -/
theorem ok : Ok m := by
  show ok0 (tbl m)
  rw [tbl_eq]
  exact (ok_real : ok0 (word (F := Ideal)))

end

end Cert.DwUpSib.Own

namespace Cert.DwUpOwn.Own

open Idealize.ShloMosaic Idealize.ShloMosaic.Pipeline Idealize.ShloMosaic.TcCoe Cert.DwUpOwn Cert.DwUpOwn.Gen

section
variable {F : FTy → Type} [FloatOps F]

/-- The table holds this one word. -/
def word : pre0.Contents (Elt F) := fun | 0 => (fun _ => 0#32 : (⟨S1, .i32⟩ : BufTy).Contents (Elt F)) | ⟨_ + 1, h⟩ => absurd h (Nat.not_lt.2 (Nat.le_add_left _ _))

variable (m : (ℓ : Loc nD τ sig) → Buf (Elt F) ℓ)

theorem core_entry (c : Dev nD) : Gen.V m c main_v0 = (fun _ => 0#32 : (⟨S1, .i32⟩ : BufTy).Contents (Elt F)) := by
  dsimp only [Gen.V, hostOps0]
  after_results_simp
  rfl

theorem tbl_eq : tbl m = word := by
  funext j
  match j with
  | 0 => exact core_entry m 0
  | ⟨_ + 1, h⟩ => exact absurd h (Nat.not_lt.2 (Nat.le_add_left _ _))

theorem ok_real : ok0 (word (F := Ideal)) := by
  decide +kernel

/-- Every block that the table's word leads to lies inside the array. -/
theorem ok : Ok m := by
  show ok0 (tbl m)
  rw [tbl_eq]
  exact (ok_real : ok0 (word (F := Ideal)))

end

end Cert.DwUpOwn.Own

end
-- ==== Proof.lean ====
/- The gradient of the windowed attention and its forward pass and the products: what each call returns is what its plain reference returns. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.KernelIdeal.Value
public import proofs.«01_k».proof.Proof.Gen.ReferenceIdeal.Run
public import proofs.«01_k».proof.Proof.Gen.ReferenceIdeal.Read
public import proofs.«01_k».proof.Proof.Pre
public import proofs.«01_k».proof.Proof.Gen.DAct.Frame
public import proofs.«01_k».proof.Proof.Gen.DActIdeal.Frame
public import proofs.«01_k».proof.Proof.Gen.DwDown.Frame
public import proofs.«01_k».proof.Proof.Gen.DwDownIdeal.Frame
public import proofs.«01_k».proof.Proof.Gen.DUpIn.Frame
public import proofs.«01_k».proof.Proof.Gen.DUpInIdeal.Frame
public import proofs.«01_k».proof.Proof.Gen.DMix.Frame
public import proofs.«01_k».proof.Proof.Gen.DMixIdeal.Frame
public import proofs.«01_k».proof.Proof.Gen.DwOut.Frame
public import proofs.«01_k».proof.Proof.Gen.DwOutIdeal.Frame
public import proofs.«01_k».proof.Proof.Gen.Up.Frame
public import proofs.«01_k».proof.Proof.Gen.UpIdeal.Frame
public import proofs.«01_k».proof.Proof.Gen.Out.Frame
public import proofs.«01_k».proof.Proof.Gen.OutIdeal.Frame
public import proofs.«01_k».proof.Proof.Gen.InProj.Frame
public import proofs.«01_k».proof.Proof.Gen.InProjIdeal.Frame
public import proofs.«01_k».proof.Proof.Gen.DInProj.Frame
public import proofs.«01_k».proof.Proof.Gen.DInProjIdeal.Frame
public import proofs.«01_k».proof.Proof.Gen.Down.Frame
public import proofs.«01_k».proof.Proof.Gen.DownIdeal.Frame
public import proofs.«01_k».proof.Proof.Gen.DwUpSib.Frame
public import proofs.«01_k».proof.Proof.Gen.DwUpSibIdeal.Frame
public import proofs.«01_k».proof.Proof.Gen.DwUpOwn.Frame
public import proofs.«01_k».proof.Proof.Gen.DwUpOwnIdeal.Frame
public import proofs.«01_k».proof.Proof.Gen.DwIn.Frame
public import proofs.«01_k».proof.Proof.Gen.DwInIdeal.Frame
public import proofs.«01_k».proof.Proof.Gen.AttnFwd.Frame
public import proofs.«01_k».proof.Proof.Gen.AttnFwdIdeal.Frame
public import proofs.«01_k».proof.Proof.Products
public import proofs.«01_k».proof.Proof.Tables
public import Idealize.ShloMosaic.Adequacy
public import Idealize.ShloMosaic.Init

@[expose] public section

noncomputable section

namespace Cert.Proof

open Idealize.ShloMosaic Idealize.ShloMosaic.StableHlo Idealize.SL.Sem Cert.Attn Cert.ReferenceIdeal.Read

variable (m : (ℓ : Loc Cert.KernelIdeal.nD Cert.KernelIdeal.τ Cert.KernelIdeal.sig) → Buf (Elt Ideal) ℓ)

theorem numbers (hm : Cert.Pre_KernelIdeal_finite m) (c : Dev Cert.KernelIdeal.nD) : Numbers (aV m c) (aO m c) :=
  numbers_of_pre (aQ m c) (aK m c) (aV m c) (aS m c) (aO m c) (hm c)

/-- Two functions that agree at five arrays agree where the arrays are given a second time. -/
theorem at_same {α₀ α₁ α₂ α₃ α₄ β : Type} (f g : α₀ → α₁ → α₂ → α₃ → α₄ → β) {a a' : α₀} {b b' : α₁} {c c' : α₂} {d d' : α₃} {e e' : α₄}
    (ha : a' = a) (hb : b' = b) (hc : c' = c) (hd : d' = d) (he : e' = e) (h : f a b c d e = g a b c d e) :
    f a' b' c' d' e' = g a b c d e := by subst ha; subst hb; subst hc; subst hd; subst he; exact h

theorem algebraic : Cert.algebraic_KernelIdeal_ReferenceIdeal_pre_finite := by
  intro m g m' g' hm harg
  refine ⟨fun c => dqArr (aQ m c) (aK m c) (aV m c) (aS m c) (aO m c), fun c => dkArr (aQ m c) (aK m c) (aV m c) (aS m c) (aO m c) 0,
    fun c => dkArr (aQ m c) (aK m c) (aV m c) (aS m c) (aO m c) 1, fun c => dkArr (aQ m c) (aK m c) (aV m c) (aS m c) (aO m c) 2,
    fun c => dvArr (aQ m c) (aK m c) (aS m c) (aO m c) 0, fun c => dvArr (aQ m c) (aK m c) (aS m c) (aO m c) 1,
    fun c => dvArr (aQ m c) (aK m c) (aS m c) (aO m c) 2, fun c => dsinkArr (aQ m c) (aK m c) (aV m c) (aS m c) (aO m c), ?_, ?_⟩
  · refine (θ_run _ _ _).mono (fun r h c => ?_) (Cert.KernelIdeal.Value.run_blocks m g)
    obtain ⟨h0, h1, h2, h3, h4, h5, h6, h7, hrest⟩ := h c
    exact ⟨h0.trans (final10 m c), h1.trans (final11 m c), h2.trans (final12 m c), h3.trans (final13 m c), h4.trans (final14 m c),
      h5.trans (final15 m c), h6.trans (final16 m c), h7.trans (final17 m c), hrest⟩
  · refine (θ_run _ _ _).mono (fun r h c => ?_) (Cert.ReferenceIdeal.Value.run (F := Ideal) m' g')
    obtain ⟨h0, h1, h2, h3, h4, h5, h6, h7, hrest⟩ := h c
    obtain ⟨e0, e1, e2, e3, e4⟩ := harg c
    have hN := numbers m hm c
    refine ⟨h0.trans ((val_main_v168_eq (launchContents m' c)).trans ?_), h1.trans ((val_main_v154_eq (launchContents m' c)).trans ?_),
      h2.trans ((val_main_v156_eq (launchContents m' c)).trans ?_), h3.trans ((val_main_v158_eq (launchContents m' c)).trans ?_),
      h4.trans ((val_main_v160_eq (launchContents m' c)).trans ?_), h5.trans ((val_main_v162_eq (launchContents m' c)).trans ?_),
      h6.trans ((val_main_v164_eq (launchContents m' c)).trans ?_), h7.trans ((val_main_v169_eq (launchContents m' c)).trans ?_), hrest⟩
    · exact at_same (val_main_v168 (F := Ideal)) dqArr e0 e1 e2 e3 e4 (ref_dq _ _ _ _ _ hN)
    · exact at_same (val_main_v154 (F := Ideal)) (fun q k v s o => dkArr q k v s o 0) e0 e1 e2 e3 e4 (ref_dk_before _ _ _ _ _ hN)
    · exact at_same (val_main_v156 (F := Ideal)) (fun q k v s o => dkArr q k v s o 1) e0 e1 e2 e3 e4 (ref_dk_same _ _ _ _ _ hN)
    · exact at_same (val_main_v158 (F := Ideal)) (fun q k v s o => dkArr q k v s o 2) e0 e1 e2 e3 e4 (ref_dk_after _ _ _ _ _ hN)
    · exact at_same (fun q k _ s o => val_main_v160 (F := Ideal) q k s o) (fun q k _ s o => dvArr q k s o 0) e0 e1 e2 e3 e4 (ref_dv_before _ _ _ _)
    · exact at_same (fun q k _ s o => val_main_v162 (F := Ideal) q k s o) (fun q k _ s o => dvArr q k s o 1) e0 e1 e2 e3 e4 (ref_dv_same _ _ _ _)
    · exact at_same (fun q k _ s o => val_main_v164 (F := Ideal) q k s o) (fun q k _ s o => dvArr q k s o 2) e0 e1 e2 e3 e4 (ref_dv_after _ _ _ _)
    · exact at_same (val_main_v169 (F := Ideal)) dsinkArr e0 e1 e2 e3 e4 (ref_dsinks _ _ _ _ _ hN)

theorem reference_frame : Cert.quiescent_ReferenceIdeal := fun m g _ =>
  (θ_run Cert.ReferenceIdeal.defs _ _).mono (fun r h => And.intro
      (fun c => (h c).2.2.2.2.2.2.2.2) (sem_eq_zero_of_no_sems (by decide) r.2))
    (Cert.ReferenceIdeal.Value.run (F := Ideal) m g)

theorem claim : Cert.Claim := by
  refine ⟨Cert.Kernel.Gen.facts, Cert.KernelIdeal.Gen.facts, Cert.ReferenceIdeal.Gen.facts,
    Cert.DAct.Gen.facts, Cert.DActIdeal.Gen.facts, Cert.DActRefIdeal.Gen.facts,
    Cert.DwDown.Gen.facts, Cert.DwDownIdeal.Gen.facts, Cert.DwDownRefIdeal.Gen.facts,
    Cert.DUpIn.Gen.facts, Cert.DUpInIdeal.Gen.facts, Cert.DUpInRefIdeal.Gen.facts,
    Cert.DMix.Gen.facts, Cert.DMixIdeal.Gen.facts, Cert.DMixRefIdeal.Gen.facts,
    Cert.DwOut.Gen.facts, Cert.DwOutIdeal.Gen.facts, Cert.DwOutRefIdeal.Gen.facts,
    Cert.Up.Gen.facts, Cert.UpIdeal.Gen.facts, Cert.UpRefIdeal.Gen.facts,
    Cert.Out.Gen.facts, Cert.OutIdeal.Gen.facts, Cert.OutRefIdeal.Gen.facts,
    Cert.InProj.Gen.facts, Cert.InProjIdeal.Gen.facts, Cert.InProjRefIdeal.Gen.facts,
    Cert.DInProj.Gen.facts, Cert.DInProjIdeal.Gen.facts, Cert.DInProjRefIdeal.Gen.facts,
    Cert.Down.Gen.facts, Cert.DownIdeal.Gen.facts, Cert.DownRefIdeal.Gen.facts,
    Cert.DwUpSib.Gen.facts, Cert.DwUpSibIdeal.Gen.facts, Cert.DwUpSibRefIdeal.Gen.facts,
    Cert.DwUpOwn.Gen.facts, Cert.DwUpOwnIdeal.Gen.facts, Cert.DwUpOwnRefIdeal.Gen.facts,
    Cert.DwIn.Gen.facts, Cert.DwInIdeal.Gen.facts, Cert.DwInRefIdeal.Gen.facts,
    Cert.AttnFwd.Gen.facts, Cert.AttnFwdIdeal.Gen.facts, Cert.AttnFwdRefIdeal.Gen.facts, pre_facts,
    fun m ρ _ => Cert.Kernel.Gen.frame m ρ, fun m ρ _ => Cert.KernelIdeal.Gen.frame m ρ,
    fun m ρ _ => Cert.KernelIdeal.Gen.frame m ρ, fun m g _ => reference_frame m g trivial,
    fun m g _ => reference_frame m g trivial,
    fun m ρ _ => Cert.DAct.Gen.frame m ρ, fun m ρ _ => Cert.DActIdeal.Gen.frame m ρ, fun m g _ => Cert.Products.reference_frame_DAct m g trivial,
    fun m ρ _ => Cert.DwDown.Gen.frame m ρ, fun m ρ _ => Cert.DwDownIdeal.Gen.frame m ρ, fun m g _ => Cert.Products.reference_frame_DwDown m g trivial,
    fun m ρ _ => Cert.DUpIn.Gen.frame m ρ, fun m ρ _ => Cert.DUpInIdeal.Gen.frame m ρ, fun m g _ => Cert.Products.reference_frame_DUpIn m g trivial,
    fun m ρ _ => Cert.DMix.Gen.frame m ρ, fun m ρ _ => Cert.DMixIdeal.Gen.frame m ρ, fun m g _ => Cert.Products.reference_frame_DMix m g trivial,
    fun m ρ _ => Cert.DwOut.Gen.frame m ρ, fun m ρ _ => Cert.DwOutIdeal.Gen.frame m ρ, fun m g _ => Cert.Products.reference_frame_DwOut m g trivial,
    fun m ρ _ => Cert.Up.Gen.frame m ρ, fun m ρ _ => Cert.UpIdeal.Gen.frame m ρ, fun m g _ => Cert.Products.reference_frame_Up m g trivial,
    fun m ρ _ => Cert.Out.Gen.frame m ρ, fun m ρ _ => Cert.OutIdeal.Gen.frame m ρ, fun m g _ => Cert.Products.reference_frame_Out m g trivial,
    fun m ρ _ => Cert.InProj.Gen.frame m ρ, fun m ρ _ => Cert.InProjIdeal.Gen.frame m ρ, fun m g _ => Cert.Products.reference_frame_InProj m g trivial,
    fun m ρ _ => Cert.DInProj.Gen.frame m ρ, fun m ρ _ => Cert.DInProjIdeal.Gen.frame m ρ, fun m g _ => Cert.Products.reference_frame_DInProj m g trivial,
    fun m ρ _ => Cert.Down.Gen.frame m ρ, fun m ρ _ => Cert.DownIdeal.Gen.frame m ρ, fun m g _ => Cert.Products.reference_frame_Down m g trivial,
    fun m ρ _ => Cert.DwUpSib.Gen.frame m ρ (Cert.DwUpSib.Own.ok m), fun m ρ _ => Cert.DwUpSibIdeal.Gen.frame m ρ (Cert.DwUpSibIdeal.Own.ok m), fun m g _ => Cert.Products.reference_frame_DwUpSib m g trivial,
    fun m ρ _ => Cert.DwUpOwn.Gen.frame m ρ (Cert.DwUpOwn.Own.ok m), fun m ρ _ => Cert.DwUpOwnIdeal.Gen.frame m ρ (Cert.DwUpOwnIdeal.Own.ok m), fun m g _ => Cert.Products.reference_frame_DwUpOwn m g trivial,
    fun m ρ _ => Cert.DwIn.Gen.frame m ρ, fun m ρ _ => Cert.DwInIdeal.Gen.frame m ρ, fun m g _ => Cert.Products.reference_frame_DwIn m g trivial,
    fun m ρ _ => Cert.AttnFwd.Gen.frame m ρ, fun m ρ _ => Cert.AttnFwdIdeal.Gen.frame m ρ, fun m g _ => Cert.Products.reference_frame_AttnFwd m g trivial,
    trivial, algebraic,
    trivial, Cert.Products.algebraic_DAct,
    trivial, Cert.Products.algebraic_DwDown,
    trivial, Cert.Products.algebraic_DUpIn,
    trivial, Cert.Products.algebraic_DMix,
    trivial, Cert.Products.algebraic_DwOut,
    trivial, Cert.Products.algebraic_Up,
    trivial, Cert.Products.algebraic_Out,
    trivial, Cert.Products.algebraic_InProj,
    trivial, Cert.Products.algebraic_DInProj,
    trivial, Cert.Products.algebraic_Down,
    trivial, Cert.Products.algebraic_DwUpSib,
    trivial, Cert.Products.algebraic_DwUpOwn,
    trivial, Cert.Products.algebraic_DwIn,
    trivial, Cert.Products.algebraic_AttnFwd⟩

end Cert.Proof

end
